-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_KernelIdeal_in_range_finite [hPre_in_range_finite : Cert.Pre_in_range_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_finite [hPre_in_range_finite : Cert.Pre_in_range_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def Pre_Search (m : (ℓ : Loc Cert.Search.nD Cert.Search.τ Cert.Search.sig) → Buf (Elt Bits) ℓ) : Prop :=
  True

def Pre_SearchIdeal (m : (ℓ : Loc Cert.SearchIdeal.nD Cert.SearchIdeal.τ Cert.SearchIdeal.sig) → Buf (Elt Ideal) ℓ) : Prop :=
  True

def Pre_SearchIdeal_points_finite [hPre_points_finite : Cert.Pre_points_finite.Facts] (m : (ℓ : Loc Cert.SearchIdeal.nD Cert.SearchIdeal.τ Cert.SearchIdeal.sig) → Buf (Elt Ideal) ℓ) : Prop :=
  ∀ c : Dev Cert.SearchIdeal.nD,
    (Cert.Pre_points_finite.fn (F := Ideal) (m ((c.tc : Thread Cert.SearchIdeal.nD Cert.SearchIdeal.τ).loc Cert.SearchIdeal.main_arg0)) (m ((c.tc : Thread Cert.SearchIdeal.nD Cert.SearchIdeal.τ).loc Cert.SearchIdeal.main_arg1))) = (fun _ => 1#1)

def Pre_SearchReferenceIdeal (m : (ℓ : Loc Cert.SearchReferenceIdeal.nD Cert.SearchReferenceIdeal.τ Cert.SearchReferenceIdeal.sig) → Buf (Elt Ideal) ℓ) : Prop :=
  True

def Pre_SearchReferenceIdeal_points_finite [hPre_points_finite : Cert.Pre_points_finite.Facts] (m : (ℓ : Loc Cert.SearchReferenceIdeal.nD Cert.SearchReferenceIdeal.τ Cert.SearchReferenceIdeal.sig) → Buf (Elt Ideal) ℓ) : Prop :=
  ∀ c : Dev Cert.SearchReferenceIdeal.nD,
    (Cert.Pre_points_finite.fn (F := Ideal) (m ((c.tc : Thread Cert.SearchReferenceIdeal.nD Cert.SearchReferenceIdeal.τ).loc Cert.SearchReferenceIdeal.main_arg0)) (m ((c.tc : Thread Cert.SearchReferenceIdeal.nD Cert.SearchReferenceIdeal.τ).loc Cert.SearchReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_in_range_finite [hKernelIdeal : Cert.KernelIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_in_range_finite [hReferenceIdeal : Cert.ReferenceIdeal.Facts] [hPre_in_range_finite : Cert.Pre_in_range_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_Search [hSearch : Cert.Search.Facts] : Prop :=
  ∀ (m : (ℓ : Loc Cert.Search.nD Cert.Search.τ Cert.Search.sig) → Buf (Elt Bits) ℓ) (g : Dev Cert.Search.nD → PrngReg), Pre_Search m →
    θ_run (Cert.Search.defs (F := Bits)) (onTc (τ := Cert.Search.τ) (Cert.Search.main (F := Bits))) ⟨m, fun _ => 0, g⟩ (fun r => (∀ c : Dev Cert.Search.nD,
      r.2.mem ((c.tc : Thread Cert.Search.nD Cert.Search.τ).loc Cert.Search.main_arg0) = m ((c.tc : Thread Cert.Search.nD Cert.Search.τ).loc Cert.Search.main_arg0)
      ∧ r.2.mem ((c.tc : Thread Cert.Search.nD Cert.Search.τ).loc Cert.Search.main_arg1) = m ((c.tc : Thread Cert.Search.nD Cert.Search.τ).loc Cert.Search.main_arg1))
      ∧ r.2.sem = fun _ => 0)

def quiescent_SearchIdeal [hSearchIdeal : Cert.SearchIdeal.Facts] : Prop :=
  ∀ (m : (ℓ : Loc Cert.SearchIdeal.nD Cert.SearchIdeal.τ Cert.SearchIdeal.sig) → Buf (Elt Ideal) ℓ) (g : Dev Cert.SearchIdeal.nD → PrngReg), Pre_SearchIdeal m →
    θ_run (Cert.SearchIdeal.defs (F := Ideal)) (onTc (τ := Cert.SearchIdeal.τ) (Cert.SearchIdeal.main (F := Ideal))) ⟨m, fun _ => 0, g⟩ (fun r => (∀ c : Dev Cert.SearchIdeal.nD,
      r.2.mem ((c.tc : Thread Cert.SearchIdeal.nD Cert.SearchIdeal.τ).loc Cert.SearchIdeal.main_arg0) = m ((c.tc : Thread Cert.SearchIdeal.nD Cert.SearchIdeal.τ).loc Cert.SearchIdeal.main_arg0)
      ∧ r.2.mem ((c.tc : Thread Cert.SearchIdeal.nD Cert.SearchIdeal.τ).loc Cert.SearchIdeal.main_arg1) = m ((c.tc : Thread Cert.SearchIdeal.nD Cert.SearchIdeal.τ).loc Cert.SearchIdeal.main_arg1))
      ∧ r.2.sem = fun _ => 0)

def quiescent_SearchIdeal_pre_points_finite [hSearchIdeal : Cert.SearchIdeal.Facts] [hPre_points_finite : Cert.Pre_points_finite.Facts] : Prop :=
  ∀ (m : (ℓ : Loc Cert.SearchIdeal.nD Cert.SearchIdeal.τ Cert.SearchIdeal.sig) → Buf (Elt Ideal) ℓ) (g : Dev Cert.SearchIdeal.nD → PrngReg), Pre_SearchIdeal_points_finite m →
    θ_run (Cert.SearchIdeal.defs (F := Ideal)) (onTc (τ := Cert.SearchIdeal.τ) (Cert.SearchIdeal.main (F := Ideal))) ⟨m, fun _ => 0, g⟩ (fun r => (∀ c : Dev Cert.SearchIdeal.nD,
      r.2.mem ((c.tc : Thread Cert.SearchIdeal.nD Cert.SearchIdeal.τ).loc Cert.SearchIdeal.main_arg0) = m ((c.tc : Thread Cert.SearchIdeal.nD Cert.SearchIdeal.τ).loc Cert.SearchIdeal.main_arg0)
      ∧ r.2.mem ((c.tc : Thread Cert.SearchIdeal.nD Cert.SearchIdeal.τ).loc Cert.SearchIdeal.main_arg1) = m ((c.tc : Thread Cert.SearchIdeal.nD Cert.SearchIdeal.τ).loc Cert.SearchIdeal.main_arg1))
      ∧ r.2.sem = fun _ => 0)

def quiescent_SearchReferenceIdeal [hSearchReferenceIdeal : Cert.SearchReferenceIdeal.Facts] : Prop :=
  ∀ (m : (ℓ : Loc Cert.SearchReferenceIdeal.nD Cert.SearchReferenceIdeal.τ Cert.SearchReferenceIdeal.sig) → Buf (Elt Ideal) ℓ) (g : Dev Cert.SearchReferenceIdeal.nD → PrngReg), Pre_SearchReferenceIdeal m →
    θ_run (Cert.SearchReferenceIdeal.defs (F := Ideal)) (onTc (τ := Cert.SearchReferenceIdeal.τ) (Cert.SearchReferenceIdeal.main (F := Ideal))) ⟨m, fun _ => 0, g⟩ (fun r => (∀ c : Dev Cert.SearchReferenceIdeal.nD,
      r.2.mem ((c.tc : Thread Cert.SearchReferenceIdeal.nD Cert.SearchReferenceIdeal.τ).loc Cert.SearchReferenceIdeal.main_arg0) = m ((c.tc : Thread Cert.SearchReferenceIdeal.nD Cert.SearchReferenceIdeal.τ).loc Cert.SearchReferenceIdeal.main_arg0)
      ∧ r.2.mem ((c.tc : Thread Cert.SearchReferenceIdeal.nD Cert.SearchReferenceIdeal.τ).loc Cert.SearchReferenceIdeal.main_arg1) = m ((c.tc : Thread Cert.SearchReferenceIdeal.nD Cert.SearchReferenceIdeal.τ).loc Cert.SearchReferenceIdeal.main_arg1))
      ∧ r.2.sem = fun _ => 0)

def quiescent_SearchReferenceIdeal_pre_points_finite [hSearchReferenceIdeal : Cert.SearchReferenceIdeal.Facts] [hPre_points_finite : Cert.Pre_points_finite.Facts] : Prop :=
  ∀ (m : (ℓ : Loc Cert.SearchReferenceIdeal.nD Cert.SearchReferenceIdeal.τ Cert.SearchReferenceIdeal.sig) → Buf (Elt Ideal) ℓ) (g : Dev Cert.SearchReferenceIdeal.nD → PrngReg), Pre_SearchReferenceIdeal_points_finite m →
    θ_run (Cert.SearchReferenceIdeal.defs (F := Ideal)) (onTc (τ := Cert.SearchReferenceIdeal.τ) (Cert.SearchReferenceIdeal.main (F := Ideal))) ⟨m, fun _ => 0, g⟩ (fun r => (∀ c : Dev Cert.SearchReferenceIdeal.nD,
      r.2.mem ((c.tc : Thread Cert.SearchReferenceIdeal.nD Cert.SearchReferenceIdeal.τ).loc Cert.SearchReferenceIdeal.main_arg0) = m ((c.tc : Thread Cert.SearchReferenceIdeal.nD Cert.SearchReferenceIdeal.τ).loc Cert.SearchReferenceIdeal.main_arg0)
      ∧ r.2.mem ((c.tc : Thread Cert.SearchReferenceIdeal.nD Cert.SearchReferenceIdeal.τ).loc Cert.SearchReferenceIdeal.main_arg1) = m ((c.tc : Thread Cert.SearchReferenceIdeal.nD Cert.SearchReferenceIdeal.τ).loc Cert.SearchReferenceIdeal.main_arg1))
      ∧ r.2.sem = fun _ => 0)

def preserves_Kernel_KernelIdeal : Prop :=
  True

def algebraic_KernelIdeal_ReferenceIdeal_pre_in_range_finite [hKernelIdeal : Cert.KernelIdeal.Facts] [hReferenceIdeal : Cert.ReferenceIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v173)) (v1 : (c : Dev Cert.KernelIdeal.nD) → Buf (Elt Ideal) ((c.tc : Thread Cert.KernelIdeal.nD Cert.KernelIdeal.τ).loc Cert.KernelIdeal.main_v172)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v173) = v0 c
          ∧ r.2.mem ((c.tc : Thread Cert.KernelIdeal.nD Cert.KernelIdeal.τ).loc Cert.KernelIdeal.main_v172) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_v138) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def preserves_Search_SearchIdeal : Prop :=
  True

def algebraic_SearchIdeal_SearchReferenceIdeal_pre_points_finite [hSearchIdeal : Cert.SearchIdeal.Facts] [hSearchReferenceIdeal : Cert.SearchReferenceIdeal.Facts] [hPre_points_finite : Cert.Pre_points_finite.Facts] : Prop :=
  ∀ (m : (ℓ : Loc Cert.SearchIdeal.nD Cert.SearchIdeal.τ Cert.SearchIdeal.sig) → Buf (Elt Ideal) ℓ) (g : Dev Cert.SearchIdeal.nD → PrngReg)
    (m' : (ℓ : Loc Cert.SearchReferenceIdeal.nD Cert.SearchReferenceIdeal.τ Cert.SearchReferenceIdeal.sig) → Buf (Elt Ideal) ℓ) (g' : Dev Cert.SearchReferenceIdeal.nD → PrngReg), Pre_SearchIdeal_points_finite m →
    (∀ c : Dev Cert.SearchIdeal.nD,
      m' ((c.tc : Thread Cert.SearchReferenceIdeal.nD Cert.SearchReferenceIdeal.τ).loc Cert.SearchReferenceIdeal.main_arg0) = m ((c.tc : Thread Cert.SearchIdeal.nD Cert.SearchIdeal.τ).loc Cert.SearchIdeal.main_arg0)
      ∧ m' ((c.tc : Thread Cert.SearchReferenceIdeal.nD Cert.SearchReferenceIdeal.τ).loc Cert.SearchReferenceIdeal.main_arg1) = m ((c.tc : Thread Cert.SearchIdeal.nD Cert.SearchIdeal.τ).loc Cert.SearchIdeal.main_arg1)) →
    ∃ (v0 : (c : Dev Cert.SearchIdeal.nD) → Buf (Elt Ideal) ((c.tc : Thread Cert.SearchIdeal.nD Cert.SearchIdeal.τ).loc Cert.SearchIdeal.main_v0)),
      θ_run (Cert.SearchIdeal.defs (F := Ideal)) (onTc (τ := Cert.SearchIdeal.τ) (Cert.SearchIdeal.main (F := Ideal))) ⟨m, fun _ => 0, g⟩ (fun r => ∀ c : Dev Cert.SearchIdeal.nD,
          r.2.mem ((c.tc : Thread Cert.SearchIdeal.nD Cert.SearchIdeal.τ).loc Cert.SearchIdeal.main_v0) = v0 c
          ∧ r.2.mem ((c.tc : Thread Cert.SearchIdeal.nD Cert.SearchIdeal.τ).loc Cert.SearchIdeal.main_arg0) = m ((c.tc : Thread Cert.SearchIdeal.nD Cert.SearchIdeal.τ).loc Cert.SearchIdeal.main_arg0)
          ∧ r.2.mem ((c.tc : Thread Cert.SearchIdeal.nD Cert.SearchIdeal.τ).loc Cert.SearchIdeal.main_arg1) = m ((c.tc : Thread Cert.SearchIdeal.nD Cert.SearchIdeal.τ).loc Cert.SearchIdeal.main_arg1))
      ∧ θ_run (Cert.SearchReferenceIdeal.defs (F := Ideal)) (onTc (τ := Cert.SearchReferenceIdeal.τ) (Cert.SearchReferenceIdeal.main (F := Ideal))) ⟨m', fun _ => 0, g'⟩ (fun r => ∀ c : Dev Cert.SearchReferenceIdeal.nD,
          r.2.mem ((c.tc : Thread Cert.SearchReferenceIdeal.nD Cert.SearchReferenceIdeal.τ).loc Cert.SearchReferenceIdeal.main_v20) = v0 c
          ∧ r.2.mem ((c.tc : Thread Cert.SearchReferenceIdeal.nD Cert.SearchReferenceIdeal.τ).loc Cert.SearchReferenceIdeal.main_arg0) = m' ((c.tc : Thread Cert.SearchReferenceIdeal.nD Cert.SearchReferenceIdeal.τ).loc Cert.SearchReferenceIdeal.main_arg0)
          ∧ r.2.mem ((c.tc : Thread Cert.SearchReferenceIdeal.nD Cert.SearchReferenceIdeal.τ).loc Cert.SearchReferenceIdeal.main_arg1) = m' ((c.tc : Thread Cert.SearchReferenceIdeal.nD Cert.SearchReferenceIdeal.τ).loc Cert.SearchReferenceIdeal.main_arg1))

def Claim : Prop :=
  ∃ (hKernel : Cert.Kernel.Facts) (hKernelIdeal : Cert.KernelIdeal.Facts) (hReferenceIdeal : Cert.ReferenceIdeal.Facts) (hSearch : Cert.Search.Facts) (hSearchIdeal : Cert.SearchIdeal.Facts) (hSearchReferenceIdeal : Cert.SearchReferenceIdeal.Facts) (hPre_in_range : Cert.Pre_in_range.Facts) (hPre_in_range_finite : Cert.Pre_in_range_finite.Facts) (hPre_points_finite : Cert.Pre_points_finite.Facts),
    quiescent_Kernel (hKernel := hKernel) (hPre_in_range := hPre_in_range)
    ∧ quiescent_KernelIdeal (hKernelIdeal := hKernelIdeal) (hPre_in_range := hPre_in_range)
    ∧ quiescent_KernelIdeal_pre_in_range_finite (hKernelIdeal := hKernelIdeal) (hPre_in_range_finite := hPre_in_range_finite)
    ∧ quiescent_ReferenceIdeal (hReferenceIdeal := hReferenceIdeal)
    ∧ quiescent_ReferenceIdeal_pre_in_range_finite (hReferenceIdeal := hReferenceIdeal) (hPre_in_range_finite := hPre_in_range_finite)
    ∧ quiescent_Search (hSearch := hSearch)
    ∧ quiescent_SearchIdeal (hSearchIdeal := hSearchIdeal)
    ∧ quiescent_SearchIdeal_pre_points_finite (hSearchIdeal := hSearchIdeal) (hPre_points_finite := hPre_points_finite)
    ∧ quiescent_SearchReferenceIdeal (hSearchReferenceIdeal := hSearchReferenceIdeal)
    ∧ quiescent_SearchReferenceIdeal_pre_points_finite (hSearchReferenceIdeal := hSearchReferenceIdeal) (hPre_points_finite := hPre_points_finite)
    ∧ preserves_Kernel_KernelIdeal
    ∧ algebraic_KernelIdeal_ReferenceIdeal_pre_in_range_finite (hKernelIdeal := hKernelIdeal) (hReferenceIdeal := hReferenceIdeal) (hPre_in_range_finite := hPre_in_range_finite)
    ∧ preserves_Search_SearchIdeal
    ∧ algebraic_SearchIdeal_SearchReferenceIdeal_pre_points_finite (hSearchIdeal := hSearchIdeal) (hSearchReferenceIdeal := hSearchReferenceIdeal) (hPre_points_finite := hPre_points_finite)
-- ==== Pre_in_range.lean ====
abbrev S4x1024x8 : Shape := ⟨3, ![4, 1024, 8]⟩
abbrev S4x3x8192 : Shape := ⟨3, ![4, 3, 8192]⟩
abbrev S4x128x8192 : Shape := ⟨3, ![4, 128, 8192]⟩
abbrev S4x1024x3 : Shape := ⟨3, ![4, 1024, 3]⟩
abbrev S64x3x1x1 : Shape := ⟨4, ![64, 3, 1, 1]⟩
abbrev S64 : Shape := ⟨1, ![64]⟩
abbrev S64x64x1x1 : Shape := ⟨4, ![64, 64, 1, 1]⟩
abbrev S64x3x1x8 : Shape := ⟨4, ![64, 3, 1, 8]⟩
abbrev S256x192x1x8 : Shape := ⟨4, ![256, 192, 1, 8]⟩
abbrev S256 : Shape := ⟨1, ![256]⟩
abbrev S4 : Shape := ⟨1, ![4]⟩
abbrev S4x1x1 : Shape := ⟨3, ![4, 1, 1]⟩
abbrev S_ : Shape := ⟨0, ![]⟩

class Facts : Prop where
  bcast_S4_S4x1x1_0 : S4.BroadcastsInDim S4x1x1 (![0] : Fin 1 → Fin S4x1x1.rank)
  bcast_S_S4x1x1 : S_.BroadcastsInDim S4x1x1 (![] : Fin 0 → Fin S4x1x1.rank)
  bcast_S4x1x1_S4x1024x8_0_1_2 : S4x1x1.BroadcastsInDim S4x1024x8 (![0, 1, 2] : Fin 3 → Fin S4x1024x8.rank)
  reducesTo_S4x1024x8_S_d0_1_2 : S4x1024x8.ReducesTo [0, 1, 2] S_
  h_S_ : 0 < S_.numel

variable [Facts]

def fn {F : FTy → Type} [FloatOps F] (main_arg0 : IVec S4x1024x8 32) (main_arg1 : FVec F S4x3x8192 .f32) (main_arg2 : FVec F S4x128x8192 .f32) (main_arg3 : FVec F S4x1024x3 .f32) (main_arg4 : FVec F S64x3x1x1 .f32) (main_arg5 : FVec F S64 .f32) (main_arg6 : FVec F S64 .f32) (main_arg7 : FVec F S64x64x1x1 .f32) (main_arg8 : FVec F S64 .f32) (main_arg9 : FVec F S64 .f32) (main_arg10 : FVec F S64x3x1x8 .f32) (main_arg11 : FVec F S64 .f32) (main_arg12 : FVec F S64 .f32) (main_arg13 : FVec F S64x64x1x1 .f32) (main_arg14 : FVec F S64 .f32) (main_arg15 : FVec F S64 .f32) (main_arg16 : FVec F S64x64x1x1 .f32) (main_arg17 : FVec F S256x192x1x8 .f32) (main_arg18 : FVec F S256 .f32) (main_arg19 : FVec F S256 .f32) : IVec S_ 1 :=
  let main_v0 : IVec S4 32 := iotaInDim S4 32 0
  let main_v1 : IVec S4x1x1 32 := broadcastInDim S4x1x1 ![0] bcast_S4_S4x1x1_0 main_v0
  let main_c : IVec S_ 32 := constantI S_ 32 8192#32
  let main_v2 : IVec S4x1x1 32 := broadcastInDim S4x1x1 ![] bcast_S_S4x1x1 main_c
  let main_v3 : IVec S4x1x1 32 := muli main_v2 main_v1
  let main_v4 : IVec S4x1024x8 32 := broadcastInDim S4x1024x8 ![0, 1, 2] bcast_S4x1x1_S4x1024x8_0_1_2 main_v3
  let main_v5 : IVec S4x1024x8 1 := cmpi .sge main_arg0 main_v4
  let main_c_0 : IVec S_ 32 := constantI S_ 32 8192#32
  let main_v6 : IVec S4x1x1 32 := broadcastInDim S4x1x1 ![] bcast_S_S4x1x1 main_c_0
  let main_v7 : IVec S4x1x1 32 := addi main_v3 main_v6
  let main_v8 : IVec S4x1024x8 32 := broadcastInDim S4x1024x8 ![0, 1, 2] bcast_S4x1x1_S4x1024x8_0_1_2 main_v7
  let main_v9 : IVec S4x1024x8 1 := cmpi .slt main_arg0 main_v8
  let main_v10 : IVec S4x1024x8 1 := andi main_v5 main_v9
  let main_c_1 : IVec S_ 1 := constantI S_ 1 1#1
  let main_v11 : IVec S_ 1 := (fun x v => Host.reduce IntOp.andi x v reducesTo_S4x1024x8_S_d0_1_2 h_S_) main_v10 main_c_1
  main_v11
-- ==== Pre_in_range_finite.lean ====
abbrev S4x1024x8 : Shape := ⟨3, ![4, 1024, 8]⟩
abbrev S4x3x8192 : Shape := ⟨3, ![4, 3, 8192]⟩
abbrev S4x128x8192 : Shape := ⟨3, ![4, 128, 8192]⟩
abbrev S4x1024x3 : Shape := ⟨3, ![4, 1024, 3]⟩
abbrev S64x3x1x1 : Shape := ⟨4, ![64, 3, 1, 1]⟩
abbrev S64 : Shape := ⟨1, ![64]⟩
abbrev S64x64x1x1 : Shape := ⟨4, ![64, 64, 1, 1]⟩
abbrev S64x3x1x8 : Shape := ⟨4, ![64, 3, 1, 8]⟩
abbrev S256x192x1x8 : Shape := ⟨4, ![256, 192, 1, 8]⟩
abbrev S256 : Shape := ⟨1, ![256]⟩
abbrev S4 : Shape := ⟨1, ![4]⟩
abbrev S4x1x1 : Shape := ⟨3, ![4, 1, 1]⟩
abbrev S_ : Shape := ⟨0, ![]⟩

class Facts : Prop where
  bcast_S4_S4x1x1_0 : S4.BroadcastsInDim S4x1x1 (![0] : Fin 1 → Fin S4x1x1.rank)
  bcast_S_S4x1x1 : S_.BroadcastsInDim S4x1x1 (![] : Fin 0 → Fin S4x1x1.rank)
  bcast_S4x1x1_S4x1024x8_0_1_2 : S4x1x1.BroadcastsInDim S4x1024x8 (![0, 1, 2] : Fin 3 → Fin S4x1024x8.rank)
  reducesTo_S4x1024x8_S_d0_1_2 : S4x1024x8.ReducesTo [0, 1, 2] S_
  h_S_ : 0 < S_.numel
  bcast_S_S4x3x8192 : S_.BroadcastsInDim S4x3x8192 (![] : Fin 0 → Fin S4x3x8192.rank)
  reducesTo_S4x3x8192_S_d0_1_2 : S4x3x8192.ReducesTo [0, 1, 2] S_
  bcast_S_S4x128x8192 : S_.BroadcastsInDim S4x128x8192 (![] : Fin 0 → Fin S4x128x8192.rank)
  reducesTo_S4x128x8192_S_d0_1_2 : S4x128x8192.ReducesTo [0, 1, 2] S_
  bcast_S_S4x1024x3 : S_.BroadcastsInDim S4x1024x3 (![] : Fin 0 → Fin S4x1024x3.rank)
  reducesTo_S4x1024x3_S_d0_1_2 : S4x1024x3.ReducesTo [0, 1, 2] S_
  bcast_S_S64x3x1x1 : S_.BroadcastsInDim S64x3x1x1 (![] : Fin 0 → Fin S64x3x1x1.rank)
  reducesTo_S64x3x1x1_S_d0_1_2_3 : S64x3x1x1.ReducesTo [0, 1, 2, 3] S_
  bcast_S_S64 : S_.BroadcastsInDim S64 (![] : Fin 0 → Fin S64.rank)
  reducesTo_S64_S_d0 : S64.ReducesTo [0] S_
  bcast_S_S64x64x1x1 : S_.BroadcastsInDim S64x64x1x1 (![] : Fin 0 → Fin S64x64x1x1.rank)
  reducesTo_S64x64x1x1_S_d0_1_2_3 : S64x64x1x1.ReducesTo [0, 1, 2, 3] S_
  bcast_S_S64x3x1x8 : S_.BroadcastsInDim S64x3x1x8 (![] : Fin 0 → Fin S64x3x1x8.rank)
  reducesTo_S64x3x1x8_S_d0_1_2_3 : S64x3x1x8.ReducesTo [0, 1, 2, 3] S_
  bcast_S_S256x192x1x8 : S_.BroadcastsInDim S256x192x1x8 (![] : Fin 0 → Fin S256x192x1x8.rank)
  reducesTo_S256x192x1x8_S_d0_1_2_3 : S256x192x1x8.ReducesTo [0, 1, 2, 3] S_
  bcast_S_S256 : S_.BroadcastsInDim S256 (![] : Fin 0 → Fin S256.rank)
  reducesTo_S256_S_d0 : S256.ReducesTo [0] S_

variable [Facts]

def fn_part5 {F : FTy → Type} [FloatOps F] (main_arg16 : FVec F S64x64x1x1 .f32) (main_arg17 : FVec F S256x192x1x8 .f32) (main_arg18 : FVec F S256 .f32) (main_v86 : IVec S_ 1) : IVec S_ 1 :=
  let main_v87 : FVec F S64x64x1x1 .f32 := Host.absf main_arg16
  let main_cst_31 : FVec F S_ .f32 := constant S_ .f32 0x7F800000#32
  let main_v88 : FVec F S64x64x1x1 .f32 := broadcastInDim S64x64x1x1 ![] bcast_S_S64x64x1x1 main_cst_31
  let main_v89 : IVec S64x64x1x1 1 := cmpf .olt main_v87 main_v88
  let main_c_32 : IVec S_ 1 := constantI S_ 1 1#1
  let main_v90 : IVec S_ 1 := (fun x v => Host.reduce IntOp.andi x v reducesTo_S64x64x1x1_S_d0_1_2_3 h_S_) main_v89 main_c_32
  let main_v91 : IVec S_ 1 := andi main_v86 main_v90
  let main_v92 : FVec F S256x192x1x8 .f32 := Host.absf main_arg17
  let main_cst_33 : FVec F S_ .f32 := constant S_ .f32 0x7F800000#32
  let main_v93 : FVec F S256x192x1x8 .f32 := broadcastInDim S256x192x1x8 ![] bcast_S_S256x192x1x8 main_cst_33
  let main_v94 : IVec S256x192x1x8 1 := cmpf .olt main_v92 main_v93
  let main_c_34 : IVec S_ 1 := constantI S_ 1 1#1
  let main_v95 : IVec S_ 1 := (fun x v => Host.reduce IntOp.andi x v reducesTo_S256x192x1x8_S_d0_1_2_3 h_S_) main_v94 main_c_34
  let main_v96 : IVec S_ 1 := andi main_v91 main_v95
  let main_v97 : FVec F S256 .f32 := Host.absf main_arg18
  let main_cst_35 : FVec F S_ .f32 := constant S_ .f32 0x7F800000#32
  let main_v98 : FVec F S256 .f32 := broadcastInDim S256 ![] bcast_S_S256 main_cst_35
  let main_v99 : IVec S256 1 := cmpf .olt main_v97 main_v98
  let main_c_36 : IVec S_ 1 := constantI S_ 1 1#1
  let main_v100 : IVec S_ 1 := (fun x v => Host.reduce IntOp.andi x v reducesTo_S256_S_d0 h_S_) main_v99 main_c_36
  let main_v101 : IVec S_ 1 := andi main_v96 main_v100
  main_v101

def fn_part4 {F : FTy → Type} [FloatOps F] (main_arg13 : FVec F S64x64x1x1 .f32) (main_arg14 : FVec F S64 .f32) (main_arg15 : FVec F S64 .f32) (main_arg16 : FVec F S64x64x1x1 .f32) (main_arg17 : FVec F S256x192x1x8 .f32) (main_arg18 : FVec F S256 .f32) (main_v66 : IVec S_ 1) (main_v69 : IVec S64 1) : IVec S_ 1 :=
  let main_c_24 : IVec S_ 1 := constantI S_ 1 1#1
  let main_v70 : IVec S_ 1 := (fun x v => Host.reduce IntOp.andi x v reducesTo_S64_S_d0 h_S_) main_v69 main_c_24
  let main_v71 : IVec S_ 1 := andi main_v66 main_v70
  let main_v72 : FVec F S64x64x1x1 .f32 := Host.absf main_arg13
  let main_cst_25 : FVec F S_ .f32 := constant S_ .f32 0x7F800000#32
  let main_v73 : FVec F S64x64x1x1 .f32 := broadcastInDim S64x64x1x1 ![] bcast_S_S64x64x1x1 main_cst_25
  let main_v74 : IVec S64x64x1x1 1 := cmpf .olt main_v72 main_v73
  let main_c_26 : IVec S_ 1 := constantI S_ 1 1#1
  let main_v75 : IVec S_ 1 := (fun x v => Host.reduce IntOp.andi x v reducesTo_S64x64x1x1_S_d0_1_2_3 h_S_) main_v74 main_c_26
  let main_v76 : IVec S_ 1 := andi main_v71 main_v75
  let main_v77 : FVec F S64 .f32 := Host.absf main_arg14
  let main_cst_27 : FVec F S_ .f32 := constant S_ .f32 0x7F800000#32
  let main_v78 : FVec F S64 .f32 := broadcastInDim S64 ![] bcast_S_S64 main_cst_27
  let main_v79 : IVec S64 1 := cmpf .olt main_v77 main_v78
  let main_c_28 : IVec S_ 1 := constantI S_ 1 1#1
  let main_v80 : IVec S_ 1 := (fun x v => Host.reduce IntOp.andi x v reducesTo_S64_S_d0 h_S_) main_v79 main_c_28
  let main_v81 : IVec S_ 1 := andi main_v76 main_v80
  let main_v82 : FVec F S64 .f32 := Host.absf main_arg15
  let main_cst_29 : FVec F S_ .f32 := constant S_ .f32 0x7F800000#32
  let main_v83 : FVec F S64 .f32 := broadcastInDim S64 ![] bcast_S_S64 main_cst_29
  let main_v84 : IVec S64 1 := cmpf .olt main_v82 main_v83
  let main_c_30 : IVec S_ 1 := constantI S_ 1 1#1
  let main_v85 : IVec S_ 1 := (fun x v => Host.reduce IntOp.andi x v reducesTo_S64_S_d0 h_S_) main_v84 main_c_30
  let main_v86 : IVec S_ 1 := andi main_v81 main_v85
  fn_part5 (F := F) main_arg16 main_arg17 main_arg18 main_v86

def fn_part3 {F : FTy → Type} [FloatOps F] (main_arg10 : FVec F S64x3x1x8 .f32) (main_arg11 : FVec F S64 .f32) (main_arg12 : FVec F S64 .f32) (main_arg13 : FVec F S64x64x1x1 .f32) (main_arg14 : FVec F S64 .f32) (main_arg15 : FVec F S64 .f32) (main_arg16 : FVec F S64x64x1x1 .f32) (main_arg17 : FVec F S256x192x1x8 .f32) (main_arg18 : FVec F S256 .f32) (main_v51 : IVec S_ 1) (main_v52 : FVec F S64 .f32) : IVec S_ 1 :=
  let main_cst_17 : FVec F S_ .f32 := constant S_ .f32 0x7F800000#32
  let main_v53 : FVec F S64 .f32 := broadcastInDim S64 ![] bcast_S_S64 main_cst_17
  let main_v54 : IVec S64 1 := cmpf .olt main_v52 main_v53
  let main_c_18 : IVec S_ 1 := constantI S_ 1 1#1
  let main_v55 : IVec S_ 1 := (fun x v => Host.reduce IntOp.andi x v reducesTo_S64_S_d0 h_S_) main_v54 main_c_18
  let main_v56 : IVec S_ 1 := andi main_v51 main_v55
  let main_v57 : FVec F S64x3x1x8 .f32 := Host.absf main_arg10
  let main_cst_19 : FVec F S_ .f32 := constant S_ .f32 0x7F800000#32
  let main_v58 : FVec F S64x3x1x8 .f32 := broadcastInDim S64x3x1x8 ![] bcast_S_S64x3x1x8 main_cst_19
  let main_v59 : IVec S64x3x1x8 1 := cmpf .olt main_v57 main_v58
  let main_c_20 : IVec S_ 1 := constantI S_ 1 1#1
  let main_v60 : IVec S_ 1 := (fun x v => Host.reduce IntOp.andi x v reducesTo_S64x3x1x8_S_d0_1_2_3 h_S_) main_v59 main_c_20
  let main_v61 : IVec S_ 1 := andi main_v56 main_v60
  let main_v62 : FVec F S64 .f32 := Host.absf main_arg11
  let main_cst_21 : FVec F S_ .f32 := constant S_ .f32 0x7F800000#32
  let main_v63 : FVec F S64 .f32 := broadcastInDim S64 ![] bcast_S_S64 main_cst_21
  let main_v64 : IVec S64 1 := cmpf .olt main_v62 main_v63
  let main_c_22 : IVec S_ 1 := constantI S_ 1 1#1
  let main_v65 : IVec S_ 1 := (fun x v => Host.reduce IntOp.andi x v reducesTo_S64_S_d0 h_S_) main_v64 main_c_22
  let main_v66 : IVec S_ 1 := andi main_v61 main_v65
  let main_v67 : FVec F S64 .f32 := Host.absf main_arg12
  let main_cst_23 : FVec F S_ .f32 := constant S_ .f32 0x7F800000#32
  let main_v68 : FVec F S64 .f32 := broadcastInDim S64 ![] bcast_S_S64 main_cst_23
  let main_v69 : IVec S64 1 := cmpf .olt main_v67 main_v68
  fn_part4 (F := F) main_arg13 main_arg14 main_arg15 main_arg16 main_arg17 main_arg18 main_v66 main_v69

def fn_part2 {F : FTy → Type} [FloatOps F] (main_arg6 : FVec F S64 .f32) (main_arg7 : FVec F S64x64x1x1 .f32) (main_arg8 : FVec F S64 .f32) (main_arg9 : FVec F S64 .f32) (main_arg10 : FVec F S64x3x1x8 .f32) (main_arg11 : FVec F S64 .f32) (main_arg12 : FVec F S64 .f32) (main_arg13 : FVec F S64x64x1x1 .f32) (main_arg14 : FVec F S64 .f32) (main_arg15 : FVec F S64 .f32) (main_arg16 : FVec F S64x64x1x1 .f32) (main_arg17 : FVec F S256x192x1x8 .f32) (main_arg18 : FVec F S256 .f32) (main_v31 : IVec S_ 1) (main_v34 : IVec S64 1) (main_c_10 : IVec S_ 1) : IVec S_ 1 :=
  let main_v35 : IVec S_ 1 := (fun x v => Host.reduce IntOp.andi x v reducesTo_S64_S_d0 h_S_) main_v34 main_c_10
  let main_v36 : IVec S_ 1 := andi main_v31 main_v35
  let main_v37 : FVec F S64 .f32 := Host.absf main_arg6
  let main_cst_11 : FVec F S_ .f32 := constant S_ .f32 0x7F800000#32
  let main_v38 : FVec F S64 .f32 := broadcastInDim S64 ![] bcast_S_S64 main_cst_11
  let main_v39 : IVec S64 1 := cmpf .olt main_v37 main_v38
  let main_c_12 : IVec S_ 1 := constantI S_ 1 1#1
  let main_v40 : IVec S_ 1 := (fun x v => Host.reduce IntOp.andi x v reducesTo_S64_S_d0 h_S_) main_v39 main_c_12
  let main_v41 : IVec S_ 1 := andi main_v36 main_v40
  let main_v42 : FVec F S64x64x1x1 .f32 := Host.absf main_arg7
  let main_cst_13 : FVec F S_ .f32 := constant S_ .f32 0x7F800000#32
  let main_v43 : FVec F S64x64x1x1 .f32 := broadcastInDim S64x64x1x1 ![] bcast_S_S64x64x1x1 main_cst_13
  let main_v44 : IVec S64x64x1x1 1 := cmpf .olt main_v42 main_v43
  let main_c_14 : IVec S_ 1 := constantI S_ 1 1#1
  let main_v45 : IVec S_ 1 := (fun x v => Host.reduce IntOp.andi x v reducesTo_S64x64x1x1_S_d0_1_2_3 h_S_) main_v44 main_c_14
  let main_v46 : IVec S_ 1 := andi main_v41 main_v45
  let main_v47 : FVec F S64 .f32 := Host.absf main_arg8
  let main_cst_15 : FVec F S_ .f32 := constant S_ .f32 0x7F800000#32
  let main_v48 : FVec F S64 .f32 := broadcastInDim S64 ![] bcast_S_S64 main_cst_15
  let main_v49 : IVec S64 1 := cmpf .olt main_v47 main_v48
  let main_c_16 : IVec S_ 1 := constantI S_ 1 1#1
  let main_v50 : IVec S_ 1 := (fun x v => Host.reduce IntOp.andi x v reducesTo_S64_S_d0 h_S_) main_v49 main_c_16
  let main_v51 : IVec S_ 1 := andi main_v46 main_v50
  let main_v52 : FVec F S64 .f32 := Host.absf main_arg9
  fn_part3 (F := F) main_arg10 main_arg11 main_arg12 main_arg13 main_arg14 main_arg15 main_arg16 main_arg17 main_arg18 main_v51 main_v52

def fn_part1 {F : FTy → Type} [FloatOps F] (main_arg3 : FVec F S4x1024x3 .f32) (main_arg4 : FVec F S64x3x1x1 .f32) (main_arg5 : FVec F S64 .f32) (main_arg6 : FVec F S64 .f32) (main_arg7 : FVec F S64x64x1x1 .f32) (main_arg8 : FVec F S64 .f32) (main_arg9 : FVec F S64 .f32) (main_arg10 : FVec F S64x3x1x8 .f32) (main_arg11 : FVec F S64 .f32) (main_arg12 : FVec F S64 .f32) (main_arg13 : FVec F S64x64x1x1 .f32) (main_arg14 : FVec F S64 .f32) (main_arg15 : FVec F S64 .f32) (main_arg16 : FVec F S64x64x1x1 .f32) (main_arg17 : FVec F S256x192x1x8 .f32) (main_arg18 : FVec F S256 .f32) (main_v16 : IVec S_ 1) (main_v17 : FVec F S4x128x8192 .f32) (main_cst_3 : FVec F S_ .f32) : IVec S_ 1 :=
  let main_v18 : FVec F S4x128x8192 .f32 := broadcastInDim S4x128x8192 ![] bcast_S_S4x128x8192 main_cst_3
  let main_v19 : IVec S4x128x8192 1 := cmpf .olt main_v17 main_v18
  let main_c_4 : IVec S_ 1 := constantI S_ 1 1#1
  let main_v20 : IVec S_ 1 := (fun x v => Host.reduce IntOp.andi x v reducesTo_S4x128x8192_S_d0_1_2 h_S_) main_v19 main_c_4
  let main_v21 : IVec S_ 1 := andi main_v16 main_v20
  let main_v22 : FVec F S4x1024x3 .f32 := Host.absf main_arg3
  let main_cst_5 : FVec F S_ .f32 := constant S_ .f32 0x7F800000#32
  let main_v23 : FVec F S4x1024x3 .f32 := broadcastInDim S4x1024x3 ![] bcast_S_S4x1024x3 main_cst_5
  let main_v24 : IVec S4x1024x3 1 := cmpf .olt main_v22 main_v23
  let main_c_6 : IVec S_ 1 := constantI S_ 1 1#1
  let main_v25 : IVec S_ 1 := (fun x v => Host.reduce IntOp.andi x v reducesTo_S4x1024x3_S_d0_1_2 h_S_) main_v24 main_c_6
  let main_v26 : IVec S_ 1 := andi main_v21 main_v25
  let main_v27 : FVec F S64x3x1x1 .f32 := Host.absf main_arg4
  let main_cst_7 : FVec F S_ .f32 := constant S_ .f32 0x7F800000#32
  let main_v28 : FVec F S64x3x1x1 .f32 := broadcastInDim S64x3x1x1 ![] bcast_S_S64x3x1x1 main_cst_7
  let main_v29 : IVec S64x3x1x1 1 := cmpf .olt main_v27 main_v28
  let main_c_8 : IVec S_ 1 := constantI S_ 1 1#1
  let main_v30 : IVec S_ 1 := (fun x v => Host.reduce IntOp.andi x v reducesTo_S64x3x1x1_S_d0_1_2_3 h_S_) main_v29 main_c_8
  let main_v31 : IVec S_ 1 := andi main_v26 main_v30
  let main_v32 : FVec F S64 .f32 := Host.absf main_arg5
  let main_cst_9 : FVec F S_ .f32 := constant S_ .f32 0x7F800000#32
  let main_v33 : FVec F S64 .f32 := broadcastInDim S64 ![] bcast_S_S64 main_cst_9
  let main_v34 : IVec S64 1 := cmpf .olt main_v32 main_v33
  let main_c_10 : IVec S_ 1 := constantI S_ 1 1#1
  fn_part2 (F := F) main_arg6 main_arg7 main_arg8 main_arg9 main_arg10 main_arg11 main_arg12 main_arg13 main_arg14 main_arg15 main_arg16 main_arg17 main_arg18 main_v31 main_v34 main_c_10

def fn {F : FTy → Type} [FloatOps F] (main_arg0 : IVec S4x1024x8 32) (main_arg1 : FVec F S4x3x8192 .f32) (main_arg2 : FVec F S4x128x8192 .f32) (main_arg3 : FVec F S4x1024x3 .f32) (main_arg4 : FVec F S64x3x1x1 .f32) (main_arg5 : FVec F S64 .f32) (main_arg6 : FVec F S64 .f32) (main_arg7 : FVec F S64x64x1x1 .f32) (main_arg8 : FVec F S64 .f32) (main_arg9 : FVec F S64 .f32) (main_arg10 : FVec F S64x3x1x8 .f32) (main_arg11 : FVec F S64 .f32) (main_arg12 : FVec F S64 .f32) (main_arg13 : FVec F S64x64x1x1 .f32) (main_arg14 : FVec F S64 .f32) (main_arg15 : FVec F S64 .f32) (main_arg16 : FVec F S64x64x1x1 .f32) (main_arg17 : FVec F S256x192x1x8 .f32) (main_arg18 : FVec F S256 .f32) (main_arg19 : FVec F S256 .f32) : IVec S_ 1 :=
  let main_v0 : IVec S4 32 := iotaInDim S4 32 0
  let main_v1 : IVec S4x1x1 32 := broadcastInDim S4x1x1 ![0] bcast_S4_S4x1x1_0 main_v0
  let main_c : IVec S_ 32 := constantI S_ 32 8192#32
  let main_v2 : IVec S4x1x1 32 := broadcastInDim S4x1x1 ![] bcast_S_S4x1x1 main_c
  let main_v3 : IVec S4x1x1 32 := muli main_v2 main_v1
  let main_v4 : IVec S4x1024x8 32 := broadcastInDim S4x1024x8 ![0, 1, 2] bcast_S4x1x1_S4x1024x8_0_1_2 main_v3
  let main_v5 : IVec S4x1024x8 1 := cmpi .sge main_arg0 main_v4
  let main_c_0 : IVec S_ 32 := constantI S_ 32 8192#32
  let main_v6 : IVec S4x1x1 32 := broadcastInDim S4x1x1 ![] bcast_S_S4x1x1 main_c_0
  let main_v7 : IVec S4x1x1 32 := addi main_v3 main_v6
  let main_v8 : IVec S4x1024x8 32 := broadcastInDim S4x1024x8 ![0, 1, 2] bcast_S4x1x1_S4x1024x8_0_1_2 main_v7
  let main_v9 : IVec S4x1024x8 1 := cmpi .slt main_arg0 main_v8
  let main_v10 : IVec S4x1024x8 1 := andi main_v5 main_v9
  let main_c_1 : IVec S_ 1 := constantI S_ 1 1#1
  let main_v11 : IVec S_ 1 := (fun x v => Host.reduce IntOp.andi x v reducesTo_S4x1024x8_S_d0_1_2 h_S_) main_v10 main_c_1
  let main_v12 : FVec F S4x3x8192 .f32 := Host.absf main_arg1
  let main_cst : FVec F S_ .f32 := constant S_ .f32 0x7F800000#32
  let main_v13 : FVec F S4x3x8192 .f32 := broadcastInDim S4x3x8192 ![] bcast_S_S4x3x8192 main_cst
  let main_v14 : IVec S4x3x8192 1 := cmpf .olt main_v12 main_v13
  let main_c_2 : IVec S_ 1 := constantI S_ 1 1#1
  let main_v15 : IVec S_ 1 := (fun x v => Host.reduce IntOp.andi x v reducesTo_S4x3x8192_S_d0_1_2 h_S_) main_v14 main_c_2
  let main_v16 : IVec S_ 1 := andi main_v11 main_v15
  let main_v17 : FVec F S4x128x8192 .f32 := Host.absf main_arg2
  let main_cst_3 : FVec F S_ .f32 := constant S_ .f32 0x7F800000#32
  fn_part1 (F := F) main_arg3 main_arg4 main_arg5 main_arg6 main_arg7 main_arg8 main_arg9 main_arg10 main_arg11 main_arg12 main_arg13 main_arg14 main_arg15 main_arg16 main_arg17 main_arg18 main_v16 main_v17 main_cst_3
-- ==== Pre_points_finite.lean ====
abbrev S4x3x8192 : Shape := ⟨3, ![4, 3, 8192]⟩
abbrev S4x1024x3 : Shape := ⟨3, ![4, 1024, 3]⟩
abbrev S_ : Shape := ⟨0, ![]⟩

class Facts : Prop where
  bcast_S_S4x3x8192 : S_.BroadcastsInDim S4x3x8192 (![] : Fin 0 → Fin S4x3x8192.rank)
  reducesTo_S4x3x8192_S_d0_1_2 : S4x3x8192.ReducesTo [0, 1, 2] S_
  h_S_ : 0 < S_.numel
  bcast_S_S4x1024x3 : S_.BroadcastsInDim S4x1024x3 (![] : Fin 0 → Fin S4x1024x3.rank)
  reducesTo_S4x1024x3_S_d0_1_2 : S4x1024x3.ReducesTo [0, 1, 2] S_

variable [Facts]

def fn {F : FTy → Type} [FloatOps F] (main_arg0 : FVec F S4x3x8192 .f32) (main_arg1 : FVec F S4x1024x3 .f32) : IVec S_ 1 :=
  let main_v0 : FVec F S4x3x8192 .f32 := Host.absf main_arg0
  let main_cst : FVec F S_ .f32 := constant S_ .f32 0x7F800000#32
  let main_v1 : FVec F S4x3x8192 .f32 := broadcastInDim S4x3x8192 ![] bcast_S_S4x3x8192 main_cst
  let main_v2 : IVec S4x3x8192 1 := cmpf .olt main_v0 main_v1
  let main_c : IVec S_ 1 := constantI S_ 1 1#1
  let main_v3 : IVec S_ 1 := (fun x v => Host.reduce IntOp.andi x v reducesTo_S4x3x8192_S_d0_1_2 h_S_) main_v2 main_c
  let main_v4 : FVec F S4x1024x3 .f32 := Host.absf main_arg1
  let main_cst_0 : FVec F S_ .f32 := constant S_ .f32 0x7F800000#32
  let main_v5 : FVec F S4x1024x3 .f32 := broadcastInDim S4x1024x3 ![] bcast_S_S4x1024x3 main_cst_0
  let main_v6 : IVec S4x1024x3 1 := cmpf .olt main_v4 main_v5
  let main_c_1 : IVec S_ 1 := constantI S_ 1 1#1
  let main_v7 : IVec S_ 1 := (fun x v => Host.reduce IntOp.andi x v reducesTo_S4x1024x3_S_d0_1_2 h_S_) main_v6 main_c_1
  let main_v8 : IVec S_ 1 := andi main_v3 main_v7
  main_v8
-- ==== Kernel.lean ====
abbrev S4x1024x8 : Shape := ⟨3, ![4, 1024, 8]⟩
abbrev S4x3x8192 : Shape := ⟨3, ![4, 3, 8192]⟩
abbrev S4x128x8192 : Shape := ⟨3, ![4, 128, 8192]⟩
abbrev S4x1024x3 : Shape := ⟨3, ![4, 1024, 3]⟩
abbrev S64x3x1x1 : Shape := ⟨4, ![64, 3, 1, 1]⟩
abbrev S64 : Shape := ⟨1, ![64]⟩
abbrev S64x64x1x1 : Shape := ⟨4, ![64, 64, 1, 1]⟩
abbrev S64x3x1x8 : Shape := ⟨4, ![64, 3, 1, 8]⟩
abbrev S256x192x1x8 : Shape := ⟨4, ![256, 192, 1, 8]⟩
abbrev S256 : Shape := ⟨1, ![256]⟩
abbrev S1x32768 : Shape := ⟨2, ![1, 32768]⟩
abbrev S4x8192x3 : Shape := ⟨3, ![4, 8192, 3]⟩
abbrev S_ : Shape := ⟨0, ![]⟩
abbrev S4x8192x128 : Shape := ⟨3, ![4, 8192, 128]⟩
abbrev S32768x128 : Shape := ⟨2, ![32768, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S1x128x128 : Shape := ⟨3, ![1, 128, 128]⟩
abbrev S128x128 : Shape := ⟨2, ![128, 128]⟩
abbrev S128 : Shape := ⟨1, ![128]⟩
abbrev S4096x8x128 : Shape := ⟨3, ![4096, 8, 128]⟩
abbrev S4096x3 : Shape := ⟨2, ![4096, 3]⟩
abbrev S4096x16 : Shape := ⟨2, ![4096, 16]⟩
abbrev S8x128 : Shape := ⟨2, ![8, 128]⟩
abbrev S1024x8x128 : Shape := ⟨3, ![1024, 8, 128]⟩
abbrev S1024x16 : Shape := ⟨2, ![1024, 16]⟩
abbrev S1024x1x16 : Shape := ⟨3, ![1024, 1, 16]⟩
abbrev S1024x128 : Shape := ⟨2, ![1024, 128]⟩
abbrev S7x128 : Shape := ⟨2, ![7, 128]⟩
abbrev S8x16x8x16 : Shape := ⟨4, ![8, 16, 8, 16]⟩
abbrev S8x3x8x3 : Shape := ⟨4, ![8, 3, 8, 3]⟩
abbrev S8x16 : Shape := ⟨2, ![8, 16]⟩
abbrev S8x3 : Shape := ⟨2, ![8, 3]⟩
abbrev S64x3 : Shape := ⟨2, ![64, 3]⟩
abbrev S3 : Shape := ⟨1, ![3]⟩
abbrev S8x8 : Shape := ⟨2, ![8, 8]⟩
abbrev S3x3 : Shape := ⟨2, ![3, 3]⟩
abbrev S3x64 : Shape := ⟨2, ![3, 64]⟩
abbrev S1x64 : Shape := ⟨2, ![1, 64]⟩
abbrev S16x64 : Shape := ⟨2, ![16, 64]⟩
abbrev S64x3x8 : Shape := ⟨3, ![64, 3, 8]⟩
abbrev S64x8x3 : Shape := ⟨3, ![64, 8, 3]⟩
abbrev S64x24 : Shape := ⟨2, ![64, 24]⟩
abbrev S24 : Shape := ⟨1, ![24]⟩
abbrev S24x24 : Shape := ⟨2, ![24, 24]⟩
abbrev S1x24 : Shape := ⟨2, ![1, 24]⟩
abbrev S64x24x1 : Shape := ⟨3, ![64, 24, 1]⟩
abbrev S1x24x24 : Shape := ⟨3, ![1, 24, 24]⟩
abbrev S64x24x24 : Shape := ⟨3, ![64, 24, 24]⟩
abbrev S8x3x64 : Shape := ⟨3, ![8, 3, 64]⟩
abbrev S1x1x64 : Shape := ⟨3, ![1, 1, 64]⟩
abbrev S8x16x64 : Shape := ⟨3, ![8, 16, 64]⟩
abbrev S64x64 : Shape := ⟨2, ![64, 64]⟩
abbrev S4096x8x64 : Shape := ⟨3, ![4096, 8, 64]⟩
abbrev S4096x64 : Shape := ⟨2, ![4096, 64]⟩
abbrev S8x64 : Shape := ⟨2, ![8, 64]⟩
abbrev S512x8x128 : Shape := ⟨3, ![512, 8, 128]⟩
abbrev S512x16 : Shape := ⟨2, ![512, 16]⟩
abbrev S512x8x64 : Shape := ⟨3, ![512, 8, 64]⟩
abbrev S512x64 : Shape := ⟨2, ![512, 64]⟩
abbrev S512x8x16 : Shape := ⟨3, ![512, 8, 16]⟩
abbrev S512x1x16 : Shape := ⟨3, ![512, 1, 16]⟩
abbrev S1x16x64 : Shape := ⟨3, ![1, 16, 64]⟩
abbrev S256x192x8 : Shape := ⟨3, ![256, 192, 8]⟩
abbrev S8x192x256 : Shape := ⟨3, ![8, 192, 256]⟩
abbrev S4x256x1024 : Shape := ⟨3, ![4, 256, 1024]⟩
abbrev S256x8 : Shape := ⟨2, ![256, 8]⟩
abbrev S1x256x512 : Shape := ⟨3, ![1, 256, 512]⟩
abbrev S512x8x192 : Shape := ⟨3, ![512, 8, 192]⟩
abbrev S256x512 : Shape := ⟨2, ![256, 512]⟩
abbrev S512x1 : Shape := ⟨2, ![512, 1]⟩
abbrev S512x1x192 : Shape := ⟨3, ![512, 1, 192]⟩
abbrev S512x192 : Shape := ⟨2, ![512, 192]⟩
abbrev S1x192x256 : Shape := ⟨3, ![1, 192, 256]⟩
abbrev S192x256 : Shape := ⟨2, ![192, 256]⟩
abbrev S256x1 : Shape := ⟨2, ![256, 1]⟩
abbrev S256x6 : Shape := ⟨2, ![256, 6]⟩
abbrev S1x256x1024 : Shape := ⟨3, ![1, 256, 1024]⟩
abbrev S256x1024 : Shape := ⟨2, ![256, 1024]⟩
abbrev S4x3x1024 : Shape := ⟨3, ![4, 3, 1024]⟩

abbrev nBuf : Table → Nat
  | .hbm => 242
  | .local .tc .vmem => 38
  | .local .scVector .vmem => 4
  | _ => 0

abbrev hbmTy0_0 (i : Nat) : BufTy := match i % 128 with
  | 0 => ⟨S4x1024x8, .i32⟩
  | 1 => ⟨S4x3x8192, .f32⟩
  | 2 => ⟨S4x128x8192, .f32⟩
  | 3 => ⟨S4x1024x3, .f32⟩
  | 4 => ⟨S64x3x1x1, .f32⟩
  | 5 => ⟨S64, .f32⟩
  | 6 => ⟨S64, .f32⟩
  | 7 => ⟨S64x64x1x1, .f32⟩
  | 8 => ⟨S64, .f32⟩
  | 9 => ⟨S64, .f32⟩
  | 10 => ⟨S64x3x1x8, .f32⟩
  | 11 => ⟨S64, .f32⟩
  | 12 => ⟨S64, .f32⟩
  | 13 => ⟨S64x64x1x1, .f32⟩
  | 14 => ⟨S64, .f32⟩
  | 15 => ⟨S64, .f32⟩
  | 16 => ⟨S64x64x1x1, .f32⟩
  | 17 => ⟨S256x192x1x8, .f32⟩
  | 18 => ⟨S256, .f32⟩
  | 19 => ⟨S256, .f32⟩
  | 20 => ⟨S1x32768, .i32⟩
  | 21 => ⟨S4x8192x3, .f32⟩
  | 22 => ⟨S_, .i32⟩
  | 23 => ⟨S_, .f32⟩
  | 24 => ⟨S4x8192x128, .f32⟩
  | 25 => ⟨S32768x128, .f32⟩
  | 26 => ⟨S4x8192x128, .f32⟩
  | 27 => ⟨S32768x128, .f32⟩
  | 28 => ⟨S32768x128, .f32⟩
  | 29 => ⟨S32768x128, .f32⟩
  | 30 => ⟨S4096x8x128, .f32⟩
  | 31 => ⟨S4096x8x128, .f32⟩
  | 32 => ⟨S4096x3, .f32⟩
  | 33 => ⟨S_, .i32⟩
  | 34 => ⟨S_, .f32⟩
  | 35 => ⟨S4096x16, .f32⟩
  | 36 => ⟨S128x128, .f32⟩
  | 37 => ⟨S8x128, .f32⟩
  | 38 => ⟨S1x128, .f32⟩
  | 39 => ⟨S128, .f32⟩
  | 40 => ⟨S8x16x8x16, .f32⟩
  | 41 => ⟨S8x3x8x3, .f32⟩
  | 42 => ⟨S8x16, .f32⟩
  | 43 => ⟨S8x3, .f32⟩
  | 44 => ⟨S64x3, .f32⟩
  | 45 => ⟨S_, .f32⟩
  | 46 => ⟨S3, .f32⟩
  | 47 => ⟨S_, .f32⟩
  | 48 => ⟨S3, .f32⟩
  | 49 => ⟨S3, .f32⟩
  | 50 => ⟨S8x8, .i32⟩
  | 51 => ⟨S8x8, .i32⟩
  | 52 => ⟨S8x8, .i1⟩
  | 53 => ⟨S8x3x8x3, .i1⟩
  | 54 => ⟨S_, .f32⟩
  | 55 => ⟨S8x3x8x3, .f32⟩
  | 56 => ⟨S8x3x8x3, .f32⟩
  | 57 => ⟨S_, .f32⟩
  | 58 => ⟨S3x3, .f32⟩
  | 59 => ⟨S_, .f32⟩
  | 60 => ⟨S3x3, .f32⟩
  | 61 => ⟨S3x3, .f32⟩
  | 62 => ⟨S64, .f32⟩
  | 63 => ⟨S64x3, .f32⟩
  | 64 => ⟨S64x3, .f32⟩
  | 65 => ⟨S_, .f32⟩
  | 66 => ⟨S64, .f32⟩
  | 67 => ⟨S64, .f32⟩
  | 68 => ⟨S64, .f32⟩
  | 69 => ⟨S_, .f32⟩
  | 70 => ⟨S64, .f32⟩
  | 71 => ⟨S64, .f32⟩
  | 72 => ⟨S_, .f32⟩
  | 73 => ⟨S64, .f32⟩
  | 74 => ⟨S64, .f32⟩
  | 75 => ⟨S64, .f32⟩
  | 76 => ⟨S64, .f32⟩
  | 77 => ⟨S64, .f32⟩
  | 78 => ⟨S64, .f32⟩
  | 79 => ⟨S3x64, .f32⟩
  | 80 => ⟨S1x64, .f32⟩
  | 81 => ⟨S3x64, .f32⟩
  | 82 => ⟨S3x64, .f32⟩
  | 83 => ⟨S_, .i32⟩
  | 84 => ⟨S_, .f32⟩
  | 85 => ⟨S16x64, .f32⟩
  | 86 => ⟨S1x64, .f32⟩
  | 87 => ⟨S64x3x8, .f32⟩
  | 88 => ⟨S64x8x3, .f32⟩
  | 89 => ⟨S64x24, .f32⟩
  | 90 => ⟨S_, .f32⟩
  | 91 => ⟨S8x3, .f32⟩
  | 92 => ⟨S8x3, .f32⟩
  | 93 => ⟨S24, .f32⟩
  | 94 => ⟨S24x24, .f32⟩
  | 95 => ⟨S_, .f32⟩
  | 96 => ⟨S24x24, .f32⟩
  | 97 => ⟨S24x24, .f32⟩
  | 98 => ⟨S1x24, .f32⟩
  | 99 => ⟨S64x24, .f32⟩
  | 100 => ⟨S64x24, .f32⟩
  | 101 => ⟨S_, .f32⟩
  | 102 => ⟨S64, .f32⟩
  | 103 => ⟨S64x24x1, .f32⟩
  | 104 => ⟨S1x24x24, .f32⟩
  | 105 => ⟨S64x24x24, .f32⟩
  | 106 => ⟨S64x24x24, .f32⟩
  | 107 => ⟨S64x24x24, .f32⟩
  | 108 => ⟨S_, .f32⟩
  | 109 => ⟨S64x24, .f32⟩
  | 110 => ⟨S64x24, .f32⟩
  | 111 => ⟨S_, .f32⟩
  | 112 => ⟨S64, .f32⟩
  | 113 => ⟨S64, .f32⟩
  | 114 => ⟨S64, .f32⟩
  | 115 => ⟨S_, .f32⟩
  | 116 => ⟨S64, .f32⟩
  | 117 => ⟨S64, .f32⟩
  | 118 => ⟨S_, .f32⟩
  | 119 => ⟨S64, .f32⟩
  | 120 => ⟨S64, .f32⟩
  | 121 => ⟨S64, .f32⟩
  | 122 => ⟨S64, .f32⟩
  | 123 => ⟨S64, .f32⟩
  | 124 => ⟨S64, .f32⟩
  | 125 => ⟨S8x3x64, .f32⟩
  | 126 => ⟨S1x1x64, .f32⟩
  | 127 => ⟨S8x3x64, .f32⟩
  | _ => ⟨S4x1024x8, .i32⟩

abbrev hbmTy0_1 (i : Nat) : BufTy := match i % 128 with
  | 0 => ⟨S8x3x64, .f32⟩
  | 1 => ⟨S_, .i32⟩
  | 2 => ⟨S_, .f32⟩
  | 3 => ⟨S8x16x64, .f32⟩
  | 4 => ⟨S1x64, .f32⟩
  | 5 => ⟨S64x64, .f32⟩
  | 6 => ⟨S64x64, .f32⟩
  | 7 => ⟨S64x64, .f32⟩
  | 8 => ⟨S64x64, .f32⟩
  | 9 => ⟨S4096x8x64, .f32⟩
  | 10 => ⟨S4096x64, .f32⟩
  | 11 => ⟨S8x64, .f32⟩
  | 12 => ⟨S1x64, .f32⟩
  | 13 => ⟨S64, .f32⟩
  | 14 => ⟨S_, .f32⟩
  | 15 => ⟨S64, .f32⟩
  | 16 => ⟨S64, .f32⟩
  | 17 => ⟨S1x64, .f32⟩
  | 18 => ⟨S64, .f32⟩
  | 19 => ⟨S_, .f32⟩
  | 20 => ⟨S64, .f32⟩
  | 21 => ⟨S64, .f32⟩
  | 22 => ⟨S64, .f32⟩
  | 23 => ⟨S64, .f32⟩
  | 24 => ⟨S_, .f32⟩
  | 25 => ⟨S64, .f32⟩
  | 26 => ⟨S64, .f32⟩
  | 27 => ⟨S_, .f32⟩
  | 28 => ⟨S64, .f32⟩
  | 29 => ⟨S64, .f32⟩
  | 30 => ⟨S64, .f32⟩
  | 31 => ⟨S64, .f32⟩
  | 32 => ⟨S64, .f32⟩
  | 33 => ⟨S64, .f32⟩
  | 34 => ⟨S1x64, .f32⟩
  | 35 => ⟨S64, .f32⟩
  | 36 => ⟨S_, .f32⟩
  | 37 => ⟨S64, .f32⟩
  | 38 => ⟨S64, .f32⟩
  | 39 => ⟨S1x64, .f32⟩
  | 40 => ⟨S64, .f32⟩
  | 41 => ⟨S_, .f32⟩
  | 42 => ⟨S64, .f32⟩
  | 43 => ⟨S64, .f32⟩
  | 44 => ⟨S64, .f32⟩
  | 45 => ⟨S64, .f32⟩
  | 46 => ⟨S_, .f32⟩
  | 47 => ⟨S64, .f32⟩
  | 48 => ⟨S64, .f32⟩
  | 49 => ⟨S_, .f32⟩
  | 50 => ⟨S64, .f32⟩
  | 51 => ⟨S64, .f32⟩
  | 52 => ⟨S64, .f32⟩
  | 53 => ⟨S64, .f32⟩
  | 54 => ⟨S64, .f32⟩
  | 55 => ⟨S64, .f32⟩
  | 56 => ⟨S_, .i32⟩
  | 57 => ⟨S_, .f32⟩
  | 58 => ⟨S64, .f32⟩
  | 59 => ⟨S_, .i32⟩
  | 60 => ⟨S_, .f32⟩
  | 61 => ⟨S64, .f32⟩
  | 62 => ⟨S_, .f32⟩
  | 63 => ⟨S64, .f32⟩
  | 64 => ⟨S_, .f32⟩
  | 65 => ⟨S64, .f32⟩
  | 66 => ⟨S_, .f32⟩
  | 67 => ⟨S64, .f32⟩
  | 68 => ⟨S_, .f32⟩
  | 69 => ⟨S64, .f32⟩
  | 70 => ⟨S1x64, .f32⟩
  | 71 => ⟨S1x64, .f32⟩
  | 72 => ⟨S1x64, .f32⟩
  | 73 => ⟨S1x64, .f32⟩
  | 74 => ⟨S1x64, .f32⟩
  | 75 => ⟨S1x64, .f32⟩
  | 76 => ⟨S1x64, .f32⟩
  | 77 => ⟨S1x64, .f32⟩
  | 78 => ⟨S8x64, .f32⟩
  | 79 => ⟨S64x64, .f32⟩
  | 80 => ⟨S64x64, .f32⟩
  | 81 => ⟨S256x192x8, .f32⟩
  | 82 => ⟨S8x192x256, .f32⟩
  | 83 => ⟨S4x256x1024, .f32⟩
  | 84 => ⟨S256x8, .f32⟩
  | 85 => ⟨S256x1, .f32⟩
  | 86 => ⟨S256, .f32⟩
  | 87 => ⟨S_, .f32⟩
  | 88 => ⟨S256, .f32⟩
  | 89 => ⟨S256, .f32⟩
  | 90 => ⟨S256x1, .f32⟩
  | 91 => ⟨S256, .f32⟩
  | 92 => ⟨S_, .f32⟩
  | 93 => ⟨S256, .f32⟩
  | 94 => ⟨S256, .f32⟩
  | 95 => ⟨S256, .f32⟩
  | 96 => ⟨S256, .f32⟩
  | 97 => ⟨S_, .f32⟩
  | 98 => ⟨S256, .f32⟩
  | 99 => ⟨S256, .f32⟩
  | 100 => ⟨S_, .f32⟩
  | 101 => ⟨S256, .f32⟩
  | 102 => ⟨S256, .f32⟩
  | 103 => ⟨S256, .f32⟩
  | 104 => ⟨S256, .f32⟩
  | 105 => ⟨S256, .f32⟩
  | 106 => ⟨S256, .f32⟩
  | 107 => ⟨S256x1, .f32⟩
  | 108 => ⟨S256x1, .f32⟩
  | 109 => ⟨S_, .f32⟩
  | 110 => ⟨S256x6, .f32⟩
  | 111 => ⟨S256x8, .f32⟩
  | 112 => ⟨S4x256x1024, .f32⟩
  | 113 => ⟨S4x3x1024, .f32⟩
  | _ => ⟨S4x1024x8, .i32⟩

abbrev hbmTy (i : Nat) : BufTy := match i / 128 with
  | 0 => hbmTy0_0 i
  | 1 => hbmTy0_1 i
  | _ => ⟨S4x1024x8, .i32⟩

abbrev bufTy : (tb : Table) → Fin (nBuf tb) → BufTy
  | .hbm, ⟨i, _⟩ => hbmTy i
  | .local .tc .vmem, ⟨0, _⟩ => ⟨S1024x8x128, .f32⟩
  | .local .tc .vmem, ⟨1, _⟩ => ⟨S1024x8x128, .f32⟩
  | .local .tc .vmem, ⟨2, _⟩ => ⟨S1024x16, .f32⟩
  | .local .tc .vmem, ⟨3, _⟩ => ⟨S1024x16, .f32⟩
  | .local .tc .vmem, ⟨4, _⟩ => ⟨S128x128, .f32⟩
  | .local .tc .vmem, ⟨5, _⟩ => ⟨S8x128, .f32⟩
  | .local .tc .vmem, ⟨6, _⟩ => ⟨S512x8x128, .f32⟩
  | .local .tc .vmem, ⟨7, _⟩ => ⟨S512x8x128, .f32⟩
  | .local .tc .vmem, ⟨8, _⟩ => ⟨S512x16, .f32⟩
  | .local .tc .vmem, ⟨9, _⟩ => ⟨S512x16, .f32⟩
  | .local .tc .vmem, ⟨10, _⟩ => ⟨S16x64, .f32⟩
  | .local .tc .vmem, ⟨11, _⟩ => ⟨S1x64, .f32⟩
  | .local .tc .vmem, ⟨12, _⟩ => ⟨S64x64, .f32⟩
  | .local .tc .vmem, ⟨13, _⟩ => ⟨S8x16x64, .f32⟩
  | .local .tc .vmem, ⟨14, _⟩ => ⟨S1x64, .f32⟩
  | .local .tc .vmem, ⟨15, _⟩ => ⟨S64x64, .f32⟩
  | .local .tc .vmem, ⟨16, _⟩ => ⟨S512x8x64, .f32⟩
  | .local .tc .vmem, ⟨17, _⟩ => ⟨S512x8x64, .f32⟩
  | .local .tc .vmem, ⟨18, _⟩ => ⟨S512x64, .f32⟩
  | .local .tc .vmem, ⟨19, _⟩ => ⟨S512x64, .f32⟩
  | .local .tc .vmem, ⟨20, _⟩ => ⟨S8x64, .f32⟩
  | .local .tc .vmem, ⟨21, _⟩ => ⟨S512x8x64, .f32⟩
  | .local .tc .vmem, ⟨22, _⟩ => ⟨S512x8x64, .f32⟩
  | .local .tc .vmem, ⟨23, _⟩ => ⟨S512x64, .f32⟩
  | .local .tc .vmem, ⟨24, _⟩ => ⟨S512x64, .f32⟩
  | .local .tc .vmem, ⟨25, _⟩ => ⟨S512x8x128, .f32⟩
  | .local .tc .vmem, ⟨26, _⟩ => ⟨S512x8x128, .f32⟩
  | .local .tc .vmem, ⟨27, _⟩ => ⟨S8x64, .f32⟩
  | .local .tc .vmem, ⟨28, _⟩ => ⟨S64x64, .f32⟩
  | .local .tc .vmem, ⟨29, _⟩ => ⟨S8x192x256, .f32⟩
  | .local .tc .vmem, ⟨30, _⟩ => ⟨S1x256x512, .f32⟩
  | .local .tc .vmem, ⟨31, _⟩ => ⟨S1x256x512, .f32⟩
  | .local .tc .vmem, ⟨32, _⟩ => ⟨S256x8, .f32⟩
  | .local .tc .vmem, ⟨33, _⟩ => ⟨S1x256x1024, .f32⟩
  | .local .tc .vmem, ⟨34, _⟩ => ⟨S1x256x1024, .f32⟩
  | .local .tc .vmem, ⟨35, _⟩ => ⟨S256x8, .f32⟩
  | .local .tc .vmem, ⟨36, _⟩ => ⟨S1x256x1024, .f32⟩
  | .local .tc .vmem, ⟨37, _⟩ => ⟨S1x256x1024, .f32⟩
  | .local .scVector .vmem, ⟨0, _⟩ => ⟨S2x1x128, .i32⟩
  | .local .scVector .vmem, ⟨1, _⟩ => ⟨S2x128x128, .f32⟩
  | .local .scVector .vmem, ⟨2, _⟩ => ⟨S2x1x128, .i32⟩
  | .local .scVector .vmem, ⟨3, _⟩ => ⟨S2x128x128, .f32⟩
  | _, _ => ⟨S4x1024x8, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 48 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTables nBuf rfl bufTy 4 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_c : Ref sig .tc := ⟨.hbm, 22, rfl⟩
abbrev main_call0_v0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_v11 : Ref sig .tc := ⟨.hbm, 35, rfl⟩
abbrev main_v12_0 : Ref sig .tc := ⟨.hbm, 36, rfl⟩
abbrev main_v12_1 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst : Ref sig .tc := ⟨.hbm, 45, rfl⟩
abbrev main_v20 : Ref sig .tc := ⟨.hbm, 46, rfl⟩
abbrev main_cst_1 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_cst_2 : Ref sig .tc := ⟨.hbm, 54, rfl⟩
abbrev main_v27 : Ref sig .tc := ⟨.hbm, 55, rfl⟩
abbrev main_v28 : Ref sig .tc := ⟨.hbm, 56, rfl⟩
abbrev main_cst_3 : Ref sig .tc := ⟨.hbm, 57, rfl⟩
abbrev main_v29 : Ref sig .tc := ⟨.hbm, 58, rfl⟩
abbrev main_cst_4 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_5 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_cst_6 : Ref sig .tc := ⟨.hbm, 69, rfl⟩
abbrev main_v38 : Ref sig .tc := ⟨.hbm, 70, rfl⟩
abbrev main_v39 : Ref sig .tc := ⟨.hbm, 71, rfl⟩
abbrev main_cst_7 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_c_8 : Ref sig .tc := ⟨.hbm, 83, rfl⟩
abbrev main_call2_v0 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_9 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_10 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_11 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_12 : Ref sig .tc := ⟨.hbm, 108, rfl⟩
abbrev main_v70 : Ref sig .tc := ⟨.hbm, 109, rfl⟩
abbrev main_v71 : Ref sig .tc := ⟨.hbm, 110, rfl⟩
abbrev main_cst_13 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_cst_14 : Ref sig .tc := ⟨.hbm, 115, rfl⟩
abbrev main_v75 : Ref sig .tc := ⟨.hbm, 116, rfl⟩
abbrev main_v76 : Ref sig .tc := ⟨.hbm, 117, rfl⟩
abbrev main_cst_15 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_c_16 : Ref sig .tc := ⟨.hbm, 129, rfl⟩
abbrev main_call3_v0 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93_0 : Ref sig .tc := ⟨.hbm, 137, rfl⟩
abbrev main_v93_1 : Ref sig .tc := ⟨.hbm, 138, rfl⟩
abbrev main_v93_2 : Ref sig .tc := ⟨.hbm, 139, rfl⟩
abbrev main_v94 : Ref sig .tc := ⟨.hbm, 140, rfl⟩
abbrev main_v95 : Ref sig .tc := ⟨.hbm, 141, rfl⟩
abbrev main_cst_17 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_cst_18 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_cst_19 : Ref sig .tc := ⟨.hbm, 152, rfl⟩
abbrev main_v104 : Ref sig .tc := ⟨.hbm, 153, rfl⟩
abbrev main_v105 : Ref sig .tc := ⟨.hbm, 154, rfl⟩
abbrev main_cst_20 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_cst_21 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_cst_22 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_cst_23 : Ref sig .tc := ⟨.hbm, 174, rfl⟩
abbrev main_v122 : Ref sig .tc := ⟨.hbm, 175, rfl⟩
abbrev main_v123 : Ref sig .tc := ⟨.hbm, 176, rfl⟩
abbrev main_cst_24 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_c_25 : Ref sig .tc := ⟨.hbm, 184, rfl⟩
abbrev main_call4_v0 : Ref sig .tc := ⟨.hbm, 185, rfl⟩
abbrev main_v130 : Ref sig .tc := ⟨.hbm, 186, rfl⟩
abbrev main_c_26 : Ref sig .tc := ⟨.hbm, 187, rfl⟩
abbrev main_call5_v0 : Ref sig .tc := ⟨.hbm, 188, rfl⟩
abbrev main_v131 : Ref sig .tc := ⟨.hbm, 189, rfl⟩
abbrev main_cst_27 : Ref sig .tc := ⟨.hbm, 190, rfl⟩
abbrev main_v132 : Ref sig .tc := ⟨.hbm, 191, rfl⟩
abbrev main_cst_28 : Ref sig .tc := ⟨.hbm, 192, rfl⟩
abbrev main_v133 : Ref sig .tc := ⟨.hbm, 193, rfl⟩
abbrev main_cst_29 : Ref sig .tc := ⟨.hbm, 194, rfl⟩
abbrev main_v134 : Ref sig .tc := ⟨.hbm, 195, rfl⟩
abbrev main_cst_30 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149_0 : Ref sig .tc := ⟨.hbm, 211, rfl⟩
abbrev main_v149_1 : Ref sig .tc := ⟨.hbm, 212, rfl⟩
abbrev main_v150 : Ref sig .tc := ⟨.hbm, 213, rfl⟩
abbrev main_v151 : Ref sig .tc := ⟨.hbm, 214, rfl⟩
abbrev main_cst_31 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_cst_32 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_cst_33 : Ref sig .tc := ⟨.hbm, 225, rfl⟩
abbrev main_v160 : Ref sig .tc := ⟨.hbm, 226, rfl⟩
abbrev main_v161 : Ref sig .tc := ⟨.hbm, 227, rfl⟩
abbrev main_cst_34 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩
abbrev main_v168 : Ref sig .tc := ⟨.hbm, 235, rfl⟩
abbrev main_v169 : Ref sig .tc := ⟨.hbm, 236, rfl⟩
abbrev main_cst_35 : Ref sig .tc := ⟨.hbm, 237, rfl⟩
abbrev main_v170 : Ref sig .tc := ⟨.hbm, 238, rfl⟩
abbrev main_v171 : Ref sig .tc := ⟨.hbm, 239, rfl⟩
abbrev main_v172 : Ref sig .tc := ⟨.hbm, 240, rfl⟩
abbrev main_v173 : Ref sig .tc := ⟨.hbm, 241, rfl⟩
abbrev main_v3_scv : Ref sig .scVector := ⟨.hbm, 25, rfl⟩
abbrev main_v0_scv : Ref sig .scVector := ⟨.hbm, 20, rfl⟩
abbrev main_v6_scv : Ref sig .scVector := ⟨.hbm, 28, rfl⟩
abbrev main_v5_scv : Ref sig .scVector := ⟨.hbm, 27, rfl⟩
abbrev main_v7_scv : Ref sig .scVector := ⟨.hbm, 29, rfl⟩
abbrev cc2_stg0_0 : Ref sig .tc := ⟨.vmem, 0, rfl⟩
abbrev cc2_stg0_1 : Ref sig .tc := ⟨.vmem, 1, rfl⟩
abbrev cc2_stg1_0 : Ref sig .tc := ⟨.vmem, 2, rfl⟩
abbrev cc2_stg1_1 : Ref sig .tc := ⟨.vmem, 3, rfl⟩
abbrev cc2_stg2_0 : Ref sig .tc := ⟨.vmem, 4, rfl⟩
abbrev cc2_stg3_0 : Ref sig .tc := ⟨.vmem, 5, rfl⟩
abbrev cc3_stg0_0 : Ref sig .tc := ⟨.vmem, 6, rfl⟩
abbrev cc3_stg0_1 : Ref sig .tc := ⟨.vmem, 7, rfl⟩
abbrev cc3_stg1_0 : Ref sig .tc := ⟨.vmem, 8, rfl⟩
abbrev cc3_stg1_1 : Ref sig .tc := ⟨.vmem, 9, rfl⟩
abbrev cc3_stg2_0 : Ref sig .tc := ⟨.vmem, 10, rfl⟩
abbrev cc3_stg3_0 : Ref sig .tc := ⟨.vmem, 11, rfl⟩
abbrev cc3_stg4_0 : Ref sig .tc := ⟨.vmem, 12, rfl⟩
abbrev cc3_stg5_0 : Ref sig .tc := ⟨.vmem, 13, rfl⟩
abbrev cc3_stg6_0 : Ref sig .tc := ⟨.vmem, 14, rfl⟩
abbrev cc3_stg7_0 : Ref sig .tc := ⟨.vmem, 15, rfl⟩
abbrev cc3_stg8_0 : Ref sig .tc := ⟨.vmem, 16, rfl⟩
abbrev cc3_stg8_1 : Ref sig .tc := ⟨.vmem, 17, rfl⟩
abbrev cc3_stg9_0 : Ref sig .tc := ⟨.vmem, 18, rfl⟩
abbrev cc3_stg9_1 : Ref sig .tc := ⟨.vmem, 19, rfl⟩
abbrev cc3_stg10_0 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc4_stg3_0 : Ref sig .tc := ⟨.vmem, 27, rfl⟩
abbrev cc4_stg4_0 : Ref sig .tc := ⟨.vmem, 28, rfl⟩
abbrev cc4_stg5_0 : Ref sig .tc := ⟨.vmem, 29, rfl⟩
abbrev cc4_stg6_0 : Ref sig .tc := ⟨.vmem, 30, rfl⟩
abbrev cc4_stg6_1 : Ref sig .tc := ⟨.vmem, 31, rfl⟩
abbrev cc4_stg7_0 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg2_1 : Ref sig .tc := ⟨.vmem, 37, rfl⟩
abbrev cc0_scoped0 : Ref sig .scVector := ⟨.vmem, 0, rfl⟩
abbrev cc0_scoped2 : Ref sig .scVector := ⟨.vmem, 1, rfl⟩
abbrev cc1_scoped0 : Ref sig .scVector := ⟨.vmem, 2, rfl⟩
abbrev cc1_scoped2 : Ref sig .scVector := ⟨.vmem, 3, rfl⟩
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem3_0 : DmaSem sig := 21
abbrev cc3_sem4_0 : DmaSem sig := 22
abbrev cc3_sem5_0 : DmaSem sig := 23
abbrev cc3_sem6_0 : DmaSem sig := 24
abbrev cc3_sem7_0 : DmaSem sig := 25
abbrev cc3_sem8_0 : DmaSem sig := 26
abbrev cc3_sem8_1 : DmaSem sig := 27
abbrev cc3_sem9_0 : DmaSem sig := 28
abbrev cc3_sem9_1 : DmaSem sig := 29
abbrev cc3_sem10_0 : DmaSem sig := 30
abbrev cc4_sem0_0 : DmaSem sig := 31
abbrev cc4_sem0_1 : DmaSem sig := 32
abbrev cc4_sem1_0 : DmaSem sig := 33
abbrev cc4_sem1_1 : DmaSem sig := 34
abbrev cc4_sem2_0 : DmaSem sig := 35
abbrev cc4_sem2_1 : DmaSem sig := 36
abbrev cc4_sem3_0 : DmaSem sig := 37
abbrev cc4_sem4_0 : DmaSem sig := 38
abbrev cc4_sem5_0 : DmaSem sig := 39
abbrev cc4_sem6_0 : DmaSem sig := 40
abbrev cc4_sem6_1 : DmaSem sig := 41
abbrev cc4_sem7_0 : DmaSem sig := 42
abbrev cc5_sem0_0 : DmaSem sig := 43
abbrev cc5_sem0_1 : DmaSem sig := 44
abbrev cc5_sem1_0 : DmaSem sig := 45
abbrev cc5_sem2_0 : DmaSem sig := 46
abbrev cc5_sem2_1 : DmaSem sig := 47
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c8_i32_27_r0 : BitVec 32 := 8#32
  let v32_r0 : BitVec 32 := Scalar.addi c0_i32_26_r0 c8_i32_27_r0
  let c1_i32_28_r0 : BitVec 32 := 1#32
  ⟨c0_i32_26_r0, v32_r0, c1_i32_28_r0⟩
def k0_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c7_i32_68_r0 : BitVec 32 := 7#32
  let v83_r0 : BitVec 1 := Scalar.cmpi .sge arg5_r0 c7_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v76_r0 : BitVec 32 := Scalar.addi v75_r0 v4
  let v145_r0 : BitVec 32 := Scalar.muli c128_i32_100_r0 v76_r0
  ![0, v145_r0.toNat]
def k0_off6 (arg6_r0 : BitVec 32) : Fin 1 → Nat :=
  let c2_i32_99_r0 : BitVec 32 := 2#32
  let v144_r0 : BitVec 32 := Scalar.remui arg6_r0 c2_i32_99_r0
  ![v144_r0.toNat]
def k0_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v144_r0 : BitVec 32 := Scalar.muli c128_i32_99_r0 v66_r0
  ![0, v144_r0.toNat]
def k0_off9 (arg7_r0 : BitVec 32) : Fin 1 → Nat :=
  let c2_i32_100_r0 : BitVec 32 := 2#32
  let v145_r0 : BitVec 32 := Scalar.remui arg7_r0 c2_i32_100_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k0_chk2 (arg8_r0 : BitVec 32) : Prop :=
  (∀ a, (k0_off10 arg8_r0) a + S1x128x128.size a ≤ S2x128x128.size a)
theorem k0_off10_inb : ∀ (arg8_r0 : BitVec 32) (k0_hw2 : k0_chk2 arg8_r0), ∀ a, (k0_off10 arg8_r0) a + S1x128x128.size a ≤ S2x128x128.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c7_i32_55_r0 : BitVec 32 := 7#32
  let v65_r0 : BitVec 1 := Scalar.cmpi .eq arg5_r0 c7_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k0_off13 (i : grid0.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k0_off14 (arg8_r0 : BitVec 32) : Fin 1 → Nat :=
  let c2_i32_99_r0 : BitVec 32 := 2#32
  let v144_r0 : BitVec 32 := Scalar.remui arg8_r0 c2_i32_99_r0
  ![v144_r0.toNat]
def k0_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k0_off16 (i : grid0.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v71_r0 : BitVec 32 := Scalar.addi v70_r0 v4
  let v145_r0 : BitVec 32 := Scalar.muli c128_i32_100_r0 v71_r0
  let c0_i32_103_r0 : BitVec 32 := 0#32
  ![v145_r0.toNat, 0]
def k0_off17 (arg9_r0 : BitVec 32) : Fin 1 → Nat :=
  let c2_i32_99_r0 : BitVec 32 := 2#32
  let v144_r0 : BitVec 32 := Scalar.remui arg9_r0 c2_i32_99_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x32768.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x32768.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x128.size a ≤ S2x128x128.size a) ∧
  (∀ (k0_h5 : k0_cond5 i k0_t1 arg10_r0 = 1#1), ∀ a, (k0_off13 i arg10_r0) a + S128x128.size a ≤ S32768x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x128.size a ≤ S2x128x128.size a) ∧
  (∀ (k0_h7 : k0_cond7 i k0_t1 arg10_r0 = 1#1), ∀ a, (k0_off16 i arg10_r0) a + S128x128.size a ≤ S32768x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x32768.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x32768.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x128.size a ≤ S2x128x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x128.size a ≤ S32768x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x128.size a ≤ S2x128x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x128.size a ≤ S32768x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c7_i32_33_r0 : BitVec 32 := 7#32
  let v37_r0 : BitVec 32 := Scalar.select v36_r0 c7_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v38_r0 : BitVec 32 := Scalar.addi v37_r0 v4
  let v55_r0 : BitVec 32 := Scalar.muli c128_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S128x128.size a ≤ S32768x128.size a)
theorem k0_off19_inb : ∀ (i : grid0.Coords) (v33_4_r0 : BitVec 32) (k0_hw5 : k0_chk5 i v33_4_r0), ∀ a, (k0_off19 i v33_4_r0) a + S128x128.size a ≤ S32768x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x128x128.size a ≤ S2x128x128.size a) ∧
  (∀ a, (k0_off20 v33_3_r0) a + S1.size a ≤ S2.size a) ∧
  (∀ a, (k0_off21 v33_3_r0) a + S1x128x128.size a ≤ S2x128x128.size a)
theorem k0_off18_inb : ∀ (v33_3_r0 : BitVec 32) (k0_hw4 : k0_chk4 v33_3_r0), ∀ a, (k0_off18 v33_3_r0) a + S1x128x128.size a ≤ S2x128x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x128.size a ≤ S2x128x128.size a := fun v33_3_r0 k0_hw4 => k0_hw4.2.2

abbrev grid1 : Pipeline.Grid := ⟨2, ![2, 16], ![false, false]⟩

def k1_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k1_off2 (i : grid1.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v7_r0 : BitVec 32 := Scalar.addi c0_i32_1_r0 v4
  let v22_r0 : BitVec 32 := Scalar.muli c128_i32_r0 v7_r0
  ![0, v22_r0.toNat]
def k1_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k1_t1_loop : Scf.Loop 32 :=
  let c0_i32_26_r0 : BitVec 32 := 0#32
  let c8_i32_27_r0 : BitVec 32 := 8#32
  let v32_r0 : BitVec 32 := Scalar.addi c0_i32_26_r0 c8_i32_27_r0
  let c1_i32_28_r0 : BitVec 32 := 1#32
  ⟨c0_i32_26_r0, v32_r0, c1_i32_28_r0⟩
def k1_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k1_cond1 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k1_t1
  let c7_i32_68_r0 : BitVec 32 := 7#32
  let v83_r0 : BitVec 1 := Scalar.cmpi .sge arg5_r0 c7_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k1_off5 (i : grid1.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v76_r0 : BitVec 32 := Scalar.addi v75_r0 v4
  let v145_r0 : BitVec 32 := Scalar.muli c128_i32_100_r0 v76_r0
  ![0, v145_r0.toNat]
def k1_off6 (arg6_r0 : BitVec 32) : Fin 1 → Nat :=
  let c2_i32_99_r0 : BitVec 32 := 2#32
  let v144_r0 : BitVec 32 := Scalar.remui arg6_r0 c2_i32_99_r0
  ![v144_r0.toNat]
def k1_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k1_cond2 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k1_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k1_off8 (i : grid1.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v144_r0 : BitVec 32 := Scalar.muli c128_i32_99_r0 v66_r0
  ![0, v144_r0.toNat]
def k1_off9 (arg7_r0 : BitVec 32) : Fin 1 → Nat :=
  let c2_i32_100_r0 : BitVec 32 := 2#32
  let v145_r0 : BitVec 32 := Scalar.remui arg7_r0 c2_i32_100_r0
  ![v145_r0.toNat]
def k1_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k1_chk2 (arg8_r0 : BitVec 32) : Prop :=
  (∀ a, (k1_off10 arg8_r0) a + S1x128x128.size a ≤ S2x128x128.size a)
theorem k1_off10_inb : ∀ (arg8_r0 : BitVec 32) (k1_hw2 : k1_chk2 arg8_r0), ∀ a, (k1_off10 arg8_r0) a + S1x128x128.size a ≤ S2x128x128.size a := fun arg8_r0 k1_hw2 => k1_hw2

def k1_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k1_chk3 (arg7_r0 : BitVec 32) : Prop :=
  (∀ a, (k1_off11 arg7_r0) a + S1x1x128.size a ≤ S2x1x128.size a)
theorem k1_off11_inb : ∀ (arg7_r0 : BitVec 32) (k1_hw3 : k1_chk3 arg7_r0), ∀ a, (k1_off11 arg7_r0) a + S1x1x128.size a ≤ S2x1x128.size a := fun arg7_r0 k1_hw3 => k1_hw3

def k1_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k1_cond5 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k1_t1
  let c7_i32_55_r0 : BitVec 32 := 7#32
  let v65_r0 : BitVec 1 := Scalar.cmpi .eq arg5_r0 c7_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k1_off13 (i : grid1.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k1_off14 (arg8_r0 : BitVec 32) : Fin 1 → Nat :=
  let c2_i32_99_r0 : BitVec 32 := 2#32
  let v144_r0 : BitVec 32 := Scalar.remui arg8_r0 c2_i32_99_r0
  ![v144_r0.toNat]
def k1_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k1_cond7 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k1_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k1_off16 (i : grid1.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v71_r0 : BitVec 32 := Scalar.addi v70_r0 v4
  let v145_r0 : BitVec 32 := Scalar.muli c128_i32_100_r0 v71_r0
  let c0_i32_103_r0 : BitVec 32 := 0#32
  ![v145_r0.toNat, 0]
def k1_off17 (arg9_r0 : BitVec 32) : Fin 1 → Nat :=
  let c2_i32_99_r0 : BitVec 32 := 2#32
  let v144_r0 : BitVec 32 := Scalar.remui arg9_r0 c2_i32_99_r0
  ![v144_r0.toNat]

def k1_chk1 (i : grid1.Coords) (k1_t1 : Fin k1_t1_loop.trips) (arg6_r0 : BitVec 32) (arg7_r0 : BitVec 32) (arg8_r0 : BitVec 32) (arg9_r0 : BitVec 32) (arg10_r0 : BitVec 32) : Prop :=
  (∀ (k1_h1 : k1_cond1 i k1_t1 arg10_r0 = 1#1), ∀ a, (k1_off4 arg6_r0) a + S1x1x128.size a ≤ S2x1x128.size a) ∧
  (∀ (k1_h1 : k1_cond1 i k1_t1 arg10_r0 = 1#1), ∀ a, (k1_off5 i arg10_r0) a + S1x128.size a ≤ S1x32768.size a) ∧
  (∀ (k1_h1 : k1_cond1 i k1_t1 arg10_r0 = 1#1), ∀ a, (k1_off6 arg6_r0) a + S1.size a ≤ S2.size a) ∧
  (∀ (k1_h2 : k1_cond2 i k1_t1 arg10_r0 = 1#1), ∀ a, (k1_off7 arg7_r0) a + S1x1x128.size a ≤ S2x1x128.size a) ∧
  (∀ (k1_h2 : k1_cond2 i k1_t1 arg10_r0 = 1#1), ∀ a, (k1_off8 i arg10_r0) a + S1x128.size a ≤ S1x32768.size a) ∧
  (∀ (k1_h2 : k1_cond2 i k1_t1 arg10_r0 = 1#1), ∀ a, (k1_off9 arg7_r0) a + S1.size a ≤ S2.size a) ∧
  (∀ (k1_h5 : k1_cond5 i k1_t1 arg10_r0 = 1#1), ∀ a, (k1_off12 arg8_r0) a + S1x128x128.size a ≤ S2x128x128.size a) ∧
  (∀ (k1_h5 : k1_cond5 i k1_t1 arg10_r0 = 1#1), ∀ a, (k1_off13 i arg10_r0) a + S128x128.size a ≤ S32768x128.size a) ∧
  (∀ (k1_h5 : k1_cond5 i k1_t1 arg10_r0 = 1#1), ∀ a, (k1_off14 arg8_r0) a + S1.size a ≤ S2.size a) ∧
  (∀ (k1_h7 : k1_cond7 i k1_t1 arg10_r0 = 1#1), ∀ a, (k1_off15 arg9_r0) a + S1x128x128.size a ≤ S2x128x128.size a) ∧
  (∀ (k1_h7 : k1_cond7 i k1_t1 arg10_r0 = 1#1), ∀ a, (k1_off16 i arg10_r0) a + S128x128.size a ≤ S32768x128.size a) ∧
  (∀ (k1_h7 : k1_cond7 i k1_t1 arg10_r0 = 1#1), ∀ a, (k1_off17 arg9_r0) a + S1.size a ≤ S2.size a)
theorem k1_off4_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off4 arg6_r0) a + S1x1x128.size a ≤ S2x1x128.size a := fun i k1_t1 arg6_r0 arg7_r0 arg8_r0 arg9_r0 arg10_r0 k1_hw1 k1_h1 => k1_hw1.1 k1_h1
theorem k1_off5_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off5 i arg10_r0) a + S1x128.size a ≤ S1x32768.size a := fun i k1_t1 arg6_r0 arg7_r0 arg8_r0 arg9_r0 arg10_r0 k1_hw1 k1_h1 => k1_hw1.2.1 k1_h1
theorem k1_off6_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off6 arg6_r0) a + S1.size a ≤ S2.size a := fun i k1_t1 arg6_r0 arg7_r0 arg8_r0 arg9_r0 arg10_r0 k1_hw1 k1_h1 => k1_hw1.2.2.1 k1_h1
theorem k1_off7_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off7 arg7_r0) a + S1x1x128.size a ≤ S2x1x128.size a := fun i k1_t1 arg6_r0 arg7_r0 arg8_r0 arg9_r0 arg10_r0 k1_hw1 k1_h2 => k1_hw1.2.2.2.1 k1_h2
theorem k1_off8_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off8 i arg10_r0) a + S1x128.size a ≤ S1x32768.size a := fun i k1_t1 arg6_r0 arg7_r0 arg8_r0 arg9_r0 arg10_r0 k1_hw1 k1_h2 => k1_hw1.2.2.2.2.1 k1_h2
theorem k1_off9_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off9 arg7_r0) a + S1.size a ≤ S2.size a := fun i k1_t1 arg6_r0 arg7_r0 arg8_r0 arg9_r0 arg10_r0 k1_hw1 k1_h2 => k1_hw1.2.2.2.2.2.1 k1_h2
theorem k1_off12_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off12 arg8_r0) a + S1x128x128.size a ≤ S2x128x128.size a := fun i k1_t1 arg6_r0 arg7_r0 arg8_r0 arg9_r0 arg10_r0 k1_hw1 k1_h5 => k1_hw1.2.2.2.2.2.2.1 k1_h5
theorem k1_off13_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off13 i arg10_r0) a + S128x128.size a ≤ S32768x128.size a := fun i k1_t1 arg6_r0 arg7_r0 arg8_r0 arg9_r0 arg10_r0 k1_hw1 k1_h5 => k1_hw1.2.2.2.2.2.2.2.1 k1_h5
theorem k1_off14_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off14 arg8_r0) a + S1.size a ≤ S2.size a := fun i k1_t1 arg6_r0 arg7_r0 arg8_r0 arg9_r0 arg10_r0 k1_hw1 k1_h5 => k1_hw1.2.2.2.2.2.2.2.2.1 k1_h5
theorem k1_off15_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off15 arg9_r0) a + S1x128x128.size a ≤ S2x128x128.size a := fun i k1_t1 arg6_r0 arg7_r0 arg8_r0 arg9_r0 arg10_r0 k1_hw1 k1_h7 => k1_hw1.2.2.2.2.2.2.2.2.2.1 k1_h7
theorem k1_off16_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off16 i arg10_r0) a + S128x128.size a ≤ S32768x128.size a := fun i k1_t1 arg6_r0 arg7_r0 arg8_r0 arg9_r0 arg10_r0 k1_hw1 k1_h7 => k1_hw1.2.2.2.2.2.2.2.2.2.2.1 k1_h7
theorem k1_off17_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off17 arg9_r0) a + S1.size a ≤ S2.size a := fun i k1_t1 arg6_r0 arg7_r0 arg8_r0 arg9_r0 arg10_r0 k1_hw1 k1_h7 => k1_hw1.2.2.2.2.2.2.2.2.2.2.2 k1_h7

def k1_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k1_off19 (i : grid1.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c7_i32_33_r0 : BitVec 32 := 7#32
  let v37_r0 : BitVec 32 := Scalar.select v36_r0 c7_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v38_r0 : BitVec 32 := Scalar.addi v37_r0 v4
  let v55_r0 : BitVec 32 := Scalar.muli c128_i32_47_r0 v38_r0
  let c0_i32_50_r0 : BitVec 32 := 0#32
  ![v55_r0.toNat, 0]

def k1_chk5 (i : grid1.Coords) (v33_4_r0 : BitVec 32) : Prop :=
  (∀ a, (k1_off19 i v33_4_r0) a + S128x128.size a ≤ S32768x128.size a)
theorem k1_off19_inb : ∀ (i : grid1.Coords) (v33_4_r0 : BitVec 32) (k1_hw5 : k1_chk5 i v33_4_r0), ∀ a, (k1_off19 i v33_4_r0) a + S128x128.size a ≤ S32768x128.size a := fun i v33_4_r0 k1_hw5 => k1_hw5

def k1_off20 (v33_3_r0 : BitVec 32) : Fin 1 → Nat :=
  let c2_i32_46_r0 : BitVec 32 := 2#32
  let v54_r0 : BitVec 32 := Scalar.remui v33_3_r0 c2_i32_46_r0
  ![v54_r0.toNat]
def k1_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k1_chk4 (v33_3_r0 : BitVec 32) : Prop :=
  (∀ a, (k1_off18 v33_3_r0) a + S1x128x128.size a ≤ S2x128x128.size a) ∧
  (∀ a, (k1_off20 v33_3_r0) a + S1.size a ≤ S2.size a) ∧
  (∀ a, (k1_off21 v33_3_r0) a + S1x128x128.size a ≤ S2x128x128.size a)
theorem k1_off18_inb : ∀ (v33_3_r0 : BitVec 32) (k1_hw4 : k1_chk4 v33_3_r0), ∀ a, (k1_off18 v33_3_r0) a + S1x128x128.size a ≤ S2x128x128.size a := fun v33_3_r0 k1_hw4 => k1_hw4.1
theorem k1_off20_inb : ∀ (v33_3_r0 : BitVec 32) (k1_hw4 : k1_chk4 v33_3_r0), ∀ a, (k1_off20 v33_3_r0) a + S1.size a ≤ S2.size a := fun v33_3_r0 k1_hw4 => k1_hw4.2.1
theorem k1_off21_inb : ∀ (v33_3_r0 : BitVec 32) (k1_hw4 : k1_chk4 v33_3_r0), ∀ a, (k1_off21 v33_3_r0) a + S1x128x128.size a ≤ S2x128x128.size a := fun v33_3_r0 k1_hw4 => k1_hw4.2.2

abbrev grid2 : Pipeline.Grid := ⟨1, ![4], ![false]⟩

def k2_cond1 (i : grid2.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_20 : BitVec 32 := 0#32
  let v34 : BitVec 1 := Scalar.cmpi .ne v33 c0_i32_20
  v34

def k2_cond2 (i : grid2.Coords) : BitVec 1 :=
  let arg0 : BitVec 32 := BitVec.ofNat 32 (i 0).val
  let c0_i32_21 : BitVec 32 := 0#32
  let v35 : BitVec 1 := Scalar.cmpi .sgt arg0 c0_i32_21
  let v36 : BitVec 32 := Scalar.extui v35
  let c0_i32_22 : BitVec 32 := 0#32
  let v37 : BitVec 1 := Scalar.cmpi .ne v36 c0_i32_22
  v37

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1024x8x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S8x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev grid3 : Pipeline.Grid := ⟨1, ![8], ![false]⟩

def k3_cond1 (i : grid3.Coords) : BitVec 1 :=
  let arg0 : BitVec 32 := BitVec.ofNat 32 (i 0).val
  let c0_i32 : BitVec 32 := 0#32
  let v107 : BitVec 1 := Scalar.cmpi .eq arg0 c0_i32
  let v108 : BitVec 32 := Scalar.extui v107
  let c0_i32_59 : BitVec 32 := 0#32
  let v109 : BitVec 1 := Scalar.cmpi .ne v108 c0_i32_59
  v109

def k3_cond2 (i : grid3.Coords) : BitVec 1 :=
  let arg0 : BitVec 32 := BitVec.ofNat 32 (i 0).val
  let c0_i32_60 : BitVec 32 := 0#32
  let v110 : BitVec 1 := Scalar.cmpi .sgt arg0 c0_i32_60
  let v111 : BitVec 32 := Scalar.extui v110
  let c0_i32_61 : BitVec 32 := 0#32
  let v112 : BitVec 1 := Scalar.cmpi .ne v111 c0_i32_61
  v112

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S512x8x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S16x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S8x16x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S512x8x64 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S512x64 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 1 → Memref sig .tc .vmem S8x64 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev grid4 : Pipeline.Grid := ⟨2, ![4, 2], ![false, false]⟩

def k4_cond1 (i : grid4.Coords) : BitVec 1 :=
  let arg0 : BitVec 32 := BitVec.ofNat 32 (i 0).val
  let c0_i32 : BitVec 32 := 0#32
  let v467 : BitVec 1 := Scalar.cmpi .eq arg0 c0_i32
  let arg1 : BitVec 32 := BitVec.ofNat 32 (i 1).val
  let c0_i32_57 : BitVec 32 := 0#32
  let v468 : BitVec 1 := Scalar.cmpi .eq arg1 c0_i32_57
  let v469 : BitVec 1 := Scalar.andi v467 v468
  let v470 : BitVec 32 := Scalar.extui v469
  let c0_i32_58 : BitVec 32 := 0#32
  let v471 : BitVec 1 := Scalar.cmpi .ne v470 c0_i32_58
  v471

def k4_cond2 (i : grid4.Coords) : BitVec 1 :=
  let arg0 : BitVec 32 := BitVec.ofNat 32 (i 0).val
  let c0_i32 : BitVec 32 := 0#32
  let v467 : BitVec 1 := Scalar.cmpi .eq arg0 c0_i32
  let arg1 : BitVec 32 := BitVec.ofNat 32 (i 1).val
  let c0_i32_57 : BitVec 32 := 0#32
  let v468 : BitVec 1 := Scalar.cmpi .eq arg1 c0_i32_57
  let v469 : BitVec 1 := Scalar.andi v467 v468
  let v_true : BitVec 1 := 1#1
  let v472 : BitVec 1 := Scalar.xori v469 v_true
  let v473 : BitVec 32 := Scalar.extui v472
  let c0_i32_59 : BitVec 32 := 0#32
  let v474 : BitVec 1 := Scalar.cmpi .ne v473 c0_i32_59
  v474

def cc4_transform_0 (i : grid4.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc4_transform_1 (i : grid4.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc4_transform_2 (i : grid4.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_6 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc4_transform_7 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S512x8x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S512x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S512x8x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 1 → Memref sig .tc .vmem S8x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 1 → Memref sig .tc .vmem S8x192x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false, false]

abbrev stage4_6 : Fin 2 → Memref sig .tc .vmem S1x256x512 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, true]

abbrev stage4_7 : Fin 1 → Memref sig .tc .vmem S256x8 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false, false]

abbrev grid5 : Pipeline.Grid := ⟨2, ![4, 1], ![false, false]⟩

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage5_0 : Fin 2 → Memref sig .tc .vmem S1x256x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 1 → Memref sig .tc .vmem S256x8 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, false]

abbrev stage5_2 : Fin 2 → Memref sig .tc .vmem S1x256x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S4x1024x8 : Shape := ⟨3, ![4, 1024, 8]⟩
abbrev S4x3x8192 : Shape := ⟨3, ![4, 3, 8192]⟩
abbrev S4x128x8192 : Shape := ⟨3, ![4, 128, 8192]⟩
abbrev S4x1024x3 : Shape := ⟨3, ![4, 1024, 3]⟩
abbrev S64x3x1x1 : Shape := ⟨4, ![64, 3, 1, 1]⟩
abbrev S64 : Shape := ⟨1, ![64]⟩
abbrev S64x64x1x1 : Shape := ⟨4, ![64, 64, 1, 1]⟩
abbrev S64x3x1x8 : Shape := ⟨4, ![64, 3, 1, 8]⟩
abbrev S256x192x1x8 : Shape := ⟨4, ![256, 192, 1, 8]⟩
abbrev S256 : Shape := ⟨1, ![256]⟩
abbrev S4x8192x3 : Shape := ⟨3, ![4, 8192, 3]⟩
abbrev S4 : Shape := ⟨1, ![4]⟩
abbrev S4x1x1 : Shape := ⟨3, ![4, 1, 1]⟩
abbrev S_ : Shape := ⟨0, ![]⟩
abbrev S4x1024x8x1 : Shape := ⟨4, ![4, 1024, 8, 1]⟩
abbrev S4x1024x8x3 : Shape := ⟨4, ![4, 1024, 8, 3]⟩
abbrev S4x1024x1x3 : Shape := ⟨4, ![4, 1024, 1, 3]⟩
abbrev S4096x8x3 : Shape := ⟨3, ![4096, 8, 3]⟩
abbrev S64x3 : Shape := ⟨2, ![64, 3]⟩
abbrev S4096x8x64 : Shape := ⟨3, ![4096, 8, 64]⟩
abbrev S1x1x64 : Shape := ⟨3, ![1, 1, 64]⟩
abbrev S64x64 : Shape := ⟨2, ![64, 64]⟩
abbrev S4x8192x128 : Shape := ⟨3, ![4, 8192, 128]⟩
abbrev S4x1024x8x128 : Shape := ⟨4, ![4, 1024, 8, 128]⟩
abbrev S4096x8x128 : Shape := ⟨3, ![4096, 8, 128]⟩
abbrev S4096x8x192 : Shape := ⟨3, ![4096, 8, 192]⟩
abbrev S64x3x8 : Shape := ⟨3, ![64, 3, 8]⟩
abbrev S4096x64 : Shape := ⟨2, ![4096, 64]⟩
abbrev S1x64 : Shape := ⟨2, ![1, 64]⟩
abbrev S4096x8x8 : Shape := ⟨3, ![4096, 8, 8]⟩
abbrev S256x192x8 : Shape := ⟨3, ![256, 192, 8]⟩
abbrev S4096x256 : Shape := ⟨2, ![4096, 256]⟩
abbrev S1x256 : Shape := ⟨2, ![1, 256]⟩
abbrev S4x1024x256 : Shape := ⟨3, ![4, 1024, 256]⟩
abbrev S4x256x1024 : Shape := ⟨3, ![4, 256, 1024]⟩
abbrev S4x3x1024 : Shape := ⟨3, ![4, 3, 1024]⟩

abbrev nBuf : Space → Nat
  | .hbm => 385
  | .vmem => 0
  | .smem => 0
  | _ => 0

abbrev hbmTy0_0 (i : Nat) : BufTy := match i % 128 with
  | 0 => ⟨S4x1024x8, .i32⟩
  | 1 => ⟨S4x3x8192, .f32⟩
  | 2 => ⟨S4x128x8192, .f32⟩
  | 3 => ⟨S4x1024x3, .f32⟩
  | 4 => ⟨S64x3x1x1, .f32⟩
  | 5 => ⟨S64, .f32⟩
  | 6 => ⟨S64, .f32⟩
  | 7 => ⟨S64x64x1x1, .f32⟩
  | 8 => ⟨S64, .f32⟩
  | 9 => ⟨S64, .f32⟩
  | 10 => ⟨S64x3x1x8, .f32⟩
  | 11 => ⟨S64, .f32⟩
  | 12 => ⟨S64, .f32⟩
  | 13 => ⟨S64x64x1x1, .f32⟩
  | 14 => ⟨S64, .f32⟩
  | 15 => ⟨S64, .f32⟩
  | 16 => ⟨S64x64x1x1, .f32⟩
  | 17 => ⟨S256x192x1x8, .f32⟩
  | 18 => ⟨S256, .f32⟩
  | 19 => ⟨S256, .f32⟩
  | 20 => ⟨S4x8192x3, .f32⟩
  | 21 => ⟨S4, .i32⟩
  | 22 => ⟨S4x1x1, .i32⟩
  | 23 => ⟨S_, .i32⟩
  | 24 => ⟨S4x1x1, .i32⟩
  | 25 => ⟨S4x1x1, .i32⟩
  | 26 => ⟨S4x1024x8, .i32⟩
  | 27 => ⟨S4x1024x8, .i32⟩
  | 28 => ⟨S_, .i32⟩
  | 29 => ⟨S4x1024x8, .i32⟩
  | 30 => ⟨S4x1024x8, .i1⟩
  | 31 => ⟨S_, .i32⟩
  | 32 => ⟨S4x1024x8, .i32⟩
  | 33 => ⟨S4x1024x8, .i32⟩
  | 34 => ⟨S4x1024x8, .i32⟩
  | 35 => ⟨S4x1024x8x1, .i32⟩
  | 36 => ⟨S4x1024x8x3, .f32⟩
  | 37 => ⟨S4x1024x1x3, .f32⟩
  | 38 => ⟨S4x1024x8x3, .f32⟩
  | 39 => ⟨S4x1024x8x3, .f32⟩
  | 40 => ⟨S4096x8x3, .f32⟩
  | 41 => ⟨S64x3, .f32⟩
  | 42 => ⟨S4096x8x64, .f32⟩
  | 43 => ⟨S_, .f32⟩
  | 44 => ⟨S64, .f32⟩
  | 45 => ⟨S1x1x64, .f32⟩
  | 46 => ⟨S_, .f32⟩
  | 47 => ⟨S1x1x64, .f32⟩
  | 48 => ⟨S1x1x64, .f32⟩
  | 49 => ⟨S_, .i32⟩
  | 50 => ⟨S_, .f32⟩
  | 51 => ⟨S64, .f32⟩
  | 52 => ⟨S1x1x64, .f32⟩
  | 53 => ⟨S_, .f32⟩
  | 54 => ⟨S1x1x64, .f32⟩
  | 55 => ⟨S1x1x64, .f32⟩
  | 56 => ⟨S4096x8x64, .f32⟩
  | 57 => ⟨S4096x8x64, .f32⟩
  | 58 => ⟨S4096x8x64, .f32⟩
  | 59 => ⟨S_, .f32⟩
  | 60 => ⟨S_, .f32⟩
  | 61 => ⟨S_, .f32⟩
  | 62 => ⟨S_, .f32⟩
  | 63 => ⟨S64, .f32⟩
  | 64 => ⟨S1x1x64, .f32⟩
  | 65 => ⟨S1x1x64, .f32⟩
  | 66 => ⟨S1x1x64, .f32⟩
  | 67 => ⟨S_, .f32⟩
  | 68 => ⟨S_, .i1⟩
  | 69 => ⟨S_, .f32⟩
  | 70 => ⟨S_, .f32⟩
  | 71 => ⟨S1x1x64, .f32⟩
  | 72 => ⟨S1x1x64, .f32⟩
  | 73 => ⟨S4096x8x64, .f32⟩
  | 74 => ⟨S4096x8x64, .f32⟩
  | 75 => ⟨S1x1x64, .f32⟩
  | 76 => ⟨S4096x8x64, .f32⟩
  | 77 => ⟨S4096x8x64, .f32⟩
  | 78 => ⟨S_, .f32⟩
  | 79 => ⟨S1x1x64, .f32⟩
  | 80 => ⟨S1x1x64, .f32⟩
  | 81 => ⟨S1x1x64, .f32⟩
  | 82 => ⟨S4096x8x64, .f32⟩
  | 83 => ⟨S4096x8x64, .f32⟩
  | 84 => ⟨S1x1x64, .f32⟩
  | 85 => ⟨S4096x8x64, .f32⟩
  | 86 => ⟨S4096x8x64, .f32⟩
  | 87 => ⟨S_, .f32⟩
  | 88 => ⟨S_, .f32⟩
  | 89 => ⟨S4096x8x64, .f32⟩
  | 90 => ⟨S4096x8x64, .i1⟩
  | 91 => ⟨S_, .f32⟩
  | 92 => ⟨S4096x8x64, .f32⟩
  | 93 => ⟨S4096x8x64, .i1⟩
  | 94 => ⟨S_, .f32⟩
  | 95 => ⟨S_, .f32⟩
  | 96 => ⟨S4096x8x64, .f32⟩
  | 97 => ⟨S4096x8x64, .f32⟩
  | 98 => ⟨S4096x8x64, .f32⟩
  | 99 => ⟨S_, .f32⟩
  | 100 => ⟨S4096x8x64, .f32⟩
  | 101 => ⟨S4096x8x64, .f32⟩
  | 102 => ⟨S4096x8x64, .f32⟩
  | 103 => ⟨S_, .f32⟩
  | 104 => ⟨S4096x8x64, .f32⟩
  | 105 => ⟨S4096x8x64, .f32⟩
  | 106 => ⟨S64x64, .f32⟩
  | 107 => ⟨S4096x8x64, .f32⟩
  | 108 => ⟨S_, .f32⟩
  | 109 => ⟨S64, .f32⟩
  | 110 => ⟨S1x1x64, .f32⟩
  | 111 => ⟨S_, .f32⟩
  | 112 => ⟨S1x1x64, .f32⟩
  | 113 => ⟨S1x1x64, .f32⟩
  | 114 => ⟨S_, .i32⟩
  | 115 => ⟨S_, .f32⟩
  | 116 => ⟨S64, .f32⟩
  | 117 => ⟨S1x1x64, .f32⟩
  | 118 => ⟨S_, .f32⟩
  | 119 => ⟨S1x1x64, .f32⟩
  | 120 => ⟨S1x1x64, .f32⟩
  | 121 => ⟨S4096x8x64, .f32⟩
  | 122 => ⟨S4096x8x64, .f32⟩
  | 123 => ⟨S4096x8x64, .f32⟩
  | 124 => ⟨S_, .f32⟩
  | 125 => ⟨S_, .f32⟩
  | 126 => ⟨S_, .f32⟩
  | 127 => ⟨S_, .f32⟩
  | _ => ⟨S4x1024x8, .i32⟩

abbrev hbmTy0_1 (i : Nat) : BufTy := match i % 128 with
  | 0 => ⟨S64, .f32⟩
  | 1 => ⟨S1x1x64, .f32⟩
  | 2 => ⟨S1x1x64, .f32⟩
  | 3 => ⟨S1x1x64, .f32⟩
  | 4 => ⟨S_, .f32⟩
  | 5 => ⟨S_, .i1⟩
  | 6 => ⟨S_, .f32⟩
  | 7 => ⟨S_, .f32⟩
  | 8 => ⟨S1x1x64, .f32⟩
  | 9 => ⟨S1x1x64, .f32⟩
  | 10 => ⟨S4096x8x64, .f32⟩
  | 11 => ⟨S4096x8x64, .f32⟩
  | 12 => ⟨S1x1x64, .f32⟩
  | 13 => ⟨S4096x8x64, .f32⟩
  | 14 => ⟨S4096x8x64, .f32⟩
  | 15 => ⟨S_, .f32⟩
  | 16 => ⟨S1x1x64, .f32⟩
  | 17 => ⟨S1x1x64, .f32⟩
  | 18 => ⟨S1x1x64, .f32⟩
  | 19 => ⟨S4096x8x64, .f32⟩
  | 20 => ⟨S4096x8x64, .f32⟩
  | 21 => ⟨S1x1x64, .f32⟩
  | 22 => ⟨S4096x8x64, .f32⟩
  | 23 => ⟨S4096x8x64, .f32⟩
  | 24 => ⟨S_, .f32⟩
  | 25 => ⟨S_, .f32⟩
  | 26 => ⟨S4096x8x64, .f32⟩
  | 27 => ⟨S4096x8x64, .i1⟩
  | 28 => ⟨S_, .f32⟩
  | 29 => ⟨S4096x8x64, .f32⟩
  | 30 => ⟨S4096x8x64, .i1⟩
  | 31 => ⟨S_, .f32⟩
  | 32 => ⟨S_, .f32⟩
  | 33 => ⟨S4096x8x64, .f32⟩
  | 34 => ⟨S4096x8x64, .f32⟩
  | 35 => ⟨S4096x8x64, .f32⟩
  | 36 => ⟨S_, .f32⟩
  | 37 => ⟨S4096x8x64, .f32⟩
  | 38 => ⟨S4096x8x64, .f32⟩
  | 39 => ⟨S4096x8x64, .f32⟩
  | 40 => ⟨S_, .f32⟩
  | 41 => ⟨S4096x8x64, .f32⟩
  | 42 => ⟨S4096x8x64, .f32⟩
  | 43 => ⟨S4x8192x128, .f32⟩
  | 44 => ⟨S_, .i32⟩
  | 45 => ⟨S4x1024x8, .i32⟩
  | 46 => ⟨S4x1024x8, .i1⟩
  | 47 => ⟨S_, .i32⟩
  | 48 => ⟨S4x1024x8, .i32⟩
  | 49 => ⟨S4x1024x8, .i32⟩
  | 50 => ⟨S4x1024x8, .i32⟩
  | 51 => ⟨S4x1024x8x1, .i32⟩
  | 52 => ⟨S4x1024x8x128, .f32⟩
  | 53 => ⟨S4096x8x128, .f32⟩
  | 54 => ⟨S4096x8x192, .f32⟩
  | 55 => ⟨S64x3x8, .f32⟩
  | 56 => ⟨S4096x64, .f32⟩
  | 57 => ⟨S_, .f32⟩
  | 58 => ⟨S64, .f32⟩
  | 59 => ⟨S1x64, .f32⟩
  | 60 => ⟨S_, .f32⟩
  | 61 => ⟨S1x64, .f32⟩
  | 62 => ⟨S1x64, .f32⟩
  | 63 => ⟨S_, .i32⟩
  | 64 => ⟨S_, .f32⟩
  | 65 => ⟨S64, .f32⟩
  | 66 => ⟨S1x64, .f32⟩
  | 67 => ⟨S_, .f32⟩
  | 68 => ⟨S1x64, .f32⟩
  | 69 => ⟨S1x64, .f32⟩
  | 70 => ⟨S4096x64, .f32⟩
  | 71 => ⟨S4096x64, .f32⟩
  | 72 => ⟨S4096x64, .f32⟩
  | 73 => ⟨S_, .f32⟩
  | 74 => ⟨S_, .f32⟩
  | 75 => ⟨S_, .f32⟩
  | 76 => ⟨S_, .f32⟩
  | 77 => ⟨S64, .f32⟩
  | 78 => ⟨S1x64, .f32⟩
  | 79 => ⟨S1x64, .f32⟩
  | 80 => ⟨S1x64, .f32⟩
  | 81 => ⟨S_, .f32⟩
  | 82 => ⟨S_, .i1⟩
  | 83 => ⟨S_, .f32⟩
  | 84 => ⟨S_, .f32⟩
  | 85 => ⟨S1x64, .f32⟩
  | 86 => ⟨S1x64, .f32⟩
  | 87 => ⟨S4096x64, .f32⟩
  | 88 => ⟨S4096x64, .f32⟩
  | 89 => ⟨S1x64, .f32⟩
  | 90 => ⟨S4096x64, .f32⟩
  | 91 => ⟨S4096x64, .f32⟩
  | 92 => ⟨S_, .f32⟩
  | 93 => ⟨S1x64, .f32⟩
  | 94 => ⟨S1x64, .f32⟩
  | 95 => ⟨S1x64, .f32⟩
  | 96 => ⟨S4096x64, .f32⟩
  | 97 => ⟨S4096x64, .f32⟩
  | 98 => ⟨S1x64, .f32⟩
  | 99 => ⟨S4096x64, .f32⟩
  | 100 => ⟨S4096x64, .f32⟩
  | 101 => ⟨S_, .f32⟩
  | 102 => ⟨S_, .f32⟩
  | 103 => ⟨S4096x64, .f32⟩
  | 104 => ⟨S4096x64, .i1⟩
  | 105 => ⟨S_, .f32⟩
  | 106 => ⟨S4096x64, .f32⟩
  | 107 => ⟨S4096x64, .i1⟩
  | 108 => ⟨S_, .f32⟩
  | 109 => ⟨S_, .f32⟩
  | 110 => ⟨S4096x64, .f32⟩
  | 111 => ⟨S4096x64, .f32⟩
  | 112 => ⟨S4096x64, .f32⟩
  | 113 => ⟨S_, .f32⟩
  | 114 => ⟨S4096x64, .f32⟩
  | 115 => ⟨S4096x64, .f32⟩
  | 116 => ⟨S4096x64, .f32⟩
  | 117 => ⟨S_, .f32⟩
  | 118 => ⟨S4096x64, .f32⟩
  | 119 => ⟨S4096x64, .f32⟩
  | 120 => ⟨S64x64, .f32⟩
  | 121 => ⟨S4096x64, .f32⟩
  | 122 => ⟨S_, .f32⟩
  | 123 => ⟨S64, .f32⟩
  | 124 => ⟨S1x64, .f32⟩
  | 125 => ⟨S_, .f32⟩
  | 126 => ⟨S1x64, .f32⟩
  | 127 => ⟨S1x64, .f32⟩
  | _ => ⟨S4x1024x8, .i32⟩

abbrev hbmTy0_2 (i : Nat) : BufTy := match i % 128 with
  | 0 => ⟨S_, .i32⟩
  | 1 => ⟨S_, .f32⟩
  | 2 => ⟨S64, .f32⟩
  | 3 => ⟨S1x64, .f32⟩
  | 4 => ⟨S_, .f32⟩
  | 5 => ⟨S1x64, .f32⟩
  | 6 => ⟨S1x64, .f32⟩
  | 7 => ⟨S4096x64, .f32⟩
  | 8 => ⟨S4096x64, .f32⟩
  | 9 => ⟨S4096x64, .f32⟩
  | 10 => ⟨S_, .f32⟩
  | 11 => ⟨S_, .f32⟩
  | 12 => ⟨S_, .f32⟩
  | 13 => ⟨S_, .f32⟩
  | 14 => ⟨S64, .f32⟩
  | 15 => ⟨S1x64, .f32⟩
  | 16 => ⟨S1x64, .f32⟩
  | 17 => ⟨S1x64, .f32⟩
  | 18 => ⟨S_, .f32⟩
  | 19 => ⟨S_, .i1⟩
  | 20 => ⟨S_, .f32⟩
  | 21 => ⟨S_, .f32⟩
  | 22 => ⟨S1x64, .f32⟩
  | 23 => ⟨S1x64, .f32⟩
  | 24 => ⟨S4096x64, .f32⟩
  | 25 => ⟨S4096x64, .f32⟩
  | 26 => ⟨S1x64, .f32⟩
  | 27 => ⟨S4096x64, .f32⟩
  | 28 => ⟨S4096x64, .f32⟩
  | 29 => ⟨S_, .f32⟩
  | 30 => ⟨S1x64, .f32⟩
  | 31 => ⟨S1x64, .f32⟩
  | 32 => ⟨S1x64, .f32⟩
  | 33 => ⟨S4096x64, .f32⟩
  | 34 => ⟨S4096x64, .f32⟩
  | 35 => ⟨S1x64, .f32⟩
  | 36 => ⟨S4096x64, .f32⟩
  | 37 => ⟨S4096x64, .f32⟩
  | 38 => ⟨S_, .f32⟩
  | 39 => ⟨S_, .f32⟩
  | 40 => ⟨S4096x64, .f32⟩
  | 41 => ⟨S4096x64, .i1⟩
  | 42 => ⟨S_, .f32⟩
  | 43 => ⟨S4096x64, .f32⟩
  | 44 => ⟨S4096x64, .i1⟩
  | 45 => ⟨S_, .f32⟩
  | 46 => ⟨S_, .f32⟩
  | 47 => ⟨S4096x64, .f32⟩
  | 48 => ⟨S4096x64, .f32⟩
  | 49 => ⟨S4096x64, .f32⟩
  | 50 => ⟨S_, .f32⟩
  | 51 => ⟨S4096x64, .f32⟩
  | 52 => ⟨S4096x64, .f32⟩
  | 53 => ⟨S4096x64, .f32⟩
  | 54 => ⟨S_, .f32⟩
  | 55 => ⟨S4096x64, .f32⟩
  | 56 => ⟨S4096x64, .f32⟩
  | 57 => ⟨S64x64, .f32⟩
  | 58 => ⟨S4096x64, .f32⟩
  | 59 => ⟨S4096x8x8, .f32⟩
  | 60 => ⟨S4096x8x192, .f32⟩
  | 61 => ⟨S256x192x8, .f32⟩
  | 62 => ⟨S4096x256, .f32⟩
  | 63 => ⟨S_, .f32⟩
  | 64 => ⟨S256, .f32⟩
  | 65 => ⟨S1x256, .f32⟩
  | 66 => ⟨S_, .f32⟩
  | 67 => ⟨S1x256, .f32⟩
  | 68 => ⟨S1x256, .f32⟩
  | 69 => ⟨S_, .i32⟩
  | 70 => ⟨S_, .f32⟩
  | 71 => ⟨S256, .f32⟩
  | 72 => ⟨S1x256, .f32⟩
  | 73 => ⟨S_, .f32⟩
  | 74 => ⟨S1x256, .f32⟩
  | 75 => ⟨S1x256, .f32⟩
  | 76 => ⟨S4096x256, .f32⟩
  | 77 => ⟨S4096x256, .f32⟩
  | 78 => ⟨S4096x256, .f32⟩
  | 79 => ⟨S_, .f32⟩
  | 80 => ⟨S_, .f32⟩
  | 81 => ⟨S_, .f32⟩
  | 82 => ⟨S_, .f32⟩
  | 83 => ⟨S256, .f32⟩
  | 84 => ⟨S1x256, .f32⟩
  | 85 => ⟨S1x256, .f32⟩
  | 86 => ⟨S1x256, .f32⟩
  | 87 => ⟨S_, .f32⟩
  | 88 => ⟨S_, .i1⟩
  | 89 => ⟨S_, .f32⟩
  | 90 => ⟨S_, .f32⟩
  | 91 => ⟨S1x256, .f32⟩
  | 92 => ⟨S1x256, .f32⟩
  | 93 => ⟨S4096x256, .f32⟩
  | 94 => ⟨S4096x256, .f32⟩
  | 95 => ⟨S1x256, .f32⟩
  | 96 => ⟨S4096x256, .f32⟩
  | 97 => ⟨S4096x256, .f32⟩
  | 98 => ⟨S_, .f32⟩
  | 99 => ⟨S1x256, .f32⟩
  | 100 => ⟨S1x256, .f32⟩
  | 101 => ⟨S1x256, .f32⟩
  | 102 => ⟨S4096x256, .f32⟩
  | 103 => ⟨S4096x256, .f32⟩
  | 104 => ⟨S1x256, .f32⟩
  | 105 => ⟨S4096x256, .f32⟩
  | 106 => ⟨S4096x256, .f32⟩
  | 107 => ⟨S_, .f32⟩
  | 108 => ⟨S_, .f32⟩
  | 109 => ⟨S4096x256, .f32⟩
  | 110 => ⟨S4096x256, .i1⟩
  | 111 => ⟨S_, .f32⟩
  | 112 => ⟨S4096x256, .f32⟩
  | 113 => ⟨S4096x256, .i1⟩
  | 114 => ⟨S_, .f32⟩
  | 115 => ⟨S_, .f32⟩
  | 116 => ⟨S4096x256, .f32⟩
  | 117 => ⟨S4096x256, .f32⟩
  | 118 => ⟨S4096x256, .f32⟩
  | 119 => ⟨S_, .f32⟩
  | 120 => ⟨S4096x256, .f32⟩
  | 121 => ⟨S4096x256, .f32⟩
  | 122 => ⟨S4096x256, .f32⟩
  | 123 => ⟨S_, .f32⟩
  | 124 => ⟨S4096x256, .f32⟩
  | 125 => ⟨S4096x256, .f32⟩
  | 126 => ⟨S4x1024x256, .f32⟩
  | 127 => ⟨S4x256x1024, .f32⟩
  | _ => ⟨S4x1024x8, .i32⟩

abbrev hbmTy0_3 (i : Nat) : BufTy := match i % 128 with
  | 0 => ⟨S4x3x1024, .f32⟩
  | _ => ⟨S4x1024x8, .i32⟩

abbrev hbmTy (i : Nat) : BufTy := match i / 128 with
  | 0 => hbmTy0_0 i
  | 1 => hbmTy0_1 i
  | 2 => hbmTy0_2 i
  | 3 => hbmTy0_3 i
  | _ => ⟨S4x1024x8, .i32⟩

abbrev bufTy : (tb : Table) → Fin (tcTables nBuf tb) → BufTy
  | .hbm, ⟨i, _⟩ => hbmTy i
  | _, _ => ⟨S4x1024x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_c : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_c_0 : Ref sig .tc := ⟨.hbm, 28, rfl⟩
abbrev main_v7 : Ref sig .tc := ⟨.hbm, 29, rfl⟩
abbrev main_v8 : Ref sig .tc := ⟨.hbm, 30, rfl⟩
abbrev main_c_1 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst : Ref sig .tc := ⟨.hbm, 43, rfl⟩
abbrev main_v20 : Ref sig .tc := ⟨.hbm, 44, rfl⟩
abbrev main_v21 : Ref sig .tc := ⟨.hbm, 45, rfl⟩
abbrev main_cst_2 : Ref sig .tc := ⟨.hbm, 46, rfl⟩
abbrev main_v22 : Ref sig .tc := ⟨.hbm, 47, rfl⟩
abbrev main_v23 : Ref sig .tc := ⟨.hbm, 48, rfl⟩
abbrev main_c_3 : Ref sig .tc := ⟨.hbm, 49, rfl⟩
abbrev main_call0_cst : Ref sig .tc := ⟨.hbm, 50, rfl⟩
abbrev main_call0_v0 : Ref sig .tc := ⟨.hbm, 51, rfl⟩
abbrev main_call0_v1 : Ref sig .tc := ⟨.hbm, 52, rfl⟩
abbrev main_call0_cst_0 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_v6 : Ref sig .tc := ⟨.hbm, 58, rfl⟩
abbrev main_call0_v7 : Ref sig .tc := ⟨.hbm, 59, rfl⟩
abbrev main_call0_cst_1 : Ref sig .tc := ⟨.hbm, 60, rfl⟩
abbrev main_call0_v8 : Ref sig .tc := ⟨.hbm, 61, rfl⟩
abbrev main_call0_cst_2 : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_call0_v12 : Ref sig .tc := ⟨.hbm, 66, rfl⟩
abbrev main_call0_cst_3 : Ref sig .tc := ⟨.hbm, 67, rfl⟩
abbrev main_call0_v13 : Ref sig .tc := ⟨.hbm, 68, rfl⟩
abbrev main_call0_cst_4 : Ref sig .tc := ⟨.hbm, 69, rfl⟩
abbrev main_call0_call0_v0 : Ref sig .tc := ⟨.hbm, 70, rfl⟩
abbrev main_call0_call0_v1 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_cst_4 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_call1_cst : Ref sig .tc := ⟨.hbm, 87, rfl⟩
abbrev main_call1_call0_cst : Ref sig .tc := ⟨.hbm, 88, rfl⟩
abbrev main_call1_call0_v0 : Ref sig .tc := ⟨.hbm, 89, rfl⟩
abbrev main_call1_call0_v1 : Ref sig .tc := ⟨.hbm, 90, rfl⟩
abbrev main_call1_call0_cst_0 : Ref sig .tc := ⟨.hbm, 91, rfl⟩
abbrev main_call1_call0_v2 : Ref sig .tc := ⟨.hbm, 92, rfl⟩
abbrev main_call1_call0_v3 : Ref sig .tc := ⟨.hbm, 93, rfl⟩
abbrev main_call1_call0_cst_1 : Ref sig .tc := ⟨.hbm, 94, rfl⟩
abbrev main_call1_call0_call0_v0 : Ref sig .tc := ⟨.hbm, 95, rfl⟩
abbrev main_call1_call0_call0_v1 : Ref sig .tc := ⟨.hbm, 96, rfl⟩
abbrev main_call1_call0_v4 : Ref sig .tc := ⟨.hbm, 97, rfl⟩
abbrev main_call1_call0_v5 : Ref sig .tc := ⟨.hbm, 98, rfl⟩
abbrev main_call1_call0_v6 : Ref sig .tc := ⟨.hbm, 99, rfl⟩
abbrev main_call1_call0_v7 : Ref sig .tc := ⟨.hbm, 100, rfl⟩
abbrev main_call1_call0_v8 : Ref sig .tc := ⟨.hbm, 101, rfl⟩
abbrev main_call1_v0 : Ref sig .tc := ⟨.hbm, 102, rfl⟩
abbrev main_call1_cst_0 : Ref sig .tc := ⟨.hbm, 103, rfl⟩
abbrev main_call1_v1 : Ref sig .tc := ⟨.hbm, 104, rfl⟩
abbrev main_v38 : Ref sig .tc := ⟨.hbm, 105, rfl⟩
abbrev main_v39 : Ref sig .tc := ⟨.hbm, 106, rfl⟩
abbrev main_v40 : Ref sig .tc := ⟨.hbm, 107, rfl⟩
abbrev main_cst_5 : Ref sig .tc := ⟨.hbm, 108, rfl⟩
abbrev main_v41 : Ref sig .tc := ⟨.hbm, 109, rfl⟩
abbrev main_v42 : Ref sig .tc := ⟨.hbm, 110, rfl⟩
abbrev main_cst_6 : Ref sig .tc := ⟨.hbm, 111, rfl⟩
abbrev main_v43 : Ref sig .tc := ⟨.hbm, 112, rfl⟩
abbrev main_v44 : Ref sig .tc := ⟨.hbm, 113, rfl⟩
abbrev main_c_7 : Ref sig .tc := ⟨.hbm, 114, rfl⟩
abbrev main_call2_cst : Ref sig .tc := ⟨.hbm, 115, rfl⟩
abbrev main_call2_v0 : Ref sig .tc := ⟨.hbm, 116, rfl⟩
abbrev main_call2_v1 : Ref sig .tc := ⟨.hbm, 117, rfl⟩
abbrev main_call2_cst_0 : Ref sig .tc := ⟨.hbm, 118, rfl⟩
abbrev main_call2_v2 : Ref sig .tc := ⟨.hbm, 119, rfl⟩
abbrev main_call2_v3 : Ref sig .tc := ⟨.hbm, 120, rfl⟩
abbrev main_call2_v4 : Ref sig .tc := ⟨.hbm, 121, rfl⟩
abbrev main_call2_v5 : Ref sig .tc := ⟨.hbm, 122, rfl⟩
abbrev main_call2_v6 : Ref sig .tc := ⟨.hbm, 123, rfl⟩
abbrev main_call2_v7 : Ref sig .tc := ⟨.hbm, 124, rfl⟩
abbrev main_call2_cst_1 : Ref sig .tc := ⟨.hbm, 125, rfl⟩
abbrev main_call2_v8 : Ref sig .tc := ⟨.hbm, 126, rfl⟩
abbrev main_call2_cst_2 : Ref sig .tc := ⟨.hbm, 127, rfl⟩
abbrev main_call2_v9 : Ref sig .tc := ⟨.hbm, 128, rfl⟩
abbrev main_call2_v10 : Ref sig .tc := ⟨.hbm, 129, rfl⟩
abbrev main_call2_v11 : Ref sig .tc := ⟨.hbm, 130, rfl⟩
abbrev main_call2_v12 : Ref sig .tc := ⟨.hbm, 131, rfl⟩
abbrev main_call2_cst_3 : Ref sig .tc := ⟨.hbm, 132, rfl⟩
abbrev main_call2_v13 : Ref sig .tc := ⟨.hbm, 133, rfl⟩
abbrev main_call2_cst_4 : Ref sig .tc := ⟨.hbm, 134, rfl⟩
abbrev main_call2_call0_v0 : Ref sig .tc := ⟨.hbm, 135, rfl⟩
abbrev main_call2_call0_v1 : Ref sig .tc := ⟨.hbm, 136, rfl⟩
abbrev main_v45 : Ref sig .tc := ⟨.hbm, 137, rfl⟩
abbrev main_v46 : Ref sig .tc := ⟨.hbm, 138, rfl⟩
abbrev main_v47 : Ref sig .tc := ⟨.hbm, 139, rfl⟩
abbrev main_v48 : Ref sig .tc := ⟨.hbm, 140, rfl⟩
abbrev main_v49 : Ref sig .tc := ⟨.hbm, 141, rfl⟩
abbrev main_v50 : Ref sig .tc := ⟨.hbm, 142, rfl⟩
abbrev main_cst_8 : Ref sig .tc := ⟨.hbm, 143, rfl⟩
abbrev main_v51 : Ref sig .tc := ⟨.hbm, 144, rfl⟩
abbrev main_v52 : Ref sig .tc := ⟨.hbm, 145, rfl⟩
abbrev main_v53 : Ref sig .tc := ⟨.hbm, 146, rfl⟩
abbrev main_v54 : Ref sig .tc := ⟨.hbm, 147, rfl⟩
abbrev main_v55 : Ref sig .tc := ⟨.hbm, 148, rfl⟩
abbrev main_v56 : Ref sig .tc := ⟨.hbm, 149, rfl⟩
abbrev main_v57 : Ref sig .tc := ⟨.hbm, 150, rfl⟩
abbrev main_v58 : Ref sig .tc := ⟨.hbm, 151, rfl⟩
abbrev main_call3_cst : Ref sig .tc := ⟨.hbm, 152, rfl⟩
abbrev main_call3_call0_cst : Ref sig .tc := ⟨.hbm, 153, rfl⟩
abbrev main_call3_call0_v0 : Ref sig .tc := ⟨.hbm, 154, rfl⟩
abbrev main_call3_call0_v1 : Ref sig .tc := ⟨.hbm, 155, rfl⟩
abbrev main_call3_call0_cst_0 : Ref sig .tc := ⟨.hbm, 156, rfl⟩
abbrev main_call3_call0_v2 : Ref sig .tc := ⟨.hbm, 157, rfl⟩
abbrev main_call3_call0_v3 : Ref sig .tc := ⟨.hbm, 158, rfl⟩
abbrev main_call3_call0_cst_1 : Ref sig .tc := ⟨.hbm, 159, rfl⟩
abbrev main_call3_call0_call0_v0 : Ref sig .tc := ⟨.hbm, 160, rfl⟩
abbrev main_call3_call0_call0_v1 : Ref sig .tc := ⟨.hbm, 161, rfl⟩
abbrev main_call3_call0_v4 : Ref sig .tc := ⟨.hbm, 162, rfl⟩
abbrev main_call3_call0_v5 : Ref sig .tc := ⟨.hbm, 163, rfl⟩
abbrev main_call3_call0_v6 : Ref sig .tc := ⟨.hbm, 164, rfl⟩
abbrev main_call3_call0_v7 : Ref sig .tc := ⟨.hbm, 165, rfl⟩
abbrev main_call3_call0_v8 : Ref sig .tc := ⟨.hbm, 166, rfl⟩
abbrev main_call3_v0 : Ref sig .tc := ⟨.hbm, 167, rfl⟩
abbrev main_call3_cst_0 : Ref sig .tc := ⟨.hbm, 168, rfl⟩
abbrev main_call3_v1 : Ref sig .tc := ⟨.hbm, 169, rfl⟩
abbrev main_v59 : Ref sig .tc := ⟨.hbm, 170, rfl⟩
abbrev main_v60 : Ref sig .tc := ⟨.hbm, 171, rfl⟩
abbrev main_c_9 : Ref sig .tc := ⟨.hbm, 172, rfl⟩
abbrev main_v61 : Ref sig .tc := ⟨.hbm, 173, rfl⟩
abbrev main_v62 : Ref sig .tc := ⟨.hbm, 174, rfl⟩
abbrev main_c_10 : Ref sig .tc := ⟨.hbm, 175, rfl⟩
abbrev main_v63 : Ref sig .tc := ⟨.hbm, 176, rfl⟩
abbrev main_v64 : Ref sig .tc := ⟨.hbm, 177, rfl⟩
abbrev main_v65 : Ref sig .tc := ⟨.hbm, 178, rfl⟩
abbrev main_v66 : Ref sig .tc := ⟨.hbm, 179, rfl⟩
abbrev main_v67 : Ref sig .tc := ⟨.hbm, 180, rfl⟩
abbrev main_v68 : Ref sig .tc := ⟨.hbm, 181, rfl⟩
abbrev main_v69 : Ref sig .tc := ⟨.hbm, 182, rfl⟩
abbrev main_v70 : Ref sig .tc := ⟨.hbm, 183, rfl⟩
abbrev main_v71 : Ref sig .tc := ⟨.hbm, 184, rfl⟩
abbrev main_cst_11 : Ref sig .tc := ⟨.hbm, 185, rfl⟩
abbrev main_v72 : Ref sig .tc := ⟨.hbm, 186, rfl⟩
abbrev main_v73 : Ref sig .tc := ⟨.hbm, 187, rfl⟩
abbrev main_cst_12 : Ref sig .tc := ⟨.hbm, 188, rfl⟩
abbrev main_v74 : Ref sig .tc := ⟨.hbm, 189, rfl⟩
abbrev main_v75 : Ref sig .tc := ⟨.hbm, 190, rfl⟩
abbrev main_c_13 : Ref sig .tc := ⟨.hbm, 191, rfl⟩
abbrev main_call4_cst : Ref sig .tc := ⟨.hbm, 192, rfl⟩
abbrev main_call4_v0 : Ref sig .tc := ⟨.hbm, 193, rfl⟩
abbrev main_call4_v1 : Ref sig .tc := ⟨.hbm, 194, rfl⟩
abbrev main_call4_cst_0 : Ref sig .tc := ⟨.hbm, 195, rfl⟩
abbrev main_call4_v2 : Ref sig .tc := ⟨.hbm, 196, rfl⟩
abbrev main_call4_v3 : Ref sig .tc := ⟨.hbm, 197, rfl⟩
abbrev main_call4_v4 : Ref sig .tc := ⟨.hbm, 198, rfl⟩
abbrev main_call4_v5 : Ref sig .tc := ⟨.hbm, 199, rfl⟩
abbrev main_call4_v6 : Ref sig .tc := ⟨.hbm, 200, rfl⟩
abbrev main_call4_v7 : Ref sig .tc := ⟨.hbm, 201, rfl⟩
abbrev main_call4_cst_1 : Ref sig .tc := ⟨.hbm, 202, rfl⟩
abbrev main_call4_v8 : Ref sig .tc := ⟨.hbm, 203, rfl⟩
abbrev main_call4_cst_2 : Ref sig .tc := ⟨.hbm, 204, rfl⟩
abbrev main_call4_v9 : Ref sig .tc := ⟨.hbm, 205, rfl⟩
abbrev main_call4_v10 : Ref sig .tc := ⟨.hbm, 206, rfl⟩
abbrev main_call4_v11 : Ref sig .tc := ⟨.hbm, 207, rfl⟩
abbrev main_call4_v12 : Ref sig .tc := ⟨.hbm, 208, rfl⟩
abbrev main_call4_cst_3 : Ref sig .tc := ⟨.hbm, 209, rfl⟩
abbrev main_call4_v13 : Ref sig .tc := ⟨.hbm, 210, rfl⟩
abbrev main_call4_cst_4 : Ref sig .tc := ⟨.hbm, 211, rfl⟩
abbrev main_call4_call0_v0 : Ref sig .tc := ⟨.hbm, 212, rfl⟩
abbrev main_call4_call0_v1 : Ref sig .tc := ⟨.hbm, 213, rfl⟩
abbrev main_v76 : Ref sig .tc := ⟨.hbm, 214, rfl⟩
abbrev main_v77 : Ref sig .tc := ⟨.hbm, 215, rfl⟩
abbrev main_v78 : Ref sig .tc := ⟨.hbm, 216, rfl⟩
abbrev main_v79 : Ref sig .tc := ⟨.hbm, 217, rfl⟩
abbrev main_v80 : Ref sig .tc := ⟨.hbm, 218, rfl⟩
abbrev main_v81 : Ref sig .tc := ⟨.hbm, 219, rfl⟩
abbrev main_cst_14 : Ref sig .tc := ⟨.hbm, 220, rfl⟩
abbrev main_v82 : Ref sig .tc := ⟨.hbm, 221, rfl⟩
abbrev main_v83 : Ref sig .tc := ⟨.hbm, 222, rfl⟩
abbrev main_v84 : Ref sig .tc := ⟨.hbm, 223, rfl⟩
abbrev main_v85 : Ref sig .tc := ⟨.hbm, 224, rfl⟩
abbrev main_v86 : Ref sig .tc := ⟨.hbm, 225, rfl⟩
abbrev main_v87 : Ref sig .tc := ⟨.hbm, 226, rfl⟩
abbrev main_v88 : Ref sig .tc := ⟨.hbm, 227, rfl⟩
abbrev main_v89 : Ref sig .tc := ⟨.hbm, 228, rfl⟩
abbrev main_call5_cst : Ref sig .tc := ⟨.hbm, 229, rfl⟩
abbrev main_call5_call0_cst : Ref sig .tc := ⟨.hbm, 230, rfl⟩
abbrev main_call5_call0_v0 : Ref sig .tc := ⟨.hbm, 231, rfl⟩
abbrev main_call5_call0_v1 : Ref sig .tc := ⟨.hbm, 232, rfl⟩
abbrev main_call5_call0_cst_0 : Ref sig .tc := ⟨.hbm, 233, rfl⟩
abbrev main_call5_call0_v2 : Ref sig .tc := ⟨.hbm, 234, rfl⟩
abbrev main_call5_call0_v3 : Ref sig .tc := ⟨.hbm, 235, rfl⟩
abbrev main_call5_call0_cst_1 : Ref sig .tc := ⟨.hbm, 236, rfl⟩
abbrev main_call5_call0_call0_v0 : Ref sig .tc := ⟨.hbm, 237, rfl⟩
abbrev main_call5_call0_call0_v1 : Ref sig .tc := ⟨.hbm, 238, rfl⟩
abbrev main_call5_call0_v4 : Ref sig .tc := ⟨.hbm, 239, rfl⟩
abbrev main_call5_call0_v5 : Ref sig .tc := ⟨.hbm, 240, rfl⟩
abbrev main_call5_call0_v6 : Ref sig .tc := ⟨.hbm, 241, rfl⟩
abbrev main_call5_call0_v7 : Ref sig .tc := ⟨.hbm, 242, rfl⟩
abbrev main_call5_call0_v8 : Ref sig .tc := ⟨.hbm, 243, rfl⟩
abbrev main_call5_v0 : Ref sig .tc := ⟨.hbm, 244, rfl⟩
abbrev main_call5_cst_0 : Ref sig .tc := ⟨.hbm, 245, rfl⟩
abbrev main_call5_v1 : Ref sig .tc := ⟨.hbm, 246, rfl⟩
abbrev main_v90 : Ref sig .tc := ⟨.hbm, 247, rfl⟩
abbrev main_v91 : Ref sig .tc := ⟨.hbm, 248, rfl⟩
abbrev main_v92 : Ref sig .tc := ⟨.hbm, 249, rfl⟩
abbrev main_cst_15 : Ref sig .tc := ⟨.hbm, 250, rfl⟩
abbrev main_v93 : Ref sig .tc := ⟨.hbm, 251, rfl⟩
abbrev main_v94 : Ref sig .tc := ⟨.hbm, 252, rfl⟩
abbrev main_cst_16 : Ref sig .tc := ⟨.hbm, 253, rfl⟩
abbrev main_v95 : Ref sig .tc := ⟨.hbm, 254, rfl⟩
abbrev main_v96 : Ref sig .tc := ⟨.hbm, 255, rfl⟩
abbrev main_c_17 : Ref sig .tc := ⟨.hbm, 256, rfl⟩
abbrev main_call6_cst : Ref sig .tc := ⟨.hbm, 257, rfl⟩
abbrev main_call6_v0 : Ref sig .tc := ⟨.hbm, 258, rfl⟩
abbrev main_call6_v1 : Ref sig .tc := ⟨.hbm, 259, rfl⟩
abbrev main_call6_cst_0 : Ref sig .tc := ⟨.hbm, 260, rfl⟩
abbrev main_call6_v2 : Ref sig .tc := ⟨.hbm, 261, rfl⟩
abbrev main_call6_v3 : Ref sig .tc := ⟨.hbm, 262, rfl⟩
abbrev main_call6_v4 : Ref sig .tc := ⟨.hbm, 263, rfl⟩
abbrev main_call6_v5 : Ref sig .tc := ⟨.hbm, 264, rfl⟩
abbrev main_call6_v6 : Ref sig .tc := ⟨.hbm, 265, rfl⟩
abbrev main_call6_v7 : Ref sig .tc := ⟨.hbm, 266, rfl⟩
abbrev main_call6_cst_1 : Ref sig .tc := ⟨.hbm, 267, rfl⟩
abbrev main_call6_v8 : Ref sig .tc := ⟨.hbm, 268, rfl⟩
abbrev main_call6_cst_2 : Ref sig .tc := ⟨.hbm, 269, rfl⟩
abbrev main_call6_v9 : Ref sig .tc := ⟨.hbm, 270, rfl⟩
abbrev main_call6_v10 : Ref sig .tc := ⟨.hbm, 271, rfl⟩
abbrev main_call6_v11 : Ref sig .tc := ⟨.hbm, 272, rfl⟩
abbrev main_call6_v12 : Ref sig .tc := ⟨.hbm, 273, rfl⟩
abbrev main_call6_cst_3 : Ref sig .tc := ⟨.hbm, 274, rfl⟩
abbrev main_call6_v13 : Ref sig .tc := ⟨.hbm, 275, rfl⟩
abbrev main_call6_cst_4 : Ref sig .tc := ⟨.hbm, 276, rfl⟩
abbrev main_call6_call0_v0 : Ref sig .tc := ⟨.hbm, 277, rfl⟩
abbrev main_call6_call0_v1 : Ref sig .tc := ⟨.hbm, 278, rfl⟩
abbrev main_v97 : Ref sig .tc := ⟨.hbm, 279, rfl⟩
abbrev main_v98 : Ref sig .tc := ⟨.hbm, 280, rfl⟩
abbrev main_v99 : Ref sig .tc := ⟨.hbm, 281, rfl⟩
abbrev main_v100 : Ref sig .tc := ⟨.hbm, 282, rfl⟩
abbrev main_v101 : Ref sig .tc := ⟨.hbm, 283, rfl⟩
abbrev main_v102 : Ref sig .tc := ⟨.hbm, 284, rfl⟩
abbrev main_cst_18 : Ref sig .tc := ⟨.hbm, 285, rfl⟩
abbrev main_v103 : Ref sig .tc := ⟨.hbm, 286, rfl⟩
abbrev main_v104 : Ref sig .tc := ⟨.hbm, 287, rfl⟩
abbrev main_v105 : Ref sig .tc := ⟨.hbm, 288, rfl⟩
abbrev main_v106 : Ref sig .tc := ⟨.hbm, 289, rfl⟩
abbrev main_v107 : Ref sig .tc := ⟨.hbm, 290, rfl⟩
abbrev main_v108 : Ref sig .tc := ⟨.hbm, 291, rfl⟩
abbrev main_v109 : Ref sig .tc := ⟨.hbm, 292, rfl⟩
abbrev main_v110 : Ref sig .tc := ⟨.hbm, 293, rfl⟩
abbrev main_call7_cst : Ref sig .tc := ⟨.hbm, 294, rfl⟩
abbrev main_call7_call0_cst : Ref sig .tc := ⟨.hbm, 295, rfl⟩
abbrev main_call7_call0_v0 : Ref sig .tc := ⟨.hbm, 296, rfl⟩
abbrev main_call7_call0_v1 : Ref sig .tc := ⟨.hbm, 297, rfl⟩
abbrev main_call7_call0_cst_0 : Ref sig .tc := ⟨.hbm, 298, rfl⟩
abbrev main_call7_call0_v2 : Ref sig .tc := ⟨.hbm, 299, rfl⟩
abbrev main_call7_call0_v3 : Ref sig .tc := ⟨.hbm, 300, rfl⟩
abbrev main_call7_call0_cst_1 : Ref sig .tc := ⟨.hbm, 301, rfl⟩
abbrev main_call7_call0_call0_v0 : Ref sig .tc := ⟨.hbm, 302, rfl⟩
abbrev main_call7_call0_call0_v1 : Ref sig .tc := ⟨.hbm, 303, rfl⟩
abbrev main_call7_call0_v4 : Ref sig .tc := ⟨.hbm, 304, rfl⟩
abbrev main_call7_call0_v5 : Ref sig .tc := ⟨.hbm, 305, rfl⟩
abbrev main_call7_call0_v6 : Ref sig .tc := ⟨.hbm, 306, rfl⟩
abbrev main_call7_call0_v7 : Ref sig .tc := ⟨.hbm, 307, rfl⟩
abbrev main_call7_call0_v8 : Ref sig .tc := ⟨.hbm, 308, rfl⟩
abbrev main_call7_v0 : Ref sig .tc := ⟨.hbm, 309, rfl⟩
abbrev main_call7_cst_0 : Ref sig .tc := ⟨.hbm, 310, rfl⟩
abbrev main_call7_v1 : Ref sig .tc := ⟨.hbm, 311, rfl⟩
abbrev main_v111 : Ref sig .tc := ⟨.hbm, 312, rfl⟩
abbrev main_v112 : Ref sig .tc := ⟨.hbm, 313, rfl⟩
abbrev main_v113 : Ref sig .tc := ⟨.hbm, 314, rfl⟩
abbrev main_v114 : Ref sig .tc := ⟨.hbm, 315, rfl⟩
abbrev main_v115 : Ref sig .tc := ⟨.hbm, 316, rfl⟩
abbrev main_v116 : Ref sig .tc := ⟨.hbm, 317, rfl⟩
abbrev main_v117 : Ref sig .tc := ⟨.hbm, 318, rfl⟩
abbrev main_cst_19 : Ref sig .tc := ⟨.hbm, 319, rfl⟩
abbrev main_v118 : Ref sig .tc := ⟨.hbm, 320, rfl⟩
abbrev main_v119 : Ref sig .tc := ⟨.hbm, 321, rfl⟩
abbrev main_cst_20 : Ref sig .tc := ⟨.hbm, 322, rfl⟩
abbrev main_v120 : Ref sig .tc := ⟨.hbm, 323, rfl⟩
abbrev main_v121 : Ref sig .tc := ⟨.hbm, 324, rfl⟩
abbrev main_c_21 : Ref sig .tc := ⟨.hbm, 325, rfl⟩
abbrev main_call8_cst : Ref sig .tc := ⟨.hbm, 326, rfl⟩
abbrev main_call8_v0 : Ref sig .tc := ⟨.hbm, 327, rfl⟩
abbrev main_call8_v1 : Ref sig .tc := ⟨.hbm, 328, rfl⟩
abbrev main_call8_cst_0 : Ref sig .tc := ⟨.hbm, 329, rfl⟩
abbrev main_call8_v2 : Ref sig .tc := ⟨.hbm, 330, rfl⟩
abbrev main_call8_v3 : Ref sig .tc := ⟨.hbm, 331, rfl⟩
abbrev main_call8_v4 : Ref sig .tc := ⟨.hbm, 332, rfl⟩
abbrev main_call8_v5 : Ref sig .tc := ⟨.hbm, 333, rfl⟩
abbrev main_call8_v6 : Ref sig .tc := ⟨.hbm, 334, rfl⟩
abbrev main_call8_v7 : Ref sig .tc := ⟨.hbm, 335, rfl⟩
abbrev main_call8_cst_1 : Ref sig .tc := ⟨.hbm, 336, rfl⟩
abbrev main_call8_v8 : Ref sig .tc := ⟨.hbm, 337, rfl⟩
abbrev main_call8_cst_2 : Ref sig .tc := ⟨.hbm, 338, rfl⟩
abbrev main_call8_v9 : Ref sig .tc := ⟨.hbm, 339, rfl⟩
abbrev main_call8_v10 : Ref sig .tc := ⟨.hbm, 340, rfl⟩
abbrev main_call8_v11 : Ref sig .tc := ⟨.hbm, 341, rfl⟩
abbrev main_call8_v12 : Ref sig .tc := ⟨.hbm, 342, rfl⟩
abbrev main_call8_cst_3 : Ref sig .tc := ⟨.hbm, 343, rfl⟩
abbrev main_call8_v13 : Ref sig .tc := ⟨.hbm, 344, rfl⟩
abbrev main_call8_cst_4 : Ref sig .tc := ⟨.hbm, 345, rfl⟩
abbrev main_call8_call0_v0 : Ref sig .tc := ⟨.hbm, 346, rfl⟩
abbrev main_call8_call0_v1 : Ref sig .tc := ⟨.hbm, 347, rfl⟩
abbrev main_v122 : Ref sig .tc := ⟨.hbm, 348, rfl⟩
abbrev main_v123 : Ref sig .tc := ⟨.hbm, 349, rfl⟩
abbrev main_v124 : Ref sig .tc := ⟨.hbm, 350, rfl⟩
abbrev main_v125 : Ref sig .tc := ⟨.hbm, 351, rfl⟩
abbrev main_v126 : Ref sig .tc := ⟨.hbm, 352, rfl⟩
abbrev main_v127 : Ref sig .tc := ⟨.hbm, 353, rfl⟩
abbrev main_cst_22 : Ref sig .tc := ⟨.hbm, 354, rfl⟩
abbrev main_v128 : Ref sig .tc := ⟨.hbm, 355, rfl⟩
abbrev main_v129 : Ref sig .tc := ⟨.hbm, 356, rfl⟩
abbrev main_v130 : Ref sig .tc := ⟨.hbm, 357, rfl⟩
abbrev main_v131 : Ref sig .tc := ⟨.hbm, 358, rfl⟩
abbrev main_v132 : Ref sig .tc := ⟨.hbm, 359, rfl⟩
abbrev main_v133 : Ref sig .tc := ⟨.hbm, 360, rfl⟩
abbrev main_v134 : Ref sig .tc := ⟨.hbm, 361, rfl⟩
abbrev main_v135 : Ref sig .tc := ⟨.hbm, 362, rfl⟩
abbrev main_call9_cst : Ref sig .tc := ⟨.hbm, 363, rfl⟩
abbrev main_call9_call0_cst : Ref sig .tc := ⟨.hbm, 364, rfl⟩
abbrev main_call9_call0_v0 : Ref sig .tc := ⟨.hbm, 365, rfl⟩
abbrev main_call9_call0_v1 : Ref sig .tc := ⟨.hbm, 366, rfl⟩
abbrev main_call9_call0_cst_0 : Ref sig .tc := ⟨.hbm, 367, rfl⟩
abbrev main_call9_call0_v2 : Ref sig .tc := ⟨.hbm, 368, rfl⟩
abbrev main_call9_call0_v3 : Ref sig .tc := ⟨.hbm, 369, rfl⟩
abbrev main_call9_call0_cst_1 : Ref sig .tc := ⟨.hbm, 370, rfl⟩
abbrev main_call9_call0_call0_v0 : Ref sig .tc := ⟨.hbm, 371, rfl⟩
abbrev main_call9_call0_call0_v1 : Ref sig .tc := ⟨.hbm, 372, rfl⟩
abbrev main_call9_call0_v4 : Ref sig .tc := ⟨.hbm, 373, rfl⟩
abbrev main_call9_call0_v5 : Ref sig .tc := ⟨.hbm, 374, rfl⟩
abbrev main_call9_call0_v6 : Ref sig .tc := ⟨.hbm, 375, rfl⟩
abbrev main_call9_call0_v7 : Ref sig .tc := ⟨.hbm, 376, rfl⟩
abbrev main_call9_call0_v8 : Ref sig .tc := ⟨.hbm, 377, rfl⟩
abbrev main_call9_v0 : Ref sig .tc := ⟨.hbm, 378, rfl⟩
abbrev main_call9_cst_0 : Ref sig .tc := ⟨.hbm, 379, rfl⟩
abbrev main_call9_v1 : Ref sig .tc := ⟨.hbm, 380, rfl⟩
abbrev main_v136 : Ref sig .tc := ⟨.hbm, 381, rfl⟩
abbrev main_v137 : Ref sig .tc := ⟨.hbm, 382, rfl⟩
abbrev main_v138 : Ref sig .tc := ⟨.hbm, 383, rfl⟩
abbrev main_v139 : Ref sig .tc := ⟨.hbm, 384, rfl⟩

abbrev nD : Nat := 1
abbrev τ : Topo := Topo.v7x

variable {F : FTy → Type} [FloatOps F]
-- ==== Search.lean ====
abbrev S4x3x8192 : Shape := ⟨3, ![4, 3, 8192]⟩
abbrev S4x1024x3 : Shape := ⟨3, ![4, 1024, 3]⟩
abbrev S4x1024x8 : Shape := ⟨3, ![4, 1024, 8]⟩
abbrev S1x3x8192 : Shape := ⟨3, ![1, 3, 8192]⟩
abbrev S1x256x3 : Shape := ⟨3, ![1, 256, 3]⟩
abbrev S1x256x8 : Shape := ⟨3, ![1, 256, 8]⟩
abbrev S3x8192 : Shape := ⟨2, ![3, 8192]⟩
abbrev S256x3 : Shape := ⟨2, ![256, 3]⟩
abbrev S8192 : Shape := ⟨1, ![8192]⟩
abbrev S1x8192 : Shape := ⟨2, ![1, 8192]⟩
abbrev S256 : Shape := ⟨1, ![256]⟩
abbrev S256x1 : Shape := ⟨2, ![256, 1]⟩
abbrev S256x8192 : Shape := ⟨2, ![256, 8192]⟩
abbrev S256x8 : Shape := ⟨2, ![256, 8]⟩

abbrev nBuf : Space → Nat
  | .hbm => 3
  | .vmem => 6
  | .smem => 0
  | _ => 0

abbrev bufTy : (tb : Table) → Fin (tcTables nBuf tb) → BufTy
  | .hbm, ⟨0, _⟩ => ⟨S4x3x8192, .f32⟩
  | .hbm, ⟨1, _⟩ => ⟨S4x1024x3, .f32⟩
  | .hbm, ⟨2, _⟩ => ⟨S4x1024x8, .i32⟩
  | .local _ .vmem, ⟨0, _⟩ => ⟨S1x3x8192, .f32⟩
  | .local _ .vmem, ⟨1, _⟩ => ⟨S1x3x8192, .f32⟩
  | .local _ .vmem, ⟨2, _⟩ => ⟨S1x256x3, .f32⟩
  | .local _ .vmem, ⟨3, _⟩ => ⟨S1x256x3, .f32⟩
  | .local _ .vmem, ⟨4, _⟩ => ⟨S1x256x8, .i32⟩
  | .local _ .vmem, ⟨5, _⟩ => ⟨S1x256x8, .i32⟩
  | _, _ => ⟨S4x3x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32_8 : BitVec 32 := 0#32
  let c8_i32 : BitVec 32 := 8#32
  let v24 : BitVec 32 := Scalar.addi c0_i32_8 c8_i32
  let c1_i32 : BitVec 32 := 1#32
  ⟨c0_i32_8, v24, c1_i32⟩
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x3x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x8 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SearchReferenceIdeal.lean ====
abbrev S4x3x8192 : Shape := ⟨3, ![4, 3, 8192]⟩
abbrev S4x1024x3 : Shape := ⟨3, ![4, 1024, 3]⟩
abbrev S4x8192x3 : Shape := ⟨3, ![4, 8192, 3]⟩
abbrev S_ : Shape := ⟨0, ![]⟩
abbrev S4x1024 : Shape := ⟨2, ![4, 1024]⟩
abbrev S4x1024x1 : Shape := ⟨3, ![4, 1024, 1]⟩
abbrev S4x8192 : Shape := ⟨2, ![4, 8192]⟩
abbrev S4x1x8192 : Shape := ⟨3, ![4, 1, 8192]⟩
abbrev S4x1024x8192 : Shape := ⟨3, ![4, 1024, 8192]⟩
abbrev S4x1024x8 : Shape := ⟨3, ![4, 1024, 8]⟩
abbrev S4 : Shape := ⟨1, ![4]⟩
abbrev S4x1x1 : Shape := ⟨3, ![4, 1, 1]⟩

abbrev nBuf : Space → Nat
  | .hbm => 29
  | .vmem => 0
  | .smem => 0
  | _ => 0

abbrev bufTy : (tb : Table) → Fin (tcTables nBuf tb) → BufTy
  | .hbm, ⟨0, _⟩ => ⟨S4x3x8192, .f32⟩
  | .hbm, ⟨1, _⟩ => ⟨S4x1024x3, .f32⟩
  | .hbm, ⟨2, _⟩ => ⟨S4x8192x3, .f32⟩
  | .hbm, ⟨3, _⟩ => ⟨S4x1024x3, .f32⟩
  | .hbm, ⟨4, _⟩ => ⟨S_, .f32⟩
  | .hbm, ⟨5, _⟩ => ⟨S4x1024, .f32⟩
  | .hbm, ⟨6, _⟩ => ⟨S4x1024x1, .f32⟩
  | .hbm, ⟨7, _⟩ => ⟨S4x8192x3, .f32⟩
  | .hbm, ⟨8, _⟩ => ⟨S_, .f32⟩
  | .hbm, ⟨9, _⟩ => ⟨S4x8192, .f32⟩
  | .hbm, ⟨10, _⟩ => ⟨S4x1x8192, .f32⟩
  | .hbm, ⟨11, _⟩ => ⟨S4x1024x8192, .f32⟩
  | .hbm, ⟨12, _⟩ => ⟨S4x1024x8192, .f32⟩
  | .hbm, ⟨13, _⟩ => ⟨S4x1024x8192, .f32⟩
  | .hbm, ⟨14, _⟩ => ⟨S4x1024x8192, .f32⟩
  | .hbm, ⟨15, _⟩ => ⟨S_, .f32⟩
  | .hbm, ⟨16, _⟩ => ⟨S4x1024x8192, .f32⟩
  | .hbm, ⟨17, _⟩ => ⟨S4x1024x8192, .f32⟩
  | .hbm, ⟨18, _⟩ => ⟨S4x1024x8192, .f32⟩
  | .hbm, ⟨19, _⟩ => ⟨S4x1024x8192, .f32⟩
  | .hbm, ⟨20, _⟩ => ⟨S4x1024x8, .f32⟩
  | .hbm, ⟨21, _⟩ => ⟨S4x1024x8, .i32⟩
  | .hbm, ⟨22, _⟩ => ⟨S4, .i32⟩
  | .hbm, ⟨23, _⟩ => ⟨S4x1x1, .i32⟩
  | .hbm, ⟨24, _⟩ => ⟨S_, .i32⟩
  | .hbm, ⟨25, _⟩ => ⟨S4x1x1, .i32⟩
  | .hbm, ⟨26, _⟩ => ⟨S4x1x1, .i32⟩
  | .hbm, ⟨27, _⟩ => ⟨S4x1024x8, .i32⟩
  | .hbm, ⟨28, _⟩ => ⟨S4x1024x8, .i32⟩
  | _, _ => ⟨S4x3x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_values : Ref sig .tc := ⟨.hbm, 20, rfl⟩
abbrev main_indices : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Proof.Same.lean ====
module

public import proofs.«01_k».proof.Proof.Gen.KernelIdeal.Skeleton

@[expose] public section

noncomputable section

namespace Cert.Proof

open Idealize.ShloMosaic Idealize.SL.Sem Cert.KernelIdeal Cert.KernelIdeal.Gen

variable {F : FTy → Type} [FloatOps F]

set_option maxRecDepth 65536 in
set_option maxHeartbeats 4000000 in
/-- The two gathers run one body: the second call's function is the first's. -/
theorem cc1_gk_eq : cc1_gk (F := F) = cc0_gk (F := F) := rfl

end Cert.Proof

end
-- ==== Proof.Base.lean ====
/-
  The two gathers as the launch theorem sees them, and the pieces one subcore's program works on: its eight blocks of
  row numbers, its eight windows of the output, and the two slots of each of its two scratch rings.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Scf
public import Idealize.ShloMosaic.Lib.Tactic
public import proofs.«01_k».proof.Proof.Same
public import proofs.«01_k».proof.Proof.Gen.Pre_in_range

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

/-- The labels of the program under the gathers: the four pipelines'. -/
abbrev ΛP : Labels := Pipeline.Sig Λ₀ (Fin 4) fun p => (pcfgs (F := F) p).Adm
/-- The two launches. -/
abbrev K : SparseCore.Cfg τ sig (ΛP (F := F)) 2 := sc (F := F)
/-- The bodies a subcore runs. -/
abbrev D [FloatOps F] : Defs nD τ sig (Elt F) (ΛP (F := F)) := Pipeline.defs pcfgs defs₀
/-- No loop of a body needs a variant. -/
abbrev 𝒱₀ : Variants := Variants.none
/-- The same, lifted. -/
abbrev 𝒱 : Variants := 𝒱₀.lift
/-- The start variant. -/
abbrev v₀ : 𝒱.V := Sum.inl none

/-- The launches' semaphores are as the launch theorem asks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The handshakes' rounds. -/
abbrev UH : Type := URounds (GSem nD τ sig) ℕ
/-- The pipelines' rounds. -/
abbrev UP : Type := UR sig nD τ
/-- Both beside the transfers' counters. -/
abbrev UU : Type := UH × (UP × Counters)

local notation "𝕄" => MT nD τ sig (HIx 2) (Elt F) ℕ UU ℕ

/-- Where the handshakes' rounds live in the resources, -/
abbrev EH : Emb UH (MT nD τ sig (HIx 2) (Elt F) ℕ UU ℕ) := embL
/-- and where the pipelines' do. -/
def EP : Emb UP (MT nD τ sig (HIx 2) (Elt F) ℕ UU ℕ) := (Emb.inl : Emb UP (UP × Counters)).trans embR

instance EP_landsIn : (EP (F := F)).LandsIn (upEmb : UEmb _ (MT nD τ sig (HIx 2) (Elt F) ℕ UU ℕ)) := by unfold EP embR; infer_instance

/-! ## One subcore's pieces -/

/-- The arrays, scratch buffers and semaphores a subcore's program is handed. -/
structure Parts where
  /-- the table whose rows are gathered -/
  tb : Memref sig .scVector .hbm S32768x128 .f32
  /-- the row numbers -/
  ix : Memref sig .scVector .hbm S1x32768 .i32
  /-- the output -/
  ob : Memref sig .scVector .hbm S32768x128 .f32
  /-- the two slots for row numbers -/
  si : Memref sig .scVector .vmem S2x1x128 .i32
  /-- a semaphore for each -/
  s5 : DmaSems sig S2
  /-- the two slots for gathered rows -/
  so : Memref sig .scVector .vmem S2x128x128 .f32
  /-- a semaphore for each -/
  s6 : DmaSems sig S2
  /-- the gather's semaphore -/
  sg : DmaSems sig S_

variable (d : Dev nD) (i : grid0.Coords) (A : Parts)

/-- The subcore that works on grid point `i`. -/
abbrev thr : Thread nD τ := V d ((i 0).castLE hcore0) ((i 1).castLE hsub0)

/-- The parity of a window: the slot it goes through. -/
abbrev par (t : ℕ) : ℕ := t % 2

/-- The first row of subcore `i`'s window `t`. -/
def row0 (t : ℕ) : ℕ := 128 * (t % 8) + 1024 * (i 1).val + 16384 * (i 0).val

theorem row0_lt (t : ℕ) : row0 i t + 128 ≤ 32768 := by
  have h0 : (i 0).val < 2 := (i 0).isLt
  have h1 : (i 1).val < 16 := (i 1).isLt
  unfold row0; omega

theorem slotI_inb (t : ℕ) : ∀ a, (![par t, 0, 0] : Fin 3 → ℕ) a + S1x1x128.size a ≤ S2x1x128.size a := by
  rcases Nat.mod_two_eq_zero_or_one t with h | h <;> simp only [par, h] <;> decide
theorem slotO_inb (t : ℕ) : ∀ a, (![par t, 0, 0] : Fin 3 → ℕ) a + S1x128x128.size a ≤ S2x128x128.size a := by
  rcases Nat.mod_two_eq_zero_or_one t with h | h <;> simp only [par, h] <;> decide
theorem slotS_inb (t : ℕ) : ∀ a, (![par t] : Fin 1 → ℕ) a + S1.size a ≤ S2.size a := by
  rcases Nat.mod_two_eq_zero_or_one t with h | h <;> simp only [par, h] <;> decide
theorem blkI_inb (t : ℕ) : ∀ a, (![0, row0 i t] : Fin 2 → ℕ) a + S1x128.size a ≤ S1x32768.size a := by
  have := row0_lt i t
  intro a; fin_cases a
  · exact Nat.le_refl 1
  · exact this
theorem blkO_inb (t : ℕ) : ∀ a, (![row0 i t, 0] : Fin 2 → ℕ) a + S128x128.size a ≤ S32768x128.size a := by
  have := row0_lt i t
  intro a; fin_cases a
  · exact this
  · exact Nat.le_refl 128

/-- The slot window `t`'s row numbers go through. -/
abbrev slotI (t : ℕ) : Memref sig .scVector .vmem S1x128 .i32 :=
  (A.si.slice (Rect.unit (s := S2x1x128) ![par t, 0, 0] S1x1x128.size (slotI_inb t)) (fun _ => rfl)).squeeze S1x128 squeezes_S1x1x128_S1x128
/-- The same as a list of 128 row numbers. -/
abbrev listI (t : ℕ) : Memref sig .scVector .vmem S128 .i32 :=
  ((slotI A t).slice (Rect.unit (s := S1x128) ![0, 0] S1x128.size inb_S1x128_S1x128_0_0) (fun _ => rfl)).squeeze S128 squeezes_S1x128_S128
/-- The slot window `t`'s gathered rows go through. -/
abbrev slotO (t : ℕ) : Memref sig .scVector .vmem S128x128 .f32 :=
  (A.so.slice (Rect.unit (s := S2x128x128) ![par t, 0, 0] S1x128x128.size (slotO_inb t)) (fun _ => rfl)).squeeze S128x128 squeezes_S1x128x128_S128x128
/-- Window `t`'s row numbers. -/
abbrev blkI (t : ℕ) : Memref sig .scVector .hbm S1x128 .i32 :=
  A.ix.slice (Rect.unit (s := S1x32768) ![0, row0 i t] S1x128.size (blkI_inb i t)) (fun _ => rfl)
/-- Window `t`'s rows of the output. -/
abbrev blkO (t : ℕ) : Memref sig .scVector .hbm S128x128 .f32 :=
  A.ob.slice (Rect.unit (s := S32768x128) ![row0 i t, 0] S128x128.size (blkO_inb i t)) (fun _ => rfl)
/-- All of the table. -/
abbrev tabl : Memref sig .scVector .hbm S32768x128 .f32 :=
  A.tb.slice (Rect.unit (s := S32768x128) ![0, 0] S32768x128.size inb_S32768x128_S32768x128_0_0) (fun _ => rfl)
/-- The semaphore of window `t`'s fetch. -/
abbrev semI (t : ℕ) : DmaSem sig := ((A.s5.slice (Rect.unit (s := S2) ![par t] S1.size (slotS_inb t))).squeeze S_ squeezes_S1_S_).sem
/-- The semaphore of window `t`'s write-back. -/
abbrev semO (t : ℕ) : DmaSem sig := ((A.s6.slice (Rect.unit (s := S2) ![par t] S1.size (slotS_inb t))).squeeze S_ squeezes_S1_S_).sem

/-- Row `r` (of 32768), column `c`. -/
def at2 (r : ℕ) (c : Fin 128) : S32768x128.Idx := fun a =>
  match a with
  | ⟨0, _⟩ => ⟨r % 32768, Nat.mod_lt _ (by decide)⟩
  | ⟨1, _⟩ => c

/-- Row number `j` of a window's row numbers. -/
def at1 (j : Fin 128) : S1x128.Idx := fun a =>
  match a with
  | ⟨0, _⟩ => ⟨0, Nat.one_pos⟩
  | ⟨1, _⟩ => j

variable (q : PosShare TreeShare) (ft : Buf (Elt F) (A.tb.view.loc (thr d i))) (fi : Buf (Elt F) (A.ix.view.loc (thr d i)))

/-- What window `t` of the output ends up holding: row `j` is the table's row that row number `j` of the window names. -/
def pay (t : ℕ) : S128x128.Idx → Elt F .f32 := fun x =>
  (tabl A).view.read (Elt F) ft (at2 ((blkI i A t).view.read (Elt F) fi (at1 (x 0))).toNat (x 1))

/-- Window `t`'s row numbers, held. -/
def HI (t : ℕ) : sProp 𝕄 := (blkI i A t).view.loc (thr d i) ↦[(blkI i A t).view.set]{fullShare} fi
/-- A share of the table, held. -/
def HT : sProp 𝕄 := (tabl A).view.loc (thr d i) ↦[(tabl A).view.set]{q} ft
/-- Window `t`'s rows of the output, held. -/
def HO (t : ℕ) (f : Buf (Elt F) (A.ob.view.loc (thr d i))) : sProp 𝕄 := (blkO i A t).view.loc (thr d i) ↦[(blkO i A t).view.set]{fullShare} f
/-- The slot of window `t`'s row numbers, holding `f`. -/
def SI' (t : ℕ) (f : Buf (Elt F) (A.si.view.loc (thr d i))) : sProp 𝕄 := (slotI A t).view.loc (thr d i) ↦[(slotI A t).view.set]{fullShare} f
/-- The slot of window `t`'s gathered rows, holding `f`. -/
def SO' (t : ℕ) (f : Buf (Elt F) (A.so.view.loc (thr d i))) : sProp 𝕄 := (slotO A t).view.loc (thr d i) ↦[(slotO A t).view.set]{fullShare} f

/-- The slot filled with window `t`'s row numbers. -/
abbrev filledI (t : ℕ) (fd : Buf (Elt F) (A.si.view.loc (thr d i))) : Buf (Elt F) (A.si.view.loc (thr d i)) :=
  (slotI A t).view.write (Elt F) fd ((blkI i A t).view.read (Elt F) fi) Finset.univ
/-- The output with window `t` written. -/
abbrev filledO (t : ℕ) (fd : Buf (Elt F) (A.ob.view.loc (thr d i))) : Buf (Elt F) (A.ob.view.loc (thr d i)) :=
  (blkO i A t).view.write (Elt F) fd (pay d i A ft fi t) Finset.univ

/-- A row-number slot at rest. -/
def IdleI (t : ℕ) : sProp 𝕄 := iprop((∃ f, SI' d i A t f) ∗ semVal (thr d i, SemLoc.dma (semI A t)) 0)
/-- A slot for gathered rows at rest. -/
def IdleO (t : ℕ) : sProp 𝕄 := iprop((∃ f, SO' d i A t f) ∗ semVal (thr d i, SemLoc.dma (semO A t)) 0)
/-- Window `t`'s row numbers on their way. -/
def FlyI (t : ℕ) : sProp 𝕄 :=
  iprop(∃ fd, Transfers.Flight countersEmb (thr d i) (.dma (semI A t)) (default : HIx 2) ((slotI A t).view.dmaCredit)
    iprop(SI' d i A t (filledI d i A fi t fd) ∗ HI d i A fi t))
/-- Window `t` of the output, written. -/
def DoneO (t : ℕ) : sProp 𝕄 := iprop(∃ fd, HO d i A t (filledO d i A ft fi t fd))
/-- Window `t` of the output on its way. -/
def FlyO (t : ℕ) : sProp 𝕄 :=
  iprop(Transfers.Flight countersEmb (thr d i) (.dma (semO A t)) (default : HIx 2) ((blkO i A t).view.dmaCredit)
    iprop(DoneO d i A ft fi t ∗ ∃ f, SO' d i A t f))

/-- The subcore's waits so far: those it came with, and waits for transfers of its own. -/
def OW (O : CellTallies nD τ sig (HIx 2)) (W : Waits sig (HIx 2)) : sProp 𝕄 :=
  iprop(∃ W', ⌜∀ p ∈ W', p ∈ W ∨ p.2 = (none : HIx 2)⌝ ∗ owes (thr d i) O W')

end Cert.Proof
-- ==== Proof.Outs.lean ====
/-
  What each of the four calls on the TensorCore leaves in its output blocks, from its input blocks.
-/
module

public import proofs.«01_k».proof.Proof.Base
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.TableIdle
public import Idealize.ShloMosaic.Lib.Pipeline.Value
public import Idealize.ShloMosaic.Lib.VecWindow
public import Idealize.ShloMosaic.Lib.Tactic
public import Idealize.ShloMosaic.Lib.WordCmp

@[expose] public section

set_option maxRecDepth 16384

noncomputable section

namespace Cert.Proof

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The moments -/

/-- The block's second moments, -/
def mom2 (x0 : Vec F S1024x8x128 .f32) (x1 : Vec F S1024x16 .f32) : Vec F S128x128 .f32 :=
  k2_pay5 (View.ld x1 (Rect.unit (s := S1024x16) ![0, 0] S1024x16.size inb_S1024x16_S1024x16_0_0)) (View.ld x0 (Rect.unit (s := S1024x8x128) ![0, 0, 0] S1024x1x16.size inb_S1024x8x128_S1024x1x16_0_0_0)) (View.ld x0 (Rect.unit (s := S1024x8x128) ![0, 1, 0] S1024x1x16.size inb_S1024x8x128_S1024x1x16_0_1_0)) (View.ld x0 (Rect.unit (s := S1024x8x128) ![0, 2, 0] S1024x1x16.size inb_S1024x8x128_S1024x1x16_0_2_0)) (View.ld x0 (Rect.unit (s := S1024x8x128) ![0, 3, 0] S1024x1x16.size inb_S1024x8x128_S1024x1x16_0_3_0)) (View.ld x0 (Rect.unit (s := S1024x8x128) ![0, 4, 0] S1024x1x16.size inb_S1024x8x128_S1024x1x16_0_4_0)) (View.ld x0 (Rect.unit (s := S1024x8x128) ![0, 5, 0] S1024x1x16.size inb_S1024x8x128_S1024x1x16_0_5_0)) (View.ld x0 (Rect.unit (s := S1024x8x128) ![0, 6, 0] S1024x1x16.size inb_S1024x8x128_S1024x1x16_0_6_0)) (View.ld x0 (Rect.unit (s := S1024x8x128) ![0, 7, 0] S1024x1x16.size inb_S1024x8x128_S1024x1x16_0_7_0))

/-- and its first. -/
def mom1 (x0 : Vec F S1024x8x128 .f32) (x1 : Vec F S1024x16 .f32) : Vec F S1x128 .f32 :=
  k2_pay6 (View.ld x1 (Rect.unit (s := S1024x16) ![0, 0] S1024x16.size inb_S1024x16_S1024x16_0_0)) (View.ld x0 (Rect.unit (s := S1024x8x128) ![0, 0, 0] S1024x1x16.size inb_S1024x8x128_S1024x1x16_0_0_0)) (View.ld x0 (Rect.unit (s := S1024x8x128) ![0, 1, 0] S1024x1x16.size inb_S1024x8x128_S1024x1x16_0_1_0)) (View.ld x0 (Rect.unit (s := S1024x8x128) ![0, 2, 0] S1024x1x16.size inb_S1024x8x128_S1024x1x16_0_2_0)) (View.ld x0 (Rect.unit (s := S1024x8x128) ![0, 3, 0] S1024x1x16.size inb_S1024x8x128_S1024x1x16_0_3_0)) (View.ld x0 (Rect.unit (s := S1024x8x128) ![0, 4, 0] S1024x1x16.size inb_S1024x8x128_S1024x1x16_0_4_0)) (View.ld x0 (Rect.unit (s := S1024x8x128) ![0, 5, 0] S1024x1x16.size inb_S1024x8x128_S1024x1x16_0_5_0)) (View.ld x0 (Rect.unit (s := S1024x8x128) ![0, 6, 0] S1024x1x16.size inb_S1024x8x128_S1024x1x16_0_6_0)) (View.ld x0 (Rect.unit (s := S1024x8x128) ![0, 7, 0] S1024x1x16.size inb_S1024x8x128_S1024x1x16_0_7_0))

/-- The first moments, as eight rows. -/
def mom1r (x0 : Vec F S1024x8x128 .f32) (x1 : Vec F S1024x16 .f32) : Vec F S8x128 .f32 :=
  k2_pay1 (mom1 x0 x1) (Scalar.ofBits .f32 0x00000000#32)

/-! ## The two chains of layers -/

/-- The second layer of the first chain, -/
def lay2 (x0 : Vec F S512x8x128 .f32) (x1 : Vec F S512x16 .f32) (x2 : Vec F S16x64 .f32) (x3 : Vec F S1x64 .f32) (x4 : Vec F S64x64 .f32) (x5 : Vec F S8x16x64 .f32) (x6 : Vec F S1x64 .f32) (x7 : Vec F S64x64 .f32) : Vec F S512x8x64 .f32 :=
  k3_pay4 (View.ld x0 (Rect.unit (s := S512x8x128) ![0, 0, 0] S512x8x16.size inb_S512x8x128_S512x8x16_0_0_0)) (View.ld x1 (Rect.unit (s := S512x16) ![0, 0] S512x16.size inb_S512x16_S512x16_0_0)) (View.ld x2 (Rect.unit (s := S16x64) ![0, 0] S16x64.size inb_S16x64_S16x64_0_0)) (View.ld x3 (Rect.unit (s := S1x64) ![0, 0] S1x64.size inb_S1x64_S1x64_0_0)) (View.ld x4 (Rect.unit (s := S64x64) ![0, 0] S64x64.size inb_S64x64_S64x64_0_0))

/-- flat, -/
def lay2f (x0 : Vec F S512x8x128 .f32) (x1 : Vec F S512x16 .f32) (x2 : Vec F S16x64 .f32) (x3 : Vec F S1x64 .f32) (x4 : Vec F S64x64 .f32) (x5 : Vec F S8x16x64 .f32) (x6 : Vec F S1x64 .f32) (x7 : Vec F S64x64 .f32) : Vec F S4096x64 .f32 :=
  k3_pay3 (View.ld x0 (Rect.unit (s := S512x8x128) ![0, 0, 0] S512x8x16.size inb_S512x8x128_S512x8x16_0_0_0)) (View.ld x1 (Rect.unit (s := S512x16) ![0, 0] S512x16.size inb_S512x16_S512x16_0_0)) (View.ld x2 (Rect.unit (s := S16x64) ![0, 0] S16x64.size inb_S16x64_S16x64_0_0)) (View.ld x3 (Rect.unit (s := S1x64) ![0, 0] S1x64.size inb_S1x64_S1x64_0_0)) (View.ld x4 (Rect.unit (s := S64x64) ![0, 0] S64x64.size inb_S64x64_S64x64_0_0))

/-- and the first layer of the second chain, up to its sixth part, -/
def tay1 (x0 : Vec F S512x8x128 .f32) (x1 : Vec F S512x16 .f32) (x2 : Vec F S16x64 .f32) (x3 : Vec F S1x64 .f32) (x4 : Vec F S64x64 .f32) (x5 : Vec F S8x16x64 .f32) (x6 : Vec F S1x64 .f32) (x7 : Vec F S64x64 .f32) : Vec F S512x64 .f32 :=
  k3_pay7 (k3_pay2 (View.ld x0 (Rect.unit (s := S512x8x128) ![0, 0, 0] S512x8x16.size inb_S512x8x128_S512x8x16_0_0_0)) (View.ld x1 (Rect.unit (s := S512x16) ![0, 0] S512x16.size inb_S512x16_S512x16_0_0))) (k3_pay5 (View.ld x6 (Rect.unit (s := S1x64) ![0, 0] S1x64.size inb_S1x64_S1x64_0_0))) (k3_pay6 (View.ld x0 (Rect.unit (s := S512x8x128) ![0, 0, 0] S512x8x16.size inb_S512x8x128_S512x8x16_0_0_0)) (View.ld x1 (Rect.unit (s := S512x16) ![0, 0] S512x16.size inb_S512x16_S512x16_0_0))) (View.ld x5 (Rect.unit (s := S8x16x64) ![0, 0, 0] S1x16x64.size inb_S8x16x64_S1x16x64_0_0_0)) (View.ld x5 (Rect.unit (s := S8x16x64) ![1, 0, 0] S1x16x64.size inb_S8x16x64_S1x16x64_1_0_0)) (View.ld x5 (Rect.unit (s := S8x16x64) ![2, 0, 0] S1x16x64.size inb_S8x16x64_S1x16x64_2_0_0)) (View.ld x5 (Rect.unit (s := S8x16x64) ![3, 0, 0] S1x16x64.size inb_S8x16x64_S1x16x64_3_0_0)) (View.ld x5 (Rect.unit (s := S8x16x64) ![4, 0, 0] S1x16x64.size inb_S8x16x64_S1x16x64_4_0_0)) (View.ld x5 (Rect.unit (s := S8x16x64) ![5, 0, 0] S1x16x64.size inb_S8x16x64_S1x16x64_5_0_0))

/-- its second layer, -/
def tay2 (x0 : Vec F S512x8x128 .f32) (x1 : Vec F S512x16 .f32) (x2 : Vec F S16x64 .f32) (x3 : Vec F S1x64 .f32) (x4 : Vec F S64x64 .f32) (x5 : Vec F S8x16x64 .f32) (x6 : Vec F S1x64 .f32) (x7 : Vec F S64x64 .f32) : Vec F S512x64 .f32 :=
  k3_pay9 (k3_pay2 (View.ld x0 (Rect.unit (s := S512x8x128) ![0, 0, 0] S512x8x16.size inb_S512x8x128_S512x8x16_0_0_0)) (View.ld x1 (Rect.unit (s := S512x16) ![0, 0] S512x16.size inb_S512x16_S512x16_0_0))) (tay1 x0 x1 x2 x3 x4 x5 x6 x7) (k3_pay8 (k3_pay2 (View.ld x0 (Rect.unit (s := S512x8x128) ![0, 0, 0] S512x8x16.size inb_S512x8x128_S512x8x16_0_0_0)) (View.ld x1 (Rect.unit (s := S512x16) ![0, 0] S512x16.size inb_S512x16_S512x16_0_0)))) (View.ld x5 (Rect.unit (s := S8x16x64) ![6, 0, 0] S1x16x64.size inb_S8x16x64_S1x16x64_6_0_0)) (View.ld x5 (Rect.unit (s := S8x16x64) ![7, 0, 0] S1x16x64.size inb_S8x16x64_S1x16x64_7_0_0)) (View.ld x7 (Rect.unit (s := S64x64) ![0, 0] S64x64.size inb_S64x64_S64x64_0_0))

/-- and the moments of both second layers. -/
def lmom (x0 : Vec F S512x8x128 .f32) (x1 : Vec F S512x16 .f32) (x2 : Vec F S16x64 .f32) (x3 : Vec F S1x64 .f32) (x4 : Vec F S64x64 .f32) (x5 : Vec F S8x16x64 .f32) (x6 : Vec F S1x64 .f32) (x7 : Vec F S64x64 .f32) : Vec F S8x64 .f32 :=
  k3_pay10 (k3_pay2 (View.ld x0 (Rect.unit (s := S512x8x128) ![0, 0, 0] S512x8x16.size inb_S512x8x128_S512x8x16_0_0_0)) (View.ld x1 (Rect.unit (s := S512x16) ![0, 0] S512x16.size inb_S512x16_S512x16_0_0))) (lay2f x0 x1 x2 x3 x4 x5 x6 x7) (tay1 x0 x1 x2 x3 x4 x5 x6 x7) (k3_pay8 (k3_pay2 (View.ld x0 (Rect.unit (s := S512x8x128) ![0, 0, 0] S512x8x16.size inb_S512x8x128_S512x8x16_0_0_0)) (View.ld x1 (Rect.unit (s := S512x16) ![0, 0] S512x16.size inb_S512x16_S512x16_0_0)))) (View.ld x5 (Rect.unit (s := S8x16x64) ![6, 0, 0] S1x16x64.size inb_S8x16x64_S1x16x64_6_0_0)) (View.ld x5 (Rect.unit (s := S8x16x64) ![7, 0, 0] S1x16x64.size inb_S8x16x64_S1x16x64_7_0_0)) (View.ld x7 (Rect.unit (s := S64x64) ![0, 0] S64x64.size inb_S64x64_S64x64_0_0))

/-! ## The product -/

/-- The matrices, -/
def fin44 (x0 : Vec F S512x8x64 .f32) (x1 : Vec F S512x64 .f32) (x2 : Vec F S512x8x128 .f32) (x3 : Vec F S8x64 .f32) (x4 : Vec F S64x64 .f32) (x5 : Vec F S8x192x256 .f32) : Vec F S512x64 .f32 :=
  k4_pay7 (k4_pay3 (View.ld x3 (Rect.unit (s := S8x64) ![2, 0] S1x64.size inb_S8x64_S1x64_2_0)) (View.ld x3 (Rect.unit (s := S8x64) ![3, 0] S1x64.size inb_S8x64_S1x64_3_0)) (View.ld x1 (Rect.unit (s := S512x64) ![0, 0] S512x64.size inb_S512x64_S512x64_0_0))) (k4_pay4 (View.ld x3 (Rect.unit (s := S8x64) ![2, 0] S1x64.size inb_S8x64_S1x64_2_0)) (View.ld x3 (Rect.unit (s := S8x64) ![3, 0] S1x64.size inb_S8x64_S1x64_3_0)) (View.ld x1 (Rect.unit (s := S512x64) ![0, 0] S512x64.size inb_S512x64_S512x64_0_0))) (k4_pay5 (View.ld x3 (Rect.unit (s := S8x64) ![2, 0] S1x64.size inb_S8x64_S1x64_2_0)) (View.ld x3 (Rect.unit (s := S8x64) ![3, 0] S1x64.size inb_S8x64_S1x64_3_0)) (View.ld x1 (Rect.unit (s := S512x64) ![0, 0] S512x64.size inb_S512x64_S512x64_0_0))) k4_pay6 (View.ld x4 (Rect.unit (s := S64x64) ![0, 0] S64x64.size inb_S64x64_S64x64_0_0))

/-- the rows they mix, -/
def fin47 (x0 : Vec F S512x8x64 .f32) (x1 : Vec F S512x64 .f32) (x2 : Vec F S512x8x128 .f32) (x3 : Vec F S8x64 .f32) (x4 : Vec F S64x64 .f32) (x5 : Vec F S8x192x256 .f32) : Vec F S512x8x192 .f32 :=
  k4_pay8 (k4_pay2 (View.ld x3 (Rect.unit (s := S8x64) ![0, 0] S1x64.size inb_S8x64_S1x64_0_0)) (View.ld x3 (Rect.unit (s := S8x64) ![1, 0] S1x64.size inb_S8x64_S1x64_1_0)) (View.ld x0 (Rect.unit (s := S512x8x64) ![0, 0, 0] S512x8x64.size inb_S512x8x64_S512x8x64_0_0_0))) (View.ld x2 (Rect.unit (s := S512x8x128) ![0, 0, 0] S512x8x128.size inb_S512x8x128_S512x8x128_0_0_0))

/-- and the eight partial sums: the first, -/
def fin1 (x0 : Vec F S512x8x64 .f32) (x1 : Vec F S512x64 .f32) (x2 : Vec F S512x8x128 .f32) (x3 : Vec F S8x64 .f32) (x4 : Vec F S64x64 .f32) (x5 : Vec F S8x192x256 .f32) : Vec F S256x512 .f32 :=
  k4_pay11 (fin44 x0 x1 x2 x3 x4 x5) (fin47 x0 x1 x2 x3 x4 x5) k4_pay9 (k4_pay10 (k4_pay2 (View.ld x3 (Rect.unit (s := S8x64) ![0, 0] S1x64.size inb_S8x64_S1x64_0_0)) (View.ld x3 (Rect.unit (s := S8x64) ![1, 0] S1x64.size inb_S8x64_S1x64_1_0)) (View.ld x0 (Rect.unit (s := S512x8x64) ![0, 0, 0] S512x8x64.size inb_S512x8x64_S512x8x64_0_0_0))) (k4_pay3 (View.ld x3 (Rect.unit (s := S8x64) ![2, 0] S1x64.size inb_S8x64_S1x64_2_0)) (View.ld x3 (Rect.unit (s := S8x64) ![3, 0] S1x64.size inb_S8x64_S1x64_3_0)) (View.ld x1 (Rect.unit (s := S512x64) ![0, 0] S512x64.size inb_S512x64_S512x64_0_0))) (k4_pay4 (View.ld x3 (Rect.unit (s := S8x64) ![2, 0] S1x64.size inb_S8x64_S1x64_2_0)) (View.ld x3 (Rect.unit (s := S8x64) ![3, 0] S1x64.size inb_S8x64_S1x64_3_0)) (View.ld x1 (Rect.unit (s := S512x64) ![0, 0] S512x64.size inb_S512x64_S512x64_0_0))) (k4_pay5 (View.ld x3 (Rect.unit (s := S8x64) ![2, 0] S1x64.size inb_S8x64_S1x64_2_0)) (View.ld x3 (Rect.unit (s := S8x64) ![3, 0] S1x64.size inb_S8x64_S1x64_3_0)) (View.ld x1 (Rect.unit (s := S512x64) ![0, 0] S512x64.size inb_S512x64_S512x64_0_0))) k4_pay6 (View.ld x4 (Rect.unit (s := S64x64) ![0, 0] S64x64.size inb_S64x64_S64x64_0_0)) (View.ld x2 (Rect.unit (s := S512x8x128) ![0, 0, 0] S512x8x128.size inb_S512x8x128_S512x8x128_0_0_0))) (View.ld x5 (Rect.unit (s := S8x192x256) ![0, 0, 0] S1x192x256.size inb_S8x192x256_S1x192x256_0_0_0))

/-- the second, -/
def fin2 (x0 : Vec F S512x8x64 .f32) (x1 : Vec F S512x64 .f32) (x2 : Vec F S512x8x128 .f32) (x3 : Vec F S8x64 .f32) (x4 : Vec F S64x64 .f32) (x5 : Vec F S8x192x256 .f32) : Vec F S256x512 .f32 :=
  k4_pay14 (fin1 x0 x1 x2 x3 x4 x5) (k4_pay12 (fin44 x0 x1 x2 x3 x4 x5) (fin47 x0 x1 x2 x3 x4 x5)) (k4_pay13 (fin44 x0 x1 x2 x3 x4 x5) (fin47 x0 x1 x2 x3 x4 x5)) (View.ld x5 (Rect.unit (s := S8x192x256) ![1, 0, 0] S1x192x256.size inb_S8x192x256_S1x192x256_1_0_0))

/-- the fourth, -/
def fin4 (x0 : Vec F S512x8x64 .f32) (x1 : Vec F S512x64 .f32) (x2 : Vec F S512x8x128 .f32) (x3 : Vec F S8x64 .f32) (x4 : Vec F S64x64 .f32) (x5 : Vec F S8x192x256 .f32) : Vec F S256x512 .f32 :=
  k4_pay16 (fin44 x0 x1 x2 x3 x4 x5) (fin47 x0 x1 x2 x3 x4 x5) (fin2 x0 x1 x2 x3 x4 x5) (k4_pay15 (fin44 x0 x1 x2 x3 x4 x5) (fin47 x0 x1 x2 x3 x4 x5)) (View.ld x5 (Rect.unit (s := S8x192x256) ![2, 0, 0] S1x192x256.size inb_S8x192x256_S1x192x256_2_0_0)) (View.ld x5 (Rect.unit (s := S8x192x256) ![3, 0, 0] S1x192x256.size inb_S8x192x256_S1x192x256_3_0_0))

/-- the fifth, -/
def fin5 (x0 : Vec F S512x8x64 .f32) (x1 : Vec F S512x64 .f32) (x2 : Vec F S512x8x128 .f32) (x3 : Vec F S8x64 .f32) (x4 : Vec F S64x64 .f32) (x5 : Vec F S8x192x256 .f32) : Vec F S256x512 .f32 :=
  k4_pay18 (fin44 x0 x1 x2 x3 x4 x5) (fin47 x0 x1 x2 x3 x4 x5) (fin4 x0 x1 x2 x3 x4 x5) (k4_pay17 (fin44 x0 x1 x2 x3 x4 x5)) (View.ld x5 (Rect.unit (s := S8x192x256) ![4, 0, 0] S1x192x256.size inb_S8x192x256_S1x192x256_4_0_0))

/-- the sixth, -/
def fin6 (x0 : Vec F S512x8x64 .f32) (x1 : Vec F S512x64 .f32) (x2 : Vec F S512x8x128 .f32) (x3 : Vec F S8x64 .f32) (x4 : Vec F S64x64 .f32) (x5 : Vec F S8x192x256 .f32) : Vec F S256x512 .f32 :=
  k4_pay21 (fin44 x0 x1 x2 x3 x4 x5) (fin47 x0 x1 x2 x3 x4 x5) (fin5 x0 x1 x2 x3 x4 x5) (k4_pay19 (fin44 x0 x1 x2 x3 x4 x5) (fin47 x0 x1 x2 x3 x4 x5)) (k4_pay20 (fin44 x0 x1 x2 x3 x4 x5)) (View.ld x5 (Rect.unit (s := S8x192x256) ![5, 0, 0] S1x192x256.size inb_S8x192x256_S1x192x256_5_0_0))

/-- the seventh, -/
def fin7 (x0 : Vec F S512x8x64 .f32) (x1 : Vec F S512x64 .f32) (x2 : Vec F S512x8x128 .f32) (x3 : Vec F S8x64 .f32) (x4 : Vec F S64x64 .f32) (x5 : Vec F S8x192x256 .f32) : Vec F S256x512 .f32 :=
  k4_pay23 (fin44 x0 x1 x2 x3 x4 x5) (fin47 x0 x1 x2 x3 x4 x5) (fin6 x0 x1 x2 x3 x4 x5) (k4_pay22 (fin44 x0 x1 x2 x3 x4 x5) (fin47 x0 x1 x2 x3 x4 x5)) (View.ld x5 (Rect.unit (s := S8x192x256) ![6, 0, 0] S1x192x256.size inb_S8x192x256_S1x192x256_6_0_0))

/-- and all. -/
def fin8 (x0 : Vec F S512x8x64 .f32) (x1 : Vec F S512x64 .f32) (x2 : Vec F S512x8x128 .f32) (x3 : Vec F S8x64 .f32) (x4 : Vec F S64x64 .f32) (x5 : Vec F S8x192x256 .f32) : Vec F S256x512 .f32 :=
  k4_pay26 (fin44 x0 x1 x2 x3 x4 x5) (fin47 x0 x1 x2 x3 x4 x5) (fin7 x0 x1 x2 x3 x4 x5) (k4_pay24 (fin44 x0 x1 x2 x3 x4 x5) (fin47 x0 x1 x2 x3 x4 x5)) (k4_pay25 (fin44 x0 x1 x2 x3 x4 x5) (fin47 x0 x1 x2 x3 x4 x5)) (View.ld x5 (Rect.unit (s := S8x192x256) ![7, 0, 0] S1x192x256.size inb_S8x192x256_S1x192x256_7_0_0))

/-- The block of the product, -/
def prod (x0 : Vec F S512x8x64 .f32) (x1 : Vec F S512x64 .f32) (x2 : Vec F S512x8x128 .f32) (x3 : Vec F S8x64 .f32) (x4 : Vec F S64x64 .f32) (x5 : Vec F S8x192x256 .f32) : Vec F S1x256x512 .f32 :=
  k4_pay27 (fin44 x0 x1 x2 x3 x4 x5) (fin47 x0 x1 x2 x3 x4 x5) (fin7 x0 x1 x2 x3 x4 x5) (k4_pay24 (fin44 x0 x1 x2 x3 x4 x5) (fin47 x0 x1 x2 x3 x4 x5)) (k4_pay25 (fin44 x0 x1 x2 x3 x4 x5) (fin47 x0 x1 x2 x3 x4 x5)) (View.ld x5 (Rect.unit (s := S8x192x256) ![7, 0, 0] S1x192x256.size inb_S8x192x256_S1x192x256_7_0_0))

/-- and its moments. -/
def pmom (x0 : Vec F S512x8x64 .f32) (x1 : Vec F S512x64 .f32) (x2 : Vec F S512x8x128 .f32) (x3 : Vec F S8x64 .f32) (x4 : Vec F S64x64 .f32) (x5 : Vec F S8x192x256 .f32) : Vec F S256x8 .f32 :=
  k4_pay28 (fin44 x0 x1 x2 x3 x4 x5) (fin47 x0 x1 x2 x3 x4 x5) (fin7 x0 x1 x2 x3 x4 x5) (k4_pay24 (fin44 x0 x1 x2 x3 x4 x5) (fin47 x0 x1 x2 x3 x4 x5)) (k4_pay25 (fin44 x0 x1 x2 x3 x4 x5) (fin47 x0 x1 x2 x3 x4 x5)) (View.ld x5 (Rect.unit (s := S8x192x256) ![7, 0, 0] S1x192x256.size inb_S8x192x256_S1x192x256_7_0_0))

/-! ## The last normalization -/

/-- The block of the result. -/
def last (x0 : Vec F S1x256x1024 .f32) (x1 : Vec F S256x8 .f32) : Vec F S1x256x1024 .f32 :=
  k5_pay1 (View.ld x1 (Rect.unit (s := S256x8) ![0, 0] S256x1.size inb_S256x8_S256x1_0_0)) (View.ld x1 (Rect.unit (s := S256x8) ![0, 1] S256x1.size inb_S256x8_S256x1_0_1)) (View.ld x0 (Rect.unit (s := S1x256x1024) ![0, 0, 0] S1x256x1024.size inb_S1x256x1024_S1x256x1024_0_0_0))

end Cert.Proof
-- ==== Proof.Bodies.lean ====
/-
  The bodies of the four calls on the TensorCore run, on whole staging buffers.
-/
module

public import proofs.«01_k».proof.Proof.Outs

@[expose] public section

set_option maxRecDepth 16384

noncomputable section

namespace Cert.Proof

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

/-- The moments, at the first point: -/
theorem body2_first (c : Dev nD) (i : grid2.Coords) (h1 : k2_cond1 i = 1#1) (h2 : ¬k2_cond2 i = 1#1) (arg1 : Memref sig .tc .vmem S1024x8x128 .f32) (harg1 : arg1.IsWhole) (arg2 : Memref sig .tc .vmem S1024x16 .f32) (harg2 : arg2.IsWhole) (arg3 : Memref sig .tc .vmem S128x128 .f32) (harg3 : arg3.IsWhole) (arg4 : Memref sig .tc .vmem S8x128 .f32) (harg4 : arg4.IsWhole)
    (x0 : Vec F S1024x8x128 .f32) (x1 : Vec F S1024x16 .f32) (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (mom2 x0 x1) ∗ owns (c : Thread nD τ) arg4 fullShare (mom1r x0 x1)) -∗ K ⟨⟩))
      ⊢ wp frame (wpE (defs₀ (F := F)) Variants.none c none) E (cc2__lambda_ i arg1 harg1 arg2 harg2 arg3 harg3 arg4 harg4) K := by
  simp only [cc2__lambda__eq_skeleton]; unfold cc2__lambda__skel
  simp only [k2_part1_eq_skeleton]
  unfold owns
  iintro ⟨⟨%f0, %hf0, H0⟩, ⟨%f1, %hf1, H1⟩, ⟨%d2, %f2, -, H2⟩, ⟨%d3, %f3, -, H3⟩, Hk⟩
  subst hf0; subst hf1
  sl_exec (disch := first | sl_exact h1 | sl_exact h2)
  sl_step
  iapply Hk
  isplitl [H0]
  · iexists _; isplitr; · ipureintro; rfl
    iexact H0
  isplitl [H1]
  · iexists _; isplitr; · ipureintro; rfl
    iexact H1
  isplitl [H2]
  · iexists _; isplitr; rotate_left
    · iexact H2
    ipureintro; rw [View.read_writes_full]; rfl
  iexists _; isplitr; rotate_left
  · iexact H3
  ipureintro; rw [View.read_writes_full]; rfl

/-- at a later one, on top of what is there. -/
theorem body2_next (c : Dev nD) (i : grid2.Coords) (h1 : ¬k2_cond1 i = 1#1) (h2 : k2_cond2 i = 1#1) (arg1 : Memref sig .tc .vmem S1024x8x128 .f32) (harg1 : arg1.IsWhole) (arg2 : Memref sig .tc .vmem S1024x16 .f32) (harg2 : arg2.IsWhole) (arg3 : Memref sig .tc .vmem S128x128 .f32) (harg3 : arg3.IsWhole) (arg4 : Memref sig .tc .vmem S8x128 .f32) (harg4 : arg4.IsWhole)
    (x0 : Vec F S1024x8x128 .f32) (x1 : Vec F S1024x16 .f32) (y0 : Vec F S128x128 .f32) (y1 : Vec F S8x128 .f32) (E : Set ℕ) (K : PUnit → sProp 𝕄) :
    iprop(owns (c : Thread nD τ) arg1 fullShare x0 ∗ owns (c : Thread nD τ) arg2 fullShare x1 ∗ owns (c : Thread nD τ) arg3 fullShare y0 ∗ owns (c : Thread nD τ) arg4 fullShare y1
        ∗ (iprop(owns (c : Thread nD τ) arg1 fullShare x0 ∗ owns (c : Thread nD τ) arg2 fullShare x1 ∗ owns (c : Thread nD τ) arg3 fullShare (k2_pay2 (mom2 x0 x1) y0) ∗ owns (c : Thread nD τ) arg4 fullShare (k2_pay3 (mom1 x0 x1) (Scalar.ofBits .f32 0x00000000#32) y1)) -∗ K ⟨⟩))
      ⊢ wp frame (wpE (defs₀ (F := F)) Variants.none c none) E (cc2__lambda_ i arg1 harg1 arg2 harg2 arg3 harg3 arg4 harg4) K := by
  simp only [cc2__lambda__eq_skeleton]; unfold cc2__lambda__skel
  simp only [k2_part1_eq_skeleton]
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | sl_exact h1 | sl_exact h2)
  sl_step
  iapply Hk
  isplitl [H0]
  · iexists _; isplitr; · ipureintro; rfl
    iexact H0
  isplitl [H1]
  · iexists _; isplitr; · ipureintro; rfl
    iexact H1
  isplitl [H2]
  · iexists _; isplitr; rotate_left
    · iexact H2
    ipureintro; rw [View.read_writes_full, View.readAt_full]; rfl
  iexists _; isplitr; rotate_left
  · iexact H3
  ipureintro; rw [View.read_writes_full, View.readAt_full]; rfl

/-- The two chains, at the first point: -/
theorem body3_first (c : Dev nD) (i : grid3.Coords) (h1 : k3_cond1 i = 1#1) (h2 : ¬k3_cond2 i = 1#1) (arg1 : Memref sig .tc .vmem S512x8x128 .f32) (harg1 : arg1.IsWhole) (arg2 : Memref sig .tc .vmem S512x16 .f32) (harg2 : arg2.IsWhole) (arg3 : Memref sig .tc .vmem S16x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S8x16x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S512x8x64 .f32) (harg9 : arg9.IsWhole) (arg10 : Memref sig .tc .vmem S512x64 .f32) (harg10 : arg10.IsWhole) (arg11 : Memref sig .tc .vmem S8x64 .f32) (harg11 : arg11.IsWhole)
    (x0 : Vec F S512x8x128 .f32) (x1 : Vec F S512x16 .f32) (x2 : Vec F S16x64 .f32) (x3 : Vec F S1x64 .f32) (x4 : Vec F S64x64 .f32) (x5 : Vec F S8x16x64 .f32) (x6 : Vec F S1x64 .f32) (x7 : Vec F S64x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (lay2 x0 x1 x2 x3 x4 x5 x6 x7) ∗ owns (c : Thread nD τ) arg10 fullShare (tay2 x0 x1 x2 x3 x4 x5 x6 x7) ∗ owns (c : Thread nD τ) arg11 fullShare (lmom x0 x1 x2 x3 x4 x5 x6 x7)) -∗ K ⟨⟩))
      ⊢ wp frame (wpE (defs₀ (F := F)) Variants.none c none) E (cc3__lambda_ i arg1 harg1 arg2 harg2 arg3 harg3 arg4 harg4 arg5 harg5 arg6 harg6 arg7 harg7 arg8 harg8 arg9 harg9 arg10 harg10 arg11 harg11) K := by
  simp only [cc3__lambda__eq_skeleton]; unfold cc3__lambda__skel
  simp only [k3_part1_eq_skeleton, k3_part2_eq_skeleton, k3_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0; subst hf1; subst hf2; subst hf3; subst hf4; subst hf5; subst hf6; subst hf7
  sl_exec (disch := first | sl_exact h1 | sl_exact h2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; rotate_left
    · iexact H8
    ipureintro; rw [View.read_writes_full]; rfl
  isplitl [H9]
  · iexists _; isplitr; rotate_left
    · iexact H9
    ipureintro; rw [View.read_writes_full]; rfl
  iexists _; isplitr; rotate_left
  · iexact H10
  ipureintro; rw [View.read_writes_full]; rfl

/-- at a later one. -/
theorem body3_next (c : Dev nD) (i : grid3.Coords) (h1 : ¬k3_cond1 i = 1#1) (h2 : k3_cond2 i = 1#1) (arg1 : Memref sig .tc .vmem S512x8x128 .f32) (harg1 : arg1.IsWhole) (arg2 : Memref sig .tc .vmem S512x16 .f32) (harg2 : arg2.IsWhole) (arg3 : Memref sig .tc .vmem S16x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S8x16x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S512x8x64 .f32) (harg9 : arg9.IsWhole) (arg10 : Memref sig .tc .vmem S512x64 .f32) (harg10 : arg10.IsWhole) (arg11 : Memref sig .tc .vmem S8x64 .f32) (harg11 : arg11.IsWhole)
    (x0 : Vec F S512x8x128 .f32) (x1 : Vec F S512x16 .f32) (x2 : Vec F S16x64 .f32) (x3 : Vec F S1x64 .f32) (x4 : Vec F S64x64 .f32) (x5 : Vec F S8x16x64 .f32) (x6 : Vec F S1x64 .f32) (x7 : Vec F S64x64 .f32) (y2 : Vec F S8x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ owns (c : Thread nD τ) arg11 fullShare y2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (lay2 x0 x1 x2 x3 x4 x5 x6 x7) ∗ owns (c : Thread nD τ) arg10 fullShare (tay2 x0 x1 x2 x3 x4 x5 x6 x7) ∗ owns (c : Thread nD τ) arg11 fullShare (k3_pay1 (lmom x0 x1 x2 x3 x4 x5 x6 x7) y2)) -∗ K ⟨⟩))
      ⊢ wp frame (wpE (defs₀ (F := F)) Variants.none c none) E (cc3__lambda_ i arg1 harg1 arg2 harg2 arg3 harg3 arg4 harg4 arg5 harg5 arg6 harg6 arg7 harg7 arg8 harg8 arg9 harg9 arg10 harg10 arg11 harg11) K := by
  simp only [cc3__lambda__eq_skeleton]; unfold cc3__lambda__skel
  simp only [k3_part1_eq_skeleton, k3_part2_eq_skeleton, k3_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, Hk⟩
  subst hf0; subst hf1; subst hf2; subst hf3; subst hf4; subst hf5; subst hf6; subst hf7; subst hf10
  sl_exec (disch := first | sl_exact h1 | sl_exact h2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; rotate_left
    · iexact H8
    ipureintro; rw [View.read_writes_full]; rfl
  isplitl [H9]
  · iexists _; isplitr; rotate_left
    · iexact H9
    ipureintro; rw [View.read_writes_full]; rfl
  iexists _; isplitr; rotate_left
  · iexact H10
  ipureintro; rw [View.read_writes_full, View.readAt_full]; rfl

/-- The product, at the first point: -/
theorem body4_first (c : Dev nD) (i : grid4.Coords) (h1 : k4_cond1 i = 1#1) (h2 : ¬k4_cond2 i = 1#1) (arg2 : Memref sig .tc .vmem S512x8x64 .f32) (harg2 : arg2.IsWhole) (arg3 : Memref sig .tc .vmem S512x64 .f32) (harg3 : arg3.IsWhole) (arg4 : Memref sig .tc .vmem S512x8x128 .f32) (harg4 : arg4.IsWhole) (arg5 : Memref sig .tc .vmem S8x64 .f32) (harg5 : arg5.IsWhole) (arg6 : Memref sig .tc .vmem S64x64 .f32) (harg6 : arg6.IsWhole) (arg7 : Memref sig .tc .vmem S8x192x256 .f32) (harg7 : arg7.IsWhole) (arg8 : Memref sig .tc .vmem S1x256x512 .f32) (harg8 : arg8.IsWhole) (arg9 : Memref sig .tc .vmem S256x8 .f32) (harg9 : arg9.IsWhole)
    (x0 : Vec F S512x8x64 .f32) (x1 : Vec F S512x64 .f32) (x2 : Vec F S512x8x128 .f32) (x3 : Vec F S8x64 .f32) (x4 : Vec F S64x64 .f32) (x5 : Vec F S8x192x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (prod x0 x1 x2 x3 x4 x5) ∗ owns (c : Thread nD τ) arg9 fullShare (pmom x0 x1 x2 x3 x4 x5)) -∗ K ⟨⟩))
      ⊢ wp frame (wpE (defs₀ (F := F)) Variants.none c none) E (cc4__lambda_ i arg2 harg2 arg3 harg3 arg4 harg4 arg5 harg5 arg6 harg6 arg7 harg7 arg8 harg8 arg9 harg9) K := by
  simp only [cc4__lambda__eq_skeleton]; unfold cc4__lambda__skel
  simp only [k4_part1_eq_skeleton, k4_part2_eq_skeleton, k4_part3_eq_skeleton, k4_part4_eq_skeleton, k4_part5_eq_skeleton, k4_part6_eq_skeleton, k4_part7_eq_skeleton, k4_part8_eq_skeleton, k4_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec (disch := first | sl_exact h1 | sl_exact h2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; rotate_left
    · iexact H6
    ipureintro; rw [View.read_writes_full]; rfl
  iexists _; isplitr; rotate_left
  · iexact H7
  ipureintro; rw [View.read_writes_full]; rfl

/-- at a later one. -/
theorem body4_next (c : Dev nD) (i : grid4.Coords) (h1 : ¬k4_cond1 i = 1#1) (h2 : k4_cond2 i = 1#1) (arg2 : Memref sig .tc .vmem S512x8x64 .f32) (harg2 : arg2.IsWhole) (arg3 : Memref sig .tc .vmem S512x64 .f32) (harg3 : arg3.IsWhole) (arg4 : Memref sig .tc .vmem S512x8x128 .f32) (harg4 : arg4.IsWhole) (arg5 : Memref sig .tc .vmem S8x64 .f32) (harg5 : arg5.IsWhole) (arg6 : Memref sig .tc .vmem S64x64 .f32) (harg6 : arg6.IsWhole) (arg7 : Memref sig .tc .vmem S8x192x256 .f32) (harg7 : arg7.IsWhole) (arg8 : Memref sig .tc .vmem S1x256x512 .f32) (harg8 : arg8.IsWhole) (arg9 : Memref sig .tc .vmem S256x8 .f32) (harg9 : arg9.IsWhole)
    (x0 : Vec F S512x8x64 .f32) (x1 : Vec F S512x64 .f32) (x2 : Vec F S512x8x128 .f32) (x3 : Vec F S8x64 .f32) (x4 : Vec F S64x64 .f32) (x5 : Vec F S8x192x256 .f32) (y1 : Vec F S256x8 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare y1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (prod x0 x1 x2 x3 x4 x5) ∗ owns (c : Thread nD τ) arg9 fullShare (k4_pay1 (pmom x0 x1 x2 x3 x4 x5) y1)) -∗ K ⟨⟩))
      ⊢ wp frame (wpE (defs₀ (F := F)) Variants.none c none) E (cc4__lambda_ i arg2 harg2 arg3 harg3 arg4 harg4 arg5 harg5 arg6 harg6 arg7 harg7 arg8 harg8 arg9 harg9) K := by
  simp only [cc4__lambda__eq_skeleton]; unfold cc4__lambda__skel
  simp only [k4_part1_eq_skeleton, k4_part2_eq_skeleton, k4_part3_eq_skeleton, k4_part4_eq_skeleton, k4_part5_eq_skeleton, k4_part6_eq_skeleton, k4_part7_eq_skeleton, k4_part8_eq_skeleton, k4_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf0; subst hf1; subst hf2; subst hf3; subst hf4; subst hf5; subst hf7
  sl_exec (disch := first | sl_exact h1 | sl_exact h2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; rotate_left
    · iexact H6
    ipureintro; rw [View.read_writes_full]; rfl
  iexists _; isplitr; rotate_left
  · iexact H7
  ipureintro; rw [View.read_writes_full, View.readAt_full]; rfl

/-- The last normalization. -/
theorem body5 (c : Dev nD) (i : grid5.Coords)  (arg2 : Memref sig .tc .vmem S1x256x1024 .f32) (harg2 : arg2.IsWhole) (arg3 : Memref sig .tc .vmem S256x8 .f32) (harg3 : arg3.IsWhole) (arg4 : Memref sig .tc .vmem S1x256x1024 .f32) (harg4 : arg4.IsWhole)
    (x0 : Vec F S1x256x1024 .f32) (x1 : Vec F S256x8 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (last x0 x1)) -∗ K ⟨⟩))
      ⊢ wp frame (wpE (defs₀ (F := F)) Variants.none c none) E (cc5__bnout_kernel i arg2 harg2 arg3 harg3 arg4 harg4) K := by
  simp only [cc5__bnout_kernel_eq_skeleton]; unfold cc5__bnout_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists _; isplitr; · ipureintro; rfl
    iexact H0
  isplitl [H1]
  · iexists _; isplitr; · ipureintro; rfl
    iexact H1
  iexists _; isplitr; rotate_left
  · iexact H2
  ipureintro; rw [View.read_writes_full]; rfl

end Cert.Proof
-- ==== Proof.Dats.lean ====
/-
  The four calls on the TensorCore as pipelines over the arrays they find: what each window's staging buffer holds
  after each point, and that the body makes it so.
-/
module

public import proofs.«01_k».proof.Proof.Bodies

@[expose] public section

set_option maxRecDepth 16384

noncomputable section

namespace Cert.Proof

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig (HIx 2) (Elt F) ℕ UU ℕ

/-- An array, as the device names it. -/
abbrev dr (b : Ref sig .tc) : DevRef τ sig := Proc.devRef .tc b

/-- The waits a core may have on record once the gathers are done: those of the gathers' levels. -/
def below (c : Dev nD) : Set (SemLoc sig × HIx 2) := {p | (K (F := F)).lev ((SparseCore.T c : Thread nD τ), p.1) p.2 ≤ 8 * 2}

/-- What a window that is stored into at every point holds when the body runs: what the body left at the point before. -/
theorem before_next {cfg : Cfg sig Λ₀} {c : Dev nD} (dat : Dat τ (Elt F) (HIx 2) ℕ UU ℕ cfg c) (w : Fin cfg.W) (hw : (cfg.win w).isOut = true)
    (t : Fin cfg.N) (ht : t.val ≠ 0) (hi : ∀ t, cfg.idle w (cfg.grid.coords t) = false)
    (hf : (cfg.win w).flush ⟨t.val - 1, Nat.lt_of_le_of_lt (Nat.sub_le _ _) t.isLt⟩ = false) (d : (cfg.win w).block.Idx → Elt F (cfg.win w).elt) :
    dat.before w t d = dat.kept w ⟨t.val - 1, Nat.lt_of_le_of_lt (Nat.sub_le _ _) t.isLt⟩ d := by
  rw [dat.before_of_pos w t ht ((cfg.win w).fetch_out hw t) d, hf, if_neg Bool.false_ne_true]
  unfold Dat.left; rw [hi]

variable (V : Dev nD → Valuation τ sig (Elt F))

/-! ## The moments -/

/-- Window `w`'s block at point `t`. -/
def blk2 (c : Dev nD) (w : Fin cfg2.W) (t : Fin cfg2.N) : ((cfg2.win w).xblock (cfg2.grid.coords t)).Idx → Elt F (cfg2.win w).elt :=
  ((cfg2.win w).blk t).view.read (Elt F) (V c (dr (Pipeline.arrRef spec2 w)))

/-- What the accumulating outputs hold after point `n`. -/
def acc2 (c : Dev nD) : (n : ℕ) → n < cfg2.N → Vec F S128x128 .f32 × Vec F S8x128 .f32
  | 0, hn => (mom2 (blk2 V c 0 ⟨0, hn⟩) (blk2 V c 1 ⟨0, hn⟩), mom1r (blk2 V c 0 ⟨0, hn⟩) (blk2 V c 1 ⟨0, hn⟩))
  | n + 1, hn => (k2_pay2 (mom2 (blk2 V c 0 ⟨n + 1, hn⟩) (blk2 V c 1 ⟨n + 1, hn⟩)) (acc2 c n (Nat.lt_of_succ_lt hn)).1, k2_pay3 (mom1 (blk2 V c 0 ⟨n + 1, hn⟩) (blk2 V c 1 ⟨n + 1, hn⟩)) (Scalar.ofBits .f32 0x00000000#32) (acc2 c n (Nat.lt_of_succ_lt hn)).2)

/-- The pipeline's data: the arrays as found; each input's buffer left at its block, each output's at the above; nothing owed. -/
def dat2 (c : Dev nD) : Dat τ (Elt F) (HIx 2) ℕ UU ℕ cfg2 c where
  A w := V c (dr (Pipeline.arrRef spec2 w))
  after w t := match w with
    | ⟨0, _⟩ => blk2 V c 0 t
    | ⟨1, _⟩ => blk2 V c 1 t
    | ⟨2, _⟩ => (acc2 V c t.val t.isLt).1
    | ⟨3, _⟩ => (acc2 V c t.val t.isLt).2
  Φ _ := Pipeline.scopedRest spec2 c
  q _ := fullShare
  owed _ := 0
  recorded _ := below (F := F) c

theorem A2 (c : Dev nD) (w : Fin cfg2.W) : (dat2 V c).A w = V c (dr (Pipeline.arrRef spec2 w)) := by dsimp only [dat2]
theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = (acc2 V c t.val t.isLt).1 := by dsimp only [dat2]
theorem after2_3 (c : Dev nD) (t : Fin cfg2.N) : (dat2 V c).after 3 t = (acc2 V c t.val t.isLt).2 := by dsimp only [dat2]

theorem before2_0 (c : Dev nD) (t : Fin cfg2.N) (d) : (dat2 V c).before 0 t d = blk2 V c 0 t :=
  ((dat2 V c).before_in_eq_fetched 0 rfl (fun _ => rfl) (fun _ _ _ => rfl)
    (fun t => by rw [after2_0]; unfold Dat.blockOf blk2; rw [A2]; try rfl) t d).trans (by unfold Dat.fetched Dat.blockOf blk2; rw [A2]; try rfl)
theorem before2_1 (c : Dev nD) (t : Fin cfg2.N) (d) : (dat2 V c).before 1 t d = blk2 V c 1 t :=
  ((dat2 V c).before_in_eq_fetched 1 rfl (fun _ => rfl) (fun _ _ _ => rfl)
    (fun t => by rw [after2_1]; unfold Dat.blockOf blk2; rw [A2]; try rfl) t d).trans (by unfold Dat.fetched Dat.blockOf blk2; rw [A2]; try rfl)

theorem cond2_1 : ∀ t : Fin cfg2.N, (k2_cond1 (grid2.coords t) = 1#1) ↔ t.val = 0 := by decide +kernel
theorem cond2_2 : ∀ t : Fin cfg2.N, (k2_cond2 (grid2.coords t) = 1#1) ↔ t.val ≠ 0 := by decide +kernel
theorem live2_2 : ∀ t : Fin cfg2.N, cfg2.idle 2 (grid2.coords t) = false := by decide +kernel
theorem before2_2 (c : Dev nD) (t : Fin cfg2.N) (ht : t.val ≠ 0) (d) :
    (dat2 V c).before 2 t d = (dat2 V c).after 2 ⟨t.val - 1, Nat.lt_of_le_of_lt (Nat.sub_le _ _) t.isLt⟩ := by
  have hN : t.val < 4 := lt_of_lt_of_eq t.isLt (show cfg2.N = 4 from N_2)
  rw [before_next (dat2 V c) 2 rfl t ht live2_2 (Bool.eq_false_iff.mpr fun h => by
    have := (flush2_2 _).mp h; dsimp only at this; omega) d]
  unfold Dat.kept; try rfl
theorem live2_3 : ∀ t : Fin cfg2.N, cfg2.idle 3 (grid2.coords t) = false := by decide +kernel
theorem before2_3 (c : Dev nD) (t : Fin cfg2.N) (ht : t.val ≠ 0) (d) :
    (dat2 V c).before 3 t d = (dat2 V c).after 3 ⟨t.val - 1, Nat.lt_of_le_of_lt (Nat.sub_le _ _) t.isLt⟩ := by
  have hN : t.val < 4 := lt_of_lt_of_eq t.isLt (show cfg2.N = 4 from N_2)
  rw [before_next (dat2 V c) 3 rfl t ht live2_3 (Bool.eq_false_iff.mpr fun h => by
    have := (flush2_3 _).mp h; dsimp only at this; omega) d]
  unfold Dat.kept; try rfl

theorem acc2_zero (c : Dev nD) (t : Fin cfg2.N) (h : t.val = 0) : acc2 V c t.val t.isLt = (mom2 (blk2 V c 0 t) (blk2 V c 1 t), mom1r (blk2 V c 0 t) (blk2 V c 1 t)) := by
  obtain ⟨n, hn⟩ := t
  dsimp only at h; subst h
  rfl
theorem acc2_succ (c : Dev nD) (t : Fin cfg2.N) (h : t.val ≠ 0) : acc2 V c t.val t.isLt = (k2_pay2 (mom2 (blk2 V c 0 t) (blk2 V c 1 t)) (acc2 V c (t.val - 1) (Nat.lt_of_le_of_lt (Nat.sub_le _ _) t.isLt)).1, k2_pay3 (mom1 (blk2 V c 0 t) (blk2 V c 1 t)) (Scalar.ofBits .f32 0x00000000#32) (acc2 V c (t.val - 1) (Nat.lt_of_le_of_lt (Nat.sub_le _ _) t.isLt)).2) := by
  obtain ⟨n, hn⟩ := t
  cases n with
  | zero => exact absurd rfl h
  | succ n => rfl

/-- The body at any point. -/
theorem sound2 (c : Dev nD) (t : Fin cfg2.N) :
    iprop((dat2 V c).Φ t.castSucc ∗ (dat2 V c).owesAt none t.castSucc ∗ (∃ d, owns (c : Thread nD τ) (st2_0 t) fullShare ((dat2 V c).before 0 t d)) ∗ (∃ d, owns (c : Thread nD τ) (st2_1 t) fullShare ((dat2 V c).before 1 t d)) ∗ (∃ d, owns (c : Thread nD τ) (st2_2 t) fullShare ((dat2 V c).before 2 t d)) ∗ (∃ d, owns (c : Thread nD τ) (st2_3 t) fullShare ((dat2 V c).before 3 t d)))
      ⊢ wp frame (wpE (defs₀ (F := F)) Variants.none c none) Set.univ (bodyAt2 t)
          (fun _ => iprop((dat2 V c).Φ t.succ ∗ (dat2 V c).owesAt none t.succ ∗ (dat2 V c).leavesExact 0 t ∗ (dat2 V c).leavesExact 1 t ∗ (dat2 V c).leavesExact 2 t ∗ (dat2 V c).leavesExact 3 t)) := by
  unfold bodyAt2
  simp only [before2_0, before2_1]
  rw [show (dat2 V c).Φ t.succ = (dat2 V c).Φ t.castSucc from rfl,
    show (dat2 V c).owesAt none t.succ = (dat2 V c).owesAt none t.castSucc from rfl]
  rw [show (dat2 V c).leavesExact 0 t = owns (c : Thread nD τ) (st2_0 t) fullShare ((dat2 V c).after 0 t) from by
    unfold Dat.leavesExact; rw [show cfg2.idle 0 (grid2.coords t) = false from rfl], after2_0]
  rw [show (dat2 V c).leavesExact 1 t = owns (c : Thread nD τ) (st2_1 t) fullShare ((dat2 V c).after 1 t) from by
    unfold Dat.leavesExact; rw [show cfg2.idle 1 (grid2.coords t) = false from rfl], after2_1]
  rw [show (dat2 V c).leavesExact 2 t = owns (c : Thread nD τ) (st2_2 t) fullShare ((dat2 V c).after 2 t) from by
    unfold Dat.leavesExact; rw [show cfg2.idle 2 (grid2.coords t) = false from live2_2 t], after2_2]
  rw [show (dat2 V c).leavesExact 3 t = owns (c : Thread nD τ) (st2_3 t) fullShare ((dat2 V c).after 3 t) from by
    unfold Dat.leavesExact; rw [show cfg2.idle 3 (grid2.coords t) = false from live2_3 t], after2_3]
  by_cases h : t.val = 0
  · rw [acc2_zero V c t h]
    iintro ⟨HΦ, Ho, ⟨%d0, H0⟩, ⟨%d1, H1⟩, ⟨%d2, H2⟩, ⟨%d3, H3⟩⟩
    iapply (body2_first c (grid2.coords t) ((cond2_1 t).mpr h) (fun h' => (cond2_2 t).mp h' h) _ _ _ _ _ _ _ _ _ _ Set.univ _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [acc2_succ V c t h]
    simp only [before2_2 V c t h, after2_2]
    simp only [before2_3 V c t h, after2_3]
    iintro ⟨HΦ, Ho, ⟨%d0, H0⟩, ⟨%d1, H1⟩, ⟨%d2, H2⟩, ⟨%d3, H3⟩⟩
    iapply (body2_next c (grid2.coords t) (fun h' => h ((cond2_1 t).mp h')) ((cond2_2 t).mpr h) _ _ _ _ _ _ _ _ _ _ _ _ Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

theorem row2 (t : Fin cfg2.N) : defs₀ (F := F) .tc cfg2.body (cfg2.bodyArgs t (cfg2.slots t)) = bodyAt2 t := by
  rfl

theorem obl2 (c : Dev nD) : BodyObligation (dat2 V c) (defs₀ (F := F)) Variants.none none Set.univ := fun t => by
  rw [bigSep_W2, bigSep_W2, row2]
  exact triple_restated (sound2 V c t) rfl .rfl fun _ => .rfl

/-! ## The two chains of layers -/

/-- Window `w`'s block at point `t`. -/
def blk3 (c : Dev nD) (w : Fin cfg3.W) (t : Fin cfg3.N) : ((cfg3.win w).xblock (cfg3.grid.coords t)).Idx → Elt F (cfg3.win w).elt :=
  ((cfg3.win w).blk t).view.read (Elt F) (V c (dr (Pipeline.arrRef spec3 w)))

/-- What the accumulating outputs hold after point `n`. -/
def acc3 (c : Dev nD) : (n : ℕ) → n < cfg3.N → Vec F S8x64 .f32
  | 0, hn => lmom (blk3 V c 0 ⟨0, hn⟩) (blk3 V c 1 ⟨0, hn⟩) (blk3 V c 2 ⟨0, hn⟩) (blk3 V c 3 ⟨0, hn⟩) (blk3 V c 4 ⟨0, hn⟩) (blk3 V c 5 ⟨0, hn⟩) (blk3 V c 6 ⟨0, hn⟩) (blk3 V c 7 ⟨0, hn⟩)
  | n + 1, hn => k3_pay1 (lmom (blk3 V c 0 ⟨n + 1, hn⟩) (blk3 V c 1 ⟨n + 1, hn⟩) (blk3 V c 2 ⟨n + 1, hn⟩) (blk3 V c 3 ⟨n + 1, hn⟩) (blk3 V c 4 ⟨n + 1, hn⟩) (blk3 V c 5 ⟨n + 1, hn⟩) (blk3 V c 6 ⟨n + 1, hn⟩) (blk3 V c 7 ⟨n + 1, hn⟩)) (acc3 c n (Nat.lt_of_succ_lt hn))

/-- The pipeline's data: the arrays as found; each input's buffer left at its block, each output's at the above; nothing owed. -/
def dat3 (c : Dev nD) : Dat τ (Elt F) (HIx 2) ℕ UU ℕ cfg3 c where
  A w := V c (dr (Pipeline.arrRef spec3 w))
  after w t := match w with
    | ⟨0, _⟩ => blk3 V c 0 t
    | ⟨1, _⟩ => blk3 V c 1 t
    | ⟨2, _⟩ => blk3 V c 2 t
    | ⟨3, _⟩ => blk3 V c 3 t
    | ⟨4, _⟩ => blk3 V c 4 t
    | ⟨5, _⟩ => blk3 V c 5 t
    | ⟨6, _⟩ => blk3 V c 6 t
    | ⟨7, _⟩ => blk3 V c 7 t
    | ⟨8, _⟩ => lay2 (blk3 V c 0 t) (blk3 V c 1 t) (blk3 V c 2 t) (blk3 V c 3 t) (blk3 V c 4 t) (blk3 V c 5 t) (blk3 V c 6 t) (blk3 V c 7 t)
    | ⟨9, _⟩ => tay2 (blk3 V c 0 t) (blk3 V c 1 t) (blk3 V c 2 t) (blk3 V c 3 t) (blk3 V c 4 t) (blk3 V c 5 t) (blk3 V c 6 t) (blk3 V c 7 t)
    | ⟨10, _⟩ => acc3 V c t.val t.isLt
  Φ _ := Pipeline.scopedRest spec3 c
  q _ := fullShare
  owed _ := 0
  recorded _ := below (F := F) c

theorem A3 (c : Dev nD) (w : Fin cfg3.W) : (dat3 V c).A w = V c (dr (Pipeline.arrRef spec3 w)) := by dsimp only [dat3]
theorem after3_0 (c : Dev nD) (t : Fin cfg3.N) : (dat3 V c).after 0 t = blk3 V c 0 t := by dsimp only [dat3]
theorem after3_1 (c : Dev nD) (t : Fin cfg3.N) : (dat3 V c).after 1 t = blk3 V c 1 t := by dsimp only [dat3]
theorem after3_2 (c : Dev nD) (t : Fin cfg3.N) : (dat3 V c).after 2 t = blk3 V c 2 t := by dsimp only [dat3]
theorem after3_3 (c : Dev nD) (t : Fin cfg3.N) : (dat3 V c).after 3 t = blk3 V c 3 t := by dsimp only [dat3]
theorem after3_4 (c : Dev nD) (t : Fin cfg3.N) : (dat3 V c).after 4 t = blk3 V c 4 t := by dsimp only [dat3]
theorem after3_5 (c : Dev nD) (t : Fin cfg3.N) : (dat3 V c).after 5 t = blk3 V c 5 t := by dsimp only [dat3]
theorem after3_6 (c : Dev nD) (t : Fin cfg3.N) : (dat3 V c).after 6 t = blk3 V c 6 t := by dsimp only [dat3]
theorem after3_7 (c : Dev nD) (t : Fin cfg3.N) : (dat3 V c).after 7 t = blk3 V c 7 t := by dsimp only [dat3]
theorem after3_8 (c : Dev nD) (t : Fin cfg3.N) : (dat3 V c).after 8 t = lay2 (blk3 V c 0 t) (blk3 V c 1 t) (blk3 V c 2 t) (blk3 V c 3 t) (blk3 V c 4 t) (blk3 V c 5 t) (blk3 V c 6 t) (blk3 V c 7 t) := by dsimp only [dat3]
theorem after3_9 (c : Dev nD) (t : Fin cfg3.N) : (dat3 V c).after 9 t = tay2 (blk3 V c 0 t) (blk3 V c 1 t) (blk3 V c 2 t) (blk3 V c 3 t) (blk3 V c 4 t) (blk3 V c 5 t) (blk3 V c 6 t) (blk3 V c 7 t) := by dsimp only [dat3]
theorem after3_10 (c : Dev nD) (t : Fin cfg3.N) : (dat3 V c).after 10 t = acc3 V c t.val t.isLt := by dsimp only [dat3]

theorem before3_0 (c : Dev nD) (t : Fin cfg3.N) (d) : (dat3 V c).before 0 t d = blk3 V c 0 t :=
  ((dat3 V c).before_in_eq_fetched 0 rfl (fun _ => rfl) (fun _ _ _ => rfl)
    (fun t => by rw [after3_0]; unfold Dat.blockOf blk3; rw [A3]; try rfl) t d).trans (by unfold Dat.fetched Dat.blockOf blk3; rw [A3]; try rfl)
theorem before3_1 (c : Dev nD) (t : Fin cfg3.N) (d) : (dat3 V c).before 1 t d = blk3 V c 1 t :=
  ((dat3 V c).before_in_eq_fetched 1 rfl (fun _ => rfl) (fun _ _ _ => rfl)
    (fun t => by rw [after3_1]; unfold Dat.blockOf blk3; rw [A3]; try rfl) t d).trans (by unfold Dat.fetched Dat.blockOf blk3; rw [A3]; try rfl)
theorem before3_2 (c : Dev nD) (t : Fin cfg3.N) (d) : (dat3 V c).before 2 t d = blk3 V c 2 t :=
  ((dat3 V c).before_in_eq_fetched 2 rfl (fun _ => rfl) (fun _ _ _ => rfl)
    (fun t => by rw [after3_2]; unfold Dat.blockOf blk3; rw [A3]; try rfl) t d).trans (by unfold Dat.fetched Dat.blockOf blk3; rw [A3]; try rfl)
theorem before3_3 (c : Dev nD) (t : Fin cfg3.N) (d) : (dat3 V c).before 3 t d = blk3 V c 3 t :=
  ((dat3 V c).before_in_eq_fetched 3 rfl (fun _ => rfl) (fun _ _ _ => rfl)
    (fun t => by rw [after3_3]; unfold Dat.blockOf blk3; rw [A3]; try rfl) t d).trans (by unfold Dat.fetched Dat.blockOf blk3; rw [A3]; try rfl)
theorem before3_4 (c : Dev nD) (t : Fin cfg3.N) (d) : (dat3 V c).before 4 t d = blk3 V c 4 t :=
  ((dat3 V c).before_in_eq_fetched 4 rfl (fun _ => rfl) (fun _ _ _ => rfl)
    (fun t => by rw [after3_4]; unfold Dat.blockOf blk3; rw [A3]; try rfl) t d).trans (by unfold Dat.fetched Dat.blockOf blk3; rw [A3]; try rfl)
theorem before3_5 (c : Dev nD) (t : Fin cfg3.N) (d) : (dat3 V c).before 5 t d = blk3 V c 5 t :=
  ((dat3 V c).before_in_eq_fetched 5 rfl (fun _ => rfl) (fun _ _ _ => rfl)
    (fun t => by rw [after3_5]; unfold Dat.blockOf blk3; rw [A3]; try rfl) t d).trans (by unfold Dat.fetched Dat.blockOf blk3; rw [A3]; try rfl)
theorem before3_6 (c : Dev nD) (t : Fin cfg3.N) (d) : (dat3 V c).before 6 t d = blk3 V c 6 t :=
  ((dat3 V c).before_in_eq_fetched 6 rfl (fun _ => rfl) (fun _ _ _ => rfl)
    (fun t => by rw [after3_6]; unfold Dat.blockOf blk3; rw [A3]; try rfl) t d).trans (by unfold Dat.fetched Dat.blockOf blk3; rw [A3]; try rfl)
theorem before3_7 (c : Dev nD) (t : Fin cfg3.N) (d) : (dat3 V c).before 7 t d = blk3 V c 7 t :=
  ((dat3 V c).before_in_eq_fetched 7 rfl (fun _ => rfl) (fun _ _ _ => rfl)
    (fun t => by rw [after3_7]; unfold Dat.blockOf blk3; rw [A3]; try rfl) t d).trans (by unfold Dat.fetched Dat.blockOf blk3; rw [A3]; try rfl)

theorem cond3_1 : ∀ t : Fin cfg3.N, (k3_cond1 (grid3.coords t) = 1#1) ↔ t.val = 0 := by decide +kernel
theorem cond3_2 : ∀ t : Fin cfg3.N, (k3_cond2 (grid3.coords t) = 1#1) ↔ t.val ≠ 0 := by decide +kernel
theorem live3_10 : ∀ t : Fin cfg3.N, cfg3.idle 10 (grid3.coords t) = false := by decide +kernel
theorem before3_10 (c : Dev nD) (t : Fin cfg3.N) (ht : t.val ≠ 0) (d) :
    (dat3 V c).before 10 t d = (dat3 V c).after 10 ⟨t.val - 1, Nat.lt_of_le_of_lt (Nat.sub_le _ _) t.isLt⟩ := by
  have hN : t.val < 8 := lt_of_lt_of_eq t.isLt (show cfg3.N = 8 from N_3)
  rw [before_next (dat3 V c) 10 rfl t ht live3_10 (Bool.eq_false_iff.mpr fun h => by
    have := (flush3_10 _).mp h; dsimp only at this; omega) d]
  unfold Dat.kept; try rfl

theorem acc3_zero (c : Dev nD) (t : Fin cfg3.N) (h : t.val = 0) : acc3 V c t.val t.isLt = lmom (blk3 V c 0 t) (blk3 V c 1 t) (blk3 V c 2 t) (blk3 V c 3 t) (blk3 V c 4 t) (blk3 V c 5 t) (blk3 V c 6 t) (blk3 V c 7 t) := by
  obtain ⟨n, hn⟩ := t
  dsimp only at h; subst h
  rfl
theorem acc3_succ (c : Dev nD) (t : Fin cfg3.N) (h : t.val ≠ 0) : acc3 V c t.val t.isLt = k3_pay1 (lmom (blk3 V c 0 t) (blk3 V c 1 t) (blk3 V c 2 t) (blk3 V c 3 t) (blk3 V c 4 t) (blk3 V c 5 t) (blk3 V c 6 t) (blk3 V c 7 t)) (acc3 V c (t.val - 1) (Nat.lt_of_le_of_lt (Nat.sub_le _ _) t.isLt)) := by
  obtain ⟨n, hn⟩ := t
  cases n with
  | zero => exact absurd rfl h
  | succ n => rfl

/-- The body at any point. -/
theorem sound3 (c : Dev nD) (t : Fin cfg3.N) :
    iprop((dat3 V c).Φ t.castSucc ∗ (dat3 V c).owesAt none t.castSucc ∗ (∃ d, owns (c : Thread nD τ) (st3_0 t) fullShare ((dat3 V c).before 0 t d)) ∗ (∃ d, owns (c : Thread nD τ) (st3_1 t) fullShare ((dat3 V c).before 1 t d)) ∗ (∃ d, owns (c : Thread nD τ) (st3_2 t) fullShare ((dat3 V c).before 2 t d)) ∗ (∃ d, owns (c : Thread nD τ) (st3_3 t) fullShare ((dat3 V c).before 3 t d)) ∗ (∃ d, owns (c : Thread nD τ) (st3_4 t) fullShare ((dat3 V c).before 4 t d)) ∗ (∃ d, owns (c : Thread nD τ) (st3_5 t) fullShare ((dat3 V c).before 5 t d)) ∗ (∃ d, owns (c : Thread nD τ) (st3_6 t) fullShare ((dat3 V c).before 6 t d)) ∗ (∃ d, owns (c : Thread nD τ) (st3_7 t) fullShare ((dat3 V c).before 7 t d)) ∗ (∃ d, owns (c : Thread nD τ) (st3_8 t) fullShare ((dat3 V c).before 8 t d)) ∗ (∃ d, owns (c : Thread nD τ) (st3_9 t) fullShare ((dat3 V c).before 9 t d)) ∗ (∃ d, owns (c : Thread nD τ) (st3_10 t) fullShare ((dat3 V c).before 10 t d)))
      ⊢ wp frame (wpE (defs₀ (F := F)) Variants.none c none) Set.univ (bodyAt3 t)
          (fun _ => iprop((dat3 V c).Φ t.succ ∗ (dat3 V c).owesAt none t.succ ∗ (dat3 V c).leavesExact 0 t ∗ (dat3 V c).leavesExact 1 t ∗ (dat3 V c).leavesExact 2 t ∗ (dat3 V c).leavesExact 3 t ∗ (dat3 V c).leavesExact 4 t ∗ (dat3 V c).leavesExact 5 t ∗ (dat3 V c).leavesExact 6 t ∗ (dat3 V c).leavesExact 7 t ∗ (dat3 V c).leavesExact 8 t ∗ (dat3 V c).leavesExact 9 t ∗ (dat3 V c).leavesExact 10 t)) := by
  unfold bodyAt3
  simp only [before3_0, before3_1, before3_2, before3_3, before3_4, before3_5, before3_6, before3_7]
  rw [show (dat3 V c).Φ t.succ = (dat3 V c).Φ t.castSucc from rfl,
    show (dat3 V c).owesAt none t.succ = (dat3 V c).owesAt none t.castSucc from rfl]
  rw [show (dat3 V c).leavesExact 0 t = owns (c : Thread nD τ) (st3_0 t) fullShare ((dat3 V c).after 0 t) from by
    unfold Dat.leavesExact; rw [show cfg3.idle 0 (grid3.coords t) = false from rfl], after3_0]
  rw [show (dat3 V c).leavesExact 1 t = owns (c : Thread nD τ) (st3_1 t) fullShare ((dat3 V c).after 1 t) from by
    unfold Dat.leavesExact; rw [show cfg3.idle 1 (grid3.coords t) = false from rfl], after3_1]
  rw [show (dat3 V c).leavesExact 2 t = owns (c : Thread nD τ) (st3_2 t) fullShare ((dat3 V c).after 2 t) from by
    unfold Dat.leavesExact; rw [show cfg3.idle 2 (grid3.coords t) = false from rfl], after3_2]
  rw [show (dat3 V c).leavesExact 3 t = owns (c : Thread nD τ) (st3_3 t) fullShare ((dat3 V c).after 3 t) from by
    unfold Dat.leavesExact; rw [show cfg3.idle 3 (grid3.coords t) = false from rfl], after3_3]
  rw [show (dat3 V c).leavesExact 4 t = owns (c : Thread nD τ) (st3_4 t) fullShare ((dat3 V c).after 4 t) from by
    unfold Dat.leavesExact; rw [show cfg3.idle 4 (grid3.coords t) = false from rfl], after3_4]
  rw [show (dat3 V c).leavesExact 5 t = owns (c : Thread nD τ) (st3_5 t) fullShare ((dat3 V c).after 5 t) from by
    unfold Dat.leavesExact; rw [show cfg3.idle 5 (grid3.coords t) = false from rfl], after3_5]
  rw [show (dat3 V c).leavesExact 6 t = owns (c : Thread nD τ) (st3_6 t) fullShare ((dat3 V c).after 6 t) from by
    unfold Dat.leavesExact; rw [show cfg3.idle 6 (grid3.coords t) = false from rfl], after3_6]
  rw [show (dat3 V c).leavesExact 7 t = owns (c : Thread nD τ) (st3_7 t) fullShare ((dat3 V c).after 7 t) from by
    unfold Dat.leavesExact; rw [show cfg3.idle 7 (grid3.coords t) = false from rfl], after3_7]
  rw [show (dat3 V c).leavesExact 8 t = owns (c : Thread nD τ) (st3_8 t) fullShare ((dat3 V c).after 8 t) from by
    unfold Dat.leavesExact; rw [show cfg3.idle 8 (grid3.coords t) = false from rfl], after3_8]
  rw [show (dat3 V c).leavesExact 9 t = owns (c : Thread nD τ) (st3_9 t) fullShare ((dat3 V c).after 9 t) from by
    unfold Dat.leavesExact; rw [show cfg3.idle 9 (grid3.coords t) = false from rfl], after3_9]
  rw [show (dat3 V c).leavesExact 10 t = owns (c : Thread nD τ) (st3_10 t) fullShare ((dat3 V c).after 10 t) from by
    unfold Dat.leavesExact; rw [show cfg3.idle 10 (grid3.coords t) = false from live3_10 t], after3_10]
  by_cases h : t.val = 0
  · rw [acc3_zero V c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (body3_first c (grid3.coords t) ((cond3_1 t).mpr h) (fun h' => (cond3_2 t).mp h' h) _ _ _ _ _ _ _ _ _ _ _ _ _ _ _ _ _ _ _ _ _ _ _ _ _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [acc3_succ V c t h]
    simp only [before3_10 V c t h, after3_10]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (body3_next c (grid3.coords t) (fun h' => h ((cond3_1 t).mp h')) ((cond3_2 t).mpr h) _ _ _ _ _ _ _ _ _ _ _ _ _ _ _ _ _ _ _ _ _ _ _ _ _ _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexact H10
    iintro ⟨H0, H1, H2, H3, H4, H5, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem row3 (t : Fin cfg3.N) : defs₀ (F := F) .tc cfg3.body (cfg3.bodyArgs t (cfg3.slots t)) = bodyAt3 t := by
  rfl

theorem obl3 (c : Dev nD) : BodyObligation (dat3 V c) (defs₀ (F := F)) Variants.none none Set.univ := fun t => by
  rw [bigSep_W3, bigSep_W3, row3]
  exact triple_restated (sound3 V c t) rfl .rfl fun _ => .rfl

/-! ## The product -/

/-- Window `w`'s block at point `t`. -/
def blk4 (c : Dev nD) (w : Fin cfg4.W) (t : Fin cfg4.N) : ((cfg4.win w).xblock (cfg4.grid.coords t)).Idx → Elt F (cfg4.win w).elt :=
  ((cfg4.win w).blk t).view.read (Elt F) (V c (dr (Pipeline.arrRef spec4 w)))

/-- What the accumulating outputs hold after point `n`. -/
def acc4 (c : Dev nD) : (n : ℕ) → n < cfg4.N → Vec F S256x8 .f32
  | 0, hn => pmom (blk4 V c 0 ⟨0, hn⟩) (blk4 V c 1 ⟨0, hn⟩) (blk4 V c 2 ⟨0, hn⟩) (blk4 V c 3 ⟨0, hn⟩) (blk4 V c 4 ⟨0, hn⟩) (blk4 V c 5 ⟨0, hn⟩)
  | n + 1, hn => k4_pay1 (pmom (blk4 V c 0 ⟨n + 1, hn⟩) (blk4 V c 1 ⟨n + 1, hn⟩) (blk4 V c 2 ⟨n + 1, hn⟩) (blk4 V c 3 ⟨n + 1, hn⟩) (blk4 V c 4 ⟨n + 1, hn⟩) (blk4 V c 5 ⟨n + 1, hn⟩)) (acc4 c n (Nat.lt_of_succ_lt hn))

/-- The pipeline's data: the arrays as found; each input's buffer left at its block, each output's at the above; nothing owed. -/
def dat4 (c : Dev nD) : Dat τ (Elt F) (HIx 2) ℕ UU ℕ cfg4 c where
  A w := V c (dr (Pipeline.arrRef spec4 w))
  after w t := match w with
    | ⟨0, _⟩ => blk4 V c 0 t
    | ⟨1, _⟩ => blk4 V c 1 t
    | ⟨2, _⟩ => blk4 V c 2 t
    | ⟨3, _⟩ => blk4 V c 3 t
    | ⟨4, _⟩ => blk4 V c 4 t
    | ⟨5, _⟩ => blk4 V c 5 t
    | ⟨6, _⟩ => prod (blk4 V c 0 t) (blk4 V c 1 t) (blk4 V c 2 t) (blk4 V c 3 t) (blk4 V c 4 t) (blk4 V c 5 t)
    | ⟨7, _⟩ => acc4 V c t.val t.isLt
  Φ _ := Pipeline.scopedRest spec4 c
  q _ := fullShare
  owed _ := 0
  recorded _ := below (F := F) c

theorem A4 (c : Dev nD) (w : Fin cfg4.W) : (dat4 V c).A w = V c (dr (Pipeline.arrRef spec4 w)) := by dsimp only [dat4]
theorem after4_0 (c : Dev nD) (t : Fin cfg4.N) : (dat4 V c).after 0 t = blk4 V c 0 t := by dsimp only [dat4]
theorem after4_1 (c : Dev nD) (t : Fin cfg4.N) : (dat4 V c).after 1 t = blk4 V c 1 t := by dsimp only [dat4]
theorem after4_2 (c : Dev nD) (t : Fin cfg4.N) : (dat4 V c).after 2 t = blk4 V c 2 t := by dsimp only [dat4]
theorem after4_3 (c : Dev nD) (t : Fin cfg4.N) : (dat4 V c).after 3 t = blk4 V c 3 t := by dsimp only [dat4]
theorem after4_4 (c : Dev nD) (t : Fin cfg4.N) : (dat4 V c).after 4 t = blk4 V c 4 t := by dsimp only [dat4]
theorem after4_5 (c : Dev nD) (t : Fin cfg4.N) : (dat4 V c).after 5 t = blk4 V c 5 t := by dsimp only [dat4]
theorem after4_6 (c : Dev nD) (t : Fin cfg4.N) : (dat4 V c).after 6 t = prod (blk4 V c 0 t) (blk4 V c 1 t) (blk4 V c 2 t) (blk4 V c 3 t) (blk4 V c 4 t) (blk4 V c 5 t) := by dsimp only [dat4]
theorem after4_7 (c : Dev nD) (t : Fin cfg4.N) : (dat4 V c).after 7 t = acc4 V c t.val t.isLt := by dsimp only [dat4]

theorem before4_0 (c : Dev nD) (t : Fin cfg4.N) (d) : (dat4 V c).before 0 t d = blk4 V c 0 t :=
  ((dat4 V c).before_in_eq_fetched 0 rfl (fun _ => rfl) (fun _ _ _ => rfl)
    (fun t => by rw [after4_0]; unfold Dat.blockOf blk4; rw [A4]; try rfl) t d).trans (by unfold Dat.fetched Dat.blockOf blk4; rw [A4]; try rfl)
theorem before4_1 (c : Dev nD) (t : Fin cfg4.N) (d) : (dat4 V c).before 1 t d = blk4 V c 1 t :=
  ((dat4 V c).before_in_eq_fetched 1 rfl (fun _ => rfl) (fun _ _ _ => rfl)
    (fun t => by rw [after4_1]; unfold Dat.blockOf blk4; rw [A4]; try rfl) t d).trans (by unfold Dat.fetched Dat.blockOf blk4; rw [A4]; try rfl)
theorem before4_2 (c : Dev nD) (t : Fin cfg4.N) (d) : (dat4 V c).before 2 t d = blk4 V c 2 t :=
  ((dat4 V c).before_in_eq_fetched 2 rfl (fun _ => rfl) (fun _ _ _ => rfl)
    (fun t => by rw [after4_2]; unfold Dat.blockOf blk4; rw [A4]; try rfl) t d).trans (by unfold Dat.fetched Dat.blockOf blk4; rw [A4]; try rfl)
theorem before4_3 (c : Dev nD) (t : Fin cfg4.N) (d) : (dat4 V c).before 3 t d = blk4 V c 3 t :=
  ((dat4 V c).before_in_eq_fetched 3 rfl (fun _ => rfl) (fun _ _ _ => rfl)
    (fun t => by rw [after4_3]; unfold Dat.blockOf blk4; rw [A4]; try rfl) t d).trans (by unfold Dat.fetched Dat.blockOf blk4; rw [A4]; try rfl)
theorem before4_4 (c : Dev nD) (t : Fin cfg4.N) (d) : (dat4 V c).before 4 t d = blk4 V c 4 t :=
  ((dat4 V c).before_in_eq_fetched 4 rfl (fun _ => rfl) (fun _ _ _ => rfl)
    (fun t => by rw [after4_4]; unfold Dat.blockOf blk4; rw [A4]; try rfl) t d).trans (by unfold Dat.fetched Dat.blockOf blk4; rw [A4]; try rfl)
theorem before4_5 (c : Dev nD) (t : Fin cfg4.N) (d) : (dat4 V c).before 5 t d = blk4 V c 5 t :=
  ((dat4 V c).before_in_eq_fetched 5 rfl (fun _ => rfl) (fun _ _ _ => rfl)
    (fun t => by rw [after4_5]; unfold Dat.blockOf blk4; rw [A4]; try rfl) t d).trans (by unfold Dat.fetched Dat.blockOf blk4; rw [A4]; try rfl)

theorem cond4_1 : ∀ t : Fin cfg4.N, (k4_cond1 (grid4.coords t) = 1#1) ↔ t.val = 0 := by decide +kernel
theorem cond4_2 : ∀ t : Fin cfg4.N, (k4_cond2 (grid4.coords t) = 1#1) ↔ t.val ≠ 0 := by decide +kernel
theorem live4_7 : ∀ t : Fin cfg4.N, cfg4.idle 7 (grid4.coords t) = false := by decide +kernel
theorem before4_7 (c : Dev nD) (t : Fin cfg4.N) (ht : t.val ≠ 0) (d) :
    (dat4 V c).before 7 t d = (dat4 V c).after 7 ⟨t.val - 1, Nat.lt_of_le_of_lt (Nat.sub_le _ _) t.isLt⟩ := by
  have hN : t.val < 8 := lt_of_lt_of_eq t.isLt (show cfg4.N = 8 from N_4)
  rw [before_next (dat4 V c) 7 rfl t ht live4_7 (Bool.eq_false_iff.mpr fun h => by
    have := (flush4_7 _).mp h; dsimp only at this; omega) d]
  unfold Dat.kept; try rfl

theorem acc4_zero (c : Dev nD) (t : Fin cfg4.N) (h : t.val = 0) : acc4 V c t.val t.isLt = pmom (blk4 V c 0 t) (blk4 V c 1 t) (blk4 V c 2 t) (blk4 V c 3 t) (blk4 V c 4 t) (blk4 V c 5 t) := by
  obtain ⟨n, hn⟩ := t
  dsimp only at h; subst h
  rfl
theorem acc4_succ (c : Dev nD) (t : Fin cfg4.N) (h : t.val ≠ 0) : acc4 V c t.val t.isLt = k4_pay1 (pmom (blk4 V c 0 t) (blk4 V c 1 t) (blk4 V c 2 t) (blk4 V c 3 t) (blk4 V c 4 t) (blk4 V c 5 t)) (acc4 V c (t.val - 1) (Nat.lt_of_le_of_lt (Nat.sub_le _ _) t.isLt)) := by
  obtain ⟨n, hn⟩ := t
  cases n with
  | zero => exact absurd rfl h
  | succ n => rfl

/-- The body at any point. -/
theorem sound4 (c : Dev nD) (t : Fin cfg4.N) :
    iprop((dat4 V c).Φ t.castSucc ∗ (dat4 V c).owesAt none t.castSucc ∗ (∃ d, owns (c : Thread nD τ) (st4_0 t) fullShare ((dat4 V c).before 0 t d)) ∗ (∃ d, owns (c : Thread nD τ) (st4_1 t) fullShare ((dat4 V c).before 1 t d)) ∗ (∃ d, owns (c : Thread nD τ) (st4_2 t) fullShare ((dat4 V c).before 2 t d)) ∗ (∃ d, owns (c : Thread nD τ) (st4_3 t) fullShare ((dat4 V c).before 3 t d)) ∗ (∃ d, owns (c : Thread nD τ) (st4_4 t) fullShare ((dat4 V c).before 4 t d)) ∗ (∃ d, owns (c : Thread nD τ) (st4_5 t) fullShare ((dat4 V c).before 5 t d)) ∗ (∃ d, owns (c : Thread nD τ) (st4_6 t) fullShare ((dat4 V c).before 6 t d)) ∗ (∃ d, owns (c : Thread nD τ) (st4_7 t) fullShare ((dat4 V c).before 7 t d)))
      ⊢ wp frame (wpE (defs₀ (F := F)) Variants.none c none) Set.univ (bodyAt4 t)
          (fun _ => iprop((dat4 V c).Φ t.succ ∗ (dat4 V c).owesAt none t.succ ∗ (dat4 V c).leavesExact 0 t ∗ (dat4 V c).leavesExact 1 t ∗ (dat4 V c).leavesExact 2 t ∗ (dat4 V c).leavesExact 3 t ∗ (dat4 V c).leavesExact 4 t ∗ (dat4 V c).leavesExact 5 t ∗ (dat4 V c).leavesExact 6 t ∗ (dat4 V c).leavesExact 7 t)) := by
  unfold bodyAt4
  simp only [before4_0, before4_1, before4_2, before4_3, before4_4, before4_5]
  rw [show (dat4 V c).Φ t.succ = (dat4 V c).Φ t.castSucc from rfl,
    show (dat4 V c).owesAt none t.succ = (dat4 V c).owesAt none t.castSucc from rfl]
  rw [show (dat4 V c).leavesExact 0 t = owns (c : Thread nD τ) (st4_0 t) fullShare ((dat4 V c).after 0 t) from by
    unfold Dat.leavesExact; rw [show cfg4.idle 0 (grid4.coords t) = false from rfl], after4_0]
  rw [show (dat4 V c).leavesExact 1 t = owns (c : Thread nD τ) (st4_1 t) fullShare ((dat4 V c).after 1 t) from by
    unfold Dat.leavesExact; rw [show cfg4.idle 1 (grid4.coords t) = false from rfl], after4_1]
  rw [show (dat4 V c).leavesExact 2 t = owns (c : Thread nD τ) (st4_2 t) fullShare ((dat4 V c).after 2 t) from by
    unfold Dat.leavesExact; rw [show cfg4.idle 2 (grid4.coords t) = false from rfl], after4_2]
  rw [show (dat4 V c).leavesExact 3 t = owns (c : Thread nD τ) (st4_3 t) fullShare ((dat4 V c).after 3 t) from by
    unfold Dat.leavesExact; rw [show cfg4.idle 3 (grid4.coords t) = false from rfl], after4_3]
  rw [show (dat4 V c).leavesExact 4 t = owns (c : Thread nD τ) (st4_4 t) fullShare ((dat4 V c).after 4 t) from by
    unfold Dat.leavesExact; rw [show cfg4.idle 4 (grid4.coords t) = false from rfl], after4_4]
  rw [show (dat4 V c).leavesExact 5 t = owns (c : Thread nD τ) (st4_5 t) fullShare ((dat4 V c).after 5 t) from by
    unfold Dat.leavesExact; rw [show cfg4.idle 5 (grid4.coords t) = false from rfl], after4_5]
  rw [show (dat4 V c).leavesExact 6 t = owns (c : Thread nD τ) (st4_6 t) fullShare ((dat4 V c).after 6 t) from by
    unfold Dat.leavesExact; rw [show cfg4.idle 6 (grid4.coords t) = false from rfl], after4_6]
  rw [show (dat4 V c).leavesExact 7 t = owns (c : Thread nD τ) (st4_7 t) fullShare ((dat4 V c).after 7 t) from by
    unfold Dat.leavesExact; rw [show cfg4.idle 7 (grid4.coords t) = false from live4_7 t], after4_7]
  by_cases h : t.val = 0
  · rw [acc4_zero V c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body4_first c (grid4.coords t) ((cond4_1 t).mpr h) (fun h' => (cond4_2 t).mp h' h) _ _ _ _ _ _ _ _ _ _ _ _ _ _ _ _ _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [acc4_succ V c t h]
    simp only [before4_7 V c t h, after4_7]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body4_next c (grid4.coords t) (fun h' => h ((cond4_1 t).mp h')) ((cond4_2 t).mpr h) _ _ _ _ _ _ _ _ _ _ _ _ _ _ _ _ _ _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem row4 (t : Fin cfg4.N) : defs₀ (F := F) .tc cfg4.body (cfg4.bodyArgs t (cfg4.slots t)) = bodyAt4 t := by
  rfl

theorem obl4 (c : Dev nD) : BodyObligation (dat4 V c) (defs₀ (F := F)) Variants.none none Set.univ := fun t => by
  rw [bigSep_W4, bigSep_W4, row4]
  exact triple_restated (sound4 V c t) rfl .rfl fun _ => .rfl

/-! ## The last normalization -/

/-- Window `w`'s block at point `t`. -/
def blk5 (c : Dev nD) (w : Fin cfg5.W) (t : Fin cfg5.N) : ((cfg5.win w).xblock (cfg5.grid.coords t)).Idx → Elt F (cfg5.win w).elt :=
  ((cfg5.win w).blk t).view.read (Elt F) (V c (dr (Pipeline.arrRef spec5 w)))

/-- The pipeline's data: the arrays as found; each input's buffer left at its block, each output's at the above; nothing owed. -/
def dat5 (c : Dev nD) : Dat τ (Elt F) (HIx 2) ℕ UU ℕ cfg5 c where
  A w := V c (dr (Pipeline.arrRef spec5 w))
  after w t := match w with
    | ⟨0, _⟩ => blk5 V c 0 t
    | ⟨1, _⟩ => blk5 V c 1 t
    | ⟨2, _⟩ => last (blk5 V c 0 t) (blk5 V c 1 t)
  Φ _ := Pipeline.scopedRest spec5 c
  q _ := fullShare
  owed _ := 0
  recorded _ := below (F := F) c

theorem A5 (c : Dev nD) (w : Fin cfg5.W) : (dat5 V c).A w = V c (dr (Pipeline.arrRef spec5 w)) := by dsimp only [dat5]
theorem after5_0 (c : Dev nD) (t : Fin cfg5.N) : (dat5 V c).after 0 t = blk5 V c 0 t := by dsimp only [dat5]
theorem after5_1 (c : Dev nD) (t : Fin cfg5.N) : (dat5 V c).after 1 t = blk5 V c 1 t := by dsimp only [dat5]
theorem after5_2 (c : Dev nD) (t : Fin cfg5.N) : (dat5 V c).after 2 t = last (blk5 V c 0 t) (blk5 V c 1 t) := by dsimp only [dat5]

theorem before5_0 (c : Dev nD) (t : Fin cfg5.N) (d) : (dat5 V c).before 0 t d = blk5 V c 0 t :=
  ((dat5 V c).before_in_eq_fetched 0 rfl (fun _ => rfl) (fun _ _ _ => rfl)
    (fun t => by rw [after5_0]; unfold Dat.blockOf blk5; rw [A5]; try rfl) t d).trans (by unfold Dat.fetched Dat.blockOf blk5; rw [A5]; try rfl)
theorem before5_1 (c : Dev nD) (t : Fin cfg5.N) (d) : (dat5 V c).before 1 t d = blk5 V c 1 t :=
  ((dat5 V c).before_in_eq_fetched 1 rfl (fun _ => rfl) (fun _ _ _ => rfl)
    (fun t => by rw [after5_1]; unfold Dat.blockOf blk5; rw [A5]; try rfl) t d).trans (by unfold Dat.fetched Dat.blockOf blk5; rw [A5]; try rfl)

/-- The body at any point. -/
theorem sound5 (c : Dev nD) (t : Fin cfg5.N) :
    iprop((dat5 V c).Φ t.castSucc ∗ (dat5 V c).owesAt none t.castSucc ∗ (∃ d, owns (c : Thread nD τ) (st5_0 t) fullShare ((dat5 V c).before 0 t d)) ∗ (∃ d, owns (c : Thread nD τ) (st5_1 t) fullShare ((dat5 V c).before 1 t d)) ∗ (∃ d, owns (c : Thread nD τ) (st5_2 t) fullShare ((dat5 V c).before 2 t d)))
      ⊢ wp frame (wpE (defs₀ (F := F)) Variants.none c none) Set.univ (bodyAt5 t)
          (fun _ => iprop((dat5 V c).Φ t.succ ∗ (dat5 V c).owesAt none t.succ ∗ (dat5 V c).leavesExact 0 t ∗ (dat5 V c).leavesExact 1 t ∗ (dat5 V c).leavesExact 2 t)) := by
  unfold bodyAt5
  simp only [before5_0, before5_1]
  rw [show (dat5 V c).Φ t.succ = (dat5 V c).Φ t.castSucc from rfl,
    show (dat5 V c).owesAt none t.succ = (dat5 V c).owesAt none t.castSucc from rfl]
  rw [show (dat5 V c).leavesExact 0 t = owns (c : Thread nD τ) (st5_0 t) fullShare ((dat5 V c).after 0 t) from by
    unfold Dat.leavesExact; rw [show cfg5.idle 0 (grid5.coords t) = false from rfl], after5_0]
  rw [show (dat5 V c).leavesExact 1 t = owns (c : Thread nD τ) (st5_1 t) fullShare ((dat5 V c).after 1 t) from by
    unfold Dat.leavesExact; rw [show cfg5.idle 1 (grid5.coords t) = false from rfl], after5_1]
  rw [show (dat5 V c).leavesExact 2 t = owns (c : Thread nD τ) (st5_2 t) fullShare ((dat5 V c).after 2 t) from by
    unfold Dat.leavesExact; rw [show cfg5.idle 2 (grid5.coords t) = false from rfl], after5_2]
  iintro ⟨HΦ, Ho, ⟨%d0, H0⟩, ⟨%d1, H1⟩, ⟨%d2, H2⟩⟩
  iapply (body5 c (grid5.coords t) _ _ _ _ _ _ _ _ Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem row5 (t : Fin cfg5.N) : defs₀ (F := F) .tc cfg5.body (cfg5.bodyArgs t (cfg5.slots t)) = bodyAt5 t := by
  rfl

theorem obl5 (c : Dev nD) : BodyObligation (dat5 V c) (defs₀ (F := F)) Variants.none none Set.univ := fun t => by
  rw [bigSep_W5, bigSep_W5, row5]
  exact triple_restated (sound5 V c t) rfl .rfl fun _ => .rfl

end Cert.Proof
-- ==== Proof.Ops.lean ====
/-
  The operations of one trip of the pipelined loop, each at the offsets it computes: a window's row numbers fetched and
  waited for, the gather of the rows they name, the window of the output written back and waited for.
-/
module

public import proofs.«01_k».proof.Proof.Base

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (d : Dev nD) (i : grid0.Coords) (A : Parts)
variable (q : PosShare TreeShare) (ft : Buf (Elt F) (A.tb.view.loc (thr d i))) (fi : Buf (Elt F) (A.ix.view.loc (thr d i)))

variable (O : CellTallies nD τ sig (HIx 2)) (W : Waits sig (HIx 2))

/-- The credit of a transfer is its shape's. -/
theorem credit_eq {sp : Space} {s : Shape} {e : EltTy} (v : View sig .scVector sp s e) : v.dmaCredit = RefSig.bitCredit s e := rfl

/-- The gather's rows together credit what the whole slot does. -/
theorem gather_credit (t : ℕ) :
    ∑ j, ((slotO A t).slice (S128x128.rowRect gathers_S32768x128_S128x128.axis' j)
      (S128x128.stride_rowRect gathers_S32768x128_S128x128.axis' j)).view.dmaCredit = (slotO A t).view.dmaCredit := by
  rw [credit_eq (slotO A t).view, Finset.sum_congr rfl (fun j _ => credit_eq _)]
  decide

omit [FloatOps F] in
/-- One more wait for a transfer of the subcore's own. -/
theorem OW_insert {W' : Waits sig (HIx 2)} (s : SemLoc sig) (h : ∀ p ∈ W', p ∈ W ∨ p.2 = (none : HIx 2)) :
    (owes (thr d i) O (insert (s, (default : HIx 2)) W') : sProp 𝕄) ⊢ OW d i O W := by
  unfold OW
  iintro H
  iexists (insert (s, (default : HIx 2)) W')
  isplitr
  · ipureintro
    intro p hp
    rcases Finset.mem_insert.mp hp with rfl | hp
    · exact .inr rfl
    · exact h p hp
  iexact H

omit [FloatOps F] in
/-- The waits so far, opened. -/
theorem OW_out : (OW d i O W : sProp 𝕄) ⊢ iprop(∃ W', ⌜∀ p ∈ W', p ∈ W ∨ p.2 = (none : HIx 2)⌝ ∗ owes (thr d i) O W') := by
  unfold OW; exact .rfl

/-- Window `t`'s row numbers set off. -/
theorem wp_fetch {t : ℕ} {o1 : Fin 3 → ℕ} {o2 : Fin 2 → ℕ} {o3 : Fin 1 → ℕ} {h1 h2 h3} {e1 e2 e3}
    (ho1 : o1 = ![par t, 0, 0]) (ho2 : o2 = ![0, row0 i t]) (ho3 : o3 = ![par t]) (Q : PUnit → sProp 𝕄) :
    iprop(IdleI d i A t ∗ HI d i A fi t ∗ (FlyI d i A fi t -∗ Q ⟨⟩))
      ⊢ wp frame (wpE (defs₀ (F := F)) 𝒱₀ (thr d i) none) Set.univ
          (Prog.lift (.enqueueDma (A.ix.slice (Rect.unit (s := S1x32768) o2 S1x128.size h2) (fun _ => rfl))
            (.here ((A.si.slice (Rect.unit (s := S2x1x128) o1 S1x1x128.size h1) (fun _ => rfl)).squeeze S1x128 squeezes_S1x1x128_S1x128))
            (.dma ((A.s5.slice (Rect.unit (s := S2) o3 S1.size h3)).squeeze S_ squeezes_S1_S_).sem) e1 e2 e3)) Q := by
  subst ho1 ho2 ho3
  unfold IdleI FlyI HI SI'
  iintro ⟨⟨⟨%f, Hs⟩, Hv⟩, Hi, Hk⟩
  iapply (Transfers.wp_dmaLocal countersEmb 𝒱₀ (thr d i) none (src := blkI i A t) (dst := slotI A t) (default : HIx 2)
    ((slotI A t).view.dmaCredit) rfl (View.dmaCredit_pos _ (by decide)) (Finset.Subset.refl _)) $$ [Hs Hv Hi]
  · isplitl [Hi]; · iexact Hi
    isplitl [Hs]; · iexact Hs
    iexact Hv
  iintro Hf
  rw [wp_ret]; imodintro
  iapply Hk
  iexists f
  iexact Hf

/-- Window `t`'s row numbers waited for. -/
theorem wp_fetched {t : ℕ} {o1 : Fin 3 → ℕ} {o2 : Fin 2 → ℕ} {o3 : Fin 1 → ℕ} {h1 h2 h3} {e1 e2}
    (ho1 : o1 = ![par t, 0, 0]) (ho3 : o3 = ![par t]) (Q : PUnit → sProp 𝕄) :
    iprop(Transfers.MayWaits (thr d i) (default : HIx 2) O ∗ FlyI d i A fi t ∗ OW d i O W
        ∗ ((∃ fd, SI' d i A t (filledI d i A fi t fd)) -∗ semVal (thr d i, SemLoc.dma (semI A t)) 0 -∗ HI d i A fi t -∗ OW d i O W -∗ Q ⟨⟩))
      ⊢ wp frame (wpE (defs₀ (F := F)) 𝒱₀ (thr d i) none) Set.univ
          (Prog.lift (.waitDma2 ((A.s5.slice (Rect.unit (s := S2) o3 S1.size h3)).squeeze S_ squeezes_S1_S_).sem
            (A.ix.slice (Rect.unit (s := S1x32768) o2 S1x128.size h2) (fun _ => rfl))
            ((A.si.slice (Rect.unit (s := S2x1x128) o1 S1x1x128.size h1) (fun _ => rfl)).squeeze S1x128 squeezes_S1x1x128_S1x128) e1 e2)) Q := by
  subst ho1 ho3
  unfold FlyI
  iintro ⟨#Hm, ⟨%fd, Hf⟩, Ho, Hk⟩
  ihave Ho' := (OW_out d i O W) $$ Ho
  icases Ho' with ⟨%W', %hW', HO⟩
  iapply (Transfers.wp_waitLocalO countersEmb 𝒱₀ (thr d i) none (dstw := slotI A t) (default : HIx 2) rfl) $$ [Hf HO]
  · isplitl [Hf]; · iexact Hf
    isplitl [HO]; · iexact HO
    iapply (Transfers.MayWaits.elim (SemLoc.dma (semI A t))); iexact Hm
  iintro ⟨⟨Hs, Hi⟩, Hv, HO⟩
  rw [wp_ret]; imodintro
  ispecialize Hk $$ [Hs]
  · iexists fd; iexact Hs
  iapply Hk $$ Hv Hi
  iapply (OW_insert d i O W _ hW') $$ HO

omit [FloatOps F] in
/-- The slot filled with window `t`'s row numbers, read as a list, is the window's row numbers. -/
theorem read_list (t : ℕ) (fd : Buf (Elt F) (A.si.view.loc (thr d i))) (x : S128.Idx) :
    (listI A t).view.read (Elt F) (filledI d i A fi t fd) x = (blkI i A t).view.read (Elt F) fi (at1 (x 0)) := by
  have h : (listI A t).view.read (Elt F) (filledI d i A fi t fd) x
      = (slotI A t).view.read (Elt F) (filledI d i A fi t fd)
          ((Rect.unit (s := S1x128) ![0, 0] S1x128.size inb_S1x128_S1x128_0_0).emb (Shape.reshapeEquiv squeezes_S1x128_S128.numel_eq x)) := rfl
  rw [h, View.read_write_univ]
  congr 1
  rw [show Shape.reshapeEquiv squeezes_S1x128_S128.numel_eq x = Fin.cons ⟨0, Nat.one_pos⟩ x from Shape.reshapeEquiv_cons_one _ x]
  funext a
  apply Fin.ext
  fin_cases a
  · rfl
  · show 0 + 1 * (x 0).val = (x 0).val
    omega

/-- A slot's list names the slot's elements. -/
theorem set_list (t : ℕ) : (listI A t).view.set = (slotI A t).view.set := by
  refine (View.set_reshape (v := (slotI A t).view.slice (Rect.unit (s := S1x128) ![0, 0] S1x128.size inb_S1x128_S1x128_0_0)) _).trans
    ((View.set_slice _ _).trans ?_)
  rw [Rect.set_eq_univ_of_whole _ (by decide)]
  rfl

omit [FloatOps F] in
/-- What the gather lands in the slot is what window `t` is to hold. -/
theorem payload_eq (t : ℕ) (fd : Buf (Elt F) (A.si.view.loc (thr d i)))
    (hin : ∀ x, ((listI A t).view.read (Elt F) (filledI d i A fi t fd) x).toNat < S32768x128.size gathers_S32768x128_S128x128.axis) :
    SparseCore.gatherPayload gathers_S32768x128_S128x128 ((tabl A).view.read (Elt F) ft)
      (SparseCore.rows ((listI A t).view.read (Elt F) (filledI d i A fi t fd)) rfl hin) = pay d i A ft fi t := by
  funext x
  unfold SparseCore.gatherPayload pay
  congr 1
  funext a
  have hx' : ∀ k : Fin 128, ((S128.rowMajor.symm k) 0).val = k.val := by decide +kernel
  have hx : ∀ k : Fin 128, (S128.rowMajor.symm k) 0 = k := fun k => Fin.ext (hx' k)
  fin_cases a
  · refine (Shape.Gathers.idx_axis gathers_S32768x128_S128x128 _ x).trans ?_
    apply Fin.ext
    have key : ((listI A t).view.read (Elt F) (filledI d i A fi t fd) (S128.rowMajor.symm (x 0))).toNat
        = ((blkI i A t).view.read (Elt F) fi (at1 (x 0))).toNat :=
      (congrArg BitVec.toNat (read_list d i A fi t fd _)).trans
        (congrArg (fun k : Fin 128 => ((blkI i A t).view.read (Elt F) fi (at1 k)).toNat) (hx (x 0)))
    have hlt : ((blkI i A t).view.read (Elt F) fi (at1 (x 0))).toNat < 32768 := lt_of_eq_of_lt key.symm (hin _)
    exact key.trans (Nat.mod_eq_of_lt hlt).symm
  · apply Fin.ext
    exact Shape.Gathers.idx_of_ne gathers_S32768x128_S128x128 _ x ⟨1, by decide⟩ (by decide)

/-- The gather of window `t` on its way: it delivers the slot holding what the window is to hold, and what it read. -/
def FlyG (t : ℕ) : sProp 𝕄 :=
  iprop(Transfers.Flight countersEmb (thr d i) (.dma A.sg.sem) (default : HIx 2) ((slotO A t).view.dmaCredit)
    iprop((∃ f, ⌜(slotO A t).view.read (Elt F) f = pay d i A ft fi t⌝ ∗ SO' d i A t f) ∗ HT d i A q ft ∗ ∃ f, SI' d i A t f))

/-- Window `t`'s gather sets off: its row numbers are in the slot, each below 32768. -/
theorem wp_gather {t : ℕ} {o1 : Fin 3 → ℕ} {o2 : Fin 3 → ℕ} {h1 h2} {e1 e2 e3 e4 e5 e6}
    (ho1 : o1 = ![par t, 0, 0]) (ho2 : o2 = ![par t, 0, 0]) (hfi : ∀ x, ((blkI i A t).view.read (Elt F) fi x).toNat < 32768)
    (fd : Buf (Elt F) (A.si.view.loc (thr d i))) (Q : PUnit → sProp 𝕄) :
    iprop(SI' d i A t (filledI d i A fi t fd) ∗ (∃ f, SO' d i A t f) ∗ HT d i A q ft ∗ semVal (thr d i, SemLoc.dma A.sg.sem) 0
        ∗ (FlyG d i A q ft fi t -∗ Q ⟨⟩))
      ⊢ wp frame (wpE (defs₀ (F := F)) 𝒱₀ (thr d i) none) Set.univ
          (SparseCore.enqueueIndirectGather e1 (A.tb.slice (Rect.unit (s := S32768x128) ![0, 0] S32768x128.size inb_S32768x128_S32768x128_0_0) (fun _ => rfl))
            ((A.so.slice (Rect.unit (s := S2x128x128) o1 S1x128x128.size h1) (fun _ => rfl)).squeeze S128x128 squeezes_S1x128x128_S128x128)
            gathers_S32768x128_S128x128
            ((((A.si.slice (Rect.unit (s := S2x1x128) o2 S1x1x128.size h2) (fun _ => rfl)).squeeze S1x128 squeezes_S1x1x128_S1x128).slice
              (Rect.unit (s := S1x128) ![0, 0] S1x128.size inb_S1x128_S1x128_0_0) (fun _ => rfl)).squeeze S128 squeezes_S1x128_S128)
            e2 A.sg.sem e3 e4 e5 e6) Q := by
  subst ho1 ho2
  have hin : ∀ x, ((listI A t).view.read (Elt F) (filledI d i A fi t fd) x).toNat < S32768x128.size gathers_S32768x128_S128x128.axis :=
    fun x => by rw [read_list]; exact hfi _
  iintro ⟨Hi, ⟨%f, Ho⟩, Ht, Hv, Hk⟩
  have hD : (iprop(((slotO A t).view.loc (thr d i) ↦[(slotO A t).view.set]{fullShare} ((slotO A t).view.write (Elt F) f
        (SparseCore.gatherPayload gathers_S32768x128_S128x128 ((tabl A).view.read (Elt F) ft)
          (SparseCore.rows ((listI A t).view.read (Elt F) (filledI d i A fi t fd)) e2 hin)) Finset.univ))
      ∗ ((tabl A).view.loc (thr d i) ↦[(tabl A).view.set]{q} ft)
      ∗ ((listI A t).view.loc (thr d i) ↦[(listI A t).view.set]{fullShare} (filledI d i A fi t fd))) : sProp 𝕄)
      ⊢ iprop((∃ f, ⌜(slotO A t).view.read (Elt F) f = pay d i A ft fi t⌝ ∗ SO' d i A t f) ∗ HT d i A q ft ∗ ∃ f, SI' d i A t f) := by
    unfold HT SO' SI'
    iintro ⟨Ho, Ht, Hi⟩
    isplitl [Ho]
    · iexists ((slotO A t).view.write (Elt F) f
        (SparseCore.gatherPayload gathers_S32768x128_S128x128 ((tabl A).view.read (Elt F) ft)
          (SparseCore.rows ((listI A t).view.read (Elt F) (filledI d i A fi t fd)) e2 hin)) Finset.univ)
      isplitr
      · ipureintro
        exact (View.read_write_univ _ _).trans (payload_eq d i A ft fi t fd hin)
      iexact Ho
    isplitl [Ht]; · iexact Ht
    iexists (filledI d i A fi t fd)
    rw [← set_list A t]; iexact Hi
  rw [← bind_pure (SparseCore.enqueueIndirectGather _ _ _ _ _ _ _ _ _ _ _)]
  iapply (SparseCore.wp_indirectGatherLocal countersEmb 𝒱₀ (thr d i) none (hg := gathers_S32768x128_S128x128) (dst := slotO A t) (offs := listI A t)
    (src := tabl A) (q := q) (qo := fullShare) (fs := ft) (fd := f) (fo := filledI d i A fi t fd) (default : HIx 2) _ (gather_credit A t) (by decide) hin) $$ [Hi Ho Ht Hv]
  · unfold HT SO' SI'
    isplitl [Ht]; · iexact Ht
    isplitl [Ho]; · iexact Ho
    isplitl [Hi]
    · rw [set_list A t]; iexact Hi
    iexact Hv
  iintro Hf
  rw [wp_pure]; imodintro
  iapply Hk
  unfold FlyG
  iapply (Transfers.Flight_mono countersEmb (thr d i) hD) $$ Hf

/-- Window `t`'s gather waited for. -/
theorem wp_gathered {t : ℕ} {o1 : Fin 3 → ℕ} {h1} {e1 e2}
    (ho1 : o1 = ![par t, 0, 0]) (Q : PUnit → sProp 𝕄) :
    iprop(Transfers.MayWaits (thr d i) (default : HIx 2) O ∗ FlyG d i A q ft fi t ∗ OW d i O W
        ∗ ((∃ f, ⌜(slotO A t).view.read (Elt F) f = pay d i A ft fi t⌝ ∗ SO' d i A t f) -∗ HT d i A q ft -∗ (∃ f, SI' d i A t f)
            -∗ semVal (thr d i, SemLoc.dma A.sg.sem) 0 -∗ OW d i O W -∗ Q ⟨⟩))
      ⊢ wp frame (wpE (defs₀ (F := F)) 𝒱₀ (thr d i) none) Set.univ
          (SparseCore.waitIndirectGather A.sg.sem (A.tb.slice (Rect.unit (s := S32768x128) ![0, 0] S32768x128.size inb_S32768x128_S32768x128_0_0) (fun _ => rfl))
            ((A.so.slice (Rect.unit (s := S2x128x128) o1 S1x128x128.size h1) (fun _ => rfl)).squeeze S128x128 squeezes_S1x128x128_S128x128) e1 e2) Q := by
  subst ho1
  unfold FlyG
  iintro ⟨#Hm, Hf, Ho, Hk⟩
  ihave Ho' := (OW_out d i O W) $$ Ho
  icases Ho' with ⟨%W', %hW', HO⟩
  iapply (Transfers.wp_waitLocalO countersEmb 𝒱₀ (thr d i) none (dstw := slotO A t) (default : HIx 2) rfl) $$ [Hf HO]
  · isplitl [Hf]; · iexact Hf
    isplitl [HO]; · iexact HO
    iapply (Transfers.MayWaits.elim (SemLoc.dma A.sg.sem)); iexact Hm
  iintro ⟨⟨Hs, Ht, Hi⟩, Hv, HO⟩
  rw [wp_ret]; imodintro
  iapply Hk $$ Hs Ht Hi Hv
  iapply (OW_insert d i O W _ hW') $$ HO

/-- Window `t` of the output sets off: its slot holds what the window is to hold. -/
theorem wp_store {t : ℕ} {o1 : Fin 3 → ℕ} {o2 : Fin 2 → ℕ} {o3 : Fin 1 → ℕ} {h1 h2 h3} {e1 e2 e3}
    (ho1 : o1 = ![par t, 0, 0]) (ho2 : o2 = ![row0 i t, 0]) (ho3 : o3 = ![par t]) (Q : PUnit → sProp 𝕄) :
    iprop((∃ f, ⌜(slotO A t).view.read (Elt F) f = pay d i A ft fi t⌝ ∗ SO' d i A t f) ∗ semVal (thr d i, SemLoc.dma (semO A t)) 0
        ∗ (∃ f, HO d i A t f) ∗ (FlyO d i A ft fi t -∗ Q ⟨⟩))
      ⊢ wp frame (wpE (defs₀ (F := F)) 𝒱₀ (thr d i) none) Set.univ
          (Prog.lift (.enqueueDma ((A.so.slice (Rect.unit (s := S2x128x128) o1 S1x128x128.size h1) (fun _ => rfl)).squeeze S128x128 squeezes_S1x128x128_S128x128)
            (.here (A.ob.slice (Rect.unit (s := S32768x128) o2 S128x128.size h2) (fun _ => rfl)))
            (.dma ((A.s6.slice (Rect.unit (s := S2) o3 S1.size h3)).squeeze S_ squeezes_S1_S_).sem) e1 e2 e3)) Q := by
  subst ho1 ho2 ho3
  iintro ⟨⟨%f, %hf, Hs⟩, Hv, ⟨%fd, Hd⟩, Hk⟩
  have hD : (iprop(((blkO i A t).view.loc (thr d i) ↦[(blkO i A t).view.set]{fullShare}
        ((blkO i A t).view.write (Elt F) fd (ReadAs.same.apply ((slotO A t).view.read (Elt F) f)) Finset.univ))
      ∗ ((slotO A t).view.loc (thr d i) ↦[(slotO A t).view.set]{fullShare} f)) : sProp 𝕄)
      ⊢ iprop(DoneO d i A ft fi t ∗ ∃ f, SO' d i A t f) := by
    rw [show ReadAs.same.apply ((slotO A t).view.read (Elt F) f) = pay d i A ft fi t from hf]
    unfold DoneO SO' HO
    iintro ⟨Hd, Hs⟩
    isplitl [Hd]
    · iexists fd; iexact Hd
    iexists f; iexact Hs
  iapply (Transfers.wp_dmaLocal countersEmb 𝒱₀ (thr d i) none (src := slotO A t) (dst := blkO i A t) (q := fullShare) (fs := f) (fd := fd) (default : HIx 2)
    ((blkO i A t).view.dmaCredit) rfl (View.dmaCredit_pos _ (by decide)) (Finset.Subset.refl _)) $$ [Hs Hv Hd]
  · unfold SO' HO
    isplitl [Hs]; · iexact Hs
    isplitl [Hd]; · iexact Hd
    iexact Hv
  iintro Hf
  rw [wp_ret]; imodintro
  iapply Hk
  unfold FlyO
  iapply (Transfers.Flight_mono countersEmb (thr d i) hD) $$ Hf

/-- Window `t` of the output waited for. -/
theorem wp_stored {t : ℕ} {o1 : Fin 3 → ℕ} {o2 : Fin 2 → ℕ} {o3 : Fin 1 → ℕ} {h1 h2 h3} {e1 e2}
    (ho2 : o2 = ![row0 i t, 0]) (ho3 : o3 = ![par t]) (Q : PUnit → sProp 𝕄) :
    iprop(Transfers.MayWaits (thr d i) (default : HIx 2) O ∗ FlyO d i A ft fi t ∗ OW d i O W
        ∗ (DoneO d i A ft fi t -∗ IdleO d i A t -∗ OW d i O W -∗ Q ⟨⟩))
      ⊢ wp frame (wpE (defs₀ (F := F)) 𝒱₀ (thr d i) none) Set.univ
          (Prog.lift (.waitDma2 ((A.s6.slice (Rect.unit (s := S2) o3 S1.size h3)).squeeze S_ squeezes_S1_S_).sem
            ((A.so.slice (Rect.unit (s := S2x128x128) o1 S1x128x128.size h1) (fun _ => rfl)).squeeze S128x128 squeezes_S1x128x128_S128x128)
            (A.ob.slice (Rect.unit (s := S32768x128) o2 S128x128.size h2) (fun _ => rfl)) e1 e2)) Q := by
  subst ho2 ho3
  unfold FlyO
  iintro ⟨#Hm, Hf, Ho, Hk⟩
  ihave Ho' := (OW_out d i O W) $$ Ho
  icases Ho' with ⟨%W', %hW', HO⟩
  iapply (Transfers.wp_waitLocalO countersEmb 𝒱₀ (thr d i) none (dstw := blkO i A t) (default : HIx 2) rfl) $$ [Hf HO]
  · isplitl [Hf]; · iexact Hf
    isplitl [HO]; · iexact HO
    iapply (Transfers.MayWaits.elim (SemLoc.dma (semO A t))); iexact Hm
  iintro ⟨⟨Hd, Hs⟩, Hv, HO⟩
  rw [wp_ret]; imodintro
  ispecialize Hk $$ Hd
  ispecialize Hk $$ [Hs Hv]
  · unfold IdleO
    isplitl [Hs]; · iexact Hs
    iexact Hv
  iapply Hk
  iapply (OW_insert d i O W _ hW') $$ HO

end Cert.Proof
-- ==== Proof.Loop.lean ====
/-
  The pipelined loop of one subcore: eight trips, each fetching the next window's row numbers while it gathers its own
  window's rows and writes the window before it back.
-/
module

public import proofs.«01_k».proof.Proof.Ops

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-! ## The numbers a trip computes -/

/-- What the loop carries into trip `t`. -/
abbrev cyc (t : ℕ) : BitVec 32 × BitVec 32 × BitVec 32 × BitVec 32 × BitVec 32 :=
  (BitVec.ofNat 32 (min (t + 1) 8), BitVec.ofNat 32 t, BitVec.ofNat 32 t, BitVec.ofNat 32 (t - 1), BitVec.ofNat 32 (t % 8))

/-- The subcore's first window among all the windows. -/
abbrev win0 (i : grid0.Coords) : BitVec 32 :=
  Scalar.muli (Scalar.addi (Scalar.addi 0#32 (Scalar.muli (BitVec.ofNat 32 (i 1).val) 1#32)) (Scalar.muli (BitVec.ofNat 32 (i 0).val) 16#32)) 8#32

theorem cond1_iff : ∀ (i : grid0.Coords) (t : Fin k0_t1_loop.trips), k0_cond1 i t (BitVec.ofNat 32 (t.val % 8)) = 1#1 ↔ t.val < 7 := by decide +kernel
theorem cond2_one : ∀ (i : grid0.Coords) (t : Fin k0_t1_loop.trips), k0_cond2 i t (BitVec.ofNat 32 (t.val % 8)) = 1#1 := by decide +kernel
theorem cond5_one : ∀ (i : grid0.Coords) (t : Fin k0_t1_loop.trips), k0_cond5 i t (BitVec.ofNat 32 (t.val % 8)) = 1#1 := by decide +kernel
theorem cond7_iff : ∀ (i : grid0.Coords) (t : Fin k0_t1_loop.trips), k0_cond7 i t (BitVec.ofNat 32 (t.val % 8)) = 1#1 ↔ 0 < t.val := by decide +kernel

theorem chk1_ok : ∀ (i : grid0.Coords) (t : Fin k0_t1_loop.trips), k0_chk1 i t (cyc t).1 (cyc t).2.1 (cyc t).2.2.1 (cyc t).2.2.2.1 (cyc t).2.2.2.2 := by
  decide +kernel
theorem chk2_ok : ∀ t : Fin k0_t1_loop.trips, k0_chk2 (BitVec.ofNat 32 t.val) := by decide +kernel
theorem chk3_ok : ∀ t : Fin k0_t1_loop.trips, k0_chk3 (BitVec.ofNat 32 t.val) := by decide +kernel
theorem chk4_ok : k0_chk4 (cyc 8).2.2.2.1 := by decide +kernel
theorem chk5_ok : ∀ i : grid0.Coords, k0_chk5 i (cyc 8).2.2.2.2 := by decide +kernel

theorem off2_at (i : grid0.Coords) : k0_off2 i = ![0, row0 i 0] := by rw [k0_off2_eq]; unfold row0; simp
theorem off4_at : ∀ t : Fin k0_t1_loop.trips, t.val < 7 → k0_off4 (cyc t).1 = ![par (t.val + 1), 0, 0] := by decide +kernel
theorem off5_at : ∀ (i : grid0.Coords) (t : Fin k0_t1_loop.trips), t.val < 7 → k0_off5 i (cyc t).2.2.2.2 = ![0, row0 i (t.val + 1)] := by decide +kernel
theorem off6_at : ∀ t : Fin k0_t1_loop.trips, t.val < 7 → k0_off6 (cyc t).1 = ![par (t.val + 1)] := by decide +kernel
theorem off7_at : ∀ t : Fin k0_t1_loop.trips, k0_off7 (cyc t).2.1 = ![par t.val, 0, 0] := by decide +kernel
theorem off9_at : ∀ t : Fin k0_t1_loop.trips, k0_off9 (cyc t).2.1 = ![par t.val] := by decide +kernel
theorem off10_at : ∀ t : Fin k0_t1_loop.trips, k0_off10 (cyc t).2.2.1 = ![par t.val, 0, 0] := by decide +kernel
theorem off11_at : ∀ t : Fin k0_t1_loop.trips, k0_off11 (cyc t).2.1 = ![par t.val, 0, 0] := by decide +kernel
theorem off12_at : ∀ t : Fin k0_t1_loop.trips, k0_off12 (cyc t).2.2.1 = ![par t.val, 0, 0] := by decide +kernel
theorem off13_at : ∀ (i : grid0.Coords) (t : Fin k0_t1_loop.trips), k0_off13 i (cyc t).2.2.2.2 = ![row0 i t.val, 0] := by decide +kernel
theorem off14_at : ∀ t : Fin k0_t1_loop.trips, k0_off14 (cyc t).2.2.1 = ![par t.val] := by decide +kernel
theorem off16_at : ∀ (i : grid0.Coords) (t : Fin k0_t1_loop.trips), 0 < t.val → k0_off16 i (cyc t).2.2.2.2 = ![row0 i (t.val - 1), 0] := by decide +kernel
theorem off17_at : ∀ t : Fin k0_t1_loop.trips, 0 < t.val → k0_off17 (cyc t).2.2.2.1 = ![par (t.val - 1)] := by decide +kernel
theorem off19_at : ∀ i : grid0.Coords, k0_off19 i (cyc 8).2.2.2.2 = ![row0 i 7, 0] := by decide +kernel
theorem off20_at : k0_off20 (cyc 8).2.2.2.1 = ![par 7] := by decide +kernel

/-! ## The state between trips -/

variable {F : FTy → Type} [FloatOps F]

local notation "𝕄" => MT nD τ sig (HIx 2) (Elt F) ℕ UU ℕ

variable (d : Dev nD) (i : grid0.Coords) (A : Parts)
variable (q : PosShare TreeShare) (ft : Buf (Elt F) (A.tb.view.loc (thr d i))) (fi : Buf (Elt F) (A.ix.view.loc (thr d i)))
variable (O : CellTallies nD τ sig (HIx 2)) (W : Waits sig (HIx 2))

omit [FloatOps F] in
/-- A row-number slot is its parity's. -/
theorem IdleI_congr {s t : ℕ} (h : par s = par t) : (IdleI d i A s : sProp 𝕄) = IdleI d i A t := by
  unfold IdleI SI' slotI semI
  generalize slotI_inb s = p₁, slotS_inb s = p₂
  revert p₁ p₂
  rw [h]
  intro p₁ p₂
  rfl
omit [FloatOps F] in
/-- A slot for gathered rows is its parity's. -/
theorem IdleO_congr {s t : ℕ} (h : par s = par t) : (IdleO d i A s : sProp 𝕄) = IdleO d i A t := by
  unfold IdleO SO' slotO semO
  generalize slotO_inb s = p₁, slotS_inb s = p₂
  revert p₁ p₂
  rw [h]
  intro p₁ p₂
  rfl

/-- The windows' row numbers but window `t`'s. -/
def RestI (t : ℕ) : sProp 𝕄 := bigSep ((Finset.range 8).filter (· ≠ t)) fun s => HI d i A fi s
/-- The windows of the output not yet reached. -/
def TodoO (t : ℕ) : sProp 𝕄 := bigSep ((Finset.range 8).filter (t ≤ ·)) fun s => iprop(∃ f : Buf (Elt F) (A.ob.view.loc (thr d i)), HO d i A s f)
/-- The windows of the output that have been waited for. -/
def FinO (t : ℕ) : sProp 𝕄 := bigSep ((Finset.range 8).filter (· + 1 < t)) fun s => DoneO d i A ft fi s

/-- Before trip `t`: window `t`'s row numbers are on their way, window `t - 1` of the output is, the windows before it
    are written and the windows from `t` on untouched. -/
def Inv (t : ℕ) (acc : BitVec 32 × BitVec 32 × BitVec 32 × BitVec 32 × BitVec 32) : sProp 𝕄 :=
  iprop(⌜acc = cyc t⌝ ∗ Transfers.MayWaits (thr d i) (default : HIx 2) O
    ∗ (if t < 8 then FlyI d i A fi t else IdleI d i A t) ∗ IdleI d i A (t + 1) ∗ RestI d i A fi t
    ∗ IdleO d i A t ∗ (if 0 < t then FlyO d i A ft fi (t - 1) else IdleO d i A (t + 1)) ∗ TodoO d i A t ∗ FinO d i A ft fi t
    ∗ HT d i A q ft ∗ semVal (thr d i, SemLoc.dma A.sg.sem) 0 ∗ OW d i O W)

omit [FloatOps F] in
/-- Window `t + 1`'s row numbers taken. -/
theorem RestI_take {t : ℕ} (h : t < 7) : (RestI d i A fi t : sProp 𝕄)
    = iprop(HI d i A fi (t + 1) ∗ bigSep (((Finset.range 8).filter (· ≠ t)).erase (t + 1)) fun s => HI d i A fi s) := by
  unfold RestI
  exact SparseCore.bigSep_erase' (by simp; omega)
omit [FloatOps F] in
/-- Window `t`'s row numbers put back, window `t + 1`'s being out. -/
theorem RestI_put {t : ℕ} (h : t < 8) : (RestI d i A fi (t + 1) : sProp 𝕄)
    = iprop(HI d i A fi t ∗ bigSep (((Finset.range 8).filter (· ≠ t)).erase (t + 1)) fun s => HI d i A fi s) := by
  unfold RestI
  rw [SparseCore.bigSep_erase' (i := t) (by simp; omega)]
  congr 2
  ext x; simp; omega
omit [FloatOps F] in
/-- The next window of the output taken. -/
theorem TodoO_take {t : ℕ} (h : t < 8) : (TodoO d i A t : sProp 𝕄) = iprop((∃ f, HO d i A t f) ∗ TodoO d i A (t + 1)) := by
  unfold TodoO
  rw [SparseCore.bigSep_erase' (i := t) (by simp; omega)]
  congr 2
  ext x; simp; omega
omit [FloatOps F] in
/-- A window of the output put with those written. -/
theorem FinO_put {t : ℕ} (h : 0 < t) (h8 : t ≤ 8) : (FinO d i A ft fi (t + 1) : sProp 𝕄) = iprop(DoneO d i A ft fi (t - 1) ∗ FinO d i A ft fi t) := by
  unfold FinO
  rw [SparseCore.bigSep_erase' (i := t - 1) (by simp; omega)]
  congr 2
  ext x; simp; omega

end Cert.Proof
-- ==== Proof.Trip.lean ====
/-
  One trip of the pipelined loop, from the state before it to the state after it.
-/
module

public import proofs.«01_k».proof.Proof.Loop

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (d : Dev nD) (i : grid0.Coords) (A : Parts)
variable (q : PosShare TreeShare) (ft : Buf (Elt F) (A.tb.view.loc (thr d i))) (fi : Buf (Elt F) (A.ix.view.loc (thr d i)))
variable (O : CellTallies nD τ sig (HIx 2)) (W : Waits sig (HIx 2))

omit [FloatOps F] in
/-- What trip `t` hands on is what trip `t + 1` expects. -/
theorem carry_ok : ∀ (i : grid0.Coords) (t : Fin k0_t1_loop.trips),
    (let w := BitVec.ofNat 32 (t.val % 8)
     let n : BitVec 32 := Scf.iv 0#32 1#32 t
     let here := Scalar.addi w (win0 i)
     let up := Scalar.select 1#1 (Scalar.addi w 1#32) w
     let up' := Scalar.select (Scalar.cmpi .eq up 8#32) 0#32 up
     let next := Scalar.addi up' (win0 i)
     let down := Scalar.select 1#1 (Scalar.subi w 1#32) w
     let last := Scalar.addi (Scalar.select (Scalar.cmpi .eq down 4294967295#32) 7#32 down) (win0 i)
     let leaves := Scalar.ori (Scalar.cmpi .ne here next) (Scalar.cmpi .eq n 7#32)
     (Scalar.select (Scalar.andi (Scalar.andi (Scalar.cmpi .ne here next) (Scalar.xori (Scalar.cmpi .sge n 7#32) 1#1)) 1#1)
        (Scalar.addi (BitVec.ofNat 32 (min (t.val + 1) 8)) 1#32) (BitVec.ofNat 32 (min (t.val + 1) 8)),
      Scalar.select leaves (Scalar.addi (BitVec.ofNat 32 t.val) 1#32) (BitVec.ofNat 32 t.val),
      Scalar.select (Scalar.andi leaves 1#1) (Scalar.addi (BitVec.ofNat 32 t.val) 1#32) (BitVec.ofNat 32 t.val),
      Scalar.select (Scalar.andi (Scalar.andi (Scalar.cmpi .ne here last) (Scalar.xori (Scalar.cmpi .eq n 0#32) 1#1)) 1#1)
        (Scalar.addi (BitVec.ofNat 32 (t.val - 1)) 1#32) (BitVec.ofNat 32 (t.val - 1)),
      up')) = cyc (t.val + 1) := by
  decide +kernel

/-- A check that holds is passed. -/
theorem wp_check {P : Prop} {dP : Decidable P} (h : P) (Q : PLift P → sProp 𝕄) :
    Q ⟨h⟩ ⊢ wp frame (wpE (defs₀ (F := F)) 𝒱₀ (thr d i) none) Set.univ (Prog.lift (.assume P dP)) Q := by
  refine .trans ?_ (wp_assume 𝒱₀ (thr d i) none Set.univ h)
  iintro H
  rw [wp_ret]; imodintro
  iexact H

/-- The fetch of the next window's row numbers, when there is a next window. -/
theorem step_fetch {α : Type} {t : ℕ} {c : BitVec 1} (hc : c = 1#1 ↔ t < 7) {o1 : Fin 3 → ℕ} {o2 : Fin 2 → ℕ} {o3 : Fin 1 → ℕ}
    {h1 : c = 1#1 → ∀ a, o1 a + S1x1x128.size a ≤ S2x1x128.size a} {h2 : c = 1#1 → ∀ a, o2 a + S1x128.size a ≤ S1x32768.size a}
    {h3 : c = 1#1 → ∀ a, o3 a + S1.size a ≤ S2.size a}
    (ho1 : t < 7 → o1 = ![par (t + 1), 0, 0]) (ho2 : t < 7 → o2 = ![0, row0 i (t + 1)]) (ho3 : t < 7 → o3 = ![par (t + 1)])
    (k : Prog (TpuEff nD τ sig (Elt F) Λ₀ (thr d i).2) α) (Q : α → sProp 𝕄) :
    iprop(IdleI d i A (t + 1) ∗ RestI d i A fi t
        ∗ ((if t + 1 < 8 then FlyI d i A fi (t + 1) else IdleI d i A (t + 1))
            -∗ bigSep (((Finset.range 8).filter (· ≠ t)).erase (t + 1)) (fun s => HI d i A fi s)
            -∗ wp frame (wpE (defs₀ (F := F)) 𝒱₀ (thr d i) none) Set.univ k Q))
      ⊢ wp frame (wpE (defs₀ (F := F)) 𝒱₀ (thr d i) none) Set.univ
          (if h : c = 1#1 then
            (Prog.lift (.enqueueDma (A.ix.slice (Rect.unit (s := S1x32768) o2 S1x128.size (h2 h)) (fun _ => rfl))
              (.here ((A.si.slice (Rect.unit (s := S2x1x128) o1 S1x1x128.size (h1 h)) (fun _ => rfl)).squeeze S1x128 squeezes_S1x1x128_S1x128))
              (.dma ((A.s5.slice (Rect.unit (s := S2) o3 S1.size (h3 h))).squeeze S_ squeezes_S1_S_).sem)
              (View.wordExact_bits rfl) ((View.wordExact_bits rfl).reshape _ _) ⟨Or.inl rfl, trivial⟩) >>= fun _ => k)
           else k) Q := by
  by_cases ht : t < 7
  · rw [dif_pos (hc.mpr ht), wp_bind, RestI_take d i A fi ht, if_pos (by omega : t + 1 < 8)]
    iintro ⟨Hs, ⟨Hi, Hr⟩, Hk⟩
    iapply (wp_fetch d i A fi (ho1 ht) (ho2 ht) (ho3 ht))
    isplitl [Hs]; · iexact Hs
    isplitl [Hi]; · iexact Hi
    iintro Hf
    iapply Hk $$ Hf Hr
  · rw [dif_neg (fun h => ht (hc.mp h)), if_neg (by omega : ¬ t + 1 < 8), Finset.erase_eq_of_notMem (by simp; omega)]
    unfold RestI
    iintro ⟨Hs, Hr, Hk⟩
    iapply Hk $$ Hs Hr

/-- The wait for the window before this one, when there is one. -/
theorem step_stored {α : Type} {t : ℕ} (ht8 : t ≤ 8) {c : BitVec 1} (hc : c = 1#1 ↔ 0 < t) {o1 : Fin 3 → ℕ} {o2 : Fin 2 → ℕ} {o3 : Fin 1 → ℕ}
    {h1 : c = 1#1 → ∀ a, o1 a + S1x128x128.size a ≤ S2x128x128.size a} {h2 : c = 1#1 → ∀ a, o2 a + S128x128.size a ≤ S32768x128.size a}
    {h3 : c = 1#1 → ∀ a, o3 a + S1.size a ≤ S2.size a}
    (ho2 : 0 < t → o2 = ![row0 i (t - 1), 0]) (ho3 : 0 < t → o3 = ![par (t - 1)])
    (k : Prog (TpuEff nD τ sig (Elt F) Λ₀ (thr d i).2) α) (Q : α → sProp 𝕄) :
    iprop(Transfers.MayWaits (thr d i) (default : HIx 2) O ∗ (if 0 < t then FlyO d i A ft fi (t - 1) else IdleO d i A (t + 1))
        ∗ FinO d i A ft fi t ∗ OW d i O W
        ∗ (IdleO d i A (t + 1) -∗ FinO d i A ft fi (t + 1) -∗ OW d i O W -∗ wp frame (wpE (defs₀ (F := F)) 𝒱₀ (thr d i) none) Set.univ k Q))
      ⊢ wp frame (wpE (defs₀ (F := F)) 𝒱₀ (thr d i) none) Set.univ
          (if h : c = 1#1 then
            (Prog.lift (.waitDma2 ((A.s6.slice (Rect.unit (s := S2) o3 S1.size (h3 h))).squeeze S_ squeezes_S1_S_).sem
              ((A.so.slice (Rect.unit (s := S2x128x128) o1 S1x128x128.size (h1 h)) (fun _ => rfl)).squeeze S128x128 squeezes_S1x128x128_S128x128)
              (A.ob.slice (Rect.unit (s := S32768x128) o2 S128x128.size (h2 h)) (fun _ => rfl))
              ((View.wordExact_bits rfl).reshape _ _) (View.wordExact_bits rfl)) >>= fun _ => k)
           else k) Q := by
  by_cases ht : 0 < t
  · rw [dif_pos (hc.mpr ht), wp_bind, if_pos ht, FinO_put d i A ft fi ht ht8, IdleO_congr d i A (s := t + 1) (t := t - 1) (by unfold par; omega)]
    iintro ⟨#Hm, Hf, Hd, Hw, Hk⟩
    iapply (wp_stored d i A ft fi O W (ho2 ht) (ho3 ht))
    isplitr; · iexact Hm
    isplitl [Hf]; · iexact Hf
    isplitl [Hw]; · iexact Hw
    iintro Ho HI Hw
    ispecialize Hk $$ HI
    ispecialize Hk $$ [Ho Hd]
    · isplitl [Ho]; · iexact Ho
      iexact Hd
    iapply Hk $$ Hw
  · rw [dif_neg (fun h => ht (hc.mp h)), if_neg ht]
    have e : (FinO d i A ft fi (t + 1) : sProp 𝕄) = FinO d i A ft fi t := by
      unfold FinO; congr 1; ext x; simp; omega
    rw [e]
    iintro ⟨#Hm, Hf, Hd, Hw, Hk⟩
    iapply Hk $$ Hf Hd Hw

set_option maxHeartbeats 1000000 in
/-- Trip `t`. -/
theorem trip (ht2 : A.tb.IsWhole) (ht3 : A.ix.IsWhole) (ht4 : A.ob.IsWhole) (ht5 : A.si.IsWhole) (ht6 : A.so.IsWhole)
    (hfi : ∀ t x, ((blkI i A t).view.read (Elt F) fi x).toNat < 32768) (t : Fin k0_t1_loop.trips)
    (acc : BitVec 32 × BitVec 32 × BitVec 32 × BitVec 32 × BitVec 32) :
    Inv d i A q ft fi O W t.val acc ⊢ wp frame (wpE (defs₀ (F := F)) 𝒱₀ (thr d i) none) Set.univ
      (k0_t1_body i A.tb ht2 A.ix ht3 A.ob ht4 A.si ht5 A.s5 A.so ht6 A.s6 A.sg (win0 i) t acc) (Inv d i A q ft fi O W (t.val + 1)) := by
  have ht8 : t.val < 8 := t.isLt
  unfold Inv
  rw [if_pos ht8, TodoO_take d i A ht8]
  iintro ⟨%hacc, #Hm, HfI, HsI, HrI, HsO, HfO, ⟨HtO, HtO'⟩, HdO, Ht, Hg, Hw⟩
  subst hacc
  unfold k0_t1_body
  rw [k0_part1_eq_skeleton, k0_part2_eq_skeleton]
  unfold k0_part1_skel
  dsimp only
  rw [wp_bind]
  rw [wp_bind]
  iapply (wp_check d i (chk3_ok t))
  rw [wp_bind]
  iapply (wp_check d i (chk2_ok t))
  rw [wp_bind]
  iapply (wp_check d i (chk1_ok i t))
  iapply (step_fetch d i A fi (cond1_iff i t) (off4_at t) (off5_at i t) (off6_at t))
  isplitl [HsI]; · iexact HsI
  isplitl [HrI]; · iexact HrI
  iintro HfI' HrI
  rw [wp_pure]; imodintro
  unfold k0_part2_skel
  dsimp only
  simp only [ite_self]
  rw [wp_bind]
  rw [dif_pos (cond2_one i t)]
  rw [wp_bind]
  iapply (wp_fetched d i A fi O W (off7_at t) (off9_at t))
  isplitr; · iexact Hm
  isplitl [HfI]; · iexact HfI
  isplitl [Hw]; · iexact Hw
  iintro ⟨%fd, HI⟩ HvI HbI Hw
  rw [wp_bind]
  iapply (wp_gather d i A q ft fi (off10_at t) (off11_at t) (hfi t.val) fd)
  isplitl [HI]; · iexact HI
  unfold IdleO
  icases HsO with ⟨HO, HvO⟩
  isplitl [HO]; · iexact HO
  isplitl [Ht]; · iexact Ht
  isplitl [Hg]; · iexact Hg
  iintro HfG
  rw [wp_bind]
  iapply (wp_gathered d i A q ft fi O W (off10_at t))
  isplitr; · iexact Hm
  isplitl [HfG]; · iexact HfG
  isplitl [Hw]; · iexact Hw
  iintro HO Ht HI Hg Hw
  rw [wp_pure]; imodintro
  rw [dif_pos (cond5_one i t)]
  rw [wp_bind]
  iapply (wp_store d i A ft fi (off12_at t) (off13_at i t) (off14_at t))
  isplitl [HO]; · iexact HO
  isplitl [HvO]; · iexact HvO
  isplitl [HtO]; · iexact HtO
  iintro HfO'
  iapply (step_stored d i A ft fi O W (by omega : t.val ≤ 8) (cond7_iff i t) (off16_at i t) (off17_at t))
  isplitr; · iexact Hm
  unfold IdleO
  isplitl [HfO]; · iexact HfO
  isplitl [HdO]; · iexact HdO
  isplitl [Hw]; · iexact Hw
  iintro HsO HdO Hw
  rw [wp_pure]; imodintro
  rw [IdleI_congr d i A (s := t.val + 1 + 1) (t := t.val) (by unfold par; omega), RestI_put d i A fi ht8, if_pos (Nat.succ_pos t.val), Nat.add_sub_cancel]
  isplitr
  · ipureintro
    exact carry_ok i t
  isplitr; · iexact Hm
  isplitl [HfI']; · iexact HfI'
  isplitl [HI HvI]
  · unfold IdleI
    isplitl [HI]; · iexact HI
    iexact HvI
  isplitl [HbI HrI]
  · isplitl [HbI]; · iexact HbI
    iexact HrI
  isplitl [HsO]; · iexact HsO
  isplitl [HfO']; · iexact HfO'
  isplitl [HtO']; · iexact HtO'
  isplitl [HdO]; · iexact HdO
  isplitl [Ht]; · iexact Ht
  isplitl [Hg]; · iexact Hg
  iexact Hw

end Cert.Proof
-- ==== Proof.Whole.lean ====
/-
  One subcore's whole program: the first fetch, the eight trips, the last window's wait.
-/
module

public import proofs.«01_k».proof.Proof.Trip

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (d : Dev nD) (i : grid0.Coords) (A : Parts)
variable (q : PosShare TreeShare) (ft : Buf (Elt F) (A.tb.view.loc (thr d i))) (fi : Buf (Elt F) (A.ix.view.loc (thr d i)))
variable (O : CellTallies nD τ sig (HIx 2)) (W : Waits sig (HIx 2))

/-- The two slots of each ring and their semaphores at rest, and the gather's semaphore. -/
def Rings : sProp 𝕄 :=
  iprop(IdleI d i A 0 ∗ IdleI d i A 1 ∗ IdleO d i A 0 ∗ IdleO d i A 1 ∗ semVal (thr d i, SemLoc.dma A.sg.sem) 0)

/-- The subcore's program gathers its eight windows: each window of the output ends as the rows its row numbers name. -/
theorem body (ht2 : A.tb.IsWhole) (ht3 : A.ix.IsWhole) (ht4 : A.ob.IsWhole) (ht5 : A.si.IsWhole) (ht6 : A.so.IsWhole)
    (hfi : ∀ t x, ((blkI i A t).view.read (Elt F) fi x).toNat < 32768) :
    iprop(Transfers.MayWaits (thr d i) (default : HIx 2) O ∗ (bigSep (Finset.range 8) fun t => HI d i A fi t)
        ∗ (bigSep (Finset.range 8) fun t => iprop(∃ f : Buf (Elt F) (A.ob.view.loc (thr d i)), HO d i A t f))
        ∗ HT d i A q ft ∗ Rings d i A ∗ OW d i O W)
      ⊢ wp frame (wpE (defs₀ (F := F)) 𝒱₀ (thr d i) none) Set.univ
          (cc0_gk i A.tb ht2 A.ix ht3 A.ob ht4 A.si ht5 A.s5 A.so ht6 A.s6 A.sg)
          fun _ => iprop((bigSep (Finset.range 8) fun t => HI d i A fi t) ∗ (bigSep (Finset.range 8) fun t => DoneO d i A ft fi t)
            ∗ HT d i A q ft ∗ Rings d i A ∗ OW d i O W) := by
  rw [cc0_gk_eq_skeleton]
  unfold cc0_gk_skel
  rw [k0_part3_eq_skeleton, k0_part4_eq_skeleton]
  unfold k0_part3_skel k0_part4_skel
  dsimp only
  have eI : (bigSep (Finset.range 8) (fun t => HI d i A fi t) : sProp 𝕄) = iprop(HI d i A fi 0 ∗ RestI d i A fi 0) := by
    unfold RestI
    rw [SparseCore.bigSep_erase' (i := 0) (by simp)]
    congr 2
  have eI8 : (bigSep (Finset.range 8) (fun t => HI d i A fi t) : sProp 𝕄) = RestI d i A fi 8 := by
    unfold RestI
    congr 1
  have eO : (bigSep (Finset.range 8) (fun t => iprop(∃ f : Buf (Elt F) (A.ob.view.loc (thr d i)), HO d i A t f)) : sProp 𝕄) = TodoO d i A 0 := by
    unfold TodoO
    congr 1
  have eD : (bigSep (Finset.range 8) (fun t => DoneO d i A ft fi t) : sProp 𝕄) = FinO d i A ft fi 9 := by
    unfold FinO
    congr 1
  have eF : (FinO d i A ft fi 0 : sProp 𝕄) = iprop(emp) := by
    unfold FinO
    rw [show (Finset.range 8).filter (· + 1 < 0) = ∅ by ext x; simp]
    exact bigSep_empty
  rw [eD, FinO_put d i A ft fi (t := 8) (by omega) (by omega), eI8]
  rw [← eI8, eI, eO]
  unfold Rings
  iintro ⟨#Hm, ⟨HI, HR⟩, HO, Ht, ⟨HI0, HI1, HO0, HO1, Hg⟩, Hw⟩
  rw [wp_bind, wp_bind]
  iapply (wp_fetch d i A fi k0_off1_eq (off2_at i) k0_off3_eq)
  isplitl [HI0]; · iexact HI0
  isplitl [HI]; · iexact HI
  iintro HF
  rw [wp_pure]; imodintro
  rw [wp_bind, wp_bind]
  iapply (Scf.wp_for frame (wpE (defs₀ (F := F)) 𝒱₀ (thr d i) none) Set.univ _ _ _ _ _ _ (Inv d i A q ft fi O W)
    (trip d i A q ft fi O W ht2 ht3 ht4 ht5 ht6 hfi))
  isplitl [HF HI1 HR HO0 HO1 HO Ht Hg Hw]
  · unfold Inv
    rw [if_pos (by omega : 0 < 8), if_neg (by omega : ¬ 0 < 0), eF]
    isplitr; · ipureintro; rfl
    isplitr; · iexact Hm
    isplitl [HF]; · iexact HF
    isplitl [HI1]; · iexact HI1
    isplitl [HR]; · iexact HR
    isplitl [HO0]; · iexact HO0
    isplitl [HO1]; · iexact HO1
    isplitl [HO]; · iexact HO
    isplitr; · iempintro
    isplitl [Ht]; · iexact Ht
    isplitl [Hg]; · iexact Hg
    iexact Hw
  · iintro %acc HInv
    unfold Inv
    rw [show Scf.trips k0_t1_loop.lb k0_t1_loop.ub k0_t1_loop.st = 8 from rfl, if_neg (by omega : ¬ 8 < 8), if_pos (by omega : 0 < 8)]
    icases HInv with ⟨%hacc, _, HI0, HI1, HR, HO0, HF, HT, HD, Ht, Hg, Hw⟩
    subst hacc
    dsimp only
    rw [wp_bind]
    iapply (wp_check d i (chk5_ok i))
    rw [wp_bind]
    iapply (wp_check d i chk4_ok)
    rw [wp_pure]; imodintro
    dsimp only
    rw [wp_bind]
    iapply (wp_stored d i A ft fi O W (off19_at i) off20_at)
    isplitr; · iexact Hm
    isplitl [HF]; · iexact HF
    isplitl [Hw]; · iexact Hw
    iintro Ho HO1 Hw
    rw [wp_pure]; imodintro
    ihave HR := (Entails.of_eq (eI8.symm.trans eI)) $$ HR
    ihave HI0 := (Entails.of_eq (IdleI_congr d i A (s := 8) (t := 0) rfl)) $$ HI0
    ihave HI1 := (Entails.of_eq (IdleI_congr d i A (s := 8 + 1) (t := 1) rfl)) $$ HI1
    ihave HO0 := (Entails.of_eq (IdleO_congr d i A (s := 8) (t := 0) rfl)) $$ HO0
    ihave HO1 := (Entails.of_eq (IdleO_congr d i A (s := 7) (t := 1) rfl)) $$ HO1
    isplitl [HR]; · iexact HR
    isplitl [Ho HD]
    · isplitl [Ho]; · iexact Ho
      iexact HD
    isplitl [Ht]; · iexact Ht
    isplitl [HI0 HI1 HO0 HO1 Hg]
    · isplitl [HI0]; · iexact HI0
      isplitl [HI1]; · iexact HI1
      isplitl [HO0]; · iexact HO0
      isplitl [HO1]; · iexact HO1
      iexact Hg
    iexact Hw

end Cert.Proof
-- ==== Proof.Tile.lean ====
/-
  One subcore's program from whole scratch buffers, its windows of the output ending at given contents.
-/
module

public import proofs.«01_k».proof.Proof.Whole

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (d : Dev nD) (i : grid0.Coords) (A : Parts)
variable (q : PosShare TreeShare) (ft : Buf (Elt F) (A.tb.view.loc (thr d i))) (fi : Buf (Elt F) (A.ix.view.loc (thr d i)))
variable (O : CellTallies nD τ sig (HIx 2)) (W : Waits sig (HIx 2))

/-- A whole buffer at some contents is its two halves, each at some contents. -/
theorem halves {sp : Space} {s : Shape} {e : EltTy} {m : Memref sig .scVector sp s e} (hm : m.IsWhole) (r₀ r₁ : Rect s)
    (hd : Disjoint r₀.set r₁.set) (hu : r₀.set ∪ r₁.set = Finset.univ) :
    (iprop(∃ f : Buf (Elt F) (m.view.loc (thr d i)), m.view.loc (thr d i) ↦{fullShare} f) : sProp 𝕄)
      ⊣⊢ iprop((∃ f : Buf (Elt F) (m.view.loc (thr d i)), m.view.loc (thr d i) ↦[(m.view.slice r₀).set]{fullShare} f)
          ∗ ∃ f : Buf (Elt F) (m.view.loc (thr d i)), m.view.loc (thr d i) ↦[(m.view.slice r₁).set]{fullShare} f) := by
  have hd' : Disjoint (m.view.slice r₀).set (m.view.slice r₁).set := by
    rw [View.set_slice, View.set_slice]
    exact (Finset.disjoint_map _).2 hd
  have hu' : (m.view.slice r₀).set ∪ (m.view.slice r₁).set = Finset.univ := by
    rw [View.set_slice, View.set_slice, ← Finset.map_union, hu]
    exact hm.set_eq_univ
  constructor
  · iintro ⟨%f, H⟩
    ihave H := (Entails.of_eq (congrArg (fun J => (m.view.loc (thr d i) ↦[J]{fullShare} f : sProp 𝕄)) hu'.symm)) $$ H
    ihave H := (pointsTo_union hd').1 $$ H
    icases H with ⟨H0, H1⟩
    isplitl [H0]
    · iexists f; iexact H0
    · iexists f; iexact H1
  · iintro ⟨⟨%f, H0⟩, ⟨%g, H1⟩⟩
    ihave H := (pointsTo_join (ℓ := m.view.loc (thr d i)) (q := fullShare) (f := f) (g := g) hd') $$ [H0 H1]
    · isplitl [H0] <;> iassumption
    ihave H := (Entails.of_eq (congrArg (fun J => (m.view.loc (thr d i) ↦[J]{fullShare} _ : sProp 𝕄)) hu')) $$ H
    iexists _; iexact H

/-- A subcore's scratch: the two rings whole, at some contents, and the five semaphores at zero. -/
def Scr : sProp 𝕄 :=
  iprop((∃ f : Buf (Elt F) (A.si.view.loc (thr d i)), A.si.view.loc (thr d i) ↦{fullShare} f)
    ∗ (∃ f : Buf (Elt F) (A.so.view.loc (thr d i)), A.so.view.loc (thr d i) ↦{fullShare} f)
    ∗ semVal (thr d i, SemLoc.dma (semI A 0)) 0 ∗ semVal (thr d i, SemLoc.dma (semI A 1)) 0
    ∗ semVal (thr d i, SemLoc.dma (semO A 0)) 0 ∗ semVal (thr d i, SemLoc.dma (semO A 1)) 0
    ∗ semVal (thr d i, SemLoc.dma A.sg.sem) 0)

theorem slotsI (h : A.si.IsWhole) :
    (iprop(∃ f : Buf (Elt F) (A.si.view.loc (thr d i)), A.si.view.loc (thr d i) ↦{fullShare} f) : sProp 𝕄)
      ⊣⊢ iprop((∃ f, SI' d i A 0 f) ∗ ∃ f, SI' d i A 1 f) := by
  unfold SI'
  simp only [Memref.view_squeeze, View.set_reshape]
  exact halves d i h (Rect.unit (s := S2x1x128) ![par 0, 0, 0] S1x1x128.size (slotI_inb 0))
    (Rect.unit (s := S2x1x128) ![par 1, 0, 0] S1x1x128.size (slotI_inb 1)) (by
      rw [Finset.disjoint_left]
      intro x h0 h1
      have h0 := (Rect.mem_set_unit.1 h0 0).2
      have h1 := (Rect.mem_set_unit.1 h1 0).1
      simp [par] at h0 h1
      omega) (by
      ext x
      simp only [Finset.mem_union, Rect.mem_set_unit, Finset.mem_univ, iff_true]
      have hx0 : (x 0).val < 2 := (x 0).isLt
      have hx1 : (x 1).val < 1 := (x 1).isLt
      have hx2 : (x 2).val < 128 := (x 2).isLt
      rcases Nat.lt_or_ge (x 0).val 1 with h | h
      · left; intro a; fin_cases a <;> simp [par] <;> omega
      · right; intro a; fin_cases a <;> simp [par] <;> omega)

theorem slotsO (h : A.so.IsWhole) :
    (iprop(∃ f : Buf (Elt F) (A.so.view.loc (thr d i)), A.so.view.loc (thr d i) ↦{fullShare} f) : sProp 𝕄)
      ⊣⊢ iprop((∃ f, SO' d i A 0 f) ∗ ∃ f, SO' d i A 1 f) := by
  unfold SO'
  simp only [Memref.view_squeeze, View.set_reshape]
  exact halves d i h (Rect.unit (s := S2x128x128) ![par 0, 0, 0] S1x128x128.size (slotO_inb 0))
    (Rect.unit (s := S2x128x128) ![par 1, 0, 0] S1x128x128.size (slotO_inb 1)) (by
      rw [Finset.disjoint_left]
      intro x h0 h1
      have h0 := (Rect.mem_set_unit.1 h0 0).2
      have h1 := (Rect.mem_set_unit.1 h1 0).1
      simp [par] at h0 h1
      omega) (by
      ext x
      simp only [Finset.mem_union, Rect.mem_set_unit, Finset.mem_univ, iff_true]
      have hx0 : (x 0).val < 2 := (x 0).isLt
      have hx1 : (x 1).val < 128 := (x 1).isLt
      have hx2 : (x 2).val < 128 := (x 2).isLt
      rcases Nat.lt_or_ge (x 0).val 1 with h | h
      · left; intro a; fin_cases a <;> simp [par] <;> omega
      · right; intro a; fin_cases a <;> simp [par] <;> omega)

/-- The scratch as the program uses it, and back. -/
theorem scr_rings (h5 : A.si.IsWhole) (h6 : A.so.IsWhole) : (Scr d i A : sProp 𝕄) ⊣⊢ Rings d i A := by
  unfold Scr Rings IdleI IdleO
  constructor
  · iintro ⟨HI, HO, I0, I1, O0, O1, G⟩
    ihave HI := (slotsI d i A h5).1 $$ HI
    ihave HO := (slotsO d i A h6).1 $$ HO
    icases HI with ⟨HI0, HI1⟩
    icases HO with ⟨HO0, HO1⟩
    isplitl [HI0 I0]; · isplitl [HI0] <;> iassumption
    isplitl [HI1 I1]; · isplitl [HI1] <;> iassumption
    isplitl [HO0 O0]; · isplitl [HO0] <;> iassumption
    isplitl [HO1 O1]; · isplitl [HO1] <;> iassumption
    iexact G
  · iintro ⟨⟨HI0, I0⟩, ⟨HI1, I1⟩, ⟨HO0, O0⟩, ⟨HO1, O1⟩, G⟩
    isplitl [HI0 HI1]
    · iapply (slotsI d i A h5).2
      isplitl [HI0] <;> iassumption
    isplitl [HO0 HO1]
    · iapply (slotsO d i A h6).2
      isplitl [HO0] <;> iassumption
    isplitl [I0]; · iexact I0
    isplitl [I1]; · iexact I1
    isplitl [O0]; · iexact O0
    isplitl [O1]; · iexact O1
    iexact G

/-- What a subcore is handed: its row numbers, a share of the table, its windows of the output. -/
def Go : sProp 𝕄 :=
  iprop((bigSep (Finset.range 8) fun t => HI d i A fi t) ∗ HT d i A q ft
    ∗ bigSep (Finset.range 8) fun t => iprop(∃ f : Buf (Elt F) (A.ob.view.loc (thr d i)), HO d i A t f))
/-- What it hands back: the same, its windows of the output at `G`. -/
def Td (G : Buf (Elt F) (A.ob.view.loc (thr d i))) : sProp 𝕄 :=
  iprop((bigSep (Finset.range 8) fun t => HI d i A fi t) ∗ HT d i A q ft ∗ bigSep (Finset.range 8) fun t => HO d i A t G)

/-- A written window is the window at any contents that read the same through it. -/
theorem done_at {G : Buf (Elt F) (A.ob.view.loc (thr d i))} {t : ℕ}
    (hG : (blkO i A t).view.read (Elt F) G = pay d i A ft fi t) : (DoneO d i A ft fi t : sProp 𝕄) ⊢ HO d i A t G := by
  unfold DoneO HO
  iintro ⟨%fd, H⟩
  iapply (Entails.of_eq ?_) $$ H
  refine pointsTo_congr fun j hj => ?_
  obtain ⟨x, _, rfl⟩ := Finset.mem_map.1 hj
  show (blkO i A t).view.write (Elt F) fd (pay d i A ft fi t) Finset.univ ((blkO i A t).view.emb x) = _
  rw [← hG, View.write_emb_of_mem _ _ (Finset.mem_univ x), View.read_apply]
  exact eq_of_heq ((cast_heq _ _).trans (cast_heq _ _))

/-- The subcore's program, from what it is handed to what it hands back. -/
theorem tile (ht2 : A.tb.IsWhole) (ht3 : A.ix.IsWhole) (ht4 : A.ob.IsWhole) (ht5 : A.si.IsWhole) (ht6 : A.so.IsWhole)
    (hfi : ∀ t x, ((blkI i A t).view.read (Elt F) fi x).toNat < 32768) (G : Buf (Elt F) (A.ob.view.loc (thr d i)))
    (hG : ∀ t, (blkO i A t).view.read (Elt F) G = pay d i A ft fi t) :
    iprop(Transfers.MayWaits (thr d i) (default : HIx 2) O ∗ Go d i A q ft fi ∗ Scr d i A ∗ OW d i O W)
      ⊢ wp frame (wpE (defs₀ (F := F)) 𝒱₀ (thr d i) none) Set.univ
          (cc0_gk i A.tb ht2 A.ix ht3 A.ob ht4 A.si ht5 A.s5 A.so ht6 A.s6 A.sg)
          fun _ => iprop(Td d i A q ft fi G ∗ Scr d i A ∗ OW d i O W) := by
  have hpre : iprop(Transfers.MayWaits (thr d i) (default : HIx 2) O ∗ Go d i A q ft fi ∗ Scr d i A ∗ OW d i O W)
      ⊢ (iprop(Transfers.MayWaits (thr d i) (default : HIx 2) O ∗ (bigSep (Finset.range 8) fun t => HI d i A fi t)
        ∗ (bigSep (Finset.range 8) fun t => iprop(∃ f : Buf (Elt F) (A.ob.view.loc (thr d i)), HO d i A t f))
        ∗ HT d i A q ft ∗ Rings d i A ∗ OW d i O W) : sProp 𝕄) := by
    unfold Go
    iintro ⟨Hm, ⟨HI, HT, HO⟩, HS, Hw⟩
    ihave HS := (scr_rings d i A ht5 ht6).1 $$ HS
    isplitl [Hm]; · iexact Hm
    isplitl [HI]; · iexact HI
    isplitl [HO]; · iexact HO
    isplitl [HT]; · iexact HT
    isplitl [HS] <;> iassumption
  have hD : (bigSep (Finset.range 8) fun t => DoneO d i A ft fi t) ⊢ (bigSep (Finset.range 8) fun t => HO d i A t G : sProp 𝕄) :=
    bigSep_mono fun t _ => done_at d i A ft fi (hG t)
  have hpost : iprop((bigSep (Finset.range 8) fun t => HI d i A fi t) ∗ (bigSep (Finset.range 8) fun t => DoneO d i A ft fi t)
            ∗ HT d i A q ft ∗ Rings d i A ∗ OW d i O W) ⊢ (iprop(Td d i A q ft fi G ∗ Scr d i A ∗ OW d i O W) : sProp 𝕄) := by
    unfold Td
    iintro ⟨HI, HD, HT, HS, Hw⟩
    ihave HS := (scr_rings d i A ht5 ht6).2 $$ HS
    ihave HD := hD $$ HD
    isplitl [HI HD HT]
    · isplitl [HI]; · iexact HI
      isplitl [HT] <;> iassumption
    isplitl [HS] <;> iassumption
  exact hpre.trans ((body d i A q ft fi O W ht2 ht3 ht4 ht5 ht6 hfi).trans (wp_mono frame _ _ fun _ => hpost))

end Cert.Proof
-- ==== Proof.Grid.lean ====
/-
  The arrays of the two gathers, cut along the grid: each subcore's row numbers, its share of the table and its windows
  of the output, and the whole arrays from them.
-/
module

public import proofs.«01_k».proof.Proof.Tile

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-- The first gather's arrays and scratch. -/
abbrev A0 : Parts := ⟨Memref.whole main_v3_scv, Memref.whole main_v0_scv, Memref.whole main_v6_scv, Memref.whole cc0_scoped0, cc0_scoped1,
  Memref.whole cc0_scoped2, cc0_scoped3, cc0_scoped4⟩
/-- The second gather's arrays and scratch. -/
abbrev A1 : Parts := ⟨Memref.whole main_v5_scv, Memref.whole main_v0_scv, Memref.whole main_v7_scv, Memref.whole cc1_scoped0, cc1_scoped1,
  Memref.whole cc1_scoped2, cc1_scoped3, cc1_scoped4⟩

/-- The grid point of SparseCore `c`'s subcore `s`. -/
def crd (c : Fin 2) (s : Fin 16) : grid0.Coords :=
  fun | 0 => c | 1 => s | ⟨_ + 2, h⟩ => absurd h (Nat.not_lt.2 (Nat.le_add_left _ _))

/-- The share of a table that subcore holds. -/
def shr (c : Fin 2) (s : Fin 16) : PosShare TreeShare :=
  pieceOf (pieceOf fullShare 2 (by decide) c) 16 (by decide) s

/-- Column `r` of the row numbers. -/
def atN (r : Fin 32768) : S1x32768.Idx := fun a =>
  match a with
  | ⟨0, _⟩ => ⟨0, Nat.one_pos⟩
  | ⟨1, _⟩ => r

/-- The gathered rows: row `r` is the table's row that row number `r` names. -/
def gath (t : S32768x128.Idx → Elt F .f32) (x : S1x32768.Idx → Elt F .i32) : S32768x128.Idx → Elt F .f32 :=
  fun j => t (at2 (x (atN (j 0))).toNat (j 1))

section Cut

variable {nD : ℕ} {τ : Topo} {sig : RefSig} {Val : EltTy → Type}

local notation "𝕄'" => MT nD τ sig (HIx 2) Val ℕ UU ℕ

omit [FloatOps F] in
/-- Elements held along the fibres of a function. -/
theorem pts_fibers {ℓ : Loc nD τ sig} {q : PosShare TreeShare} {f : Buf Val ℓ} {T : Type} [DecidableEq T] (S : Finset T) (I : Finset (Idx ℓ))
    (K : T → Finset (Idx ℓ)) (key : Idx ℓ → T) (hK : ∀ t ∈ S, ∀ j, j ∈ K t ↔ j ∈ I ∧ key j = t) (hkey : ∀ j ∈ I, key j ∈ S) :
    (ℓ ↦[I]{q} f : sProp 𝕄') = bigSep S fun t => ℓ ↦[K t]{q} f := by
  classical
  rw [← pointsTo_biUnion S K fun t ht t' ht' hne => Finset.disjoint_left.2 fun j h h' =>
    hne (((hK t ht j).1 h).2.symm.trans ((hK t' ht' j).1 h').2)]
  congr 1
  ext j
  simp only [Finset.mem_biUnion]
  exact ⟨fun h => ⟨key j, hkey j h, (hK _ (hkey j h) j).2 ⟨h, rfl⟩⟩, fun ⟨t, ht, h⟩ => ((hK t ht j).1 h).1⟩

omit [FloatOps F] in
/-- A whole array along the grid: core, subcore, window. -/
theorem pts_grid {ℓ : Loc nD τ sig} {q : PosShare TreeShare} {f : Buf Val ℓ} (K : Fin 2 → Fin 16 → ℕ → Finset (Idx ℓ)) (key : Idx ℓ → ℕ)
    (hk : ∀ j, key j < 32768)
    (hK : ∀ c s t, t < 8 → ∀ j, j ∈ K c s t ↔ 128 * t + 1024 * s.val + 16384 * c.val ≤ key j ∧ key j < 128 * t + 1024 * s.val + 16384 * c.val + 128) :
    (ℓ ↦{q} f : sProp 𝕄') = bigSep Finset.univ fun c : Fin 2 => bigSep Finset.univ fun s : Fin 16 =>
      bigSep (Finset.range 8) fun t => ℓ ↦[K c s t]{q} f := by
  classical
  rw [pts_fibers (Finset.univ : Finset (Fin 2)) Finset.univ (fun c => Finset.univ.filter fun j => key j / 16384 = c.val)
    (fun j => ⟨key j / 16384, by have := hk j; omega⟩) (fun c _ j => by simp [Fin.ext_iff]) (fun _ _ => Finset.mem_univ _)]
  refine bigSep_congr fun c _ => ?_
  rw [pts_fibers (Finset.univ : Finset (Fin 16)) _ (fun s => Finset.univ.filter fun j => key j / 1024 = 16 * c.val + s.val)
    (fun j => ⟨key j / 1024 % 16, Nat.mod_lt _ (by decide)⟩) (fun s _ j => by
      have hc := c.isLt
      have hs := s.isLt
      simp only [Finset.mem_filter, Finset.mem_univ, true_and, Fin.ext_iff]; omega) (fun _ _ => Finset.mem_univ _)]
  refine bigSep_congr fun s _ => ?_
  refine pts_fibers (Finset.range 8) _ (K c s) (fun j => key j / 128 % 8) (fun t ht j => ?_)
    (fun j _ => Finset.mem_range.2 (Nat.mod_lt _ (by decide)))
  have hc := c.isLt
  have hs := s.isLt
  have ht := Finset.mem_range.1 ht
  rw [hK c s t ht]
  simp only [Finset.mem_filter, Finset.mem_univ, true_and]; omega

omit [FloatOps F] in
/-- A whole array's read shares along the grid. -/
theorem pts_shares {ℓ : Loc nD τ sig} {f : Buf Val ℓ} (I : Finset (Idx ℓ)) :
    (ℓ ↦[I]{fullShare} f : sProp 𝕄') = bigSep Finset.univ fun c : Fin 2 => bigSep Finset.univ fun s : Fin 16 => ℓ ↦[I]{shr c s} f := by
  rw [pointsTo_piecesOf I f (o := 2) (by decide) fullShare]
  exact bigSep_congr fun c _ => pointsTo_piecesOf I f (o := 16) (by decide) _

end Cut

/-- Window `t`'s column of row numbers, by columns. -/
theorem mem_cols (c : Fin 2) (s : Fin 16) (t : ℕ) (ht : t < 8) (j : S1x32768.Idx) :
    j ∈ (Rect.unit (s := S1x32768) ![0, row0 (crd c s) t] S1x128.size (blkI_inb (crd c s) t)).set
      ↔ 128 * t + 1024 * s.val + 16384 * c.val ≤ (j 1).val ∧ (j 1).val < 128 * t + 1024 * s.val + 16384 * c.val + 128 := by
  have e : row0 (crd c s) t = 128 * t + 1024 * s.val + 16384 * c.val := by
    unfold row0; rw [Nat.mod_eq_of_lt ht]; rfl
  rw [Rect.mem_set_unit]
  have h0 : (j 0).val < 1 := (j 0).isLt
  constructor
  · intro h
    have h1 := h 1
    simp [e] at h1
    exact h1
  · intro h a
    fin_cases a
    · simp; omega
    · simp [e]; exact h

/-- Window `t` of the output, by rows. -/
theorem mem_rows (c : Fin 2) (s : Fin 16) (t : ℕ) (ht : t < 8) (j : S32768x128.Idx) :
    j ∈ (Rect.unit (s := S32768x128) ![row0 (crd c s) t, 0] S128x128.size (blkO_inb (crd c s) t)).set
      ↔ 128 * t + 1024 * s.val + 16384 * c.val ≤ (j 0).val ∧ (j 0).val < 128 * t + 1024 * s.val + 16384 * c.val + 128 := by
  have e : row0 (crd c s) t = 128 * t + 1024 * s.val + 16384 * c.val := by
    unfold row0; rw [Nat.mod_eq_of_lt ht]; rfl
  rw [Rect.mem_set_unit]
  have h1 : (j 1).val < 128 := (j 1).isLt
  constructor
  · intro h
    have h1 := h 0
    simp [e] at h1
    exact h1
  · intro h a
    fin_cases a
    · simp [e]; exact h
    · simp; omega

theorem tabl_set : (Rect.unit (s := S32768x128) ![0, 0] S32768x128.size inb_S32768x128_S32768x128_0_0).set = Finset.univ := by
  ext j
  have h0 : (j 0).val < 32768 := (j 0).isLt
  have h1 : (j 1).val < 128 := (j 1).isLt
  simp only [Rect.mem_set_unit, Finset.mem_univ, iff_true]
  intro a; fin_cases a <;> simp <;> omega

variable (d : Dev nD)

/-- The row numbers along the grid: the same for both gathers. -/
theorem cut_ids (f : S1x32768.Idx → Elt F .i32) :
    ((SparseCore.T d : Thread nD τ).loc main_v0 ↦{fullShare} f : sProp 𝕄) = bigSep Finset.univ fun c : Fin 2 => bigSep Finset.univ fun s : Fin 16 =>
      bigSep (Finset.range 8) fun t => HI d (crd c s) A0 f t := by
  unfold HI
  simp only [Memref.view_slice, Memref.view_whole, View.set_slice_whole]
  exact pts_grid (ℓ := (SparseCore.T d : Thread nD τ).loc main_v0) (fun c s t => (Rect.unit (s := S1x32768) ![0, row0 (crd c s) t] S1x128.size (blkI_inb (crd c s) t)).set)
    (fun j => (j 1).val) (fun j => (j 1).isLt) mem_cols

/-- The first gather's output along the grid. -/
theorem cut_out0 (f : S32768x128.Idx → Elt F .f32) :
    ((SparseCore.T d : Thread nD τ).loc main_v6 ↦{fullShare} f : sProp 𝕄) = bigSep Finset.univ fun c : Fin 2 => bigSep Finset.univ fun s : Fin 16 =>
      bigSep (Finset.range 8) fun t => HO d (crd c s) A0 t f := by
  unfold HO
  simp only [Memref.view_slice, Memref.view_whole, View.set_slice_whole]
  exact pts_grid (ℓ := (SparseCore.T d : Thread nD τ).loc main_v6) (fun c s t => (Rect.unit (s := S32768x128) ![row0 (crd c s) t, 0] S128x128.size (blkO_inb (crd c s) t)).set)
    (fun j => (j 0).val) (fun j => (j 0).isLt) mem_rows

/-- The second gather's output along the grid. -/
theorem cut_out1 (f : S32768x128.Idx → Elt F .f32) :
    ((SparseCore.T d : Thread nD τ).loc main_v7 ↦{fullShare} f : sProp 𝕄) = bigSep Finset.univ fun c : Fin 2 => bigSep Finset.univ fun s : Fin 16 =>
      bigSep (Finset.range 8) fun t => HO d (crd c s) A1 t f := by
  unfold HO
  simp only [Memref.view_slice, Memref.view_whole, View.set_slice_whole]
  exact pts_grid (ℓ := (SparseCore.T d : Thread nD τ).loc main_v7) (fun c s t => (Rect.unit (s := S32768x128) ![row0 (crd c s) t, 0] S128x128.size (blkO_inb (crd c s) t)).set)
    (fun j => (j 0).val) (fun j => (j 0).isLt) mem_rows

/-- The first table's shares along the grid. -/
theorem cut_tab0 (f : S32768x128.Idx → Elt F .f32) :
    ((SparseCore.T d : Thread nD τ).loc main_v3 ↦{fullShare} f : sProp 𝕄) = bigSep Finset.univ fun c : Fin 2 => bigSep Finset.univ fun s : Fin 16 =>
      HT d (crd c s) A0 (shr c s) f := by
  unfold HT
  simp only [Memref.view_slice, Memref.view_whole, View.set_slice_whole]
  exact (congrArg (fun J : Finset S32768x128.Idx => ((SparseCore.T d : Thread nD τ).loc main_v3 ↦[J]{fullShare} f : sProp 𝕄)) tabl_set.symm).trans
    (pts_shares (ℓ := (SparseCore.T d : Thread nD τ).loc main_v3) _)

/-- The second table's shares along the grid. -/
theorem cut_tab1 (f : S32768x128.Idx → Elt F .f32) :
    ((SparseCore.T d : Thread nD τ).loc main_v5 ↦{fullShare} f : sProp 𝕄) = bigSep Finset.univ fun c : Fin 2 => bigSep Finset.univ fun s : Fin 16 =>
      HT d (crd c s) A1 (shr c s) f := by
  unfold HT
  simp only [Memref.view_slice, Memref.view_whole, View.set_slice_whole]
  exact (congrArg (fun J : Finset S32768x128.Idx => ((SparseCore.T d : Thread nD τ).loc main_v5 ↦[J]{fullShare} f : sProp 𝕄)) tabl_set.symm).trans
    (pts_shares (ℓ := (SparseCore.T d : Thread nD τ).loc main_v5) _)

/-- Reading window `t` of the gathered rows is what the window is written with. -/
theorem gath_read (i : grid0.Coords) (A : Parts) (ft : Buf (Elt F) (A.tb.view.loc (thr d i))) (fi : Buf (Elt F) (A.ix.view.loc (thr d i)))
    (G : Buf (Elt F) (A.ob.view.loc (thr d i))) (t : S32768x128.Idx → Elt F .f32) (x : S1x32768.Idx → Elt F .i32)
    (ht : A.tb.view.read (Elt F) ft = t) (hx : A.ix.view.read (Elt F) fi = x) (hG : A.ob.view.read (Elt F) G = gath t x) (w : ℕ) :
    (blkO i A w).view.read (Elt F) G = pay d i A ft fi w := by
  funext j
  have e1 : (blkO i A w).view.read (Elt F) G j = gath t x ((Rect.unit (s := S32768x128) ![row0 i w, 0] S128x128.size (blkO_inb i w)).emb j) :=
    congrFun hG _
  have e2 : ∀ k, (tabl A).view.read (Elt F) ft k
      = t ((Rect.unit (s := S32768x128) ![0, 0] S32768x128.size inb_S32768x128_S32768x128_0_0).emb k) := fun k => congrFun ht _
  have e3 : ∀ k, (blkI i A w).view.read (Elt F) fi k = x ((Rect.unit (s := S1x32768) ![0, row0 i w] S1x128.size (blkI_inb i w)).emb k) :=
    fun k => congrFun hx _
  unfold pay
  rw [e1, e2, e3]
  unfold gath
  have e4 : (atN ((Rect.unit (s := S32768x128) ![row0 i w, 0] S128x128.size (blkO_inb i w)).emb j 0))
      = (Rect.unit (s := S1x32768) ![0, row0 i w] S1x128.size (blkI_inb i w)).emb (at1 (j 0)) := by
    funext a
    fin_cases a
    · exact Fin.ext rfl
    · exact Fin.ext rfl
  rw [e4]
  congr 1
  funext a
  fin_cases a
  · apply Fin.ext
    show _ = 0 + 1 * _
    rw [Nat.zero_add, Nat.one_mul]
    rfl
  · apply Fin.ext
    show 0 + 1 * (j 1).val = 0 + 1 * (j 1).val
    rfl

end Cert.Proof
-- ==== Proof.Own.lean ====
/-
  The two launches: what each subcore is handed and hands back, and that its program does so.
-/
module

public import proofs.«01_k».proof.Proof.Grid

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## A subcore's own scratch -/

section Own

variable (d : Dev nD) (i : grid0.Coords)

/-- The processor that works on grid point `i`. -/
abbrev prc : Proc τ := Proc.scVector ((i 0).castLE hcore0) ((i 1).castLE hsub0)

/-- A subcore's own buffers, two of them apart. -/
theorem own_bufs {b₀ b₁ : Ref sig .scVector} (h₀ : (prc i).devRef b₀ ∈ SparseCore.Cfg.ownRefs (prc i))
    (h₁ : (prc i).devRef b₁ ∈ SparseCore.Cfg.ownRefs (prc i)) (hne : b₁ ≠ b₀) :
    (SparseCore.Cfg.ownBufs (thr d i) : sProp 𝕄)
      = iprop((∃ f, (thr d i).loc b₀ ↦{fullShare} f) ∗ (∃ f, (thr d i).loc b₁ ↦{fullShare} f)
          ∗ bigSep (((SparseCore.Cfg.ownRefs (prc i)).erase ((prc i).devRef b₀)).erase ((prc i).devRef b₁))
              fun b => iprop(∃ f, ((d, b) : Loc nD τ sig) ↦{fullShare} f)) := by
  unfold SparseCore.Cfg.ownBufs
  refine (SparseCore.bigSep_erase' h₀).trans ?_
  rw [SparseCore.bigSep_erase' (Finset.mem_erase.mpr ⟨fun e => hne (Proc.devRef_injective _ e), h₁⟩)]

/-- A subcore's own semaphores, five of them apart. -/
theorem own_sems {s : Fin 5 → DmaSem sig} (hs : Function.Injective s)
    (hsc : ∀ k, (SemLoc.dma (s k) : SemLoc sig).isScoped .scVector = true) :
    ∃ R : sProp 𝕄, (SparseCore.Cfg.ownSems0 (thr d i) : sProp 𝕄)
      = iprop(semVal (thr d i, SemLoc.dma (s 0)) 0 ∗ semVal (thr d i, SemLoc.dma (s 1)) 0 ∗ semVal (thr d i, SemLoc.dma (s 2)) 0
          ∗ semVal (thr d i, SemLoc.dma (s 3)) 0 ∗ semVal (thr d i, SemLoc.dma (s 4)) 0 ∗ R) := by
  unfold SparseCore.Cfg.ownSems0
  have hm : ∀ k, ((thr d i, SemLoc.dma (s k)) : GSem nD τ sig) ∈ SparseCore.Cfg.ownCells (thr d i) :=
    fun k => SparseCore.Cfg.mem_ownCells.mpr ⟨rfl, hsc k⟩
  have hn : ∀ k l, k ≠ l → ((thr d i, SemLoc.dma (s k)) : GSem nD τ sig) ≠ (thr d i, SemLoc.dma (s l)) :=
    fun k l h e => h (hs (SemLoc.dma.inj (congrArg Prod.snd e)))
  rw [SparseCore.bigSep_erase' (hm 0),
    SparseCore.bigSep_erase' (Finset.mem_erase.mpr ⟨hn 1 0 (by decide), hm 1⟩),
    SparseCore.bigSep_erase' (Finset.mem_erase.mpr ⟨hn 2 1 (by decide), Finset.mem_erase.mpr ⟨hn 2 0 (by decide), hm 2⟩⟩),
    SparseCore.bigSep_erase' (Finset.mem_erase.mpr ⟨hn 3 2 (by decide), Finset.mem_erase.mpr ⟨hn 3 1 (by decide), Finset.mem_erase.mpr ⟨hn 3 0 (by decide), hm 3⟩⟩⟩),
    SparseCore.bigSep_erase' (Finset.mem_erase.mpr ⟨hn 4 3 (by decide), Finset.mem_erase.mpr ⟨hn 4 2 (by decide), Finset.mem_erase.mpr ⟨hn 4 1 (by decide),
      Finset.mem_erase.mpr ⟨hn 4 0 (by decide), hm 4⟩⟩⟩⟩)]
  exact ⟨_, rfl⟩

/-- The semaphores a program is handed, in order. -/
def sems (A : Parts) : Fin 5 → DmaSem sig := ![semI A 0, semI A 1, semO A 0, semO A 1, A.sg.sem]

/-- A subcore's own buffers and semaphores are its program's scratch and a rest. -/
theorem own_scr (hF : (K (F := F)).Facts) {A : Parts} {b₀ b₁ : Ref sig .scVector} (h₀ : (prc i).devRef b₀ ∈ SparseCore.Cfg.ownRefs (prc i))
    (h₁ : (prc i).devRef b₁ ∈ SparseCore.Cfg.ownRefs (prc i)) (hne : b₁ ≠ b₀) (hs : Function.Injective (sems A))
    (hsc : ∀ k, (SemLoc.dma (sems A k) : SemLoc sig).isScoped .scVector = true)
    (hA : (Scr d i A : sProp 𝕄) = iprop((∃ f, (thr d i).loc b₀ ↦{fullShare} f) ∗ (∃ f, (thr d i).loc b₁ ↦{fullShare} f)
      ∗ semVal (thr d i, SemLoc.dma (sems A 0)) 0 ∗ semVal (thr d i, SemLoc.dma (sems A 1)) 0 ∗ semVal (thr d i, SemLoc.dma (sems A 2)) 0
      ∗ semVal (thr d i, SemLoc.dma (sems A 3)) 0 ∗ semVal (thr d i, SemLoc.dma (sems A 4)) 0)) :
    ∃ R : sProp 𝕄, iprop(scopedBufs (thr d i) ∗ scopedSems0 (thr d i)) ⊣⊢ iprop(Scr d i A ∗ R) := by
  obtain ⟨R, hR⟩ := own_sems (F := F) d i hs hsc
  refine ⟨iprop((bigSep (((SparseCore.Cfg.ownRefs (prc i)).erase ((prc i).devRef b₀)).erase ((prc i).devRef b₁))
              fun b => iprop(∃ f, ((d, b) : Loc nD τ sig) ↦{fullShare} f)) ∗ R), ?_⟩
  rw [(K (F := F)).scopedBufs_V hF d, SparseCore.Cfg.scopedSems0_V (Val := Elt F) d, own_bufs d i h₀ h₁ hne, hR, hA]
  constructor
  · iintro ⟨⟨HA, HB, HR⟩, H0, H1, H2, H3, H4, HQ⟩
    isplitr [HR HQ]
    · isplitl [HA]; · iexact HA
      isplitl [HB]; · iexact HB
      isplitl [H0]; · iexact H0
      isplitl [H1]; · iexact H1
      isplitl [H2]; · iexact H2
      isplitl [H3]; · iexact H3
      iexact H4
    isplitl [HR] <;> iassumption
  · iintro ⟨⟨HA, HB, H0, H1, H2, H3, H4⟩, HR, HQ⟩
    isplitl [HA HB HR]
    · isplitl [HA]; · iexact HA
      isplitl [HB]; · iexact HB
      iexact HR
    isplitl [H0]; · iexact H0
    isplitl [H1]; · iexact H1
    isplitl [H2]; · iexact H2
    isplitl [H3]; · iexact H3
    isplitl [H4]; · iexact H4
    iexact HQ

/-- The first gather's scratch is the subcore's own. -/
theorem own_scr0 (hF : (K (F := F)).Facts) :
    ∃ R : sProp 𝕄, iprop(scopedBufs (thr d i) ∗ scopedSems0 (thr d i)) ⊣⊢ iprop(Scr d i A0 ∗ R) :=
  own_scr d i hF (b₀ := cc0_scoped0) (b₁ := cc0_scoped2) (SparseCore.Cfg.mem_ownRefs_of_owner rfl) (SparseCore.Cfg.mem_ownRefs_of_owner rfl)
    (by decide) (by decide) (by decide) rfl

/-- The second gather's scratch is the subcore's own. -/
theorem own_scr1 (hF : (K (F := F)).Facts) :
    ∃ R : sProp 𝕄, iprop(scopedBufs (thr d i) ∗ scopedSems0 (thr d i)) ⊣⊢ iprop(Scr d i A1 ∗ R) :=
  own_scr d i hF (b₀ := cc1_scoped0) (b₁ := cc1_scoped2) (SparseCore.Cfg.mem_ownRefs_of_owner rfl) (SparseCore.Cfg.mem_ownRefs_of_owner rfl)
    (by decide) (by decide) (by decide) rfl

end Own

end Cert.Proof
-- ==== Proof.Launch.lean ====
/-
  The two launches: what each subcore is handed and hands back, and that its program does so.
-/
module

public import proofs.«01_k».proof.Proof.Own
public import proofs.«01_k».proof.Proof.Gen.KernelIdeal.Launch

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

section Task

variable (d : Dev nD) (i : grid0.Coords) (A : Parts)
variable (q : PosShare TreeShare) (ft : Buf (Elt F) (A.tb.view.loc (thr d i))) (fi : Buf (Elt F) (A.ix.view.loc (thr d i)))
variable (O : CellTallies nD τ sig (HIx 2)) (W : Waits sig (HIx 2))

/-- A subcore's task: its program, from its own buffers and semaphores and what it is handed, back to them and what it hands back. -/
theorem task (hscr : ∃ R : sProp 𝕄, iprop(scopedBufs (thr d i) ∗ scopedSems0 (thr d i)) ⊣⊢ iprop(Scr d i A ∗ R))
    (ht2 : A.tb.IsWhole) (ht3 : A.ix.IsWhole) (ht4 : A.ob.IsWhole) (ht5 : A.si.IsWhole) (ht6 : A.so.IsWhole)
    (hfi : ∀ t x, ((blkI i A t).view.read (Elt F) fi x).toNat < 32768) (G : Buf (Elt F) (A.ob.view.loc (thr d i)))
    (hG : ∀ t, (blkO i A t).view.read (Elt F) G = pay d i A ft fi t) (hO : ∀ g, O g none = 0) (n : Fin 2) :
    iprop(levAts (K (F := F)).L (K (F := F)).lev ∗ emp ∗ Go d i A q ft fi ∗ scopedBufs (thr d i) ∗ scopedSems0 (thr d i) ∗ owes (thr d i) O W)
      ⊢ wp frame (wpE (defs₀ (F := F)) 𝒱₀ (thr d i) none) Set.univ
          (cc0_gk i A.tb ht2 A.ix ht3 A.ob ht4 A.si ht5 A.s5 A.so ht6 A.s6 A.sg)
          fun _ => iprop(Td d i A q ft fi G ∗ scopedBufs (thr d i) ∗ scopedSems0 (thr d i)
            ∗ ∃ W', ⌜∀ p ∈ W', p ∈ W ∨ p.2 = none ∨ p.2 = some n⌝ ∗ owes (thr d i) O W') := by
  obtain ⟨R, hR⟩ := hscr
  iintro ⟨#Hlv, -, HGo, HB, HS, HO⟩
  ihave Hmw := (show levAts (K (F := F)).L (K (F := F)).lev ⊢ Transfers.MayWaits (thr d i) (default : HIx 2) O from
    (K (F := F)).mayWaits_none (thr := thr d i) hO) $$ Hlv
  ihave HS := hR.1 $$ [HB HS]
  · isplitl [HB] <;> iassumption
  icases HS with ⟨HS, HR⟩
  ihave Hwp := (tile d i A q ft fi O W ht2 ht3 ht4 ht5 ht6 hfi G hG) $$ [Hmw HGo HS HO]
  · isplitl [Hmw]; · iexact Hmw
    isplitl [HGo]; · iexact HGo
    isplitl [HS]; · iexact HS
    unfold OW
    iexists W
    isplitr
    · ipureintro; exact fun p hp => .inl hp
    · iexact HO
  iapply (wp_wand_r frame (wpE (defs₀ (F := F)) 𝒱₀ (thr d i) none) Set.univ)
  isplitl [Hwp]; · iexact Hwp
  iintro %_ ⟨HTd, HS, HW⟩
  ihave HS := hR.2 $$ [HS HR]
  · isplitl [HS] <;> iassumption
  icases HS with ⟨HB, HS⟩
  unfold OW
  icases HW with ⟨%W', %hW', HO⟩
  isplitl [HTd]; · iexact HTd
  isplitl [HB]; · iexact HB
  isplitl [HS]; · iexact HS
  iexists W'
  isplitr
  · ipureintro; exact fun p hp => (hW' p hp).imp_right Or.inl
  · iexact HO

end Task

/-! ## The handshakes' payloads -/

/-- The two tables and the row numbers, on every device. -/
structure Data (F : FTy → Type) where
  /-- the first gather's table -/
  t0 : Dev nD → S32768x128.Idx → Elt F .f32
  /-- the second gather's table -/
  t1 : Dev nD → S32768x128.Idx → Elt F .f32
  /-- the row numbers of both -/
  x : Dev nD → S1x32768.Idx → Elt F .i32

variable (M : Data F)

/-- What the first gather hands subcore `(c, s)`, -/
def go0 (d : Dev nD) (c : Fin 2) (s : Fin 16) : sProp 𝕄 := Go d (crd c s) A0 (shr c s) (M.t0 d) (M.x d)
/-- and gets back; -/
def td0 (d : Dev nD) (c : Fin 2) (s : Fin 16) : sProp 𝕄 := Td d (crd c s) A0 (shr c s) (M.t0 d) (M.x d) (gath (M.t0 d) (M.x d))
/-- the second's, -/
def go1 (d : Dev nD) (c : Fin 2) (s : Fin 16) : sProp 𝕄 := Go d (crd c s) A1 (shr c s) (M.t1 d) (M.x d)
/-- and back. -/
def td1 (d : Dev nD) (c : Fin 2) (s : Fin 16) : sProp 𝕄 := Td d (crd c s) A1 (shr c s) (M.t1 d) (M.x d) (gath (M.t1 d) (M.x d))

instance storable_Go {d : Dev nD} {i : grid0.Coords} {A : Parts} {q : PosShare TreeShare} {ft : Buf (Elt F) (A.tb.view.loc (thr d i))}
    {fi : Buf (Elt F) (A.ix.view.loc (thr d i))} : BI.Storable (upEmb : UEmb _ 𝕄) (Go d i A q ft fi) := by
  unfold Go HI HT HO; infer_instance
instance storable_Td {d : Dev nD} {i : grid0.Coords} {A : Parts} {q : PosShare TreeShare} {ft : Buf (Elt F) (A.tb.view.loc (thr d i))}
    {fi : Buf (Elt F) (A.ix.view.loc (thr d i))} {G : Buf (Elt F) (A.ob.view.loc (thr d i))} :
    BI.Storable (upEmb : UEmb _ 𝕄) (Td d i A q ft fi G) := by
  unfold Td HI HT HO; infer_instance
instance storable_go0 {d : Dev nD} {c : Fin 2} {s : Fin 16} : BI.Storable (upEmb : UEmb _ 𝕄) (go0 M d c s) := by unfold go0; infer_instance
instance storable_td0 {d : Dev nD} {c : Fin 2} {s : Fin 16} : BI.Storable (upEmb : UEmb _ 𝕄) (td0 M d c s) := by unfold td0; infer_instance
instance storable_go1 {d : Dev nD} {c : Fin 2} {s : Fin 16} : BI.Storable (upEmb : UEmb _ 𝕄) (go1 M d c s) := by unfold go1; infer_instance
instance storable_td1 {d : Dev nD} {c : Fin 2} {s : Fin 16} : BI.Storable (upEmb : UEmb _ 𝕄) (td1 M d c s) := by unfold td1; infer_instance

/-- What the handshakes of the two launches carry: down, each subcore's part; up, the same with its windows gathered. -/
def P : (K (F := F)).Pay (nD := nD) (Val := Elt F) (Name := ℕ) (U := UU) where
  st := fun q d => match q with
    | 0 => fun c => bigSep Finset.univ fun s : Fin 16 => go0 M d c s
    | 1 => fun c => bigSep Finset.univ fun s : Fin 16 => go1 M d c s
  dn := fun q d => match q with
    | 0 => fun c => bigSep Finset.univ fun s : Fin 16 => td0 M d c s
    | 1 => fun c => bigSep Finset.univ fun s : Fin 16 => td1 M d c s
  go := fun q d => match q with
    | 0 => fun c s => go0 M d c s
    | 1 => fun c s => go1 M d c s
  td := fun q d => match q with
    | 0 => fun c s => td0 M d c s
    | 1 => fun c s => td1 M d c s
  x := fun _ _ => iprop(emp)

instance P_storable : (P (F := F) M).IsStorable where
  st q d c := match q with
    | 0 => (inferInstance : BI.Storable (upEmb : UEmb _ 𝕄) (bigSep Finset.univ fun s : Fin 16 => go0 M d c s))
    | 1 => (inferInstance : BI.Storable (upEmb : UEmb _ 𝕄) (bigSep Finset.univ fun s : Fin 16 => go1 M d c s))
  dn q d c := match q with
    | 0 => (inferInstance : BI.Storable (upEmb : UEmb _ 𝕄) (bigSep Finset.univ fun s : Fin 16 => td0 M d c s))
    | 1 => (inferInstance : BI.Storable (upEmb : UEmb _ 𝕄) (bigSep Finset.univ fun s : Fin 16 => td1 M d c s))
  go q d c s := match q with
    | 0 => (inferInstance : BI.Storable (upEmb : UEmb _ 𝕄) (go0 M d c s))
    | 1 => (inferInstance : BI.Storable (upEmb : UEmb _ 𝕄) (go1 M d c s))
  td q d c s := match q with
    | 0 => (inferInstance : BI.Storable (upEmb : UEmb _ 𝕄) (td0 M d c s))
    | 1 => (inferInstance : BI.Storable (upEmb : UEmb _ 𝕄) (td1 M d c s))

/-- The row numbers name rows of the tables. -/
def Data.InRange : Prop := ∀ d j, (M.x d j).toNat < 32768

/-! ## The obligations -/

theorem defs₀_0 (c : Fin τ.nSC) (s : Fin τ.nSub) :
    defs₀ (F := F) (.scVector c s) 0 ()
      = SparseCore.onTile hcore0 hsub0 (fun c s => cc0_gk (crd c s) A0.tb (Memref.isWhole_whole _) A0.ix (Memref.isWhole_whole _)
          A0.ob (Memref.isWhole_whole _) A0.si (Memref.isWhole_whole _) A0.s5 A0.so (Memref.isWhole_whole _) A0.s6 A0.sg) ⟨⟩ c s := rfl

theorem defs₀_1 (c : Fin τ.nSC) (s : Fin τ.nSub) :
    defs₀ (F := F) (.scVector c s) 1 ()
      = SparseCore.onTile hcore1 hsub1 (fun c s => cc1_gk (crd c s) A1.tb (Memref.isWhole_whole _) A1.ix (Memref.isWhole_whole _)
          A1.ob (Memref.isWhole_whole _) A1.si (Memref.isWhole_whole _) A1.s5 A1.so (Memref.isWhole_whole _) A1.s6 A1.sg) ⟨⟩ c s := rfl

theorem blkI_range (d : Dev nD) (i : grid0.Coords) {A : Parts} {fi : Buf (Elt F) (A.ix.view.loc (thr d i))} {x : S1x32768.Idx → Elt F .i32}
    (hx : A.ix.view.read (Elt F) fi = x) (h : ∀ j, (x j).toNat < 32768) (t : ℕ) (k : S1x128.Idx) :
    ((blkI i A t).view.read (Elt F) fi k).toNat < 32768 := by
  have e : (blkI i A t).view.read (Elt F) fi k = x ((Rect.unit (s := S1x32768) ![0, row0 i t] S1x128.size (blkI_inb i t)).emb k) := congrFun hx _
  rw [e]; exact h _

/-- The first gather's subcores do their tasks. -/
theorem tileObl0 (hr : M.InRange) : (K (F := F)).TileObl (D (F := F)) 𝒱 (P M) v₀ 0 := by
  intro d c i O W hO _ _
  simp only [show (P M).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_0]; simp only [SparseCore.onTile, hci, and_self, ↓reduceDIte]
  exact task d (crd ⟨_, hci.1⟩ ⟨_, hci.2⟩) A0 (shr c i) (M.t0 d) (M.x d) O W (own_scr0 d _ facts) (Memref.isWhole_whole _) (Memref.isWhole_whole _)
    (Memref.isWhole_whole _) (Memref.isWhole_whole _) (Memref.isWhole_whole _) (blkI_range d _ rfl (hr d)) (gath (M.t0 d) (M.x d))
    (gath_read d _ A0 (M.t0 d) (M.x d) (gath (M.t0 d) (M.x d)) (M.t0 d) (M.x d) rfl rfl rfl) hO 0

/-- The second gather's subcores do theirs. -/
theorem tileObl1 (hr : M.InRange) : (K (F := F)).TileObl (D (F := F)) 𝒱 (P M) v₀ 1 := by
  intro d c i O W hO _ _
  simp only [show (P M).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_1]; simp only [SparseCore.onTile, hci, and_self, ↓reduceDIte]
  rw [cc1_gk_eq]
  exact task d (crd ⟨_, hci.1⟩ ⟨_, hci.2⟩) A1 (shr c i) (M.t1 d) (M.x d) O W (own_scr1 d _ facts) (Memref.isWhole_whole _) (Memref.isWhole_whole _)
    (Memref.isWhole_whole _) (Memref.isWhole_whole _) (Memref.isWhole_whole _) (blkI_range d _ rfl (hr d)) (gath (M.t1 d) (M.x d))
    (gath_read d _ A1 (M.t1 d) (M.x d) (gath (M.t1 d) (M.x d)) (M.t1 d) (M.x d) rfl rfl rfl) hO 1

/-- A sequencer hands its sixteen subcores what it was handed, -/
theorem vecSplit0 : (K (F := F)).VecSplit' (P M) 0 := by
  intro d c
  show (bigSep Finset.univ fun s : Fin 16 => go0 M d c s) ⊢ |={Set.univ}=> iprop((bigSep Finset.univ fun s : Fin 16 => go0 M d c s)
    ∗ ((bigSep Finset.univ fun s : Fin 16 => td0 M d c s) -∗ bigSep Finset.univ fun s : Fin 16 => td0 M d c s))
  iintro H; imodintro
  isplitl [H]; · iexact H
  iintro H; iexact H

/-- in the second launch too. -/
theorem vecSplit1 : (K (F := F)).VecSplit' (P M) 1 := by
  intro d c
  show (bigSep Finset.univ fun s : Fin 16 => go1 M d c s) ⊢ |={Set.univ}=> iprop((bigSep Finset.univ fun s : Fin 16 => go1 M d c s)
    ∗ ((bigSep Finset.univ fun s : Fin 16 => td1 M d c s) -∗ bigSep Finset.univ fun s : Fin 16 => td1 M d c s))
  iintro H; imodintro
  isplitl [H]; · iexact H
  iintro H; iexact H

/-! ## The resources at the start -/

/-- The handshakes' and the pipelines' rounds at the start. -/
def u₀ : UU := (initOf (K (F := F)).hsCells (K (F := F)).hsToks,
  (initOf (Pipeline.cells cfgs cellOf_inj) (Pipeline.launchToks cfgs cellOf_inj), 1))

/-- What the four pipelines of one device start from. -/
def Gh (d : Dev nD) : sProp 𝕄 :=
  iprop((bigSep Finset.univ fun p : Fin 4 => Pipeline.cellsGhost cfgs EP p d) ∗ bigSep Finset.univ fun p : Fin 4 => Pipeline.toksInit cfgs EP p d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => Gh d)
        ∗ bigSep Finset.univ fun thr : Thread nD τ => bigSep Finset.univ fun q : Fin 2 => (P M).x q thr) := by
  unfold u₀
  iintro Hu
  ihave H := (ownU_pair (initOf (K (F := F)).hsCells (K (F := F)).hsToks)
    ((initOf (Pipeline.cells cfgs cellOf_inj) (Pipeline.launchToks cfgs cellOf_inj), 1) : UP × Counters)) $$ Hu
  icases H with ⟨HH, HR⟩
  ihave HR := (own_pair_emb (embR : Emb (UP × Counters) 𝕄) (initOf (Pipeline.cells cfgs cellOf_inj) (Pipeline.launchToks cfgs cellOf_inj)) 1) $$ HR
  icases HR with ⟨HP, -⟩
  have hf : BI.own (((Emb.inl : Emb UP (UP × Counters)).trans (embR : Emb (UP × Counters) 𝕄)) (initOf (Pipeline.cells cfgs cellOf_inj) (Pipeline.launchToks cfgs cellOf_inj)))
      ⊢ |==> iprop((bigSep Finset.univ fun c : Dev nD => bigSep Finset.univ fun p : Fin 4 => Pipeline.cellsGhost cfgs (EP (F := F)) p c)
          ∗ bigSep Finset.univ fun c : Dev nD => bigSep Finset.univ fun p : Fin 4 => Pipeline.toksInit cfgs (EP (F := F)) p c) :=
    Pipeline.fund_ghost cfgs (EP (F := F)) cellOf_inj
  imod hf $$ HP with HP
  icases HP with ⟨HP, HT⟩
  imodintro
  isplitl [HH]; · iexact HH
  isplitl [HP HT]
  · unfold Gh
    rw [bigSep_sep']
    isplitl [HP]
    · iexact HP
    · iexact HT
  rw [show (bigSep Finset.univ fun thr : Thread nD τ => bigSep Finset.univ fun q : Fin 2 => (P (F := F) M).x q thr) = bigSep Finset.univ fun _ => iprop(emp) from
    bigSep_congr fun _ _ => bigSep_emp' _, bigSep_emp']
  iempintro

/-! ## A gather, seen from the host -/

omit [FloatOps F] in
/-- Three families along the grid at once. -/
theorem grid3 (Φ Ψ Χ : Fin 2 → Fin 16 → sProp 𝕄) :
    (bigSep Finset.univ fun c => bigSep Finset.univ fun s => iprop(Φ c s ∗ Ψ c s ∗ Χ c s))
      = iprop((bigSep Finset.univ fun c => bigSep Finset.univ fun s => Φ c s) ∗ (bigSep Finset.univ fun c => bigSep Finset.univ fun s => Ψ c s)
          ∗ bigSep Finset.univ fun c => bigSep Finset.univ fun s => Χ c s) := by
  rw [← bigSep_sep', ← bigSep_sep']
  refine bigSep_congr fun c _ => ?_
  rw [← bigSep_sep', ← bigSep_sep']

omit [FloatOps F] in
/-- A family along grid and windows, piece by piece. -/
theorem grid_mono (Φ Ψ : Fin 2 → Fin 16 → ℕ → sProp 𝕄) (h : ∀ c s t, Φ c s t ⊢ Ψ c s t) :
    (bigSep Finset.univ fun c => bigSep Finset.univ fun s => bigSep (Finset.range 8) fun t => Φ c s t)
      ⊢ bigSep Finset.univ fun c => bigSep Finset.univ fun s => bigSep (Finset.range 8) fun t => Ψ c s t :=
  bigSep_mono fun c _ => bigSep_mono fun s _ => bigSep_mono fun t _ => h c s t

/-- What the first launch takes: its table, the row numbers and its output, whole; -/
theorem start0 (d : Dev nD) (f : S32768x128.Idx → Elt F .f32) :
    iprop(((SparseCore.T d : Thread nD τ).loc main_v0 ↦{fullShare} M.x d) ∗ ((SparseCore.T d : Thread nD τ).loc main_v3 ↦{fullShare} M.t0 d)
        ∗ (SparseCore.T d : Thread nD τ).loc main_v6 ↦{fullShare} f)
      ⊢ (bigSep Finset.univ fun c : Fin ((K (F := F)).nCore 0) => (P M).st 0 d c : sProp 𝕄) := by
  show _ ⊢ bigSep Finset.univ fun c : Fin 2 => bigSep Finset.univ fun s : Fin 16 => go0 M d c s
  unfold go0 Go
  rw [grid3, cut_ids, cut_tab0, cut_out0]
  iintro ⟨Hi, Ht, Ho⟩
  isplitl [Hi]; · iexact Hi
  isplitl [Ht]; · iexact Ht
  iapply (grid_mono (fun c s t => HO d (crd c s) A0 t f)
    (fun c s t => iprop(∃ f : S32768x128.Idx → Elt F .f32, HO d (crd c s) A0 t f)) fun c s t => by iintro H; iexists f; iexact H)
  iexact Ho

/-- and what it gives back: the same, its output the gathered rows. -/
theorem end0 (d : Dev nD) :
    (bigSep Finset.univ fun c : Fin ((K (F := F)).nCore 0) => (P M).dn 0 d c : sProp 𝕄)
      = iprop(((SparseCore.T d : Thread nD τ).loc main_v0 ↦{fullShare} M.x d) ∗ ((SparseCore.T d : Thread nD τ).loc main_v3 ↦{fullShare} M.t0 d)
        ∗ (SparseCore.T d : Thread nD τ).loc main_v6 ↦{fullShare} gath (M.t0 d) (M.x d)) := by
  show (bigSep Finset.univ fun c : Fin 2 => bigSep Finset.univ fun s : Fin 16 => td0 M d c s) = _
  unfold td0 Td
  rw [grid3, cut_ids, cut_tab0, cut_out0]

/-- What the second launch takes: its table, the row numbers and its output, whole; -/
theorem start1 (d : Dev nD) (f : S32768x128.Idx → Elt F .f32) :
    iprop(((SparseCore.T d : Thread nD τ).loc main_v0 ↦{fullShare} M.x d) ∗ ((SparseCore.T d : Thread nD τ).loc main_v5 ↦{fullShare} M.t1 d)
        ∗ (SparseCore.T d : Thread nD τ).loc main_v7 ↦{fullShare} f)
      ⊢ (bigSep Finset.univ fun c : Fin ((K (F := F)).nCore 1) => (P M).st 1 d c : sProp 𝕄) := by
  show _ ⊢ bigSep Finset.univ fun c : Fin 2 => bigSep Finset.univ fun s : Fin 16 => go1 M d c s
  unfold go1 Go
  rw [grid3, cut_ids, cut_tab1, cut_out1]
  iintro ⟨Hi, Ht, Ho⟩
  isplitl [Hi]; · iexact Hi
  isplitl [Ht]; · iexact Ht
  iapply (grid_mono (fun c s t => HO d (crd c s) A1 t f)
    (fun c s t => iprop(∃ f : S32768x128.Idx → Elt F .f32, HO d (crd c s) A1 t f)) fun c s t => by iintro H; iexists f; iexact H)
  iexact Ho

/-- and what it gives back: the same, its output the gathered rows. -/
theorem end1 (d : Dev nD) :
    (bigSep Finset.univ fun c : Fin ((K (F := F)).nCore 1) => (P M).dn 1 d c : sProp 𝕄)
      = iprop(((SparseCore.T d : Thread nD τ).loc main_v0 ↦{fullShare} M.x d) ∗ ((SparseCore.T d : Thread nD τ).loc main_v5 ↦{fullShare} M.t1 d)
        ∗ (SparseCore.T d : Thread nD τ).loc main_v7 ↦{fullShare} gath (M.t1 d) (M.x d)) := by
  show (bigSep Finset.univ fun c : Fin 2 => bigSep Finset.univ fun s : Fin 16 => td1 M d c s) = _
  unfold td1 Td
  rw [grid3, cut_ids, cut_tab1, cut_out1]
  rfl

end Cert.Proof
-- ==== Proof.Calls.lean ====
/-
  The four pipelined kernels as the host enters them: each from every array held at some contents, to every array held
  at what the kernel leaves.
-/
module

public import proofs.«01_k».proof.Proof.Dats
public import proofs.«01_k».proof.Proof.Launch
public import Idealize.ShloMosaic.Lib.Pipeline.Regions
public import Idealize.ShloMosaic.Lib.Pipeline.RegionArrays
public import Idealize.ShloMosaic.Lib.Pipeline.RegionArraysS
public import Idealize.ShloMosaic.Lib.Pipeline.FrameTail

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat)
open Idealize.ShloMosaic.StableHlo (held)

variable {F : FTy → Type} [FloatOps F]

local notation "𝕄" => MT nD τ sig (HIx 2) (Elt F) ℕ UU ℕ

/-- No pipeline reads a table first. -/
abbrev adm (p : Fin 4) : (pcfgs (F := F) p).Adm := (cfgs p).toPCfg_adm

/-- The bound on what the host has waited for, once both gathers are done. -/
abbrev owes0 (d : Dev nD) : sProp 𝕄 :=
  iprop(∃ W, ⌜(K (F := F)).WBelow (SparseCore.T d : Thread nD τ) W (8 * 2)⌝ ∗ owes (SparseCore.T d : Thread nD τ) (0 : CellTallies nD τ sig (HIx 2)) W)

variable (V : Dev nD → Valuation τ sig (Elt F))

/-- The four kernels' values, entered from `V`. -/
def pds : (p : Fin 4) → (c : Dev nD) → Dat τ (Elt F) (HIx 2) ℕ UU ℕ (cfgs p) c
  | ⟨0, _⟩ => dat2 V
  | ⟨1, _⟩ => dat3 V
  | ⟨2, _⟩ => dat4 V
  | ⟨3, _⟩ => dat5 V

/-- What is asked of a kernel's values for the region to run from `V`. -/
structure Fits (p : Fin 4) : Prop where
  kit : Pipeline.LaunchFacts (nD := nD) (τ := τ) cfgs p
  enters : ∀ c w, (pds V p c).A w = V c (dr (Pipeline.arrRef (cfgs p).spec w))
  inv : ∀ c t, (pds V p c).Φ t = Pipeline.scopedRest (cfgs p).spec c
  whole : ∀ c w, (pds V p c).q w = fullShare
  none : ∀ c t, (pds V p c).owed t = 0
  recd : ∀ c t, (pds V p c).recorded t = below (F := F) c
  obl : ∀ c, Pipeline.BodyObligation (pds V p c) (defs₀ (F := F)) Variants.none (Option.none : HIx 2) Set.univ

theorem fits0 : Fits V 0 := ⟨launch2, fun c w => A2 V c w, fun _ _ => rfl, fun _ _ => rfl, fun _ _ => rfl, fun _ _ => rfl, fun c => obl2 V c⟩
theorem fits1 : Fits V 1 := ⟨launch3, fun c w => A3 V c w, fun _ _ => rfl, fun _ _ => rfl, fun _ _ => rfl, fun _ _ => rfl, fun c => obl3 V c⟩
theorem fits2 : Fits V 2 := ⟨launch4, fun c w => A4 V c w, fun _ _ => rfl, fun _ _ => rfl, fun _ _ => rfl, fun _ _ => rfl, fun c => obl4 V c⟩
theorem fits3 : Fits V 3 := ⟨launch5, fun c w => A5 V c w, fun _ _ => rfl, fun _ _ => rfl, fun _ _ => rfl, fun _ _ => rfl, fun c => obl5 V c⟩

/-- The arrays after kernel `p`, entered from `V`. -/
def left (p : Fin 4) (c : Dev nD) : Valuation τ sig (Elt F) := Pipeline.afterRegion (pds V p c) (V c)

theorem left_arr {p : Fin 4} (h : Fits V p) (c : Dev nD) (w : Fin (cfgs p).W) :
    left V p c (dr (Pipeline.arrRef (cfgs p).spec w)) = (pds V p c).arrAt w (cfgs p).N :=
  Pipeline.afterRegion_arr _ _ h.kit.win.arr_inj w

theorem left_keeps {p : Fin 4} (h : Fits V p) (c : Dev nD) (r : Ref sig .tc)
    (hr : ∀ w, Pipeline.arrRef (cfgs p).spec w = r → ((cfgs p).win w).isOut = false) : left V p c (dr r) = V c (dr r) :=
  Pipeline.afterRegion_keeps _ _ h.kit.win.arr_inj (h.enters c) r hr

set_option backward.isDefEq.respectTransparency.types false in
/-- Kernel `p`'s region, from `V` to `left V p`. -/
def reg (p : Fin 4) (h : Fits V p) : Pipeline.RegionSeg (pcfgs (F := F)) adm (pds V) (Option.none : HIx 2) defs₀ Variants.none (K (F := F)).L (K (F := F)).lev p where
  win := h.kit.win.to₀
  block_pos := h.kit.block_pos
  stage_whole := h.kit.stage_whole
  K := PEmpty
  osem k := k.elim
  ho := Pipeline.OwnSemFacts.none _
  hbody c := (h.obl c).loose
  hwaits := Pipeline.hwaits_of_owed_zero _ _ _ _ _ _ p fun c t => h.none c t
  pre c := iprop(held (c.tc : Thread nD τ) (Pipeline.ucRefs τ sig) (V c) ∗ owes0 c)
  post c := iprop(held (c.tc : Thread nD τ) (Pipeline.ucRefs τ sig) (left V p c) ∗ owes0 c)
  X _ := BI.emp
  Y _ := BI.emp
  Z c := held (c.tc : Thread nD τ) (Pipeline.ucRefs τ sig \ Pipeline.arrRefs (cfgs p).spec) (V c)
  hentry c := by
    have ha := Pipeline.arrays_held (pcfgs (F := F)) adm (pds V) p h.kit.toP c ((pds V p c).share_full (h.whole c))
      (fun w => (pds V p c).arrAt w 0) (V c) (fun w => h.enters c w)
    have hs := StableHlo.held_sub_split (Ix := HIx 2) (Name := ℕ) (U := UU) (Lvl := ℕ) (c.tc : Thread nD τ)
      (Pipeline.arrRefs_sub_ucRefs (τ := τ) (cfgs p).spec h.kit.win.arr_unscoped) (V c)
    rw [Pipeline.ownSems0_none, hs]
    iintro ⟨⟨⟨Ha, Hrest⟩, HO⟩, -, -⟩
    imodintro
    isplitl [Ha]; · rw [ha]; iexact Ha
    isplitr; · rw [Pipeline.prefHeld_of_none _ rfl]; iempintro
    isplitl [HO]
    · unfold Pipeline.Dat.owesAt Pipeline.owesWithin
      rw [h.none c]
      icases HO with ⟨%W, %hW, HO⟩; iexists W; isplitr; swap; (· iexact HO)
      ipureintro; exact fun x hx => Or.inl (by rw [h.recd c]; exact hW x hx)
    isplitr; · iempintro
    iexact Hrest
  hin c := by
    rw [h.inv c]
    iintro ⟨-, -, Hr⟩; iexact Hr
  hout c := by
    rw [Pipeline.ownSems0_none, h.inv c]
    iintro Hr
    isplitr; · iempintro
    isplitr; · iempintro
    iexact Hr
  hexit c := by
    have ha := Pipeline.arrays_held (pcfgs (F := F)) adm (pds V) p h.kit.toP c ((pds V p c).share_full (h.whole c))
      (fun w => (pds V p c).arrAt w (cfgs p).N) (left V p c) (fun w => (left_arr V h c w).symm)
    have hs := StableHlo.held_sub_split (Ix := HIx 2) (Name := ℕ) (U := UU) (Lvl := ℕ) (c.tc : Thread nD τ)
      (Pipeline.arrRefs_sub_ucRefs (τ := τ) (cfgs p).spec h.kit.win.arr_unscoped) (left V p c)
    have hz : (held (c.tc : Thread nD τ) (Pipeline.ucRefs τ sig \ Pipeline.arrRefs (cfgs p).spec) (V c) : sProp 𝕄)
        = held (c.tc : Thread nD τ) (Pipeline.ucRefs τ sig \ Pipeline.arrRefs (cfgs p).spec) (left V p c) :=
      StableHlo.held_congr _ fun b hb => (Pipeline.afterRegion_off (pds V p c) (V c) _ b hb).symm
    rw [hs, hz]
    iintro ⟨Ha, HO, -, Hrest⟩
    imodintro
    isplitl [Ha Hrest]
    · isplitl [Ha]; · rw [← ha]; iexact Ha
      iexact Hrest
    unfold Pipeline.Dat.owesAt Pipeline.owesWithin
    rw [h.none c]
    icases HO with ⟨%W, %hW, HO⟩; iexists W; isplitr; swap; (· iexact HO)
    ipureintro
    intro x hx
    rcases hW hx with h1 | h1
    · rw [h.recd c] at h1; exact h1
    · obtain ⟨_, _, rfl⟩ := h1
      exact Nat.zero_le _

theorem reg_pre (p : Fin 4) (h : Fits V p) (d : Dev nD) :
    (reg V p h).pre d = iprop(held (SparseCore.T d : Thread nD τ) (Pipeline.ucRefs τ sig) (V d) ∗ owes0 d) := rfl
theorem reg_post (p : Fin 4) (h : Fits V p) (d : Dev nD) :
    (reg V p h).post d = iprop(held (SparseCore.T d : Thread nD τ) (Pipeline.ucRefs τ sig) (left V p d) ∗ owes0 d) := rfl
theorem ghost_pin (p : Fin 4) (d : Dev nD) :
    (Pipeline.cellsGhost (Pipeline.pin (pcfgs (F := F)) adm) (EP (F := F)) p d : sProp 𝕄) = Pipeline.cellsGhost cfgs (EP (F := F)) p d := rfl
theorem toks_pin (p : Fin 4) (d : Dev nD) :
    (Pipeline.toksInit (Pipeline.pin (pcfgs (F := F)) adm) (EP (F := F)) p d : sProp 𝕄) = Pipeline.toksInit cfgs (EP (F := F)) p d := rfl

/-- What the host holds, regrouped as a region takes it. -/
theorem regroup {C B S H G G' L O H' Φ R : sProp 𝕄} (hc : C ⊢ L) (ht : S ⊢ iprop(O ∗ (O -∗ S))) (hR : Φ ⊢ R) :
    iprop(C ∗ B ∗ S ∗ H ∗ G ∗ G' ∗ ((B ∗ S ∗ H') -∗ Φ)) ⊢ iprop(((B ∗ H' ∗ O) -∗ R) ∗ B ∗ (H ∗ O) ∗ L ∗ G ∗ G') := by
  iintro ⟨HC, HB, HS, HH, HG, HG', Hk⟩
  ihave HS := ht $$ HS
  icases HS with ⟨HO, HS⟩
  ihave HL := hc $$ HC
  isplitl [Hk HS]
  · iintro ⟨HB, HH, HO⟩
    iapply hR
    iapply Hk
    isplitl [HB]; · iexact HB
    isplitl [HS HO]; · iapply HS; iexact HO
    iexact HH
  isplitl [HB]; · iexact HB
  isplitl [HH HO]
  · isplitl [HH]; · iexact HH
    iexact HO
  isplitl [HL]; · iexact HL
  isplitl [HG]; · iexact HG
  iexact HG'

/-- One kernel, entered by the host after both gathers. -/
theorem step (p : Fin 4) (h : Fits V p) (κ : GSem nD τ sig → ℕ) (M : Data F) (d : Dev nD) (Φ : PUnit.{1} → sProp 𝕄) :
    iprop((K (F := F)).ctx EH (P M) κ ∗ boundary (SparseCore.T d : Thread nD τ) ∗ (K (F := F)).tcSt EH d 2
        ∗ held (SparseCore.T d : Thread nD τ) (Pipeline.ucRefs τ sig) (V d)
        ∗ Pipeline.cellsGhost cfgs (EP (F := F)) p d ∗ Pipeline.toksInit cfgs (EP (F := F)) p d
        ∗ ((boundary (SparseCore.T d : Thread nD τ) ∗ (K (F := F)).tcSt EH d 2 ∗ held (SparseCore.T d : Thread nD τ) (Pipeline.ucRefs τ sig) (left V p d)) -∗ Φ PUnit.unit))
      ⊢ wp frame (wpE ((K (F := F)).defs (D (F := F))) 𝒱 (SparseCore.T d) none) Set.univ
          (Prog.lift (.customCall (SparseCore.inner (Pipeline.entry p)) ())) Φ := by
  have hw := Pipeline.RegionSeg.wp (pcfgs (F := F)) adm (pds V) (Option.none : HIx 2) cellOf_inj (EP (F := F)) defs₀ Variants.none (K (F := F)).L (K (F := F)).lev (reg V p h) d
    none (fun u h => nomatch h) (fun _ => Prog.ret PUnit.unit) Φ
  rw [reg_pre, reg_post] at hw
  rw [ghost_pin, toks_pin] at hw
  have hl := (K (F := F)).wp_liftProg (D (F := F)) 𝒱 (SparseCore.T d) Set.univ none (Prog.lift (.customCall (Pipeline.entry p) ())) Φ
  have hc : ((K (F := F)).ctx EH (P M) κ : sProp 𝕄) ⊢ levAts (K (F := F)).L (K (F := F)).lev := by
    unfold SparseCore.Cfg.ctx
    iintro ⟨#Hlev, -⟩; iexact Hlev
  have ht : ((K (F := F)).tcSt EH d 2 : sProp 𝕄) ⊢ iprop(owes0 d ∗ (owes0 d -∗ (K (F := F)).tcSt EH d 2)) := by
    unfold SparseCore.Cfg.tcSt
    rw [(K (F := F)).Otc_end d (le_refl 2)]
    iintro ⟨HO, Hrest⟩
    isplitl [HO]; · iexact HO
    iintro HO
    isplitl [HO]; · iexact HO
    iexact Hrest
  refine BI.Entails.trans ?_ (hw.trans hl)
  exact regroup hc ht (by rw [wp_ret]; exact fupd_intro)

end Cert.Proof

end
-- ==== Proof.Host.lean ====
/-
  The host's operations between the kernels, as lists, and the host's program as those lists and the kernels in turn.
-/
module

public import proofs.«01_k».proof.Proof.Base
public import Idealize.ShloMosaic.Lib.StableHlo.Run
public import Idealize.ShloMosaic.Lib.Pipeline.Frame

@[expose] public section

noncomputable section

namespace Cert.Proof

open Cert.KernelIdeal Cert.KernelIdeal.Gen

open Idealize.ShloMosaic
open Idealize.ShloMosaic.TcCoe
open Idealize.SL Idealize.SL.RA Idealize.SL.BI
open Idealize.SL.Sem
open Idealize.ShloMosaic.StableHlo (after seq)

variable {F : FTy → Type} [FloatOps F]

/-- The row numbers flattened and the two tables. -/
abbrev o0 : List (HloOp τ sig (Elt F)) :=
  [ StableHlo.reshape main_arg0 main_v0 (rfl : (.i32 : EltTy) = .i32) shapeCasts_S4x1024x8_S1x32768,
    StableHlo.unary main_arg1 main_v1 ((transpose S4x8192x3 [0, 2, 1] · transposes_S4x3x8192_S4x8192x3_0_2_1) : (⟨S4x3x8192, .f32⟩ : BufTy).Contents (Elt F) → (⟨S4x8192x3, .f32⟩ : BufTy).Contents (Elt F)),
    StableHlo.nullary main_c (constantI S_ 32 0#32),
    StableHlo.TRef.unary (.of main_c : StableHlo.TRef sig ⟨S_, .i32⟩) main_call0.v0 (sitofp .f32),
    StableHlo.TRef.binary (.of main_v1 : StableHlo.TRef sig ⟨S4x8192x3, .f32⟩) main_call0.v0 main_call0.v1 (fun x v => pad S4x8192x128 ![0, 0, 0] ![0, 0, 125] ![0, 0, 0] x v pads_S4x8192x3_S4x8192x128_000_000_01250 h_S_),
    StableHlo.reshape main_v2 main_v3 (rfl : (.f32 : EltTy) = .f32) shapeCasts_S4x8192x128_S32768x128,
    StableHlo.unary main_arg2 main_v4 ((transpose S4x8192x128 [0, 2, 1] · transposes_S4x128x8192_S4x8192x128_0_2_1) : (⟨S4x128x8192, .f32⟩ : BufTy).Contents (Elt F) → (⟨S4x8192x128, .f32⟩ : BufTy).Contents (Elt F)),
    StableHlo.reshape main_v4 main_v5 (rfl : (.f32 : EltTy) = .f32) shapeCasts_S4x8192x128_S32768x128 ]

/-- The gathered rows by query, and the query points padded. -/
abbrev o1 : List (HloOp τ sig (Elt F)) :=
  [ StableHlo.reshape main_v6 main_v8 (rfl : (.f32 : EltTy) = .f32) shapeCasts_S32768x128_S4096x8x128,
    StableHlo.reshape main_v7 main_v9 (rfl : (.f32 : EltTy) = .f32) shapeCasts_S32768x128_S4096x8x128,
    StableHlo.reshape main_arg3 main_v10 (rfl : (.f32 : EltTy) = .f32) shapeCasts_S4x1024x3_S4096x3,
    StableHlo.nullary main_c_0 (constantI S_ 32 0#32),
    StableHlo.TRef.unary (.of main_c_0 : StableHlo.TRef sig ⟨S_, .i32⟩) main_call1.v0 (sitofp .f32),
    StableHlo.TRef.binary (.of main_v10 : StableHlo.TRef sig ⟨S4096x3, .f32⟩) main_call1.v0 main_call1.v1 (fun x v => pad S4096x16 ![0, 0] ![0, 13] ![0, 0] x v pads_S4096x3_S4096x16_000_0130 h_S_) ]

/-- The first layers' mean and variance from the moments, and the layer with its normalisation folded in. -/
abbrev o2 : List (HloOp τ sig (Elt F)) :=
  [ StableHlo.unary main_v12_1 main_v13 ((extractStridedSlice S1x128 ![0, 0] · slices_S8x128_S1x128_0_0) : (⟨S8x128, .f32⟩ : BufTy).Contents (Elt F) → (⟨S1x128, .f32⟩ : BufTy).Contents (Elt F)),
    StableHlo.reshape main_v13 main_v14 (rfl : (.f32 : EltTy) = .f32) shapeCasts_S1x128_S128,
    StableHlo.reshape main_v12_0 main_v15 (rfl : (.f32 : EltTy) = .f32) shapeCasts_S128x128_S8x16x8x16,
    StableHlo.unary main_v15 main_v16 ((extractStridedSlice S8x3x8x3 ![0, 0, 0, 0] · slices_S8x16x8x16_S8x3x8x3_0_0_0_0) : (⟨S8x16x8x16, .f32⟩ : BufTy).Contents (Elt F) → (⟨S8x3x8x3, .f32⟩ : BufTy).Contents (Elt F)),
    StableHlo.reshape main_v14 main_v17 (rfl : (.f32 : EltTy) = .f32) shapeCasts_S128_S8x16,
    StableHlo.unary main_v17 main_v18 ((extractStridedSlice S8x3 ![0, 0] · slices_S8x16_S8x3_0_0) : (⟨S8x16, .f32⟩ : BufTy).Contents (Elt F) → (⟨S8x3, .f32⟩ : BufTy).Contents (Elt F)),
    StableHlo.reshape main_arg4 main_v19 (rfl : (.f32 : EltTy) = .f32) shapeCasts_S64x3x1x1_S64x3,
    StableHlo.nullary main_cst (constant S_ .f32 0x00000000#32),
    StableHlo.binary main_v18 main_cst main_v20 ((fun x v => Host.reduceAdd x v reducesTo_S8x3_S3_d0 h_S_) : (⟨S8x3, .f32⟩ : BufTy).Contents (Elt F) → (⟨S_, .f32⟩ : BufTy).Contents (Elt F) → (⟨S3, .f32⟩ : BufTy).Contents (Elt F)),
    StableHlo.nullary main_cst_1 (constant S_ .f32 0x47000000#32),
    StableHlo.unary main_cst_1 main_v21 (broadcastInDim S3 ![] bcast_S_S3 : (⟨S_, .f32⟩ : BufTy).Contents (Elt F) → (⟨S3, .f32⟩ : BufTy).Contents (Elt F)),
    StableHlo.binary main_v20 main_v21 main_v22 (Host.divf : (⟨S3, .f32⟩ : BufTy).Contents (Elt F) → (⟨S3, .f32⟩ : BufTy).Contents (Elt F) → (⟨S3, .f32⟩ : BufTy).Contents (Elt F)),
    StableHlo.nullary main_v23 (iotaInDim S8x8 32 0),
    StableHlo.nullary main_v24 (iotaInDim S8x8 32 1),
    StableHlo.binary main_v23 main_v24 main_v25 (cmpi .eq : (⟨S8x8, .i32⟩ : BufTy).Contents (Elt F) → (⟨S8x8, .i32⟩ : BufTy).Contents (Elt F) → (⟨S8x8, .i1⟩ : BufTy).Contents (Elt F)),
    StableHlo.unary main_v25 main_v26 (broadcastInDim S8x3x8x3 ![0, 2] bcast_S8x8_S8x3x8x3_0_2 : (⟨S8x8, .i1⟩ : BufTy).Contents (Elt F) → (⟨S8x3x8x3, .i1⟩ : BufTy).Contents (Elt F)),
    StableHlo.nullary main_cst_2 (constant S_ .f32 0x00000000#32),
    StableHlo.unary main_cst_2 main_v27 (broadcastInDim S8x3x8x3 ![] bcast_S_S8x3x8x3 : (⟨S_, .f32⟩ : BufTy).Contents (Elt F) → (⟨S8x3x8x3, .f32⟩ : BufTy).Contents (Elt F)),
    StableHlo.ternary main_v26 main_v16 main_v27 main_v28 (select : (⟨S8x3x8x3, .i1⟩ : BufTy).Contents (Elt F) → (⟨S8x3x8x3, .f32⟩ : BufTy).Contents (Elt F) → (⟨S8x3x8x3, .f32⟩ : BufTy).Contents (Elt F) → (⟨S8x3x8x3, .f32⟩ : BufTy).Contents (Elt F)),
    StableHlo.nullary main_cst_3 (constant S_ .f32 0x00000000#32),
    StableHlo.binary main_v28 main_cst_3 main_v29 ((fun x v => Host.reduceAdd x v reducesTo_S8x3x8x3_S3x3_d0_2 h_S_) : (⟨S8x3x8x3, .f32⟩ : BufTy).Contents (Elt F) → (⟨S_, .f32⟩ : BufTy).Contents (Elt F) → (⟨S3x3, .f32⟩ : BufTy).Contents (Elt F)),
    StableHlo.nullary main_cst_4 (constant S_ .f32 0x47000000#32),
    StableHlo.unary main_cst_4 main_v30 (broadcastInDim S3x3 ![] bcast_S_S3x3 : (⟨S_, .f32⟩ : BufTy).Contents (Elt F) → (⟨S3x3, .f32⟩ : BufTy).Contents (Elt F)),
    StableHlo.binary main_v29 main_v30 main_v31 (Host.divf : (⟨S3x3, .f32⟩ : BufTy).Contents (Elt F) → (⟨S3x3, .f32⟩ : BufTy).Contents (Elt F) → (⟨S3x3, .f32⟩ : BufTy).Contents (Elt F)),
    StableHlo.binary main_v19 main_v22 main_v32 ((fun l r => Host.dotGeneral dot_S64x3_S3_S64_1_0_0_n_n_n none l r) : (⟨S64x3, .f32⟩ : BufTy).Contents (Elt F) → (⟨S3, .f32⟩ : BufTy).Contents (Elt F) → (⟨S64, .f32⟩ : BufTy).Contents (Elt F)),
    StableHlo.binary main_v19 main_v31 main_v33 ((fun l r => Host.dotGeneral dot_S64x3_S3x3_S64x3_1_0_0_1_n_n none l r) : (⟨S64x3, .f32⟩ : BufTy).Contents (Elt F) → (⟨S3x3, .f32⟩ : BufTy).Contents (Elt F) → (⟨S64x3, .f32⟩ : BufTy).Contents (Elt F)),
    StableHlo.binary main_v33 main_v19 main_v34 (mulf : (⟨S64x3, .f32⟩ : BufTy).Contents (Elt F) → (⟨S64x3, .f32⟩ : BufTy).Contents (Elt F) → (⟨S64x3, .f32⟩ : BufTy).Contents (Elt F)),
    StableHlo.nullary main_cst_5 (constant S_ .f32 0x00000000#32),
    StableHlo.binary main_v34 main_cst_5 main_v35 ((fun x v => Host.reduceAdd x v reducesTo_S64x3_S64_d1 h_S_) : (⟨S64x3, .f32⟩ : BufTy).Contents (Elt F) → (⟨S_, .f32⟩ : BufTy).Contents (Elt F) → (⟨S64, .f32⟩ : BufTy).Contents (Elt F)),
    StableHlo.binary main_v32 main_v32 main_v36 (mulf : (⟨S64, .f32⟩ : BufTy).Contents (Elt F) → (⟨S64, .f32⟩ : BufTy).Contents (Elt F) → (⟨S64, .f32⟩ : BufTy).Contents (Elt F)),
    StableHlo.binary main_v35 main_v36 main_v37 (subf : (⟨S64, .f32⟩ : BufTy).Contents (Elt F) → (⟨S64, .f32⟩ : BufTy).Contents (Elt F) → (⟨S64, .f32⟩ : BufTy).Contents (Elt F)),
    StableHlo.nullary main_cst_6 (constant S_ .f32 0x00000000#32),
    StableHlo.unary main_cst_6 main_v38 (broadcastInDim S64 ![] bcast_S_S64 : (⟨S_, .f32⟩ : BufTy).Contents (Elt F) → (⟨S64, .f32⟩ : BufTy).Contents (Elt F)),
    StableHlo.binary main_v37 main_v38 main_v39 (maximumf : (⟨S64, .f32⟩ : BufTy).Contents (Elt F) → (⟨S64, .f32⟩ : BufTy).Contents (Elt F) → (⟨S64, .f32⟩ : BufTy).Contents (Elt F)),
    StableHlo.nullary main_cst_7 (constant S_ .f32 0x3727C5AC#32),
    StableHlo.unary main_cst_7 main_v40 (broadcastInDim S64 ![] bcast_S_S64 : (⟨S_, .f32⟩ : BufTy).Contents (Elt F) → (⟨S64, .f32⟩ : BufTy).Contents (Elt F)),
    StableHlo.binary main_v39 main_v40 main_v41 (addf : (⟨S64, .f32⟩ : BufTy).Contents (Elt F) → (⟨S64, .f32⟩ : BufTy).Contents (Elt F) → (⟨S64, .f32⟩ : BufTy).Contents (Elt F)),
    StableHlo.unary main_v41 main_v42 (Host.sqrt : (⟨S64, .f32⟩ : BufTy).Contents (Elt F) → (⟨S64, .f32⟩ : BufTy).Contents (Elt F)),
    StableHlo.binary main_arg5 main_v42 main_v43 (Host.divf : (⟨S64, .f32⟩ : BufTy).Contents (Elt F) → (⟨S64, .f32⟩ : BufTy).Contents (Elt F) → (⟨S64, .f32⟩ : BufTy).Contents (Elt F)),
    StableHlo.binary main_v43 main_v32 main_v44 (mulf : (⟨S64, .f32⟩ : BufTy).Contents (Elt F) → (⟨S64, .f32⟩ : BufTy).Contents (Elt F) → (⟨S64, .f32⟩ : BufTy).Contents (Elt F)),
    StableHlo.binary main_arg6 main_v44 main_v45 (subf : (⟨S64, .f32⟩ : BufTy).Contents (Elt F) → (⟨S64, .f32⟩ : BufTy).Contents (Elt F) → (⟨S64, .f32⟩ : BufTy).Contents (Elt F)),
    StableHlo.unary main_v19 main_v46 ((transpose S3x64 [1, 0] · transposes_S64x3_S3x64_1_0) : (⟨S64x3, .f32⟩ : BufTy).Contents (Elt F) → (⟨S3x64, .f32⟩ : BufTy).Contents (Elt F)),
    StableHlo.unary main_v43 main_v47 (broadcastInDim S1x64 ![1] bcast_S64_S1x64_1 : (⟨S64, .f32⟩ : BufTy).Contents (Elt F) → (⟨S1x64, .f32⟩ : BufTy).Contents (Elt F)),
    StableHlo.unary main_v47 main_v48 (broadcastInDim S3x64 ![0, 1] bcast_S1x64_S3x64_0_1 : (⟨S1x64, .f32⟩ : BufTy).Contents (Elt F) → (⟨S3x64, .f32⟩ : BufTy).Contents (Elt F)),
    StableHlo.binary main_v46 main_v48 main_v49 (mulf : (⟨S3x64, .f32⟩ : BufTy).Contents (Elt F) → (⟨S3x64, .f32⟩ : BufTy).Contents (Elt F) → (⟨S3x64, .f32⟩ : BufTy).Contents (Elt F)) ]

/-- The same for the other branch, and the second layers' weights. -/
abbrev o3 : List (HloOp τ sig (Elt F)) :=
  [ StableHlo.nullary main_c_8 (constantI S_ 32 0#32),
    StableHlo.TRef.unary (.of main_c_8 : StableHlo.TRef sig ⟨S_, .i32⟩) main_call2.v0 (sitofp .f32),
    StableHlo.TRef.binary (.of main_v49 : StableHlo.TRef sig ⟨S3x64, .f32⟩) main_call2.v0 main_call2.v1 (fun x v => pad S16x64 ![0, 0] ![13, 0] ![0, 0] x v pads_S3x64_S16x64_0130_000 h_S_),
    StableHlo.reshape main_v45 main_v51 (rfl : (.f32 : EltTy) = .f32) shapeCasts_S64_S1x64,
    StableHlo.reshape main_arg10 main_v52 (rfl : (.f32 : EltTy) = .f32) shapeCasts_S64x3x1x8_S64x3x8,
    StableHlo.unary main_v52 main_v53 ((transpose S64x8x3 [0, 2, 1] · transposes_S64x3x8_S64x8x3_0_2_1) : (⟨S64x3x8, .f32⟩ : BufTy).Contents (Elt F) → (⟨S64x8x3, .f32⟩ : BufTy).Contents (Elt F)),
    StableHlo.reshape main_v53 main_v54 (rfl : (.f32 : EltTy) = .f32) shapeCasts_S64x8x3_S64x24,
    StableHlo.nullary main_cst_9 (constant S_ .f32 0x45800000#32),
    StableHlo.unary main_cst_9 main_v55 (broadcastInDim S8x3 ![] bcast_S_S8x3 : (⟨S_, .f32⟩ : BufTy).Contents (Elt F) → (⟨S8x3, .f32⟩ : BufTy).Contents (Elt F)),
    StableHlo.binary main_v18 main_v55 main_v56 (Host.divf : (⟨S8x3, .f32⟩ : BufTy).Contents (Elt F) → (⟨S8x3, .f32⟩ : BufTy).Contents (Elt F) → (⟨S8x3, .f32⟩ : BufTy).Contents (Elt F)),
    StableHlo.reshape main_v56 main_v57 (rfl : (.f32 : EltTy) = .f32) shapeCasts_S8x3_S24,
    StableHlo.reshape main_v16 main_v58 (rfl : (.f32 : EltTy) = .f32) shapeCasts_S8x3x8x3_S24x24,
    StableHlo.nullary main_cst_10 (constant S_ .f32 0x45800000#32),
    StableHlo.unary main_cst_10 main_v59 (broadcastInDim S24x24 ![] bcast_S_S24x24 : (⟨S_, .f32⟩ : BufTy).Contents (Elt F) → (⟨S24x24, .f32⟩ : BufTy).Contents (Elt F)),
    StableHlo.binary main_v58 main_v59 main_v60 (Host.divf : (⟨S24x24, .f32⟩ : BufTy).Contents (Elt F) → (⟨S24x24, .f32⟩ : BufTy).Contents (Elt F) → (⟨S24x24, .f32⟩ : BufTy).Contents (Elt F)),
    StableHlo.unary main_v57 main_v61 (broadcastInDim S1x24 ![1] bcast_S24_S1x24_1 : (⟨S24, .f32⟩ : BufTy).Contents (Elt F) → (⟨S1x24, .f32⟩ : BufTy).Contents (Elt F)),
    StableHlo.unary main_v61 main_v62 (broadcastInDim S64x24 ![0, 1] bcast_S1x24_S64x24_0_1 : (⟨S1x24, .f32⟩ : BufTy).Contents (Elt F) → (⟨S64x24, .f32⟩ : BufTy).Contents (Elt F)),
    StableHlo.binary main_v54 main_v62 main_v63 (mulf : (⟨S64x24, .f32⟩ : BufTy).Contents (Elt F) → (⟨S64x24, .f32⟩ : BufTy).Contents (Elt F) → (⟨S64x24, .f32⟩ : BufTy).Contents (Elt F)),
    StableHlo.nullary main_cst_11 (constant S_ .f32 0x00000000#32),
    StableHlo.binary main_v63 main_cst_11 main_v64 ((fun x v => Host.reduceAdd x v reducesTo_S64x24_S64_d1 h_S_) : (⟨S64x24, .f32⟩ : BufTy).Contents (Elt F) → (⟨S_, .f32⟩ : BufTy).Contents (Elt F) → (⟨S64, .f32⟩ : BufTy).Contents (Elt F)),
    StableHlo.unary main_v54 main_v65 (broadcastInDim S64x24x1 ![0, 1] bcast_S64x24_S64x24x1_0_1 : (⟨S64x24, .f32⟩ : BufTy).Contents (Elt F) → (⟨S64x24x1, .f32⟩ : BufTy).Contents (Elt F)),
    StableHlo.unary main_v60 main_v66 (broadcastInDim S1x24x24 ![1, 2] bcast_S24x24_S1x24x24_1_2 : (⟨S24x24, .f32⟩ : BufTy).Contents (Elt F) → (⟨S1x24x24, .f32⟩ : BufTy).Contents (Elt F)),
    StableHlo.unary main_v65 main_v67 (broadcastInDim S64x24x24 ![0, 1, 2] bcast_S64x24x1_S64x24x24_0_1_2 : (⟨S64x24x1, .f32⟩ : BufTy).Contents (Elt F) → (⟨S64x24x24, .f32⟩ : BufTy).Contents (Elt F)),
    StableHlo.unary main_v66 main_v68 (broadcastInDim S64x24x24 ![0, 1, 2] bcast_S1x24x24_S64x24x24_0_1_2 : (⟨S1x24x24, .f32⟩ : BufTy).Contents (Elt F) → (⟨S64x24x24, .f32⟩ : BufTy).Contents (Elt F)),
    StableHlo.binary main_v67 main_v68 main_v69 (mulf : (⟨S64x24x24, .f32⟩ : BufTy).Contents (Elt F) → (⟨S64x24x24, .f32⟩ : BufTy).Contents (Elt F) → (⟨S64x24x24, .f32⟩ : BufTy).Contents (Elt F)),
    StableHlo.nullary main_cst_12 (constant S_ .f32 0x00000000#32),
    StableHlo.binary main_v69 main_cst_12 main_v70 ((fun x v => Host.reduceAdd x v reducesTo_S64x24x24_S64x24_d1 h_S_) : (⟨S64x24x24, .f32⟩ : BufTy).Contents (Elt F) → (⟨S_, .f32⟩ : BufTy).Contents (Elt F) → (⟨S64x24, .f32⟩ : BufTy).Contents (Elt F)),
    StableHlo.binary main_v70 main_v54 main_v71 (mulf : (⟨S64x24, .f32⟩ : BufTy).Contents (Elt F) → (⟨S64x24, .f32⟩ : BufTy).Contents (Elt F) → (⟨S64x24, .f32⟩ : BufTy).Contents (Elt F)),
    StableHlo.nullary main_cst_13 (constant S_ .f32 0x00000000#32),
    StableHlo.binary main_v71 main_cst_13 main_v72 ((fun x v => Host.reduceAdd x v reducesTo_S64x24_S64_d1 h_S_) : (⟨S64x24, .f32⟩ : BufTy).Contents (Elt F) → (⟨S_, .f32⟩ : BufTy).Contents (Elt F) → (⟨S64, .f32⟩ : BufTy).Contents (Elt F)),
    StableHlo.binary main_v64 main_v64 main_v73 (mulf : (⟨S64, .f32⟩ : BufTy).Contents (Elt F) → (⟨S64, .f32⟩ : BufTy).Contents (Elt F) → (⟨S64, .f32⟩ : BufTy).Contents (Elt F)),
    StableHlo.binary main_v72 main_v73 main_v74 (subf : (⟨S64, .f32⟩ : BufTy).Contents (Elt F) → (⟨S64, .f32⟩ : BufTy).Contents (Elt F) → (⟨S64, .f32⟩ : BufTy).Contents (Elt F)),
    StableHlo.nullary main_cst_14 (constant S_ .f32 0x00000000#32),
    StableHlo.unary main_cst_14 main_v75 (broadcastInDim S64 ![] bcast_S_S64 : (⟨S_, .f32⟩ : BufTy).Contents (Elt F) → (⟨S64, .f32⟩ : BufTy).Contents (Elt F)),
    StableHlo.binary main_v74 main_v75 main_v76 (maximumf : (⟨S64, .f32⟩ : BufTy).Contents (Elt F) → (⟨S64, .f32⟩ : BufTy).Contents (Elt F) → (⟨S64, .f32⟩ : BufTy).Contents (Elt F)),
    StableHlo.nullary main_cst_15 (constant S_ .f32 0x3727C5AC#32),
    StableHlo.unary main_cst_15 main_v77 (broadcastInDim S64 ![] bcast_S_S64 : (⟨S_, .f32⟩ : BufTy).Contents (Elt F) → (⟨S64, .f32⟩ : BufTy).Contents (Elt F)),
    StableHlo.binary main_v76 main_v77 main_v78 (addf : (⟨S64, .f32⟩ : BufTy).Contents (Elt F) → (⟨S64, .f32⟩ : BufTy).Contents (Elt F) → (⟨S64, .f32⟩ : BufTy).Contents (Elt F)),
    StableHlo.unary main_v78 main_v79 (Host.sqrt : (⟨S64, .f32⟩ : BufTy).Contents (Elt F) → (⟨S64, .f32⟩ : BufTy).Contents (Elt F)),
    StableHlo.binary main_arg11 main_v79 main_v80 (Host.divf : (⟨S64, .f32⟩ : BufTy).Contents (Elt F) → (⟨S64, .f32⟩ : BufTy).Contents (Elt F) → (⟨S64, .f32⟩ : BufTy).Contents (Elt F)),
    StableHlo.binary main_v80 main_v64 main_v81 (mulf : (⟨S64, .f32⟩ : BufTy).Contents (Elt F) → (⟨S64, .f32⟩ : BufTy).Contents (Elt F) → (⟨S64, .f32⟩ : BufTy).Contents (Elt F)),
    StableHlo.binary main_arg12 main_v81 main_v82 (subf : (⟨S64, .f32⟩ : BufTy).Contents (Elt F) → (⟨S64, .f32⟩ : BufTy).Contents (Elt F) → (⟨S64, .f32⟩ : BufTy).Contents (Elt F)),
    StableHlo.unary main_v52 main_v83 ((transpose S8x3x64 [2, 1, 0] · transposes_S64x3x8_S8x3x64_2_1_0) : (⟨S64x3x8, .f32⟩ : BufTy).Contents (Elt F) → (⟨S8x3x64, .f32⟩ : BufTy).Contents (Elt F)),
    StableHlo.unary main_v80 main_v84 (broadcastInDim S1x1x64 ![2] bcast_S64_S1x1x64_2 : (⟨S64, .f32⟩ : BufTy).Contents (Elt F) → (⟨S1x1x64, .f32⟩ : BufTy).Contents (Elt F)),
    StableHlo.unary main_v84 main_v85 (broadcastInDim S8x3x64 ![0, 1, 2] bcast_S1x1x64_S8x3x64_0_1_2 : (⟨S1x1x64, .f32⟩ : BufTy).Contents (Elt F) → (⟨S8x3x64, .f32⟩ : BufTy).Contents (Elt F)),
    StableHlo.binary main_v83 main_v85 main_v86 (mulf : (⟨S8x3x64, .f32⟩ : BufTy).Contents (Elt F) → (⟨S8x3x64, .f32⟩ : BufTy).Contents (Elt F) → (⟨S8x3x64, .f32⟩ : BufTy).Contents (Elt F)),
    StableHlo.nullary main_c_16 (constantI S_ 32 0#32),
    StableHlo.TRef.unary (.of main_c_16 : StableHlo.TRef sig ⟨S_, .i32⟩) main_call3.v0 (sitofp .f32),
    StableHlo.TRef.binary (.of main_v86 : StableHlo.TRef sig ⟨S8x3x64, .f32⟩) main_call3.v0 main_call3.v1 (fun x v => pad S8x16x64 ![0, 0, 0] ![0, 13, 0] ![0, 0, 0] x v pads_S8x3x64_S8x16x64_000_0130_000 h_S_),
    StableHlo.reshape main_v82 main_v88 (rfl : (.f32 : EltTy) = .f32) shapeCasts_S64_S1x64,
    StableHlo.reshape main_arg7 main_v89 (rfl : (.f32 : EltTy) = .f32) shapeCasts_S64x64x1x1_S64x64,
    StableHlo.unary main_v89 main_v90 ((transpose S64x64 [1, 0] · transposes_S64x64_S64x64_1_0) : (⟨S64x64, .f32⟩ : BufTy).Contents (Elt F) → (⟨S64x64, .f32⟩ : BufTy).Contents (Elt F)),
    StableHlo.reshape main_arg13 main_v91 (rfl : (.f32 : EltTy) = .f32) shapeCasts_S64x64x1x1_S64x64,
    StableHlo.unary main_v91 main_v92 ((transpose S64x64 [1, 0] · transposes_S64x64_S64x64_1_0) : (⟨S64x64, .f32⟩ : BufTy).Contents (Elt F) → (⟨S64x64, .f32⟩ : BufTy).Contents (Elt F)) ]

/-- The second layer's mean, -/
abbrev o4 : List (HloOp τ sig (Elt F)) :=
  [ StableHlo.unary main_v93_2 main_v94 ((extractStridedSlice S1x64 ![0, 0] · slices_S8x64_S1x64_0_0) : (⟨S8x64, .f32⟩ : BufTy).Contents (Elt F) → (⟨S1x64, .f32⟩ : BufTy).Contents (Elt F)),
    StableHlo.reshape main_v94 main_v95 (rfl : (.f32 : EltTy) = .f32) shapeCasts_S1x64_S64,
    StableHlo.nullary main_cst_17 (constant S_ .f32 0x47000000#32),
    StableHlo.unary main_cst_17 main_v96 (broadcastInDim S64 ![] bcast_S_S64 : (⟨S_, .f32⟩ : BufTy).Contents (Elt F) → (⟨S64, .f32⟩ : BufTy).Contents (Elt F)),
    StableHlo.binary main_v95 main_v96 main_v97 (Host.divf : (⟨S64, .f32⟩ : BufTy).Contents (Elt F) → (⟨S64, .f32⟩ : BufTy).Contents (Elt F) → (⟨S64, .f32⟩ : BufTy).Contents (Elt F)),
    StableHlo.unary main_v93_2 main_v98 ((extractStridedSlice S1x64 ![1, 0] · slices_S8x64_S1x64_1_0) : (⟨S8x64, .f32⟩ : BufTy).Contents (Elt F) → (⟨S1x64, .f32⟩ : BufTy).Contents (Elt F)),
    StableHlo.reshape main_v98 main_v99 (rfl : (.f32 : EltTy) = .f32) shapeCasts_S1x64_S64 ]

/-- its variance and the second layers' normalisations, stacked. -/
abbrev o5 : List (HloOp τ sig (Elt F)) :=
  [ StableHlo.nullary main_cst_18 (constant S_ .f32 0x47000000#32),
    StableHlo.unary main_cst_18 main_v100 (broadcastInDim S64 ![] bcast_S_S64 : (⟨S_, .f32⟩ : BufTy).Contents (Elt F) → (⟨S64, .f32⟩ : BufTy).Contents (Elt F)),
    StableHlo.binary main_v99 main_v100 main_v101 (Host.divf : (⟨S64, .f32⟩ : BufTy).Contents (Elt F) → (⟨S64, .f32⟩ : BufTy).Contents (Elt F) → (⟨S64, .f32⟩ : BufTy).Contents (Elt F)),
    StableHlo.binary main_v97 main_v97 main_v102 (mulf : (⟨S64, .f32⟩ : BufTy).Contents (Elt F) → (⟨S64, .f32⟩ : BufTy).Contents (Elt F) → (⟨S64, .f32⟩ : BufTy).Contents (Elt F)),
    StableHlo.binary main_v101 main_v102 main_v103 (subf : (⟨S64, .f32⟩ : BufTy).Contents (Elt F) → (⟨S64, .f32⟩ : BufTy).Contents (Elt F) → (⟨S64, .f32⟩ : BufTy).Contents (Elt F)),
    StableHlo.nullary main_cst_19 (constant S_ .f32 0x00000000#32),
    StableHlo.unary main_cst_19 main_v104 (broadcastInDim S64 ![] bcast_S_S64 : (⟨S_, .f32⟩ : BufTy).Contents (Elt F) → (⟨S64, .f32⟩ : BufTy).Contents (Elt F)),
    StableHlo.binary main_v103 main_v104 main_v105 (maximumf : (⟨S64, .f32⟩ : BufTy).Contents (Elt F) → (⟨S64, .f32⟩ : BufTy).Contents (Elt F) → (⟨S64, .f32⟩ : BufTy).Contents (Elt F)),
    StableHlo.nullary main_cst_20 (constant S_ .f32 0x3727C5AC#32),
    StableHlo.unary main_cst_20 main_v106 (broadcastInDim S64 ![] bcast_S_S64 : (⟨S_, .f32⟩ : BufTy).Contents (Elt F) → (⟨S64, .f32⟩ : BufTy).Contents (Elt F)),
    StableHlo.binary main_v105 main_v106 main_v107 (addf : (⟨S64, .f32⟩ : BufTy).Contents (Elt F) → (⟨S64, .f32⟩ : BufTy).Contents (Elt F) → (⟨S64, .f32⟩ : BufTy).Contents (Elt F)),
    StableHlo.unary main_v107 main_v108 (Host.sqrt : (⟨S64, .f32⟩ : BufTy).Contents (Elt F) → (⟨S64, .f32⟩ : BufTy).Contents (Elt F)),
    StableHlo.binary main_arg8 main_v108 main_v109 (Host.divf : (⟨S64, .f32⟩ : BufTy).Contents (Elt F) → (⟨S64, .f32⟩ : BufTy).Contents (Elt F) → (⟨S64, .f32⟩ : BufTy).Contents (Elt F)),
    StableHlo.binary main_v109 main_v97 main_v110 (mulf : (⟨S64, .f32⟩ : BufTy).Contents (Elt F) → (⟨S64, .f32⟩ : BufTy).Contents (Elt F) → (⟨S64, .f32⟩ : BufTy).Contents (Elt F)),
    StableHlo.binary main_arg9 main_v110 main_v111 (subf : (⟨S64, .f32⟩ : BufTy).Contents (Elt F) → (⟨S64, .f32⟩ : BufTy).Contents (Elt F) → (⟨S64, .f32⟩ : BufTy).Contents (Elt F)),
    StableHlo.unary main_v93_2 main_v112 ((extractStridedSlice S1x64 ![2, 0] · slices_S8x64_S1x64_2_0) : (⟨S8x64, .f32⟩ : BufTy).Contents (Elt F) → (⟨S1x64, .f32⟩ : BufTy).Contents (Elt F)),
    StableHlo.reshape main_v112 main_v113 (rfl : (.f32 : EltTy) = .f32) shapeCasts_S1x64_S64,
    StableHlo.nullary main_cst_21 (constant S_ .f32 0x45800000#32),
    StableHlo.unary main_cst_21 main_v114 (broadcastInDim S64 ![] bcast_S_S64 : (⟨S_, .f32⟩ : BufTy).Contents (Elt F) → (⟨S64, .f32⟩ : BufTy).Contents (Elt F)),
    StableHlo.binary main_v113 main_v114 main_v115 (Host.divf : (⟨S64, .f32⟩ : BufTy).Contents (Elt F) → (⟨S64, .f32⟩ : BufTy).Contents (Elt F) → (⟨S64, .f32⟩ : BufTy).Contents (Elt F)),
    StableHlo.unary main_v93_2 main_v116 ((extractStridedSlice S1x64 ![3, 0] · slices_S8x64_S1x64_3_0) : (⟨S8x64, .f32⟩ : BufTy).Contents (Elt F) → (⟨S1x64, .f32⟩ : BufTy).Contents (Elt F)),
    StableHlo.reshape main_v116 main_v117 (rfl : (.f32 : EltTy) = .f32) shapeCasts_S1x64_S64,
    StableHlo.nullary main_cst_22 (constant S_ .f32 0x45800000#32),
    StableHlo.unary main_cst_22 main_v118 (broadcastInDim S64 ![] bcast_S_S64 : (⟨S_, .f32⟩ : BufTy).Contents (Elt F) → (⟨S64, .f32⟩ : BufTy).Contents (Elt F)),
    StableHlo.binary main_v117 main_v118 main_v119 (Host.divf : (⟨S64, .f32⟩ : BufTy).Contents (Elt F) → (⟨S64, .f32⟩ : BufTy).Contents (Elt F) → (⟨S64, .f32⟩ : BufTy).Contents (Elt F)),
    StableHlo.binary main_v115 main_v115 main_v120 (mulf : (⟨S64, .f32⟩ : BufTy).Contents (Elt F) → (⟨S64, .f32⟩ : BufTy).Contents (Elt F) → (⟨S64, .f32⟩ : BufTy).Contents (Elt F)),
    StableHlo.binary main_v119 main_v120 main_v121 (subf : (⟨S64, .f32⟩ : BufTy).Contents (Elt F) → (⟨S64, .f32⟩ : BufTy).Contents (Elt F) → (⟨S64, .f32⟩ : BufTy).Contents (Elt F)),
    StableHlo.nullary main_cst_23 (constant S_ .f32 0x00000000#32),
    StableHlo.unary main_cst_23 main_v122 (broadcastInDim S64 ![] bcast_S_S64 : (⟨S_, .f32⟩ : BufTy).Contents (Elt F) → (⟨S64, .f32⟩ : BufTy).Contents (Elt F)),
    StableHlo.binary main_v121 main_v122 main_v123 (maximumf : (⟨S64, .f32⟩ : BufTy).Contents (Elt F) → (⟨S64, .f32⟩ : BufTy).Contents (Elt F) → (⟨S64, .f32⟩ : BufTy).Contents (Elt F)),
    StableHlo.nullary main_cst_24 (constant S_ .f32 0x3727C5AC#32),
    StableHlo.unary main_cst_24 main_v124 (broadcastInDim S64 ![] bcast_S_S64 : (⟨S_, .f32⟩ : BufTy).Contents (Elt F) → (⟨S64, .f32⟩ : BufTy).Contents (Elt F)),
    StableHlo.binary main_v123 main_v124 main_v125 (addf : (⟨S64, .f32⟩ : BufTy).Contents (Elt F) → (⟨S64, .f32⟩ : BufTy).Contents (Elt F) → (⟨S64, .f32⟩ : BufTy).Contents (Elt F)),
    StableHlo.unary main_v125 main_v126 (Host.sqrt : (⟨S64, .f32⟩ : BufTy).Contents (Elt F) → (⟨S64, .f32⟩ : BufTy).Contents (Elt F)),
    StableHlo.binary main_arg14 main_v126 main_v127 (Host.divf : (⟨S64, .f32⟩ : BufTy).Contents (Elt F) → (⟨S64, .f32⟩ : BufTy).Contents (Elt F) → (⟨S64, .f32⟩ : BufTy).Contents (Elt F)),
    StableHlo.binary main_v127 main_v115 main_v128 (mulf : (⟨S64, .f32⟩ : BufTy).Contents (Elt F) → (⟨S64, .f32⟩ : BufTy).Contents (Elt F) → (⟨S64, .f32⟩ : BufTy).Contents (Elt F)),
    StableHlo.binary main_arg15 main_v128 main_v129 (subf : (⟨S64, .f32⟩ : BufTy).Contents (Elt F) → (⟨S64, .f32⟩ : BufTy).Contents (Elt F) → (⟨S64, .f32⟩ : BufTy).Contents (Elt F)),
    StableHlo.nullary main_c_25 (constantI S_ 32 0#32),
    StableHlo.TRef.unary (.of main_c_25 : StableHlo.TRef sig ⟨S_, .i32⟩) main_call4.v0 (sitofp .f32),
    StableHlo.TRef.binary (.of main_v109 : StableHlo.TRef sig ⟨S64, .f32⟩) main_call4.v0 main_call4.v1 (fun x v => pad S64 ![0] ![0] ![0] x v pads_S64_S64_000 h_S_),
    StableHlo.nullary main_c_26 (constantI S_ 32 0#32),
    StableHlo.TRef.unary (.of main_c_26 : StableHlo.TRef sig ⟨S_, .i32⟩) main_call5.v0 (sitofp .f32),
    StableHlo.TRef.binary (.of main_v111 : StableHlo.TRef sig ⟨S64, .f32⟩) main_call5.v0 main_call5.v1 (fun x v => pad S64 ![0] ![0] ![0] x v pads_S64_S64_000 h_S_),
    StableHlo.nullary main_cst_27 (constant S_ .f32 0x00000000#32),
    StableHlo.unary main_cst_27 main_v132 (broadcastInDim S64 ![] bcast_S_S64 : (⟨S_, .f32⟩ : BufTy).Contents (Elt F) → (⟨S64, .f32⟩ : BufTy).Contents (Elt F)),
    StableHlo.nullary main_cst_28 (constant S_ .f32 0x00000000#32),
    StableHlo.unary main_cst_28 main_v133 (broadcastInDim S64 ![] bcast_S_S64 : (⟨S_, .f32⟩ : BufTy).Contents (Elt F) → (⟨S64, .f32⟩ : BufTy).Contents (Elt F)),
    StableHlo.nullary main_cst_29 (constant S_ .f32 0x00000000#32),
    StableHlo.unary main_cst_29 main_v134 (broadcastInDim S64 ![] bcast_S_S64 : (⟨S_, .f32⟩ : BufTy).Contents (Elt F) → (⟨S64, .f32⟩ : BufTy).Contents (Elt F)),
    StableHlo.nullary main_cst_30 (constant S_ .f32 0x00000000#32),
    StableHlo.unary main_cst_30 main_v135 (broadcastInDim S64 ![] bcast_S_S64 : (⟨S_, .f32⟩ : BufTy).Contents (Elt F) → (⟨S64, .f32⟩ : BufTy).Contents (Elt F)),
    StableHlo.unary main_v130 main_v136 (broadcastInDim S1x64 ![1] bcast_S64_S1x64_1 : (⟨S64, .f32⟩ : BufTy).Contents (Elt F) → (⟨S1x64, .f32⟩ : BufTy).Contents (Elt F)),
    StableHlo.unary main_v131 main_v137 (broadcastInDim S1x64 ![1] bcast_S64_S1x64_1 : (⟨S64, .f32⟩ : BufTy).Contents (Elt F) → (⟨S1x64, .f32⟩ : BufTy).Contents (Elt F)),
    StableHlo.unary main_v127 main_v138 (broadcastInDim S1x64 ![1] bcast_S64_S1x64_1 : (⟨S64, .f32⟩ : BufTy).Contents (Elt F) → (⟨S1x64, .f32⟩ : BufTy).Contents (Elt F)),
    StableHlo.unary main_v129 main_v139 (broadcastInDim S1x64 ![1] bcast_S64_S1x64_1 : (⟨S64, .f32⟩ : BufTy).Contents (Elt F) → (⟨S1x64, .f32⟩ : BufTy).Contents (Elt F)),
    StableHlo.unary main_v132 main_v140 (broadcastInDim S1x64 ![1] bcast_S64_S1x64_1 : (⟨S64, .f32⟩ : BufTy).Contents (Elt F) → (⟨S1x64, .f32⟩ : BufTy).Contents (Elt F)),
    StableHlo.unary main_v133 main_v141 (broadcastInDim S1x64 ![1] bcast_S64_S1x64_1 : (⟨S64, .f32⟩ : BufTy).Contents (Elt F) → (⟨S1x64, .f32⟩ : BufTy).Contents (Elt F)),
    StableHlo.unary main_v134 main_v142 (broadcastInDim S1x64 ![1] bcast_S64_S1x64_1 : (⟨S64, .f32⟩ : BufTy).Contents (Elt F) → (⟨S1x64, .f32⟩ : BufTy).Contents (Elt F)),
    StableHlo.unary main_v135 main_v143 (broadcastInDim S1x64 ![1] bcast_S64_S1x64_1 : (⟨S64, .f32⟩ : BufTy).Contents (Elt F) → (⟨S1x64, .f32⟩ : BufTy).Contents (Elt F)),
    StableHlo.nary ![main_v136, main_v137, main_v138, main_v139, main_v140, main_v141, main_v142, main_v143] main_v144 (fun u => (concatenate S8x64 0 [⟨S1x64, (u 0 : (⟨S1x64, .f32⟩ : BufTy).Contents (Elt F))⟩, ⟨S1x64, (u 1 : (⟨S1x64, .f32⟩ : BufTy).Contents (Elt F))⟩, ⟨S1x64, (u 2 : (⟨S1x64, .f32⟩ : BufTy).Contents (Elt F))⟩, ⟨S1x64, (u 3 : (⟨S1x64, .f32⟩ : BufTy).Contents (Elt F))⟩, ⟨S1x64, (u 4 : (⟨S1x64, .f32⟩ : BufTy).Contents (Elt F))⟩, ⟨S1x64, (u 5 : (⟨S1x64, .f32⟩ : BufTy).Contents (Elt F))⟩, ⟨S1x64, (u 6 : (⟨S1x64, .f32⟩ : BufTy).Contents (Elt F))⟩, ⟨S1x64, (u 7 : (⟨S1x64, .f32⟩ : BufTy).Contents (Elt F))⟩] concatenates_S1x64_S1x64_S1x64_S1x64_S1x64_S1x64_S1x64_S1x64_S8x64_d0 : (⟨S8x64, .f32⟩ : BufTy).Contents (Elt F))),
    StableHlo.reshape main_arg16 main_v145 (rfl : (.f32 : EltTy) = .f32) shapeCasts_S64x64x1x1_S64x64,
    StableHlo.unary main_v145 main_v146 ((transpose S64x64 [1, 0] · transposes_S64x64_S64x64_1_0) : (⟨S64x64, .f32⟩ : BufTy).Contents (Elt F) → (⟨S64x64, .f32⟩ : BufTy).Contents (Elt F)) ]

/-- The last weights. -/
abbrev o6 : List (HloOp τ sig (Elt F)) :=
  [ StableHlo.reshape main_arg17 main_v147 (rfl : (.f32 : EltTy) = .f32) shapeCasts_S256x192x1x8_S256x192x8,
    StableHlo.unary main_v147 main_v148 ((transpose S8x192x256 [2, 1, 0] · transposes_S256x192x8_S8x192x256_2_1_0) : (⟨S256x192x8, .f32⟩ : BufTy).Contents (Elt F) → (⟨S8x192x256, .f32⟩ : BufTy).Contents (Elt F)) ]

/-- The last normalisation. -/
abbrev o7 : List (HloOp τ sig (Elt F)) :=
  [ StableHlo.unary main_v149_1 main_v150 ((extractStridedSlice S256x1 ![0, 0] · slices_S256x8_S256x1_0_0) : (⟨S256x8, .f32⟩ : BufTy).Contents (Elt F) → (⟨S256x1, .f32⟩ : BufTy).Contents (Elt F)),
    StableHlo.reshape main_v150 main_v151 (rfl : (.f32 : EltTy) = .f32) shapeCasts_S256x1_S256,
    StableHlo.nullary main_cst_31 (constant S_ .f32 0x45800000#32),
    StableHlo.unary main_cst_31 main_v152 (broadcastInDim S256 ![] bcast_S_S256 : (⟨S_, .f32⟩ : BufTy).Contents (Elt F) → (⟨S256, .f32⟩ : BufTy).Contents (Elt F)),
    StableHlo.binary main_v151 main_v152 main_v153 (Host.divf : (⟨S256, .f32⟩ : BufTy).Contents (Elt F) → (⟨S256, .f32⟩ : BufTy).Contents (Elt F) → (⟨S256, .f32⟩ : BufTy).Contents (Elt F)),
    StableHlo.unary main_v149_1 main_v154 ((extractStridedSlice S256x1 ![0, 1] · slices_S256x8_S256x1_0_1) : (⟨S256x8, .f32⟩ : BufTy).Contents (Elt F) → (⟨S256x1, .f32⟩ : BufTy).Contents (Elt F)),
    StableHlo.reshape main_v154 main_v155 (rfl : (.f32 : EltTy) = .f32) shapeCasts_S256x1_S256,
    StableHlo.nullary main_cst_32 (constant S_ .f32 0x45800000#32),
    StableHlo.unary main_cst_32 main_v156 (broadcastInDim S256 ![] bcast_S_S256 : (⟨S_, .f32⟩ : BufTy).Contents (Elt F) → (⟨S256, .f32⟩ : BufTy).Contents (Elt F)),
    StableHlo.binary main_v155 main_v156 main_v157 (Host.divf : (⟨S256, .f32⟩ : BufTy).Contents (Elt F) → (⟨S256, .f32⟩ : BufTy).Contents (Elt F) → (⟨S256, .f32⟩ : BufTy).Contents (Elt F)),
    StableHlo.binary main_v153 main_v153 main_v158 (mulf : (⟨S256, .f32⟩ : BufTy).Contents (Elt F) → (⟨S256, .f32⟩ : BufTy).Contents (Elt F) → (⟨S256, .f32⟩ : BufTy).Contents (Elt F)),
    StableHlo.binary main_v157 main_v158 main_v159 (subf : (⟨S256, .f32⟩ : BufTy).Contents (Elt F) → (⟨S256, .f32⟩ : BufTy).Contents (Elt F) → (⟨S256, .f32⟩ : BufTy).Contents (Elt F)),
    StableHlo.nullary main_cst_33 (constant S_ .f32 0x00000000#32),
    StableHlo.unary main_cst_33 main_v160 (broadcastInDim S256 ![] bcast_S_S256 : (⟨S_, .f32⟩ : BufTy).Contents (Elt F) → (⟨S256, .f32⟩ : BufTy).Contents (Elt F)),
    StableHlo.binary main_v159 main_v160 main_v161 (maximumf : (⟨S256, .f32⟩ : BufTy).Contents (Elt F) → (⟨S256, .f32⟩ : BufTy).Contents (Elt F) → (⟨S256, .f32⟩ : BufTy).Contents (Elt F)),
    StableHlo.nullary main_cst_34 (constant S_ .f32 0x3727C5AC#32),
    StableHlo.unary main_cst_34 main_v162 (broadcastInDim S256 ![] bcast_S_S256 : (⟨S_, .f32⟩ : BufTy).Contents (Elt F) → (⟨S256, .f32⟩ : BufTy).Contents (Elt F)),
    StableHlo.binary main_v161 main_v162 main_v163 (addf : (⟨S256, .f32⟩ : BufTy).Contents (Elt F) → (⟨S256, .f32⟩ : BufTy).Contents (Elt F) → (⟨S256, .f32⟩ : BufTy).Contents (Elt F)),
    StableHlo.unary main_v163 main_v164 (Host.sqrt : (⟨S256, .f32⟩ : BufTy).Contents (Elt F) → (⟨S256, .f32⟩ : BufTy).Contents (Elt F)),
    StableHlo.binary main_arg18 main_v164 main_v165 (Host.divf : (⟨S256, .f32⟩ : BufTy).Contents (Elt F) → (⟨S256, .f32⟩ : BufTy).Contents (Elt F) → (⟨S256, .f32⟩ : BufTy).Contents (Elt F)),
    StableHlo.binary main_v165 main_v153 main_v166 (mulf : (⟨S256, .f32⟩ : BufTy).Contents (Elt F) → (⟨S256, .f32⟩ : BufTy).Contents (Elt F) → (⟨S256, .f32⟩ : BufTy).Contents (Elt F)),
    StableHlo.binary main_arg19 main_v166 main_v167 (subf : (⟨S256, .f32⟩ : BufTy).Contents (Elt F) → (⟨S256, .f32⟩ : BufTy).Contents (Elt F) → (⟨S256, .f32⟩ : BufTy).Contents (Elt F)),
    StableHlo.reshape main_v165 main_v168 (rfl : (.f32 : EltTy) = .f32) shapeCasts_S256_S256x1,
    StableHlo.reshape main_v167 main_v169 (rfl : (.f32 : EltTy) = .f32) shapeCasts_S256_S256x1,
    StableHlo.nullary main_cst_35 (constant S_ .f32 0x00000000#32),
    StableHlo.unary main_cst_35 main_v170 (broadcastInDim S256x6 ![] bcast_S_S256x6 : (⟨S_, .f32⟩ : BufTy).Contents (Elt F) → (⟨S256x6, .f32⟩ : BufTy).Contents (Elt F)),
    StableHlo.nary ![main_v168, main_v169, main_v170] main_v171 (fun u => (concatenate S256x8 1 [⟨S256x1, (u 0 : (⟨S256x1, .f32⟩ : BufTy).Contents (Elt F))⟩, ⟨S256x1, (u 1 : (⟨S256x1, .f32⟩ : BufTy).Contents (Elt F))⟩, ⟨S256x6, (u 2 : (⟨S256x6, .f32⟩ : BufTy).Contents (Elt F))⟩] concatenates_S256x1_S256x1_S256x6_S256x8_d1 : (⟨S256x8, .f32⟩ : BufTy).Contents (Elt F))) ]

/-- The first result. -/
abbrev o8 : List (HloOp τ sig (Elt F)) :=
  [ StableHlo.unary main_arg3 main_v173 ((transpose S4x3x1024 [0, 2, 1] · transposes_S4x1024x3_S4x3x1024_0_2_1) : (⟨S4x1024x3, .f32⟩ : BufTy).Contents (Elt F) → (⟨S4x3x1024, .f32⟩ : BufTy).Contents (Elt F)) ]

theorem o0_tc : (o0 : List (HloOp τ sig (Elt F))).Forall fun op => op.bufs ⊆ StableHlo.tcRefs τ sig :=
  ⟨StableHlo.reshape_bufs_sub .., StableHlo.unary_bufs_sub .., StableHlo.nullary_bufs_sub .., StableHlo.unary_bufs_sub .., StableHlo.binary_bufs_sub .., StableHlo.reshape_bufs_sub .., StableHlo.unary_bufs_sub .., StableHlo.reshape_bufs_sub ..⟩
theorem o0_none : (o0 : List (HloOp τ sig (Elt F))).Forall fun op => op.fresh = ∅ :=
  ⟨rfl, rfl, rfl, rfl, rfl, rfl, rfl, rfl⟩
theorem o0_bufs : ∀ op ∈ (o0 : List (HloOp τ sig (Elt F))), op.bufs ⊆ Pipeline.ucRefs τ sig :=
  fun op h => Pipeline.sub_ucRefs op (List.forall_iff_forall_mem.mp o0_tc op h)
theorem o0_fresh : ∀ op ∈ (o0 : List (HloOp τ sig (Elt F))), op.fresh = ∅ :=
  fun op h => List.forall_iff_forall_mem.mp o0_none op h

theorem o1_tc : (o1 : List (HloOp τ sig (Elt F))).Forall fun op => op.bufs ⊆ StableHlo.tcRefs τ sig :=
  ⟨StableHlo.reshape_bufs_sub .., StableHlo.reshape_bufs_sub .., StableHlo.reshape_bufs_sub .., StableHlo.nullary_bufs_sub .., StableHlo.unary_bufs_sub .., StableHlo.binary_bufs_sub ..⟩
theorem o1_none : (o1 : List (HloOp τ sig (Elt F))).Forall fun op => op.fresh = ∅ :=
  ⟨rfl, rfl, rfl, rfl, rfl, rfl⟩
theorem o1_bufs : ∀ op ∈ (o1 : List (HloOp τ sig (Elt F))), op.bufs ⊆ Pipeline.ucRefs τ sig :=
  fun op h => Pipeline.sub_ucRefs op (List.forall_iff_forall_mem.mp o1_tc op h)
theorem o1_fresh : ∀ op ∈ (o1 : List (HloOp τ sig (Elt F))), op.fresh = ∅ :=
  fun op h => List.forall_iff_forall_mem.mp o1_none op h

theorem o2_tc : (o2 : List (HloOp τ sig (Elt F))).Forall fun op => op.bufs ⊆ StableHlo.tcRefs τ sig :=
  ⟨StableHlo.unary_bufs_sub .., StableHlo.reshape_bufs_sub .., StableHlo.reshape_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.ternary_bufs_sub .., StableHlo.nullary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.binary_bufs_sub .., StableHlo.unary_bufs_sub .., StableHlo.unary_bufs_sub .., StableHlo.unary_bufs_sub .., StableHlo.binary_bufs_sub ..⟩
theorem o2_none : (o2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem o2_bufs : ∀ op ∈ (o2 : List (HloOp τ sig (Elt F))), op.bufs ⊆ Pipeline.ucRefs τ sig :=
  fun op h => Pipeline.sub_ucRefs op (List.forall_iff_forall_mem.mp o2_tc op h)
theorem o2_fresh : ∀ op ∈ (o2 : List (HloOp τ sig (Elt F))), op.fresh = ∅ :=
  fun op h => List.forall_iff_forall_mem.mp o2_none op h

theorem o3_tc : (o3 : List (HloOp τ sig (Elt F))).Forall fun op => op.bufs ⊆ StableHlo.tcRefs τ sig :=
  ⟨StableHlo.nullary_bufs_sub .., StableHlo.unary_bufs_sub .., StableHlo.binary_bufs_sub .., StableHlo.reshape_bufs_sub .., StableHlo.reshape_bufs_sub .., StableHlo.unary_bufs_sub .., StableHlo.reshape_bufs_sub .., StableHlo.nullary_bufs_sub .., StableHlo.unary_bufs_sub .., StableHlo.binary_bufs_sub .., StableHlo.reshape_bufs_sub .., StableHlo.reshape_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.unary_bufs_sub .., StableHlo.unary_bufs_sub .., StableHlo.unary_bufs_sub .., StableHlo.binary_bufs_sub .., StableHlo.nullary_bufs_sub .., StableHlo.binary_bufs_sub .., StableHlo.binary_bufs_sub .., StableHlo.nullary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.binary_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.reshape_bufs_sub .., StableHlo.reshape_bufs_sub .., StableHlo.unary_bufs_sub .., StableHlo.reshape_bufs_sub .., StableHlo.unary_bufs_sub ..⟩
theorem o3_none : (o3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem o3_bufs : ∀ op ∈ (o3 : List (HloOp τ sig (Elt F))), op.bufs ⊆ Pipeline.ucRefs τ sig :=
  fun op h => Pipeline.sub_ucRefs op (List.forall_iff_forall_mem.mp o3_tc op h)
theorem o3_fresh : ∀ op ∈ (o3 : List (HloOp τ sig (Elt F))), op.fresh = ∅ :=
  fun op h => List.forall_iff_forall_mem.mp o3_none op h

theorem o4_tc : (o4 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub .., StableHlo.unary_bufs_sub .., StableHlo.reshape_bufs_sub ..⟩
theorem o4_none : (o4 : List (HloOp τ sig (Elt F))).Forall fun op => op.fresh = ∅ :=
  ⟨rfl, rfl, rfl, rfl, rfl, rfl, rfl⟩
theorem o4_bufs : ∀ op ∈ (o4 : List (HloOp τ sig (Elt F))), op.bufs ⊆ Pipeline.ucRefs τ sig :=
  fun op h => Pipeline.sub_ucRefs op (List.forall_iff_forall_mem.mp o4_tc op h)
theorem o4_fresh : ∀ op ∈ (o4 : List (HloOp τ sig (Elt F))), op.fresh = ∅ :=
  fun op h => List.forall_iff_forall_mem.mp o4_none op h

theorem o5_tc : (o5 : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.binary_bufs_sub .., StableHlo.unary_bufs_sub .., StableHlo.reshape_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub .., StableHlo.reshape_bufs_sub .., StableHlo.unary_bufs_sub ..⟩
theorem o5_none : (o5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem o5_bufs : ∀ op ∈ (o5 : List (HloOp τ sig (Elt F))), op.bufs ⊆ Pipeline.ucRefs τ sig :=
  fun op h => Pipeline.sub_ucRefs op (List.forall_iff_forall_mem.mp o5_tc op h)
theorem o5_fresh : ∀ op ∈ (o5 : List (HloOp τ sig (Elt F))), op.fresh = ∅ :=
  fun op h => List.forall_iff_forall_mem.mp o5_none op h

theorem o6_tc : (o6 : List (HloOp τ sig (Elt F))).Forall fun op => op.bufs ⊆ StableHlo.tcRefs τ sig :=
  ⟨StableHlo.reshape_bufs_sub .., StableHlo.unary_bufs_sub ..⟩
theorem o6_none : (o6 : List (HloOp τ sig (Elt F))).Forall fun op => op.fresh = ∅ :=
  ⟨rfl, rfl⟩
theorem o6_bufs : ∀ op ∈ (o6 : List (HloOp τ sig (Elt F))), op.bufs ⊆ Pipeline.ucRefs τ sig :=
  fun op h => Pipeline.sub_ucRefs op (List.forall_iff_forall_mem.mp o6_tc op h)
theorem o6_fresh : ∀ op ∈ (o6 : List (HloOp τ sig (Elt F))), op.fresh = ∅ :=
  fun op h => List.forall_iff_forall_mem.mp o6_none op h

theorem o7_tc : (o7 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.binary_bufs_sub .., StableHlo.reshape_bufs_sub .., StableHlo.reshape_bufs_sub .., StableHlo.nullary_bufs_sub .., StableHlo.unary_bufs_sub .., StableHlo.nary_bufs_sub ..⟩
theorem o7_none : (o7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩
theorem o7_bufs : ∀ op ∈ (o7 : List (HloOp τ sig (Elt F))), op.bufs ⊆ Pipeline.ucRefs τ sig :=
  fun op h => Pipeline.sub_ucRefs op (List.forall_iff_forall_mem.mp o7_tc op h)
theorem o7_fresh : ∀ op ∈ (o7 : List (HloOp τ sig (Elt F))), op.fresh = ∅ :=
  fun op h => List.forall_iff_forall_mem.mp o7_none op h

theorem o8_tc : (o8 : List (HloOp τ sig (Elt F))).Forall fun op => op.bufs ⊆ StableHlo.tcRefs τ sig :=
  StableHlo.unary_bufs_sub ..
theorem o8_none : (o8 : List (HloOp τ sig (Elt F))).Forall fun op => op.fresh = ∅ :=
  rfl
theorem o8_bufs : ∀ op ∈ (o8 : List (HloOp τ sig (Elt F))), op.bufs ⊆ Pipeline.ucRefs τ sig :=
  fun op h => Pipeline.sub_ucRefs op (List.forall_iff_forall_mem.mp o8_tc op h)
theorem o8_fresh : ∀ op ∈ (o8 : List (HloOp τ sig (Elt F))), op.fresh = ∅ :=
  fun op h => List.forall_iff_forall_mem.mp o8_none op h

set_option maxRecDepth 16384 in
theorem part0_eq (d : Dev nD) : main_part0 (F := F) d = (seq o0 >>= fun _ => (sc (F := F)).run d 0 >>= fun _ => (sc (F := F)).run d 1 >>= fun _ => seq o1 >>= fun _ => Prog.lift (.customCall (SparseCore.inner (Pipeline.entry 0)) ()) >>= fun _ => seq o2 >>= fun _ => pure ⟨⟩) := rfl

set_option maxRecDepth 16384 in
theorem part1_eq (d : Dev nD) : main_part1 (F := F) d = (seq o3 >>= fun _ => Prog.lift (.customCall (SparseCore.inner (Pipeline.entry 1)) ()) >>= fun _ => seq o4 >>= fun _ => pure ⟨⟩) := rfl

set_option maxRecDepth 16384 in
theorem part2_eq (d : Dev nD) : main_part2 (F := F) d = (seq o5 >>= fun _ => pure ⟨⟩) := rfl

set_option maxRecDepth 16384 in
theorem part3_eq (d : Dev nD) : main_part3 (F := F) d = (seq o6 >>= fun _ => Prog.lift (.customCall (SparseCore.inner (Pipeline.entry 2)) ()) >>= fun _ => seq o7 >>= fun _ => Prog.lift (.customCall (SparseCore.inner (Pipeline.entry 3)) ()) >>= fun _ => seq o8 >>= fun _ => pure ⟨⟩) := rfl

end Cert.Proof

end
-- ==== Proof.Main.lean ====
/-
  The whole program: the host's operations, the two gathers and the four kernels in turn, and the contents every array
  ends with.
-/
module

public import proofs.«01_k».proof.Proof.Calls
public import proofs.«01_k».proof.Proof.Host

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

open Idealize.ShloMosaic.StableHlo (held after seq)

variable (m : (ℓ : Loc nD τ sig) → Buf (Elt F) ℓ) (ρ : Dev nD → PrngReg)

/-! ## The arrays, stage by stage -/

/-- The arrays at the start, -/
def U0 (d : Dev nD) : Valuation τ sig (Elt F) := fun b => m (d, b)
/-- before the gathers, -/
def U1 (d : Dev nD) : Valuation τ sig (Elt F) := after o0 (U0 m d)
/-- the tables and row numbers then, -/
def data : Data F := ⟨fun d => U1 m d (dr main_v3), fun d => U1 m d (dr main_v5), fun d => U1 m d (dr main_v0)⟩
/-- after the first gather, -/
def U2 (d : Dev nD) : Valuation τ sig (Elt F) := Function.update (U1 m d) (dr main_v6) (gath ((data m).t0 d) ((data m).x d))
/-- after the second, -/
def U3 (d : Dev nD) : Valuation τ sig (Elt F) := Function.update (U2 m d) (dr main_v7) (gath ((data m).t1 d) ((data m).x d))
/-- before the moments, -/
def U4 (d : Dev nD) : Valuation τ sig (Elt F) := after o1 (U3 m d)
/-- after them, -/
def U5 (d : Dev nD) : Valuation τ sig (Elt F) := left (U4 m) 0 d
/-- halfway to the layers, -/
def U6 (d : Dev nD) : Valuation τ sig (Elt F) := after o2 (U5 m d)
/-- before the layers, -/
def U7 (d : Dev nD) : Valuation τ sig (Elt F) := after o3 (U6 m d)
/-- after them, -/
def U8 (d : Dev nD) : Valuation τ sig (Elt F) := left (U7 m) 1 d
/-- on the way to the transform, -/
def U9 (d : Dev nD) : Valuation τ sig (Elt F) := after o4 (U8 m d)
/-- further on, -/
def U10 (d : Dev nD) : Valuation τ sig (Elt F) := after o5 (U9 m d)
/-- before the transform, -/
def U11 (d : Dev nD) : Valuation τ sig (Elt F) := after o6 (U10 m d)
/-- after it, -/
def U12 (d : Dev nD) : Valuation τ sig (Elt F) := left (U11 m) 2 d
/-- before the last normalisation, -/
def U13 (d : Dev nD) : Valuation τ sig (Elt F) := after o7 (U12 m d)
/-- after it, -/
def U14 (d : Dev nD) : Valuation τ sig (Elt F) := left (U13 m) 3 d
/-- and at the end. -/
def U15 (d : Dev nD) : Valuation τ sig (Elt F) := after o8 (U14 m d)

theorem U2_of_ne (d : Dev nD) {b : Ref sig .tc} (h : b ≠ main_v6) : U2 m d (dr b) = U1 m d (dr b) :=
  Function.update_of_ne (fun e => h (Proc.devRef_injective _ e)) _ _

/-! ## The host's program runs -/

/-- Three arrays out of those held, the third to come back changed. -/
theorem held_call (d : Dev nD) (V : Valuation τ sig (Elt F)) {S : Finset (DevRef τ sig)} {x t o : DevRef τ sig} (hS : {x, t, o} ⊆ S)
    (h1 : x ∉ ({t, o} : Finset (DevRef τ sig))) (h2 : t ∉ ({o} : Finset (DevRef τ sig)))
    (g : Buf (Elt F) ((d, o) : Loc nD τ sig)) :
    (held (SparseCore.T d : Thread nD τ) S V : sProp 𝕄)
      ⊢ iprop((((d, x) : Loc nD τ sig) ↦{fullShare} V x) ∗ (((d, t) : Loc nD τ sig) ↦{fullShare} V t) ∗ (((d, o) : Loc nD τ sig) ↦{fullShare} V o)
          ∗ (((((d, x) : Loc nD τ sig) ↦{fullShare} V x) ∗ (((d, t) : Loc nD τ sig) ↦{fullShare} V t) ∗ (((d, o) : Loc nD τ sig) ↦{fullShare} g))
              -∗ held (SparseCore.T d : Thread nD τ) S (Function.update V o g))) := by
  have hxo : x ≠ o := fun e => h1 (by simp [e])
  have hto : t ≠ o := fun e => h2 (by simp [e])
  have e3 : ∀ W : Valuation τ sig (Elt F), (held (SparseCore.T d : Thread nD τ) {x, t, o} W : sProp 𝕄)
      = iprop((((d, x) : Loc nD τ sig) ↦{fullShare} W x) ∗ (((d, t) : Loc nD τ sig) ↦{fullShare} W t) ∗ (((d, o) : Loc nD τ sig) ↦{fullShare} W o)) := by
    intro W
    unfold StableHlo.held
    rw [SparseCore.bigSep_insert' h1, SparseCore.bigSep_insert' h2, bigSep_singleton]
  have e4 : (held (SparseCore.T d : Thread nD τ) (S \ {x, t, o}) V : sProp 𝕄)
      = held (SparseCore.T d : Thread nD τ) (S \ {x, t, o}) (Function.update V o g) :=
    StableHlo.held_congr _ fun b hb => (Function.update_of_ne (fun e => (Finset.mem_sdiff.1 hb).2 (by simp [e])) _ _).symm
  rw [StableHlo.held_sub_split _ hS V, StableHlo.held_sub_split _ hS (Function.update V o g), e3, e3, e4, Function.update_of_ne hxo, Function.update_of_ne hto,
    Function.update_self]
  iintro ⟨⟨Hx, Ht, Ho⟩, HR⟩
  isplitl [Hx]; · iexact Hx
  isplitl [Ht]; · iexact Ht
  isplitl [Ho]; · iexact Ho
  iintro H
  isplitl [H]; · iexact H
  iexact HR

/-- The first gather from the host: the arrays held, its output changed. -/
theorem hcall0 (d : Dev nD) (κ : GSem nD τ sig → ℕ) (Φ : PUnit → sProp 𝕄) :
    iprop((K (F := F)).ctx EH (P (data m)) κ ∗ (K (F := F)).tcSt EH d 0 ∗ held (SparseCore.T d : Thread nD τ) (Pipeline.ucRefs τ sig) (U1 m d)
        ∗ (((K (F := F)).tcSt EH d 1 ∗ held (SparseCore.T d : Thread nD τ) (Pipeline.ucRefs τ sig) (U2 m d)) -∗ Φ ⟨⟩))
      ⊢ wp frame (wpE ((K (F := F)).defs (D (F := F))) 𝒱 (SparseCore.T d) none) Set.univ ((K (F := F)).run d 0) Φ := by
  have hc := held_call d (U1 m d) (S := Pipeline.ucRefs τ sig) (x := dr main_v0) (t := dr main_v3) (o := dr main_v6) (by decide) (by decide) (by decide)
    (gath ((data m).t0 d) ((data m).x d))
  have hd : (bigSep Finset.univ fun c : Fin ((K (F := F)).nCore 0) => (P (data m)).dn 0 d c)
      ⊢ iprop((((d, dr main_v0) : Loc nD τ sig) ↦{fullShare} U1 m d (dr main_v0)) ∗ (((d, dr main_v3) : Loc nD τ sig) ↦{fullShare} U1 m d (dr main_v3))
          ∗ (((d, dr main_v6) : Loc nD τ sig) ↦{fullShare} gath ((data m).t0 d) ((data m).x d))) := Entails.of_eq (end0 (data m) d)
  iintro ⟨#Hctx, Hst, Hheld, Hk⟩
  ihave H := hc $$ Hheld
  icases H with ⟨Hx, Ht, Ho, Hback⟩
  iapply ((K (F := F)).wp_run (D (F := F)) 𝒱 (EH := EH) (P := P (data m)) κ d 0)
  isplitr; · iexact Hctx
  isplitl [Hst]; · iexact Hst
  isplitl [Hx Ht Ho]
  · iapply (start0 (data m) d (U1 m d (dr main_v6)))
    isplitl [Hx]; · iexact Hx
    isplitl [Ht]; · iexact Ht
    iexact Ho
  iintro ⟨Hst, Hdn⟩
  ihave Hdn := hd $$ Hdn
  ihave Hheld := Hback $$ Hdn
  iapply Hk
  isplitl [Hst]; · iexact Hst
  iexact Hheld

/-- The second. -/
theorem hcall1 (d : Dev nD) (κ : GSem nD τ sig → ℕ) (Φ : PUnit → sProp 𝕄) :
    iprop((K (F := F)).ctx EH (P (data m)) κ ∗ (K (F := F)).tcSt EH d 1 ∗ held (SparseCore.T d : Thread nD τ) (Pipeline.ucRefs τ sig) (U2 m d)
        ∗ (((K (F := F)).tcSt EH d 2 ∗ held (SparseCore.T d : Thread nD τ) (Pipeline.ucRefs τ sig) (U3 m d)) -∗ Φ ⟨⟩))
      ⊢ wp frame (wpE ((K (F := F)).defs (D (F := F))) 𝒱 (SparseCore.T d) none) Set.univ ((K (F := F)).run d 1) Φ := by
  have hc := held_call d (U2 m d) (S := Pipeline.ucRefs τ sig) (x := dr main_v0) (t := dr main_v5) (o := dr main_v7) (by decide) (by decide) (by decide)
    (gath ((data m).t1 d) ((data m).x d))
  rw [show U2 m d (dr main_v0) = U1 m d (dr main_v0) from U2_of_ne m d (by decide), show U2 m d (dr main_v5) = U1 m d (dr main_v5) from U2_of_ne m d (by decide)] at hc
  have hd : (bigSep Finset.univ fun c : Fin ((K (F := F)).nCore 1) => (P (data m)).dn 1 d c)
      ⊢ iprop((((d, dr main_v0) : Loc nD τ sig) ↦{fullShare} U1 m d (dr main_v0)) ∗ (((d, dr main_v5) : Loc nD τ sig) ↦{fullShare} U1 m d (dr main_v5))
          ∗ (((d, dr main_v7) : Loc nD τ sig) ↦{fullShare} gath ((data m).t1 d) ((data m).x d))) := Entails.of_eq (end1 (data m) d)
  iintro ⟨#Hctx, Hst, Hheld, Hk⟩
  ihave H := hc $$ Hheld
  icases H with ⟨Hx, Ht, Ho, Hback⟩
  iapply ((K (F := F)).wp_run (D (F := F)) 𝒱 (EH := EH) (P := P (data m)) κ d 1)
  isplitr; · iexact Hctx
  isplitl [Hst]; · iexact Hst
  isplitl [Hx Ht Ho]
  · iapply (start1 (data m) d (U2 m d (dr main_v7)))
    isplitl [Hx]; · iexact Hx
    isplitl [Ht]; · iexact Ht
    iexact Ho
  iintro ⟨Hst, Hdn⟩
  ihave Hdn := hd $$ Hdn
  ihave Hheld := Hback $$ Hdn
  iapply Hk
  isplitl [Hst]; · iexact Hst
  iexact Hheld

/-- What the host leaves: every array at its last contents. -/
abbrev FIN (d : Dev nD) : sProp 𝕄 := held (SparseCore.T d : Thread nD τ) (Pipeline.ucRefs τ sig) (U15 m d)

/-- The ghost state of one kernel. -/
abbrev Gp (p : Fin 4) (d : Dev nD) : sProp 𝕄 := iprop(Pipeline.cellsGhost cfgs (EP (F := F)) p d ∗ Pipeline.toksInit cfgs (EP (F := F)) p d)

theorem Gh_split (d : Dev nD) : (Gh d : sProp 𝕄) ⊢ iprop(Gp 0 d ∗ Gp 1 d ∗ Gp 2 d ∗ Gp 3 d) := by
  unfold Gh
  rw [show (Finset.univ : Finset (Fin 4)) = {0, 1, 2, 3} from rfl]
  rw [SparseCore.bigSep_insert' (by decide), SparseCore.bigSep_insert' (by decide), SparseCore.bigSep_insert' (by decide), bigSep_singleton,
    SparseCore.bigSep_insert' (by decide), SparseCore.bigSep_insert' (by decide), SparseCore.bigSep_insert' (by decide), bigSep_singleton]
  iintro ⟨⟨A0, A1, A2, A3⟩, B0, B1, B2, B3⟩
  isplitl [A0 B0]; · isplitl [A0] <;> iassumption
  isplitl [A1 B1]; · isplitl [A1] <;> iassumption
  isplitl [A2 B2]; · isplitl [A2] <;> iassumption
  isplitl [A3] <;> iassumption

/-- The host between the kernels: the boundary, both gathers done, every array at `V`. -/
abbrev At (d : Dev nD) (V : Valuation τ sig (Elt F)) : sProp 𝕄 :=
  iprop(boundary (SparseCore.T d : Thread nD τ) ∗ (K (F := F)).tcSt EH d 2 ∗ held (SparseCore.T d : Thread nD τ) (Pipeline.ucRefs τ sig) V)

/-- A list of operations from there, -/
theorem at_ops (d : Dev nD) (os : List (HloOp τ sig (Elt F))) (hb : ∀ op ∈ os, op.bufs ⊆ Pipeline.ucRefs τ sig) (hf : ∀ op ∈ os, op.fresh = ∅)
    (V : Valuation τ sig (Elt F)) {α : Type} (k : PUnit → Prog (TpuEff nD τ sig (Elt F) (SparseCore.Sig (ΛP (F := F)) 2) .tc) α) (Φ : α → sProp 𝕄) :
    iprop(At d V ∗ (At d (after os V) -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ (seq os >>= k) Φ := by
  iintro ⟨⟨Hb, Hst, Hheld⟩, Hk⟩
  iapply (StableHlo.wp_seq 𝒱 none Set.univ d (Pipeline.ucRefs τ sig) _ os hb hf V) $$ [Hb Hheld]
  · isplitl [Hb] <;> iassumption
  iintro ⟨Hb, Hheld⟩
  iapply Hk
  isplitl [Hb]; · iexact Hb
  isplitl [Hst] <;> iassumption

/-- and one kernel. -/
theorem at_kernel (V : Dev nD → Valuation τ sig (Elt F)) (p : Fin 4) (h : Fits V p) (κ : GSem nD τ sig → ℕ) (d : Dev nD)
    {α : Type} (k : PUnit → Prog (TpuEff nD τ sig (Elt F) (SparseCore.Sig (ΛP (F := F)) 2) .tc) α) (Φ : α → sProp 𝕄) :
    iprop((K (F := F)).ctx EH (P (data m)) κ ∗ Gp p d ∗ At d (V d)
        ∗ (At d (left V p d) -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ
          (Prog.lift (.customCall (SparseCore.inner (Pipeline.entry p)) ()) >>= k) Φ := by
  rw [wp_bind]
  iintro ⟨Hctx, ⟨Hg, Ht⟩, ⟨Hb, Hst, Hheld⟩, Hk⟩
  iapply (step V p h κ (data m) d)
  isplitl [Hctx]; · iexact Hctx
  isplitl [Hb]; · iexact Hb
  isplitl [Hst]; · iexact Hst
  isplitl [Hheld]; · iexact Hheld
  isplitl [Hg]; · iexact Hg
  isplitl [Ht]; · iexact Ht
  iexact Hk

/-- The host's program, from the arrays at the start to the arrays at the end. -/
theorem hmain (κ : GSem nD τ sig → ℕ) (d : Dev nD) :
    iprop((K (F := F)).ctx EH (P (data m)) κ ∗ (K (F := F)).tcSt EH d 0 ∗ (K (F := F)).tcRes m ρ d ∗ Gh d)
      ⊢ wp frame (wpE ((K (F := F)).defs (D (F := F))) 𝒱 (SparseCore.T d) none) Set.univ (main d)
          fun _ => iprop((K (F := F)).tcSt EH d 2 ∗ FIN m d ∗ (K (F := F)).tcEnd d) := by
  have eu : (unscopedBufs d (fun b => m ((SparseCore.T d).loc b)) : sProp 𝕄) = held (SparseCore.T d : Thread nD τ) (Pipeline.ucRefs τ sig) (U0 m d) :=
    Pipeline.unscopedBufs_held d (U0 m d)
  unfold SparseCore.Cfg.tcRes SparseCore.Cfg.tcEnd main
  rw [eu, part0_eq, part1_eq, part2_eq, part3_eq]
  iintro ⟨#Hctx, Hst, ⟨Hb, Hheld, Hts, -⟩, HG⟩
  ihave HG := (Gh_split d) $$ HG
  icases HG with ⟨HG0, HG1, HG2, HG3⟩
  rw [wp_bind]
  iapply (StableHlo.wp_seq 𝒱 none Set.univ d (Pipeline.ucRefs τ sig) _ o0 o0_bufs o0_fresh (U0 m d)) $$ [Hb Hheld]
  · isplitl [Hb] <;> iassumption
  iintro ⟨Hb, Hheld⟩
  rw [wp_bind]
  iapply (hcall0 m d κ)
  isplitr; · iexact Hctx
  isplitl [Hst]; · iexact Hst
  isplitl [Hheld]; · iexact Hheld
  iintro ⟨Hst, Hheld⟩
  rw [wp_bind]
  iapply (hcall1 m d κ)
  isplitr; · iexact Hctx
  isplitl [Hst]; · iexact Hst
  isplitl [Hheld]; · iexact Hheld
  iintro ⟨Hst, Hheld⟩
  iapply (at_ops d o1 o1_bufs o1_fresh (U3 m d))
  isplitl [Hb Hst Hheld]
  · isplitl [Hb]; · iexact Hb
    isplitl [Hst] <;> iassumption
  iintro H
  iapply (at_kernel m (U4 m) 0 (fits0 _) κ d)
  isplitr; · iexact Hctx
  isplitl [HG0]; · iexact HG0
  isplitl [H]; · iexact H
  iintro H
  iapply (at_ops d o2 o2_bufs o2_fresh (U5 m d))
  isplitl [H]; · iexact H
  iintro H
  rw [wp_pure]; imodintro
  rw [wp_bind]
  iapply (at_ops d o3 o3_bufs o3_fresh (U6 m d))
  isplitl [H]; · iexact H
  iintro H
  iapply (at_kernel m (U7 m) 1 (fits1 _) κ d)
  isplitr; · iexact Hctx
  isplitl [HG1]; · iexact HG1
  isplitl [H]; · iexact H
  iintro H
  iapply (at_ops d o4 o4_bufs o4_fresh (U8 m d))
  isplitl [H]; · iexact H
  iintro H
  rw [wp_pure]; imodintro
  rw [wp_bind]
  iapply (at_ops d o5 o5_bufs o5_fresh (U9 m d))
  isplitl [H]; · iexact H
  iintro H
  rw [wp_pure]; imodintro
  iapply (at_ops d o6 o6_bufs o6_fresh (U10 m d))
  isplitl [H]; · iexact H
  iintro H
  iapply (at_kernel m (U11 m) 2 (fits2 _) κ d)
  isplitr; · iexact Hctx
  isplitl [HG2]; · iexact HG2
  isplitl [H]; · iexact H
  iintro H
  iapply (at_ops d o7 o7_bufs o7_fresh (U12 m d))
  isplitl [H]; · iexact H
  iintro H
  iapply (at_kernel m (U13 m) 3 (fits3 _) κ d)
  isplitr; · iexact Hctx
  isplitl [HG3]; · iexact HG3
  isplitl [H]; · iexact H
  iintro H
  iapply (at_ops d o8 o8_bufs o8_fresh (U14 m d))
  isplitl [H]; · iexact H
  iintro H
  rw [wp_pure]; imodintro
  icases H with ⟨Hb, Hst, Hheld⟩
  isplitl [Hst]; · iexact Hst
  isplitl [Hheld]; · iexact Hheld
  isplitl [Hb] <;> iassumption

/-- What a final state is read for: every array at its last contents. -/
def fq (d : Dev nD) (s' : Phys nD τ sig (Elt F)) : Prop := ∀ b ∈ Pipeline.ucRefs τ sig, s'.mem.mem (d, b) = U15 m d b

theorem hfin (d : Dev nD) (s' : Phys nD τ sig (Elt F)) : iprop(FIN m d ∗ SI s') ⊢ (⌜fq m d s'⌝ : sProp 𝕄) := by
  have h1 : ∀ b ∈ Pipeline.ucRefs τ sig, iprop(FIN m d ∗ SI s') ⊢ (⌜s'.mem.mem (d, b) = U15 m d b⌝ : sProp 𝕄) := by
    intro b hb
    unfold FIN
    have he : (held (SparseCore.T d : Thread nD τ) (Pipeline.ucRefs τ sig) (U15 m d) : sProp 𝕄) ⊢ (((d, b) : Loc nD τ sig) ↦{fullShare} U15 m d b) :=
      bigSep_elim hb
    iintro ⟨H, HSI⟩
    ihave H := he $$ H
    ihave H := (SI_pointsTo_agree (st := s') (ℓ := (d, b)) (I := Finset.univ) (q := fullShare) (f := U15 m d b)) $$ [HSI H]
    · isplitl [HSI] <;> iassumption
    icases H with %h
    ipureintro; exact funext fun i => h i (Finset.mem_univ i)
  exact fun x hx b hb => h1 b hb x hx

/-- What the run's outcomes satisfy. -/
def QC : PUnit × MemSt nD τ sig (Elt F) → Prop := fun r => (∀ d : Dev nD, ∀ b ∈ Pipeline.ucRefs τ sig, r.2.mem (d, b) = U15 m d b) ∧ r.2.sem = fun _ => 0

/-- The program runs, and every array ends at its last contents. -/
theorem run_main [∀ e, Nonempty (Elt F e)] (hr : (data m).InRange) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (data m)) (A := ∅) facts v₀
    (fun q hq => match q with | 0 => nomatch hq | 1 => nomatch hq)
    (fun q _ => match q with | 0 => tileObl0 (data m) hr | 1 => tileObl1 (data m) hr)
    (fun q _ => match q with | 0 => SparseCore.Cfg.VecSplit.of_plain (vecSplit0 (data m)) | 1 => SparseCore.Cfg.VecSplit.of_plain (vecSplit1 (data m)))
    m ρ main Gh (FIN m) (u₀ (F := F)) (sep_elim_left.trans (hu₀ (data m))) (hmain m ρ) (fq m) (hfin m) (QC m) (fun _ h hz => ⟨h, hz⟩)

end Cert.Proof
-- ==== Proof.Values.lean ====
/-
  The values of the two programs: the host's layouts and the gather read at one entry.
-/
module

public import proofs.«01_k».proof.Proof.Grid
public import Idealize.ShloMosaic.Lib.ValueIdxCore
public import Idealize.ShloMosaic.Lib.KernelVsHost
public import Idealize.ShloMosaic.Lib.Pipeline.Value
public import Idealize.ShloMosaic.Lib.ReduceAll

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

open Idealize.ShloMosaic.ValueIdx

/-! ## Layouts read at an entry -/

section Layout

variable {α : Type}

/-- Row `v` of the flat table is row `v - 8192 b` of batch `b`. -/
theorem rows_apply (x : S4x8192x128.Idx → α) (h : S4x8192x128.ShapeCasts S32768x128) (v : ℕ) (b : Fin 4) (hl : 8192 * b.val ≤ v)
    (hu : v < 8192 * b.val + 8192) (c : Fin 128) :
    shapeCast S32768x128 x h (at2 v c) = x (ix3 b ⟨v - 8192 * b.val, by omega⟩ c) := by
  refine shapeCast_apply x h _ _ ?_
  rw [Shape.rowMajor_val_three, Shape.rowMajor_val_two]
  show (b.val * 8192 + (v - 8192 * b.val)) * 128 + c.val = v % 32768 * 128 + c.val
  have := b.isLt
  omega

/-- Flat row number `(1024 b + r) 8 + k` is the one at `(b, r, k)`. -/
theorem ids_apply (x : S4x1024x8.Idx → α) (h : S4x1024x8.ShapeCasts S1x32768) (b : Fin 4) (r : Fin 1024) (k : Fin 8) (n : Fin 32768)
    (hn : n.val = (1024 * b.val + r.val) * 8 + k.val) : shapeCast S1x32768 x h (atN n) = x (ix3 b r k) := by
  refine shapeCast_apply x h _ _ ?_
  rw [Shape.rowMajor_val_three, Shape.rowMajor_val_two]
  show (b.val * 1024 + r.val) * 8 + k.val = 0 * 32768 + n.val
  omega

/-- Entry `(q, k, c)` of the result is entry `(8 q + k, c)` of the flat rows. -/
theorem out_apply (y : S32768x128.Idx → α) (h : S32768x128.ShapeCasts S4096x8x128) (q : Fin 4096) (k : Fin 8) (c : Fin 128) :
    shapeCast S4096x8x128 y h (ix3 q k c) = y (ix2 ⟨q.val * 8 + k.val, by omega⟩ c) := by
  refine shapeCast_apply y h _ _ ?_
  rw [Shape.rowMajor_val_three, Shape.rowMajor_val_two]
  rfl

/-- Entry `(q, k, c)` of the result is the reference's at batch `q / 1024`, query `q % 1024`. -/
theorem outR_apply (y : (⟨4, ![4, 1024, 8, 128]⟩ : Shape).Idx → α) (h : (⟨4, ![4, 1024, 8, 128]⟩ : Shape).ShapeCasts S4096x8x128) (q : Fin 4096)
    (k : Fin 8) (c : Fin 128) :
    shapeCast S4096x8x128 y h (ix3 q k c) = y (ix4 ⟨q.val / 1024, by omega⟩ ⟨q.val % 1024, by omega⟩ k c) := by
  refine shapeCast_apply y h _ _ ?_
  rw [Shape.rowMajor_val_three, Shape.rowMajor_val_four]
  show ((q.val / 1024 * 1024 + q.val % 1024) * 8 + k.val) * 128 + c.val = (q.val * 8 + k.val) * 128 + c.val
  omega

/-- Every row number is one of its batch's rows. -/
def InBatch (x : S4x1024x8.Idx → BitVec 32) : Prop :=
  ∀ (b : Fin 4) (r : Fin 1024) (k : Fin 8), 8192 * b.val ≤ (x (ix3 b r k)).toNat ∧ (x (ix3 b r k)).toNat < 8192 * b.val + 8192

/-- The kernel's result at an entry: the table's row that the row number names. -/
theorem ker_apply (tb : S4x8192x128.Idx → Elt F .f32) (x : S4x1024x8.Idx → BitVec 32) (ht : S4x8192x128.ShapeCasts S32768x128)
    (hx : S4x1024x8.ShapeCasts S1x32768) (ho : S32768x128.ShapeCasts S4096x8x128) (b : Fin 4) (r : Fin 1024) (k : Fin 8) (c : Fin 128) (q : Fin 4096)
    (hq : q.val = 1024 * b.val + r.val) (hl : 8192 * b.val ≤ (x (ix3 b r k)).toNat) (hu : (x (ix3 b r k)).toNat < 8192 * b.val + 8192) :
    shapeCast S4096x8x128 (gath (F := F) (shapeCast S32768x128 tb ht) (shapeCast S1x32768 x hx)) ho (ix3 q k c)
      = tb (ix3 b ⟨(x (ix3 b r k)).toNat - 8192 * b.val, by omega⟩ c) := by
  rw [out_apply]
  show shapeCast S32768x128 tb ht (at2 (shapeCast S1x32768 x hx (atN ⟨q.val * 8 + k.val, _⟩)).toNat c) = _
  rw [ids_apply x hx b r k _ (by show q.val * 8 + k.val = _; rw [hq])]
  exact rows_apply tb ht _ b hl hu c

/-! ## The reference's gather -/

/-- The dimension numbers of a gather of rows of `C` words, batch by batch. -/
abbrev rowDims (C : ℕ) (wf : GatherDims.WF ⟨3, ![4, 8192, C]⟩ ⟨4, ![4, 1024, 8, 1]⟩ ⟨4, ![4, 1024, 8, C]⟩ [3] [1] [0] [1] [0] 3 ![1, 1, C]) :
    GatherDims ⟨3, ![4, 8192, C]⟩ ⟨4, ![4, 1024, 8, 1]⟩ ⟨4, ![4, 1024, 8, C]⟩ where
  offsetDims := [3]
  collapsedSliceDims := [1]
  operandBatchingDims := [0]
  startIndicesBatchingDims := [0]
  startIndexMap := [1]
  indexVectorDim := 3
  sliceSizes := ![1, 1, C]
  wf := wf

/-- It reads, in its own batch, the row that the index names (clamped to the table). -/
theorem gather_at (C : ℕ) (wf : GatherDims.WF ⟨3, ![4, 8192, C]⟩ ⟨4, ![4, 1024, 8, 1]⟩ ⟨4, ![4, 1024, 8, C]⟩ [3] [1] [0] [1] [0] 3 ![1, 1, C])
    (x : (⟨3, ![4, 8192, C]⟩ : Shape).Idx → α) (idx : IVec ⟨4, ![4, 1024, 8, 1]⟩ 32) (b : Fin 4) (r : Fin 1024) (k : Fin 8) (c : Fin C) :
    Host.gather (rowDims C wf) x idx (ix4 b r k c) = x (ix3 b ⟨min (idx (ix4 b r k (0 : Fin 1))).toInt.toNat 8191, by omega⟩ c) := by
  unfold Host.gather
  refine congrArg x (funext fun a => Fin.ext ?_)
  show (rowDims C wf).start (ix4 b r k c) idx a + (rowDims C wf).batchCoord (ix4 b r k c) a + (rowDims C wf).offCoord (ix4 b r k c) a = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.start_batching _ _ _ _ (show (0 : Fin 3) ∈ [(0 : Fin 3)] from List.mem_singleton.mpr rfl),
      GatherDims.offCoord_eq_zero _ _ _ (fun h => ((GatherDims.mem_sKept _ _).mp h).2 (show (0 : Fin 3) ∈ [(0 : Fin 3)] from List.mem_singleton.mpr rfl))]
    simp only [Nat.zero_add, Nat.add_zero]
    unfold GatherDims.batchCoord
    rw [dif_pos (show (0 : Fin 3) ∈ [(0 : Fin 3)] from List.mem_singleton.mpr rfl)]
    rfl
  · rw [GatherDims.batchCoord_eq_zero _ _ _ (show (1 : Fin 3) ∉ [(0 : Fin 3)] by decide),
      GatherDims.offCoord_eq_zero _ _ _ (fun h => ((GatherDims.mem_sKept _ _).mp h).1 (show (1 : Fin 3) ∈ [(1 : Fin 3)] from List.mem_singleton.mpr rfl))]
    simp only [Nat.add_zero]
    unfold GatherDims.start
    rw [dif_pos (show (1 : Fin 3) ∈ [(1 : Fin 3)] from List.mem_singleton.mpr rfl)]
    have hsi : (rowDims C wf).siIdx (ix4 b r k c) ⟨List.idxOf (1 : Fin 3) (rowDims C wf).startIndexMap,
        List.idxOf_lt_length_iff.2 (show (1 : Fin 3) ∈ [(1 : Fin 3)] from List.mem_singleton.mpr rfl)⟩ = ix4 b r k (0 : Fin 1) := by
      funext e; refine Fin.ext ?_
      match e with
      | ⟨0, _⟩ => rfl
      | ⟨1, _⟩ => rfl
      | ⟨2, _⟩ => rfl
      | ⟨3, _⟩ => rfl
    exact congrArg (fun e => min (idx e).toInt.toNat 8191) hsi
  · rw [GatherDims.batchCoord_eq_zero _ _ _ (show (2 : Fin 3) ∉ [(0 : Fin 3)] by decide)]
    unfold GatherDims.start
    rw [dif_neg (show (2 : Fin 3) ∉ [(1 : Fin 3)] by decide)]
    simp only [Nat.zero_add]
    unfold GatherDims.offCoord
    rw [dif_pos ((GatherDims.mem_sKept _ _).mpr ⟨show (2 : Fin 3) ∉ [(1 : Fin 3)] by decide, show (2 : Fin 3) ∉ [(0 : Fin 3)] by decide⟩)]
    rfl

end Layout

end Cert.Proof
-- ==== Proof.Keep.lean ====
/-
  Which arrays each stage of the program leaves alone: the host's operations write only their own results, a kernel only
  its outputs. The arguments come through every stage.
-/
module

public import proofs.«01_k».proof.Proof.Main
public import proofs.«01_k».proof.Proof.Values
public import proofs.«01_k».proof.Proof.Gen.Pre_in_range
public import proofs.«01_k».proof.Proof.Gen.Pre_in_range_finite

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

open Idealize.ShloMosaic.StableHlo (after)

variable (m : (ℓ : Loc nD τ sig) → Buf (Elt F) ℓ) (ρ : Dev nD → PrngReg) (d : Dev nD)

/-- What list 0 writes. -/
abbrev w0 : List (Ref sig .tc) :=
  [main_v0, main_v1, main_c, main_call0_v0, main_v2, main_v3, main_v4, main_v5]

theorem keep_o0 (V : Valuation τ sig (Elt F)) {b : Ref sig .tc} (h : b ∉ w0) : after o0 V (dr b) = V (dr b) :=
  StableHlo.after_of_writes_sub (W := w0) o0 _ (StableHlo.forall_writes_sub_of_map rfl) h

/-- What list 1 writes. -/
abbrev w1 : List (Ref sig .tc) :=
  [main_v8, main_v9, main_v10, main_c_0, main_call1_v0, main_v11]

theorem keep_o1 (V : Valuation τ sig (Elt F)) {b : Ref sig .tc} (h : b ∉ w1) : after o1 V (dr b) = V (dr b) :=
  StableHlo.after_of_writes_sub (W := w1) o1 _ (StableHlo.forall_writes_sub_of_map rfl) h

/-- What list 2 writes. -/
abbrev w2 : List (Ref sig .tc) :=
  [main_v13, main_v14, main_v15, main_v16, main_v17, main_v18, main_v19, main_cst, main_v20, main_cst_1, main_v21, main_v22,
    main_v23, main_v24, main_v25, main_v26, main_cst_2, main_v27, main_v28, main_cst_3, main_v29, main_cst_4, main_v30, main_v31,
    main_v32, main_v33, main_v34, main_cst_5, main_v35, main_v36, main_v37, main_cst_6, main_v38, main_v39, main_cst_7, main_v40,
    main_v41, main_v42, main_v43, main_v44, main_v45, main_v46, main_v47, main_v48, main_v49]

theorem keep_o2 (V : Valuation τ sig (Elt F)) {b : Ref sig .tc} (h : b ∉ w2) : after o2 V (dr b) = V (dr b) :=
  StableHlo.after_of_writes_sub (W := w2) o2 _ (StableHlo.forall_writes_sub_of_map rfl) h

/-- What list 3 writes. -/
abbrev w3 : List (Ref sig .tc) :=
  [main_c_8, main_call2_v0, main_v50, main_v51, main_v52, main_v53, main_v54, main_cst_9, main_v55, main_v56, main_v57, main_v58,
    main_cst_10, main_v59, main_v60, main_v61, main_v62, main_v63, main_cst_11, main_v64, main_v65, main_v66, main_v67, main_v68,
    main_v69, main_cst_12, main_v70, main_v71, main_cst_13, main_v72, main_v73, main_v74, main_cst_14, main_v75, main_v76, main_cst_15,
    main_v77, main_v78, main_v79, main_v80, main_v81, main_v82, main_v83, main_v84, main_v85, main_v86, main_c_16, main_call3_v0,
    main_v87, main_v88, main_v89, main_v90, main_v91, main_v92]

theorem keep_o3 (V : Valuation τ sig (Elt F)) {b : Ref sig .tc} (h : b ∉ w3) : after o3 V (dr b) = V (dr b) :=
  StableHlo.after_of_writes_sub (W := w3) o3 _ (StableHlo.forall_writes_sub_of_map rfl) h

/-- What list 4 writes. -/
abbrev w4 : List (Ref sig .tc) :=
  [main_v94, main_v95, main_cst_17, main_v96, main_v97, main_v98, main_v99]

theorem keep_o4 (V : Valuation τ sig (Elt F)) {b : Ref sig .tc} (h : b ∉ w4) : after o4 V (dr b) = V (dr b) :=
  StableHlo.after_of_writes_sub (W := w4) o4 _ (StableHlo.forall_writes_sub_of_map rfl) h

/-- What list 5 writes. -/
abbrev w5 : List (Ref sig .tc) :=
  [main_cst_18, main_v100, main_v101, main_v102, main_v103, main_cst_19, main_v104, main_v105, main_cst_20, main_v106, main_v107,
    main_v108, main_v109, main_v110, main_v111, main_v112, main_v113, main_cst_21, main_v114, main_v115, main_v116, main_v117,
    main_cst_22, main_v118, main_v119, main_v120, main_v121, main_cst_23, main_v122, main_v123, main_cst_24, main_v124, main_v125,
    main_v126, main_v127, main_v128, main_v129, main_c_25, main_call4_v0, main_v130, main_c_26, main_call5_v0, main_v131, main_cst_27,
    main_v132, main_cst_28, main_v133, main_cst_29, main_v134, main_cst_30, main_v135, main_v136, main_v137, main_v138, main_v139,
    main_v140, main_v141, main_v142, main_v143, main_v144, main_v145, main_v146]

theorem keep_o5 (V : Valuation τ sig (Elt F)) {b : Ref sig .tc} (h : b ∉ w5) : after o5 V (dr b) = V (dr b) :=
  StableHlo.after_of_writes_sub (W := w5) o5 _ (StableHlo.forall_writes_sub_of_map rfl) h

/-- What list 6 writes. -/
abbrev w6 : List (Ref sig .tc) :=
  [main_v147, main_v148]

theorem keep_o6 (V : Valuation τ sig (Elt F)) {b : Ref sig .tc} (h : b ∉ w6) : after o6 V (dr b) = V (dr b) :=
  StableHlo.after_of_writes_sub (W := w6) o6 _ (StableHlo.forall_writes_sub_of_map rfl) h

/-- What list 7 writes. -/
abbrev w7 : List (Ref sig .tc) :=
  [main_v150, main_v151, main_cst_31, main_v152, main_v153, main_v154, main_v155, main_cst_32, main_v156, main_v157, main_v158,
    main_v159, main_cst_33, main_v160, main_v161, main_cst_34, main_v162, main_v163, main_v164, main_v165, main_v166, main_v167,
    main_v168, main_v169, main_cst_35, main_v170, main_v171]

theorem keep_o7 (V : Valuation τ sig (Elt F)) {b : Ref sig .tc} (h : b ∉ w7) : after o7 V (dr b) = V (dr b) :=
  StableHlo.after_of_writes_sub (W := w7) o7 _ (StableHlo.forall_writes_sub_of_map rfl) h

/-- What list 8 writes. -/
abbrev w8 : List (Ref sig .tc) :=
  [main_v173]

theorem keep_o8 (V : Valuation τ sig (Elt F)) {b : Ref sig .tc} (h : b ∉ w8) : after o8 V (dr b) = V (dr b) :=
  StableHlo.after_of_writes_sub (W := w8) o8 _ (StableHlo.forall_writes_sub_of_map rfl) h

theorem keep_left0 (V : Dev nD → Valuation τ sig (Elt F)) {b : Ref sig .tc} (h : b ∉ [main_v12_0, main_v12_1]) : left V 0 d (dr b) = V d (dr b) :=
  left_keeps V (fits0 V) d b (by
    intro w hw
    revert w
    simp only [List.mem_cons, List.not_mem_nil, or_false, not_or] at h
    intro w hw
    subst hw
    fin_cases w <;> first | rfl | exact absurd rfl h.1 | exact absurd rfl h.2)

theorem keep_left1 (V : Dev nD → Valuation τ sig (Elt F)) {b : Ref sig .tc} (h : b ∉ [main_v93_0, main_v93_1, main_v93_2]) : left V 1 d (dr b) = V d (dr b) :=
  left_keeps V (fits1 V) d b (by
    intro w hw
    revert w
    simp only [List.mem_cons, List.not_mem_nil, or_false, not_or] at h
    intro w hw
    subst hw
    fin_cases w <;> first | rfl | exact absurd rfl h.1 | exact absurd rfl h.2.1 | exact absurd rfl h.2.2)

theorem keep_left2 (V : Dev nD → Valuation τ sig (Elt F)) {b : Ref sig .tc} (h : b ∉ [main_v149_0, main_v149_1]) : left V 2 d (dr b) = V d (dr b) :=
  left_keeps V (fits2 V) d b (by
    intro w hw
    revert w
    simp only [List.mem_cons, List.not_mem_nil, or_false, not_or] at h
    intro w hw
    subst hw
    fin_cases w <;> first | rfl | exact absurd rfl h.1 | exact absurd rfl h.2)

theorem keep_left3 (V : Dev nD → Valuation τ sig (Elt F)) {b : Ref sig .tc} (h : b ∉ [main_v172]) : left V 3 d (dr b) = V d (dr b) :=
  left_keeps V (fits3 V) d b (by
    intro w hw
    revert w
    simp only [List.mem_cons, List.not_mem_nil, or_false, not_or] at h
    intro w hw
    subst hw
    fin_cases w <;> first | rfl | exact absurd rfl h)

/-- An array that no stage writes. -/
theorem U15_of_args {b : Ref sig .tc} (h0 : b ∉ w0) (h1 : b ∉ w1) (h2 : b ∉ w2) (h3 : b ∉ w3) (h4 : b ∉ w4) (h5 : b ∉ w5) (h6 : b ∉ w6) (h7 : b ∉ w7)
    (h8 : b ∉ w8) (g : b ∉ [main_v6, main_v7]) (l0 : b ∉ [main_v12_0, main_v12_1]) (l1 : b ∉ [main_v93_0, main_v93_1, main_v93_2])
    (l2 : b ∉ [main_v149_0, main_v149_1]) (l3 : b ∉ [main_v172]) : U15 m d (dr b) = m ((d.tc : Thread nD τ).loc b) := by
  simp only [List.mem_cons, List.not_mem_nil, or_false, not_or] at g
  unfold U15; rw [keep_o8 _ h8]
  unfold U14; rw [keep_left3 _ _ l3]
  unfold U13; rw [keep_o7 _ h7]
  unfold U12; rw [keep_left2 _ _ l2]
  unfold U11; rw [keep_o6 _ h6]
  unfold U10; rw [keep_o5 _ h5]
  unfold U9; rw [keep_o4 _ h4]
  unfold U8; rw [keep_left1 _ _ l1]
  unfold U7; rw [keep_o3 _ h3]
  unfold U6; rw [keep_o2 _ h2]
  unfold U5; rw [keep_left0 _ _ l0]
  unfold U4; rw [keep_o1 _ h1]
  unfold U3; rw [Function.update_of_ne (fun e => g.2 (Proc.devRef_injective _ e)), U2_of_ne m d g.1]
  unfold U1; rw [keep_o0 _ h0]
  rfl

theorem U15_arg0 : U15 m d (dr main_arg0) = m ((d.tc : Thread nD τ).loc main_arg0) :=
  U15_of_args m d (by decide) (by decide) (by decide) (by decide) (by decide) (by decide) (by decide) (by decide) (by decide) (by decide) (by decide) (by decide) (by decide) (by decide)
theorem U15_arg1 : U15 m d (dr main_arg1) = m ((d.tc : Thread nD τ).loc main_arg1) :=
  U15_of_args m d (by decide) (by decide) (by decide) (by decide) (by decide) (by decide) (by decide) (by decide) (by decide) (by decide) (by decide) (by decide) (by decide) (by decide)
theorem U15_arg2 : U15 m d (dr main_arg2) = m ((d.tc : Thread nD τ).loc main_arg2) :=
  U15_of_args m d (by decide) (by decide) (by decide) (by decide) (by decide) (by decide) (by decide) (by decide) (by decide) (by decide) (by decide) (by decide) (by decide) (by decide)
theorem U15_arg3 : U15 m d (dr main_arg3) = m ((d.tc : Thread nD τ).loc main_arg3) :=
  U15_of_args m d (by decide) (by decide) (by decide) (by decide) (by decide) (by decide) (by decide) (by decide) (by decide) (by decide) (by decide) (by decide) (by decide) (by decide)
theorem U15_arg4 : U15 m d (dr main_arg4) = m ((d.tc : Thread nD τ).loc main_arg4) :=
  U15_of_args m d (by decide) (by decide) (by decide) (by decide) (by decide) (by decide) (by decide) (by decide) (by decide) (by decide) (by decide) (by decide) (by decide) (by decide)
theorem U15_arg5 : U15 m d (dr main_arg5) = m ((d.tc : Thread nD τ).loc main_arg5) :=
  U15_of_args m d (by decide) (by decide) (by decide) (by decide) (by decide) (by decide) (by decide) (by decide) (by decide) (by decide) (by decide) (by decide) (by decide) (by decide)
theorem U15_arg6 : U15 m d (dr main_arg6) = m ((d.tc : Thread nD τ).loc main_arg6) :=
  U15_of_args m d (by decide) (by decide) (by decide) (by decide) (by decide) (by decide) (by decide) (by decide) (by decide) (by decide) (by decide) (by decide) (by decide) (by decide)
theorem U15_arg7 : U15 m d (dr main_arg7) = m ((d.tc : Thread nD τ).loc main_arg7) :=
  U15_of_args m d (by decide) (by decide) (by decide) (by decide) (by decide) (by decide) (by decide) (by decide) (by decide) (by decide) (by decide) (by decide) (by decide) (by decide)
theorem U15_arg8 : U15 m d (dr main_arg8) = m ((d.tc : Thread nD τ).loc main_arg8) :=
  U15_of_args m d (by decide) (by decide) (by decide) (by decide) (by decide) (by decide) (by decide) (by decide) (by decide) (by decide) (by decide) (by decide) (by decide) (by decide)
theorem U15_arg9 : U15 m d (dr main_arg9) = m ((d.tc : Thread nD τ).loc main_arg9) :=
  U15_of_args m d (by decide) (by decide) (by decide) (by decide) (by decide) (by decide) (by decide) (by decide) (by decide) (by decide) (by decide) (by decide) (by decide) (by decide)
theorem U15_arg10 : U15 m d (dr main_arg10) = m ((d.tc : Thread nD τ).loc main_arg10) :=
  U15_of_args m d (by decide) (by decide) (by decide) (by decide) (by decide) (by decide) (by decide) (by decide) (by decide) (by decide) (by decide) (by decide) (by decide) (by decide)
theorem U15_arg11 : U15 m d (dr main_arg11) = m ((d.tc : Thread nD τ).loc main_arg11) :=
  U15_of_args m d (by decide) (by decide) (by decide) (by decide) (by decide) (by decide) (by decide) (by decide) (by decide) (by decide) (by decide) (by decide) (by decide) (by decide)
theorem U15_arg12 : U15 m d (dr main_arg12) = m ((d.tc : Thread nD τ).loc main_arg12) :=
  U15_of_args m d (by decide) (by decide) (by decide) (by decide) (by decide) (by decide) (by decide) (by decide) (by decide) (by decide) (by decide) (by decide) (by decide) (by decide)
theorem U15_arg13 : U15 m d (dr main_arg13) = m ((d.tc : Thread nD τ).loc main_arg13) :=
  U15_of_args m d (by decide) (by decide) (by decide) (by decide) (by decide) (by decide) (by decide) (by decide) (by decide) (by decide) (by decide) (by decide) (by decide) (by decide)
theorem U15_arg14 : U15 m d (dr main_arg14) = m ((d.tc : Thread nD τ).loc main_arg14) :=
  U15_of_args m d (by decide) (by decide) (by decide) (by decide) (by decide) (by decide) (by decide) (by decide) (by decide) (by decide) (by decide) (by decide) (by decide) (by decide)
theorem U15_arg15 : U15 m d (dr main_arg15) = m ((d.tc : Thread nD τ).loc main_arg15) :=
  U15_of_args m d (by decide) (by decide) (by decide) (by decide) (by decide) (by decide) (by decide) (by decide) (by decide) (by decide) (by decide) (by decide) (by decide) (by decide)
theorem U15_arg16 : U15 m d (dr main_arg16) = m ((d.tc : Thread nD τ).loc main_arg16) :=
  U15_of_args m d (by decide) (by decide) (by decide) (by decide) (by decide) (by decide) (by decide) (by decide) (by decide) (by decide) (by decide) (by decide) (by decide) (by decide)
theorem U15_arg17 : U15 m d (dr main_arg17) = m ((d.tc : Thread nD τ).loc main_arg17) :=
  U15_of_args m d (by decide) (by decide) (by decide) (by decide) (by decide) (by decide) (by decide) (by decide) (by decide) (by decide) (by decide) (by decide) (by decide) (by decide)
theorem U15_arg18 : U15 m d (dr main_arg18) = m ((d.tc : Thread nD τ).loc main_arg18) :=
  U15_of_args m d (by decide) (by decide) (by decide) (by decide) (by decide) (by decide) (by decide) (by decide) (by decide) (by decide) (by decide) (by decide) (by decide) (by decide)
theorem U15_arg19 : U15 m d (dr main_arg19) = m ((d.tc : Thread nD τ).loc main_arg19) :=
  U15_of_args m d (by decide) (by decide) (by decide) (by decide) (by decide) (by decide) (by decide) (by decide) (by decide) (by decide) (by decide) (by decide) (by decide) (by decide)

/-- The padded points, batch after batch. -/
theorem U1_v3 : U1 m d (dr main_v3) = shapeCast S32768x128 (pad S4x8192x128 ![0, 0, 0] ![0, 0, 125] ![0, 0, 0]
      (transpose S4x8192x3 [0, 2, 1] (m ((d.tc : Thread nD τ).loc main_arg1)) transposes_S4x3x8192_S4x8192x3_0_2_1) (sitofp .f32 (constantI S_ 32 0#32))
        pads_S4x8192x3_S4x8192x128_000_000_01250 h_S_) shapeCasts_S4x8192x128_S32768x128 := by
  unfold U1
  simp only [o0, StableHlo.TRef.binary, StableHlo.TRef.unary, StableHlo.TRef.toBuf, StableHlo.TRef.ofBuf, cast_eq]
  after_results_simp <;> rfl

/-- The features, batch after batch. -/
theorem U1_v5 : U1 m d (dr main_v5) = shapeCast S32768x128
      (transpose S4x8192x128 [0, 2, 1] (m ((d.tc : Thread nD τ).loc main_arg2)) transposes_S4x128x8192_S4x8192x128_0_2_1) shapeCasts_S4x8192x128_S32768x128 := by
  unfold U1
  simp only [o0, StableHlo.TRef.binary, StableHlo.TRef.unary, StableHlo.TRef.toBuf, StableHlo.TRef.ofBuf, cast_eq]
  after_results_simp <;> rfl

/-- The row numbers, in one row. -/
theorem U1_v0 : U1 m d (dr main_v0) = shapeCast S1x32768 (m ((d.tc : Thread nD τ).loc main_arg0)) shapeCasts_S4x1024x8_S1x32768 := by
  unfold U1
  simp only [o0, StableHlo.TRef.binary, StableHlo.TRef.unary, StableHlo.TRef.toBuf, StableHlo.TRef.ofBuf, cast_eq]
  after_results_simp <;> rfl

/-- Row numbers of their own batches are rows of the tables. -/
theorem inRange (hx : ∀ d : Dev nD, InBatch (m ((d.tc : Thread nD τ).loc main_arg0))) : (data m).InRange := by
  intro d j
  unfold data
  dsimp only
  rw [U1_v0]
  show (m ((d.tc : Thread nD τ).loc main_arg0) (Shape.reshapeEquiv shapeCasts_S4x1024x8_S1x32768 j)).toNat < 32768
  generalize Shape.reshapeEquiv shapeCasts_S4x1024x8_S1x32768 j = i
  rw [ValueIdx.eq_ix3 i]
  have h0 : (i 0).val < 4 := (i 0).isLt
  exact Nat.lt_of_lt_of_le (hx d (i 0) (i 1) (i 2)).2 (by omega)

/-- The kernel's run: the last normalisation's array, the query points transposed, the arguments as they were, every counter at zero. -/
theorem run_kernel [∀ e, Nonempty (Elt F e)] (hx : ∀ d : Dev nD, InBatch (m ((d.tc : Thread nD τ).loc main_arg0))) :
    θ_run (Cert.KernelIdeal.defs (F := F)) (Cert.KernelIdeal.threads (F := F)) ⟨m, fun _ => 0, ρ⟩ fun r =>
      (∀ c : Dev nD, r.2.mem ((c.tc : Thread nD τ).loc main_v173) = U15 m c (dr main_v173)
        ∧ r.2.mem ((c.tc : Thread nD τ).loc main_v172) = U15 m c (dr main_v172)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15)
        ∧ r.2.mem ((c.tc : Thread nD τ).loc main_arg16) = m ((c.tc : Thread nD τ).loc main_arg16)
        ∧ r.2.mem ((c.tc : Thread nD τ).loc main_arg17) = m ((c.tc : Thread nD τ).loc main_arg17)
        ∧ r.2.mem ((c.tc : Thread nD τ).loc main_arg18) = m ((c.tc : Thread nD τ).loc main_arg18)
        ∧ r.2.mem ((c.tc : Thread nD τ).loc main_arg19) = m ((c.tc : Thread nD τ).loc main_arg19))
      ∧ r.2.sem = fun _ => 0 := by
  refine (θ_run Cert.KernelIdeal.defs _ _).mono (fun r h => ⟨fun c => ⟨h.1 c (dr main_v173) (by decide), h.1 c (dr main_v172) (by decide),
    (h.1 c (dr main_arg0) (by decide)).trans (U15_arg0 m c),
    (h.1 c (dr main_arg1) (by decide)).trans (U15_arg1 m c),
    (h.1 c (dr main_arg2) (by decide)).trans (U15_arg2 m c),
    (h.1 c (dr main_arg3) (by decide)).trans (U15_arg3 m c),
    (h.1 c (dr main_arg4) (by decide)).trans (U15_arg4 m c),
    (h.1 c (dr main_arg5) (by decide)).trans (U15_arg5 m c),
    (h.1 c (dr main_arg6) (by decide)).trans (U15_arg6 m c),
    (h.1 c (dr main_arg7) (by decide)).trans (U15_arg7 m c),
    (h.1 c (dr main_arg8) (by decide)).trans (U15_arg8 m c),
    (h.1 c (dr main_arg9) (by decide)).trans (U15_arg9 m c),
    (h.1 c (dr main_arg10) (by decide)).trans (U15_arg10 m c),
    (h.1 c (dr main_arg11) (by decide)).trans (U15_arg11 m c),
    (h.1 c (dr main_arg12) (by decide)).trans (U15_arg12 m c),
    (h.1 c (dr main_arg13) (by decide)).trans (U15_arg13 m c),
    (h.1 c (dr main_arg14) (by decide)).trans (U15_arg14 m c),
    (h.1 c (dr main_arg15) (by decide)).trans (U15_arg15 m c),
    (h.1 c (dr main_arg16) (by decide)).trans (U15_arg16 m c),
    (h.1 c (dr main_arg17) (by decide)).trans (U15_arg17 m c),
    (h.1 c (dr main_arg18) (by decide)).trans (U15_arg18 m c),
    (h.1 c (dr main_arg19) (by decide)).trans (U15_arg19 m c)⟩, h.2⟩) (run_main m ρ (inRange m hx))

end Cert.Proof
-- ==== Proof.HostVals.lean ====
/-
  What the host computes between the calls, array by array.
-/
module

public import proofs.«01_k».proof.Proof.Main
public import proofs.«01_k».proof.Proof.Keep

@[expose] public section

set_option maxRecDepth 16384

noncomputable section

namespace Cert.Proof

open Cert.KernelIdeal Cert.KernelIdeal.Gen
open Idealize.ShloMosaic Idealize.ShloMosaic.TcCoe
open Idealize.ShloMosaic.StableHlo (after)

variable {F : FTy → Type} [FloatOps F]

/-! ## The arrays as functions of those before -/

/-- `v8`. -/
def hv8 (v6 : FVec F S32768x128 .f32) : FVec F S4096x8x128 .f32 :=
  shapeCast S4096x8x128 v6 shapeCasts_S32768x128_S4096x8x128

/-- `v11`. -/
def hv11 (arg3 : FVec F S4x1024x3 .f32) : FVec F S4096x16 .f32 :=
  pad S4096x16 ![0, 0] ![0, 13] ![0, 0] (shapeCast S4096x3 arg3 shapeCasts_S4x1024x3_S4096x3) (sitofp .f32 (constantI S_ 32 0#32)) pads_S4096x3_S4096x16_000_0130 h_S_

/-- `v18`. -/
def hv18 (v12_1 : FVec F S8x128 .f32) : FVec F S8x3 .f32 :=
  extractStridedSlice S8x3 ![0, 0] (shapeCast S8x16 (shapeCast S128 (extractStridedSlice S1x128 ![0, 0] v12_1 slices_S8x128_S1x128_0_0) shapeCasts_S1x128_S128) shapeCasts_S128_S8x16) slices_S8x16_S8x3_0_0

/-- `v16`. -/
def hv16 (v12_0 : FVec F S128x128 .f32) : FVec F S8x3x8x3 .f32 :=
  extractStridedSlice S8x3x8x3 ![0, 0, 0, 0] (shapeCast S8x16x8x16 v12_0 shapeCasts_S128x128_S8x16x8x16) slices_S8x16x8x16_S8x3x8x3_0_0_0_0

/-- `v19`. -/
def hv19 (arg4 : FVec F S64x3x1x1 .f32) : FVec F S64x3 .f32 :=
  shapeCast S64x3 arg4 shapeCasts_S64x3x1x1_S64x3

/-- `v22`. -/
def hv22 (v18 : FVec F S8x3 .f32) : FVec F S3 .f32 :=
  Host.divf (Host.reduceAdd v18 (constant S_ .f32 0x00000000#32) reducesTo_S8x3_S3_d0 h_S_) (broadcastInDim S3 ![] bcast_S_S3 (constant S_ .f32 0x47000000#32))

/-- `v31`. -/
def hv31 (v16 : FVec F S8x3x8x3 .f32) : FVec F S3x3 .f32 :=
  Host.divf (Host.reduceAdd (select (broadcastInDim S8x3x8x3 ![0, 2] bcast_S8x8_S8x3x8x3_0_2 (cmpi .eq (iotaInDim S8x8 32 0) (iotaInDim S8x8 32 1))) v16 (broadcastInDim S8x3x8x3 ![] bcast_S_S8x3x8x3 (constant S_ .f32 0x00000000#32))) (constant S_ .f32 0x00000000#32) reducesTo_S8x3x8x3_S3x3_d0_2 h_S_) (broadcastInDim S3x3 ![] bcast_S_S3x3 (constant S_ .f32 0x47000000#32))

/-- `v32`. -/
def hv32 (v19 : FVec F S64x3 .f32) (v22 : FVec F S3 .f32) : FVec F S64 .f32 :=
  Host.dotGeneral dot_S64x3_S3_S64_1_0_0_n_n_n none v19 v22

/-- `v35`. -/
def hv35 (v19 : FVec F S64x3 .f32) (v31 : FVec F S3x3 .f32) : FVec F S64 .f32 :=
  Host.reduceAdd (mulf (Host.dotGeneral dot_S64x3_S3x3_S64x3_1_0_0_1_n_n none v19 v31) v19) (constant S_ .f32 0x00000000#32) reducesTo_S64x3_S64_d1 h_S_

/-- `v43`. -/
def hv43 (arg5 : FVec F S64 .f32) (v32 : FVec F S64 .f32) (v35 : FVec F S64 .f32) : FVec F S64 .f32 :=
  Host.divf arg5 (Host.sqrt (addf (maximumf (subf v35 (mulf v32 v32)) (broadcastInDim S64 ![] bcast_S_S64 (constant S_ .f32 0x00000000#32))) (broadcastInDim S64 ![] bcast_S_S64 (constant S_ .f32 0x3727C5AC#32))))

/-- `v45`. -/
def hv45 (arg6 : FVec F S64 .f32) (v43 : FVec F S64 .f32) (v32 : FVec F S64 .f32) : FVec F S64 .f32 :=
  subf arg6 (mulf v43 v32)

/-- `v49`. -/
def hv49 (v19 : FVec F S64x3 .f32) (v43 : FVec F S64 .f32) : FVec F S3x64 .f32 :=
  mulf (transpose S3x64 [1, 0] v19 transposes_S64x3_S3x64_1_0) (broadcastInDim S3x64 ![0, 1] bcast_S1x64_S3x64_0_1 (broadcastInDim S1x64 ![1] bcast_S64_S1x64_1 v43))

/-- `v50`. -/
def hv50 (v49 : FVec F S3x64 .f32) : FVec F S16x64 .f32 :=
  pad S16x64 ![0, 0] ![13, 0] ![0, 0] v49 (sitofp .f32 (constantI S_ 32 0#32)) pads_S3x64_S16x64_0130_000 h_S_

/-- `v51`. -/
def hv51 (v45 : FVec F S64 .f32) : FVec F S1x64 .f32 :=
  shapeCast S1x64 v45 shapeCasts_S64_S1x64

/-- `v52`. -/
def hv52 (arg10 : FVec F S64x3x1x8 .f32) : FVec F S64x3x8 .f32 :=
  shapeCast S64x3x8 arg10 shapeCasts_S64x3x1x8_S64x3x8

/-- `v54`. -/
def hv54 (v52 : FVec F S64x3x8 .f32) : FVec F S64x24 .f32 :=
  shapeCast S64x24 (transpose S64x8x3 [0, 2, 1] v52 transposes_S64x3x8_S64x8x3_0_2_1) shapeCasts_S64x8x3_S64x24

/-- `v57`. -/
def hv57 (v18 : FVec F S8x3 .f32) : FVec F S24 .f32 :=
  shapeCast S24 (Host.divf v18 (broadcastInDim S8x3 ![] bcast_S_S8x3 (constant S_ .f32 0x45800000#32))) shapeCasts_S8x3_S24

/-- `v60`. -/
def hv60 (v16 : FVec F S8x3x8x3 .f32) : FVec F S24x24 .f32 :=
  Host.divf (shapeCast S24x24 v16 shapeCasts_S8x3x8x3_S24x24) (broadcastInDim S24x24 ![] bcast_S_S24x24 (constant S_ .f32 0x45800000#32))

/-- `v64`. -/
def hv64 (v54 : FVec F S64x24 .f32) (v57 : FVec F S24 .f32) : FVec F S64 .f32 :=
  Host.reduceAdd (mulf v54 (broadcastInDim S64x24 ![0, 1] bcast_S1x24_S64x24_0_1 (broadcastInDim S1x24 ![1] bcast_S24_S1x24_1 v57))) (constant S_ .f32 0x00000000#32) reducesTo_S64x24_S64_d1 h_S_

/-- `v70`. -/
def hv70 (v54 : FVec F S64x24 .f32) (v60 : FVec F S24x24 .f32) : FVec F S64x24 .f32 :=
  Host.reduceAdd (mulf (broadcastInDim S64x24x24 ![0, 1, 2] bcast_S64x24x1_S64x24x24_0_1_2 (broadcastInDim S64x24x1 ![0, 1] bcast_S64x24_S64x24x1_0_1 v54)) (broadcastInDim S64x24x24 ![0, 1, 2] bcast_S1x24x24_S64x24x24_0_1_2 (broadcastInDim S1x24x24 ![1, 2] bcast_S24x24_S1x24x24_1_2 v60))) (constant S_ .f32 0x00000000#32) reducesTo_S64x24x24_S64x24_d1 h_S_

/-- `v72`. -/
def hv72 (v70 : FVec F S64x24 .f32) (v54 : FVec F S64x24 .f32) : FVec F S64 .f32 :=
  Host.reduceAdd (mulf v70 v54) (constant S_ .f32 0x00000000#32) reducesTo_S64x24_S64_d1 h_S_

/-- `v87`. -/
def hv87 (v52 : FVec F S64x3x8 .f32) (v80 : FVec F S64 .f32) : FVec F S8x16x64 .f32 :=
  pad S8x16x64 ![0, 0, 0] ![0, 13, 0] ![0, 0, 0] (mulf (transpose S8x3x64 [2, 1, 0] v52 transposes_S64x3x8_S8x3x64_2_1_0) (broadcastInDim S8x3x64 ![0, 1, 2] bcast_S1x1x64_S8x3x64_0_1_2 (broadcastInDim S1x1x64 ![2] bcast_S64_S1x1x64_2 v80))) (sitofp .f32 (constantI S_ 32 0#32)) pads_S8x3x64_S8x16x64_000_0130_000 h_S_

/-- `v90`. -/
def hv90 (arg7 : FVec F S64x64x1x1 .f32) : FVec F S64x64 .f32 :=
  transpose S64x64 [1, 0] (shapeCast S64x64 arg7 shapeCasts_S64x64x1x1_S64x64) transposes_S64x64_S64x64_1_0

/-- `v97`. -/
def hv97 (v93_2 : FVec F S8x64 .f32) : FVec F S64 .f32 :=
  Host.divf (shapeCast S64 (extractStridedSlice S1x64 ![0, 0] v93_2 slices_S8x64_S1x64_0_0) shapeCasts_S1x64_S64) (broadcastInDim S64 ![] bcast_S_S64 (constant S_ .f32 0x47000000#32))

/-- `v99`. -/
def hv99 (v93_2 : FVec F S8x64 .f32) : FVec F S64 .f32 :=
  shapeCast S64 (extractStridedSlice S1x64 ![1, 0] v93_2 slices_S8x64_S1x64_1_0) shapeCasts_S1x64_S64

/-- `v101`. -/
def hv101 (v99 : FVec F S64 .f32) : FVec F S64 .f32 :=
  Host.divf v99 (broadcastInDim S64 ![] bcast_S_S64 (constant S_ .f32 0x47000000#32))

/-- `v115`. -/
def hv115 (v93_2 : FVec F S8x64 .f32) : FVec F S64 .f32 :=
  Host.divf (shapeCast S64 (extractStridedSlice S1x64 ![2, 0] v93_2 slices_S8x64_S1x64_2_0) shapeCasts_S1x64_S64) (broadcastInDim S64 ![] bcast_S_S64 (constant S_ .f32 0x45800000#32))

/-- `v119`. -/
def hv119 (v93_2 : FVec F S8x64 .f32) : FVec F S64 .f32 :=
  Host.divf (shapeCast S64 (extractStridedSlice S1x64 ![3, 0] v93_2 slices_S8x64_S1x64_3_0) shapeCasts_S1x64_S64) (broadcastInDim S64 ![] bcast_S_S64 (constant S_ .f32 0x45800000#32))

/-- `v144`. -/
def hv144 (v109 : FVec F S64 .f32) (v111 : FVec F S64 .f32) (v127 : FVec F S64 .f32) (v129 : FVec F S64 .f32) : FVec F S8x64 .f32 :=
  concatenate S8x64 0 [⟨S1x64, (broadcastInDim S1x64 ![1] bcast_S64_S1x64_1 (pad S64 ![0] ![0] ![0] v109 (sitofp .f32 (constantI S_ 32 0#32)) pads_S64_S64_000 h_S_))⟩, ⟨S1x64, (broadcastInDim S1x64 ![1] bcast_S64_S1x64_1 (pad S64 ![0] ![0] ![0] v111 (sitofp .f32 (constantI S_ 32 0#32)) pads_S64_S64_000 h_S_))⟩, ⟨S1x64, (broadcastInDim S1x64 ![1] bcast_S64_S1x64_1 v127)⟩, ⟨S1x64, (broadcastInDim S1x64 ![1] bcast_S64_S1x64_1 v129)⟩, ⟨S1x64, (broadcastInDim S1x64 ![1] bcast_S64_S1x64_1 (broadcastInDim S64 ![] bcast_S_S64 (constant S_ .f32 0x00000000#32)))⟩, ⟨S1x64, (broadcastInDim S1x64 ![1] bcast_S64_S1x64_1 (broadcastInDim S64 ![] bcast_S_S64 (constant S_ .f32 0x00000000#32)))⟩, ⟨S1x64, (broadcastInDim S1x64 ![1] bcast_S64_S1x64_1 (broadcastInDim S64 ![] bcast_S_S64 (constant S_ .f32 0x00000000#32)))⟩, ⟨S1x64, (broadcastInDim S1x64 ![1] bcast_S64_S1x64_1 (broadcastInDim S64 ![] bcast_S_S64 (constant S_ .f32 0x00000000#32)))⟩] concatenates_S1x64_S1x64_S1x64_S1x64_S1x64_S1x64_S1x64_S1x64_S8x64_d0

/-- `v148`. -/
def hv148 (arg17 : FVec F S256x192x1x8 .f32) : FVec F S8x192x256 .f32 :=
  transpose S8x192x256 [2, 1, 0] (shapeCast S256x192x8 arg17 shapeCasts_S256x192x1x8_S256x192x8) transposes_S256x192x8_S8x192x256_2_1_0

/-- `v153`. -/
def hv153 (v149_1 : FVec F S256x8 .f32) : FVec F S256 .f32 :=
  Host.divf (shapeCast S256 (extractStridedSlice S256x1 ![0, 0] v149_1 slices_S256x8_S256x1_0_0) shapeCasts_S256x1_S256) (broadcastInDim S256 ![] bcast_S_S256 (constant S_ .f32 0x45800000#32))

/-- `v157`. -/
def hv157 (v149_1 : FVec F S256x8 .f32) : FVec F S256 .f32 :=
  Host.divf (shapeCast S256 (extractStridedSlice S256x1 ![0, 1] v149_1 slices_S256x8_S256x1_0_1) shapeCasts_S256x1_S256) (broadcastInDim S256 ![] bcast_S_S256 (constant S_ .f32 0x45800000#32))

/-- `v165`. -/
def hv165 (arg18 : FVec F S256 .f32) (v153 : FVec F S256 .f32) (v157 : FVec F S256 .f32) : FVec F S256 .f32 :=
  Host.divf arg18 (Host.sqrt (addf (maximumf (subf v157 (mulf v153 v153)) (broadcastInDim S256 ![] bcast_S_S256 (constant S_ .f32 0x00000000#32))) (broadcastInDim S256 ![] bcast_S_S256 (constant S_ .f32 0x3727C5AC#32))))

/-- `v167`. -/
def hv167 (arg19 : FVec F S256 .f32) (v165 : FVec F S256 .f32) (v153 : FVec F S256 .f32) : FVec F S256 .f32 :=
  subf arg19 (mulf v165 v153)

/-- `v171`. -/
def hv171 (v165 : FVec F S256 .f32) (v167 : FVec F S256 .f32) : FVec F S256x8 .f32 :=
  concatenate S256x8 1 [⟨S256x1, (shapeCast S256x1 v165 shapeCasts_S256_S256x1)⟩, ⟨S256x1, (shapeCast S256x1 v167 shapeCasts_S256_S256x1)⟩, ⟨S256x6, (broadcastInDim S256x6 ![] bcast_S_S256x6 (constant S_ .f32 0x00000000#32))⟩] concatenates_S256x1_S256x1_S256x6_S256x8_d1

/-! ## They are those -/

variable (V : Valuation τ sig (Elt F))

theorem c_v8 : after o1 V (dr main_v8) = hv8 (V (dr main_v6)) := by
  simp only [o1, StableHlo.TRef.binary, StableHlo.TRef.unary, StableHlo.TRef.toBuf, StableHlo.TRef.ofBuf, cast_eq]
  after_results_simp <;> rfl

theorem c_v9 : after o1 V (dr main_v9) = hv8 (V (dr main_v7)) := by
  simp only [o1, StableHlo.TRef.binary, StableHlo.TRef.unary, StableHlo.TRef.toBuf, StableHlo.TRef.ofBuf, cast_eq]
  after_results_simp <;> rfl

theorem c_v11 : after o1 V (dr main_v11) = hv11 (V (dr main_arg3)) := by
  simp only [o1, StableHlo.TRef.binary, StableHlo.TRef.unary, StableHlo.TRef.toBuf, StableHlo.TRef.ofBuf, cast_eq]
  after_results_simp <;> rfl

theorem c_v18 : after o2 V (dr main_v18) = hv18 (V (dr main_v12_1)) := by
  simp only [o2, StableHlo.TRef.binary, StableHlo.TRef.unary, StableHlo.TRef.toBuf, StableHlo.TRef.ofBuf, cast_eq]
  after_results_simp <;> rfl

theorem c_v16 : after o2 V (dr main_v16) = hv16 (V (dr main_v12_0)) := by
  simp only [o2, StableHlo.TRef.binary, StableHlo.TRef.unary, StableHlo.TRef.toBuf, StableHlo.TRef.ofBuf, cast_eq]
  after_results_simp <;> rfl

theorem c_v19 : after o2 V (dr main_v19) = hv19 (V (dr main_arg4)) := by
  simp only [o2, StableHlo.TRef.binary, StableHlo.TRef.unary, StableHlo.TRef.toBuf, StableHlo.TRef.ofBuf, cast_eq]
  after_results_simp <;> rfl

theorem c_v22 : after o2 V (dr main_v22) = hv22 (after o2 V (dr main_v18)) := by
  simp only [o2, StableHlo.TRef.binary, StableHlo.TRef.unary, StableHlo.TRef.toBuf, StableHlo.TRef.ofBuf, cast_eq]
  after_results_simp <;> rfl

theorem c_v31 : after o2 V (dr main_v31) = hv31 (after o2 V (dr main_v16)) := by
  simp only [o2, StableHlo.TRef.binary, StableHlo.TRef.unary, StableHlo.TRef.toBuf, StableHlo.TRef.ofBuf, cast_eq]
  after_results_simp <;> rfl

theorem c_v32 : after o2 V (dr main_v32) = hv32 (after o2 V (dr main_v19)) (after o2 V (dr main_v22)) := by
  simp only [o2, StableHlo.TRef.binary, StableHlo.TRef.unary, StableHlo.TRef.toBuf, StableHlo.TRef.ofBuf, cast_eq]
  after_results_simp <;> rfl

theorem c_v35 : after o2 V (dr main_v35) = hv35 (after o2 V (dr main_v19)) (after o2 V (dr main_v31)) := by
  simp only [o2, StableHlo.TRef.binary, StableHlo.TRef.unary, StableHlo.TRef.toBuf, StableHlo.TRef.ofBuf, cast_eq]
  after_results_simp <;> rfl

theorem c_v43 : after o2 V (dr main_v43) = hv43 (V (dr main_arg5)) (after o2 V (dr main_v32)) (after o2 V (dr main_v35)) := by
  simp only [o2, StableHlo.TRef.binary, StableHlo.TRef.unary, StableHlo.TRef.toBuf, StableHlo.TRef.ofBuf, cast_eq]
  after_results_simp <;> rfl

theorem c_v45 : after o2 V (dr main_v45) = hv45 (V (dr main_arg6)) (after o2 V (dr main_v43)) (after o2 V (dr main_v32)) := by
  simp only [o2, StableHlo.TRef.binary, StableHlo.TRef.unary, StableHlo.TRef.toBuf, StableHlo.TRef.ofBuf, cast_eq]
  after_results_simp <;> rfl

theorem c_v49 : after o2 V (dr main_v49) = hv49 (after o2 V (dr main_v19)) (after o2 V (dr main_v43)) := by
  simp only [o2, StableHlo.TRef.binary, StableHlo.TRef.unary, StableHlo.TRef.toBuf, StableHlo.TRef.ofBuf, cast_eq]
  after_results_simp <;> rfl

theorem c_v50 : after o3 V (dr main_v50) = hv50 (V (dr main_v49)) := by
  simp only [o3, StableHlo.TRef.binary, StableHlo.TRef.unary, StableHlo.TRef.toBuf, StableHlo.TRef.ofBuf, cast_eq]
  after_results_simp <;> rfl

theorem c_v51 : after o3 V (dr main_v51) = hv51 (V (dr main_v45)) := by
  simp only [o3, StableHlo.TRef.binary, StableHlo.TRef.unary, StableHlo.TRef.toBuf, StableHlo.TRef.ofBuf, cast_eq]
  after_results_simp <;> rfl

theorem c_v52 : after o3 V (dr main_v52) = hv52 (V (dr main_arg10)) := by
  simp only [o3, StableHlo.TRef.binary, StableHlo.TRef.unary, StableHlo.TRef.toBuf, StableHlo.TRef.ofBuf, cast_eq]
  after_results_simp <;> rfl

theorem c_v54 : after o3 V (dr main_v54) = hv54 (after o3 V (dr main_v52)) := by
  simp only [o3, StableHlo.TRef.binary, StableHlo.TRef.unary, StableHlo.TRef.toBuf, StableHlo.TRef.ofBuf, cast_eq]
  after_results_simp <;> rfl

theorem c_v57 : after o3 V (dr main_v57) = hv57 (V (dr main_v18)) := by
  simp only [o3, StableHlo.TRef.binary, StableHlo.TRef.unary, StableHlo.TRef.toBuf, StableHlo.TRef.ofBuf, cast_eq]
  after_results_simp <;> rfl

theorem c_v60 : after o3 V (dr main_v60) = hv60 (V (dr main_v16)) := by
  simp only [o3, StableHlo.TRef.binary, StableHlo.TRef.unary, StableHlo.TRef.toBuf, StableHlo.TRef.ofBuf, cast_eq]
  after_results_simp <;> rfl

theorem c_v64 : after o3 V (dr main_v64) = hv64 (after o3 V (dr main_v54)) (after o3 V (dr main_v57)) := by
  simp only [o3, StableHlo.TRef.binary, StableHlo.TRef.unary, StableHlo.TRef.toBuf, StableHlo.TRef.ofBuf, cast_eq]
  after_results_simp <;> rfl

theorem c_v70 : after o3 V (dr main_v70) = hv70 (after o3 V (dr main_v54)) (after o3 V (dr main_v60)) := by
  simp only [o3, StableHlo.TRef.binary, StableHlo.TRef.unary, StableHlo.TRef.toBuf, StableHlo.TRef.ofBuf, cast_eq]
  after_results_simp <;> rfl

theorem c_v72 : after o3 V (dr main_v72) = hv72 (after o3 V (dr main_v70)) (after o3 V (dr main_v54)) := by
  simp only [o3, StableHlo.TRef.binary, StableHlo.TRef.unary, StableHlo.TRef.toBuf, StableHlo.TRef.ofBuf, cast_eq]
  after_results_simp <;> rfl

theorem c_v80 : after o3 V (dr main_v80) = hv43 (V (dr main_arg11)) (after o3 V (dr main_v64)) (after o3 V (dr main_v72)) := by
  simp only [o3, StableHlo.TRef.binary, StableHlo.TRef.unary, StableHlo.TRef.toBuf, StableHlo.TRef.ofBuf, cast_eq]
  after_results_simp <;> rfl

theorem c_v82 : after o3 V (dr main_v82) = hv45 (V (dr main_arg12)) (after o3 V (dr main_v80)) (after o3 V (dr main_v64)) := by
  simp only [o3, StableHlo.TRef.binary, StableHlo.TRef.unary, StableHlo.TRef.toBuf, StableHlo.TRef.ofBuf, cast_eq]
  after_results_simp <;> rfl

theorem c_v87 : after o3 V (dr main_v87) = hv87 (after o3 V (dr main_v52)) (after o3 V (dr main_v80)) := by
  simp only [o3, StableHlo.TRef.binary, StableHlo.TRef.unary, StableHlo.TRef.toBuf, StableHlo.TRef.ofBuf, cast_eq]
  after_results_simp <;> rfl

theorem c_v88 : after o3 V (dr main_v88) = hv51 (after o3 V (dr main_v82)) := by
  simp only [o3, StableHlo.TRef.binary, StableHlo.TRef.unary, StableHlo.TRef.toBuf, StableHlo.TRef.ofBuf, cast_eq]
  after_results_simp <;> rfl

theorem c_v90 : after o3 V (dr main_v90) = hv90 (V (dr main_arg7)) := by
  simp only [o3, StableHlo.TRef.binary, StableHlo.TRef.unary, StableHlo.TRef.toBuf, StableHlo.TRef.ofBuf, cast_eq]
  after_results_simp <;> rfl

theorem c_v92 : after o3 V (dr main_v92) = hv90 (V (dr main_arg13)) := by
  simp only [o3, StableHlo.TRef.binary, StableHlo.TRef.unary, StableHlo.TRef.toBuf, StableHlo.TRef.ofBuf, cast_eq]
  after_results_simp <;> rfl

theorem c_v97 : after o4 V (dr main_v97) = hv97 (V (dr main_v93_2)) := by
  simp only [o4, StableHlo.TRef.binary, StableHlo.TRef.unary, StableHlo.TRef.toBuf, StableHlo.TRef.ofBuf, cast_eq]
  after_results_simp <;> rfl

theorem c_v99 : after o4 V (dr main_v99) = hv99 (V (dr main_v93_2)) := by
  simp only [o4, StableHlo.TRef.binary, StableHlo.TRef.unary, StableHlo.TRef.toBuf, StableHlo.TRef.ofBuf, cast_eq]
  after_results_simp <;> rfl

theorem c_v101 : after o5 V (dr main_v101) = hv101 (V (dr main_v99)) := by
  simp only [o5, StableHlo.TRef.binary, StableHlo.TRef.unary, StableHlo.TRef.toBuf, StableHlo.TRef.ofBuf, cast_eq]
  after_results_simp <;> rfl

theorem c_v109 : after o5 V (dr main_v109) = hv43 (V (dr main_arg8)) (V (dr main_v97)) (after o5 V (dr main_v101)) := by
  simp only [o5, StableHlo.TRef.binary, StableHlo.TRef.unary, StableHlo.TRef.toBuf, StableHlo.TRef.ofBuf, cast_eq]
  after_results_simp <;> rfl

theorem c_v111 : after o5 V (dr main_v111) = hv45 (V (dr main_arg9)) (after o5 V (dr main_v109)) (V (dr main_v97)) := by
  simp only [o5, StableHlo.TRef.binary, StableHlo.TRef.unary, StableHlo.TRef.toBuf, StableHlo.TRef.ofBuf, cast_eq]
  after_results_simp <;> rfl

theorem c_v115 : after o5 V (dr main_v115) = hv115 (V (dr main_v93_2)) := by
  simp only [o5, StableHlo.TRef.binary, StableHlo.TRef.unary, StableHlo.TRef.toBuf, StableHlo.TRef.ofBuf, cast_eq]
  after_results_simp <;> rfl

theorem c_v119 : after o5 V (dr main_v119) = hv119 (V (dr main_v93_2)) := by
  simp only [o5, StableHlo.TRef.binary, StableHlo.TRef.unary, StableHlo.TRef.toBuf, StableHlo.TRef.ofBuf, cast_eq]
  after_results_simp <;> rfl

theorem c_v127 : after o5 V (dr main_v127) = hv43 (V (dr main_arg14)) (after o5 V (dr main_v115)) (after o5 V (dr main_v119)) := by
  simp only [o5, StableHlo.TRef.binary, StableHlo.TRef.unary, StableHlo.TRef.toBuf, StableHlo.TRef.ofBuf, cast_eq]
  after_results_simp <;> rfl

theorem c_v129 : after o5 V (dr main_v129) = hv45 (V (dr main_arg15)) (after o5 V (dr main_v127)) (after o5 V (dr main_v115)) := by
  simp only [o5, StableHlo.TRef.binary, StableHlo.TRef.unary, StableHlo.TRef.toBuf, StableHlo.TRef.ofBuf, cast_eq]
  after_results_simp <;> rfl

theorem c_v144 : after o5 V (dr main_v144) = hv144 (after o5 V (dr main_v109)) (after o5 V (dr main_v111)) (after o5 V (dr main_v127)) (after o5 V (dr main_v129)) := by
  simp only [o5, StableHlo.TRef.binary, StableHlo.TRef.unary, StableHlo.TRef.toBuf, StableHlo.TRef.ofBuf, cast_eq]
  after_results_simp <;> rfl

theorem c_v146 : after o5 V (dr main_v146) = hv90 (V (dr main_arg16)) := by
  simp only [o5, StableHlo.TRef.binary, StableHlo.TRef.unary, StableHlo.TRef.toBuf, StableHlo.TRef.ofBuf, cast_eq]
  after_results_simp <;> rfl

theorem c_v148 : after o6 V (dr main_v148) = hv148 (V (dr main_arg17)) := by
  simp only [o6, StableHlo.TRef.binary, StableHlo.TRef.unary, StableHlo.TRef.toBuf, StableHlo.TRef.ofBuf, cast_eq]
  after_results_simp <;> rfl

theorem c_v153 : after o7 V (dr main_v153) = hv153 (V (dr main_v149_1)) := by
  simp only [o7, StableHlo.TRef.binary, StableHlo.TRef.unary, StableHlo.TRef.toBuf, StableHlo.TRef.ofBuf, cast_eq]
  after_results_simp <;> rfl

theorem c_v157 : after o7 V (dr main_v157) = hv157 (V (dr main_v149_1)) := by
  simp only [o7, StableHlo.TRef.binary, StableHlo.TRef.unary, StableHlo.TRef.toBuf, StableHlo.TRef.ofBuf, cast_eq]
  after_results_simp <;> rfl

theorem c_v165 : after o7 V (dr main_v165) = hv165 (V (dr main_arg18)) (after o7 V (dr main_v153)) (after o7 V (dr main_v157)) := by
  simp only [o7, StableHlo.TRef.binary, StableHlo.TRef.unary, StableHlo.TRef.toBuf, StableHlo.TRef.ofBuf, cast_eq]
  after_results_simp <;> rfl

theorem c_v167 : after o7 V (dr main_v167) = hv167 (V (dr main_arg19)) (after o7 V (dr main_v165)) (after o7 V (dr main_v153)) := by
  simp only [o7, StableHlo.TRef.binary, StableHlo.TRef.unary, StableHlo.TRef.toBuf, StableHlo.TRef.ofBuf, cast_eq]
  after_results_simp <;> rfl

theorem c_v171 : after o7 V (dr main_v171) = hv171 (after o7 V (dr main_v165)) (after o7 V (dr main_v167)) := by
  simp only [o7, StableHlo.TRef.binary, StableHlo.TRef.unary, StableHlo.TRef.toBuf, StableHlo.TRef.ofBuf, cast_eq]
  after_results_simp <;> rfl

end Cert.Proof
-- ==== Proof.Net.lean ====
/-
  The convolution over the reals: what both programs compute once the rows are gathered. The normalisation over a finite
  family, its two spellings (from the deviations, from the moments), and the chain of layers.
-/
module

public import Idealize.ShloMosaic.PureOps
public import Idealize.ShloMosaic.Lib.Pointwise
public import Mathlib.Analysis.SpecialFunctions.Pow.Real
public import Mathlib.Tactic.FieldSimp
public import Mathlib.Tactic.Linarith

@[expose] public section

noncomputable section

namespace Cert.Proof

open Idealize.ShloMosaic

/-! ## Constants -/

/-- The normalisations' small term, as the word nearest 1e-5 has it. -/
def eps : ℝ := 10995116 / 2 ^ 40
/-- The activation's outer factor -/
def sc : ℝ := 8813919 / 2 ^ 23
/-- and its inner one. -/
def al : ℝ := 14036349 / 2 ^ 23

theorem eps_pos : 0 < eps := by unfold eps; positivity

theorem eps_f32 : Ideal.ofBits .f32 0x3727C5AC#32 = (eps : EReal) := by
  simp [Ideal.ofBits, Ideal.ieee, eps]; norm_num; rw [← EReal.coe_mul]; norm_num
theorem sc_f32 : Ideal.ofBits .f32 0x3F867D5F#32 = (sc : EReal) := by
  simp [Ideal.ofBits, Ideal.ieee, sc]; norm_num; rw [← EReal.coe_mul]; norm_num
theorem al_f32 : Ideal.ofBits .f32 0x3FD62D7D#32 = (al : EReal) := by
  simp [Ideal.ofBits, Ideal.ieee, al]; norm_num; rw [← EReal.coe_mul]; norm_num
theorem n15_f32 : Ideal.ofBits .f32 0x47000000#32 = ((32768 : ℝ) : EReal) := by
  simp [Ideal.ofBits, Ideal.ieee]; norm_num; rw [← EReal.coe_mul]; norm_num
theorem n12_f32 : Ideal.ofBits .f32 0x45800000#32 = ((4096 : ℝ) : EReal) := by
  simp [Ideal.ofBits, Ideal.ieee]; norm_num; rw [← EReal.coe_mul]; norm_num
theorem one_f32 : Ideal.ofBits .f32 0x3F800000#32 = ((1 : ℝ) : EReal) := by
  simp [Ideal.ofBits, Ideal.ieee]; norm_num; rw [← EReal.coe_mul]; norm_num
theorem zero_f32 : Ideal.ofBits .f32 0x00000000#32 = ((0 : ℝ) : EReal) := by
  simp [Ideal.ofBits, Ideal.ieee]

/-! ## Operations on real numbers among the extended ones -/

theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem div_real (x : ℝ) {y : ℝ} (h : y ≠ 0) : Ideal.div (x : EReal) (y : EReal) = ((x / y : ℝ) : EReal) := by
  rw [Ideal.div_coe h, ← EReal.coe_mul, mul_one_div]

theorem sqrt_real {r : ℝ} (h : 0 ≤ r) : Ideal.sqrt (r : EReal) = (Real.sqrt r : EReal) := by
  rw [Ideal.sqrt_coe, if_neg (not_lt.2 h)]

theorem max_real (a b : ℝ) : max (a : EReal) (b : EReal) = ((max a b : ℝ) : EReal) := (EReal.coe_strictMono.monotone.map_max).symm

theorem exp_real (r : ℝ) : Ideal.exp (r : EReal) = (Real.exp r : EReal) := Ideal.exp_coe r

/-! ## The activation -/

/-- The activation. -/
def selu (v : ℝ) : ℝ := sc * (if 0 < v then v else al * (Real.exp v - 1))

/-- As the reference spells it: the branch not taken is taken of zero. -/
theorem selu_host (v : ℝ) :
    (sc : EReal) * (if (0 : EReal) < (v : EReal) then (v : EReal) else (al : EReal) * (Ideal.exp (if (0 : EReal) < (v : EReal) then ((0 : ℝ) : EReal) else (v : EReal)) - 1))
      = (selu v : EReal) := by
  unfold selu
  have h0 : ((0 : EReal) < (v : EReal)) ↔ 0 < v := by rw [← EReal.coe_zero]; exact EReal.coe_lt_coe_iff
  by_cases h : 0 < v
  · rw [if_pos (h0.2 h), if_pos h, EReal.coe_mul]
  · rw [if_neg (fun e => h (h0.1 e)), if_neg (fun e => h (h0.1 e)), if_neg h, exp_real, ← EReal.coe_one, ← EReal.coe_sub, ← EReal.coe_mul, ← EReal.coe_mul]

/-- As the kernel spells it. -/
theorem selu_kernel (v : ℝ) :
    (sc : EReal) * (if (0 : EReal) < (v : EReal) then (v : EReal) else (al : EReal) * (Ideal.exp (v : EReal) - 1)) = (selu v : EReal) := by
  unfold selu
  have h0 : ((0 : EReal) < (v : EReal)) ↔ 0 < v := by rw [← EReal.coe_zero]; exact EReal.coe_lt_coe_iff
  by_cases h : 0 < v
  · rw [if_pos (h0.2 h), if_pos h, EReal.coe_mul]
  · rw [if_neg (fun e => h (h0.1 e)), if_neg h, exp_real, ← EReal.coe_one, ← EReal.coe_sub, ← EReal.coe_mul, ← EReal.coe_mul]

/-- The activation of an extended real number, -/
def seluX (v : EReal) : EReal := (sc : EReal) * (if 0 < v then v else (al : EReal) * (Ideal.exp v - 1))

/-- as the reference spells it. -/
theorem seluX_host (v : EReal) :
    (sc : EReal) * (if 0 < v then v else (al : EReal) * (Ideal.exp (if 0 < v then ((0 : ℝ) : EReal) else v) - 1)) = seluX v := by
  unfold seluX
  split_ifs <;> rfl

/-! ## The normalisation over a finite family -/

section Norm

variable {ι : Type*} [Fintype ι] [Nonempty ι]

/-- The mean, -/
def mean (f : ι → ℝ) : ℝ := (∑ i, f i) / (Fintype.card ι : ℝ)
/-- the variance, from the deviations, -/
def var (f : ι → ℝ) : ℝ := (∑ i, (f i - mean f) * (f i - mean f)) / (Fintype.card ι : ℝ)
/-- and the family normalised, scaled and shifted. -/
def norm (f : ι → ℝ) (g b : ℝ) (i : ι) : ℝ := g * (f i - mean f) / Real.sqrt (var f + eps) + b

/-- The variance from the moments: of the sum `s` and the sum of squares `q` of `n` numbers. -/
def mvar (n s q : ℝ) : ℝ := max (q / n - s / n * (s / n)) 0
/-- The factor -/
def fac (n s q g : ℝ) : ℝ := g / Real.sqrt (mvar n s q + eps)
/-- and the offset that a layer's normalisation comes to. -/
def off (n s q g b : ℝ) : ℝ := b - fac n s q g * (s / n)

theorem card_pos' : (0 : ℝ) < (Fintype.card ι : ℝ) := Nat.cast_pos.2 Fintype.card_pos

theorem var_nonneg (f : ι → ℝ) : 0 ≤ var f :=
  div_nonneg (Finset.sum_nonneg fun i _ => mul_self_nonneg _) (Nat.cast_nonneg _)

theorem mvar_nonneg (n s q : ℝ) : 0 ≤ mvar n s q := le_max_right _ _

theorem var_eq (f : ι → ℝ) : var f = (∑ i, f i * f i) / (Fintype.card ι : ℝ) - mean f * mean f := by
  have hn : (Fintype.card ι : ℝ) ≠ 0 := card_pos'.ne'
  have e : ∑ i, (f i - mean f) * (f i - mean f) = ∑ i, f i * f i - 2 * mean f * ∑ i, f i + (Fintype.card ι : ℝ) * (mean f * mean f) := by
    rw [Finset.mul_sum, ← Finset.sum_sub_distrib]
    rw [show (Fintype.card ι : ℝ) * (mean f * mean f) = ∑ _i : ι, mean f * mean f by simp]
    rw [← Finset.sum_add_distrib]
    exact Finset.sum_congr rfl fun i _ => by ring
  unfold var
  rw [e]
  have hs : ∑ i, f i = (Fintype.card ι : ℝ) * mean f := by unfold mean; field_simp
  rw [hs]
  field_simp
  ring

/-- The variance from the moments is the variance. -/
theorem mvar_eq (f : ι → ℝ) : mvar (Fintype.card ι) (∑ i, f i) (∑ i, f i * f i) = var f := by
  unfold mvar
  have e : (∑ i, f i * f i) / (Fintype.card ι : ℝ) - (∑ i, f i) / (Fintype.card ι : ℝ) * ((∑ i, f i) / (Fintype.card ι : ℝ)) = var f := (var_eq f).symm
  rw [e, max_eq_left (var_nonneg f)]

/-- The normalisation as a factor and an offset from the moments. -/
theorem norm_eq (f : ι → ℝ) (g b : ℝ) (i : ι) {n s q : ℝ} (hn : n = Fintype.card ι) (hs : s = ∑ i, f i) (hq : q = ∑ i, f i * f i) :
    norm f g b i = f i * fac n s q g + off n s q g b := by
  subst hn hs hq
  unfold norm off fac
  rw [mvar_eq, show (∑ i, f i) / (Fintype.card ι : ℝ) = mean f from rfl]
  ring

/-- A linear layer's sum -/
theorem sum_lin {κ : Type*} [Fintype κ] (p : ι → κ → ℝ) (W : κ → ℝ) : ∑ i, ∑ a, p i a * W a = ∑ a, W a * ∑ i, p i a := by
  rw [Finset.sum_comm]
  refine Finset.sum_congr rfl fun a _ => ?_
  rw [Finset.mul_sum]
  exact Finset.sum_congr rfl fun i _ => mul_comm _ _

/-- and sum of squares from its inputs' first and second moments. -/
theorem sq_lin {κ : Type*} [Fintype κ] (p : ι → κ → ℝ) (W : κ → ℝ) :
    ∑ i, (∑ a, p i a * W a) * (∑ a, p i a * W a) = ∑ b, (∑ a, W a * ∑ i, p i a * p i b) * W b := by
  simp only [Finset.sum_mul, Finset.mul_sum]
  rw [Finset.sum_comm]
  conv_rhs => rw [Finset.sum_congr rfl fun b _ => Finset.sum_comm]
  rw [Finset.sum_comm]
  conv_rhs => rw [Finset.sum_comm]
  refine Finset.sum_congr rfl fun i _ => ?_
  rw [Finset.sum_comm]
  refine Finset.sum_congr rfl fun b _ => Finset.sum_congr rfl fun a _ => by ring

end Norm

/-! ## The layers -/

/-- The gathered rows and the weights. -/
structure Net where
  ph : Fin 4096 → Fin 8 → Fin 3 → ℝ
  xs : Fin 4096 → Fin 8 → Fin 128 → ℝ
  W1 : Fin 64 → Fin 3 → ℝ
  g1 : Fin 64 → ℝ
  b1 : Fin 64 → ℝ
  W2 : Fin 64 → Fin 64 → ℝ
  g2 : Fin 64 → ℝ
  b2 : Fin 64 → ℝ
  Wt1 : Fin 64 → Fin 3 → Fin 8 → ℝ
  gt1 : Fin 64 → ℝ
  bt1 : Fin 64 → ℝ
  Wt2 : Fin 64 → Fin 64 → ℝ
  gt2 : Fin 64 → ℝ
  bt2 : Fin 64 → ℝ
  Wt3 : Fin 64 → Fin 64 → ℝ
  Wf : Fin 256 → Fin 192 → Fin 8 → ℝ
  gf : Fin 256 → ℝ
  bf : Fin 256 → EReal

namespace Net

variable (N : Net)

/-- The points' first layer, -/
def h1 (o : Fin 64) (i : Fin 4096 × Fin 8) : ℝ := ∑ a, N.ph i.1 i.2 a * N.W1 o a
/-- normalised; -/
def n1 (o : Fin 64) : Fin 4096 × Fin 8 → ℝ := norm (N.h1 o) (N.g1 o) (N.b1 o)
/-- their second, -/
def h2 (o : Fin 64) (i : Fin 4096 × Fin 8) : ℝ := ∑ c, selu (N.n1 c i) * N.W2 o c
/-- normalised. -/
def n2 (o : Fin 64) : Fin 4096 × Fin 8 → ℝ := norm (N.h2 o) (N.g2 o) (N.b2 o)
/-- The transform's first layer, -/
def t1 (o : Fin 64) (r : Fin 4096) : ℝ := ∑ k, ∑ a, N.ph r k a * N.Wt1 o a k
/-- normalised; -/
def u1 (o : Fin 64) : Fin 4096 → ℝ := norm (N.t1 o) (N.gt1 o) (N.bt1 o)
/-- its second, -/
def t2 (o : Fin 64) (r : Fin 4096) : ℝ := ∑ c, selu (N.u1 c r) * N.Wt2 o c
/-- normalised; -/
def u2 (o : Fin 64) : Fin 4096 → ℝ := norm (N.t2 o) (N.gt2 o) (N.bt2 o)
/-- and its third. -/
def t3 (o : Fin 64) (r : Fin 4096) : ℝ := ∑ c, selu (N.u2 c r) * N.Wt3 o c
/-- The points' features beside the gathered ones, -/
def xh (r : Fin 4096) (k : Fin 8) (c : Fin 192) : ℝ := if h : c.val < 64 then selu (N.n2 ⟨c.val, h⟩ (r, k)) else N.xs r k ⟨c.val - 64, by omega⟩
/-- transformed, -/
def xm (r : Fin 4096) (i : Fin 8) (c : Fin 192) : ℝ := ∑ j : Fin 8, N.t3 ⟨i.val * 8 + j.val, by omega⟩ r * N.xh r j c
/-- through the last layer, -/
def fin (o : Fin 256) (r : Fin 4096) : ℝ := ∑ k, ∑ c, N.xm r k c * N.Wf o c k
/-- normalised without its shift, -/
def nf (o : Fin 256) : Fin 4096 → ℝ := norm (N.fin o) (N.gf o) 0
/-- shifted and activated. -/
def out (o : Fin 256) (r : Fin 4096) : EReal := seluX ((N.nf o r : EReal) + N.bf o)

end Net

end Cert.Proof
-- ==== Proof.HostReal.lean ====
/-
  The host's arrays between the calls, entry by entry, on real numbers.
-/
module

public import proofs.«01_k».proof.Proof.HostVals
public import proofs.«01_k».proof.Proof.Net
public import Idealize.ShloMosaic.Lib.Pointwise

@[expose] public section

set_option maxRecDepth 16384

noncomputable section

namespace Cert.Proof

open Cert.KernelIdeal Cert.KernelIdeal.Gen
open Idealize.ShloMosaic Idealize.ShloMosaic.TcCoe

theorem zero_int : (FloatOps.sitofp (F := Ideal) FTy.f32 (0#32) : EReal) = ((0 : ℝ) : EReal) := by
  show (((0#32).toInt : ℝ) : EReal) = ((0 : ℝ) : EReal)
  simp

theorem max_zero_real (a : ℝ) : max (a : EReal) 0 = ((max a 0 : ℝ) : EReal) := by
  rw [← max_real, EReal.coe_zero]

/-- The sum over the first and third axes. -/
theorem sum02 (h : S8x3x8x3.ReducesTo [0, 2] S3x3) (X : S8x3x8x3.Idx → EReal) (a b : Fin 3) :
    Ideal.hostReduceAdd h X 0 (ix2 a b) = ∑ i : Fin 8 × Fin 8, X (ix4 i.1 a i.2 b) := by
  unfold Ideal.hostReduceAdd
  rw [zero_add]
  refine Finset.sum_filter_eq_sum_of_fiber _ (fun p : Fin 8 × Fin 8 => ix4 p.1 a p.2 b) (fun a b e => Prod.ext (congrFun e 0) (congrFun e 2)) (fun i => ?_) X
  have h0 : (h.drop i 0).val = (i 1).val := rfl
  have h1 : (h.drop i 1).val = (i 3).val := rfl
  constructor
  · intro e
    refine ⟨(i 0, i 2), ?_⟩
    rw [ValueIdx.eq_ix4 i]
    have e0 : (i 1) = a := Fin.ext (h0.symm.trans (congrArg (fun f => (f 0).val) e))
    have e1 : (i 3) = b := Fin.ext (h1.symm.trans (congrArg (fun f => (f 1).val) e))
    rw [← e0, ← e1]
    rfl
  · rintro ⟨p, rfl⟩
    funext b
    match b with
    | ⟨0, _⟩ => exact Fin.ext h0
    | ⟨1, _⟩ => exact Fin.ext h1

/-! ## Rows taken apart and put together -/

theorem hv18_at (v : FVec Ideal S8x128 .f32) (j : Fin 8) (a : Fin 3) : hv18 v (ix2 j a) = v (ix2 0 ⟨j.val * 16 + a.val, by omega⟩) := by
  pointwise [hv18]

theorem hv16_at (v : FVec Ideal S128x128 .f32) (i : Fin 8) (a : Fin 3) (j : Fin 8) (b : Fin 3) :
    hv16 v (ix4 i a j b) = v (ix2 ⟨i.val * 16 + a.val, by omega⟩ ⟨j.val * 16 + b.val, by omega⟩) := by
  pointwise [hv16]

theorem hv19_at (v : FVec Ideal S64x3x1x1 .f32) (o : Fin 64) (a : Fin 3) : hv19 v (ix2 o a) = v (ix4 o a 0 0) := by
  pointwise [hv19]

theorem hv52_at (v : FVec Ideal S64x3x1x8 .f32) (o : Fin 64) (a : Fin 3) (k : Fin 8) : hv52 v (ix3 o a k) = v (ix4 o a 0 k) := by
  pointwise [hv52]

theorem hv54_at (v : FVec Ideal S64x3x8 .f32) (o : Fin 64) (p : Fin 24) : hv54 v (ix2 o p) = v (ix3 o ⟨p.val % 3, by omega⟩ ⟨p.val / 3, by omega⟩) := by
  pointwise [hv54]

theorem hv51_at (v : FVec Ideal S64 .f32) (o : Fin 64) : hv51 v (ix2 0 o) = v (ix1 o) := by
  pointwise [hv51]

theorem hv90_at (v : FVec Ideal S64x64x1x1 .f32) (c o : Fin 64) : hv90 v (ix2 c o) = v (ix4 o c 0 0) := by
  pointwise [hv90]

theorem hv148_at (v : FVec Ideal S256x192x1x8 .f32) (k : Fin 8) (c : Fin 192) (o : Fin 256) : hv148 v (ix3 k c o) = v (ix4 o c 0 k) := by
  pointwise [hv148]

theorem hv8_at (v : FVec Ideal S32768x128 .f32) (r : Fin 4096) (k : Fin 8) (l : Fin 128) : hv8 v (ix3 r k l) = v (ix2 ⟨r.val * 8 + k.val, by omega⟩ l) := by
  pointwise [hv8]

theorem hv11_at (v : FVec Ideal S4x1024x3 .f32) (r : Fin 4096) (l : Fin 16) :
    hv11 v (ix2 r l) = if h : l.val < 3 then v (ix3 ⟨r.val / 1024, by omega⟩ ⟨r.val % 1024, by omega⟩ ⟨l.val, h⟩) else ((0 : ℝ) : EReal) := by
  pointwise [hv11]
  rw [zero_int]

theorem hv50_at (v : FVec Ideal S3x64 .f32) (l : Fin 16) (o : Fin 64) :
    hv50 v (ix2 l o) = if h : l.val < 3 then v (ix2 ⟨l.val, h⟩ o) else ((0 : ℝ) : EReal) := by
  pointwise [hv50]
  rw [zero_int]

theorem hv87_at (v : FVec Ideal S64x3x8 .f32) (f : FVec Ideal S64 .f32) (k : Fin 8) (l : Fin 16) (o : Fin 64) :
    hv87 v f (ix3 k l o) = if h : l.val < 3 then v (ix3 o ⟨l.val, h⟩ k) * f (ix1 o) else ((0 : ℝ) : EReal) := by
  pointwise [hv87]
  rw [zero_int]

/-! ## The factor and the offset -/

/-- The factor -/
theorem hv43_at (g e1 e2 : FVec Ideal S64 .f32) (o : Fin 64) {n s q γ : ℝ} (hg : g (ix1 o) = (γ : EReal)) (h1 : e1 (ix1 o) = ((s / n : ℝ) : EReal)) (h2 : e2 (ix1 o) = ((q / n : ℝ) : EReal)) :
    hv43 g e1 e2 (ix1 o) = (fac n s q γ : EReal) := by
  have hp : 0 < mvar n s q + eps := add_pos_of_nonneg_of_pos (mvar_nonneg _ _ _) eps_pos
  pointwise [hv43]
  simp only [hg, h1, h2, zero_f32, eps_f32, max_zero_real, ← EReal.coe_sub, ← EReal.coe_add, ← EReal.coe_mul]
  rw [show max (q / n - s / n * (s / n)) 0 + eps = mvar n s q + eps from rfl, sqrt_real hp.le, div_real _ (Real.sqrt_pos.2 hp).ne']
  rfl

theorem hv45_at (b f e1 : FVec Ideal S64 .f32) (o : Fin 64) {n s q γ β : ℝ} (hb : b (ix1 o) = (β : EReal)) (hf : f (ix1 o) = (fac n s q γ : EReal)) (h1 : e1 (ix1 o) = ((s / n : ℝ) : EReal)) :
    hv45 b f e1 (ix1 o) = (off n s q γ β : EReal) := by
  pointwise [hv45]
  simp only [hb, hf, h1, ← EReal.coe_sub, ← EReal.coe_mul]
  rfl

theorem hv165_at (g e1 e2 : FVec Ideal S256 .f32) (o : Fin 256) {n s q γ : ℝ} (hg : g (ix1 o) = (γ : EReal)) (h1 : e1 (ix1 o) = ((s / n : ℝ) : EReal)) (h2 : e2 (ix1 o) = ((q / n : ℝ) : EReal)) :
    hv165 g e1 e2 (ix1 o) = (fac n s q γ : EReal) := by
  have hp : 0 < mvar n s q + eps := add_pos_of_nonneg_of_pos (mvar_nonneg _ _ _) eps_pos
  pointwise [hv165]
  simp only [hg, h1, h2, zero_f32, eps_f32, max_zero_real, ← EReal.coe_sub, ← EReal.coe_add, ← EReal.coe_mul]
  rw [show max (q / n - s / n * (s / n)) 0 + eps = mvar n s q + eps from rfl, sqrt_real hp.le, div_real _ (Real.sqrt_pos.2 hp).ne']
  rfl

theorem hv167_at (b f e1 : FVec Ideal S256 .f32) (o : Fin 256) {n s q γ : ℝ} {β : EReal} (hb : b (ix1 o) = β) (hf : f (ix1 o) = (fac n s q γ : EReal)) (h1 : e1 (ix1 o) = ((s / n : ℝ) : EReal)) :
    hv167 b f e1 (ix1 o) = (off n s q γ 0 : EReal) + β := by
  pointwise [hv167]
  rw [hb, hf, h1, ← EReal.coe_mul, sub_eq_add_neg, ← EReal.coe_neg, add_comm]
  unfold off
  rw [zero_sub]

/-! ## The first layers' moments -/

theorem hv22_at (v : FVec Ideal S8x3 .f32) (S : Fin 8 → Fin 3 → ℝ) (hv : ∀ j a, v (ix2 j a) = (S j a : EReal)) (a : Fin 3) :
    hv22 v (ix1 a) = (((∑ j, S j a) / 32768 : ℝ) : EReal) := by
  pointwise [hv22]
  simp only [hv, n15_f32, zero_f32, coe_sum, div_real _ (show (32768 : ℝ) ≠ 0 by norm_num)]

theorem hv31_at (v : FVec Ideal S8x3x8x3 .f32) (Q : Fin 8 → Fin 3 → Fin 8 → Fin 3 → ℝ) (hv : ∀ i a j b, v (ix4 i a j b) = (Q i a j b : EReal)) (a b : Fin 3) :
    hv31 v (ix2 a b) = (((∑ j, Q j a j b) / 32768 : ℝ) : EReal) := by
  have hm : ∀ p : Fin 8 × Fin 8, (select (broadcastInDim S8x3x8x3 ![0, 2] bcast_S8x8_S8x3x8x3_0_2 (cmpi CmpIPredicate.eq (iotaInDim S8x8 32 0) (iotaInDim S8x8 32 1))) v
      (broadcastInDim S8x3x8x3 ![] bcast_S_S8x3x8x3 (constant S_ FTy.f32 0#32)) : FVec Ideal S8x3x8x3 .f32) (ix4 p.1 a p.2 b) = ((if p.1 = p.2 then Q p.1 a p.2 b else 0 : ℝ) : EReal) := by
    rintro ⟨i, j⟩
    pointwise
    by_cases e : i = j
    · subst e
      simp [Scalar.select, IntOp.cmpi, hv]
    · have hne : BitVec.ofNat 32 i.val ≠ BitVec.ofNat 32 j.val := by
        intro q
        have := congrArg BitVec.toNat q
        simp only [BitVec.toNat_ofNat] at this
        exact e (Fin.ext (by omega))
      have hb : (BitVec.ofNat 32 i.val == BitVec.ofNat 32 j.val) = false := beq_eq_false_iff_ne.mpr hne
      simp [Scalar.select, IntOp.cmpi, hb, e]
  unfold hv31
  generalize (select _ v _ : FVec Ideal S8x3x8x3 .f32) = M at hm ⊢
  pointwise
  simp only [sum02, hm, n15_f32, coe_sum, div_real _ (show (32768 : ℝ) ≠ 0 by norm_num)]
  rw [Fintype.sum_prod_type]
  simp

theorem hv32_at (w : FVec Ideal S64x3 .f32) (u : FVec Ideal S3 .f32) (W : Fin 64 → Fin 3 → ℝ) (U : Fin 3 → ℝ) (hw : ∀ o a, w (ix2 o a) = (W o a : EReal)) (hu : ∀ a, u (ix1 a) = (U a : EReal)) (o : Fin 64) :
    hv32 w u (ix1 o) = ((∑ a, W o a * U a : ℝ) : EReal) := by
  pointwise [hv32]
  simp only [hw, hu, ← EReal.coe_mul, coe_sum]

theorem hv35_at (w : FVec Ideal S64x3 .f32) (e : FVec Ideal S3x3 .f32) (W : Fin 64 → Fin 3 → ℝ) (E : Fin 3 → Fin 3 → ℝ) (hw : ∀ o a, w (ix2 o a) = (W o a : EReal)) (he : ∀ a b, e (ix2 a b) = (E a b : EReal)) (o : Fin 64) :
    hv35 w e (ix1 o) = ((∑ b, (∑ a, W o a * E a b) * W o b : ℝ) : EReal) := by
  pointwise [hv35]
  simp only [hw, he, ← EReal.coe_mul, coe_sum]

theorem hv49_at (w : FVec Ideal S64x3 .f32) (f : FVec Ideal S64 .f32) (a : Fin 3) (o : Fin 64) : hv49 w f (ix2 a o) = w (ix2 o a) * f (ix1 o) := by
  pointwise [hv49]

theorem hv57_at (v : FVec Ideal S8x3 .f32) (S : Fin 8 → Fin 3 → ℝ) (hv : ∀ j a, v (ix2 j a) = (S j a : EReal)) (p : Fin 24) :
    hv57 v (ix1 p) = ((S ⟨p.val / 3, by omega⟩ ⟨p.val % 3, by omega⟩ / 4096 : ℝ) : EReal) := by
  pointwise [hv57]
  simp only [hv, n12_f32, div_real _ (show (4096 : ℝ) ≠ 0 by norm_num)]

theorem hv60_at (v : FVec Ideal S8x3x8x3 .f32) (Q : Fin 8 → Fin 3 → Fin 8 → Fin 3 → ℝ) (hv : ∀ i a j b, v (ix4 i a j b) = (Q i a j b : EReal)) (p q : Fin 24) :
    hv60 v (ix2 p q) = ((Q ⟨p.val / 3, by omega⟩ ⟨p.val % 3, by omega⟩ ⟨q.val / 3, by omega⟩ ⟨q.val % 3, by omega⟩ / 4096 : ℝ) : EReal) := by
  pointwise [hv60]
  simp only [hv, n12_f32, div_real _ (show (4096 : ℝ) ≠ 0 by norm_num)]

theorem hv64_at (w : FVec Ideal S64x24 .f32) (u : FVec Ideal S24 .f32) (W : Fin 64 → Fin 24 → ℝ) (U : Fin 24 → ℝ) (hw : ∀ o a, w (ix2 o a) = (W o a : EReal)) (hu : ∀ a, u (ix1 a) = (U a : EReal)) (o : Fin 64) :
    hv64 w u (ix1 o) = ((∑ a, W o a * U a : ℝ) : EReal) := by
  pointwise [hv64]
  simp only [hw, hu, ← EReal.coe_mul, coe_sum]

theorem hv70_at (w : FVec Ideal S64x24 .f32) (e : FVec Ideal S24x24 .f32) (W : Fin 64 → Fin 24 → ℝ) (E : Fin 24 → Fin 24 → ℝ) (hw : ∀ o a, w (ix2 o a) = (W o a : EReal)) (he : ∀ a b, e (ix2 a b) = (E a b : EReal)) (o : Fin 64) (b : Fin 24) :
    hv70 w e (ix2 o b) = ((∑ a, W o a * E a b : ℝ) : EReal) := by
  pointwise [hv70]
  simp only [hw, he, ← EReal.coe_mul, coe_sum]

theorem hv72_at (w v : FVec Ideal S64x24 .f32) (W Z : Fin 64 → Fin 24 → ℝ) (hw : ∀ o a, w (ix2 o a) = (W o a : EReal)) (hv : ∀ o a, v (ix2 o a) = (Z o a : EReal)) (o : Fin 64) :
    hv72 w v (ix1 o) = ((∑ a, W o a * Z o a : ℝ) : EReal) := by
  pointwise [hv72]
  simp only [hw, hv, ← EReal.coe_mul, coe_sum]

/-! ## The later layers' moments -/

theorem hv97_at (v : FVec Ideal S8x64 .f32) (o : Fin 64) {x : ℝ} (hv : v (ix2 0 o) = (x : EReal)) : hv97 v (ix1 o) = ((x / 32768 : ℝ) : EReal) := by
  pointwise [hv97]
  simp only [hv, n15_f32, div_real _ (show (32768 : ℝ) ≠ 0 by norm_num)]

theorem hv101_at (v : FVec Ideal S8x64 .f32) (o : Fin 64) {x : ℝ} (hv : v (ix2 1 o) = (x : EReal)) : hv101 (hv99 v) (ix1 o) = ((x / 32768 : ℝ) : EReal) := by
  pointwise [hv99, hv101]
  simp only [hv, n15_f32, div_real _ (show (32768 : ℝ) ≠ 0 by norm_num)]

theorem hv115_at (v : FVec Ideal S8x64 .f32) (o : Fin 64) {x : ℝ} (hv : v (ix2 2 o) = (x : EReal)) : hv115 v (ix1 o) = ((x / 4096 : ℝ) : EReal) := by
  pointwise [hv115]
  simp only [hv, n12_f32, div_real _ (show (4096 : ℝ) ≠ 0 by norm_num)]

theorem hv119_at (v : FVec Ideal S8x64 .f32) (o : Fin 64) {x : ℝ} (hv : v (ix2 3 o) = (x : EReal)) : hv119 v (ix1 o) = ((x / 4096 : ℝ) : EReal) := by
  pointwise [hv119]
  simp only [hv, n12_f32, div_real _ (show (4096 : ℝ) ≠ 0 by norm_num)]

theorem hv153_at (v : FVec Ideal S256x8 .f32) (o : Fin 256) {x : ℝ} (hv : v (ix2 o 0) = (x : EReal)) : hv153 v (ix1 o) = ((x / 4096 : ℝ) : EReal) := by
  pointwise [hv153]
  simp only [hv, n12_f32, div_real _ (show (4096 : ℝ) ≠ 0 by norm_num)]

theorem hv157_at (v : FVec Ideal S256x8 .f32) (o : Fin 256) {x : ℝ} (hv : v (ix2 o 1) = (x : EReal)) : hv157 v (ix1 o) = ((x / 4096 : ℝ) : EReal) := by
  pointwise [hv157]
  simp only [hv, n12_f32, div_real _ (show (4096 : ℝ) ≠ 0 by norm_num)]

theorem hv144_0 (a b c d : FVec Ideal S64 .f32) (o : Fin 64) : hv144 a b c d (ix2 0 o) = a (ix1 o) := by
  pointwise [hv144]
theorem hv144_1 (a b c d : FVec Ideal S64 .f32) (o : Fin 64) : hv144 a b c d (ix2 1 o) = b (ix1 o) := by
  pointwise [hv144]
theorem hv144_2 (a b c d : FVec Ideal S64 .f32) (o : Fin 64) : hv144 a b c d (ix2 2 o) = c (ix1 o) := by
  pointwise [hv144]
theorem hv144_3 (a b c d : FVec Ideal S64 .f32) (o : Fin 64) : hv144 a b c d (ix2 3 o) = d (ix1 o) := by
  pointwise [hv144]
theorem hv171_0 (a b : FVec Ideal S256 .f32) (o : Fin 256) : hv171 a b (ix2 o 0) = a (ix1 o) := by
  pointwise [hv171]
theorem hv171_1 (a b : FVec Ideal S256 .f32) (o : Fin 256) : hv171 a b (ix2 o 1) = b (ix1 o) := by
  pointwise [hv171]

end Cert.Proof
-- ==== Proof.Moments.lean ====
/-
  What the first call leaves: the moments of the relative positions, over all queries.
-/
module

public import proofs.«01_k».proof.Proof.Calls
public import proofs.«01_k».proof.Proof.Net
public import Idealize.ShloMosaic.Lib.Pipeline.ValueKit

@[expose] public section

set_option maxRecDepth 16384

noncomputable section

namespace Cert.Proof

open Cert.KernelIdeal Cert.KernelIdeal.Gen
open Idealize.ShloMosaic Idealize.ShloMosaic.TcCoe Idealize.SL.Sem Idealize.ShloMosaic.StableHlo
open Idealize.ShloMosaic.Pipeline (Dat Cfg Window)
open Idealize.ShloMosaic.SparseCore.Cfg (HIx)

variable (V : Dev nD → Valuation τ sig (Elt Ideal))

theorem idx2_0 : ∀ t : Fin cfg2.N, win2_0.index t = ![t.val, 0, 0] := by decide +kernel
theorem idx2_1 : ∀ t : Fin cfg2.N, win2_1.index t = ![t.val, 0] := by decide +kernel

theorem idx2_2 : ∀ t : Fin cfg2.N, win2_2.index t = ![0, 0] := by decide +kernel
theorem idx2_3 : ∀ t : Fin cfg2.N, win2_3.index t = ![0, 0] := by decide +kernel

theorem blk2_0_at (c : Dev nD) (t : Fin cfg2.N) (r : Fin 1024) (j : Fin 8) (l : Fin 128) :
    blk2 V c 0 t (ix3 r j l) = V c (dr main_v8) (ix3 ⟨t.val * 1024 + r.val, by have := t.isLt; have e : cfg2.N = 4 := N_2; omega⟩ j l) := by
  unfold blk2
  blk_ext [idx2_0]

theorem blk2_1_at (c : Dev nD) (t : Fin cfg2.N) (r : Fin 1024) (l : Fin 16) :
    blk2 V c 1 t (ix2 r l) = V c (dr main_v11) (ix2 ⟨t.val * 1024 + r.val, by have := t.isLt; have e : cfg2.N = 4 := N_2; omega⟩ l) := by
  unfold blk2
  blk_ext [idx2_1]

theorem arr2_2 (c : Dev nD) : (dat2 V c).arrAt 2 cfg2.N = (acc2 V c 3 (by decide)).1 := by
  refine (dat2 V c).arrAt_eq_of_covers 2 _ (by decide +kernel) fun t hf y => ?_
  have ht : t.val = 3 := by have := (flush2_2 t).mp hf; have := t.isLt; have e : cfg2.N = 4 := N_2; omega
  have ey : ((cfg2.win 2).blk t).view.emb y = y := by blk_ext [idx2_2]
  rw [ey]
  refine (congrFun (after2_2 V c t) y).trans ?_
  simp only [ht]

theorem arr2_3 (c : Dev nD) : (dat2 V c).arrAt 3 cfg2.N = (acc2 V c 3 (by decide)).2 := by
  refine (dat2 V c).arrAt_eq_of_covers 3 _ (by decide +kernel) fun t hf y => ?_
  have ht : t.val = 3 := by have := (flush2_3 t).mp hf; have := t.isLt; have e : cfg2.N = 4 := N_2; omega
  have ey : ((cfg2.win 3).blk t).view.emb y = y := by blk_ext [idx2_3]
  rw [ey]
  refine (congrFun (after2_3 V c t) y).trans ?_
  simp only [ht]

/-- The relative positions of a block, side by side, -/
def mcat (x0 : Vec Ideal S1024x8x128 .f32) (x1 : Vec Ideal S1024x16 .f32) : FVec Ideal S1024x128 .f32 :=
  k2_pay4 (F := Ideal) (View.ld x1 (Rect.unit (s := S1024x16) ![0, 0] S1024x16.size inb_S1024x16_S1024x16_0_0)) (View.ld x0 (Rect.unit (s := S1024x8x128) ![0, 0, 0] S1024x1x16.size inb_S1024x8x128_S1024x1x16_0_0_0)) (View.ld x0 (Rect.unit (s := S1024x8x128) ![0, 1, 0] S1024x1x16.size inb_S1024x8x128_S1024x1x16_0_1_0)) (View.ld x0 (Rect.unit (s := S1024x8x128) ![0, 2, 0] S1024x1x16.size inb_S1024x8x128_S1024x1x16_0_2_0)) (View.ld x0 (Rect.unit (s := S1024x8x128) ![0, 3, 0] S1024x1x16.size inb_S1024x8x128_S1024x1x16_0_3_0)) (View.ld x0 (Rect.unit (s := S1024x8x128) ![0, 4, 0] S1024x1x16.size inb_S1024x8x128_S1024x1x16_0_4_0)) (View.ld x0 (Rect.unit (s := S1024x8x128) ![0, 5, 0] S1024x1x16.size inb_S1024x8x128_S1024x1x16_0_5_0)) (View.ld x0 (Rect.unit (s := S1024x8x128) ![0, 6, 0] S1024x1x16.size inb_S1024x8x128_S1024x1x16_0_6_0)) (View.ld x0 (Rect.unit (s := S1024x8x128) ![0, 7, 0] S1024x1x16.size inb_S1024x8x128_S1024x1x16_0_7_0))

theorem mcat_apply (X : Vec Ideal S1024x8x128 .f32) (Q : Vec Ideal S1024x16 .f32) (r : Fin 1024) (p : Fin 128) :
    mcat X Q (ix2 r p) = X (ix3 r ⟨p.val / 16, by omega⟩ ⟨p.val % 16, by omega⟩) - Q (ix2 r ⟨p.val % 16, by omega⟩) := by
  pointwise [mcat, k2_pay4]
  have key : ∀ (j : ℕ) (hj : j < 8) (l : ℕ) (hl : l < 16), p.val = 16 * j + l →
      X (ix3 r ⟨j, hj⟩ ⟨l, by omega⟩) - Q (ix2 r ⟨l, hl⟩) = X (ix3 r ⟨p.val / 16, by omega⟩ ⟨p.val % 16, by omega⟩) - Q (ix2 r ⟨p.val % 16, by omega⟩) := by
    intro j hj l hl e
    have e1 : p.val / 16 = j := by omega
    have e2 : p.val % 16 = l := by omega
    subst e1 e2
    rfl
  split_ifs <;> first | (exact absurd rfl ‹¬ _ = _›) | (exact key 0 (by omega) _ (by omega) (by omega)) | (exact key 1 (by omega) _ (by omega) (by omega)) | (exact key 2 (by omega) _ (by omega) (by omega)) | (exact key 3 (by omega) _ (by omega) (by omega)) | (exact key 4 (by omega) _ (by omega) (by omega)) | (exact key 5 (by omega) _ (by omega) (by omega)) | (exact key 6 (by omega) _ (by omega) (by omega)) | (exact key 7 (by omega) _ (by omega) (by omega))

section Block

variable (X : Vec Ideal S1024x8x128 .f32) (Q : Vec Ideal S1024x16 .f32) (x : Fin 1024 → Fin 8 → Fin 16 → ℝ)
  (h : ∀ r (p : Fin 128), X (ix3 r ⟨p.val / 16, by omega⟩ ⟨p.val % 16, by omega⟩) - Q (ix2 r ⟨p.val % 16, by omega⟩) = (x r ⟨p.val / 16, by omega⟩ ⟨p.val % 16, by omega⟩ : EReal))

include h

theorem mom2_apply (p q : Fin 128) : mom2 (F := Ideal) X Q (ix2 p q)
    = ((∑ r, x r ⟨p.val / 16, by omega⟩ ⟨p.val % 16, by omega⟩ * x r ⟨q.val / 16, by omega⟩ ⟨q.val % 16, by omega⟩ : ℝ) : EReal) := by
  pointwise [mom2, k2_pay5]
  change ∑ r, mcat X Q (ix2 r p) * mcat X Q (ix2 r q) = _
  simp only [mcat_apply, h, ← EReal.coe_mul, coe_sum]

theorem mom1r_apply (q : Fin 128) : mom1r (F := Ideal) X Q (ix2 0 q) = ((∑ r, x r ⟨q.val / 16, by omega⟩ ⟨q.val % 16, by omega⟩ : ℝ) : EReal) := by
  pointwise [mom1r, mom1, k2_pay1, k2_pay6]
  change ∑ r, mcat X Q (ix2 r q) = _
  simp only [mcat_apply, h, coe_sum]

end Block

/-! ## Over all queries -/

/-- What is found plus a real term, from a real term on, is the terms' sum. -/
theorem acc_real {N : ℕ} (f : (n : ℕ) → n < N → EReal) (g : (n : ℕ) → n < N → ℝ) (h0 : ∀ hn, f 0 hn = (g 0 hn : EReal))
    (hs : ∀ n hn, f (n + 1) hn = f n (Nat.lt_of_succ_lt hn) + (g (n + 1) hn : EReal)) :
    ∀ n (hn : n < N), f n hn = ((∑ t : Fin (n + 1), g t.val (by omega) : ℝ) : EReal) := by
  intro n
  induction n with
  | zero => intro hn; rw [h0]; simp
  | succ n ih => intro hn; rw [hs, ih, ← EReal.coe_add, Fin.sum_univ_castSucc (n := n + 1)]; rfl

theorem pay2_apply (A : FVec Ideal S128x128 .f32) (B : Vec Ideal S128x128 .f32) (p q : Fin 128) : k2_pay2 (F := Ideal) A B (ix2 p q) = B (ix2 p q) + A (ix2 p q) := by
  pointwise [k2_pay2]

theorem pay3_apply (A : FVec Ideal S1x128 .f32) (z : Ideal .f32) (B : Vec Ideal S8x128 .f32) (q : Fin 128) :
    k2_pay3 (F := Ideal) A z B (ix2 0 q) = B (ix2 0 q) + k2_pay1 (F := Ideal) A z (ix2 0 q) := by
  pointwise [k2_pay3, k2_pay1]

section All

variable (c : Dev nD) (A : Fin 4096 → Fin 8 → Fin 128 → ℝ) (B : Fin 4096 → Fin 16 → ℝ)
  (hA : ∀ r j l, V c (dr main_v8) (ix3 r j l) = (A r j l : EReal)) (hB : ∀ r l, V c (dr main_v11) (ix2 r l) = (B r l : EReal))

/-- A neighbour's position less the query's. -/
def dif (A : Fin 4096 → Fin 8 → Fin 128 → ℝ) (B : Fin 4096 → Fin 16 → ℝ) (r : Fin 4096) (j : Fin 8) (l : Fin 16) : ℝ := A r j ⟨l.val, by omega⟩ - B r l

local notation "D" => dif A B

include hA hB

omit hA hB in
theorem sub_real {x y : EReal} {a b : ℝ} (hx : x = a) (hy : y = b) : x - y = ((a - b : ℝ) : EReal) := by
  rw [hx, hy, EReal.coe_sub]

theorem blk2_sub (t : Fin cfg2.N) (X : Vec Ideal S1024x8x128 .f32) (Q : Vec Ideal S1024x16 .f32) (eX : X = blk2 V c 0 t) (eQ : Q = blk2 V c 1 t) (r : Fin 1024) (p : Fin 128) :
    X (ix3 r ⟨p.val / 16, by omega⟩ ⟨p.val % 16, by omega⟩) - Q (ix2 r ⟨p.val % 16, by omega⟩)
      = (D ⟨t.val * 1024 + r.val, by have := t.isLt; have e : cfg2.N = 4 := N_2; omega⟩ ⟨p.val / 16, by omega⟩ ⟨p.val % 16, by omega⟩ : EReal) := by
  subst eX eQ
  exact sub_real ((blk2_0_at V c t r _ _).trans (hA _ _ _)) ((blk2_1_at V c t r _).trans (hB _ _))

theorem v12_0_at (p q : Fin 128) : left V 0 c (dr main_v12_0) (ix2 p q)
    = ((∑ r, D r ⟨p.val / 16, by omega⟩ ⟨p.val % 16, by omega⟩ * D r ⟨q.val / 16, by omega⟩ ⟨q.val % 16, by omega⟩ : ℝ) : EReal) := by
  rw [show left V 0 c (dr main_v12_0) = (acc2 V c 3 (by decide)).1 from (left_arr V (fits0 V) c 2).trans (arr2_2 V c)]
  rw [acc_real (fun n hn => (acc2 V c n hn).1 (ix2 p q)) (fun n hn => ∑ r : Fin 1024, D ⟨n * 1024 + r.val, by have e : cfg2.N = 4 := N_2; omega⟩ ⟨p.val / 16, by omega⟩ ⟨p.val % 16, by omega⟩ * D ⟨n * 1024 + r.val, by have e : cfg2.N = 4 := N_2; omega⟩ ⟨q.val / 16, by omega⟩ ⟨q.val % 16, by omega⟩)
    (fun hn => mom2_apply _ _ _ (blk2_sub V c A B hA hB ⟨0, hn⟩ _ _ rfl rfl) p q)
    (fun n hn => (pay2_apply _ _ p q).trans (congrArg _ (mom2_apply _ _ _ (blk2_sub V c A B hA hB ⟨n + 1, hn⟩ _ _ rfl rfl) p q))) 3 (by decide)]
  refine congrArg _ ?_
  exact Fin.sum_mul_add_fin 4 1024 (fun r : Fin 4096 => D r ⟨p.val / 16, by omega⟩ ⟨p.val % 16, by omega⟩ * D r ⟨q.val / 16, by omega⟩ ⟨q.val % 16, by omega⟩)

theorem v12_1_at (q : Fin 128) : left V 0 c (dr main_v12_1) (ix2 0 q) = ((∑ r, D r ⟨q.val / 16, by omega⟩ ⟨q.val % 16, by omega⟩ : ℝ) : EReal) := by
  rw [show left V 0 c (dr main_v12_1) = (acc2 V c 3 (by decide)).2 from (left_arr V (fits0 V) c 3).trans (arr2_3 V c)]
  rw [acc_real (fun n hn => (acc2 V c n hn).2 (ix2 0 q)) (fun n hn => ∑ r : Fin 1024, D ⟨n * 1024 + r.val, by have e : cfg2.N = 4 := N_2; omega⟩ ⟨q.val / 16, by omega⟩ ⟨q.val % 16, by omega⟩)
    (fun hn => mom1r_apply _ _ _ (blk2_sub V c A B hA hB ⟨0, hn⟩ _ _ rfl rfl) q)
    (fun n hn => (pay3_apply _ _ _ q).trans (congrArg _ (mom1r_apply _ _ _ (blk2_sub V c A B hA hB ⟨n + 1, hn⟩ _ _ rfl rfl) q))) 3 (by decide)]
  refine congrArg _ ?_
  exact Fin.sum_mul_add_fin 4 1024 (fun r : Fin 4096 => D r ⟨q.val / 16, by omega⟩ ⟨q.val % 16, by omega⟩)

end All

end Cert.Proof
-- ==== Proof.Layers.lean ====
/-
  What the second call leaves: the layers' outputs before their second normalisations, and those outputs' moments.
-/
module

public import proofs.«01_k».proof.Proof.Moments
public import Idealize.ShloMosaic.Lib.Pointwise

@[expose] public section

set_option maxRecDepth 16384

noncomputable section

namespace Cert.Proof

open Cert.KernelIdeal Cert.KernelIdeal.Gen
open Idealize.ShloMosaic Idealize.ShloMosaic.TcCoe Idealize.SL.Sem Idealize.ShloMosaic.StableHlo
open Idealize.ShloMosaic.Pipeline (Dat Cfg Window)
open Idealize.ShloMosaic.SparseCore.Cfg (HIx)

/-! ## A block -/

section Block

variable (X0 : Vec Ideal S512x8x128 .f32) (X1 : Vec Ideal S512x16 .f32) (X2 : Vec Ideal S16x64 .f32) (X3 : Vec Ideal S1x64 .f32) (X4 : Vec Ideal S64x64 .f32)
  (X5 : Vec Ideal S8x16x64 .f32) (X6 : Vec Ideal S1x64 .f32) (X7 : Vec Ideal S64x64 .f32)
  (x : Fin 512 → Fin 8 → Fin 16 → ℝ) (w : Fin 16 → Fin 64 → ℝ) (b : Fin 64 → ℝ) (W2 : Fin 64 → Fin 64 → ℝ) (wt : Fin 8 → Fin 16 → Fin 64 → ℝ) (bt : Fin 64 → ℝ) (Wt2 : Fin 64 → Fin 64 → ℝ)

/-- What a block's arrays hold. -/
structure Blk3 : Prop where
  x : ∀ r k (l : Fin 16), X0 (ix3 r k ⟨l.val, by omega⟩) - X1 (ix2 r l) = (x r k l : EReal)
  w : ∀ l o, X2 (ix2 l o) = (w l o : EReal)
  b : ∀ o, X3 (ix2 0 o) = (b o : EReal)
  W2 : ∀ c o, X4 (ix2 c o) = (W2 c o : EReal)
  wt : ∀ k l o, X5 (ix3 k l o) = (wt k l o : EReal)
  bt : ∀ o, X6 (ix2 0 o) = (bt o : EReal)
  Wt2 : ∀ c o, X7 (ix2 c o) = (Wt2 c o : EReal)

/-- The points' second layer on a block, -/
def yh (x : Fin 8 → Fin 16 → ℝ) (k : Fin 8) (o : Fin 64) : ℝ := ∑ c, selu (∑ l, x k l * w l c + b c) * W2 c o
/-- and the transform's. -/
def yt (x : Fin 8 → Fin 16 → ℝ) (o : Fin 64) : ℝ := ∑ c, selu (bt c + ∑ l, x 0 l * wt 0 l c + ∑ l, x 1 l * wt 1 l c + ∑ l, x 2 l * wt 2 l c + ∑ l, x 3 l * wt 3 l c
  + ∑ l, x 4 l * wt 4 l c + ∑ l, x 5 l * wt 5 l c + ∑ l, x 6 l * wt 6 l c + ∑ l, x 7 l * wt 7 l c) * Wt2 c o

variable {X0 X1 X2 X3 X4 X5 X6 X7 x w b W2 wt bt Wt2} (H : Blk3 X0 X1 X2 X3 X4 X5 X6 X7 x w b W2 wt bt Wt2)

include H

theorem pre3_at (r : Fin 512) (k : Fin 8) (l : Fin 16) :
    k3_pay2 (F := Ideal) (View.ld X0 (Rect.unit (s := S512x8x128) ![0, 0, 0] S512x8x16.size inb_S512x8x128_S512x8x16_0_0_0)) (View.ld X1 (Rect.unit (s := S512x16) ![0, 0] S512x16.size inb_S512x16_S512x16_0_0)) (ix3 r k l)
      = (x r k l : EReal) := by
  pointwise [k3_pay2]
  exact H.x r k l

theorem lay2f_at (p : Fin 4096) (o : Fin 64) : lay2f X0 X1 X2 X3 X4 X5 X6 X7 (ix2 p o) = (yh w b W2 (x ⟨p.val / 8, by omega⟩) ⟨p.val % 8, by omega⟩ o : EReal) := by
  have e := pre3_at H
  unfold lay2f k3_pay3
  generalize k3_pay2 (F := Ideal) _ _ = P at e ⊢
  pointwise
  simp only [e, H.w, H.b, H.W2, sc_f32, al_f32, one_f32, zero_f32, ← EReal.coe_mul, coe_sum, ← EReal.coe_add, selu_kernel]
  rfl

theorem lay2_at (r : Fin 512) (k : Fin 8) (o : Fin 64) : lay2 X0 X1 X2 X3 X4 X5 X6 X7 (ix3 r k o) = (yh w b W2 (x r) k o : EReal) := by
  have e := lay2f_at H
  unfold lay2 k3_pay4
  unfold lay2f at e
  generalize k3_pay3 (F := Ideal) _ _ _ _ _ = P at e ⊢
  pointwise
  rw [e]
  congr 2
  · congr 1
    exact Fin.ext (by show (r.val * 8 + k.val) / 8 = r.val; omega)
  · exact Fin.ext (by show (r.val * 8 + k.val) % 8 = k.val; omega)

theorem tay1_at (r : Fin 512) (o : Fin 64) : tay1 X0 X1 X2 X3 X4 X5 X6 X7 (ix2 r o) = ((bt o + ∑ l, x r 0 l * wt 0 l o + ∑ l, x r 1 l * wt 1 l o + ∑ l, x r 2 l * wt 2 l o + ∑ l, x r 3 l * wt 3 l o
  + ∑ l, x r 4 l * wt 4 l o + ∑ l, x r 5 l * wt 5 l o : ℝ) : EReal) := by
  have e := pre3_at H
  unfold tay1 k3_pay6
  generalize k3_pay2 (F := Ideal) _ _ = P at e ⊢
  pointwise [k3_pay7, k3_pay5]
  simp only [e, H.wt, H.bt, ← EReal.coe_mul, coe_sum, ← EReal.coe_add]

theorem tay2_at (r : Fin 512) (o : Fin 64) : tay2 X0 X1 X2 X3 X4 X5 X6 X7 (ix2 r o) = (yt wt bt Wt2 (x r) o : EReal) := by
  have e := pre3_at H
  have e1 := tay1_at H
  unfold tay2
  generalize tay1 X0 X1 X2 X3 X4 X5 X6 X7 = T at e1 ⊢
  generalize k3_pay2 (F := Ideal) _ _ = P at e ⊢
  pointwise [k3_pay9, k3_pay8]
  simp only [e, e1, H.wt, H.Wt2, sc_f32, al_f32, one_f32, zero_f32, ← EReal.coe_mul, coe_sum, ← EReal.coe_add, selu_kernel]
  rfl

theorem lmom_0 (o : Fin 64) : lmom X0 X1 X2 X3 X4 X5 X6 X7 (ix2 0 o) = ((∑ r, ∑ k, yh w b W2 (x r) k o : ℝ) : EReal) := by
  have e := lay2f_at H
  unfold lmom
  generalize lay2f X0 X1 X2 X3 X4 X5 X6 X7 = T at e ⊢
  pointwise [k3_pay10]
  simp only [e, coe_sum]
  exact congrArg _ (Fin.sum_divmod_fin (N := 4096) (A := 512) 8 (fun r k => yh w b W2 (x r) k o))

theorem lmom_1 (o : Fin 64) : lmom X0 X1 X2 X3 X4 X5 X6 X7 (ix2 1 o) = ((∑ r, ∑ k, yh w b W2 (x r) k o * yh w b W2 (x r) k o : ℝ) : EReal) := by
  have e := lay2f_at H
  unfold lmom
  generalize lay2f X0 X1 X2 X3 X4 X5 X6 X7 = T at e ⊢
  pointwise [k3_pay10]
  simp only [e, ← EReal.coe_mul, coe_sum]
  exact congrArg _ (Fin.sum_divmod_fin (N := 4096) (A := 512) 8 (fun r k => yh w b W2 (x r) k o * yh w b W2 (x r) k o))

theorem lmom_2 (o : Fin 64) : lmom X0 X1 X2 X3 X4 X5 X6 X7 (ix2 2 o) = ((∑ r, yt wt bt Wt2 (x r) o : ℝ) : EReal) := by
  have e := tay2_at H
  unfold lmom k3_pay10
  unfold tay2 at e
  generalize k3_pay9 (F := Ideal) _ _ _ _ _ _ = T at e ⊢
  pointwise
  simp only [e, ← EReal.coe_mul, coe_sum]

theorem lmom_3 (o : Fin 64) : lmom X0 X1 X2 X3 X4 X5 X6 X7 (ix2 3 o) = ((∑ r, yt wt bt Wt2 (x r) o * yt wt bt Wt2 (x r) o : ℝ) : EReal) := by
  have e := tay2_at H
  unfold lmom k3_pay10
  unfold tay2 at e
  generalize k3_pay9 (F := Ideal) _ _ _ _ _ _ = T at e ⊢
  pointwise
  simp only [e, ← EReal.coe_mul, coe_sum]

end Block

/-! ## Over all queries -/

theorem k3_pay1_at (A : FVec Ideal S8x64 .f32) (B : Vec Ideal S8x64 .f32) (i : Fin 8) (q : Fin 64) : k3_pay1 (F := Ideal) A B (ix2 i q) = B (ix2 i q) + A (ix2 i q) := by
  pointwise [k3_pay1]

theorem idx3_0 : ∀ t : Fin cfg3.N, win3_0.index t = ![t.val, 0, 0] := by decide +kernel
theorem idx3_1 : ∀ t : Fin cfg3.N, win3_1.index t = ![t.val, 0] := by decide +kernel
theorem idx3_2 : ∀ t : Fin cfg3.N, win3_2.index t = ![0, 0] := by decide +kernel
theorem idx3_3 : ∀ t : Fin cfg3.N, win3_3.index t = ![0, 0] := by decide +kernel
theorem idx3_4 : ∀ t : Fin cfg3.N, win3_4.index t = ![0, 0] := by decide +kernel
theorem idx3_5 : ∀ t : Fin cfg3.N, win3_5.index t = ![0, 0, 0] := by decide +kernel
theorem idx3_6 : ∀ t : Fin cfg3.N, win3_6.index t = ![0, 0] := by decide +kernel
theorem idx3_7 : ∀ t : Fin cfg3.N, win3_7.index t = ![0, 0] := by decide +kernel
theorem idx3_8 : ∀ t : Fin cfg3.N, win3_8.index t = ![t.val, 0, 0] := by decide +kernel
theorem idx3_9 : ∀ t : Fin cfg3.N, win3_9.index t = ![t.val, 0] := by decide +kernel
theorem idx3_10 : ∀ t : Fin cfg3.N, win3_10.index t = ![0, 0] := by decide +kernel

section All

variable (V : Dev nD → Valuation τ sig (Elt Ideal)) (c : Dev nD)

theorem gRow3 (t : Fin cfg3.N) (r : Fin 512) : t.val * 512 + r.val < 4096 := by have := t.isLt; have e : cfg3.N = 8 := N_3; omega

theorem blk3_0_at (t : Fin cfg3.N) (r : Fin 512) (j : Fin 8) (l : Fin 128) : blk3 V c 0 t (ix3 r j l) = V c (dr main_v8) (ix3 ⟨t.val * 512 + r.val, gRow3 t r⟩ j l) := by
  unfold blk3
  blk_ext [idx3_0]
theorem blk3_1_at (t : Fin cfg3.N) (r : Fin 512) (l : Fin 16) : blk3 V c 1 t (ix2 r l) = V c (dr main_v11) (ix2 ⟨t.val * 512 + r.val, gRow3 t r⟩ l) := by
  unfold blk3
  blk_ext [idx3_1]
theorem blk3_2_at (t : Fin cfg3.N) (l : Fin 16) (o : Fin 64) : blk3 V c 2 t (ix2 l o) = V c (dr main_v50) (ix2 l o) := by
  unfold blk3
  blk_ext [idx3_2]
theorem blk3_3_at (t : Fin cfg3.N) (o : Fin 64) : blk3 V c 3 t (ix2 (0 : Fin 1) o) = V c (dr main_v51) (ix2 0 o) := by
  unfold blk3
  blk_ext [idx3_3]
theorem blk3_4_at (t : Fin cfg3.N) (l : Fin 64) (o : Fin 64) : blk3 V c 4 t (ix2 l o) = V c (dr main_v90) (ix2 l o) := by
  unfold blk3
  blk_ext [idx3_4]
theorem blk3_5_at (t : Fin cfg3.N) (k : Fin 8) (l : Fin 16) (o : Fin 64) : blk3 V c 5 t (ix3 k l o) = V c (dr main_v87) (ix3 k l o) := by
  unfold blk3
  blk_ext [idx3_5]
theorem blk3_6_at (t : Fin cfg3.N) (o : Fin 64) : blk3 V c 6 t (ix2 (0 : Fin 1) o) = V c (dr main_v88) (ix2 0 o) := by
  unfold blk3
  blk_ext [idx3_6]
theorem blk3_7_at (t : Fin cfg3.N) (l : Fin 64) (o : Fin 64) : blk3 V c 7 t (ix2 l o) = V c (dr main_v92) (ix2 l o) := by
  unfold blk3
  blk_ext [idx3_7]

variable (A : Fin 4096 → Fin 8 → Fin 128 → ℝ) (B : Fin 4096 → Fin 16 → ℝ)
  (w : Fin 16 → Fin 64 → ℝ) (b : Fin 64 → ℝ) (W2 : Fin 64 → Fin 64 → ℝ) (wt : Fin 8 → Fin 16 → Fin 64 → ℝ) (bt : Fin 64 → ℝ) (Wt2 : Fin 64 → Fin 64 → ℝ)

/-- What the arrays hold before the call. -/
structure In3 : Prop where
  A : ∀ r j l, V c (dr main_v8) (ix3 r j l) = (A r j l : EReal)
  B : ∀ r l, V c (dr main_v11) (ix2 r l) = (B r l : EReal)
  w : ∀ l o, V c (dr main_v50) (ix2 l o) = (w l o : EReal)
  b : ∀ o, V c (dr main_v51) (ix2 0 o) = (b o : EReal)
  W2 : ∀ l o, V c (dr main_v90) (ix2 l o) = (W2 l o : EReal)
  wt : ∀ k l o, V c (dr main_v87) (ix3 k l o) = (wt k l o : EReal)
  bt : ∀ o, V c (dr main_v88) (ix2 0 o) = (bt o : EReal)
  Wt2 : ∀ l o, V c (dr main_v92) (ix2 l o) = (Wt2 l o : EReal)

variable {V c A B w b W2 wt bt Wt2} (H : In3 V c A B w b W2 wt bt Wt2)

include H

theorem blk3_holds (t : Fin cfg3.N) : Blk3 (blk3 V c 0 t) (blk3 V c 1 t) (blk3 V c 2 t) (blk3 V c 3 t) (blk3 V c 4 t) (blk3 V c 5 t) (blk3 V c 6 t) (blk3 V c 7 t)
    (fun r => dif A B ⟨t.val * 512 + r.val, gRow3 t r⟩) w b W2 wt bt Wt2 where
  x r k l := sub_real ((blk3_0_at V c t r k _).trans (H.A _ _ _)) ((blk3_1_at V c t r l).trans (H.B _ _))
  w l o := (blk3_2_at V c t l o).trans (H.w l o)
  b o := (blk3_3_at V c t o).trans (H.b o)
  W2 l o := (blk3_4_at V c t l o).trans (H.W2 l o)
  wt k l o := (blk3_5_at V c t k l o).trans (H.wt k l o)
  bt o := (blk3_6_at V c t o).trans (H.bt o)
  Wt2 l o := (blk3_7_at V c t l o).trans (H.Wt2 l o)

theorem v93_0_at (R : Fin 4096) (k : Fin 8) (o : Fin 64) : left V 1 c (dr main_v93_0) (ix3 R k o) = (yh w b W2 (dif A B R) k o : EReal) := by
  rw [show left V 1 c (dr main_v93_0) = (dat3 V c).arrAt 8 cfg3.N from left_arr V (fits1 V) c 8]
  refine congrFun (f := (dat3 V c).arrAt 8 cfg3.N) (g := fun i => (yh w b W2 (dif A B (i 0)) (i 1) (i 2) : EReal)) ?_ (ix3 R k o)
  refine (dat3 V c).arrAt_eq_of_covers 8 _ (by decide +kernel) fun t hf y => ?_
  have hy : y = (ix3 (y 0) (y 1) (y 2) : S512x8x64.Idx) := ValueIdx.eq_ix3 (n0 := 512) (n1 := 8) (n2 := 64) y
  have ey : ((cfg3.win 8).blk t).view.emb (ix3 (y 0) (y 1) (y 2) : S512x8x64.Idx) = (ix3 ⟨t.val * 512 + (y 0).val, gRow3 t (y 0)⟩ (y 1) (y 2) : S4096x8x64.Idx) := by blk_ext [idx3_8]
  rw [hy, ey]
  refine (congrFun (after3_8 V c t) _).trans ?_
  exact lay2_at (blk3_holds H t) (y 0) (y 1) (y 2)

theorem v93_1_at (R : Fin 4096) (o : Fin 64) : left V 1 c (dr main_v93_1) (ix2 R o) = (yt wt bt Wt2 (dif A B R) o : EReal) := by
  rw [show left V 1 c (dr main_v93_1) = (dat3 V c).arrAt 9 cfg3.N from left_arr V (fits1 V) c 9]
  refine congrFun (f := (dat3 V c).arrAt 9 cfg3.N) (g := fun i => (yt wt bt Wt2 (dif A B (i 0)) (i 1) : EReal)) ?_ (ix2 R o)
  refine (dat3 V c).arrAt_eq_of_covers 9 _ (by decide +kernel) fun t hf y => ?_
  have hy : y = (ix2 (y 0) (y 1) : S512x64.Idx) := ValueIdx.eq_ix2 (n0 := 512) (n1 := 64) y
  have ey : ((cfg3.win 9).blk t).view.emb (ix2 (y 0) (y 1) : S512x64.Idx) = (ix2 ⟨t.val * 512 + (y 0).val, gRow3 t (y 0)⟩ (y 1) : S4096x64.Idx) := by blk_ext [idx3_9]
  rw [hy, ey]
  refine (congrFun (after3_9 V c t) _).trans ?_
  exact tay2_at (blk3_holds H t) (y 0) (y 1)

omit H in
theorem arr3_10 : (dat3 V c).arrAt 10 cfg3.N = acc3 V c 7 (by decide) := by
  refine (dat3 V c).arrAt_eq_of_covers 10 _ (by decide +kernel) fun t hf y => ?_
  have ht : t.val = 7 := by have := (flush3_10 t).mp hf; have := t.isLt; have e : cfg3.N = 8 := N_3; omega
  have ey : ((cfg3.win 10).blk t).view.emb y = y := by blk_ext [idx3_10]
  rw [ey]
  refine (congrFun (after3_10 V c t) y).trans ?_
  simp only [ht]

omit H in
/-- A row of the moments, from its terms by block. -/
theorem v93_2_sum (i : Fin 8) (o : Fin 64) (g : Fin 4096 → ℝ)
    (h : ∀ t : Fin cfg3.N, lmom (blk3 V c 0 t) (blk3 V c 1 t) (blk3 V c 2 t) (blk3 V c 3 t) (blk3 V c 4 t) (blk3 V c 5 t) (blk3 V c 6 t) (blk3 V c 7 t) (ix2 i o)
      = ((∑ r : Fin 512, g ⟨t.val * 512 + r.val, gRow3 t r⟩ : ℝ) : EReal)) :
    left V 1 c (dr main_v93_2) (ix2 i o) = ((∑ R, g R : ℝ) : EReal) := by
  rw [show left V 1 c (dr main_v93_2) = acc3 V c 7 (by decide) from (left_arr V (fits1 V) c 10).trans arr3_10]
  rw [acc_real (fun n hn => acc3 V c n hn (ix2 i o)) (fun n hn => ∑ r : Fin 512, g ⟨n * 512 + r.val, gRow3 ⟨n, hn⟩ r⟩)
    (fun hn => h ⟨0, hn⟩)
    (fun n hn => (k3_pay1_at _ _ i o).trans (congrArg _ (h ⟨n + 1, hn⟩))) 7 (by decide)]
  exact congrArg _ (Fin.sum_mul_add_fin 8 512 g)

theorem v93_2_0 (o : Fin 64) : left V 1 c (dr main_v93_2) (ix2 0 o) = ((∑ R, ∑ k, yh w b W2 (dif A B R) k o : ℝ) : EReal) :=
  v93_2_sum 0 o (fun R => ∑ k, yh w b W2 (dif A B R) k o) fun t => lmom_0 (blk3_holds H t) o
theorem v93_2_1 (o : Fin 64) : left V 1 c (dr main_v93_2) (ix2 1 o) = ((∑ R, ∑ k, yh w b W2 (dif A B R) k o * yh w b W2 (dif A B R) k o : ℝ) : EReal) :=
  v93_2_sum 1 o (fun R => ∑ k, yh w b W2 (dif A B R) k o * yh w b W2 (dif A B R) k o) fun t => lmom_1 (blk3_holds H t) o
theorem v93_2_2 (o : Fin 64) : left V 1 c (dr main_v93_2) (ix2 2 o) = ((∑ R, yt wt bt Wt2 (dif A B R) o : ℝ) : EReal) :=
  v93_2_sum 2 o (fun R => yt wt bt Wt2 (dif A B R) o) fun t => lmom_2 (blk3_holds H t) o
theorem v93_2_3 (o : Fin 64) : left V 1 c (dr main_v93_2) (ix2 3 o) = ((∑ R, yt wt bt Wt2 (dif A B R) o * yt wt bt Wt2 (dif A B R) o : ℝ) : EReal) :=
  v93_2_sum 3 o (fun R => yt wt bt Wt2 (dif A B R) o * yt wt bt Wt2 (dif A B R) o) fun t => lmom_3 (blk3_holds H t) o

end All

end Cert.Proof
-- ==== Proof.Last.lean ====
/-
  What the last call leaves: the result.
-/
module

public import proofs.«01_k».proof.Proof.Layers
public import Idealize.ShloMosaic.Lib.Pointwise

@[expose] public section

set_option maxRecDepth 16384

noncomputable section

namespace Cert.Proof

open Cert.KernelIdeal Cert.KernelIdeal.Gen
open Idealize.ShloMosaic Idealize.ShloMosaic.TcCoe Idealize.SL.Sem Idealize.ShloMosaic.StableHlo
open Idealize.ShloMosaic.Pipeline (Dat Cfg Window)
open Idealize.ShloMosaic.SparseCore.Cfg (HIx)

/-! ## The last launch -/

theorem idx5_0 : ∀ t : Fin cfg5.N, win5_0.index t = ![t.val, 0, 0] := by decide +kernel
theorem idx5_1 : ∀ t : Fin cfg5.N, win5_1.index t = ![0, 0] := by decide +kernel
theorem idx5_2 : ∀ t : Fin cfg5.N, win5_2.index t = ![t.val, 0, 0] := by decide +kernel

theorem last_at (X0 : Vec Ideal S1x256x1024 .f32) (X1 : Vec Ideal S256x8 .f32) (o : Fin 256) (m : Fin 1024) (f a : ℝ) (b : EReal)
    (hf : X0 (ix3 0 o m) = (f : EReal)) (ha : X1 (ix2 o 0) = (a : EReal)) (hb : X1 (ix2 o 1) = b) :
    last X0 X1 (ix3 0 o m) = seluX (((f * a : ℝ) : EReal) + b) := by
  unfold last
  pointwise [k5_pay1]
  simp only [hf, ha, hb, sc_f32, al_f32, one_f32, zero_f32]
  rfl

section

variable (V : Dev nD → Valuation τ sig (Elt Ideal)) (c : Dev nD)

theorem lt5 (t : Fin cfg5.N) : t.val < 4 := by have := t.isLt; have e : cfg5.N = 4 := N_5; omega

theorem gRow5 (t : Fin cfg5.N) (m : Fin 1024) : t.val * 1024 + m.val < 4096 := by have := lt5 t; omega
theorem blk5_0_at (t : Fin cfg5.N) (o : Fin 256) (m : Fin 1024) : blk5 V c 0 t (ix3 0 o m) = V c (dr main_v149_0) (ix3 ⟨t.val, lt5 t⟩ o m) := by
  unfold blk5
  blk_ext [idx5_0]
theorem blk5_1_at (t : Fin cfg5.N) (o : Fin 256) (i : Fin 8) : blk5 V c 1 t (ix2 o i) = V c (dr main_v171) (ix2 o i) := by
  unfold blk5
  blk_ext [idx5_1]

theorem emb5 (t : Fin cfg5.N) (y : ((cfg5.win 2).xblock (cfg5.grid.coords t)).Idx) :
    ((cfg5.win 2).blk t).view.emb y = (ix3 ⟨t.val, lt5 t⟩ (y 1) (y 2) : S4x256x1024.Idx) := by
  have y0 : (y 0).val = 0 := by have e : (y 0).val < 1 := (y 0).isLt; omega
  blk_ext [idx5_2]

theorem v172_at (f : Fin 256 → Fin 4096 → ℝ) (a : Fin 256 → ℝ) (b : Fin 256 → EReal)
    (hf : ∀ (q : Fin 4) o (m : Fin 1024), V c (dr main_v149_0) (ix3 q o m) = (f o ⟨q.val * 1024 + m.val, by omega⟩ : EReal))
    (ha : ∀ o, V c (dr main_v171) (ix2 o 0) = (a o : EReal)) (hb : ∀ o, V c (dr main_v171) (ix2 o 1) = b o) (q : Fin 4) (o : Fin 256) (m : Fin 1024) :
    left V 3 c (dr main_v172) (ix3 q o m) = seluX (((f o ⟨q.val * 1024 + m.val, by omega⟩ * a o : ℝ) : EReal) + b o) := by
  rw [show left V 3 c (dr main_v172) = (dat5 V c).arrAt 2 cfg5.N from left_arr V (fits3 V) c 2]
  refine congrFun (f := (dat5 V c).arrAt 2 cfg5.N) (g := fun i => seluX (((f (i 1)
    ⟨(i 0).val * 1024 + (i 2).val, by have e0 : (i 0).val < 4 := (i 0).isLt; have e2 : (i 2).val < 1024 := (i 2).isLt; omega⟩ * a (i 1) : ℝ) : EReal) + b (i 1))) ?_ (ix3 q o m)
  refine (dat5 V c).arrAt_eq_of_covers 2 _ (by decide +kernel) fun t hf' y => ?_
  have y0 : (y 0).val = 0 := by have e : (y 0).val < 1 := (y 0).isLt; omega
  have hy : y = (ix3 0 (y 1) (y 2) : S1x256x1024.Idx) := (ValueIdx.eq_ix3 (n0 := 1) (n1 := 256) (n2 := 1024) y).trans (congrArg (fun i => ix3 i (y 1) (y 2)) (Fin.ext y0))
  have ey := emb5 t y
  rw [ey]
  refine (congrFun (after5_2 V c t) y).trans ?_
  refine (congrArg (last (blk5 V c 0 t) (blk5 V c 1 t)) hy).trans ?_
  exact last_at (blk5 V c 0 t) (blk5 V c 1 t) (y 1) (y 2) (f (y 1) ⟨t.val * 1024 + (y 2).val, gRow5 t (y 2)⟩) (a (y 1)) (b (y 1)) ((blk5_0_at V c t (y 1) (y 2)).trans (hf _ _ _)) ((blk5_1_at V c t (y 1) 0).trans (ha _)) ((blk5_1_at V c t (y 1) 1).trans (hb _))

end

end Cert.Proof
-- ==== Proof.Mix.lean ====
/-
  What the third call leaves: the mixed rows through the last weights, and their moments.
-/
module

public import proofs.«01_k».proof.Proof.Layers
public import Idealize.ShloMosaic.Lib.Pointwise

@[expose] public section

set_option maxRecDepth 16384

noncomputable section

namespace Cert.Proof

open Cert.KernelIdeal Cert.KernelIdeal.Gen
open Idealize.ShloMosaic Idealize.ShloMosaic.TcCoe Idealize.SL.Sem Idealize.ShloMosaic.StableHlo
open Idealize.ShloMosaic.Pipeline (Dat Cfg Window)
open Idealize.ShloMosaic.SparseCore.Cfg (HIx)

/-! # The third launch: what it leaves, in real numbers -/

/-- A query's mixing matrix, -/
def mt (a c : Fin 64 → ℝ) (W : Fin 64 → Fin 64 → ℝ) (t : Fin 64 → ℝ) (o : Fin 64) : ℝ := ∑ i, selu (t i * a i + c i) * W i o
/-- the rows it mixes, -/
def mx (a c : Fin 64 → ℝ) (h : Fin 8 → Fin 64 → ℝ) (z : Fin 8 → Fin 128 → ℝ) (k : Fin 8) (l : Fin 192) : ℝ :=
  if hl : l.val < 64 then selu (h k ⟨l.val, hl⟩ * a ⟨l.val, hl⟩ + c ⟨l.val, hl⟩) else z k ⟨l.val - 64, by omega⟩
/-- mixed, -/
def mm (T : Fin 64 → ℝ) (X : Fin 8 → Fin 192 → ℝ) (i : Fin 8) (l : Fin 192) : ℝ := ∑ j : Fin 8, T ⟨i.val * 8 + j.val, by omega⟩ * X j l
/-- and through one slice of the last weights. -/
def mw (T : Fin 64 → ℝ) (X : Fin 8 → Fin 192 → ℝ) (W : Fin 8 → Fin 192 → Fin 256 → ℝ) (o : Fin 256) (i : Fin 8) : ℝ := ∑ l, mm T X i l * W i l o

section Block

/-- The entries of a block's operands, as reals. -/
structure Blk4 (X0 : Vec Ideal S512x8x64 .f32) (X1 : Vec Ideal S512x64 .f32) (X2 : Vec Ideal S512x8x128 .f32) (X3 : Vec Ideal S8x64 .f32) (X4 : Vec Ideal S64x64 .f32) (X5 : Vec Ideal S8x192x256 .f32)
    (h : Fin 512 → Fin 8 → Fin 64 → ℝ) (u : Fin 512 → Fin 64 → ℝ) (z : Fin 512 → Fin 8 → Fin 128 → ℝ) (a c a' c' : Fin 64 → ℝ) (W3 : Fin 64 → Fin 64 → ℝ) (W : Fin 8 → Fin 192 → Fin 256 → ℝ) : Prop where
  h : ∀ r k o, X0 (ix3 r k o) = (h r k o : EReal)
  u : ∀ r o, X1 (ix2 r o) = (u r o : EReal)
  z : ∀ r k l, X2 (ix3 r k l) = (z r k l : EReal)
  a : ∀ o, X3 (ix2 0 o) = (a o : EReal)
  c : ∀ o, X3 (ix2 1 o) = (c o : EReal)
  a' : ∀ o, X3 (ix2 2 o) = (a' o : EReal)
  c' : ∀ o, X3 (ix2 3 o) = (c' o : EReal)
  W3 : ∀ i o, X4 (ix2 i o) = (W3 i o : EReal)
  W : ∀ k l o, X5 (ix3 k l o) = (W k l o : EReal)

variable {X0 : Vec Ideal S512x8x64 .f32} {X1 : Vec Ideal S512x64 .f32} {X2 : Vec Ideal S512x8x128 .f32} {X3 : Vec Ideal S8x64 .f32} {X4 : Vec Ideal S64x64 .f32} {X5 : Vec Ideal S8x192x256 .f32}
  {h : Fin 512 → Fin 8 → Fin 64 → ℝ} {u : Fin 512 → Fin 64 → ℝ} {z : Fin 512 → Fin 8 → Fin 128 → ℝ} {a c a' c' : Fin 64 → ℝ} {W3 : Fin 64 → Fin 64 → ℝ} {W : Fin 8 → Fin 192 → Fin 256 → ℝ}
  (H : Blk4 X0 X1 X2 X3 X4 X5 h u z a c a' c' W3 W)

include H

theorem fin44_at (r : Fin 512) (o : Fin 64) : fin44 X0 X1 X2 X3 X4 X5 (ix2 r o) = (mt a' c' W3 (u r) o : EReal) := by
  unfold fin44
  pointwise [k4_pay3, k4_pay4, k4_pay5, k4_pay6, k4_pay7]
  simp only [H.u, H.a', H.c', H.W3, sc_f32, al_f32, one_f32, zero_f32, ← EReal.coe_mul, ← EReal.coe_add, selu_kernel, coe_sum]
  rfl

theorem fin47_at (r : Fin 512) (k : Fin 8) (l : Fin 192) : fin47 X0 X1 X2 X3 X4 X5 (ix3 r k l) = (mx a c (h r) (z r) k l : EReal) := by
  unfold fin47 mx
  pointwise [k4_pay2, k4_pay8]
  simp only [H.h, H.a, H.c, H.z, sc_f32, al_f32, one_f32, zero_f32, ← EReal.coe_mul, ← EReal.coe_add, selu_kernel]
  split_ifs <;> rfl

omit H in
theorem mw_eight (T : Fin 64 → ℝ) (X : Fin 8 → Fin 192 → ℝ) (W : Fin 8 → Fin 192 → Fin 256 → ℝ) (o : Fin 256) (i : Fin 8) :
    mw T X W o i = ∑ l, W i l o * (T ⟨i.val * 8, by omega⟩ * X 0 l + T ⟨i.val * 8 + 1, by omega⟩ * X 1 l + T ⟨i.val * 8 + 2, by omega⟩ * X 2 l + T ⟨i.val * 8 + 3, by omega⟩ * X 3 l
      + T ⟨i.val * 8 + 4, by omega⟩ * X 4 l + T ⟨i.val * 8 + 5, by omega⟩ * X 5 l + T ⟨i.val * 8 + 6, by omega⟩ * X 6 l + T ⟨i.val * 8 + 7, by omega⟩ * X 7 l) := by
  refine Finset.sum_congr rfl fun l _ => ?_
  rw [mul_comm, mm, Fin.sum_univ_eight]
  rfl

theorem fin1_at (o : Fin 256) (r : Fin 512) : fin1 X0 X1 X2 X3 X4 X5 (ix2 o r) = ((mw (mt a' c' W3 (u r)) (mx a c (h r) (z r)) W o 0 : ℝ) : EReal) := by
  have eT := fin44_at H
  have eX := fin47_at H
  unfold fin1 fin44 fin47 k4_pay10
  unfold fin44 at eT
  unfold fin47 at eX
  generalize k4_pay7 (F := Ideal) _ _ _ _ _ = T at eT ⊢
  generalize k4_pay8 (F := Ideal) _ _ = X at eX ⊢
  pointwise [k4_pay9, k4_pay11]
  simp only [eT, eX, H.W, zero_f32, ← EReal.coe_mul, ← EReal.coe_add, coe_sum, mw_eight, ← EReal.coe_zero, zero_add]
  rfl

theorem fin2_at (o : Fin 256) (r : Fin 512) : fin2 X0 X1 X2 X3 X4 X5 (ix2 o r) = ((mw (mt a' c' W3 (u r)) (mx a c (h r) (z r)) W o 0 + mw (mt a' c' W3 (u r)) (mx a c (h r) (z r)) W o 1 : ℝ) : EReal) := by
  have eT := fin44_at H
  have eX := fin47_at H
  have eP := fin1_at H o
  unfold fin2
  generalize fin44 X0 X1 X2 X3 X4 X5 = T at eT ⊢
  generalize fin47 X0 X1 X2 X3 X4 X5 = X at eX ⊢
  generalize fin1 X0 X1 X2 X3 X4 X5 = P at eP ⊢
  pointwise [k4_pay12, k4_pay13, k4_pay14]
  simp only [eT, eX, eP, H.W, zero_f32, ← EReal.coe_mul, ← EReal.coe_add, coe_sum, mw_eight]
  rfl

theorem fin4_at (o : Fin 256) (r : Fin 512) : fin4 X0 X1 X2 X3 X4 X5 (ix2 o r) = ((mw (mt a' c' W3 (u r)) (mx a c (h r) (z r)) W o 0 + mw (mt a' c' W3 (u r)) (mx a c (h r) (z r)) W o 1 + mw (mt a' c' W3 (u r)) (mx a c (h r) (z r)) W o 2 + mw (mt a' c' W3 (u r)) (mx a c (h r) (z r)) W o 3 : ℝ) : EReal) := by
  have eT := fin44_at H
  have eX := fin47_at H
  have eP := fin2_at H o
  unfold fin4
  generalize fin44 X0 X1 X2 X3 X4 X5 = T at eT ⊢
  generalize fin47 X0 X1 X2 X3 X4 X5 = X at eX ⊢
  generalize fin2 X0 X1 X2 X3 X4 X5 = P at eP ⊢
  pointwise [k4_pay15, k4_pay16]
  simp only [eT, eX, eP, H.W, zero_f32, ← EReal.coe_mul, ← EReal.coe_add, coe_sum, mw_eight]
  rfl

theorem fin5_at (o : Fin 256) (r : Fin 512) : fin5 X0 X1 X2 X3 X4 X5 (ix2 o r) = ((mw (mt a' c' W3 (u r)) (mx a c (h r) (z r)) W o 0 + mw (mt a' c' W3 (u r)) (mx a c (h r) (z r)) W o 1 + mw (mt a' c' W3 (u r)) (mx a c (h r) (z r)) W o 2 + mw (mt a' c' W3 (u r)) (mx a c (h r) (z r)) W o 3 + mw (mt a' c' W3 (u r)) (mx a c (h r) (z r)) W o 4 : ℝ) : EReal) := by
  have eT := fin44_at H
  have eX := fin47_at H
  have eP := fin4_at H o
  unfold fin5
  generalize fin44 X0 X1 X2 X3 X4 X5 = T at eT ⊢
  generalize fin47 X0 X1 X2 X3 X4 X5 = X at eX ⊢
  generalize fin4 X0 X1 X2 X3 X4 X5 = P at eP ⊢
  pointwise [k4_pay17, k4_pay18]
  simp only [eT, eX, eP, H.W, zero_f32, ← EReal.coe_mul, ← EReal.coe_add, coe_sum, mw_eight]
  rfl

theorem fin6_at (o : Fin 256) (r : Fin 512) : fin6 X0 X1 X2 X3 X4 X5 (ix2 o r) = ((mw (mt a' c' W3 (u r)) (mx a c (h r) (z r)) W o 0 + mw (mt a' c' W3 (u r)) (mx a c (h r) (z r)) W o 1 + mw (mt a' c' W3 (u r)) (mx a c (h r) (z r)) W o 2 + mw (mt a' c' W3 (u r)) (mx a c (h r) (z r)) W o 3 + mw (mt a' c' W3 (u r)) (mx a c (h r) (z r)) W o 4 + mw (mt a' c' W3 (u r)) (mx a c (h r) (z r)) W o 5 : ℝ) : EReal) := by
  have eT := fin44_at H
  have eX := fin47_at H
  have eP := fin5_at H o
  unfold fin6
  generalize fin44 X0 X1 X2 X3 X4 X5 = T at eT ⊢
  generalize fin47 X0 X1 X2 X3 X4 X5 = X at eX ⊢
  generalize fin5 X0 X1 X2 X3 X4 X5 = P at eP ⊢
  pointwise [k4_pay19, k4_pay20, k4_pay21]
  simp only [eT, eX, eP, H.W, zero_f32, ← EReal.coe_mul, ← EReal.coe_add, coe_sum, mw_eight]
  rfl

theorem fin7_at (o : Fin 256) (r : Fin 512) : fin7 X0 X1 X2 X3 X4 X5 (ix2 o r) = ((mw (mt a' c' W3 (u r)) (mx a c (h r) (z r)) W o 0 + mw (mt a' c' W3 (u r)) (mx a c (h r) (z r)) W o 1 + mw (mt a' c' W3 (u r)) (mx a c (h r) (z r)) W o 2 + mw (mt a' c' W3 (u r)) (mx a c (h r) (z r)) W o 3 + mw (mt a' c' W3 (u r)) (mx a c (h r) (z r)) W o 4 + mw (mt a' c' W3 (u r)) (mx a c (h r) (z r)) W o 5 + mw (mt a' c' W3 (u r)) (mx a c (h r) (z r)) W o 6 : ℝ) : EReal) := by
  have eT := fin44_at H
  have eX := fin47_at H
  have eP := fin6_at H o
  unfold fin7
  generalize fin44 X0 X1 X2 X3 X4 X5 = T at eT ⊢
  generalize fin47 X0 X1 X2 X3 X4 X5 = X at eX ⊢
  generalize fin6 X0 X1 X2 X3 X4 X5 = P at eP ⊢
  pointwise [k4_pay22, k4_pay23]
  simp only [eT, eX, eP, H.W, zero_f32, ← EReal.coe_mul, ← EReal.coe_add, coe_sum, mw_eight]
  rfl

theorem fin8_at (o : Fin 256) (r : Fin 512) : fin8 X0 X1 X2 X3 X4 X5 (ix2 o r) = ((mw (mt a' c' W3 (u r)) (mx a c (h r) (z r)) W o 0 + mw (mt a' c' W3 (u r)) (mx a c (h r) (z r)) W o 1 + mw (mt a' c' W3 (u r)) (mx a c (h r) (z r)) W o 2 + mw (mt a' c' W3 (u r)) (mx a c (h r) (z r)) W o 3 + mw (mt a' c' W3 (u r)) (mx a c (h r) (z r)) W o 4 + mw (mt a' c' W3 (u r)) (mx a c (h r) (z r)) W o 5 + mw (mt a' c' W3 (u r)) (mx a c (h r) (z r)) W o 6 + mw (mt a' c' W3 (u r)) (mx a c (h r) (z r)) W o 7 : ℝ) : EReal) := by
  have eT := fin44_at H
  have eX := fin47_at H
  have eP := fin7_at H o
  unfold fin8
  generalize fin44 X0 X1 X2 X3 X4 X5 = T at eT ⊢
  generalize fin47 X0 X1 X2 X3 X4 X5 = X at eX ⊢
  generalize fin7 X0 X1 X2 X3 X4 X5 = P at eP ⊢
  pointwise [k4_pay24, k4_pay25, k4_pay26]
  simp only [eT, eX, eP, H.W, zero_f32, ← EReal.coe_mul, ← EReal.coe_add, coe_sum, mw_eight]
  rfl

/-- All eight slices. -/
theorem fin8_sum (o : Fin 256) (r : Fin 512) : fin8 X0 X1 X2 X3 X4 X5 (ix2 o r) = ((∑ k, mw (mt a' c' W3 (u r)) (mx a c (h r) (z r)) W o k : ℝ) : EReal) := by
  rw [fin8_at H, Fin.sum_univ_eight]

theorem prod_at (o : Fin 256) (r : Fin 512) : prod X0 X1 X2 X3 X4 X5 (ix3 0 o r) = ((∑ k, mw (mt a' c' W3 (u r)) (mx a c (h r) (z r)) W o k : ℝ) : EReal) := by
  refine Eq.trans ?_ (fin8_sum H o r)
  unfold prod k4_pay27 fin8
  generalize k4_pay26 (F := Ideal) _ _ _ _ _ _ = P
  pointwise

theorem pmom_0 (o : Fin 256) : pmom X0 X1 X2 X3 X4 X5 (ix2 o 0) = ((∑ r, ∑ k, mw (mt a' c' W3 (u r)) (mx a c (h r) (z r)) W o k : ℝ) : EReal) := by
  have e := fin8_sum H
  unfold pmom k4_pay28
  unfold fin8 at e
  generalize k4_pay26 (F := Ideal) _ _ _ _ _ _ = P at e ⊢
  pointwise
  simp only [e, coe_sum]

theorem pmom_1 (o : Fin 256) : pmom X0 X1 X2 X3 X4 X5 (ix2 o 1) = ((∑ r, (∑ k, mw (mt a' c' W3 (u r)) (mx a c (h r) (z r)) W o k) * (∑ k, mw (mt a' c' W3 (u r)) (mx a c (h r) (z r)) W o k) : ℝ) : EReal) := by
  have e := fin8_sum H
  unfold pmom k4_pay28
  unfold fin8 at e
  generalize k4_pay26 (F := Ideal) _ _ _ _ _ _ = P at e ⊢
  pointwise
  simp only [e, ← EReal.coe_mul, coe_sum]

end Block

/-! ## Over all queries -/

theorem k4_pay1_at (A : FVec Ideal S256x8 .f32) (B : Vec Ideal S256x8 .f32) (o : Fin 256) (i : Fin 8) : k4_pay1 (F := Ideal) A B (ix2 o i) = B (ix2 o i) + A (ix2 o i) := by
  pointwise [k4_pay1]

theorem idx4_0 : ∀ t : Fin cfg4.N, win4_0.index t = ![t.val, 0, 0] := by decide +kernel
theorem idx4_1 : ∀ t : Fin cfg4.N, win4_1.index t = ![t.val, 0] := by decide +kernel
theorem idx4_2 : ∀ t : Fin cfg4.N, win4_2.index t = ![t.val, 0, 0] := by decide +kernel
theorem idx4_3 : ∀ t : Fin cfg4.N, win4_3.index t = ![0, 0] := by decide +kernel
theorem idx4_4 : ∀ t : Fin cfg4.N, win4_4.index t = ![0, 0] := by decide +kernel
theorem idx4_5 : ∀ t : Fin cfg4.N, win4_5.index t = ![0, 0, 0] := by decide +kernel
theorem idx4_6 : ∀ t : Fin cfg4.N, win4_6.index t = ![t.val / 2, 0, t.val % 2] := by decide +kernel
theorem idx4_7 : ∀ t : Fin cfg4.N, win4_7.index t = ![0, 0] := by decide +kernel

section All

variable (V : Dev nD → Valuation τ sig (Elt Ideal)) (c : Dev nD)

theorem lt4 (t : Fin cfg4.N) : t.val < 8 := by have := t.isLt; have e : cfg4.N = 8 := N_4; omega
theorem half4 (t : Fin cfg4.N) : t.val / 2 < 4 := by have := lt4 t; omega
theorem odd4 (t : Fin cfg4.N) (m : Fin 512) : t.val % 2 * 512 + m.val < 1024 := by have := m.isLt; omega
theorem gRow4 (t : Fin cfg4.N) (r : Fin 512) : t.val * 512 + r.val < 4096 := by have := t.isLt; have e : cfg4.N = 8 := N_4; omega

theorem blk4_0_at (t : Fin cfg4.N) (r : Fin 512) (k : Fin 8) (l : Fin 64) : blk4 V c 0 t (ix3 r k l) = V c (dr main_v93_0) (ix3 ⟨t.val * 512 + r.val, gRow4 t r⟩ k l) := by
  unfold blk4
  blk_ext [idx4_0]
theorem blk4_1_at (t : Fin cfg4.N) (r : Fin 512) (l : Fin 64) : blk4 V c 1 t (ix2 r l) = V c (dr main_v93_1) (ix2 ⟨t.val * 512 + r.val, gRow4 t r⟩ l) := by
  unfold blk4
  blk_ext [idx4_1]
theorem blk4_2_at (t : Fin cfg4.N) (r : Fin 512) (k : Fin 8) (l : Fin 128) : blk4 V c 2 t (ix3 r k l) = V c (dr main_v9) (ix3 ⟨t.val * 512 + r.val, gRow4 t r⟩ k l) := by
  unfold blk4
  blk_ext [idx4_2]
theorem blk4_3_at (t : Fin cfg4.N) (i : Fin 8) (o : Fin 64) : blk4 V c 3 t (ix2 i o) = V c (dr main_v144) (ix2 i o) := by
  unfold blk4
  blk_ext [idx4_3]
theorem blk4_4_at (t : Fin cfg4.N) (i : Fin 64) (o : Fin 64) : blk4 V c 4 t (ix2 i o) = V c (dr main_v146) (ix2 i o) := by
  unfold blk4
  blk_ext [idx4_4]
theorem blk4_5_at (t : Fin cfg4.N) (k : Fin 8) (l : Fin 192) (o : Fin 256) : blk4 V c 5 t (ix3 k l o) = V c (dr main_v148) (ix3 k l o) := by
  unfold blk4
  blk_ext [idx4_5]

variable (h : Fin 4096 → Fin 8 → Fin 64 → ℝ) (u : Fin 4096 → Fin 64 → ℝ) (z : Fin 4096 → Fin 8 → Fin 128 → ℝ) (a b a' b' : Fin 64 → ℝ) (W3 : Fin 64 → Fin 64 → ℝ) (W : Fin 8 → Fin 192 → Fin 256 → ℝ)

/-- What the arrays hold before the call. -/
structure In4 : Prop where
  h : ∀ r k o, V c (dr main_v93_0) (ix3 r k o) = (h r k o : EReal)
  u : ∀ r o, V c (dr main_v93_1) (ix2 r o) = (u r o : EReal)
  z : ∀ r k l, V c (dr main_v9) (ix3 r k l) = (z r k l : EReal)
  a : ∀ o, V c (dr main_v144) (ix2 0 o) = (a o : EReal)
  b : ∀ o, V c (dr main_v144) (ix2 1 o) = (b o : EReal)
  a' : ∀ o, V c (dr main_v144) (ix2 2 o) = (a' o : EReal)
  b' : ∀ o, V c (dr main_v144) (ix2 3 o) = (b' o : EReal)
  W3 : ∀ i o, V c (dr main_v146) (ix2 i o) = (W3 i o : EReal)
  W : ∀ k l o, V c (dr main_v148) (ix3 k l o) = (W k l o : EReal)

/-- A query's product. -/
def mf (o : Fin 256) (R : Fin 4096) : ℝ := ∑ k, mw (mt a' b' W3 (u R)) (mx a b (h R) (z R)) W o k

variable {V c h u z a b a' b' W3 W} (H : In4 V c h u z a b a' b' W3 W)

include H

theorem blk4_holds (t : Fin cfg4.N) : Blk4 (blk4 V c 0 t) (blk4 V c 1 t) (blk4 V c 2 t) (blk4 V c 3 t) (blk4 V c 4 t) (blk4 V c 5 t)
    (fun r => h ⟨t.val * 512 + r.val, gRow4 t r⟩) (fun r => u ⟨t.val * 512 + r.val, gRow4 t r⟩) (fun r => z ⟨t.val * 512 + r.val, gRow4 t r⟩) a b a' b' W3 W where
  h r k o := (blk4_0_at V c t r k o).trans (H.h _ _ _)
  u r o := (blk4_1_at V c t r o).trans (H.u _ _)
  z r k l := (blk4_2_at V c t r k l).trans (H.z _ _ _)
  a o := (blk4_3_at V c t 0 o).trans (H.a o)
  c o := (blk4_3_at V c t 1 o).trans (H.b o)
  a' o := (blk4_3_at V c t 2 o).trans (H.a' o)
  c' o := (blk4_3_at V c t 3 o).trans (H.b' o)
  W3 i o := (blk4_4_at V c t i o).trans (H.W3 i o)
  W k l o := (blk4_5_at V c t k l o).trans (H.W k l o)

theorem v149_0_at (q : Fin 4) (o : Fin 256) (m : Fin 1024) : left V 2 c (dr main_v149_0) (ix3 q o m) = (mf h u z a b a' b' W3 W o ⟨q.val * 1024 + m.val, by omega⟩ : EReal) := by
  rw [show left V 2 c (dr main_v149_0) = (dat4 V c).arrAt 6 cfg4.N from left_arr V (fits2 V) c 6]
  refine congrFun (f := (dat4 V c).arrAt 6 cfg4.N) (g := fun i => (mf h u z a b a' b' W3 W (i 1)
    ⟨(i 0).val * 1024 + (i 2).val, by have e0 : (i 0).val < 4 := (i 0).isLt; have e2 : (i 2).val < 1024 := (i 2).isLt; omega⟩ : EReal)) ?_ (ix3 q o m)
  refine (dat4 V c).arrAt_eq_of_covers 6 _ (by decide +kernel) fun t hf y => ?_
  have y0 : (y 0).val = 0 := by have e : (y 0).val < 1 := (y 0).isLt; omega
  have y2 : (y 2).val < 512 := (y 2).isLt
  have ht := lt4 t
  have hy : y = (ix3 0 (y 1) (y 2) : S1x256x512.Idx) := (ValueIdx.eq_ix3 (n0 := 1) (n1 := 256) (n2 := 512) y).trans (congrArg (fun i => ix3 i (y 1) (y 2)) (Fin.ext y0))
  have ey : ((cfg4.win 6).blk t).view.emb (ix3 0 (y 1) (y 2) : S1x256x512.Idx) = (ix3 ⟨t.val / 2, half4 t⟩ (y 1) ⟨t.val % 2 * 512 + (y 2).val, odd4 t (y 2)⟩ : S4x256x1024.Idx) := by blk_ext [idx4_6]
  rw [hy, ey]
  refine (congrFun (after4_6 V c t) _).trans ?_
  refine (prod_at (blk4_holds H t) (y 1) (y 2)).trans ?_
  refine congrArg (fun R => (mf h u z a b a' b' W3 W (y 1) R : EReal)) (Fin.ext ?_)
  show t.val * 512 + (y 2).val = t.val / 2 * 1024 + (t.val % 2 * 512 + (y 2).val)
  omega

omit H in
theorem arr4_7 : (dat4 V c).arrAt 7 cfg4.N = acc4 V c 7 (by decide) := by
  refine (dat4 V c).arrAt_eq_of_covers 7 _ (by decide +kernel) fun t hf y => ?_
  have ht : t.val = 7 := by have := (flush4_7 t).mp hf; have := t.isLt; have e : cfg4.N = 8 := N_4; omega
  have ey : ((cfg4.win 7).blk t).view.emb y = y := by blk_ext [idx4_7]
  rw [ey]
  refine (congrFun (after4_7 V c t) y).trans ?_
  simp only [ht]

omit H in
/-- A column of the moments, from its terms by block. -/
theorem v149_1_sum (o : Fin 256) (i : Fin 8) (g : Fin 4096 → ℝ)
    (e : ∀ t : Fin cfg4.N, pmom (blk4 V c 0 t) (blk4 V c 1 t) (blk4 V c 2 t) (blk4 V c 3 t) (blk4 V c 4 t) (blk4 V c 5 t) (ix2 o i)
      = ((∑ r : Fin 512, g ⟨t.val * 512 + r.val, gRow4 t r⟩ : ℝ) : EReal)) :
    left V 2 c (dr main_v149_1) (ix2 o i) = ((∑ R, g R : ℝ) : EReal) := by
  rw [show left V 2 c (dr main_v149_1) = acc4 V c 7 (by decide) from (left_arr V (fits2 V) c 7).trans arr4_7]
  rw [acc_real (fun n hn => acc4 V c n hn (ix2 o i)) (fun n hn => ∑ r : Fin 512, g ⟨n * 512 + r.val, gRow4 ⟨n, hn⟩ r⟩)
    (fun hn => e ⟨0, hn⟩)
    (fun n hn => (k4_pay1_at _ _ o i).trans (congrArg _ (e ⟨n + 1, hn⟩))) 7 (by decide)]
  exact congrArg _ (Fin.sum_mul_add_fin 8 512 g)

theorem v149_1_0 (o : Fin 256) : left V 2 c (dr main_v149_1) (ix2 o 0) = ((∑ R, mf h u z a b a' b' W3 W o R : ℝ) : EReal) :=
  v149_1_sum o 0 (mf h u z a b a' b' W3 W o) fun t => pmom_0 (blk4_holds H t) o
theorem v149_1_1 (o : Fin 256) : left V 2 c (dr main_v149_1) (ix2 o 1) = ((∑ R, mf h u z a b a' b' W3 W o R * mf h u z a b a' b' W3 W o R : ℝ) : EReal) :=
  v149_1_sum o 1 (fun R => mf h u z a b a' b' W3 W o R * mf h u z a b a' b' W3 W o R) fun t => pmom_1 (blk4_holds H t) o

end All

end Cert.Proof
-- ==== Proof.NetLin.lean ====
/-
  The layers in the kernel's arrangement: sums from the moments of the relative positions, and each normalisation as a
  factor and an offset.
-/
module

public import proofs.«01_k».proof.Proof.Net
public import proofs.«01_k».proof.Proof.Mix
public import Idealize.ShloMosaic.Lib.Pointwise

@[expose] public section

set_option maxRecDepth 16384

noncomputable section

namespace Cert.Proof

open Idealize.ShloMosaic

/-- A linear layer's mean, from its inputs' means, -/
theorem lin_sum {ι κ : Type*} [Fintype ι] [Fintype κ] [Nonempty ι] (p : ι → κ → ℝ) (W : κ → ℝ) (n : ℝ) : ∑ a, W a * ((∑ i, p i a) / n) = (∑ i, ∑ a, p i a * W a) / n := by
  rw [sum_lin, Finset.sum_div]
  exact Finset.sum_congr rfl fun a _ => mul_div_assoc _ _ _ |>.symm

/-- and its mean square, from its inputs' second moments. -/
theorem lin_sq {ι κ : Type*} [Fintype ι] [Fintype κ] [Nonempty ι] (p : ι → κ → ℝ) (W : κ → ℝ) (n : ℝ) :
    ∑ b, (∑ a, W a * ((∑ i, p i a * p i b) / n)) * W b = (∑ i, (∑ a, p i a * W a) * (∑ a, p i a * W a)) / n := by
  rw [sq_lin, Finset.sum_div]
  refine Finset.sum_congr rfl fun b _ => ?_
  rw [mul_div_right_comm, Finset.sum_div]
  exact congrArg (· * W b) (Finset.sum_congr rfl fun a _ => (mul_div_assoc _ _ _).symm)

/-- Sixteen lanes, of which three are in use. -/
theorem sum_lanes (f g : Fin 3 → ℝ) : ∑ l : Fin 16, (if h : l.val < 3 then f ⟨l.val, h⟩ else 0) * (if h : l.val < 3 then g ⟨l.val, h⟩ else 0) = ∑ a, f a * g a := by
  simp [Fin.sum_univ_succ]

namespace Net

variable (N : Net)

/-- The relative positions' sums -/
def S (j : Fin 8) (a : Fin 3) : ℝ := ∑ r, N.ph r j a
/-- and second moments. -/
def Q (i : Fin 8) (a : Fin 3) (j : Fin 8) (b : Fin 3) : ℝ := ∑ r, N.ph r i a * N.ph r j b
/-- The relative positions in sixteen lanes. -/
def lanes (r : Fin 4096) (k : Fin 8) (l : Fin 16) : ℝ := if h : l.val < 3 then N.ph r k ⟨l.val, h⟩ else 0

theorem h1_mean (o : Fin 64) : ∑ a, N.W1 o a * ((∑ j, N.S j a) / 32768) = (∑ i, N.h1 o i) / 32768 := by
  refine Eq.trans ?_ (lin_sum (fun i : Fin 4096 × Fin 8 => N.ph i.1 i.2) (N.W1 o) 32768)
  refine Finset.sum_congr rfl fun a _ => ?_
  rw [Fintype.sum_prod_type, Finset.sum_comm]
  rfl

theorem h1_sq (o : Fin 64) : ∑ b, (∑ a, N.W1 o a * ((∑ j, N.Q j a j b) / 32768)) * N.W1 o b = (∑ i, N.h1 o i * N.h1 o i) / 32768 := by
  refine Eq.trans ?_ (lin_sq (fun i : Fin 4096 × Fin 8 => N.ph i.1 i.2) (N.W1 o) 32768)
  refine Finset.sum_congr rfl fun b _ => congrArg (· * N.W1 o b) (Finset.sum_congr rfl fun a _ => ?_)
  rw [Fintype.sum_prod_type, Finset.sum_comm]
  rfl

/-- The transform's first layer over its 24 inputs. -/
theorem t1_flat (o : Fin 64) (r : Fin 4096) :
    N.t1 o r = ∑ p : Fin 24, N.ph r ⟨p.val / 3, by omega⟩ ⟨p.val % 3, by omega⟩ * N.Wt1 o ⟨p.val % 3, by omega⟩ ⟨p.val / 3, by omega⟩ :=
  (Fin.sum_divmod_fin (N := 24) (A := 8) 3 (fun k a => N.ph r k a * N.Wt1 o a k)).symm

theorem t1_mean (o : Fin 64) : ∑ p : Fin 24, N.Wt1 o ⟨p.val % 3, by omega⟩ ⟨p.val / 3, by omega⟩ * (N.S ⟨p.val / 3, by omega⟩ ⟨p.val % 3, by omega⟩ / 4096) = (∑ r, N.t1 o r) / 4096 := by
  rw [Finset.sum_congr rfl fun r _ => N.t1_flat o r]
  exact lin_sum (fun (r : Fin 4096) (p : Fin 24) => N.ph r ⟨p.val / 3, by omega⟩ ⟨p.val % 3, by omega⟩) (fun p => N.Wt1 o ⟨p.val % 3, by omega⟩ ⟨p.val / 3, by omega⟩) 4096

theorem t1_sq (o : Fin 64) : ∑ q : Fin 24, (∑ p : Fin 24, N.Wt1 o ⟨p.val % 3, by omega⟩ ⟨p.val / 3, by omega⟩ * (N.Q ⟨p.val / 3, by omega⟩ ⟨p.val % 3, by omega⟩ ⟨q.val / 3, by omega⟩ ⟨q.val % 3, by omega⟩ / 4096))
      * N.Wt1 o ⟨q.val % 3, by omega⟩ ⟨q.val / 3, by omega⟩ = (∑ r, N.t1 o r * N.t1 o r) / 4096 := by
  rw [Finset.sum_congr rfl fun r _ => congrArg₂ (· * ·) (N.t1_flat o r) (N.t1_flat o r)]
  exact lin_sq (fun (r : Fin 4096) (p : Fin 24) => N.ph r ⟨p.val / 3, by omega⟩ ⟨p.val % 3, by omega⟩) (fun p => N.Wt1 o ⟨p.val % 3, by omega⟩ ⟨p.val / 3, by omega⟩) 4096

/-! ## The factors and offsets -/

/-- Of the points' first layer, -/
def f1 (o : Fin 64) : ℝ := fac 32768 (∑ i, N.h1 o i) (∑ i, N.h1 o i * N.h1 o i) (N.g1 o)
def o1 (o : Fin 64) : ℝ := off 32768 (∑ i, N.h1 o i) (∑ i, N.h1 o i * N.h1 o i) (N.g1 o) (N.b1 o)
/-- their second, -/
def f2 (o : Fin 64) : ℝ := fac 32768 (∑ i, N.h2 o i) (∑ i, N.h2 o i * N.h2 o i) (N.g2 o)
def o2 (o : Fin 64) : ℝ := off 32768 (∑ i, N.h2 o i) (∑ i, N.h2 o i * N.h2 o i) (N.g2 o) (N.b2 o)
/-- the transform's first, -/
def ft1 (o : Fin 64) : ℝ := fac 4096 (∑ i, N.t1 o i) (∑ i, N.t1 o i * N.t1 o i) (N.gt1 o)
def ot1 (o : Fin 64) : ℝ := off 4096 (∑ i, N.t1 o i) (∑ i, N.t1 o i * N.t1 o i) (N.gt1 o) (N.bt1 o)
/-- its second, -/
def ft2 (o : Fin 64) : ℝ := fac 4096 (∑ i, N.t2 o i) (∑ i, N.t2 o i * N.t2 o i) (N.gt2 o)
def ot2 (o : Fin 64) : ℝ := off 4096 (∑ i, N.t2 o i) (∑ i, N.t2 o i * N.t2 o i) (N.gt2 o) (N.bt2 o)
/-- and the last. -/
def ff (o : Fin 256) : ℝ := fac 4096 (∑ i, N.fin o i) (∑ i, N.fin o i * N.fin o i) (N.gf o)
def fo (o : Fin 256) : ℝ := off 4096 (∑ i, N.fin o i) (∑ i, N.fin o i * N.fin o i) (N.gf o) 0

theorem card_pts : (32768 : ℝ) = Fintype.card (Fin 4096 × Fin 8) := by rw [Fintype.card_prod, Fintype.card_fin, Fintype.card_fin]; norm_num
theorem card_rows : (4096 : ℝ) = Fintype.card (Fin 4096) := by rw [Fintype.card_fin]; norm_num

theorem n1_eq (o : Fin 64) (i : Fin 4096 × Fin 8) : N.n1 o i = N.h1 o i * N.f1 o + N.o1 o := norm_eq _ _ _ i card_pts rfl rfl
theorem n2_eq (o : Fin 64) (i : Fin 4096 × Fin 8) : N.n2 o i = N.h2 o i * N.f2 o + N.o2 o := norm_eq _ _ _ i card_pts rfl rfl
theorem u1_eq (o : Fin 64) (r : Fin 4096) : N.u1 o r = N.t1 o r * N.ft1 o + N.ot1 o := norm_eq _ _ _ r card_rows rfl rfl
theorem u2_eq (o : Fin 64) (r : Fin 4096) : N.u2 o r = N.t2 o r * N.ft2 o + N.ot2 o := norm_eq _ _ _ r card_rows rfl rfl
theorem nf_eq (o : Fin 256) (r : Fin 4096) : N.nf o r = N.fin o r * N.ff o + N.fo o := norm_eq _ _ _ r card_rows rfl rfl

/-! ## The layers -/

/-- The first layer's weights, scaled and in sixteen lanes; -/
def w1 (l : Fin 16) (o : Fin 64) : ℝ := if h : l.val < 3 then N.W1 o ⟨l.val, h⟩ * N.f1 o else 0
/-- and the transform's. -/
def wt1 (k : Fin 8) (l : Fin 16) (o : Fin 64) : ℝ := if h : l.val < 3 then N.Wt1 o ⟨l.val, h⟩ k * N.ft1 o else 0

theorem yh_eq (r : Fin 4096) (k : Fin 8) (o : Fin 64) : yh N.w1 N.o1 (fun c o => N.W2 o c) (N.lanes r) k o = N.h2 o (r, k) := by
  unfold yh h2
  refine Finset.sum_congr rfl fun c _ => ?_
  rw [n1_eq]
  refine congrArg (fun v => selu (v + N.o1 c) * N.W2 o c) ?_
  refine (sum_lanes (N.ph r k) (fun a => N.W1 c a * N.f1 c)).trans ?_
  unfold h1
  rw [Finset.sum_mul]
  exact Finset.sum_congr rfl fun a _ => (mul_assoc _ _ _).symm

theorem yt_eq (r : Fin 4096) (o : Fin 64) : yt N.wt1 N.ot1 (fun c o => N.Wt2 o c) (N.lanes r) o = N.t2 o r := by
  have e : ∀ k c, ∑ l, N.lanes r k l * N.wt1 k l c = (∑ a, N.ph r k a * N.Wt1 c a k) * N.ft1 c := fun k c => by
    refine (sum_lanes (N.ph r k) (fun a => N.Wt1 c a k * N.ft1 c)).trans ?_
    rw [Finset.sum_mul]
    exact Finset.sum_congr rfl fun a _ => (mul_assoc _ _ _).symm
  unfold yt t2
  refine Finset.sum_congr rfl fun c _ => ?_
  rw [u1_eq]
  refine congrArg (fun v => selu v * N.Wt2 o c) ?_
  simp only [e]
  unfold t1
  rw [Fin.sum_univ_eight]
  ring

theorem mt_eq (r : Fin 4096) (o : Fin 64) : mt N.ft2 N.ot2 (fun c o => N.Wt3 o c) (fun o => N.t2 o r) o = N.t3 o r := by
  unfold mt t3
  refine Finset.sum_congr rfl fun c _ => ?_
  rw [u2_eq]

theorem mx_eq (r : Fin 4096) (k : Fin 8) (l : Fin 192) : mx N.f2 N.o2 (fun k o => N.h2 o (r, k)) (N.xs r) k l = N.xh r k l := by
  unfold mx xh
  split_ifs with h
  · rw [n2_eq]
  · rfl

theorem mf_eq (o : Fin 256) (r : Fin 4096) :
    mf (fun r k o => N.h2 o (r, k)) (fun r o => N.t2 o r) N.xs N.f2 N.o2 N.ft2 N.ot2 (fun c o => N.Wt3 o c) (fun k c o => N.Wf o c k) o r = N.fin o r := by
  unfold mf fin mw mm xm
  simp only [mt_eq, mx_eq]

theorem out_eq (o : Fin 256) (r : Fin 4096) : seluX (((N.fin o r * N.ff o : ℝ) : EReal) + ((N.fo o : EReal) + N.bf o)) = N.out o r := by
  unfold out
  rw [nf_eq, EReal.coe_add, add_assoc]

end Net

end Cert.Proof
-- ==== Proof.RefOps.lean ====
/-
  The reference's normalisations and activations, read at an entry.
-/
module

public import proofs.«01_k».proof.Proof.Net
public import proofs.«01_k».proof.Proof.Gen.ReferenceIdeal.Run

@[expose] public section

noncomputable section

namespace Cert.Proof

open Cert.ReferenceIdeal Cert.ReferenceIdeal.Gen Cert.ReferenceIdeal.Value
open Idealize.ShloMosaic Idealize.ShloMosaic.TcCoe Idealize.SL.Sem Idealize.ShloMosaic.StableHlo

/-! Over 4096 × 8 rows of 64. -/

/-- The mean over the rows, -/
def rMean3 (X : FVec Ideal S4096x8x64 .f32) : FVec Ideal S1x1x64 .f32 :=
  Host.divf (broadcastInDim S1x1x64 ![2] bcast_S64_S1x1x64_2 (Host.reduceAdd (X) (constant S_ .f32 0x00000000#32) reducesTo_S4096x8x64_S64_d0_1 h_S_)) (broadcastInDim S1x1x64 ![] bcast_S_S1x1x64 (constant S_ .f32 0x47000000#32))
/-- the deviations, -/
def rDev3 (X : FVec Ideal S4096x8x64 .f32) : FVec Ideal S4096x8x64 .f32 := subf X (broadcastInDim S4096x8x64 ![0, 1, 2] bcast_S1x1x64_S4096x8x64_0_1_2 (rMean3 X))
/-- the number of rows, -/
def rCnt3 : FVec Ideal S_ .f32 := subf (constant S_ .f32 0x47000000#32) (sitofp .f32 (constantI S_ 32 0#32))
/-- the variance, -/
def rVar3 (X : FVec Ideal S4096x8x64 .f32) : FVec Ideal S1x1x64 .f32 :=
  select (broadcastInDim S1x1x64 ![] bcast_S_S1x1x64 (cmpf .ogt rCnt3 (constant S_ .f32 0x00000000#32))) (Host.divf (broadcastInDim S1x1x64 ![2] bcast_S64_S1x1x64_2 (Host.reduceAdd (mulf (rDev3 X) (rDev3 X)) (constant S_ .f32 0x00000000#32) reducesTo_S4096x8x64_S64_d0_1 h_S_)) (broadcastInDim S1x1x64 ![] bcast_S_S1x1x64 (rCnt3)))
    (broadcastInDim S1x1x64 ![] bcast_S_S1x1x64 (id (constant S_ .f32 0x7FC00000#32)))
/-- and the rows normalised, scaled and shifted. -/
def rNorm3 (X : FVec Ideal S4096x8x64 .f32) (G B : FVec Ideal S64 .f32) : FVec Ideal S4096x8x64 .f32 :=
  addf (Host.divf (mulf (broadcastInDim S4096x8x64 ![0, 1, 2] bcast_S1x1x64_S4096x8x64_0_1_2 (broadcastInDim S1x1x64 ![2] bcast_S64_S1x1x64_2 (G))) (subf X (broadcastInDim S4096x8x64 ![0, 1, 2] bcast_S1x1x64_S4096x8x64_0_1_2 (rMean3 X))))
    (broadcastInDim S4096x8x64 ![0, 1, 2] bcast_S1x1x64_S4096x8x64_0_1_2 (Host.sqrt (addf (rVar3 X) (broadcastInDim S1x1x64 ![] bcast_S_S1x1x64 (constant S_ .f32 0x3727C5AC#32)))))) (broadcastInDim S4096x8x64 ![0, 1, 2] bcast_S1x1x64_S4096x8x64_0_1_2 (broadcastInDim S1x1x64 ![2] bcast_S64_S1x1x64_2 (B)))

/-! Over 4096 rows of 64. -/

/-- The mean over the rows, -/
def rMean2 (X : FVec Ideal S4096x64 .f32) : FVec Ideal S1x64 .f32 :=
  Host.divf (broadcastInDim S1x64 ![1] bcast_S64_S1x64_1 (Host.reduceAdd (X) (constant S_ .f32 0x00000000#32) reducesTo_S4096x64_S64_d0 h_S_)) (broadcastInDim S1x64 ![] bcast_S_S1x64 (constant S_ .f32 0x45800000#32))
/-- the deviations, -/
def rDev2 (X : FVec Ideal S4096x64 .f32) : FVec Ideal S4096x64 .f32 := subf X (broadcastInDim S4096x64 ![0, 1] bcast_S1x64_S4096x64_0_1 (rMean2 X))
/-- the number of rows, -/
def rCnt2 : FVec Ideal S_ .f32 := subf (constant S_ .f32 0x45800000#32) (sitofp .f32 (constantI S_ 32 0#32))
/-- the variance, -/
def rVar2 (X : FVec Ideal S4096x64 .f32) : FVec Ideal S1x64 .f32 :=
  select (broadcastInDim S1x64 ![] bcast_S_S1x64 (cmpf .ogt rCnt2 (constant S_ .f32 0x00000000#32))) (Host.divf (broadcastInDim S1x64 ![1] bcast_S64_S1x64_1 (Host.reduceAdd (mulf (rDev2 X) (rDev2 X)) (constant S_ .f32 0x00000000#32) reducesTo_S4096x64_S64_d0 h_S_)) (broadcastInDim S1x64 ![] bcast_S_S1x64 (rCnt2)))
    (broadcastInDim S1x64 ![] bcast_S_S1x64 (id (constant S_ .f32 0x7FC00000#32)))
/-- and the rows normalised, scaled and shifted. -/
def rNorm2 (X : FVec Ideal S4096x64 .f32) (G B : FVec Ideal S64 .f32) : FVec Ideal S4096x64 .f32 :=
  addf (Host.divf (mulf (broadcastInDim S4096x64 ![0, 1] bcast_S1x64_S4096x64_0_1 (broadcastInDim S1x64 ![1] bcast_S64_S1x64_1 (G))) (subf X (broadcastInDim S4096x64 ![0, 1] bcast_S1x64_S4096x64_0_1 (rMean2 X))))
    (broadcastInDim S4096x64 ![0, 1] bcast_S1x64_S4096x64_0_1 (Host.sqrt (addf (rVar2 X) (broadcastInDim S1x64 ![] bcast_S_S1x64 (constant S_ .f32 0x3727C5AC#32)))))) (broadcastInDim S4096x64 ![0, 1] bcast_S1x64_S4096x64_0_1 (broadcastInDim S1x64 ![1] bcast_S64_S1x64_1 (B)))

/-! Over 4096 rows of 256. -/

/-- The mean over the rows, -/
def rMeanF (X : FVec Ideal S4096x256 .f32) : FVec Ideal S1x256 .f32 :=
  Host.divf (broadcastInDim S1x256 ![1] bcast_S256_S1x256_1 (Host.reduceAdd (X) (constant S_ .f32 0x00000000#32) reducesTo_S4096x256_S256_d0 h_S_)) (broadcastInDim S1x256 ![] bcast_S_S1x256 (constant S_ .f32 0x45800000#32))
/-- the deviations, -/
def rDevF (X : FVec Ideal S4096x256 .f32) : FVec Ideal S4096x256 .f32 := subf X (broadcastInDim S4096x256 ![0, 1] bcast_S1x256_S4096x256_0_1 (rMeanF X))
/-- the number of rows, -/
def rCntF : FVec Ideal S_ .f32 := subf (constant S_ .f32 0x45800000#32) (sitofp .f32 (constantI S_ 32 0#32))
/-- the variance, -/
def rVarF (X : FVec Ideal S4096x256 .f32) : FVec Ideal S1x256 .f32 :=
  select (broadcastInDim S1x256 ![] bcast_S_S1x256 (cmpf .ogt rCntF (constant S_ .f32 0x00000000#32))) (Host.divf (broadcastInDim S1x256 ![1] bcast_S256_S1x256_1 (Host.reduceAdd (mulf (rDevF X) (rDevF X)) (constant S_ .f32 0x00000000#32) reducesTo_S4096x256_S256_d0 h_S_)) (broadcastInDim S1x256 ![] bcast_S_S1x256 (rCntF)))
    (broadcastInDim S1x256 ![] bcast_S_S1x256 (id (constant S_ .f32 0x7FC00000#32)))
/-- and the rows normalised, scaled and shifted. -/
def rNormF (X : FVec Ideal S4096x256 .f32) (G B : FVec Ideal S256 .f32) : FVec Ideal S4096x256 .f32 :=
  addf (Host.divf (mulf (broadcastInDim S4096x256 ![0, 1] bcast_S1x256_S4096x256_0_1 (broadcastInDim S1x256 ![1] bcast_S256_S1x256_1 (G))) (subf X (broadcastInDim S4096x256 ![0, 1] bcast_S1x256_S4096x256_0_1 (rMeanF X))))
    (broadcastInDim S4096x256 ![0, 1] bcast_S1x256_S4096x256_0_1 (Host.sqrt (addf (rVarF X) (broadcastInDim S1x256 ![] bcast_S_S1x256 (constant S_ .f32 0x3727C5AC#32)))))) (broadcastInDim S4096x256 ![0, 1] bcast_S1x256_S4096x256_0_1 (broadcastInDim S1x256 ![1] bcast_S256_S1x256_1 (B)))

/-- The activation, of 4096 × 8 rows of 64, -/
def rSelu3 (X : FVec Ideal S4096x8x64 .f32) : FVec Ideal S4096x8x64 .f32 :=
  mulf (broadcastInDim S4096x8x64 ![] bcast_S_S4096x8x64 (constant S_ .f32 0x3F867D5F#32)) (select (cmpf .ogt X (broadcastInDim S4096x8x64 ![] bcast_S_S4096x8x64 (constant S_ .f32 0x00000000#32))) X
    (mulf (broadcastInDim S4096x8x64 ![] bcast_S_S4096x8x64 (id (constant S_ .f32 0x3FD62D7D#32))) (Host.expm1 (select (cmpf .ogt X (broadcastInDim S4096x8x64 ![] bcast_S_S4096x8x64 (constant S_ .f32 0x00000000#32))) (broadcastInDim S4096x8x64 ![] bcast_S_S4096x8x64 (id (constant S_ .f32 0x00000000#32))) X))))

/-- of 4096 rows of 64, -/
def rSelu2 (X : FVec Ideal S4096x64 .f32) : FVec Ideal S4096x64 .f32 :=
  mulf (broadcastInDim S4096x64 ![] bcast_S_S4096x64 (constant S_ .f32 0x3F867D5F#32)) (select (cmpf .ogt X (broadcastInDim S4096x64 ![] bcast_S_S4096x64 (constant S_ .f32 0x00000000#32))) X
    (mulf (broadcastInDim S4096x64 ![] bcast_S_S4096x64 (id (constant S_ .f32 0x3FD62D7D#32))) (Host.expm1 (select (cmpf .ogt X (broadcastInDim S4096x64 ![] bcast_S_S4096x64 (constant S_ .f32 0x00000000#32))) (broadcastInDim S4096x64 ![] bcast_S_S4096x64 (id (constant S_ .f32 0x00000000#32))) X))))

/-- and of 4096 rows of 256. -/
def rSeluF (X : FVec Ideal S4096x256 .f32) : FVec Ideal S4096x256 .f32 :=
  mulf (broadcastInDim S4096x256 ![] bcast_S_S4096x256 (constant S_ .f32 0x3F867D5F#32)) (select (cmpf .ogt X (broadcastInDim S4096x256 ![] bcast_S_S4096x256 (constant S_ .f32 0x00000000#32))) X
    (mulf (broadcastInDim S4096x256 ![] bcast_S_S4096x256 (id (constant S_ .f32 0x3FD62D7D#32))) (Host.expm1 (select (cmpf .ogt X (broadcastInDim S4096x256 ![] bcast_S_S4096x256 (constant S_ .f32 0x00000000#32))) (broadcastInDim S4096x256 ![] bcast_S_S4096x256 (id (constant S_ .f32 0x00000000#32))) X))))

/-- The sum over the rows of an array of 4096 × 8 rows. -/
theorem sum3 (h : S4096x8x64.ReducesTo [0, 1] S64) (X : S4096x8x64.Idx → EReal) (o : Fin 64) :
    Ideal.hostReduceAdd h X 0 (ix1 o) = ∑ i : Fin 4096 × Fin 8, X (ix3 i.1 i.2 o) := by
  unfold Ideal.hostReduceAdd
  rw [zero_add]
  refine Finset.sum_filter_eq_sum_of_fiber _ (fun p : Fin 4096 × Fin 8 => ix3 p.1 p.2 o) (fun a b e => Prod.ext (congrFun e 0) (congrFun e 1)) (fun i => ?_) X
  have hd : (h.drop i 0).val = (i 2).val := rfl
  constructor
  · intro e
    refine ⟨(i 0, i 1), ?_⟩
    rw [eq_ix3 i]
    have : (i 2) = o := Fin.ext (hd.symm.trans (congrArg (fun f => (f 0).val) e))
    rw [← this]
    rfl
  · rintro ⟨p, rfl⟩
    funext b
    match b with
    | ⟨0, _⟩ => exact Fin.ext hd

theorem al_word : id (constant S_ FTy.f32 0x3FD62D7D#32 : FVec Ideal S_ .f32) ix0 = (al : EReal) := al_f32
theorem zero_word : id (constant S_ FTy.f32 0x00000000#32 : FVec Ideal S_ .f32) ix0 = ((0 : ℝ) : EReal) := zero_f32

set_option maxRecDepth 16384 in
/-- The normalisation of such rows, as the reference computes it. -/
theorem rNorm3_apply (X : FVec Ideal S4096x8x64 .f32) (G B : FVec Ideal S64 .f32) (f : Fin 64 → Fin 4096 × Fin 8 → ℝ) (g b : Fin 64 → ℝ)
    (hX : ∀ r k o, X (ix3 r k o) = (f o (r, k) : EReal)) (hG : ∀ o, G (ix1 o) = (g o : EReal)) (hB : ∀ o, B (ix1 o) = (b o : EReal)) (r : Fin 4096) (k : Fin 8) (o : Fin 64) :
    rNorm3 X G B (ix3 r k o) = (norm (f o) (g o) (b o) (r, k) : EReal) := by
  have hc : (Fintype.card (Fin 4096 × Fin 8) : ℝ) = 32768 := by simp
  have hm : ∀ o, rMean3 X (ix3 0 0 o) = (mean (f o) : EReal) := by
    intro o
    pointwise [rMean3]
    simp only [sum3, hX, n15_f32, coe_sum, div_real _ (show (32768 : ℝ) ≠ 0 by norm_num)]
    unfold mean; rw [hc]
  have hd : ∀ r k o, rDev3 X (ix3 r k o) = ((f o (r, k) - mean (f o) : ℝ) : EReal) := by
    intro r k o
    unfold rDev3
    have e := hm o
    generalize rMean3 X = M at e ⊢
    pointwise
    simp only [hX, e, ← EReal.coe_sub]
  have hn : rCnt3 ix0 = ((32768 : ℝ) : EReal) := by
    pointwise [rCnt3]
    rw [n15_f32]
    have : (FloatOps.sitofp (F := Ideal) FTy.f32 (0#32) : EReal) = 0 := by
      show (((0#32).toInt : ℝ) : EReal) = 0
      simp
    rw [this, sub_zero]
  have hv : ∀ o, rVar3 X (ix3 0 0 o) = (var (f o) : EReal) := by
    intro o
    unfold rVar3
    generalize rCnt3 = C at hn ⊢
    generalize rDev3 X = D at hd ⊢
    have hdd : ∀ i : Fin 4096 × Fin 8, mulf D D (ix3 i.1 i.2 o) = (((f o i - mean (f o)) * (f o i - mean (f o)) : ℝ) : EReal) := by
      intro i
      pointwise
      rw [hd, EReal.coe_mul]
    generalize mulf D D = DD at hdd ⊢
    pointwise
    simp only [sum3, hn]
    rw [if_pos (by norm_num)]
    simp only [hdd, coe_sum, div_real _ (show (32768 : ℝ) ≠ 0 by norm_num)]
    unfold var; rw [hc]
  unfold rNorm3
  have e := hm o
  have e' := hv o
  generalize rMean3 X = M at e ⊢
  generalize rVar3 X = V at e' ⊢
  pointwise
  have hp : 0 ≤ var (f o) + eps := add_nonneg (var_nonneg _) eps_pos.le
  have hq : Real.sqrt (var (f o) + eps) ≠ 0 := (Real.sqrt_pos.2 (add_pos_of_nonneg_of_pos (var_nonneg _) eps_pos)).ne'
  simp only [hX, hG, hB, e, e', eps_f32, ← EReal.coe_sub, ← EReal.coe_add, ← EReal.coe_mul, sqrt_real hp, div_real _ hq]
  rfl

set_option maxRecDepth 16384 in
/-- The normalisation of such rows, as the reference computes it. -/
theorem rNorm2_apply (X : FVec Ideal S4096x64 .f32) (G B : FVec Ideal S64 .f32) (f : Fin 64 → Fin 4096 → ℝ) (g b : Fin 64 → ℝ)
    (hX : ∀ r o, X (ix2 r o) = (f o r : EReal)) (hG : ∀ o, G (ix1 o) = (g o : EReal)) (hB : ∀ o, B (ix1 o) = (b o : EReal)) (r : Fin 4096) (o : Fin 64) :
    rNorm2 X G B (ix2 r o) = (norm (f o) (g o) (b o) r : EReal) := by
  have hc : (Fintype.card (Fin 4096) : ℝ) = 4096 := by simp
  have hm : ∀ o, rMean2 X (ix2 0 o) = (mean (f o) : EReal) := by
    intro o
    pointwise [rMean2]
    simp only [hX, n12_f32, coe_sum, div_real _ (show (4096 : ℝ) ≠ 0 by norm_num)]
    unfold mean; rw [hc]
  have hd : ∀ r o, rDev2 X (ix2 r o) = ((f o r - mean (f o) : ℝ) : EReal) := by
    intro r o
    unfold rDev2
    have e := hm o
    generalize rMean2 X = M at e ⊢
    pointwise
    simp only [hX, e, ← EReal.coe_sub]
  have hn : rCnt2 ix0 = ((4096 : ℝ) : EReal) := by
    pointwise [rCnt2]
    rw [n12_f32]
    have : (FloatOps.sitofp (F := Ideal) FTy.f32 (0#32) : EReal) = 0 := by
      show (((0#32).toInt : ℝ) : EReal) = 0
      simp
    rw [this, sub_zero]
  have hv : ∀ o, rVar2 X (ix2 0 o) = (var (f o) : EReal) := by
    intro o
    unfold rVar2
    generalize rCnt2 = C at hn ⊢
    generalize rDev2 X = D at hd ⊢
    have hdd : ∀ i : Fin 4096, mulf D D (ix2 i o) = (((f o i - mean (f o)) * (f o i - mean (f o)) : ℝ) : EReal) := by
      intro i
      pointwise
      rw [hd, EReal.coe_mul]
    generalize mulf D D = DD at hdd ⊢
    pointwise
    simp only [hn]
    rw [if_pos (by norm_num)]
    simp only [hdd, coe_sum, div_real _ (show (4096 : ℝ) ≠ 0 by norm_num)]
    unfold var; rw [hc]
  unfold rNorm2
  have e := hm o
  have e' := hv o
  generalize rMean2 X = M at e ⊢
  generalize rVar2 X = V at e' ⊢
  pointwise
  have hp : 0 ≤ var (f o) + eps := add_nonneg (var_nonneg _) eps_pos.le
  have hq : Real.sqrt (var (f o) + eps) ≠ 0 := (Real.sqrt_pos.2 (add_pos_of_nonneg_of_pos (var_nonneg _) eps_pos)).ne'
  simp only [hX, hG, hB, e, e', eps_f32, ← EReal.coe_sub, ← EReal.coe_add, ← EReal.coe_mul, sqrt_real hp, div_real _ hq]
  rfl

set_option maxRecDepth 16384 in
/-- The normalisation of such rows, as the reference computes it. -/
theorem rNormF_apply (X : FVec Ideal S4096x256 .f32) (G B : FVec Ideal S256 .f32) (f : Fin 256 → Fin 4096 → ℝ) (g : Fin 256 → ℝ)
    (hX : ∀ r o, X (ix2 r o) = (f o r : EReal)) (hG : ∀ o, G (ix1 o) = (g o : EReal)) (r : Fin 4096) (o : Fin 256) :
    rNormF X G B (ix2 r o) = (norm (f o) (g o) 0 r : EReal) + B (ix1 o) := by
  have hc : (Fintype.card (Fin 4096) : ℝ) = 4096 := by simp
  have hm : ∀ o, rMeanF X (ix2 0 o) = (mean (f o) : EReal) := by
    intro o
    pointwise [rMeanF]
    simp only [hX, n12_f32, coe_sum, div_real _ (show (4096 : ℝ) ≠ 0 by norm_num)]
    unfold mean; rw [hc]
  have hd : ∀ r o, rDevF X (ix2 r o) = ((f o r - mean (f o) : ℝ) : EReal) := by
    intro r o
    unfold rDevF
    have e := hm o
    generalize rMeanF X = M at e ⊢
    pointwise
    simp only [hX, e, ← EReal.coe_sub]
  have hn : rCntF ix0 = ((4096 : ℝ) : EReal) := by
    pointwise [rCntF]
    rw [n12_f32]
    have : (FloatOps.sitofp (F := Ideal) FTy.f32 (0#32) : EReal) = 0 := by
      show (((0#32).toInt : ℝ) : EReal) = 0
      simp
    rw [this, sub_zero]
  have hv : ∀ o, rVarF X (ix2 0 o) = (var (f o) : EReal) := by
    intro o
    unfold rVarF
    generalize rCntF = C at hn ⊢
    generalize rDevF X = D at hd ⊢
    have hdd : ∀ i : Fin 4096, mulf D D (ix2 i o) = (((f o i - mean (f o)) * (f o i - mean (f o)) : ℝ) : EReal) := by
      intro i
      pointwise
      rw [hd, EReal.coe_mul]
    generalize mulf D D = DD at hdd ⊢
    pointwise
    simp only [hn]
    rw [if_pos (by norm_num)]
    simp only [hdd, coe_sum, div_real _ (show (4096 : ℝ) ≠ 0 by norm_num)]
    unfold var; rw [hc]
  unfold rNormF
  have e := hm o
  have e' := hv o
  generalize rMeanF X = M at e ⊢
  generalize rVarF X = V at e' ⊢
  pointwise
  have hp : 0 ≤ var (f o) + eps := add_nonneg (var_nonneg _) eps_pos.le
  have hq : Real.sqrt (var (f o) + eps) ≠ 0 := (Real.sqrt_pos.2 (add_pos_of_nonneg_of_pos (var_nonneg _) eps_pos)).ne'
  simp only [hX, hG, e, e', eps_f32, ← EReal.coe_sub, ← EReal.coe_add, ← EReal.coe_mul, sqrt_real hp, div_real _ hq]
  unfold norm
  rw [add_zero]

/-- The activation of such rows, as the reference computes it. -/
theorem rSelu3_apply (X : FVec Ideal S4096x8x64 .f32) (f : Fin 64 → Fin 4096 × Fin 8 → ℝ) (hX : ∀ r k o, X (ix3 r k o) = (f o (r, k) : EReal)) (r : Fin 4096) (k : Fin 8) (o : Fin 64) :
    rSelu3 X (ix3 r k o) = (selu (f o (r, k)) : EReal) := by
  pointwise [rSelu3]
  simp only [hX, sc_f32, al_word, zero_word]
  exact selu_host _

/-- The activation of such rows, as the reference computes it. -/
theorem rSelu2_apply (X : FVec Ideal S4096x64 .f32) (f : Fin 64 → Fin 4096 → ℝ) (hX : ∀ r o, X (ix2 r o) = (f o r : EReal)) (r : Fin 4096) (o : Fin 64) :
    rSelu2 X (ix2 r o) = (selu (f o r) : EReal) := by
  pointwise [rSelu2]
  simp only [hX, sc_f32, al_word, zero_word]
  exact selu_host _

/-- The activation of such rows, as the reference computes it. -/
theorem rSeluF_apply (X : FVec Ideal S4096x256 .f32) (f : Fin 256 → Fin 4096 → EReal) (hX : ∀ r o, X (ix2 r o) = f o r) (r : Fin 4096) (o : Fin 256) :
    rSeluF X (ix2 r o) = seluX (f o r) := by
  pointwise [rSeluF]
  simp only [hX, sc_f32, al_word, zero_word]
  exact seluX_host _

end Cert.Proof
-- ==== Proof.RefNet.lean ====
/-
  The reference's layers are the chain of layers over the reals, wherever its gathered rows and its weights are real.
-/
module

public import proofs.«01_k».proof.Proof.RefOps
public import proofs.«01_k».proof.Proof.Gen.ReferenceIdeal.Run

@[expose] public section

noncomputable section

namespace Cert.Proof

open Cert.ReferenceIdeal Cert.ReferenceIdeal.Gen Cert.ReferenceIdeal.Value
open Idealize.ShloMosaic Idealize.ShloMosaic.TcCoe Idealize.SL.Sem Idealize.ShloMosaic.StableHlo

/-- The weights' arrays hold the chain's weights. -/
structure Holds (N : Net) (a4 : FVec Ideal S64x3x1x1 .f32) (a5 a6 : FVec Ideal S64 .f32) (a7 : FVec Ideal S64x64x1x1 .f32) (a8 a9 : FVec Ideal S64 .f32)
    (a10 : FVec Ideal S64x3x1x8 .f32) (a11 a12 : FVec Ideal S64 .f32) (a13 : FVec Ideal S64x64x1x1 .f32) (a14 a15 : FVec Ideal S64 .f32)
    (a16 : FVec Ideal S64x64x1x1 .f32) (a17 : FVec Ideal S256x192x1x8 .f32) (a18 a19 : FVec Ideal S256 .f32) : Prop where
  W1 : ∀ o a, a4 (ix4 o a 0 0) = (N.W1 o a : EReal)
  g1 : ∀ o, a5 (ix1 o) = (N.g1 o : EReal)
  b1 : ∀ o, a6 (ix1 o) = (N.b1 o : EReal)
  W2 : ∀ o a, a7 (ix4 o a 0 0) = (N.W2 o a : EReal)
  g2 : ∀ o, a8 (ix1 o) = (N.g2 o : EReal)
  b2 : ∀ o, a9 (ix1 o) = (N.b2 o : EReal)
  Wt1 : ∀ o a k, a10 (ix4 o a 0 k) = (N.Wt1 o a k : EReal)
  gt1 : ∀ o, a11 (ix1 o) = (N.gt1 o : EReal)
  bt1 : ∀ o, a12 (ix1 o) = (N.bt1 o : EReal)
  Wt2 : ∀ o a, a13 (ix4 o a 0 0) = (N.Wt2 o a : EReal)
  gt2 : ∀ o, a14 (ix1 o) = (N.gt2 o : EReal)
  bt2 : ∀ o, a15 (ix1 o) = (N.bt2 o : EReal)
  Wt3 : ∀ o a, a16 (ix4 o a 0 0) = (N.Wt3 o a : EReal)
  Wf : ∀ o c k, a17 (ix4 o c 0 k) = (N.Wf o c k : EReal)
  gf : ∀ o, a18 (ix1 o) = (N.gf o : EReal)
  bf : ∀ o, a19 (ix1 o) = N.bf o

section Chain

variable (N : Net) (V0 : Valuation τ sig (Elt Ideal))

/-- The gathered feature rows, as the reference computes them. -/
def rGath : FVec Ideal S4096x8x128 .f32 :=
  shapeCast _ (Host.gather gather_S4x8192x128_S4x1024x8x1_S4x1024x8x128_3_1_0_0_1_3_11128 (transpose S4x8192x128 [0, 2, 1] (V0 (Proc.devRef .tc main_arg2)) transposes_S4x128x8192_S4x8192x128_0_2_1) (broadcastInDim S4x1024x8x1 ![0, 1, 2] bcast_S4x1024x8_S4x1024x8x1_0_1_2 (select (cmpi .slt (res_main_v6 V0) (broadcastInDim S4x1024x8 ![] bcast_S_S4x1024x8 (constantI S_ 32 0#32))) (addi (res_main_v6 V0) (broadcastInDim S4x1024x8 ![] bcast_S_S4x1024x8 (constantI S_ 32 8192#32))) (res_main_v6 V0)))) shapeCasts_S4x1024x8x128_S4096x8x128

variable (hw : Holds N (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12))
    (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)))
  (hp : ∀ r k a, res_main_v17 V0 (ix3 r k a) = (N.ph r k a : EReal)) (hs : ∀ r k c, rGath V0 (ix3 r k c) = (N.xs r k c : EReal))

include hw hp

theorem r_h1 (r : Fin 4096) (k : Fin 8) (o : Fin 64) : res_main_v19 V0 (ix3 r k o) = (N.h1 o (r, k) : EReal) := by
  unfold res_main_v19
  have h1 := hw.W1
  generalize res_main_v17 V0 = X at hp ⊢
  generalize (V0 (Proc.devRef .tc main_arg4)) = W at h1 ⊢
  pointwise
  simp only [hp, h1, ← EReal.coe_mul, coe_sum]
  rfl

theorem r_n1 (r : Fin 4096) (k : Fin 8) (o : Fin 64) : res_main_v37 V0 (ix3 r k o) = (N.n1 o (r, k) : EReal) :=
  rNorm3_apply (res_main_v19 V0) _ _ N.h1 N.g1 N.b1 (r_h1 N V0 hw hp) hw.g1 hw.b1 r k o

theorem r_h2 (r : Fin 4096) (k : Fin 8) (o : Fin 64) : res_main_v40 V0 (ix3 r k o) = (N.h2 o (r, k) : EReal) := by
  have e : res_main_v40 V0 = Host.dotGeneral dot_S4096x8x64_S64x64_S4096x8x64_2_1_01_0_n_n none (rSelu3 (res_main_v37 V0))
    (shapeCast _ (V0 (Proc.devRef .tc main_arg7)) shapeCasts_S64x64x1x1_S64x64) := rfl
  rw [e]
  have h1 := hw.W2
  have h2 := rSelu3_apply (res_main_v37 V0) N.n1 (r_n1 N V0 hw hp)
  generalize rSelu3 (res_main_v37 V0) = X at h2 ⊢
  generalize (V0 (Proc.devRef .tc main_arg7)) = W at h1 ⊢
  pointwise
  simp only [h2, h1, ← EReal.coe_mul, coe_sum]
  rfl

theorem r_n2 (r : Fin 4096) (k : Fin 8) (o : Fin 64) : res_main_v58 V0 (ix3 r k o) = (N.n2 o (r, k) : EReal) :=
  rNorm3_apply (res_main_v40 V0) _ _ N.h2 N.g2 N.b2 (r_h2 N V0 hw hp) hw.g2 hw.b2 r k o

theorem r_t1 (r : Fin 4096) (o : Fin 64) : res_main_v71 V0 (ix2 r o) = (N.t1 o r : EReal) := by
  unfold res_main_v71
  have h1 := hw.Wt1
  generalize res_main_v17 V0 = X at hp ⊢
  generalize (V0 (Proc.devRef .tc main_arg10)) = W at h1 ⊢
  pointwise
  simp only [hp, h1, ← EReal.coe_mul, coe_sum]
  exact congrArg _ Finset.sum_comm

theorem r_u1 (r : Fin 4096) (o : Fin 64) : res_main_v89 V0 (ix2 r o) = (N.u1 o r : EReal) :=
  rNorm2_apply (res_main_v71 V0) _ _ N.t1 N.gt1 N.bt1 (r_t1 N V0 hw hp) hw.gt1 hw.bt1 r o

theorem r_t2 (r : Fin 4096) (o : Fin 64) : res_main_v92 V0 (ix2 r o) = (N.t2 o r : EReal) := by
  have e : res_main_v92 V0 = Host.dotGeneral dot_S4096x64_S64x64_S4096x64_1_1_0_0_n_n none (rSelu2 (res_main_v89 V0))
    (shapeCast _ (V0 (Proc.devRef .tc main_arg13)) shapeCasts_S64x64x1x1_S64x64) := rfl
  rw [e]
  have h1 := hw.Wt2
  have h2 := rSelu2_apply (res_main_v89 V0) N.u1 (r_u1 N V0 hw hp)
  generalize rSelu2 (res_main_v89 V0) = X at h2 ⊢
  generalize (V0 (Proc.devRef .tc main_arg13)) = W at h1 ⊢
  pointwise
  simp only [h2, h1, ← EReal.coe_mul, coe_sum]
  rfl

theorem r_u2 (r : Fin 4096) (o : Fin 64) : res_main_v110 V0 (ix2 r o) = (N.u2 o r : EReal) :=
  rNorm2_apply (res_main_v92 V0) _ _ N.t2 N.gt2 N.bt2 (r_t2 N V0 hw hp) hw.gt2 hw.bt2 r o

/-- The transform, as the reference computes it, -/
def rT : FVec Ideal S4096x64 .f32 :=
  Host.dotGeneral dot_S4096x64_S64x64_S4096x64_1_1_0_0_n_n none (rSelu2 (res_main_v110 V0))
    (shapeCast S64x64 (V0 (Proc.devRef .tc main_arg16)) shapeCasts_S64x64x1x1_S64x64 : FVec Ideal S64x64 .f32)
/-- the features it is applied to -/
def rX : FVec Ideal S4096x8x192 .f32 :=
  concatenate S4096x8x192 2 [⟨S4096x8x64, rSelu3 (res_main_v58 V0)⟩, ⟨S4096x8x128, rGath V0⟩] concatenates_S4096x8x64_S4096x8x128_S4096x8x192_d2

theorem r_t3 (r : Fin 4096) (o : Fin 64) : rT V0 (ix2 r o) = (N.t3 o r : EReal) := by
  unfold rT
  have h1 := hw.Wt3
  have h2 := rSelu2_apply (res_main_v110 V0) N.u2 (r_u2 N V0 hw hp)
  generalize rSelu2 (res_main_v110 V0) = X at h2 ⊢
  generalize (V0 (Proc.devRef .tc main_arg16)) = W at h1 ⊢
  pointwise
  simp only [h2, h1, ← EReal.coe_mul, coe_sum]
  rfl

include hs

theorem r_xh (r : Fin 4096) (k : Fin 8) (c : Fin 192) : rX V0 (ix3 r k c) = (N.xh r k c : EReal) := by
  unfold rX
  have h2 := rSelu3_apply (res_main_v58 V0) N.n2 (r_n2 N V0 hw hp)
  generalize rSelu3 (res_main_v58 V0) = X at h2 ⊢
  generalize rGath V0 = Y at hs ⊢
  pointwise
  by_cases h : c.val < 64
  · rw [dif_pos h, h2]; unfold Net.xh; rw [dif_pos h]
  · rw [dif_neg h, hs]; unfold Net.xh; rw [dif_neg h]

theorem r_fin (r : Fin 4096) (o : Fin 256) : res_main_v117 V0 (ix2 r o) = (N.fin o r : EReal) := by
  have e : res_main_v117 V0 = Host.dotGeneral dot_S4096x8x192_S256x192x8_S4096x256_21_12_0_0_n_n none
      (Host.dotGeneral dot_S4096x8x8_S4096x8x192_S4096x8x192_2_1_1_2_0_0 none (shapeCast _ (rT V0) shapeCasts_S4096x64_S4096x8x8) (rX V0))
      (shapeCast _ (V0 (Proc.devRef .tc main_arg17)) shapeCasts_S256x192x1x8_S256x192x8) := rfl
  rw [e]
  have h1 := hw.Wf
  have h2 := r_t3 N V0 hw hp
  have h3 := r_xh N V0 hw hp hs
  generalize rT V0 = T at h2 ⊢
  generalize rX V0 = X at h3 ⊢
  generalize (V0 (Proc.devRef .tc main_arg17)) = W at h1 ⊢
  pointwise
  simp only [h2, h3, h1, ← EReal.coe_mul, coe_sum]
  exact congrArg _ Finset.sum_comm

theorem r_nf (r : Fin 4096) (o : Fin 256) : res_main_v135 V0 (ix2 r o) = (N.nf o r : EReal) + N.bf o :=
  rNormF_apply (res_main_v117 V0) _ _ N.fin N.gf (r_fin N V0 hw hp hs) hw.gf r o |>.trans (congrArg _ (hw.bf o))

/-- The reference's second result. -/
def rOut : FVec Ideal S4x256x1024 .f32 :=
  transpose S4x256x1024 [0, 2, 1] (shapeCast S4x1024x256 (rSeluF (res_main_v135 V0)) shapeCasts_S4096x256_S4x1024x256) transposes_S4x1024x256_S4x256x1024_0_2_1

theorem r_out (b : Fin 4) (o : Fin 256) (m : Fin 1024) : rOut V0 (ix3 b o m) = N.out o ⟨b.val * 1024 + m.val, by omega⟩ := by
  unfold rOut
  have h2 := rSeluF_apply (res_main_v135 V0) (fun o r => (N.nf o r : EReal) + N.bf o) (r_nf N V0 hw hp hs)
  generalize rSeluF (res_main_v135 V0) = X at h2 ⊢
  pointwise
  simp only [h2]
  rfl

end Chain

end Cert.Proof
-- ==== Proof.Rows.lean ====
/-
  The rows the row numbers name: the reference's gathers at an entry, and the chain of layers that the arguments give.
-/
module

public import proofs.«01_k».proof.Proof.Values
public import proofs.«01_k».proof.Proof.Net
public import proofs.«01_k».proof.Proof.Gen.ReferenceIdeal.Run

@[expose] public section

noncomputable section

namespace Cert.Proof

open Cert.ReferenceIdeal Cert.ReferenceIdeal.Gen

open Idealize.ShloMosaic hiding ix0 ix1 ix2 ix3 ix4 ix5 ix6
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx

/-! ## The reference's row numbers -/

/-- The row numbers within their batch, as the reference computes them. -/
abbrev rel (x : IVec S4x1024x8 32) : IVec S4x1024x8 32 :=
  subi x (broadcastInDim S4x1024x8 ![0, 1, 2] bcast_S4x1x1_S4x1024x8_0_1_2 (muli (broadcastInDim S4x1x1 ![] bcast_S_S4x1x1 (constantI S_ 32 8192#32)) (broadcastInDim S4x1x1 ![0] bcast_S4_S4x1x1_0 (iotaInDim S4 32 0))))

/-- The gather's indices: those, a negative one counted from the table's end. -/
abbrev loc (x : IVec S4x1024x8 32) : IVec S4x1024x8x1 32 :=
  broadcastInDim S4x1024x8x1 ![0, 1, 2] bcast_S4x1024x8_S4x1024x8x1_0_1_2 (select (cmpi .slt (rel x) (broadcastInDim S4x1024x8 ![] bcast_S_S4x1024x8 (constantI S_ 32 0#32))) (addi (rel x) (broadcastInDim S4x1024x8 ![] bcast_S_S4x1024x8 (constantI S_ 32 8192#32))) (rel x))

theorem rel_apply (x : IVec S4x1024x8 32) (b : Fin 4) (r : Fin 1024) (k : Fin 8) :
    rel x (ix3 b r k) = x (ix3 b r k) - 8192#32 * BitVec.ofNat 32 b.val := rfl

/-- A row number of its own batch, made relative, is its distance from the batch's first row. -/
theorem loc_apply (x : IVec S4x1024x8 32) (hx : InBatch x) (b : Fin 4) (r : Fin 1024) (k : Fin 8) :
    (loc x (ix4 b r k (0 : Fin 1))).toInt.toNat = (x (ix3 b r k)).toNat - 8192 * b.val := by
  have e : loc x (ix4 b r k (0 : Fin 1)) = Scalar.select (IntOp.cmpi .slt (x (ix3 b r k) - 8192#32 * BitVec.ofNat 32 b.val) 0#32)
      (x (ix3 b r k) - 8192#32 * BitVec.ofNat 32 b.val + 8192#32) (x (ix3 b r k) - 8192#32 * BitVec.ofNat 32 b.val) := by
    refine (broadcastInDim_apply _ _ _ _ (ix3 b r k) ?_).trans rfl
    intro a
    match a with
    | ⟨0, _⟩ => rfl
    | ⟨1, _⟩ => rfl
    | ⟨2, _⟩ => rfl
  obtain ⟨hl, hu⟩ := hx b r k
  rw [e]
  generalize x (ix3 b r k) = w at hl hu ⊢
  have hb := b.isLt
  have hw : (w - 8192#32 * BitVec.ofNat 32 b.val).toNat = w.toNat - 8192 * b.val := by
    simp only [BitVec.toNat_sub, BitVec.toNat_mul, BitVec.toNat_ofNat]
    omega
  generalize w - 8192#32 * BitVec.ofNat 32 b.val = u at hw ⊢
  have hi : u.toInt = (u.toNat : ℤ) := by rw [BitVec.toInt_eq_toNat_cond]; split <;> omega
  have hs : u.slt 0#32 = false := by rw [BitVec.slt_eq_decide]; simp [hi]
  have hc : Scalar.select (IntOp.cmpi .slt u 0#32) (u + 8192#32) u = u := by
    unfold Scalar.select IntOp.cmpi
    simp [hs]
  rw [hc, hi]
  omega

/-- The reference's gather at row numbers of their own batches: no clamp is met. -/
theorem gather_loc {α : Type} (C : ℕ) (wf : GatherDims.WF ⟨3, ![4, 8192, C]⟩ ⟨4, ![4, 1024, 8, 1]⟩ ⟨4, ![4, 1024, 8, C]⟩ [3] [1] [0] [1] [0] 3 ![1, 1, C])
    (y : (⟨3, ![4, 8192, C]⟩ : Shape).Idx → α) (x : IVec S4x1024x8 32) (hx : InBatch x) (b : Fin 4) (r : Fin 1024) (k : Fin 8) (c : Fin C)
    (h : (x (ix3 b r k)).toNat - 8192 * b.val < 8192) :
    Host.gather (rowDims C wf) y (loc x) (ix4 b r k c) = y (ix3 b ⟨(x (ix3 b r k)).toNat - 8192 * b.val, h⟩ c) := by
  rw [gather_at]
  have e := loc_apply x hx b r k
  refine congrArg (fun n => y (ix3 b n c)) (Fin.ext ?_)
  show min (loc x (ix4 b r k (0 : Fin 1))).toInt.toNat 8191 = _
  rw [e]
  exact Nat.min_eq_left (by omega)

/-! ## The chain of layers -/

/-- The batch of a query, -/
def bq (r : Fin 4096) : Fin 4 := ⟨r.val / 1024, by omega⟩
/-- its number in the batch, -/
def mq (r : Fin 4096) : Fin 1024 := ⟨r.val % 1024, by omega⟩
/-- and the row in the batch of its `k`-th neighbour. -/
def pos (x : IVec S4x1024x8 32) (r : Fin 4096) (k : Fin 8) : Fin 8192 := ⟨(x (ix3 (bq r) (mq r) k)).toNat % 8192, by omega⟩

theorem pos_eq (x : IVec S4x1024x8 32) (hx : InBatch x) (r : Fin 4096) (k : Fin 8) (h : (x (ix3 (bq r) (mq r) k)).toNat - 8192 * (bq r).val < 8192) :
    (⟨(x (ix3 (bq r) (mq r) k)).toNat - 8192 * (bq r).val, h⟩ : Fin 8192) = pos x r k := by
  refine Fin.ext ?_
  have h2 := hx (bq r) (mq r) k
  show (x (ix3 (bq r) (mq r) k)).toNat - 8192 * (bq r).val = (x (ix3 (bq r) (mq r) k)).toNat % 8192
  omega

/-- The arguments' chain of layers. -/
def netOf (a0 : IVec S4x1024x8 32) (a1 : FVec Ideal S4x3x8192 .f32) (a2 : FVec Ideal S4x128x8192 .f32) (a3 : FVec Ideal S4x1024x3 .f32)
    (a4 : FVec Ideal S64x3x1x1 .f32) (a5 a6 : FVec Ideal S64 .f32) (a7 : FVec Ideal S64x64x1x1 .f32) (a8 a9 : FVec Ideal S64 .f32)
    (a10 : FVec Ideal S64x3x1x8 .f32) (a11 a12 : FVec Ideal S64 .f32) (a13 : FVec Ideal S64x64x1x1 .f32) (a14 a15 : FVec Ideal S64 .f32)
    (a16 : FVec Ideal S64x64x1x1 .f32) (a17 : FVec Ideal S256x192x1x8 .f32) (a18 a19 : FVec Ideal S256 .f32) : Net where
  ph r k a := (a1 (ix3 (bq r) a (pos a0 r k))).toReal - (a3 (ix3 (bq r) (mq r) a)).toReal
  xs r k c := (a2 (ix3 (bq r) c (pos a0 r k))).toReal
  W1 o a := (a4 (ix4 o a 0 0)).toReal
  g1 o := (a5 (ix1 o)).toReal
  b1 o := (a6 (ix1 o)).toReal
  W2 o a := (a7 (ix4 o a 0 0)).toReal
  g2 o := (a8 (ix1 o)).toReal
  b2 o := (a9 (ix1 o)).toReal
  Wt1 o a k := (a10 (ix4 o a 0 k)).toReal
  gt1 o := (a11 (ix1 o)).toReal
  bt1 o := (a12 (ix1 o)).toReal
  Wt2 o a := (a13 (ix4 o a 0 0)).toReal
  gt2 o := (a14 (ix1 o)).toReal
  bt2 o := (a15 (ix1 o)).toReal
  Wt3 o a := (a16 (ix4 o a 0 0)).toReal
  Wf o c k := (a17 (ix4 o c 0 k)).toReal
  gf o := (a18 (ix1 o)).toReal
  bf o := a19 (ix1 o)

/-- The reference's gathered positions, -/
def refP (x : IVec S4x1024x8 32) (p : FVec Ideal S4x3x8192 .f32) : FVec Ideal S4x1024x8x3 .f32 :=
  Host.gather gather_S4x8192x3_S4x1024x8x1_S4x1024x8x3_3_1_0_0_1_3_113 (transpose S4x8192x3 [0, 2, 1] p transposes_S4x3x8192_S4x8192x3_0_2_1) (loc x)

/-- and its gathered features. -/
def refX (x : IVec S4x1024x8 32) (p : FVec Ideal S4x128x8192 .f32) : FVec Ideal S4x1024x8x128 .f32 :=
  Host.gather gather_S4x8192x128_S4x1024x8x1_S4x1024x8x128_3_1_0_0_1_3_11128 (transpose S4x8192x128 [0, 2, 1] p transposes_S4x128x8192_S4x8192x128_0_2_1) (loc x)

theorem small (x : IVec S4x1024x8 32) (hx : InBatch x) (r : Fin 4096) (k : Fin 8) : (x (ix3 (bq r) (mq r) k)).toNat - 8192 * (bq r).val < 8192 := by
  have := hx (bq r) (mq r) k; omega

theorem refP_apply (x : IVec S4x1024x8 32) (hx : InBatch x) (p : FVec Ideal S4x3x8192 .f32) (r : Fin 4096) (k : Fin 8) (c : Fin 3) :
    refP x p (ix4 (bq r) (mq r) k c) = p (ix3 (bq r) c (pos x r k)) :=
  (gather_loc 3 _ _ x hx (bq r) (mq r) k c (small x hx r k)).trans (by
    rw [pos_eq x hx r k]
    refine transpose_apply _ _ _ _ _ ?_
    intro b
    match b with
    | ⟨0, _⟩ => rfl
    | ⟨1, _⟩ => rfl
    | ⟨2, _⟩ => rfl)

theorem refX_apply (x : IVec S4x1024x8 32) (hx : InBatch x) (p : FVec Ideal S4x128x8192 .f32) (r : Fin 4096) (k : Fin 8) (c : Fin 128) :
    refX x p (ix4 (bq r) (mq r) k c) = p (ix3 (bq r) c (pos x r k)) :=
  (gather_loc 128 _ _ x hx (bq r) (mq r) k c (small x hx r k)).trans (by
    rw [pos_eq x hx r k]
    refine transpose_apply _ _ _ _ _ ?_
    intro b
    match b with
    | ⟨0, _⟩ => rfl
    | ⟨1, _⟩ => rfl
    | ⟨2, _⟩ => rfl)

end Cert.Proof
-- ==== Proof.Pre.lean ====
/-
  The preconditions read back: every row number is one of its batch's rows; every float but those of the last argument is a real number.
-/
module

public import proofs.«01_k».proof.Proof.Values
public import proofs.«01_k».proof.Proof.Gen.Pre_in_range
public import proofs.«01_k».proof.Proof.Gen.Pre_in_range_finite
public import Idealize.ShloMosaic.Lib.Pointwise

@[expose] public section

noncomputable section

namespace Cert.Proof

open Idealize.ShloMosaic

variable {F : FTy → Type} [FloatOps F]

theorem andi_ofBool (p q : Bool) : IntOp.andi (BitVec.ofBool p) (BitVec.ofBool q) = BitVec.ofBool (p && q) := by
  cases p <;> cases q <;> decide

theorem ofBool_eq_one (p : Bool) : (BitVec.ofBool p = 1#1) ↔ p = true := by cases p <;> decide

/-- A row number between its batch's bounds. -/
theorem bounds_of (v : BitVec 32) (b : Fin 4)
    (e : IntOp.andi (IntOp.cmpi .sge v (8192#32 * BitVec.ofNat 32 b.val)) (IntOp.cmpi .slt v (8192#32 * BitVec.ofNat 32 b.val + 8192#32)) = 1#1) :
    8192 * b.val ≤ v.toNat ∧ v.toNat < 8192 * b.val + 8192 := by
  have hb := b.isLt
  have h1 : (8192#32 * BitVec.ofNat 32 b.val).toNat = 8192 * b.val := by
    simp only [BitVec.toNat_mul, BitVec.toNat_ofNat]; omega
  have h2 : (8192#32 * BitVec.ofNat 32 b.val + 8192#32).toNat = 8192 * b.val + 8192 := by
    simp only [BitVec.toNat_add, h1, BitVec.toNat_ofNat]; omega
  simp only [IntOp.cmpi, andi_ofBool, ofBool_eq_one, Bool.and_eq_true, BitVec.sle_eq_decide, BitVec.slt_eq_decide,
    decide_eq_true_eq, BitVec.toInt_eq_toNat_cond, h1, h2] at e
  have := v.isLt
  omega

instance : Subsingleton (Cert.Pre_in_range.S_).Idx := ⟨fun a b => funext fun i => i.elim0⟩

instance : Subsingleton (Cert.Pre_in_range_finite.S_).Idx := ⟨fun a b => funext fun i => i.elim0⟩

section InRange

open Cert.Pre_in_range

/-- The first precondition says that every row number is one of its batch's. -/
theorem inBatch_of_pre {a0 : IVec S4x1024x8 32} {a1 : FVec F S4x3x8192 .f32} {a2 : FVec F S4x128x8192 .f32} {a3 : FVec F S4x1024x3 .f32}
    {a4 : FVec F S64x3x1x1 .f32} {a5 a6 : FVec F S64 .f32} {a7 : FVec F S64x64x1x1 .f32} {a8 a9 : FVec F S64 .f32} {a10 : FVec F S64x3x1x8 .f32}
    {a11 a12 : FVec F S64 .f32} {a13 : FVec F S64x64x1x1 .f32} {a14 a15 : FVec F S64 .f32} {a16 : FVec F S64x64x1x1 .f32} {a17 : FVec F S256x192x1x8 .f32}
    {a18 a19 : FVec F S256 .f32}
    (h : fn (F := F) a0 a1 a2 a3 a4 a5 a6 a7 a8 a9 a10 a11 a12 a13 a14 a15 a16 a17 a18 a19 = fun _ => 1#1) : InBatch a0 := by
  intro b r k
  exact bounds_of _ b (Host.reduce_andi_all _ _ _ _ _ (congrFun h ValueIdx.ix0) (ValueIdx.ix3 b r k))

end InRange

/-- No entry is infinite. -/
def Fin32 {s : Shape} (x : s.Idx → EReal) : Prop := ∀ i, x i ≠ ⊤ ∧ x i ≠ ⊥

theorem Fin32.coe {s : Shape} {x : s.Idx → EReal} (h : Fin32 x) (i : s.Idx) : x i = ((x i).toReal : EReal) :=
  (EReal.coe_toReal (h i).1 (h i).2).symm

theorem ne_of_abs_lt (a : EReal) (h : max a (-a) < ⊤) : a ≠ ⊤ ∧ a ≠ ⊥ := by
  constructor <;> rintro rfl <;> simp at h

section Finite

open Cert.Pre_in_range_finite

theorem finite_of {s : Shape} {ax : List (Fin s.rank)} (x : FVec Ideal s .f32) (hb : S_.BroadcastsInDim s (![] : Fin 0 → Fin s.rank)) (init : IVec S_ 1)
    (hr : s.ReducesTo ax S_) (hu : 0 < S_.numel) (j : S_.Idx)
    (e : Host.reduce IntOp.andi (cmpf .olt (Host.absf x) (broadcastInDim s ![] hb (constant S_ .f32 0x7F800000#32))) init hr hu j = 1#1) : Fin32 x := by
  intro i
  have e1 := Host.reduce_andi_all _ _ _ _ _ e i
  have e2 : BitVec.ofBool (decide (max (x i) (-(x i)) < Ideal.ofBits .f32 0x7F800000#32)) = 1#1 := e1
  rw [ofBool_eq_one, decide_eq_true_eq] at e2
  refine ne_of_abs_lt _ (lt_of_lt_of_le e2 le_top)

/-- The second says it too, and that every float but those of the last argument is finite. -/
theorem finite_of_pre {a0 : IVec S4x1024x8 32} {a1 : FVec Ideal S4x3x8192 .f32} {a2 : FVec Ideal S4x128x8192 .f32} {a3 : FVec Ideal S4x1024x3 .f32}
    {a4 : FVec Ideal S64x3x1x1 .f32} {a5 a6 : FVec Ideal S64 .f32} {a7 : FVec Ideal S64x64x1x1 .f32} {a8 a9 : FVec Ideal S64 .f32} {a10 : FVec Ideal S64x3x1x8 .f32}
    {a11 a12 : FVec Ideal S64 .f32} {a13 : FVec Ideal S64x64x1x1 .f32} {a14 a15 : FVec Ideal S64 .f32} {a16 : FVec Ideal S64x64x1x1 .f32}
    {a17 : FVec Ideal S256x192x1x8 .f32} {a18 a19 : FVec Ideal S256 .f32}
    (h : fn (F := Ideal) a0 a1 a2 a3 a4 a5 a6 a7 a8 a9 a10 a11 a12 a13 a14 a15 a16 a17 a18 a19 = fun _ => 1#1) :
    InBatch a0 ∧ Fin32 a1 ∧ Fin32 a2 ∧ Fin32 a3 ∧ Fin32 a4 ∧ Fin32 a5 ∧ Fin32 a6 ∧ Fin32 a7 ∧ Fin32 a8 ∧ Fin32 a9 ∧ Fin32 a10 ∧ Fin32 a11 ∧ Fin32 a12
      ∧ Fin32 a13 ∧ Fin32 a14 ∧ Fin32 a15 ∧ Fin32 a16 ∧ Fin32 a17 ∧ Fin32 a18 := by
  have e := congrFun h ValueIdx.ix0
  unfold fn fn_part1 fn_part2 fn_part3 fn_part4 fn_part5 at e
  dsimp only at e
  obtain ⟨e, h18⟩ := IntOp.andi_eq_one.1 e
  obtain ⟨e, h17⟩ := IntOp.andi_eq_one.1 e
  obtain ⟨e, h16⟩ := IntOp.andi_eq_one.1 e
  obtain ⟨e, h15⟩ := IntOp.andi_eq_one.1 e
  obtain ⟨e, h14⟩ := IntOp.andi_eq_one.1 e
  obtain ⟨e, h13⟩ := IntOp.andi_eq_one.1 e
  obtain ⟨e, h12⟩ := IntOp.andi_eq_one.1 e
  obtain ⟨e, h11⟩ := IntOp.andi_eq_one.1 e
  obtain ⟨e, h10⟩ := IntOp.andi_eq_one.1 e
  obtain ⟨e, h9⟩ := IntOp.andi_eq_one.1 e
  obtain ⟨e, h8⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨e, h1⟩ := IntOp.andi_eq_one.1 e
  refine ⟨fun b r k => bounds_of _ b (Host.reduce_andi_all _ _ _ _ _ e (ValueIdx.ix3 b r k)), ?_⟩
  exact ⟨finite_of _ _ _ _ _ _ h1, finite_of _ _ _ _ _ _ h2, finite_of _ _ _ _ _ _ h3, finite_of _ _ _ _ _ _ h4, finite_of _ _ _ _ _ _ h5,
    finite_of _ _ _ _ _ _ h6, finite_of _ _ _ _ _ _ h7, finite_of _ _ _ _ _ _ h8, finite_of _ _ _ _ _ _ h9, finite_of _ _ _ _ _ _ h10,
    finite_of _ _ _ _ _ _ h11, finite_of _ _ _ _ _ _ h12, finite_of _ _ _ _ _ _ h13, finite_of _ _ _ _ _ _ h14, finite_of _ _ _ _ _ _ h15,
    finite_of _ _ _ _ _ _ h16, finite_of _ _ _ _ _ _ h17, finite_of _ _ _ _ _ _ h18⟩

end Finite

end Cert.Proof
-- ==== Proof.RefEnd.lean ====
/-
  The reference's second result is the chain of layers of its arguments.
-/
module

public import proofs.«01_k».proof.Proof.RefNet
public import proofs.«01_k».proof.Proof.Rows
public import proofs.«01_k».proof.Proof.Pre
public import proofs.«01_k».proof.Proof.Gen.ReferenceIdeal.Run

@[expose] public section

noncomputable section

namespace Cert.Proof

open Cert.ReferenceIdeal Cert.ReferenceIdeal.Gen Cert.ReferenceIdeal.Value
open Idealize.ShloMosaic Idealize.ShloMosaic.TcCoe Idealize.SL.Sem Idealize.ShloMosaic.StableHlo

theorem holds_of (a0 : IVec S4x1024x8 32) (a1 : FVec Ideal S4x3x8192 .f32) (a2 : FVec Ideal S4x128x8192 .f32) (a3 : FVec Ideal S4x1024x3 .f32)
    (a4 : FVec Ideal S64x3x1x1 .f32) (a5 a6 : FVec Ideal S64 .f32) (a7 : FVec Ideal S64x64x1x1 .f32) (a8 a9 : FVec Ideal S64 .f32)
    (a10 : FVec Ideal S64x3x1x8 .f32) (a11 a12 : FVec Ideal S64 .f32) (a13 : FVec Ideal S64x64x1x1 .f32) (a14 a15 : FVec Ideal S64 .f32)
    (a16 : FVec Ideal S64x64x1x1 .f32) (a17 : FVec Ideal S256x192x1x8 .f32) (a18 a19 : FVec Ideal S256 .f32)
    (f4 : Fin32 a4) (f5 : Fin32 a5) (f6 : Fin32 a6) (f7 : Fin32 a7) (f8 : Fin32 a8) (f9 : Fin32 a9) (f10 : Fin32 a10) (f11 : Fin32 a11) (f12 : Fin32 a12)
    (f13 : Fin32 a13) (f14 : Fin32 a14) (f15 : Fin32 a15) (f16 : Fin32 a16) (f17 : Fin32 a17) (f18 : Fin32 a18) :
    Holds (netOf a0 a1 a2 a3 a4 a5 a6 a7 a8 a9 a10 a11 a12 a13 a14 a15 a16 a17 a18 a19) a4 a5 a6 a7 a8 a9 a10 a11 a12 a13 a14 a15 a16 a17 a18 a19 where
  W1 _ _ := f4.coe _
  g1 _ := f5.coe _
  b1 _ := f6.coe _
  W2 _ _ := f7.coe _
  g2 _ := f8.coe _
  b2 _ := f9.coe _
  Wt1 _ _ _ := f10.coe _
  gt1 _ := f11.coe _
  bt1 _ := f12.coe _
  Wt2 _ _ := f13.coe _
  gt2 _ := f14.coe _
  bt2 _ := f15.coe _
  Wt3 _ _ := f16.coe _
  Wf _ _ _ := f17.coe _
  gf _ := f18.coe _
  bf _ := rfl

/-- The relative positions, from the gathered ones. -/
theorem ph_apply (G : FVec Ideal S4x1024x8x3 .f32) (q : FVec Ideal S4x1024x3 .f32) (r : Fin 4096) (k : Fin 8) (a : Fin 3) :
    shapeCast S4096x8x3 (subf G (broadcastInDim S4x1024x8x3 ![0, 1, 2, 3] bcast_S4x1024x1x3_S4x1024x8x3_0_1_2_3
        (broadcastInDim S4x1024x1x3 ![0, 1, 3] bcast_S4x1024x3_S4x1024x1x3_0_1_3 q))) shapeCasts_S4x1024x8x3_S4096x8x3 (ix3 r k a)
      = G (ix4 (bq r) (mq r) k a) - q (ix3 (bq r) (mq r) a) := by
  pointwise
  rfl

theorem r_ph (V0 : Valuation τ sig (Elt Ideal)) (hx : InBatch (V0 (Proc.devRef .tc main_arg0))) (f1 : Fin32 (V0 (Proc.devRef .tc main_arg1)))
    (f3 : Fin32 (V0 (Proc.devRef .tc main_arg3))) (r : Fin 4096) (k : Fin 8) (a : Fin 3) :
    res_main_v17 V0 (ix3 r k a) = ((netOf (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19))).ph r k a : EReal) := by
  refine (ph_apply (refP (V0 (Proc.devRef .tc main_arg0)) (V0 (Proc.devRef .tc main_arg1))) (V0 (Proc.devRef .tc main_arg3)) r k a).trans ?_
  rw [show refP (V0 (Proc.devRef .tc main_arg0)) (V0 (Proc.devRef .tc main_arg1)) (ix4 (bq r) (mq r) k a) = _ from refP_apply _ hx _ r k a]
  refine (congrArg₂ (· - ·) (f1.coe _) (f3.coe _)).trans ?_
  exact (EReal.coe_sub _ _).symm

theorem xs_apply (G : FVec Ideal S4x1024x8x128 .f32) (r : Fin 4096) (k : Fin 8) (c : Fin 128) :
    shapeCast S4096x8x128 G shapeCasts_S4x1024x8x128_S4096x8x128 (ix3 r k c) = G (ix4 (bq r) (mq r) k c) := by
  pointwise
  rfl

theorem r_xs (V0 : Valuation τ sig (Elt Ideal)) (hx : InBatch (V0 (Proc.devRef .tc main_arg0))) (f2 : Fin32 (V0 (Proc.devRef .tc main_arg2)))
    (r : Fin 4096) (k : Fin 8) (c : Fin 128) :
    rGath V0 (ix3 r k c) = ((netOf (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19))).xs r k c : EReal) := by
  refine (xs_apply (refX (V0 (Proc.devRef .tc main_arg0)) (V0 (Proc.devRef .tc main_arg2))) r k c).trans ?_
  rw [show refX (V0 (Proc.devRef .tc main_arg0)) (V0 (Proc.devRef .tc main_arg2)) (ix4 (bq r) (mq r) k c) = _ from refX_apply _ hx _ r k c]
  exact f2.coe _

end Cert.Proof
-- ==== Proof.KVal.lean ====
/-
  The kernel's stages, entry by entry: what each holds is the chain of layers that the arguments give.
-/
module

public import proofs.«01_k».proof.Proof.Keep
public import proofs.«01_k».proof.Proof.HostReal
public import proofs.«01_k».proof.Proof.Last
public import proofs.«01_k».proof.Proof.NetLin
public import proofs.«01_k».proof.Proof.RefEnd
public import Idealize.ShloMosaic.Lib.Pointwise

@[expose] public section

set_option maxRecDepth 16384

noncomputable section

namespace Cert.Proof

open Cert.KernelIdeal Cert.KernelIdeal.Gen
open Idealize.ShloMosaic Idealize.ShloMosaic.TcCoe Idealize.SL.Sem Idealize.ShloMosaic.StableHlo
open Idealize.ShloMosaic.Pipeline (Dat Cfg Window)
open Idealize.ShloMosaic.SparseCore.Cfg (HIx)

section Args

variable (m : (ℓ : Loc nD τ sig) → Buf (Elt Ideal) ℓ) (d : Dev nD)

/-- What the stages before the last write. -/
abbrev written : List (Ref sig .tc) :=
  w0 ++ [main_v6, main_v7] ++ w1 ++ [main_v12_0, main_v12_1] ++ w2 ++ w3 ++ [main_v93_0, main_v93_1, main_v93_2] ++ w4 ++ w5 ++ w6 ++ [main_v149_0, main_v149_1] ++ w7 ++ [main_v172]

/-- An array is at every stage as it was. -/
structure Kept (b : Ref sig .tc) : Prop where
  u3 : U3 m d (dr b) = m ((d.tc : Thread nD τ).loc b)
  u5 : U5 m d (dr b) = m ((d.tc : Thread nD τ).loc b)
  u6 : U6 m d (dr b) = m ((d.tc : Thread nD τ).loc b)
  u9 : U9 m d (dr b) = m ((d.tc : Thread nD τ).loc b)
  u10 : U10 m d (dr b) = m ((d.tc : Thread nD τ).loc b)
  u12 : U12 m d (dr b) = m ((d.tc : Thread nD τ).loc b)
  u14 : U14 m d (dr b) = m ((d.tc : Thread nD τ).loc b)

theorem kept {b : Ref sig .tc} (h : b ∉ written) : Kept m d b := by
  simp only [written, List.mem_append, not_or] at h
  obtain ⟨⟨⟨⟨⟨⟨⟨⟨⟨⟨⟨⟨h0, g⟩, h1⟩, l0⟩, h2⟩, h3⟩, l1⟩, h4⟩, h5⟩, h6⟩, l2⟩, h7⟩, l3⟩ := h
  simp only [List.mem_cons, List.not_mem_nil, or_false, not_or] at g
  have e3 : U3 m d (dr b) = m ((d.tc : Thread nD τ).loc b) := by
    unfold U3; rw [Function.update_of_ne (fun e => g.2 (Proc.devRef_injective _ e)), U2_of_ne m d g.1]
    unfold U1; rw [keep_o0 _ h0]
    rfl
  have e4 : U4 m d (dr b) = m ((d.tc : Thread nD τ).loc b) := (keep_o1 _ h1).trans e3
  have e5 : U5 m d (dr b) = m ((d.tc : Thread nD τ).loc b) := (keep_left0 _ _ l0).trans e4
  have e6 : U6 m d (dr b) = m ((d.tc : Thread nD τ).loc b) := (keep_o2 _ h2).trans e5
  have e7 : U7 m d (dr b) = m ((d.tc : Thread nD τ).loc b) := (keep_o3 _ h3).trans e6
  have e8 : U8 m d (dr b) = m ((d.tc : Thread nD τ).loc b) := (keep_left1 _ _ l1).trans e7
  have e9 : U9 m d (dr b) = m ((d.tc : Thread nD τ).loc b) := (keep_o4 _ h4).trans e8
  have e10 : U10 m d (dr b) = m ((d.tc : Thread nD τ).loc b) := (keep_o5 _ h5).trans e9
  have e11 : U11 m d (dr b) = m ((d.tc : Thread nD τ).loc b) := (keep_o6 _ h6).trans e10
  have e12 : U12 m d (dr b) = m ((d.tc : Thread nD τ).loc b) := (keep_left2 _ _ l2).trans e11
  have e13 : U13 m d (dr b) = m ((d.tc : Thread nD τ).loc b) := (keep_o7 _ h7).trans e12
  exact ⟨e3, e5, e6, e9, e10, e12, (keep_left3 _ _ l3).trans e13⟩

theorem k3 : Kept m d main_arg3 := kept m d (by decide)
theorem k4 : Kept m d main_arg4 := kept m d (by decide)
theorem k5 : Kept m d main_arg5 := kept m d (by decide)
theorem k6 : Kept m d main_arg6 := kept m d (by decide)
theorem k7 : Kept m d main_arg7 := kept m d (by decide)
theorem k8 : Kept m d main_arg8 := kept m d (by decide)
theorem k9 : Kept m d main_arg9 := kept m d (by decide)
theorem k10 : Kept m d main_arg10 := kept m d (by decide)
theorem k11 : Kept m d main_arg11 := kept m d (by decide)
theorem k12 : Kept m d main_arg12 := kept m d (by decide)
theorem k13 : Kept m d main_arg13 := kept m d (by decide)
theorem k14 : Kept m d main_arg14 := kept m d (by decide)
theorem k15 : Kept m d main_arg15 := kept m d (by decide)
theorem k16 : Kept m d main_arg16 := kept m d (by decide)
theorem k17 : Kept m d main_arg17 := kept m d (by decide)
theorem k18 : Kept m d main_arg18 := kept m d (by decide)
theorem k19 : Kept m d main_arg19 := kept m d (by decide)

/-- What the arguments hold, as reals. -/
structure Real (N : Net) (A : Fin 4096 → Fin 8 → Fin 3 → ℝ) (B : Fin 4096 → Fin 3 → ℝ) : Prop where
  batch : InBatch (m ((d.tc : Thread nD τ).loc main_arg0))
  p : ∀ r k a, (m ((d.tc : Thread nD τ).loc main_arg1) : FVec Ideal S4x3x8192 .f32) (ix3 (bq r) a (pos (m ((d.tc : Thread nD τ).loc main_arg0)) r k)) = (A r k a : EReal)
  q : ∀ r a, (m ((d.tc : Thread nD τ).loc main_arg3) : FVec Ideal S4x1024x3 .f32) (ix3 (bq r) (mq r) a) = (B r a : EReal)
  ph : ∀ r k a, N.ph r k a = A r k a - B r a
  xs : ∀ r k c, (m ((d.tc : Thread nD τ).loc main_arg2) : FVec Ideal S4x128x8192 .f32) (ix3 (bq r) c (pos (m ((d.tc : Thread nD τ).loc main_arg0)) r k)) = (N.xs r k c : EReal)
  holds : Holds N (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) (m ((d.tc : Thread nD τ).loc main_arg18)) (m ((d.tc : Thread nD τ).loc main_arg19))

end Args

section Stages

variable {m : (ℓ : Loc nD τ sig) → Buf (Elt Ideal) ℓ} {d : Dev nD} {N : Net} {A : Fin 4096 → Fin 8 → Fin 3 → ℝ} {B : Fin 4096 → Fin 3 → ℝ} (R : Real m d N A B)

include R

/-! ## Before the moments -/

theorem v6_at (r : Fin 4096) (k : Fin 8) (l : Fin 128) :
    hv8 (F := Ideal) (gath (F := Ideal) (U1 m d (dr main_v3)) (U1 m d (dr main_v0))) (ix3 r k l) = ((if h : l.val < 3 then A r k ⟨l.val, h⟩ else 0 : ℝ) : EReal) := by
  have hb := R.batch (bq r) (mq r) k
  rw [U1_v3, U1_v0]
  unfold hv8
  refine (ker_apply (F := Ideal) _ _ _ _ _ (bq r) (mq r) k l r (by show r.val = 1024 * (r.val / 1024) + r.val % 1024; omega) hb.1 hb.2).trans ?_
  rw [pos_eq _ R.batch]
  pointwise
  split_ifs with h
  · exact R.p r k ⟨l.val, h⟩
  · exact zero_int

theorem v7_at (r : Fin 4096) (k : Fin 8) (l : Fin 128) :
    hv8 (F := Ideal) (gath (F := Ideal) (U1 m d (dr main_v5)) (U1 m d (dr main_v0))) (ix3 r k l) = (N.xs r k l : EReal) := by
  have hb := R.batch (bq r) (mq r) k
  rw [U1_v5, U1_v0]
  unfold hv8
  refine (ker_apply (F := Ideal) _ _ _ _ _ (bq r) (mq r) k l r (by show r.val = 1024 * (r.val / 1024) + r.val % 1024; omega) hb.1 hb.2).trans ?_
  rw [pos_eq _ R.batch]
  pointwise
  exact R.xs r k l

theorem u4_v8 (r : Fin 4096) (k : Fin 8) (l : Fin 128) : U4 m d (dr main_v8) (ix3 r k l) = ((if h : l.val < 3 then A r k ⟨l.val, h⟩ else 0 : ℝ) : EReal) := by
  unfold U4
  rw [c_v8, show U3 m d (dr main_v6) = gath (F := Ideal) (U1 m d (dr main_v3)) (U1 m d (dr main_v0)) by
    unfold U3 U2; rw [Function.update_of_ne (by decide), Function.update_self]; rfl]
  exact v6_at R r k l

theorem u4_v9 (r : Fin 4096) (k : Fin 8) (l : Fin 128) : U4 m d (dr main_v9) (ix3 r k l) = (N.xs r k l : EReal) := by
  unfold U4
  rw [c_v9, show U3 m d (dr main_v7) = gath (F := Ideal) (U1 m d (dr main_v5)) (U1 m d (dr main_v0)) by
    unfold U3; rw [Function.update_self]; rfl]
  exact v7_at R r k l

theorem u4_v11 (r : Fin 4096) (l : Fin 16) : U4 m d (dr main_v11) (ix2 r l) = ((if h : l.val < 3 then B r ⟨l.val, h⟩ else 0 : ℝ) : EReal) := by
  unfold U4
  rw [c_v11, (k3 m d).u3, hv11_at]
  split_ifs with h
  · exact R.q r ⟨l.val, h⟩
  · rfl

omit R in
/-- The relative positions, lane by lane. -/
theorem dif_eq (hp : ∀ r k a, N.ph r k a = A r k a - B r a) (r : Fin 4096) (k : Fin 8) (l : Fin 16) :
    dif (fun r k (l : Fin 128) => if h : l.val < 3 then A r k ⟨l.val, h⟩ else 0) (fun r (l : Fin 16) => if h : l.val < 3 then B r ⟨l.val, h⟩ else 0) r k l = N.lanes r k l := by
  unfold dif Net.lanes
  dsimp only
  split_ifs with h
  · exact (hp _ _ _).symm
  · exact sub_zero 0

omit R in
theorem lanes_at (r : Fin 4096) (k : Fin 8) (a : Fin 3) (l : Fin 16) (h : l.val = a.val) : N.lanes r k l = N.ph r k a := by
  unfold Net.lanes
  rw [dif_pos (by omega)]
  exact congrArg _ (Fin.ext h)

/-! ## Before the layers -/

theorem u6_v18 (j : Fin 8) (a : Fin 3) : U6 m d (dr main_v18) (ix2 j a) = (N.S j a : EReal) := by
  unfold U6
  rw [c_v18]
  refine (hv18_at _ j a).trans ?_
  refine (v12_1_at (U4 m) d _ _ (u4_v8 R) (u4_v11 R) _).trans (congrArg _ ?_)
  refine Finset.sum_congr rfl fun r _ => ?_
  rw [dif_eq R.ph, lanes_at r _ a _ (by show (j.val * 16 + a.val) % 16 = a.val; omega)]
  exact congrArg (fun j => N.ph r j a) (Fin.ext (by show (j.val * 16 + a.val) / 16 = j.val; omega))

theorem u6_v16 (i : Fin 8) (a : Fin 3) (j : Fin 8) (b : Fin 3) : U6 m d (dr main_v16) (ix4 i a j b) = (N.Q i a j b : EReal) := by
  unfold U6
  rw [c_v16]
  refine (hv16_at _ i a j b).trans ?_
  refine (v12_0_at (U4 m) d _ _ (u4_v8 R) (u4_v11 R) _ _).trans (congrArg _ ?_)
  refine Finset.sum_congr rfl fun r _ => ?_
  rw [dif_eq R.ph, dif_eq R.ph, lanes_at r _ a _ (by show (i.val * 16 + a.val) % 16 = a.val; omega), lanes_at r _ b _ (by show (j.val * 16 + b.val) % 16 = b.val; omega)]
  exact congrArg₂ (fun i j => N.ph r i a * N.ph r j b) (Fin.ext (by show (i.val * 16 + a.val) / 16 = i.val; omega)) (Fin.ext (by show (j.val * 16 + b.val) / 16 = j.val; omega))

theorem u6_v19 (o : Fin 64) (a : Fin 3) : U6 m d (dr main_v19) (ix2 o a) = (N.W1 o a : EReal) := by
  unfold U6
  rw [c_v19, (k4 m d).u5]
  exact (hv19_at _ o a).trans (R.holds.W1 o a)

theorem u6_v22 (a : Fin 3) : U6 m d (dr main_v22) (ix1 a) = (((∑ j, N.S j a) / 32768 : ℝ) : EReal) := by
  have e := u6_v18 R
  unfold U6 at e ⊢
  rw [c_v22]
  exact hv22_at _ _ e a

theorem u6_v31 (a b : Fin 3) : U6 m d (dr main_v31) (ix2 a b) = (((∑ j, N.Q j a j b) / 32768 : ℝ) : EReal) := by
  have e := u6_v16 R
  unfold U6 at e ⊢
  rw [c_v31]
  exact hv31_at _ _ e a b

theorem u6_v32 (o : Fin 64) : U6 m d (dr main_v32) (ix1 o) = (((∑ i, N.h1 o i) / 32768 : ℝ) : EReal) := by
  have e := u6_v19 R
  have e' := u6_v22 R
  rw [← N.h1_mean]
  unfold U6 at e e' ⊢
  rw [c_v32]
  exact hv32_at _ _ _ _ e e' o

theorem u6_v35 (o : Fin 64) : U6 m d (dr main_v35) (ix1 o) = (((∑ i, N.h1 o i * N.h1 o i) / 32768 : ℝ) : EReal) := by
  have e := u6_v19 R
  have e' := u6_v31 R
  rw [← N.h1_sq]
  unfold U6 at e e' ⊢
  rw [c_v35]
  exact hv35_at _ _ _ _ e e' o

theorem u6_v43 (o : Fin 64) : U6 m d (dr main_v43) (ix1 o) = (N.f1 o : EReal) := by
  have e := u6_v32 R o
  have e' := u6_v35 R o
  unfold U6 at e e' ⊢
  rw [c_v43, (k5 m d).u5]
  exact hv43_at _ _ _ o (R.holds.g1 o) e e'

theorem u6_v45 (o : Fin 64) : U6 m d (dr main_v45) (ix1 o) = (N.o1 o : EReal) := by
  have e := u6_v32 R o
  have e' := u6_v43 R o
  unfold U6 at e e' ⊢
  rw [c_v45, (k6 m d).u5]
  exact hv45_at _ _ _ o (R.holds.b1 o) e' e

theorem u6_v49 (a : Fin 3) (o : Fin 64) : U6 m d (dr main_v49) (ix2 a o) = ((N.W1 o a * N.f1 o : ℝ) : EReal) := by
  have e := u6_v19 R o a
  have e' := u6_v43 R o
  unfold U6 at e e' ⊢
  rw [c_v49, EReal.coe_mul]
  exact (hv49_at _ _ a o).trans (congrArg₂ (· * ·) e e')

theorem u7_v50 (l : Fin 16) (o : Fin 64) : U7 m d (dr main_v50) (ix2 l o) = (N.w1 l o : EReal) := by
  unfold U7 Net.w1
  rw [c_v50]
  refine (hv50_at _ l o).trans ?_
  split_ifs with h
  · exact u6_v49 R ⟨l.val, h⟩ o
  · rfl

theorem u7_v51 (o : Fin 64) : U7 m d (dr main_v51) (ix2 0 o) = (N.o1 o : EReal) := by
  unfold U7
  rw [c_v51]
  exact (hv51_at _ o).trans (u6_v45 R o)

theorem u7_v52 (o : Fin 64) (a : Fin 3) (k : Fin 8) : U7 m d (dr main_v52) (ix3 o a k) = (N.Wt1 o a k : EReal) := by
  unfold U7
  rw [c_v52, (k10 m d).u6]
  exact (hv52_at _ o a k).trans (R.holds.Wt1 o a k)

theorem u7_v54 (o : Fin 64) (p : Fin 24) : U7 m d (dr main_v54) (ix2 o p) = (N.Wt1 o ⟨p.val % 3, by omega⟩ ⟨p.val / 3, by omega⟩ : EReal) := by
  have e := u7_v52 R
  unfold U7 at e ⊢
  rw [c_v54]
  exact (hv54_at _ o p).trans (e _ _ _)

theorem u7_v57 (p : Fin 24) : U7 m d (dr main_v57) (ix1 p) = ((N.S ⟨p.val / 3, by omega⟩ ⟨p.val % 3, by omega⟩ / 4096 : ℝ) : EReal) := by
  unfold U7
  rw [c_v57]
  exact hv57_at _ _ (u6_v18 R) p

theorem u7_v60 (p q : Fin 24) : U7 m d (dr main_v60) (ix2 p q) = ((N.Q ⟨p.val / 3, by omega⟩ ⟨p.val % 3, by omega⟩ ⟨q.val / 3, by omega⟩ ⟨q.val % 3, by omega⟩ / 4096 : ℝ) : EReal) := by
  unfold U7
  rw [c_v60]
  exact hv60_at _ _ (u6_v16 R) p q

theorem u7_v64 (o : Fin 64) : U7 m d (dr main_v64) (ix1 o) = (((∑ r, N.t1 o r) / 4096 : ℝ) : EReal) := by
  have e := u7_v54 R
  have e' := u7_v57 R
  rw [← N.t1_mean]
  unfold U7 at e e' ⊢
  rw [c_v64]
  exact hv64_at _ _ (fun o p => N.Wt1 o ⟨p.val % 3, by omega⟩ ⟨p.val / 3, by omega⟩) (fun p => N.S ⟨p.val / 3, by omega⟩ ⟨p.val % 3, by omega⟩ / 4096) e e' o

theorem u7_v72 (o : Fin 64) : U7 m d (dr main_v72) (ix1 o) = (((∑ r, N.t1 o r * N.t1 o r) / 4096 : ℝ) : EReal) := by
  have e := u7_v54 R
  have e' := u7_v60 R
  rw [← N.t1_sq]
  unfold U7 at e e' ⊢
  rw [c_v72, c_v70]
  exact hv72_at _ _ _ (fun o p => N.Wt1 o ⟨p.val % 3, by omega⟩ ⟨p.val / 3, by omega⟩) (fun o b => hv70_at _ _ (fun o p => N.Wt1 o ⟨p.val % 3, by omega⟩ ⟨p.val / 3, by omega⟩)
    (fun p q => N.Q ⟨p.val / 3, by omega⟩ ⟨p.val % 3, by omega⟩ ⟨q.val / 3, by omega⟩ ⟨q.val % 3, by omega⟩ / 4096) e e' o b) e o

theorem u7_v80 (o : Fin 64) : U7 m d (dr main_v80) (ix1 o) = (N.ft1 o : EReal) := by
  have e := u7_v64 R o
  have e' := u7_v72 R o
  unfold U7 at e e' ⊢
  rw [c_v80, (k11 m d).u6]
  exact hv43_at _ _ _ o (R.holds.gt1 o) e e'

theorem u7_v82 (o : Fin 64) : U7 m d (dr main_v82) (ix1 o) = (N.ot1 o : EReal) := by
  have e := u7_v64 R o
  have e' := u7_v80 R o
  unfold U7 at e e' ⊢
  rw [c_v82, (k12 m d).u6]
  exact hv45_at _ _ _ o (R.holds.bt1 o) e' e

omit R in
theorem mul_real {x y : EReal} {a b : ℝ} (hx : x = (a : EReal)) (hy : y = (b : EReal)) : x * y = ((a * b : ℝ) : EReal) := by rw [hx, hy, EReal.coe_mul]

theorem u7_v87 (k : Fin 8) (l : Fin 16) (o : Fin 64) : U7 m d (dr main_v87) (ix3 k l o) = (N.wt1 k l o : EReal) := by
  have e := u7_v52 R o
  have e' := u7_v80 R o
  unfold Net.wt1
  unfold U7 at e e' ⊢
  rw [c_v87]
  refine (hv87_at _ _ k l o).trans ?_
  split_ifs with h
  · exact mul_real (e ⟨l.val, h⟩ k) e'
  · rfl

theorem u7_v88 (o : Fin 64) : U7 m d (dr main_v88) (ix2 0 o) = (N.ot1 o : EReal) := by
  have e := u7_v82 R o
  unfold U7 at e ⊢
  rw [c_v88]
  exact (hv51_at _ o).trans e

theorem u7_v90 (c o : Fin 64) : U7 m d (dr main_v90) (ix2 c o) = (N.W2 o c : EReal) := by
  unfold U7
  rw [c_v90, (k7 m d).u6]
  exact (hv90_at _ c o).trans (R.holds.W2 o c)

theorem u7_v92 (c o : Fin 64) : U7 m d (dr main_v92) (ix2 c o) = (N.Wt2 o c : EReal) := by
  unfold U7
  rw [c_v92, (k13 m d).u6]
  exact (hv90_at _ c o).trans (R.holds.Wt2 o c)

omit R in
theorem u7_of_u4 {b : Ref sig .tc} (l0 : b ∉ [main_v12_0, main_v12_1]) (h2 : b ∉ w2) (h3 : b ∉ w3) : U7 m d (dr b) = U4 m d (dr b) := by
  unfold U7; rw [keep_o3 _ h3]
  unfold U6; rw [keep_o2 _ h2]
  unfold U5; rw [keep_left0 _ _ l0]

theorem in3 : In3 (U7 m) d (fun r k (l : Fin 128) => if h : l.val < 3 then A r k ⟨l.val, h⟩ else 0) (fun r (l : Fin 16) => if h : l.val < 3 then B r ⟨l.val, h⟩ else 0)
    N.w1 N.o1 (fun c o => N.W2 o c) N.wt1 N.ot1 (fun c o => N.Wt2 o c) where
  A r k l := (congrFun (u7_of_u4 (b := main_v8) (by decide) (by decide) (by decide)) _).trans (u4_v8 R r k l)
  B r l := (congrFun (u7_of_u4 (b := main_v11) (by decide) (by decide) (by decide)) _).trans (u4_v11 R r l)
  w := u7_v50 R
  b := u7_v51 R
  W2 := u7_v90 R
  wt := u7_v87 R
  bt := u7_v88 R
  Wt2 := u7_v92 R

/-! ## After the layers -/

theorem dif_row (r : Fin 4096) : dif (fun r k (l : Fin 128) => if h : l.val < 3 then A r k ⟨l.val, h⟩ else 0) (fun r (l : Fin 16) => if h : l.val < 3 then B r ⟨l.val, h⟩ else 0) r = N.lanes r := by
  funext k l
  exact dif_eq R.ph r k l

theorem u8_v93_0 (r : Fin 4096) (k : Fin 8) (o : Fin 64) : U8 m d (dr main_v93_0) (ix3 r k o) = (N.h2 o (r, k) : EReal) := by
  refine (v93_0_at (in3 R) r k o).trans (congrArg _ ?_)
  rw [dif_row R, N.yh_eq]

theorem u8_v93_1 (r : Fin 4096) (o : Fin 64) : U8 m d (dr main_v93_1) (ix2 r o) = (N.t2 o r : EReal) := by
  refine (v93_1_at (in3 R) r o).trans (congrArg _ ?_)
  rw [dif_row R, N.yt_eq]

theorem u8_0 (o : Fin 64) : U8 m d (dr main_v93_2) (ix2 0 o) = ((∑ i, N.h2 o i : ℝ) : EReal) := by
  refine (v93_2_0 (in3 R) o).trans (congrArg _ ?_)
  rw [Fintype.sum_prod_type]
  exact Finset.sum_congr rfl fun r _ => Finset.sum_congr rfl fun k _ => by rw [dif_row R, N.yh_eq]

theorem u8_1 (o : Fin 64) : U8 m d (dr main_v93_2) (ix2 1 o) = ((∑ i, N.h2 o i * N.h2 o i : ℝ) : EReal) := by
  refine (v93_2_1 (in3 R) o).trans (congrArg _ ?_)
  rw [Fintype.sum_prod_type]
  exact Finset.sum_congr rfl fun r _ => Finset.sum_congr rfl fun k _ => by rw [dif_row R, N.yh_eq]

theorem u8_2 (o : Fin 64) : U8 m d (dr main_v93_2) (ix2 2 o) = ((∑ r, N.t2 o r : ℝ) : EReal) := by
  refine (v93_2_2 (in3 R) o).trans (congrArg _ ?_)
  exact Finset.sum_congr rfl fun r _ => by rw [dif_row R, N.yt_eq]

theorem u8_3 (o : Fin 64) : U8 m d (dr main_v93_2) (ix2 3 o) = ((∑ r, N.t2 o r * N.t2 o r : ℝ) : EReal) := by
  refine (v93_2_3 (in3 R) o).trans (congrArg _ ?_)
  exact Finset.sum_congr rfl fun r _ => by rw [dif_row R, N.yt_eq]

theorem u9_v97 (o : Fin 64) : U9 m d (dr main_v97) (ix1 o) = (((∑ i, N.h2 o i) / 32768 : ℝ) : EReal) := by
  unfold U9
  rw [c_v97]
  exact hv97_at _ o (u8_0 R o)

theorem u10_v101 (o : Fin 64) : U10 m d (dr main_v101) (ix1 o) = (((∑ i, N.h2 o i * N.h2 o i) / 32768 : ℝ) : EReal) := by
  unfold U10
  rw [c_v101]
  unfold U9
  rw [c_v99]
  exact hv101_at _ o (u8_1 R o)

theorem u10_v109 (o : Fin 64) : U10 m d (dr main_v109) (ix1 o) = (N.f2 o : EReal) := by
  have e := u10_v101 R o
  unfold U10 at e ⊢
  rw [c_v109, (k8 m d).u9]
  exact hv43_at _ _ _ o (R.holds.g2 o) (u9_v97 R o) e

theorem u10_v111 (o : Fin 64) : U10 m d (dr main_v111) (ix1 o) = (N.o2 o : EReal) := by
  have e := u10_v109 R o
  unfold U10 at e ⊢
  rw [c_v111, (k9 m d).u9]
  exact hv45_at _ _ _ o (R.holds.b2 o) e (u9_v97 R o)

omit R in
theorem u9_v93_2 : U9 m d (dr main_v93_2) = U8 m d (dr main_v93_2) := keep_o4 _ (by decide)

theorem u10_v115 (o : Fin 64) : U10 m d (dr main_v115) (ix1 o) = (((∑ r, N.t2 o r) / 4096 : ℝ) : EReal) := by
  unfold U10
  rw [c_v115, u9_v93_2]
  exact hv115_at _ o (u8_2 R o)

theorem u10_v119 (o : Fin 64) : U10 m d (dr main_v119) (ix1 o) = (((∑ r, N.t2 o r * N.t2 o r) / 4096 : ℝ) : EReal) := by
  unfold U10
  rw [c_v119, u9_v93_2]
  exact hv119_at _ o (u8_3 R o)

theorem u10_v127 (o : Fin 64) : U10 m d (dr main_v127) (ix1 o) = (N.ft2 o : EReal) := by
  have e := u10_v115 R o
  have e' := u10_v119 R o
  unfold U10 at e e' ⊢
  rw [c_v127, (k14 m d).u9]
  exact hv43_at _ _ _ o (R.holds.gt2 o) e e'

theorem u10_v129 (o : Fin 64) : U10 m d (dr main_v129) (ix1 o) = (N.ot2 o : EReal) := by
  have e := u10_v127 R o
  have e' := u10_v115 R o
  unfold U10 at e e' ⊢
  rw [c_v129, (k15 m d).u9]
  exact hv45_at _ _ _ o (R.holds.bt2 o) e e'

/-! ## Before the mix -/

omit R in
theorem u11_of_u10 {b : Ref sig .tc} (h6 : b ∉ w6) : U11 m d (dr b) = U10 m d (dr b) := by
  unfold U11; rw [keep_o6 _ h6]

omit R in
theorem u11_of_u8 {b : Ref sig .tc} (h4 : b ∉ w4) (h5 : b ∉ w5) (h6 : b ∉ w6) : U11 m d (dr b) = U8 m d (dr b) := by
  rw [u11_of_u10 h6]
  unfold U10; rw [keep_o5 _ h5]
  unfold U9; rw [keep_o4 _ h4]

omit R in
theorem u11_v9 : U11 m d (dr main_v9) = U4 m d (dr main_v9) := by
  rw [u11_of_u8 (by decide) (by decide) (by decide)]
  unfold U8; rw [keep_left1 _ _ (by decide)]
  exact u7_of_u4 (by decide) (by decide) (by decide)

theorem u11_v144_0 (o : Fin 64) : U11 m d (dr main_v144) (ix2 0 o) = (N.f2 o : EReal) := by
  have e := u10_v109 R o
  rw [u11_of_u10 (by decide)]
  unfold U10 at e ⊢
  rw [c_v144]
  exact (hv144_0 _ _ _ _ o).trans e

theorem u11_v144_1 (o : Fin 64) : U11 m d (dr main_v144) (ix2 1 o) = (N.o2 o : EReal) := by
  have e := u10_v111 R o
  rw [u11_of_u10 (by decide)]
  unfold U10 at e ⊢
  rw [c_v144]
  exact (hv144_1 _ _ _ _ o).trans e

theorem u11_v144_2 (o : Fin 64) : U11 m d (dr main_v144) (ix2 2 o) = (N.ft2 o : EReal) := by
  have e := u10_v127 R o
  rw [u11_of_u10 (by decide)]
  unfold U10 at e ⊢
  rw [c_v144]
  exact (hv144_2 _ _ _ _ o).trans e

theorem u11_v144_3 (o : Fin 64) : U11 m d (dr main_v144) (ix2 3 o) = (N.ot2 o : EReal) := by
  have e := u10_v129 R o
  rw [u11_of_u10 (by decide)]
  unfold U10 at e ⊢
  rw [c_v144]
  exact (hv144_3 _ _ _ _ o).trans e

theorem u11_v146 (c o : Fin 64) : U11 m d (dr main_v146) (ix2 c o) = (N.Wt3 o c : EReal) := by
  rw [u11_of_u10 (by decide)]
  unfold U10
  rw [c_v146, (k16 m d).u9]
  exact (hv90_at _ c o).trans (R.holds.Wt3 o c)

theorem u11_v148 (k : Fin 8) (l : Fin 192) (o : Fin 256) : U11 m d (dr main_v148) (ix3 k l o) = (N.Wf o l k : EReal) := by
  unfold U11
  rw [c_v148, (k17 m d).u10]
  exact (hv148_at _ k l o).trans (R.holds.Wf o l k)

theorem in4 : In4 (U11 m) d (fun r k o => N.h2 o (r, k)) (fun r o => N.t2 o r) N.xs N.f2 N.o2 N.ft2 N.ot2 (fun c o => N.Wt3 o c) (fun k c o => N.Wf o c k) where
  h r k o := (congrFun (u11_of_u8 (b := main_v93_0) (by decide) (by decide) (by decide)) _).trans (u8_v93_0 R r k o)
  u r o := (congrFun (u11_of_u8 (b := main_v93_1) (by decide) (by decide) (by decide)) _).trans (u8_v93_1 R r o)
  z r k l := (congrFun u11_v9 _).trans (u4_v9 R r k l)
  a := u11_v144_0 R
  b := u11_v144_1 R
  a' := u11_v144_2 R
  b' := u11_v144_3 R
  W3 := u11_v146 R
  W := u11_v148 R

/-! ## The last normalisation -/

theorem u12_v149_0 (q : Fin 4) (o : Fin 256) (n : Fin 1024) : U12 m d (dr main_v149_0) (ix3 q o n) = (N.fin o ⟨q.val * 1024 + n.val, by omega⟩ : EReal) :=
  (v149_0_at (in4 R) q o n).trans (congrArg _ (N.mf_eq o _))

theorem u12_0 (o : Fin 256) : U12 m d (dr main_v149_1) (ix2 o 0) = ((∑ r, N.fin o r : ℝ) : EReal) :=
  (v149_1_0 (in4 R) o).trans (congrArg _ (Finset.sum_congr rfl fun r _ => N.mf_eq o r))

theorem u12_1 (o : Fin 256) : U12 m d (dr main_v149_1) (ix2 o 1) = ((∑ r, N.fin o r * N.fin o r : ℝ) : EReal) :=
  (v149_1_1 (in4 R) o).trans (congrArg _ (Finset.sum_congr rfl fun r _ => congrArg₂ (· * ·) (N.mf_eq o r) (N.mf_eq o r)))

theorem u13_v165 (o : Fin 256) : U13 m d (dr main_v165) (ix1 o) = (N.ff o : EReal) := by
  unfold U13
  rw [c_v165, c_v153, c_v157, (k18 m d).u12]
  exact hv165_at _ _ _ o (R.holds.gf o) (hv153_at _ o (u12_0 R o)) (hv157_at _ o (u12_1 R o))

theorem u13_v167 (o : Fin 256) : U13 m d (dr main_v167) (ix1 o) = (N.fo o : EReal) + N.bf o := by
  have e := u13_v165 R o
  unfold U13 at e ⊢
  rw [c_v167, c_v153, (k19 m d).u12]
  exact hv167_at _ _ _ o (R.holds.bf o) e (hv153_at _ o (u12_0 R o))

theorem u13_v171_0 (o : Fin 256) : U13 m d (dr main_v171) (ix2 o 0) = (N.ff o : EReal) := by
  have e := u13_v165 R o
  unfold U13 at e ⊢
  rw [c_v171]
  exact (hv171_0 _ _ o).trans e

theorem u13_v171_1 (o : Fin 256) : U13 m d (dr main_v171) (ix2 o 1) = (N.fo o : EReal) + N.bf o := by
  have e := u13_v167 R o
  unfold U13 at e ⊢
  rw [c_v171]
  exact (hv171_1 _ _ o).trans e

theorem u13_v149_0 (q : Fin 4) (o : Fin 256) (n : Fin 1024) : U13 m d (dr main_v149_0) (ix3 q o n) = (N.fin o ⟨q.val * 1024 + n.val, by omega⟩ : EReal) := by
  unfold U13
  rw [keep_o7 _ (by decide)]
  exact u12_v149_0 R q o n

/-- The kernel's second result. -/
theorem u15_v172 (q : Fin 4) (o : Fin 256) (n : Fin 1024) : U15 m d (dr main_v172) (ix3 q o n) = N.out o ⟨q.val * 1024 + n.val, by omega⟩ := by
  unfold U15
  rw [keep_o8 _ (by decide)]
  refine (v172_at (U13 m) d N.fin N.ff (fun o => (N.fo o : EReal) + N.bf o) (u13_v149_0 R) (u13_v171_0 R) (u13_v171_1 R) q o n).trans ?_
  exact N.out_eq o _

omit R in
/-- The kernel's first. -/
theorem u15_v173 : U15 m d (dr main_v173) = transpose S4x3x1024 [0, 2, 1] (m ((d.tc : Thread nD τ).loc main_arg3)) transposes_S4x1024x3_S4x3x1024_0_2_1 := by
  rw [← (k3 m d).u14]
  unfold U15
  after_results_simp <;> rfl

end Stages

end Cert.Proof
-- ==== Proof.Twin.lean ====
/-
  The program read on words is the program read over the extended reals.
-/
module

public import proofs.«01_k».proof.Proof.Gen.Kernel
public import proofs.«01_k».proof.Proof.Gen.KernelIdeal

@[expose] public section

set_option maxRecDepth 65536
set_option maxHeartbeats 40000000

noncomputable section

namespace Cert.Proof

open Idealize.ShloMosaic Idealize.SL.Sem

variable {F : FTy → Type} [FloatOps F]

theorem cc0_twin : Cert.Kernel.cc0_gk (F := F) = Cert.KernelIdeal.cc0_gk (F := F) := rfl

theorem cc1_twin : Cert.Kernel.cc1_gk (F := F) = Cert.KernelIdeal.cc1_gk (F := F) := rfl

theorem cc2_twin : Cert.Kernel.cc2__lambda_ (F := F) = Cert.KernelIdeal.cc2__lambda_ (F := F) := rfl

theorem cc3_twin : Cert.Kernel.cc3__lambda_ (F := F) = Cert.KernelIdeal.cc3__lambda_ (F := F) := rfl

theorem cc4_twin : Cert.Kernel.cc4__lambda_ (F := F) = Cert.KernelIdeal.cc4__lambda_ (F := F) := rfl

theorem cc5_twin : Cert.Kernel.cc5__bnout_kernel (F := F) = Cert.KernelIdeal.cc5__bnout_kernel (F := F) := rfl

/-- The two programs have one table of kernels, -/
theorem kernels_twin : Cert.Kernel.defs₀ (F := F) = Cert.KernelIdeal.defs₀ (F := F) := by
  funext p ℓ a
  match p, ℓ, a with
  | .scVector c s, 0, _ => rfl
  | .scVector c s, 1, _ => rfl
  | .tc, 2, (t, s) => rfl
  | .tc, 3, (t, s) => rfl
  | .tc, 4, (t, s) => rfl
  | .tc, 5, (t, s) => rfl
  | .tc, 0, _ => rfl
  | .tc, 1, _ => rfl
  | .scVector c s, 2, _ => rfl
  | .scVector c s, 3, _ => rfl
  | .scVector c s, 4, _ => rfl
  | .scVector c s, 5, _ => rfl
  | .scScalar c, _, _ => rfl

end Cert.Proof

end
-- ==== Proof.TwinMain.lean ====
/-
  The host function read on words is the one read over the extended reals, and so are the threads.
-/
module

public import proofs.«01_k».proof.Proof.Gen.Kernel
public import proofs.«01_k».proof.Proof.Gen.KernelIdeal

@[expose] public section

set_option maxRecDepth 65536
set_option maxHeartbeats 40000000

noncomputable section

namespace Cert.Proof

open Idealize.ShloMosaic Idealize.SL.Sem

variable {F : FTy → Type} [FloatOps F]

/-- The two programs have one host function, -/
theorem main_twin : Cert.Kernel.main (F := F) = Cert.KernelIdeal.main (F := F) := rfl

/-- so every thread runs one program. -/
theorem threads_twin : Cert.Kernel.threads (F := F) = Cert.KernelIdeal.threads (F := F) := congrArg Cert.Kernel.sc.threads main_twin

end Cert.Proof

end
-- ==== Proof.TwinRun.lean ====
/-
  A run of the program read on words is a run of the program read over the extended reals.
-/
module

public import proofs.«01_k».proof.Proof.Twin
public import proofs.«01_k».proof.Proof.TwinMain

@[expose] public section

set_option maxRecDepth 65536
set_option maxHeartbeats 40000000

noncomputable section

namespace Cert.Proof

open Idealize.ShloMosaic Idealize.SL.Sem

variable {F : FTy → Type} [FloatOps F]

/-- The two programs have one table of bodies. -/
theorem defs_twin : Cert.Kernel.defs (F := F) = Cert.KernelIdeal.defs (F := F) :=
  congrArg (fun D => Cert.Kernel.sc.defs (Pipeline.defs Cert.Kernel.pcfgs D)) kernels_twin

end Cert.Proof

end
-- ==== Proof.Final.lean ====
/-
  The claims.
-/
module

public import proofs.«01_k».proof.Proof.KVal
public import proofs.«01_k».proof.Proof.TwinRun
public import proofs.«01_k».proof.Proof.Gen.ReferenceIdeal.Run
public import Idealize.ShloMosaic.Lib.Quiescent

@[expose] public section

set_option maxRecDepth 16384

noncomputable section

namespace Cert.Proof

open Cert.KernelIdeal Cert.KernelIdeal.Gen
open Idealize.ShloMosaic Idealize.ShloMosaic.TcCoe Idealize.SL.Sem Idealize.ShloMosaic.StableHlo

/-! ## Frames -/

set_option maxHeartbeats 40000000 in
/-- The kernel runs and leaves its arguments as they were and every counter at zero. -/
theorem frame_kernel : Cert.quiescent_Kernel := by
  intro m ρ hp
  rw [defs_twin, threads_twin]
  have h := run_kernel (F := Bits) m ρ fun d => inBatch_of_pre (hp d)
  exact (θ_run (Cert.KernelIdeal.defs (F := Bits)) (Cert.KernelIdeal.threads (F := Bits)) ⟨m, fun _ => 0, ρ⟩).mono (fun _ h => ⟨fun c => (h.1 c).2.2, h.2⟩) h

/-- So does its idealization, -/
theorem frame_kernelIdeal : Cert.quiescent_KernelIdeal := fun m ρ hp =>
  (θ_run Cert.KernelIdeal.defs _ _).mono (fun _ h => ⟨fun c => (h.1 c).2.2, h.2⟩) (run_kernel (F := Ideal) m ρ fun d => inBatch_of_pre (hp d))

/-- and under the stronger precondition. -/
theorem frame_kernelIdeal_finite : Cert.quiescent_KernelIdeal_pre_in_range_finite := fun m ρ hp =>
  (θ_run Cert.KernelIdeal.defs _ _).mono (fun _ h => ⟨fun c => (h.1 c).2.2, h.2⟩) (run_kernel (F := Ideal) m ρ fun d => (finite_of_pre (hp d)).1)

/-- The reference at the ideal instance runs and leaves its arguments as they were; it has no counters. -/
theorem frame_referenceIdeal : Cert.quiescent_ReferenceIdeal := fun m ρ _ =>
  (θ_run Cert.ReferenceIdeal.defs _ _).mono (fun _ h => ⟨fun c => (h c).2.2, sem_eq_zero_of_no_sems rfl _⟩) (Cert.ReferenceIdeal.Value.run (F := Ideal) m ρ)

/-- The same under the precondition. -/
theorem frame_referenceIdeal_finite : Cert.quiescent_ReferenceIdeal_pre_in_range_finite := fun m ρ _ => frame_referenceIdeal m ρ trivial

/-! ## The second result -/

theorem out_eq (m : (ℓ : Loc nD τ sig) → Buf (Elt Ideal) ℓ) (d : Dev nD) (V0 : Valuation Cert.ReferenceIdeal.τ Cert.ReferenceIdeal.sig (Elt Ideal))
    (e0 : V0 (Proc.devRef .tc Cert.ReferenceIdeal.main_arg0) = m ((d.tc : Thread nD τ).loc main_arg0))
    (e1 : V0 (Proc.devRef .tc Cert.ReferenceIdeal.main_arg1) = m ((d.tc : Thread nD τ).loc main_arg1))
    (e2 : V0 (Proc.devRef .tc Cert.ReferenceIdeal.main_arg2) = m ((d.tc : Thread nD τ).loc main_arg2))
    (e3 : V0 (Proc.devRef .tc Cert.ReferenceIdeal.main_arg3) = m ((d.tc : Thread nD τ).loc main_arg3))
    (e4 : V0 (Proc.devRef .tc Cert.ReferenceIdeal.main_arg4) = m ((d.tc : Thread nD τ).loc main_arg4))
    (e5 : V0 (Proc.devRef .tc Cert.ReferenceIdeal.main_arg5) = m ((d.tc : Thread nD τ).loc main_arg5))
    (e6 : V0 (Proc.devRef .tc Cert.ReferenceIdeal.main_arg6) = m ((d.tc : Thread nD τ).loc main_arg6))
    (e7 : V0 (Proc.devRef .tc Cert.ReferenceIdeal.main_arg7) = m ((d.tc : Thread nD τ).loc main_arg7))
    (e8 : V0 (Proc.devRef .tc Cert.ReferenceIdeal.main_arg8) = m ((d.tc : Thread nD τ).loc main_arg8))
    (e9 : V0 (Proc.devRef .tc Cert.ReferenceIdeal.main_arg9) = m ((d.tc : Thread nD τ).loc main_arg9))
    (e10 : V0 (Proc.devRef .tc Cert.ReferenceIdeal.main_arg10) = m ((d.tc : Thread nD τ).loc main_arg10))
    (e11 : V0 (Proc.devRef .tc Cert.ReferenceIdeal.main_arg11) = m ((d.tc : Thread nD τ).loc main_arg11))
    (e12 : V0 (Proc.devRef .tc Cert.ReferenceIdeal.main_arg12) = m ((d.tc : Thread nD τ).loc main_arg12))
    (e13 : V0 (Proc.devRef .tc Cert.ReferenceIdeal.main_arg13) = m ((d.tc : Thread nD τ).loc main_arg13))
    (e14 : V0 (Proc.devRef .tc Cert.ReferenceIdeal.main_arg14) = m ((d.tc : Thread nD τ).loc main_arg14))
    (e15 : V0 (Proc.devRef .tc Cert.ReferenceIdeal.main_arg15) = m ((d.tc : Thread nD τ).loc main_arg15))
    (e16 : V0 (Proc.devRef .tc Cert.ReferenceIdeal.main_arg16) = m ((d.tc : Thread nD τ).loc main_arg16))
    (e17 : V0 (Proc.devRef .tc Cert.ReferenceIdeal.main_arg17) = m ((d.tc : Thread nD τ).loc main_arg17))
    (e18 : V0 (Proc.devRef .tc Cert.ReferenceIdeal.main_arg18) = m ((d.tc : Thread nD τ).loc main_arg18))
    (e19 : V0 (Proc.devRef .tc Cert.ReferenceIdeal.main_arg19) = m ((d.tc : Thread nD τ).loc main_arg19))
    (hx : InBatch (m ((d.tc : Thread nD τ).loc main_arg0)))
    (f1 : Fin32 (m ((d.tc : Thread nD τ).loc main_arg1)))
    (f2 : Fin32 (m ((d.tc : Thread nD τ).loc main_arg2)))
    (f3 : Fin32 (m ((d.tc : Thread nD τ).loc main_arg3)))
    (f4 : Fin32 (m ((d.tc : Thread nD τ).loc main_arg4)))
    (f5 : Fin32 (m ((d.tc : Thread nD τ).loc main_arg5)))
    (f6 : Fin32 (m ((d.tc : Thread nD τ).loc main_arg6)))
    (f7 : Fin32 (m ((d.tc : Thread nD τ).loc main_arg7)))
    (f8 : Fin32 (m ((d.tc : Thread nD τ).loc main_arg8)))
    (f9 : Fin32 (m ((d.tc : Thread nD τ).loc main_arg9)))
    (f10 : Fin32 (m ((d.tc : Thread nD τ).loc main_arg10)))
    (f11 : Fin32 (m ((d.tc : Thread nD τ).loc main_arg11)))
    (f12 : Fin32 (m ((d.tc : Thread nD τ).loc main_arg12)))
    (f13 : Fin32 (m ((d.tc : Thread nD τ).loc main_arg13)))
    (f14 : Fin32 (m ((d.tc : Thread nD τ).loc main_arg14)))
    (f15 : Fin32 (m ((d.tc : Thread nD τ).loc main_arg15)))
    (f16 : Fin32 (m ((d.tc : Thread nD τ).loc main_arg16)))
    (f17 : Fin32 (m ((d.tc : Thread nD τ).loc main_arg17)))
    (f18 : Fin32 (m ((d.tc : Thread nD τ).loc main_arg18)))
    : rOut V0 = U15 m d (dr main_v172) := by
  have hm := holds_of (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) (m ((d.tc : Thread nD τ).loc main_arg18)) (m ((d.tc : Thread nD τ).loc main_arg19)) f4 f5 f6 f7 f8 f9 f10 f11 f12 f13 f14 f15 f16 f17 f18
  have hr : Holds (netOf (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) (m ((d.tc : Thread nD τ).loc main_arg18)) (m ((d.tc : Thread nD τ).loc main_arg19))) (V0 (Proc.devRef .tc Cert.ReferenceIdeal.main_arg4)) (V0 (Proc.devRef .tc Cert.ReferenceIdeal.main_arg5)) (V0 (Proc.devRef .tc Cert.ReferenceIdeal.main_arg6)) (V0 (Proc.devRef .tc Cert.ReferenceIdeal.main_arg7)) (V0 (Proc.devRef .tc Cert.ReferenceIdeal.main_arg8)) (V0 (Proc.devRef .tc Cert.ReferenceIdeal.main_arg9)) (V0 (Proc.devRef .tc Cert.ReferenceIdeal.main_arg10)) (V0 (Proc.devRef .tc Cert.ReferenceIdeal.main_arg11)) (V0 (Proc.devRef .tc Cert.ReferenceIdeal.main_arg12)) (V0 (Proc.devRef .tc Cert.ReferenceIdeal.main_arg13)) (V0 (Proc.devRef .tc Cert.ReferenceIdeal.main_arg14)) (V0 (Proc.devRef .tc Cert.ReferenceIdeal.main_arg15)) (V0 (Proc.devRef .tc Cert.ReferenceIdeal.main_arg16)) (V0 (Proc.devRef .tc Cert.ReferenceIdeal.main_arg17)) (V0 (Proc.devRef .tc Cert.ReferenceIdeal.main_arg18)) (V0 (Proc.devRef .tc Cert.ReferenceIdeal.main_arg19)) := by
    rw [e4, e5, e6, e7, e8, e9, e10, e11, e12, e13, e14, e15, e16, e17, e18, e19]
    exact hm
  have hx0 : InBatch (V0 (Proc.devRef .tc Cert.ReferenceIdeal.main_arg0)) := by rw [e0]; exact hx
  have g1 : Fin32 (V0 (Proc.devRef .tc Cert.ReferenceIdeal.main_arg1)) := by rw [e1]; exact f1
  have g2 : Fin32 (V0 (Proc.devRef .tc Cert.ReferenceIdeal.main_arg2)) := by rw [e2]; exact f2
  have g3 : Fin32 (V0 (Proc.devRef .tc Cert.ReferenceIdeal.main_arg3)) := by rw [e3]; exact f3
  have hp := r_ph V0 hx0 g1 g3
  have hs := r_xs V0 hx0 g2
  rw [e0, e1, e2, e3, e4, e5, e6, e7, e8, e9, e10, e11, e12, e13, e14, e15, e16, e17, e18, e19] at hp hs
  have R : Real m d (netOf (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) (m ((d.tc : Thread nD τ).loc main_arg18)) (m ((d.tc : Thread nD τ).loc main_arg19)))
      (fun r k a => ((m ((d.tc : Thread nD τ).loc main_arg1) : FVec Ideal S4x3x8192 .f32) (ix3 (bq r) a (pos (m ((d.tc : Thread nD τ).loc main_arg0)) r k))).toReal)
      (fun r a => ((m ((d.tc : Thread nD τ).loc main_arg3) : FVec Ideal S4x1024x3 .f32) (ix3 (bq r) (mq r) a)).toReal) :=
    { batch := hx
      p := fun _ _ _ => f1.coe _
      q := fun _ _ => f3.coe _
      ph := fun _ _ _ => rfl
      xs := fun _ _ _ => f2.coe _
      holds := hm }
  funext i
  rw [show i = (ix3 (i 0) (i 1) (i 2) : S4x256x1024.Idx) from ValueIdx.eq_ix3 (n0 := 4) (n1 := 256) (n2 := 1024) i]
  exact (r_out _ V0 hr hp hs (i 0) (i 1) (i 2)).trans (u15_v172 R (i 0) (i 1) (i 2)).symm

/-- At the ideal instance the kernel's results are the reference's. -/
theorem algebraic : Cert.algebraic_KernelIdeal_ReferenceIdeal_pre_in_range_finite := by
  intro m g m' g' hp ha
  refine ⟨fun c => transpose S4x3x1024 [0, 2, 1] (m ((c.tc : Thread nD τ).loc main_arg3)) transposes_S4x1024x3_S4x3x1024_0_2_1, fun c => U15 (F := Ideal) m c (dr main_v172),
    (θ_run Cert.KernelIdeal.defs _ _).mono (fun _ h c => ⟨(h.1 c).1.trans u15_v173, (h.1 c).2⟩) (run_kernel (F := Ideal) m g fun d => (finite_of_pre (hp d)).1),
    (θ_run Cert.ReferenceIdeal.defs _ _).mono (fun _ h c => ⟨(h c).1.trans ?_, (h c).2.1.trans ?_, (h c).2.2⟩) (Cert.ReferenceIdeal.Value.run (F := Ideal) m' g')⟩
  · obtain ⟨e0, e1, e2, e3, e4, e5, e6, e7, e8, e9, e10, e11, e12, e13, e14, e15, e16, e17, e18, e19⟩ := ha c
    exact congrArg (fun q => transpose S4x3x1024 [0, 2, 1] q transposes_S4x1024x3_S4x3x1024_0_2_1) e3
  · obtain ⟨e0, e1, e2, e3, e4, e5, e6, e7, e8, e9, e10, e11, e12, e13, e14, e15, e16, e17, e18, e19⟩ := ha c
    obtain ⟨hx, f1, f2, f3, f4, f5, f6, f7, f8, f9, f10, f11, f12, f13, f14, f15, f16, f17, f18⟩ := finite_of_pre (hp c)
    exact out_eq m c (launchContents m' c) e0 e1 e2 e3 e4 e5 e6 e7 e8 e9 e10 e11 e12 e13 e14 e15 e16 e17 e18 e19 hx f1 f2 f3 f4 f5 f6 f7 f8 f9 f10 f11 f12 f13 f14 f15 f16 f17 f18

end Cert.Proof
-- ==== Proof.SearchKit.lean ====
/-
  What is generated for the search and its reference.
-/
module

public import proofs.«01_k».proof.Proof.Gen.Search.Frame
public import proofs.«01_k».proof.Proof.Gen.SearchIdeal.Frame
public import proofs.«01_k».proof.Proof.Gen.SearchReferenceIdeal.Run
public import proofs.«01_k».proof.Proof.Gen.Pre_points_finite
public import proofs.«01_k».proof.Defs

@[expose] public section
-- ==== Proof.Nearest.lean ====
/-
  The order a stable sort by distance puts positions in, and what is left of a row after its nearest have been taken.
-/
module

public import Idealize.ShloMosaic.PureOps
public import Idealize.ShloMosaic.Lib.SortFacts
public import Idealize.ShloMosaic.Lib.SortNet.Extract
public import Mathlib.Data.EReal.Basic

@[expose] public section

namespace Cert.Proof

open Idealize.ShloMosaic

/-- Position `i` comes ahead of position `k`: it is nearer, or as near and lower. -/
def Ahead {n : Nat} (d : Fin n → EReal) (i k : Fin n) : Prop := d i < d k ∨ d i = d k ∧ i < k

theorem insert_ahead {n : Nat} (d : Fin n → EReal) (b : Fin n → Fin n → Bool) (hb : ∀ i k, b i k = true ↔ d i < d k) (a : Fin n)
    (l : List (Fin n)) (hl : l.Pairwise (Ahead d)) (ha : ∀ x ∈ l, a < x) : (insertBefore b a l).Pairwise (Ahead d) := by
  induction l with
  | nil => exact List.pairwise_singleton _ _
  | cons c l ih =>
    rw [List.pairwise_cons] at hl
    have hac : a < c := ha c List.mem_cons_self
    unfold insertBefore
    split
    · rename_i h
      have hca : d c < d a := (hb _ _).1 h
      refine List.pairwise_cons.2 ⟨fun x hx => ?_, ih hl.2 fun x hx => ha x (List.mem_cons_of_mem _ hx)⟩
      rcases List.mem_cons.1 ((perm_insertBefore b a l).mem_iff.1 hx) with rfl | hx
      · exact Or.inl hca
      · exact hl.1 x hx
    · rename_i h
      have hca : d a ≤ d c := not_lt.1 fun e => h ((hb _ _).2 e)
      refine List.pairwise_cons.2 ⟨fun x hx => ?_, List.pairwise_cons.2 hl⟩
      have hax : a < x := ha x hx
      rcases List.mem_cons.1 hx with rfl | hx
      · rcases lt_or_eq_of_le hca with e | e
        · exact Or.inl e
        · exact Or.inr ⟨e, hax⟩
      · rcases hl.1 x hx with e | ⟨e, _⟩
        · exact Or.inl (lt_of_le_of_lt hca e)
        · rcases lt_or_eq_of_le hca with e' | e'
          · exact Or.inl (e ▸ e')
          · exact Or.inr ⟨e'.trans e, hax⟩

theorem stable_ahead {n : Nat} (d : Fin n → EReal) (b : Fin n → Fin n → Bool) (hb : ∀ i k, b i k = true ↔ d i < d k)
    (l : List (Fin n)) (hl : l.Pairwise (· < ·)) : (stableSort b l).Pairwise (Ahead d) := by
  induction l with
  | nil => exact List.Pairwise.nil
  | cons a l ih =>
    rw [List.pairwise_cons] at hl
    unfold stableSort
    exact insert_ahead d b hb a _ (ih hl.2) fun x hx => hl.1 x ((perm_stableSort b l).mem_iff.1 hx)

/-- The positions of a stable sort by distance, each ahead of the later ones. -/
theorem sorted_ahead {n : Nat} (d : Fin n → EReal) (b : Fin n → Fin n → Bool) (hb : ∀ i k, b i k = true ↔ d i < d k)
    (i k : Fin n) (h : i < k) : Ahead d (sortedFrom b i) (sortedFrom b k) := by
  have hp : ∀ x y : Fin (sortPositions n b).length, x < y → Ahead d ((sortPositions n b).get x) ((sortPositions n b).get y) :=
    List.pairwise_iff_get.mp (stable_ahead d b hb _ (List.pairwise_lt_finRange n))
  unfold sortedFrom
  exact hp _ _ (by simp only [Fin.lt_def, Fin.val_cast]; exact h)

/-! ## What is left of a row -/

open Classical in
/-- The row of distances with its first `j` taken positions at infinity. -/
noncomputable def rest {n : Nat} (d : Fin n → EReal) (σ : Fin n → Fin n) (j : Nat) (i : Fin n) : EReal :=
  if ∃ r : Fin n, r.val < j ∧ σ r = i then ⊤ else d i

theorem rest_zero {n : Nat} (d : Fin n → EReal) (σ : Fin n → Fin n) (i : Fin n) : rest d σ 0 i = d i :=
  if_neg fun ⟨_, h, _⟩ => Nat.not_lt_zero _ h

theorem rest_succ {n : Nat} (d : Fin n → EReal) (σ : Fin n → Fin n) (j : Fin n) (i : Fin n) :
    rest d σ (j.val + 1) i = if i = σ j then ⊤ else rest d σ j.val i := by
  unfold rest
  by_cases e : i = σ j
  · rw [if_pos e, if_pos ⟨j, Nat.lt_succ_self _, e.symm⟩]
  · rw [if_neg e]
    refine if_congr ⟨fun ⟨r, hr, h⟩ => ⟨r, ?_, h⟩, fun ⟨r, hr, h⟩ => ⟨r, Nat.lt_succ_of_lt hr, h⟩⟩ rfl rfl
    rcases Nat.lt_succ_iff_lt_or_eq.1 hr with hr | hr
    · exact hr
    · exact absurd (h.symm.trans (congrArg σ (Fin.ext hr))) e

section

variable {n : Nat} {d : Fin n → EReal} {σ : Fin n → Fin n} (hi : Function.Injective σ) (hs : Function.Surjective σ)
  (ho : ∀ i k, i < k → Ahead d (σ i) (σ k)) (ht : ∀ i, d i ≠ ⊤) (j : Fin n)

include hi in
theorem rest_at : rest d σ j.val (σ j) = d (σ j) :=
  if_neg fun ⟨_, h, e⟩ => absurd (congrArg Fin.val (hi e)) (Nat.ne_of_lt h)

include hs ho in
/-- No distance left is less than the next one in the order. -/
theorem le_rest (i : Fin n) : d (σ j) ≤ rest d σ j.val i := by
  obtain ⟨r, rfl⟩ := hs i
  unfold rest
  split
  · exact le_top
  · rename_i h
    have hr : j ≤ r := not_lt.1 fun e => h ⟨r, e, rfl⟩
    rcases lt_or_eq_of_le hr with e | e
    · rcases ho j r e with h | ⟨h, _⟩
      · exact le_of_lt h
      · exact le_of_eq h
    · exact le_of_eq (congrArg (fun x => d (σ x)) e)

include hi hs ho in
/-- The least distance left. -/
theorem least_rest : (Finset.univ : Finset (Fin n)).fold min ⊤ (rest d σ j.val) = d (σ j) := by
  refine le_antisymm ((Finset.fold_min_le _).2 (Or.inr ⟨σ j, Finset.mem_univ _, le_of_eq (rest_at hi j)⟩)) ?_
  exact (Finset.le_fold_min _).2 ⟨le_top, fun i _ => le_rest hs ho j i⟩

include hs ho ht in
/-- A position at the least distance left is no lower than the next one in the order. -/
theorem low_rest (i : Fin n) (h : rest d σ j.val i = d (σ j)) : σ j ≤ i := by
  obtain ⟨r, rfl⟩ := hs i
  unfold rest at h
  split at h
  · exact absurd h.symm (ht _)
  · rename_i h'
    have hr : j ≤ r := not_lt.1 fun e => h' ⟨r, e, rfl⟩
    rcases lt_or_eq_of_le hr with e | e
    · rcases ho j r e with h'' | ⟨_, h''⟩
      · exact absurd h (ne_of_gt h'')
      · exact le_of_lt h''
    · exact le_of_eq (congrArg σ e)

end

open Classical in
/-- The signed minimum of the positions at the least distance left is the next position in the order. -/
theorem pick_rest {d : Fin 8192 → EReal} {σ : Fin 8192 → Fin 8192} (hi : Function.Injective σ) (hs : Function.Surjective σ)
    (ho : ∀ i k, i < k → Ahead d (σ i) (σ k)) (ht : ∀ i, d i ≠ ⊤) (j : Fin 8192) :
    (Finset.univ : Finset (Fin 8192)).fold IntOp.minsi 2147483647#32
      (fun i => if rest d σ j.val i = d (σ j) then BitVec.ofNat 32 i.val else 8192#32) = BitVec.ofNat 32 (σ j).val := by
  have hn : ∀ i : Fin 8192, (BitVec.ofNat 32 i.val).toInt = (i.val : Int) := fun i => by
    have h := i.isLt
    have e : (BitVec.ofNat 32 i.val).toNat = i.val := by rw [BitVec.toNat_ofNat]; omega
    rw [BitVec.toInt_eq_toNat_of_lt (by omega), e]
  apply BitVec.eq_of_toInt_eq
  rw [← Finset.fold_hom (op' := min) (m := BitVec.toInt) SortNet.toInt_minsi, hn]
  refine le_antisymm ((Finset.fold_min_le _).2 (Or.inr ⟨σ j, Finset.mem_univ _, ?_⟩)) ((Finset.le_fold_min _).2 ⟨?_, fun i _ => ?_⟩)
  · show (if rest d σ j.val (σ j) = d (σ j) then _ else _ : BitVec 32).toInt ≤ _
    rw [if_pos (rest_at hi j), hn]
  · have h := (σ j).isLt
    show ((σ j).val : Int) ≤ 2147483647
    omega
  · show _ ≤ (if rest d σ j.val i = d (σ j) then _ else _ : BitVec 32).toInt
    split
    · rename_i h
      rw [hn]
      exact_mod_cast (low_rest hs ho ht j i h)
    · have h := (σ j).isLt
      show ((σ j).val : Int) ≤ 8192
      omega

/-- A fold over the trips of a loop keeps what each trip keeps. -/
theorem foldl_keeps {α : Type} : ∀ (n : Nat) (P : Nat → α → Prop) (g : Fin n → α → α) (init : α), P 0 init →
    (∀ (k : Fin n) a, P k.val a → P (k.val + 1) (g k a)) → P n ((List.finRange n).foldl (fun a k => g k a) init)
  | 0, _, _, _, h0, _ => h0
  | n + 1, P, g, init, h0, hs => by
    rw [List.finRange_succ_last, List.foldl_append, List.foldl_map]
    exact hs (Fin.last n) _ (foldl_keeps n P (fun k => g k.castSucc) init h0 fun k a h => hs k.castSucc a h)

end Cert.Proof
-- ==== Proof.SearchVals.lean ====
/-
  One block of the search: its rounds, read at an index.
-/
module

public import proofs.«01_k».proof.Proof.SearchKit
public import proofs.«01_k».proof.Proof.Nearest
public import Idealize.ShloMosaic.Lib.Pointwise
public import Idealize.ShloMosaic.Lib.Pipeline.Value

@[expose] public section

set_option maxRecDepth 16384

noncomputable section

namespace Cert.Proof.Srch

open Cert.SearchIdeal Cert.SearchIdeal.Gen
open Idealize.ShloMosaic Idealize.ShloMosaic.TcCoe Idealize.SL.Sem Idealize.ShloMosaic.StableHlo

/-- The loop's carried values: the distances left, the positions taken, the last one taken. -/
abbrev Acc := FVec Ideal S256x8192 .f32 × IVec S256x8 32 × IVec S256x1 32

/-- One round. -/
def round (i : grid0.Coords) (k : Fin k0_t1_loop.trips) (a : Acc) : Acc :=
  (k0_pay4 a.1 a.2.2, k0_pay6 i k a.1 a.2.1 a.2.2, k0_pay5 a.1 a.2.2)

/-- All rounds. -/
def rounds (i : grid0.Coords) (x0 : Vec Ideal S1x3x8192 .f32) (x1 : Vec Ideal S1x256x3 .f32) : Acc :=
  (List.finRange k0_t1_loop.trips).foldl (fun a k => round i k a) (k0_pay1 x0 x1, k0_pay2, k0_pay3)

theorem out_rounds (c : Dev nD) (i : grid0.Coords) (arg2 : Memref sig .tc .vmem S1x3x8192 .f32) (harg2 : arg2.IsWhole) (arg3 : Memref sig .tc .vmem S1x256x3 .f32) (harg3 : arg3.IsWhole) (arg4 : Memref sig .tc .vmem S1x256x8 .i32) (harg4 : arg4.IsWhole)
    (x0 : Vec Ideal S1x3x8192 .f32) (x1 : Vec Ideal S1x256x3 .f32) :
    out0_A_2 (F := Ideal) c i arg2 harg2 arg3 harg3 arg4 harg4 x0 x1 = k0_pay7 (rounds i x0 x1).2.1 := by
  have e0 : View.ld (Val := Elt Ideal) (arg2.view.read (Elt Ideal) (harg2.unread x0)) (Rect.unit (s := S1x3x8192) ![0, 0, 0] S1x3x8192.size inb_S1x3x8192_S1x3x8192_0_0_0) = x0 :=
    (View.ld_unit_zero (by decide) _ _).trans (harg2.read_unread _)
  have e1 : View.ld (Val := Elt Ideal) (arg3.view.read (Elt Ideal) (harg3.unread x1)) (Rect.unit (s := S1x256x3) ![0, 0, 0] S1x256x3.size inb_S1x256x3_S1x256x3_0_0_0) = x1 :=
    (View.ld_unit_zero (by decide) _ _).trans (harg3.read_unread _)
  unfold out0_A_2
  refine (View.read_writes_eq_canon VO0_2 _ _ (cover0_A_2 c i arg2 harg2 arg3 harg3 arg4 harg4 x0 x1)).trans ?_
  refine (View.canon_unit_zero (Val := Elt Ideal) (S := S1x256x8) (e := .i32) (off := ![0, 0, 0]) (by decide) inb_S1x256x8_S1x256x8_0_0_0
    (k0_pay7 (Scf.fold (round i) (k0_pay1
      (View.ld (Val := Elt Ideal) (arg2.view.read (Elt Ideal) (harg2.unread x0)) (Rect.unit (s := S1x3x8192) ![0, 0, 0] S1x3x8192.size inb_S1x3x8192_S1x3x8192_0_0_0))
      (View.ld (Val := Elt Ideal) (arg3.view.read (Elt Ideal) (harg3.unread x1)) (Rect.unit (s := S1x256x3) ![0, 0, 0] S1x256x3.size inb_S1x256x3_S1x256x3_0_0_0)), k0_pay2, k0_pay3)).2.1)).trans ?_
  rw [e0, e1, Scf.fold_eq]
  rfl

theorem sel_eq {w : Nat} {α : Type} (x y : BitVec w) (a b : α) : Scalar.select (IntOp.cmpi .eq x y) a b = if x = y then a else b := by
  by_cases h : x = y
  · subst h; simp [Scalar.select, IntOp.cmpi]
  · have e : (x == y) = false := by simpa using h
    simp only [Scalar.select, IntOp.cmpi, e, h, if_false]
    rfl

theorem inf_f32 : Ideal.ofBits FTy.f32 0x7F800000#32 = ⊤ := by
  simp [Ideal.ofBits, Ideal.ieee]

theorem pay4_at (a6 : FVec Ideal S256x8192 .f32) (a8 : IVec S256x1 32) (o : Fin 256) (i : Fin 8192) :
    k0_pay4 (F := Ideal) a6 a8 (ix2 o i) = if BitVec.ofNat 32 i.val = a8 (ix2 o 0) then ⊤ else a6 (ix2 o i) := by
  pointwise [k0_pay4]
  exact (sel_eq _ _ _ _).trans (by rw [show Ideal.ofBits FTy.f32 2139095040#32 = ⊤ from inf_f32])

theorem pay5_at (a6 : FVec Ideal S256x8192 .f32) (a8 : IVec S256x1 32) (o : Fin 256) (f : Fin 8192 → EReal) (h : ∀ i, k0_pay4 (F := Ideal) a6 a8 (ix2 o i) = f i) :
    k0_pay5 (F := Ideal) a6 a8 (ix2 o 0) = (Finset.univ : Finset (Fin 8192)).fold IntOp.minsi 2147483647#32
      (fun i => if f i = (Finset.univ : Finset (Fin 8192)).fold min ⊤ f then BitVec.ofNat 32 i.val else 8192#32) := by
  pointwise [k0_pay5]
  simp only [h, inf_f32]

theorem pay6_at (i : grid0.Coords) (k : Fin k0_t1_loop.trips) (a6 : FVec Ideal S256x8192 .f32) (a7 : IVec S256x8 32) (a8 : IVec S256x1 32) (o : Fin 256) (r : Fin 8) :
    k0_pay6 (F := Ideal) i k a6 a7 a8 (ix2 o r) = if r.val = k.val then k0_pay5 (F := Ideal) a6 a8 (ix2 o 0) + BitVec.ofNat 32 (i 0).val * 8192#32 else a7 (ix2 o r) := by
  pointwise [k0_pay6]
  refine (sel_eq _ _ _ _).trans (if_congr ?_ rfl rfl)
  have hk : k.val < 8 := Nat.lt_of_lt_of_eq k.isLt (by decide)
  have hr := r.isLt
  unfold Scf.iv
  constructor
  · intro h
    have := congrArg BitVec.toNat h
    simp at this
    omega
  · intro h
    rw [h]
    simp

theorem pay7_at (a7 : IVec S256x8 32) (o : Fin 256) (r : Fin 8) : k0_pay7 a7 (ix3 0 o r) = a7 (ix2 o r) := by
  pointwise [k0_pay7]

theorem pay1_at (x0 : Vec Ideal S1x3x8192 .f32) (x1 : Vec Ideal S1x256x3 .f32) (o : Fin 256) (i : Fin 8192) :
    k0_pay1 (F := Ideal) x0 x1 (ix2 o i) = ∑ x, x1 (ix3 0 o x) * x1 (ix3 0 o x) + ∑ x, x0 (ix3 0 x i) * x0 (ix3 0 x i)
      - Ideal.ofBits FTy.f32 1073741824#32 * ∑ x, x1 (ix3 0 o x) * x0 (ix3 0 x i) := by
  pointwise [k0_pay1]

/-- What a row keeps after `j` rounds. -/
def Kept (b : BitVec 32) (d : Fin 256 → Fin 8192 → EReal) (σ : Fin 256 → Fin 8192 → Fin 8192) (j : Nat) (a : Acc) : Prop :=
  ∀ o, (∀ i, k0_pay4 (F := Ideal) a.1 a.2.2 (ix2 o i) = rest (d o) (σ o) j i)
    ∧ ∀ r : Fin 8, r.val < j → a.2.1 (ix2 o r) = BitVec.ofNat 32 (σ o ⟨r.val, by omega⟩).val + b

variable {d : Fin 256 → Fin 8192 → EReal} {σ : Fin 256 → Fin 8192 → Fin 8192} (hi : ∀ o, Function.Injective (σ o)) (hs : ∀ o, Function.Surjective (σ o))
  (ho : ∀ o i k, i < k → Ahead (d o) (σ o i) (σ o k)) (ht : ∀ o i, d o i ≠ ⊤)

include hi hs ho ht in
theorem kept_succ (i : grid0.Coords) (k : Fin k0_t1_loop.trips) (a : Acc) (h : Kept (BitVec.ofNat 32 (i 0).val * 8192#32) d σ k.val a) :
    Kept (BitVec.ofNat 32 (i 0).val * 8192#32) d σ (k.val + 1) (round i k a) := by
  have hk : k.val < 8 := Nat.lt_of_lt_of_eq k.isLt (by decide)
  intro o
  obtain ⟨h1, h2⟩ := h o
  have hp : k0_pay5 (F := Ideal) a.1 a.2.2 (ix2 o 0) = BitVec.ofNat 32 (σ o ⟨k.val, by omega⟩).val := by
    refine (pay5_at _ _ o _ h1).trans ?_
    rw [show (Finset.univ : Finset (Fin 8192)).fold min ⊤ (fun i => rest (d o) (σ o) k.val i) = d o (σ o ⟨k.val, by omega⟩)
      from least_rest (hi o) (hs o) (ho o) ⟨k.val, by omega⟩]
    refine Eq.trans ?_ (pick_rest (hi o) (hs o) (ho o) (ht o) ⟨k.val, by omega⟩)
    exact congrArg (fun f => Finset.fold IntOp.minsi 2147483647#32 f Finset.univ) (funext fun x => if_congr Iff.rfl rfl rfl)
  refine ⟨fun x => ?_, fun r hr => ?_⟩
  · refine (pay4_at _ _ o x).trans (Eq.trans ?_ (rest_succ (d o) (σ o) ⟨k.val, by omega⟩ x).symm)
    refine if_congr ?_ rfl (h1 x)
    dsimp only [round]
    rw [hp]
    have hx := x.isLt
    have hy := (σ o ⟨k.val, by omega⟩).isLt
    constructor
    · intro e
      have := congrArg BitVec.toNat e
      simp at this
      exact Fin.ext (by omega)
    · intro e
      rw [e]
  · refine (pay6_at i k a.1 a.2.1 a.2.2 o r).trans ?_
    by_cases e : r.val = k.val
    · rw [if_pos e, hp]
      simp only [e]
    · rw [if_neg e]
      exact h2 r (by omega)

include hi hs ho ht in
theorem rounds_at (i : grid0.Coords) (x0 : Vec Ideal S1x3x8192 .f32) (x1 : Vec Ideal S1x256x3 .f32)
    (hd : ∀ o x, k0_pay1 (F := Ideal) x0 x1 (ix2 o x) = d o x) (o : Fin 256) (r : Fin 8) :
    (rounds i x0 x1).2.1 (ix2 o r) = BitVec.ofNat 32 (σ o ⟨r.val, by omega⟩).val + BitVec.ofNat 32 (i 0).val * 8192#32 := by
  have h : Kept (BitVec.ofNat 32 (i 0).val * 8192#32) d σ k0_t1_loop.trips (rounds i x0 x1) := by
    refine foldl_keeps _ (Kept (BitVec.ofNat 32 (i 0).val * 8192#32) d σ) (round i) _ (fun o => ⟨fun x => ?_, fun r hr => absurd hr (Nat.not_lt_zero _)⟩) (kept_succ hi hs ho ht i)
    refine (pay4_at _ _ o x).trans ?_
    rw [rest_zero, ← hd o x]
    refine if_neg fun e => ?_
    have := congrArg BitVec.toNat e
    have hx := x.isLt
    have e' : (k0_pay3 (ix2 o 0)).toNat = 4294967295 := rfl
    simp [e'] at this
    omega
  exact (h o).2 r (Nat.lt_of_lt_of_eq r.isLt (by decide))

end Cert.Proof.Srch
-- ==== Proof.SearchOut.lean ====
/-
  What the search leaves in its result, block by block.
-/
module

public import proofs.«01_k».proof.Proof.SearchVals
public import proofs.«01_k».proof.Proof.Pre
public import Idealize.ShloMosaic.Lib.Pipeline.ValueKit.Geometry

@[expose] public section

set_option maxRecDepth 16384

noncomputable section

namespace Cert.Proof.Srch

open Cert.SearchIdeal Cert.SearchIdeal.Gen
open Idealize.ShloMosaic Idealize.ShloMosaic.TcCoe Idealize.SL.Sem Idealize.ShloMosaic.StableHlo
open Idealize.ShloMosaic.Pipeline (Dat Cfg Window)

/-- The squared distance from query `m` to point `i` of batch `b`. -/
def dist (p : FVec Ideal S4x3x8192 .f32) (q : FVec Ideal S4x1024x3 .f32) (b : Fin 4) (m : Fin 1024) (i : Fin 8192) : EReal :=
  ∑ x, q (ix3 b m x) * q (ix3 b m x) + ∑ x, p (ix3 b x i) * p (ix3 b x i) - Ideal.ofBits FTy.f32 1073741824#32 * ∑ x, q (ix3 b m x) * p (ix3 b x i)

/-- The points of batch `b` in the order of their distance from query `m`. -/
def near (p : FVec Ideal S4x3x8192 .f32) (q : FVec Ideal S4x1024x3 .f32) (b : Fin 4) (m : Fin 1024) : Fin 8192 → Fin 8192 :=
  sortedFrom fun k k' => decide (dist p q b m k < dist p q b m k')

/-- The row number of the `r`-th nearest point. -/
def nearAt (p : FVec Ideal S4x3x8192 .f32) (q : FVec Ideal S4x1024x3 .f32) (b : Fin 4) (m : Fin 1024) (r : Fin 8) : BitVec 32 :=
  BitVec.ofNat 32 (near p q b m ⟨r.val, by omega⟩).val + BitVec.ofNat 32 b.val * 8192#32

theorem two_f32 : Ideal.ofBits FTy.f32 1073741824#32 = ((2 : ℝ) : EReal) := by
  simp [Ideal.ofBits, Ideal.ieee]
  rw [← EReal.coe_mul]
  norm_num

theorem dist_ne_top (p : FVec Ideal S4x3x8192 .f32) (q : FVec Ideal S4x1024x3 .f32) (hp : Fin32 p) (hq : Fin32 q)
    (b : Fin 4) (m : Fin 1024) (i : Fin 8192) : dist p q b m i ≠ ⊤ := by
  have ep : ∀ j, p j = ((p j).toReal : EReal) := fun j => (EReal.coe_toReal (hp j).1 (hp j).2).symm
  have eq : ∀ j, q j = ((q j).toReal : EReal) := fun j => (EReal.coe_toReal (hq j).1 (hq j).2).symm
  unfold dist
  rw [two_f32]
  simp only [Fin.sum_univ_three]
  rw [ep (ix3 b 0 i), ep (ix3 b 1 i), ep (ix3 b 2 i), eq (ix3 b m 0), eq (ix3 b m 1), eq (ix3 b m 2)]
  simp only [← EReal.coe_mul, ← EReal.coe_add, ← EReal.coe_sub]
  exact EReal.coe_ne_top _

/-! ## The blocks -/

theorem idx_0 : ∀ t : Fin cfg0.N, win0_0.index t = ![t.val / 4, 0, 0] := by decide +kernel
theorem idx_1 : ∀ t : Fin cfg0.N, win0_1.index t = ![t.val / 4, t.val % 4, 0] := by decide +kernel
theorem idx_2 : ∀ t : Fin cfg0.N, win0_2.index t = ![t.val / 4, t.val % 4, 0] := by decide +kernel
theorem crd_0 : ∀ t : Fin cfg0.N, (grid0.coords t 0).val = t.val / 4 := by decide +kernel

theorem lt_N (t : Fin cfg0.N) : t.val < 16 := Nat.lt_of_lt_of_eq t.isLt (by decide)

/-- The batch of point `t`, -/
abbrev bt (t : Fin cfg0.N) : Fin 4 := ⟨t.val / 4, by have := lt_N t; omega⟩
/-- and the query its row `o` is. -/
abbrev qt (t : Fin cfg0.N) (o : Fin 256) : Fin 1024 := ⟨t.val % 4 * 256 + o.val, by omega⟩

section

variable (m : (ℓ : Loc nD τ sig) → Buf (Elt Ideal) ℓ) (c : Dev nD)

theorem iblk_0 (t : Fin cfg0.N) (x : Fin 3) (i : Fin 8192) :
    iblk m c 0 t (ix3 0 x i) = (m ((c.tc : Thread nD τ).loc main_arg0) : FVec Ideal S4x3x8192 .f32) (ix3 (bt t) x i) := by
  unfold iblk
  blk_ext [idx_0]

theorem iblk_1 (t : Fin cfg0.N) (o : Fin 256) (x : Fin 3) :
    iblk m c 1 t (ix3 0 o x) = (m ((c.tc : Thread nD τ).loc main_arg1) : FVec Ideal S4x1024x3 .f32) (ix3 (bt t) (qt t o) x) := by
  unfold iblk
  blk_ext [idx_1]

theorem emb_2 (t : Fin cfg0.N) (y : ((cfg0.win 2).xblock (cfg0.grid.coords t)).Idx) :
    ((cfg0.win 2).blk t).view.emb y = (ix3 (bt t) (qt t (y 1)) (y 2) : S4x1024x8.Idx) := by
  have y0 : (y 0).val = 0 := by have e : (y 0).val < 1 := (y 0).isLt; omega
  blk_ext [idx_2]

/-- The result. -/
theorem found (hp : Fin32 (s := S4x3x8192) (m ((c.tc : Thread nD τ).loc main_arg0))) (hq : Fin32 (s := S4x1024x3) (m ((c.tc : Thread nD τ).loc main_arg1))) :
    (dats m 0 c).arrAt 2 cfg0.N = (fun i => nearAt (m ((c.tc : Thread nD τ).loc main_arg0)) (m ((c.tc : Thread nD τ).loc main_arg1)) (i 0) (i 1) (i 2) : IVec S4x1024x8 32) := by
  refine (dats m 0 c).arrAt_eq_of_covers 2 _ (by decide +kernel) fun t hf y => ?_
  have y0 : (y 0).val = 0 := by have e : (y 0).val < 1 := (y 0).isLt; omega
  have hy : y = (ix3 0 (y 1) (y 2) : S1x256x8.Idx) := (ValueIdx.eq_ix3 (n0 := 1) (n1 := 256) (n2 := 8) y).trans (congrArg (fun i => ix3 i (y 1) (y 2)) (Fin.ext y0))
  rw [emb_2 t y]
  refine (congrFun (after0_2 m c t) y).trans ?_
  unfold outsAt0
  rw [out_rounds]
  refine (congrArg (k0_pay7 _) hy).trans ((pay7_at _ (y 1) (y 2)).trans ?_)
  refine (rounds_at (d := fun o => dist (m ((c.tc : Thread nD τ).loc main_arg0)) (m ((c.tc : Thread nD τ).loc main_arg1)) (bt t) (qt t o))
    (σ := fun o => near (m ((c.tc : Thread nD τ).loc main_arg0)) (m ((c.tc : Thread nD τ).loc main_arg1)) (bt t) (qt t o))
    (fun o => sortedFrom_injective _) (fun o => sortedFrom_surjective _) (fun o i k h => sorted_ahead _ _ (fun _ _ => decide_eq_true_iff) i k h)
    (fun o i => dist_ne_top _ _ hp hq _ _ _) (grid0.coords t) (iblk m c 0 t) (iblk m c 1 t) (fun o x => ?_) (y 1) (y 2)).trans ?_
  · refine (pay1_at _ _ o x).trans ?_
    simp only [iblk_0, iblk_1]
    rfl
  · rw [crd_0]
    rfl

end

end Cert.Proof.Srch
-- ==== Proof.SearchRef.lean ====
/-
  What the search's reference leaves.
-/
module

public import proofs.«01_k».proof.Proof.SearchOut

@[expose] public section

set_option maxRecDepth 16384

noncomputable section

namespace Cert.Proof.Srch

open Cert.SearchReferenceIdeal
open Idealize.ShloMosaic Idealize.ShloMosaic.TcCoe Idealize.SL.Sem Idealize.ShloMosaic.StableHlo

theorem gt_iff (x y : EReal) : (FloatOps.cmpfTotal (F := Ideal) (φ := .f32) .gt x y == 1#1) = decide (y < x) := by
  show (BitVec.ofBool (decide (y < x)) == 1#1) = _
  cases decide (y < x) <;> rfl

theorem topK_at (x : FVec Ideal S4x1024x8192 .f32) (h : S4x1024x8192.Slices (fun _ => 0) S4x1024x8) (b : Fin 4) (m : Fin 1024) (r : Fin 8) :
    (Host.topK S4x1024x8 2 (FloatOps.cmpfTotal (F := Ideal) (φ := .f32) .gt) x h).2 (ix3 b m r)
      = BitVec.ofNat 32 (sortedFrom (fun k k' : Fin 8192 => decide (x (ix3 b m k') < x (ix3 b m k))) ⟨r.val, by omega⟩).val := by
  have ha : ∀ k : Fin 8192, Shape.Idx.along (s := S4x1024x8192) (ix3 b m ⟨r.val, by omega⟩) 2 k = ix3 b m k := fun k => by
    funext a
    match a with
    | ⟨0, _⟩ => rfl
    | ⟨1, _⟩ => rfl
    | ⟨2, _⟩ => rfl
  have hj : (fun k k' : Fin 8192 => FloatOps.cmpfTotal (F := Ideal) (φ := .f32) .gt (x (Shape.Idx.along (s := S4x1024x8192) (ix3 b m ⟨r.val, by omega⟩) 2 k)) (x (Shape.Idx.along (s := S4x1024x8192) (ix3 b m ⟨r.val, by omega⟩) 2 k')) == 1#1)
      = fun k k' => decide (x (ix3 b m k') < x (ix3 b m k)) := by
    funext k k'
    rw [gt_iff, ha, ha]
  have hl : ∀ y : IVec S4x1024x8192 32, extractStridedSlice S4x1024x8 (fun _ => 0) y h (ix3 b m r) = y (ix3 b m ⟨r.val, by omega⟩) := fun y => by
    unfold extractStridedSlice
    refine congrArg y (funext fun a => ?_)
    match a with
    | ⟨0, _⟩ => exact Fin.ext (Nat.zero_add _)
    | ⟨1, _⟩ => exact Fin.ext (Nat.zero_add _)
    | ⟨2, _⟩ => exact Fin.ext (Nat.zero_add _)
  refine Eq.trans (b := extractStridedSlice S4x1024x8 (fun _ => 0) (Host.sort2 S4x1024x8192 2 (fun l r => FloatOps.cmpfTotal (F := Ideal) (φ := .f32) .gt l.1 r.1) x
    (fun i => if hd : 2 < S4x1024x8192.rank then iotaInDim S4x1024x8192 32 ⟨2, hd⟩ i else 0#32 : IVec S4x1024x8192 32)).2 h (ix3 b m r)) rfl ?_
  refine (hl _).trans ?_
  show BitVec.ofNat 32 (Shape.Idx.along (s := S4x1024x8192) (ix3 b m ⟨r.val, by omega⟩) 2 (sortedFrom (n := 8192) (fun k k' : Fin 8192 => FloatOps.cmpfTotal (F := Ideal) (φ := .f32) .gt (x (Shape.Idx.along (s := S4x1024x8192) (ix3 b m ⟨r.val, by omega⟩) 2 k)) (x (Shape.Idx.along (s := S4x1024x8192) (ix3 b m ⟨r.val, by omega⟩) 2 k')) == 1#1) (⟨r.val, by omega⟩ : Fin 8192)) 2).val = _
  rw [hj, ha]
  rfl

theorem neg_lt (x y : EReal) : -y < -x ↔ x < y := EReal.neg_lt_neg_iff

open Cert.SearchReferenceIdeal.Gen in
theorem ref_at (p : FVec Ideal S4x3x8192 .f32) (q : FVec Ideal S4x1024x3 .f32) (b : Fin 4) (m : Fin 1024) (r : Fin 8) :
    addi ((Host.topK S4x1024x8 2 (FloatOps.cmpfTotal .gt) (Host.negf (subf (addf (broadcastInDim S4x1024x8192 ![0, 1, 2] bcast_S4x1024x1_S4x1024x8192_0_1_2 (broadcastInDim S4x1024x1 ![0, 1] bcast_S4x1024_S4x1024x1_0_1 (Host.reduceAdd (mulf q q) (constant S_ .f32 0x00000000#32) reducesTo_S4x1024x3_S4x1024_d2 h_S_))) (broadcastInDim S4x1024x8192 ![0, 1, 2] bcast_S4x1x8192_S4x1024x8192_0_1_2 (broadcastInDim S4x1x8192 ![0, 2] bcast_S4x8192_S4x1x8192_0_2 (Host.reduceAdd (mulf (transpose S4x8192x3 [0, 2, 1] p transposes_S4x3x8192_S4x8192x3_0_2_1) (transpose S4x8192x3 [0, 2, 1] p transposes_S4x3x8192_S4x8192x3_0_2_1)) (constant S_ .f32 0x00000000#32) reducesTo_S4x8192x3_S4x8192_d2 h_S_)))) (mulf (broadcastInDim S4x1024x8192 ![] bcast_S_S4x1024x8192 (constant S_ .f32 0x40000000#32)) (Host.dotGeneral dot_S4x1024x3_S4x8192x3_S4x1024x8192_2_2_1_1_0_0 none q (transpose S4x8192x3 [0, 2, 1] p transposes_S4x3x8192_S4x8192x3_0_2_1))))) sliceFits_S4x1024x8192_S4x1024x8).2) (broadcastInDim S4x1024x8 ![0, 1, 2] bcast_S4x1x1_S4x1024x8_0_1_2 (muli (broadcastInDim S4x1x1 ![] bcast_S_S4x1x1 (constantI S_ 32 8192#32)) (broadcastInDim S4x1x1 ![0] bcast_S4_S4x1x1_0 (iotaInDim S4 32 0)))) (ix3 b m r)
      = nearAt p q b m r := by
  have hd : ∀ i, (Host.negf (subf (addf (broadcastInDim S4x1024x8192 ![0, 1, 2] bcast_S4x1024x1_S4x1024x8192_0_1_2 (broadcastInDim S4x1024x1 ![0, 1] bcast_S4x1024_S4x1024x1_0_1 (Host.reduceAdd (mulf q q) (constant S_ .f32 0x00000000#32) reducesTo_S4x1024x3_S4x1024_d2 h_S_))) (broadcastInDim S4x1024x8192 ![0, 1, 2] bcast_S4x1x8192_S4x1024x8192_0_1_2 (broadcastInDim S4x1x8192 ![0, 2] bcast_S4x8192_S4x1x8192_0_2 (Host.reduceAdd (mulf (transpose S4x8192x3 [0, 2, 1] p transposes_S4x3x8192_S4x8192x3_0_2_1) (transpose S4x8192x3 [0, 2, 1] p transposes_S4x3x8192_S4x8192x3_0_2_1)) (constant S_ .f32 0x00000000#32) reducesTo_S4x8192x3_S4x8192_d2 h_S_)))) (mulf (broadcastInDim S4x1024x8192 ![] bcast_S_S4x1024x8192 (constant S_ .f32 0x40000000#32)) (Host.dotGeneral dot_S4x1024x3_S4x8192x3_S4x1024x8192_2_2_1_1_0_0 none q (transpose S4x8192x3 [0, 2, 1] p transposes_S4x3x8192_S4x8192x3_0_2_1)))) : FVec Ideal S4x1024x8192 .f32) (ix3 b m i) = -dist p q b m i := by
    intro i
    unfold dist
    pointwise
  have hs : ∀ (x : FVec Ideal S4x1024x8192 .f32), (∀ i, x (ix3 b m i) = -dist p q b m i) →
      (Host.topK S4x1024x8 2 (FloatOps.cmpfTotal (F := Ideal) (φ := .f32) .gt) x sliceFits_S4x1024x8192_S4x1024x8).2 (ix3 b m r) = BitVec.ofNat 32 (near p q b m ⟨r.val, by omega⟩).val := by
    intro x hx
    rw [topK_at]
    unfold near
    simp only [hx, neg_lt]
  have hm : ∀ y : IVec S4x1024x8 32, addi y (broadcastInDim S4x1024x8 ![0, 1, 2] bcast_S4x1x1_S4x1024x8_0_1_2 (muli (broadcastInDim S4x1x1 ![] bcast_S_S4x1x1 (constantI S_ 32 8192#32)) (broadcastInDim S4x1x1 ![0] bcast_S4_S4x1x1_0 (iotaInDim S4 32 0)))) (ix3 b m r) = y (ix3 b m r) + BitVec.ofNat 32 b.val * 8192#32 := by
    intro y
    pointwise
    exact congrArg (y (ix3 b m r) + ·) (BitVec.mul_comm _ _)
  exact (hm _).trans (congrArg (· + BitVec.ofNat 32 b.val * 8192#32) (hs _ hd))

end Cert.Proof.Srch
-- ==== Proof.SearchClaim.lean ====
/-
  The search: its frames, and that its result is its reference's.
-/
module

public import proofs.«01_k».proof.Proof.SearchRef

@[expose] public section

noncomputable section

namespace Cert.Proof.Srch

open Idealize.ShloMosaic Idealize.ShloMosaic.TcCoe Idealize.SL.Sem Idealize.ShloMosaic.StableHlo

/-! ## Frames -/

/-- The search runs and leaves its arguments as they were and every counter at zero. -/
theorem frame_search : Cert.quiescent_Search := fun m ρ _ => Cert.Search.Gen.frame m ρ

/-- So does its idealization, -/
theorem frame_searchIdeal : Cert.quiescent_SearchIdeal := fun m ρ _ => Cert.SearchIdeal.Gen.frame m ρ

/-- and under the precondition. -/
theorem frame_searchIdeal_finite : Cert.quiescent_SearchIdeal_pre_points_finite := fun m ρ _ => Cert.SearchIdeal.Gen.frame m ρ

/-- The reference at the ideal instance runs and leaves its arguments as they were; it has no counters. -/
theorem frame_searchReference : Cert.quiescent_SearchReferenceIdeal := fun m ρ _ =>
  (θ_run Cert.SearchReferenceIdeal.defs _ _).mono (fun _ h => ⟨fun c => (h c).2, sem_eq_zero_of_no_sems rfl _⟩) (Cert.SearchReferenceIdeal.Value.run (F := Ideal) m ρ)

/-- The same under the precondition. -/
theorem frame_searchReference_finite : Cert.quiescent_SearchReferenceIdeal_pre_points_finite := fun m ρ _ => frame_searchReference m ρ trivial

/-! ## The precondition -/

section

open Cert.Pre_points_finite Cert.Pre_points_finite.Gen

theorem finite_points {a0 : FVec Ideal S4x3x8192 .f32} {a1 : FVec Ideal S4x1024x3 .f32} (h : fn (F := Ideal) a0 a1 = fun _ => 1#1) : Fin32 a0 ∧ Fin32 a1 := by
  have e := congrFun h ValueIdx.ix0
  unfold fn at e
  dsimp only at e
  obtain ⟨e0, e1⟩ := IntOp.andi_eq_one.1 e
  exact ⟨finite_of _ _ _ _ _ _ e0, finite_of _ _ _ _ _ _ e1⟩

end

/-! ## The result -/

/-- At the ideal instance the search's result is the reference's. -/
theorem algebraic : Cert.algebraic_SearchIdeal_SearchReferenceIdeal_pre_points_finite := by
  intro m g m' g' hp ha
  refine ⟨fun c => (fun i => nearAt (m ((c.tc : Thread Cert.SearchIdeal.nD Cert.SearchIdeal.τ).loc Cert.SearchIdeal.main_arg0)) (m ((c.tc : Thread Cert.SearchIdeal.nD Cert.SearchIdeal.τ).loc Cert.SearchIdeal.main_arg1)) (i 0) (i 1) (i 2) : IVec Cert.SearchIdeal.S4x1024x8 32),
    (θ_run Cert.SearchIdeal.defs _ _).mono (fun _ h c => ⟨(((h.1 c).1 2).trans ?_), h.2 c⟩) (θ_run_and (Cert.SearchIdeal.Gen.run_main (F := Ideal) m g) (Cert.SearchIdeal.Gen.unchanged (F := Ideal) m g)),
    (θ_run Cert.SearchReferenceIdeal.defs _ _).mono (fun _ h c => ⟨(h c).1.trans ?_, (h c).2⟩) (Cert.SearchReferenceIdeal.Value.run (F := Ideal) m' g')⟩
  · exact found m c (finite_points (hp c)).1 (finite_points (hp c)).2
  · obtain ⟨e0, e1⟩ := ha c
    rw [e0, e1]
    funext i
    refine Eq.trans ?_ (ref_at (m ((c.tc : Thread Cert.SearchIdeal.nD Cert.SearchIdeal.τ).loc Cert.SearchIdeal.main_arg0)) (m ((c.tc : Thread Cert.SearchIdeal.nD Cert.SearchIdeal.τ).loc Cert.SearchIdeal.main_arg1)) (i 0) (i 1) (i 2))
    exact congrArg _ (ValueIdx.eq_ix3 (n0 := 4) (n1 := 1024) (n2 := 8) i)

end Cert.Proof.Srch
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Gen.Pre_in_range_finite
public import proofs.«01_k».proof.Proof.Gen.Search
public import proofs.«01_k».proof.Proof.Gen.Search.Frame
public import proofs.«01_k».proof.Proof.Gen.SearchIdeal
public import proofs.«01_k».proof.Proof.Gen.SearchIdeal.Frame
public import proofs.«01_k».proof.Proof.Gen.SearchReferenceIdeal
public import proofs.«01_k».proof.Proof.Gen.SearchReferenceIdeal.Run
public import proofs.«01_k».proof.Proof.Gen.Pre_points_finite
public import proofs.«01_k».proof.Proof.Final
public import proofs.«01_k».proof.Proof.SearchClaim

@[expose] public section

noncomputable section

namespace Cert.Proof

open Idealize.ShloMosaic Idealize.SL.Sem

/-- Every claim on the two programs: the kernel after its neighbour search, and the search. -/
theorem claim : Cert.Claim :=
  ⟨Cert.Kernel.Gen.facts, Cert.KernelIdeal.Gen.facts, Cert.ReferenceIdeal.Gen.facts, Cert.Search.Gen.facts, Cert.SearchIdeal.Gen.facts,
    Cert.SearchReferenceIdeal.Gen.facts, Cert.Pre_in_range.Gen.facts, Cert.Pre_in_range_finite.Gen.facts, Cert.Pre_points_finite.Gen.facts,
    frame_kernel, frame_kernelIdeal, frame_kernelIdeal_finite, frame_referenceIdeal, frame_referenceIdeal_finite,
    Srch.frame_search, Srch.frame_searchIdeal, Srch.frame_searchIdeal_finite, Srch.frame_searchReference, Srch.frame_searchReference_finite,
    trivial, algebraic, trivial, Srch.algebraic⟩

end Cert.Proof

end
